-- ==== Defs.lean ====
def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mix_in [hPre_finite_mix_in : Cert.Pre_finite_mix_in.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mix_in.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mix_in [hPre_finite_mix_in : Cert.Pre_finite_mix_in.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mix_in.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))) = (fun _ => 1#1)

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2Ideal_finite_ffn2 [hPre_finite_ffn2 : Cert.Pre_finite_ffn2.Facts] (m : (ℓ : Loc Cert.Ffn2Ideal.nD Cert.Ffn2Ideal.τ Cert.Ffn2Ideal.sig) → Buf (Elt Ideal) ℓ) : Prop :=
  ∀ c : Dev Cert.Ffn2Ideal.nD,
    (Cert.Pre_finite_ffn2.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)) (m ((c.tc : Thread Cert.Ffn2Ideal.nD Cert.Ffn2Ideal.τ).loc Cert.Ffn2Ideal.main_arg6))) = (fun _ => 1#1)

def Pre_Ffn2RefIdeal (m : (ℓ : Loc Cert.Ffn2RefIdeal.nD Cert.Ffn2RefIdeal.τ Cert.Ffn2RefIdeal.sig) → Buf (Elt Ideal) ℓ) : Prop :=
  True

def Pre_Ffn2RefIdeal_finite_ffn2 [hPre_finite_ffn2 : Cert.Pre_finite_ffn2.Facts] (m : (ℓ : Loc Cert.Ffn2RefIdeal.nD Cert.Ffn2RefIdeal.τ Cert.Ffn2RefIdeal.sig) → Buf (Elt Ideal) ℓ) : Prop :=
  ∀ c : Dev Cert.Ffn2RefIdeal.nD,
    (Cert.Pre_finite_ffn2.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5)) (m ((c.tc : Thread Cert.Ffn2RefIdeal.nD Cert.Ffn2RefIdeal.τ).loc Cert.Ffn2RefIdeal.main_arg6))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))) = (fun _ => 1#1)

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn_bwd [hPre_finite_ffn_bwd : Cert.Pre_finite_ffn_bwd.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn_bwd [hPre_finite_ffn_bwd : Cert.Pre_finite_ffn_bwd.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutFwd (m : (ℓ : Loc Cert.MixOutFwd.nD Cert.MixOutFwd.τ Cert.MixOutFwd.sig) → Buf (Elt Bits) ℓ) : Prop :=
  True

def Pre_MixOutFwdIdeal (m : (ℓ : Loc Cert.MixOutFwdIdeal.nD Cert.MixOutFwdIdeal.τ Cert.MixOutFwdIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def Pre_AddCast [hPre_core_of_two : Cert.Pre_core_of_two.Facts] (m : (ℓ : Loc Cert.AddCast.nD Cert.AddCast.τ Cert.AddCast.sig) → Buf (Elt Bits) ℓ) : Prop :=
  ∀ c : Dev Cert.AddCast.nD,
    (Cert.Pre_core_of_two.fn (F := Bits) (m ((c.tc : Thread Cert.AddCast.nD Cert.AddCast.τ).loc Cert.AddCast.main_arg0)) (m ((c.tc : Thread Cert.AddCast.nD Cert.AddCast.τ).loc Cert.AddCast.main_arg1)) (m ((c.tc : Thread Cert.AddCast.nD Cert.AddCast.τ).loc Cert.AddCast.main_arg2))) = (fun _ => 1#1)

def Pre_AddCastIdeal [hPre_core_of_two : Cert.Pre_core_of_two.Facts] (m : (ℓ : Loc Cert.AddCastIdeal.nD Cert.AddCastIdeal.τ Cert.AddCastIdeal.sig) → Buf (Elt Ideal) ℓ) : Prop :=
  ∀ c : Dev Cert.AddCastIdeal.nD,
    (Cert.Pre_core_of_two.fn (F := Ideal) (m ((c.tc : Thread Cert.AddCastIdeal.nD Cert.AddCastIdeal.τ).loc Cert.AddCastIdeal.main_arg0)) (m ((c.tc : Thread Cert.AddCastIdeal.nD Cert.AddCastIdeal.τ).loc Cert.AddCastIdeal.main_arg1)) (m ((c.tc : Thread Cert.AddCastIdeal.nD Cert.AddCastIdeal.τ).loc Cert.AddCastIdeal.main_arg2))) = (fun _ => 1#1)

def Pre_AddCastRefIdeal (m : (ℓ : Loc Cert.AddCastRefIdeal.nD Cert.AddCastRefIdeal.τ Cert.AddCastRefIdeal.sig) → Buf (Elt Ideal) ℓ) : Prop :=
  True

def Pre_AddCastRefIdeal_core_of_two [hPre_core_of_two : Cert.Pre_core_of_two.Facts] (m : (ℓ : Loc Cert.AddCastRefIdeal.nD Cert.AddCastRefIdeal.τ Cert.AddCastRefIdeal.sig) → Buf (Elt Ideal) ℓ) : Prop :=
  ∀ c : Dev Cert.AddCastRefIdeal.nD,
    (Cert.Pre_core_of_two.fn (F := Ideal) (m ((c.tc : Thread Cert.AddCastRefIdeal.nD Cert.AddCastRefIdeal.τ).loc Cert.AddCastRefIdeal.main_arg0)) (m ((c.tc : Thread Cert.AddCastRefIdeal.nD Cert.AddCastRefIdeal.τ).loc Cert.AddCastRefIdeal.main_arg1)) (m ((c.tc : Thread Cert.AddCastRefIdeal.nD Cert.AddCastRefIdeal.τ).loc Cert.AddCastRefIdeal.main_arg2))) = (fun _ => 1#1)

def Pre_SumSlots [hPre_core_and_chip : Cert.Pre_core_and_chip.Facts] (m : (ℓ : Loc Cert.SumSlots.nD Cert.SumSlots.τ Cert.SumSlots.sig) → Buf (Elt Bits) ℓ) : Prop :=
  ∀ c : Dev Cert.SumSlots.nD,
    (Cert.Pre_core_and_chip.fn (F := Bits) (m ((c.tc : Thread Cert.SumSlots.nD Cert.SumSlots.τ).loc Cert.SumSlots.main_arg0)) (m ((c.tc : Thread Cert.SumSlots.nD Cert.SumSlots.τ).loc Cert.SumSlots.main_arg1)) (m ((c.tc : Thread Cert.SumSlots.nD Cert.SumSlots.τ).loc Cert.SumSlots.main_arg2))) = (fun _ => 1#1)

def Pre_SumSlotsIdeal [hPre_core_and_chip : Cert.Pre_core_and_chip.Facts] (m : (ℓ : Loc Cert.SumSlotsIdeal.nD Cert.SumSlotsIdeal.τ Cert.SumSlotsIdeal.sig) → Buf (Elt Ideal) ℓ) : Prop :=
  ∀ c : Dev Cert.SumSlotsIdeal.nD,
    (Cert.Pre_core_and_chip.fn (F := Ideal) (m ((c.tc : Thread Cert.SumSlotsIdeal.nD Cert.SumSlotsIdeal.τ).loc Cert.SumSlotsIdeal.main_arg0)) (m ((c.tc : Thread Cert.SumSlotsIdeal.nD Cert.SumSlotsIdeal.τ).loc Cert.SumSlotsIdeal.main_arg1)) (m ((c.tc : Thread Cert.SumSlotsIdeal.nD Cert.SumSlotsIdeal.τ).loc Cert.SumSlotsIdeal.main_arg2))) = (fun _ => 1#1)

def Pre_SumSlotsRefIdeal (m : (ℓ : Loc Cert.SumSlotsRefIdeal.nD Cert.SumSlotsRefIdeal.τ Cert.SumSlotsRefIdeal.sig) → Buf (Elt Ideal) ℓ) : Prop :=
  True

def Pre_SumSlotsRefIdeal_core_and_chip [hPre_core_and_chip : Cert.Pre_core_and_chip.Facts] (m : (ℓ : Loc Cert.SumSlotsRefIdeal.nD Cert.SumSlotsRefIdeal.τ Cert.SumSlotsRefIdeal.sig) → Buf (Elt Ideal) ℓ) : Prop :=
  ∀ c : Dev Cert.SumSlotsRefIdeal.nD,
    (Cert.Pre_core_and_chip.fn (F := Ideal) (m ((c.tc : Thread Cert.SumSlotsRefIdeal.nD Cert.SumSlotsRefIdeal.τ).loc Cert.SumSlotsRefIdeal.main_arg0)) (m ((c.tc : Thread Cert.SumSlotsRefIdeal.nD Cert.SumSlotsRefIdeal.τ).loc Cert.SumSlotsRefIdeal.main_arg1)) (m ((c.tc : Thread Cert.SumSlotsRefIdeal.nD Cert.SumSlotsRefIdeal.τ).loc Cert.SumSlotsRefIdeal.main_arg2))) = (fun _ => 1#1)

def Pre_PlaceCast [hPre_chip_of_four : Cert.Pre_chip_of_four.Facts] (m : (ℓ : Loc Cert.PlaceCast.nD Cert.PlaceCast.τ Cert.PlaceCast.sig) → Buf (Elt Bits) ℓ) : Prop :=
  ∀ c : Dev Cert.PlaceCast.nD,
    (Cert.Pre_chip_of_four.fn (F := Bits) (m ((c.tc : Thread Cert.PlaceCast.nD Cert.PlaceCast.τ).loc Cert.PlaceCast.main_arg0)) (m ((c.tc : Thread Cert.PlaceCast.nD Cert.PlaceCast.τ).loc Cert.PlaceCast.main_arg1)) (m ((c.tc : Thread Cert.PlaceCast.nD Cert.PlaceCast.τ).loc Cert.PlaceCast.main_arg2)) (m ((c.tc : Thread Cert.PlaceCast.nD Cert.PlaceCast.τ).loc Cert.PlaceCast.main_arg3))) = (fun _ => 1#1)

def Pre_PlaceCastIdeal [hPre_chip_of_four : Cert.Pre_chip_of_four.Facts] (m : (ℓ : Loc Cert.PlaceCastIdeal.nD Cert.PlaceCastIdeal.τ Cert.PlaceCastIdeal.sig) → Buf (Elt Ideal) ℓ) : Prop :=
  ∀ c : Dev Cert.PlaceCastIdeal.nD,
    (Cert.Pre_chip_of_four.fn (F := Ideal) (m ((c.tc : Thread Cert.PlaceCastIdeal.nD Cert.PlaceCastIdeal.τ).loc Cert.PlaceCastIdeal.main_arg0)) (m ((c.tc : Thread Cert.PlaceCastIdeal.nD Cert.PlaceCastIdeal.τ).loc Cert.PlaceCastIdeal.main_arg1)) (m ((c.tc : Thread Cert.PlaceCastIdeal.nD Cert.PlaceCastIdeal.τ).loc Cert.PlaceCastIdeal.main_arg2)) (m ((c.tc : Thread Cert.PlaceCastIdeal.nD Cert.PlaceCastIdeal.τ).loc Cert.PlaceCastIdeal.main_arg3))) = (fun _ => 1#1)

def Pre_PlaceCastRefIdeal (m : (ℓ : Loc Cert.PlaceCastRefIdeal.nD Cert.PlaceCastRefIdeal.τ Cert.PlaceCastRefIdeal.sig) → Buf (Elt Ideal) ℓ) : Prop :=
  True

def Pre_PlaceCastRefIdeal_chip_of_four [hPre_chip_of_four : Cert.Pre_chip_of_four.Facts] (m : (ℓ : Loc Cert.PlaceCastRefIdeal.nD Cert.PlaceCastRefIdeal.τ Cert.PlaceCastRefIdeal.sig) → Buf (Elt Ideal) ℓ) : Prop :=
  ∀ c : Dev Cert.PlaceCastRefIdeal.nD,
    (Cert.Pre_chip_of_four.fn (F := Ideal) (m ((c.tc : Thread Cert.PlaceCastRefIdeal.nD Cert.PlaceCastRefIdeal.τ).loc Cert.PlaceCastRefIdeal.main_arg0)) (m ((c.tc : Thread Cert.PlaceCastRefIdeal.nD Cert.PlaceCastRefIdeal.τ).loc Cert.PlaceCastRefIdeal.main_arg1)) (m ((c.tc : Thread Cert.PlaceCastRefIdeal.nD Cert.PlaceCastRefIdeal.τ).loc Cert.PlaceCastRefIdeal.main_arg2)) (m ((c.tc : Thread Cert.PlaceCastRefIdeal.nD Cert.PlaceCastRefIdeal.τ).loc Cert.PlaceCastRefIdeal.main_arg3))) = (fun _ => 1#1)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_finite_mix_in [hMixInIdeal : Cert.MixInIdeal.Facts] [hPre_finite_mix_in : Cert.Pre_finite_mix_in.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mix_in m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_finite_mix_in [hMixInRefIdeal : Cert.MixInRefIdeal.Facts] [hPre_finite_mix_in : Cert.Pre_finite_mix_in.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mix_in m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2Ideal_pre_finite_ffn2 [hFfn2Ideal : Cert.Ffn2Ideal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal_finite_ffn2 m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_Ffn2RefIdeal_pre_finite_ffn2 [hFfn2RefIdeal : Cert.Ffn2RefIdeal.Facts] [hPre_finite_ffn2 : Cert.Pre_finite_ffn2.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal_finite_ffn2 m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn_bwd [hFfnBwdIdeal : Cert.FfnBwdIdeal.Facts] [hPre_finite_ffn_bwd : Cert.Pre_finite_ffn_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn_bwd m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn_bwd [hFfnBwdRefIdeal : Cert.FfnBwdRefIdeal.Facts] [hPre_finite_ffn_bwd : Cert.Pre_finite_ffn_bwd.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn_bwd m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MixOutFwd [hMixOutFwd : Cert.MixOutFwd.Facts] : Prop :=
  ∀ (m : (ℓ : Loc Cert.MixOutFwd.nD Cert.MixOutFwd.τ Cert.MixOutFwd.sig) → Buf (Elt Bits) ℓ) (g : Dev Cert.MixOutFwd.nD → PrngReg), Pre_MixOutFwd m →
    θ_run (Cert.MixOutFwd.defs (F := Bits)) (onTc (τ := Cert.MixOutFwd.τ) (Cert.MixOutFwd.main (F := Bits))) ⟨m, fun _ => 0, g⟩ (fun r => (∀ c : Dev Cert.MixOutFwd.nD,
      r.2.mem ((c.tc : Thread Cert.MixOutFwd.nD Cert.MixOutFwd.τ).loc Cert.MixOutFwd.main_arg0) = m ((c.tc : Thread Cert.MixOutFwd.nD Cert.MixOutFwd.τ).loc Cert.MixOutFwd.main_arg0)
      ∧ r.2.mem ((c.tc : Thread Cert.MixOutFwd.nD Cert.MixOutFwd.τ).loc Cert.MixOutFwd.main_arg1) = m ((c.tc : Thread Cert.MixOutFwd.nD Cert.MixOutFwd.τ).loc Cert.MixOutFwd.main_arg1)
      ∧ r.2.mem ((c.tc : Thread Cert.MixOutFwd.nD Cert.MixOutFwd.τ).loc Cert.MixOutFwd.main_arg2) = m ((c.tc : Thread Cert.MixOutFwd.nD Cert.MixOutFwd.τ).loc Cert.MixOutFwd.main_arg2)
      ∧ r.2.mem ((c.tc : Thread Cert.MixOutFwd.nD Cert.MixOutFwd.τ).loc Cert.MixOutFwd.main_arg3) = m ((c.tc : Thread Cert.MixOutFwd.nD Cert.MixOutFwd.τ).loc Cert.MixOutFwd.main_arg3))
      ∧ r.2.sem = fun _ => 0)

def quiescent_MixOutFwdIdeal [hMixOutFwdIdeal : Cert.MixOutFwdIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg), Pre_MixOutFwdIdeal m →
    θ_run (Cert.MixOutFwdIdeal.defs (F := Ideal)) (onTc (τ := Cert.MixOutFwdIdeal.τ) (Cert.MixOutFwdIdeal.main (F := Ideal))) ⟨m, fun _ => 0, g⟩ (fun r => (∀ c : Dev Cert.MixOutFwdIdeal.nD,
      r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
      ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
      ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
      ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0)
      ∧ r.2.mem ((c.tc : Thread Cert.SumDev.nD Cert.SumDev.τ).loc Cert.SumDev.main_arg1) = m ((c.tc : Thread Cert.SumDev.nD Cert.SumDev.τ).loc Cert.SumDev.main_arg1)
      ∧ r.2.mem ((c.tc : Thread Cert.SumDev.nD Cert.SumDev.τ).loc Cert.SumDev.main_arg2) = m ((c.tc : Thread Cert.SumDev.nD Cert.SumDev.τ).loc Cert.SumDev.main_arg2))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
      ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
      ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0)
      ∧ r.2.mem ((c.tc : Thread Cert.SumDevRefIdeal.nD Cert.SumDevRefIdeal.τ).loc Cert.SumDevRefIdeal.main_arg1) = m ((c.tc : Thread Cert.SumDevRefIdeal.nD Cert.SumDevRefIdeal.τ).loc Cert.SumDevRefIdeal.main_arg1)
      ∧ r.2.mem ((c.tc : Thread Cert.SumDevRefIdeal.nD Cert.SumDevRefIdeal.τ).loc Cert.SumDevRefIdeal.main_arg2) = m ((c.tc : Thread Cert.SumDevRefIdeal.nD Cert.SumDevRefIdeal.τ).loc Cert.SumDevRefIdeal.main_arg2))
      ∧ r.2.sem = fun _ => 0)

def quiescent_AddCast [hAddCast : Cert.AddCast.Facts] [hPre_core_of_two : Cert.Pre_core_of_two.Facts] : Prop :=
  ∀ (m : (ℓ : Loc Cert.AddCast.nD Cert.AddCast.τ Cert.AddCast.sig) → Buf (Elt Bits) ℓ) (g : Dev Cert.AddCast.nD → PrngReg), Pre_AddCast m →
    θ_run (Cert.AddCast.defs (F := Bits)) (onTc (τ := Cert.AddCast.τ) (Cert.AddCast.main (F := Bits))) ⟨m, fun _ => 0, g⟩ (fun r => (∀ c : Dev Cert.AddCast.nD,
      r.2.mem ((c.tc : Thread Cert.AddCast.nD Cert.AddCast.τ).loc Cert.AddCast.main_arg0) = m ((c.tc : Thread Cert.AddCast.nD Cert.AddCast.τ).loc Cert.AddCast.main_arg0)
      ∧ r.2.mem ((c.tc : Thread Cert.AddCast.nD Cert.AddCast.τ).loc Cert.AddCast.main_arg1) = m ((c.tc : Thread Cert.AddCast.nD Cert.AddCast.τ).loc Cert.AddCast.main_arg1)
      ∧ r.2.mem ((c.tc : Thread Cert.AddCast.nD Cert.AddCast.τ).loc Cert.AddCast.main_arg2) = m ((c.tc : Thread Cert.AddCast.nD Cert.AddCast.τ).loc Cert.AddCast.main_arg2))
      ∧ r.2.sem = fun _ => 0)

def quiescent_AddCastIdeal [hAddCastIdeal : Cert.AddCastIdeal.Facts] [hPre_core_of_two : Cert.Pre_core_of_two.Facts] : Prop :=
  ∀ (m : (ℓ : Loc Cert.AddCastIdeal.nD Cert.AddCastIdeal.τ Cert.AddCastIdeal.sig) → Buf (Elt Ideal) ℓ) (g : Dev Cert.AddCastIdeal.nD → PrngReg), Pre_AddCastIdeal m →
    θ_run (Cert.AddCastIdeal.defs (F := Ideal)) (onTc (τ := Cert.AddCastIdeal.τ) (Cert.AddCastIdeal.main (F := Ideal))) ⟨m, fun _ => 0, g⟩ (fun r => (∀ c : Dev Cert.AddCastIdeal.nD,
      r.2.mem ((c.tc : Thread Cert.AddCastIdeal.nD Cert.AddCastIdeal.τ).loc Cert.AddCastIdeal.main_arg0) = m ((c.tc : Thread Cert.AddCastIdeal.nD Cert.AddCastIdeal.τ).loc Cert.AddCastIdeal.main_arg0)
      ∧ r.2.mem ((c.tc : Thread Cert.AddCastIdeal.nD Cert.AddCastIdeal.τ).loc Cert.AddCastIdeal.main_arg1) = m ((c.tc : Thread Cert.AddCastIdeal.nD Cert.AddCastIdeal.τ).loc Cert.AddCastIdeal.main_arg1)
      ∧ r.2.mem ((c.tc : Thread Cert.AddCastIdeal.nD Cert.AddCastIdeal.τ).loc Cert.AddCastIdeal.main_arg2) = m ((c.tc : Thread Cert.AddCastIdeal.nD Cert.AddCastIdeal.τ).loc Cert.AddCastIdeal.main_arg2))
      ∧ r.2.sem = fun _ => 0)

def quiescent_AddCastRefIdeal [hAddCastRefIdeal : Cert.AddCastRefIdeal.Facts] : Prop :=
  ∀ (m : (ℓ : Loc Cert.AddCastRefIdeal.nD Cert.AddCastRefIdeal.τ Cert.AddCastRefIdeal.sig) → Buf (Elt Ideal) ℓ) (g : Dev Cert.AddCastRefIdeal.nD → PrngReg), Pre_AddCastRefIdeal m →
    θ_run (Cert.AddCastRefIdeal.defs (F := Ideal)) (onTc (τ := Cert.AddCastRefIdeal.τ) (Cert.AddCastRefIdeal.main (F := Ideal))) ⟨m, fun _ => 0, g⟩ (fun r => (∀ c : Dev Cert.AddCastRefIdeal.nD,
      r.2.mem ((c.tc : Thread Cert.AddCastRefIdeal.nD Cert.AddCastRefIdeal.τ).loc Cert.AddCastRefIdeal.main_arg0) = m ((c.tc : Thread Cert.AddCastRefIdeal.nD Cert.AddCastRefIdeal.τ).loc Cert.AddCastRefIdeal.main_arg0)
      ∧ r.2.mem ((c.tc : Thread Cert.AddCastRefIdeal.nD Cert.AddCastRefIdeal.τ).loc Cert.AddCastRefIdeal.main_arg1) = m ((c.tc : Thread Cert.AddCastRefIdeal.nD Cert.AddCastRefIdeal.τ).loc Cert.AddCastRefIdeal.main_arg1)
      ∧ r.2.mem ((c.tc : Thread Cert.AddCastRefIdeal.nD Cert.AddCastRefIdeal.τ).loc Cert.AddCastRefIdeal.main_arg2) = m ((c.tc : Thread Cert.AddCastRefIdeal.nD Cert.AddCastRefIdeal.τ).loc Cert.AddCastRefIdeal.main_arg2))
      ∧ r.2.sem = fun _ => 0)

def quiescent_AddCastRefIdeal_pre_core_of_two [hAddCastRefIdeal : Cert.AddCastRefIdeal.Facts] [hPre_core_of_two : Cert.Pre_core_of_two.Facts] : Prop :=
  ∀ (m : (ℓ : Loc Cert.AddCastRefIdeal.nD Cert.AddCastRefIdeal.τ Cert.AddCastRefIdeal.sig) → Buf (Elt Ideal) ℓ) (g : Dev Cert.AddCastRefIdeal.nD → PrngReg), Pre_AddCastRefIdeal_core_of_two m →
    θ_run (Cert.AddCastRefIdeal.defs (F := Ideal)) (onTc (τ := Cert.AddCastRefIdeal.τ) (Cert.AddCastRefIdeal.main (F := Ideal))) ⟨m, fun _ => 0, g⟩ (fun r => (∀ c : Dev Cert.AddCastRefIdeal.nD,
      r.2.mem ((c.tc : Thread Cert.AddCastRefIdeal.nD Cert.AddCastRefIdeal.τ).loc Cert.AddCastRefIdeal.main_arg0) = m ((c.tc : Thread Cert.AddCastRefIdeal.nD Cert.AddCastRefIdeal.τ).loc Cert.AddCastRefIdeal.main_arg0)
      ∧ r.2.mem ((c.tc : Thread Cert.AddCastRefIdeal.nD Cert.AddCastRefIdeal.τ).loc Cert.AddCastRefIdeal.main_arg1) = m ((c.tc : Thread Cert.AddCastRefIdeal.nD Cert.AddCastRefIdeal.τ).loc Cert.AddCastRefIdeal.main_arg1)
      ∧ r.2.mem ((c.tc : Thread Cert.AddCastRefIdeal.nD Cert.AddCastRefIdeal.τ).loc Cert.AddCastRefIdeal.main_arg2) = m ((c.tc : Thread Cert.AddCastRefIdeal.nD Cert.AddCastRefIdeal.τ).loc Cert.AddCastRefIdeal.main_arg2))
      ∧ r.2.sem = fun _ => 0)

def quiescent_SumSlots [hSumSlots : Cert.SumSlots.Facts] [hPre_core_and_chip : Cert.Pre_core_and_chip.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0)
      ∧ r.2.mem ((c.tc : Thread Cert.SumSlots.nD Cert.SumSlots.τ).loc Cert.SumSlots.main_arg1) = m ((c.tc : Thread Cert.SumSlots.nD Cert.SumSlots.τ).loc Cert.SumSlots.main_arg1)
      ∧ r.2.mem ((c.tc : Thread Cert.SumSlots.nD Cert.SumSlots.τ).loc Cert.SumSlots.main_arg2) = m ((c.tc : Thread Cert.SumSlots.nD Cert.SumSlots.τ).loc Cert.SumSlots.main_arg2))
      ∧ r.2.sem = fun _ => 0)

def quiescent_SumSlotsIdeal [hSumSlotsIdeal : Cert.SumSlotsIdeal.Facts] [hPre_core_and_chip : Cert.Pre_core_and_chip.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0)
      ∧ r.2.mem ((c.tc : Thread Cert.SumSlotsIdeal.nD Cert.SumSlotsIdeal.τ).loc Cert.SumSlotsIdeal.main_arg1) = m ((c.tc : Thread Cert.SumSlotsIdeal.nD Cert.SumSlotsIdeal.τ).loc Cert.SumSlotsIdeal.main_arg1)
      ∧ r.2.mem ((c.tc : Thread Cert.SumSlotsIdeal.nD Cert.SumSlotsIdeal.τ).loc Cert.SumSlotsIdeal.main_arg2) = m ((c.tc : Thread Cert.SumSlotsIdeal.nD Cert.SumSlotsIdeal.τ).loc Cert.SumSlotsIdeal.main_arg2))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0)
      ∧ r.2.mem ((c.tc : Thread Cert.SumSlotsRefIdeal.nD Cert.SumSlotsRefIdeal.τ).loc Cert.SumSlotsRefIdeal.main_arg1) = m ((c.tc : Thread Cert.SumSlotsRefIdeal.nD Cert.SumSlotsRefIdeal.τ).loc Cert.SumSlotsRefIdeal.main_arg1)
      ∧ r.2.mem ((c.tc : Thread Cert.SumSlotsRefIdeal.nD Cert.SumSlotsRefIdeal.τ).loc Cert.SumSlotsRefIdeal.main_arg2) = m ((c.tc : Thread Cert.SumSlotsRefIdeal.nD Cert.SumSlotsRefIdeal.τ).loc Cert.SumSlotsRefIdeal.main_arg2))
      ∧ r.2.sem = fun _ => 0)

def quiescent_SumSlotsRefIdeal_pre_core_and_chip [hSumSlotsRefIdeal : Cert.SumSlotsRefIdeal.Facts] [hPre_core_and_chip : Cert.Pre_core_and_chip.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal_core_and_chip m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0)
      ∧ r.2.mem ((c.tc : Thread Cert.SumSlotsRefIdeal.nD Cert.SumSlotsRefIdeal.τ).loc Cert.SumSlotsRefIdeal.main_arg1) = m ((c.tc : Thread Cert.SumSlotsRefIdeal.nD Cert.SumSlotsRefIdeal.τ).loc Cert.SumSlotsRefIdeal.main_arg1)
      ∧ r.2.mem ((c.tc : Thread Cert.SumSlotsRefIdeal.nD Cert.SumSlotsRefIdeal.τ).loc Cert.SumSlotsRefIdeal.main_arg2) = m ((c.tc : Thread Cert.SumSlotsRefIdeal.nD Cert.SumSlotsRefIdeal.τ).loc Cert.SumSlotsRefIdeal.main_arg2))
      ∧ r.2.sem = fun _ => 0)

def quiescent_PlaceCast [hPlaceCast : Cert.PlaceCast.Facts] [hPre_chip_of_four : Cert.Pre_chip_of_four.Facts] : Prop :=
  ∀ (m : (ℓ : Loc Cert.PlaceCast.nD Cert.PlaceCast.τ Cert.PlaceCast.sig) → Buf (Elt Bits) ℓ) (g : Dev Cert.PlaceCast.nD → PrngReg), Pre_PlaceCast m →
    θ_run (Cert.PlaceCast.defs (F := Bits)) (onTc (τ := Cert.PlaceCast.τ) (Cert.PlaceCast.main (F := Bits))) ⟨m, fun _ => 0, g⟩ (fun r => (∀ c : Dev Cert.PlaceCast.nD,
      r.2.mem ((c.tc : Thread Cert.PlaceCast.nD Cert.PlaceCast.τ).loc Cert.PlaceCast.main_arg0) = m ((c.tc : Thread Cert.PlaceCast.nD Cert.PlaceCast.τ).loc Cert.PlaceCast.main_arg0)
      ∧ r.2.mem ((c.tc : Thread Cert.PlaceCast.nD Cert.PlaceCast.τ).loc Cert.PlaceCast.main_arg1) = m ((c.tc : Thread Cert.PlaceCast.nD Cert.PlaceCast.τ).loc Cert.PlaceCast.main_arg1)
      ∧ r.2.mem ((c.tc : Thread Cert.PlaceCast.nD Cert.PlaceCast.τ).loc Cert.PlaceCast.main_arg2) = m ((c.tc : Thread Cert.PlaceCast.nD Cert.PlaceCast.τ).loc Cert.PlaceCast.main_arg2)
      ∧ r.2.mem ((c.tc : Thread Cert.PlaceCast.nD Cert.PlaceCast.τ).loc Cert.PlaceCast.main_arg3) = m ((c.tc : Thread Cert.PlaceCast.nD Cert.PlaceCast.τ).loc Cert.PlaceCast.main_arg3))
      ∧ r.2.sem = fun _ => 0)

def quiescent_PlaceCastIdeal [hPlaceCastIdeal : Cert.PlaceCastIdeal.Facts] [hPre_chip_of_four : Cert.Pre_chip_of_four.Facts] : Prop :=
  ∀ (m : (ℓ : Loc Cert.PlaceCastIdeal.nD Cert.PlaceCastIdeal.τ Cert.PlaceCastIdeal.sig) → Buf (Elt Ideal) ℓ) (g : Dev Cert.PlaceCastIdeal.nD → PrngReg), Pre_PlaceCastIdeal m →
    θ_run (Cert.PlaceCastIdeal.defs (F := Ideal)) (onTc (τ := Cert.PlaceCastIdeal.τ) (Cert.PlaceCastIdeal.main (F := Ideal))) ⟨m, fun _ => 0, g⟩ (fun r => (∀ c : Dev Cert.PlaceCastIdeal.nD,
      r.2.mem ((c.tc : Thread Cert.PlaceCastIdeal.nD Cert.PlaceCastIdeal.τ).loc Cert.PlaceCastIdeal.main_arg0) = m ((c.tc : Thread Cert.PlaceCastIdeal.nD Cert.PlaceCastIdeal.τ).loc Cert.PlaceCastIdeal.main_arg0)
      ∧ r.2.mem ((c.tc : Thread Cert.PlaceCastIdeal.nD Cert.PlaceCastIdeal.τ).loc Cert.PlaceCastIdeal.main_arg1) = m ((c.tc : Thread Cert.PlaceCastIdeal.nD Cert.PlaceCastIdeal.τ).loc Cert.PlaceCastIdeal.main_arg1)
      ∧ r.2.mem ((c.tc : Thread Cert.PlaceCastIdeal.nD Cert.PlaceCastIdeal.τ).loc Cert.PlaceCastIdeal.main_arg2) = m ((c.tc : Thread Cert.PlaceCastIdeal.nD Cert.PlaceCastIdeal.τ).loc Cert.PlaceCastIdeal.main_arg2)
      ∧ r.2.mem ((c.tc : Thread Cert.PlaceCastIdeal.nD Cert.PlaceCastIdeal.τ).loc Cert.PlaceCastIdeal.main_arg3) = m ((c.tc : Thread Cert.PlaceCastIdeal.nD Cert.PlaceCastIdeal.τ).loc Cert.PlaceCastIdeal.main_arg3))
      ∧ r.2.sem = fun _ => 0)

def quiescent_PlaceCastRefIdeal [hPlaceCastRefIdeal : Cert.PlaceCastRefIdeal.Facts] : Prop :=
  ∀ (m : (ℓ : Loc Cert.PlaceCastRefIdeal.nD Cert.PlaceCastRefIdeal.τ Cert.PlaceCastRefIdeal.sig) → Buf (Elt Ideal) ℓ) (g : Dev Cert.PlaceCastRefIdeal.nD → PrngReg), Pre_PlaceCastRefIdeal m →
    θ_run (Cert.PlaceCastRefIdeal.defs (F := Ideal)) (onTc (τ := Cert.PlaceCastRefIdeal.τ) (Cert.PlaceCastRefIdeal.main (F := Ideal))) ⟨m, fun _ => 0, g⟩ (fun r => (∀ c : Dev Cert.PlaceCastRefIdeal.nD,
      r.2.mem ((c.tc : Thread Cert.PlaceCastRefIdeal.nD Cert.PlaceCastRefIdeal.τ).loc Cert.PlaceCastRefIdeal.main_arg0) = m ((c.tc : Thread Cert.PlaceCastRefIdeal.nD Cert.PlaceCastRefIdeal.τ).loc Cert.PlaceCastRefIdeal.main_arg0)
      ∧ r.2.mem ((c.tc : Thread Cert.PlaceCastRefIdeal.nD Cert.PlaceCastRefIdeal.τ).loc Cert.PlaceCastRefIdeal.main_arg1) = m ((c.tc : Thread Cert.PlaceCastRefIdeal.nD Cert.PlaceCastRefIdeal.τ).loc Cert.PlaceCastRefIdeal.main_arg1)
      ∧ r.2.mem ((c.tc : Thread Cert.PlaceCastRefIdeal.nD Cert.PlaceCastRefIdeal.τ).loc Cert.PlaceCastRefIdeal.main_arg2) = m ((c.tc : Thread Cert.PlaceCastRefIdeal.nD Cert.PlaceCastRefIdeal.τ).loc Cert.PlaceCastRefIdeal.main_arg2)
      ∧ r.2.mem ((c.tc : Thread Cert.PlaceCastRefIdeal.nD Cert.PlaceCastRefIdeal.τ).loc Cert.PlaceCastRefIdeal.main_arg3) = m ((c.tc : Thread Cert.PlaceCastRefIdeal.nD Cert.PlaceCastRefIdeal.τ).loc Cert.PlaceCastRefIdeal.main_arg3))
      ∧ r.2.sem = fun _ => 0)

def quiescent_PlaceCastRefIdeal_pre_chip_of_four [hPlaceCastRefIdeal : Cert.PlaceCastRefIdeal.Facts] [hPre_chip_of_four : Cert.Pre_chip_of_four.Facts] : Prop :=
  ∀ (m : (ℓ : Loc Cert.PlaceCastRefIdeal.nD Cert.PlaceCastRefIdeal.τ Cert.PlaceCastRefIdeal.sig) → Buf (Elt Ideal) ℓ) (g : Dev Cert.PlaceCastRefIdeal.nD → PrngReg), Pre_PlaceCastRefIdeal_chip_of_four m →
    θ_run (Cert.PlaceCastRefIdeal.defs (F := Ideal)) (onTc (τ := Cert.PlaceCastRefIdeal.τ) (Cert.PlaceCastRefIdeal.main (F := Ideal))) ⟨m, fun _ => 0, g⟩ (fun r => (∀ c : Dev Cert.PlaceCastRefIdeal.nD,
      r.2.mem ((c.tc : Thread Cert.PlaceCastRefIdeal.nD Cert.PlaceCastRefIdeal.τ).loc Cert.PlaceCastRefIdeal.main_arg0) = m ((c.tc : Thread Cert.PlaceCastRefIdeal.nD Cert.PlaceCastRefIdeal.τ).loc Cert.PlaceCastRefIdeal.main_arg0)
      ∧ r.2.mem ((c.tc : Thread Cert.PlaceCastRefIdeal.nD Cert.PlaceCastRefIdeal.τ).loc Cert.PlaceCastRefIdeal.main_arg1) = m ((c.tc : Thread Cert.PlaceCastRefIdeal.nD Cert.PlaceCastRefIdeal.τ).loc Cert.PlaceCastRefIdeal.main_arg1)
      ∧ r.2.mem ((c.tc : Thread Cert.PlaceCastRefIdeal.nD Cert.PlaceCastRefIdeal.τ).loc Cert.PlaceCastRefIdeal.main_arg2) = m ((c.tc : Thread Cert.PlaceCastRefIdeal.nD Cert.PlaceCastRefIdeal.τ).loc Cert.PlaceCastRefIdeal.main_arg2)
      ∧ r.2.mem ((c.tc : Thread Cert.PlaceCastRefIdeal.nD Cert.PlaceCastRefIdeal.τ).loc Cert.PlaceCastRefIdeal.main_arg3) = m ((c.tc : Thread Cert.PlaceCastRefIdeal.nD Cert.PlaceCastRefIdeal.τ).loc Cert.PlaceCastRefIdeal.main_arg3))
      ∧ r.2.sem = fun _ => 0)

def preserves_MixIn_MixInIdeal : Prop :=
  True

def algebraic_MixInIdeal_MixInRefIdeal_pre_finite_mix_in [hMixInIdeal : Cert.MixInIdeal.Facts] [hMixInRefIdeal : Cert.MixInRefIdeal.Facts] [hPre_finite_mix_in : Cert.Pre_finite_mix_in.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mix_in m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v8_0)) (v1 : (c : Dev Cert.MixInIdeal.nD) → Buf (Elt Ideal) ((c.tc : Thread Cert.MixInIdeal.nD Cert.MixInIdeal.τ).loc Cert.MixInIdeal.main_v8_1)) (v2 : (c : Dev Cert.MixInIdeal.nD) → Buf (Elt Ideal) ((c.tc : Thread Cert.MixInIdeal.nD Cert.MixInIdeal.τ).loc Cert.MixInIdeal.main_v8_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v8_0) = v0 c
          ∧ r.2.mem ((c.tc : Thread Cert.MixInIdeal.nD Cert.MixInIdeal.τ).loc Cert.MixInIdeal.main_v8_1) = v1 c
          ∧ r.2.mem ((c.tc : Thread Cert.MixInIdeal.nD Cert.MixInIdeal.τ).loc Cert.MixInIdeal.main_v8_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v40) = v0 c
          ∧ r.2.mem ((c.tc : Thread Cert.MixInRefIdeal.nD Cert.MixInRefIdeal.τ).loc Cert.MixInRefIdeal.main_v42) = v1 c
          ∧ r.2.mem ((c.tc : Thread Cert.MixInRefIdeal.nD Cert.MixInRefIdeal.τ).loc Cert.MixInRefIdeal.main_v43) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_Ffn2_Ffn2Ideal : Prop :=
  True

def algebraic_Ffn2Ideal_Ffn2RefIdeal_pre_finite_ffn2 [hFfn2Ideal : Cert.Ffn2Ideal.Facts] [hFfn2RefIdeal : Cert.Ffn2RefIdeal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal_finite_ffn2 m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)
      ∧ m' ((c.tc : Thread Cert.Ffn2RefIdeal.nD Cert.Ffn2RefIdeal.τ).loc Cert.Ffn2RefIdeal.main_arg6) = m ((c.tc : Thread Cert.Ffn2Ideal.nD Cert.Ffn2Ideal.τ).loc Cert.Ffn2Ideal.main_arg6)) →
    ∃ (v0 : (c : Dev Cert.Ffn2Ideal.nD) → Buf (Elt Ideal) ((c.tc : Thread Cert.Ffn2Ideal.nD Cert.Ffn2Ideal.τ).loc Cert.Ffn2Ideal.main_v12_0)) (v1 : (c : Dev Cert.Ffn2Ideal.nD) → Buf (Elt Ideal) ((c.tc : Thread Cert.Ffn2Ideal.nD Cert.Ffn2Ideal.τ).loc Cert.Ffn2Ideal.main_v12_1)) (v2 : (c : Dev Cert.Ffn2Ideal.nD) → Buf (Elt Ideal) ((c.tc : Thread Cert.Ffn2Ideal.nD Cert.Ffn2Ideal.τ).loc Cert.Ffn2Ideal.main_v12_2)) (v3 : (c : Dev Cert.Ffn2Ideal.nD) → Buf (Elt Ideal) ((c.tc : Thread Cert.Ffn2Ideal.nD Cert.Ffn2Ideal.τ).loc Cert.Ffn2Ideal.main_v12_3)) (v4 : (c : Dev Cert.Ffn2Ideal.nD) → Buf (Elt Ideal) ((c.tc : Thread Cert.Ffn2Ideal.nD Cert.Ffn2Ideal.τ).loc Cert.Ffn2Ideal.main_v12_4)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v12_0) = v0 c
          ∧ r.2.mem ((c.tc : Thread Cert.Ffn2Ideal.nD Cert.Ffn2Ideal.τ).loc Cert.Ffn2Ideal.main_v12_1) = v1 c
          ∧ r.2.mem ((c.tc : Thread Cert.Ffn2Ideal.nD Cert.Ffn2Ideal.τ).loc Cert.Ffn2Ideal.main_v12_2) = v2 c
          ∧ r.2.mem ((c.tc : Thread Cert.Ffn2Ideal.nD Cert.Ffn2Ideal.τ).loc Cert.Ffn2Ideal.main_v12_3) = v3 c
          ∧ r.2.mem ((c.tc : Thread Cert.Ffn2Ideal.nD Cert.Ffn2Ideal.τ).loc Cert.Ffn2Ideal.main_v12_4) = v4 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v71) = v0 c
          ∧ r.2.mem ((c.tc : Thread Cert.Ffn2RefIdeal.nD Cert.Ffn2RefIdeal.τ).loc Cert.Ffn2RefIdeal.main_v74) = v1 c
          ∧ r.2.mem ((c.tc : Thread Cert.Ffn2RefIdeal.nD Cert.Ffn2RefIdeal.τ).loc Cert.Ffn2RefIdeal.main_v77) = v2 c
          ∧ r.2.mem ((c.tc : Thread Cert.Ffn2RefIdeal.nD Cert.Ffn2RefIdeal.τ).loc Cert.Ffn2RefIdeal.main_v78) = v3 c
          ∧ r.2.mem ((c.tc : Thread Cert.Ffn2RefIdeal.nD Cert.Ffn2RefIdeal.τ).loc Cert.Ffn2RefIdeal.main_v79) = v4 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5)
          ∧ r.2.mem ((c.tc : Thread Cert.Ffn2RefIdeal.nD Cert.Ffn2RefIdeal.τ).loc Cert.Ffn2RefIdeal.main_arg6) = m' ((c.tc : Thread Cert.Ffn2RefIdeal.nD Cert.Ffn2RefIdeal.τ).loc Cert.Ffn2RefIdeal.main_arg6))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v170_0)) (v1 : (c : Dev Cert.ConvIdeal.nD) → Buf (Elt Ideal) ((c.tc : Thread Cert.ConvIdeal.nD Cert.ConvIdeal.τ).loc Cert.ConvIdeal.main_v170_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v170_0) = v0 c
          ∧ r.2.mem ((c.tc : Thread Cert.ConvIdeal.nD Cert.ConvIdeal.τ).loc Cert.ConvIdeal.main_v170_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v526) = v0 c
          ∧ r.2.mem ((c.tc : Thread Cert.ConvRefIdeal.nD Cert.ConvRefIdeal.τ).loc Cert.ConvRefIdeal.main_v525) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def algebraic_FfnBwdIdeal_FfnBwdRefIdeal_pre_finite_ffn_bwd [hFfnBwdIdeal : Cert.FfnBwdIdeal.Facts] [hFfnBwdRefIdeal : Cert.FfnBwdRefIdeal.Facts] [hPre_finite_ffn_bwd : Cert.Pre_finite_ffn_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn_bwd m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v32_0)) (v1 : (c : Dev Cert.FfnBwdIdeal.nD) → Buf (Elt Ideal) ((c.tc : Thread Cert.FfnBwdIdeal.nD Cert.FfnBwdIdeal.τ).loc Cert.FfnBwdIdeal.main_v32_1)) (v2 : (c : Dev Cert.FfnBwdIdeal.nD) → Buf (Elt Ideal) ((c.tc : Thread Cert.FfnBwdIdeal.nD Cert.FfnBwdIdeal.τ).loc Cert.FfnBwdIdeal.main_v32_2)) (v3 : (c : Dev Cert.FfnBwdIdeal.nD) → Buf (Elt Ideal) ((c.tc : Thread Cert.FfnBwdIdeal.nD Cert.FfnBwdIdeal.τ).loc Cert.FfnBwdIdeal.main_v32_3)) (v4 : (c : Dev Cert.FfnBwdIdeal.nD) → Buf (Elt Ideal) ((c.tc : Thread Cert.FfnBwdIdeal.nD Cert.FfnBwdIdeal.τ).loc Cert.FfnBwdIdeal.main_v32_4)) (v5 : (c : Dev Cert.FfnBwdIdeal.nD) → Buf (Elt Ideal) ((c.tc : Thread Cert.FfnBwdIdeal.nD Cert.FfnBwdIdeal.τ).loc Cert.FfnBwdIdeal.main_v32_5)) (v6 : (c : Dev Cert.FfnBwdIdeal.nD) → Buf (Elt Ideal) ((c.tc : Thread Cert.FfnBwdIdeal.nD Cert.FfnBwdIdeal.τ).loc Cert.FfnBwdIdeal.main_v32_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v32_0) = v0 c
          ∧ r.2.mem ((c.tc : Thread Cert.FfnBwdIdeal.nD Cert.FfnBwdIdeal.τ).loc Cert.FfnBwdIdeal.main_v32_1) = v1 c
          ∧ r.2.mem ((c.tc : Thread Cert.FfnBwdIdeal.nD Cert.FfnBwdIdeal.τ).loc Cert.FfnBwdIdeal.main_v32_2) = v2 c
          ∧ r.2.mem ((c.tc : Thread Cert.FfnBwdIdeal.nD Cert.FfnBwdIdeal.τ).loc Cert.FfnBwdIdeal.main_v32_3) = v3 c
          ∧ r.2.mem ((c.tc : Thread Cert.FfnBwdIdeal.nD Cert.FfnBwdIdeal.τ).loc Cert.FfnBwdIdeal.main_v32_4) = v4 c
          ∧ r.2.mem ((c.tc : Thread Cert.FfnBwdIdeal.nD Cert.FfnBwdIdeal.τ).loc Cert.FfnBwdIdeal.main_v32_5) = v5 c
          ∧ r.2.mem ((c.tc : Thread Cert.FfnBwdIdeal.nD Cert.FfnBwdIdeal.τ).loc Cert.FfnBwdIdeal.main_v32_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v69) = v0 c
          ∧ r.2.mem ((c.tc : Thread Cert.FfnBwdRefIdeal.nD Cert.FfnBwdRefIdeal.τ).loc Cert.FfnBwdRefIdeal.main_v83) = v1 c
          ∧ r.2.mem ((c.tc : Thread Cert.FfnBwdRefIdeal.nD Cert.FfnBwdRefIdeal.τ).loc Cert.FfnBwdRefIdeal.main_v86) = v2 c
          ∧ r.2.mem ((c.tc : Thread Cert.FfnBwdRefIdeal.nD Cert.FfnBwdRefIdeal.τ).loc Cert.FfnBwdRefIdeal.main_v91) = v3 c
          ∧ r.2.mem ((c.tc : Thread Cert.FfnBwdRefIdeal.nD Cert.FfnBwdRefIdeal.τ).loc Cert.FfnBwdRefIdeal.main_v92) = v4 c
          ∧ r.2.mem ((c.tc : Thread Cert.FfnBwdRefIdeal.nD Cert.FfnBwdRefIdeal.τ).loc Cert.FfnBwdRefIdeal.main_v95) = v5 c
          ∧ r.2.mem ((c.tc : Thread Cert.FfnBwdRefIdeal.nD Cert.FfnBwdRefIdeal.τ).loc Cert.FfnBwdRefIdeal.main_v96) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v11_0)) (v1 : (c : Dev Cert.Ffn1Ideal.nD) → Buf (Elt Ideal) ((c.tc : Thread Cert.Ffn1Ideal.nD Cert.Ffn1Ideal.τ).loc Cert.Ffn1Ideal.main_v11_1)) (v2 : (c : Dev Cert.Ffn1Ideal.nD) → Buf (Elt Ideal) ((c.tc : Thread Cert.Ffn1Ideal.nD Cert.Ffn1Ideal.τ).loc Cert.Ffn1Ideal.main_v11_2)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v11_0) = v0 c
          ∧ r.2.mem ((c.tc : Thread Cert.Ffn1Ideal.nD Cert.Ffn1Ideal.τ).loc Cert.Ffn1Ideal.main_v11_1) = v1 c
          ∧ r.2.mem ((c.tc : Thread Cert.Ffn1Ideal.nD Cert.Ffn1Ideal.τ).loc Cert.Ffn1Ideal.main_v11_2) = v2 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v20) = v0 c
          ∧ r.2.mem ((c.tc : Thread Cert.Ffn1RefIdeal.nD Cert.Ffn1RefIdeal.τ).loc Cert.Ffn1RefIdeal.main_v23) = v1 c
          ∧ r.2.mem ((c.tc : Thread Cert.Ffn1RefIdeal.nD Cert.Ffn1RefIdeal.τ).loc Cert.Ffn1RefIdeal.main_v26) = v2 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v4)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v13) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v3_0)) (v1 : (c : Dev Cert.ConvFwdIdeal.nD) → Buf (Elt Ideal) ((c.tc : Thread Cert.ConvFwdIdeal.nD Cert.ConvFwdIdeal.τ).loc Cert.ConvFwdIdeal.main_v3_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3_0) = v0 c
          ∧ r.2.mem ((c.tc : Thread Cert.ConvFwdIdeal.nD Cert.ConvFwdIdeal.τ).loc Cert.ConvFwdIdeal.main_v3_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v191) = v0 c
          ∧ r.2.mem ((c.tc : Thread Cert.ConvFwdRefIdeal.nD Cert.ConvFwdRefIdeal.τ).loc Cert.ConvFwdRefIdeal.main_v167) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)
      ∧ m' ((c.tc : Thread Cert.WgradRefIdeal.nD Cert.WgradRefIdeal.τ).loc Cert.WgradRefIdeal.main_arg4) = m ((c.tc : Thread Cert.WgradIdeal.nD Cert.WgradIdeal.τ).loc Cert.WgradIdeal.main_arg4)) →
    ∃ (v0 : (c : Dev Cert.WgradIdeal.nD) → Buf (Elt Ideal) ((c.tc : Thread Cert.WgradIdeal.nD Cert.WgradIdeal.τ).loc Cert.WgradIdeal.main_v12_0)) (v1 : (c : Dev Cert.WgradIdeal.nD) → Buf (Elt Ideal) ((c.tc : Thread Cert.WgradIdeal.nD Cert.WgradIdeal.τ).loc Cert.WgradIdeal.main_v12_1)) (v2 : (c : Dev Cert.WgradIdeal.nD) → Buf (Elt Ideal) ((c.tc : Thread Cert.WgradIdeal.nD Cert.WgradIdeal.τ).loc Cert.WgradIdeal.main_v12_2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v12_0) = v0 c
          ∧ r.2.mem ((c.tc : Thread Cert.WgradIdeal.nD Cert.WgradIdeal.τ).loc Cert.WgradIdeal.main_v12_1) = v1 c
          ∧ r.2.mem ((c.tc : Thread Cert.WgradIdeal.nD Cert.WgradIdeal.τ).loc Cert.WgradIdeal.main_v12_2) = v2 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v5) = v0 c
          ∧ r.2.mem ((c.tc : Thread Cert.WgradRefIdeal.nD Cert.WgradRefIdeal.τ).loc Cert.WgradRefIdeal.main_v11) = v1 c
          ∧ r.2.mem ((c.tc : Thread Cert.WgradRefIdeal.nD Cert.WgradRefIdeal.τ).loc Cert.WgradRefIdeal.main_v16) = v2 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3)
          ∧ r.2.mem ((c.tc : Thread Cert.WgradRefIdeal.nD Cert.WgradRefIdeal.τ).loc Cert.WgradRefIdeal.main_arg4) = m' ((c.tc : Thread Cert.WgradRefIdeal.nD Cert.WgradRefIdeal.τ).loc Cert.WgradRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v4) = v0 c
          ∧ r.2.mem ((c.tc : Thread Cert.MixOutRefIdeal.nD Cert.MixOutRefIdeal.τ).loc Cert.MixOutRefIdeal.main_v3) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MixOutFwd_MixOutFwdIdeal : Prop :=
  True

def algebraic_MixOutFwdIdeal_MixOutFwdRefIdeal [hMixOutFwdIdeal : Cert.MixOutFwdIdeal.Facts] [hMixOutFwdRefIdeal : Cert.MixOutFwdRefIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdIdeal m →
    (∀ c : Dev Cert.MixOutFwdIdeal.nD,
      m' ((c.tc : Thread Cert.MixOutFwdRefIdeal.nD Cert.MixOutFwdRefIdeal.τ).loc Cert.MixOutFwdRefIdeal.main_arg0) = m ((c.tc : Thread Cert.MixOutFwdIdeal.nD Cert.MixOutFwdIdeal.τ).loc Cert.MixOutFwdIdeal.main_arg0)
      ∧ m' ((c.tc : Thread Cert.MixOutFwdRefIdeal.nD Cert.MixOutFwdRefIdeal.τ).loc Cert.MixOutFwdRefIdeal.main_arg1) = m ((c.tc : Thread Cert.MixOutFwdIdeal.nD Cert.MixOutFwdIdeal.τ).loc Cert.MixOutFwdIdeal.main_arg1)
      ∧ m' ((c.tc : Thread Cert.MixOutFwdRefIdeal.nD Cert.MixOutFwdRefIdeal.τ).loc Cert.MixOutFwdRefIdeal.main_arg2) = m ((c.tc : Thread Cert.MixOutFwdIdeal.nD Cert.MixOutFwdIdeal.τ).loc Cert.MixOutFwdIdeal.main_arg2)
      ∧ m' ((c.tc : Thread Cert.MixOutFwdRefIdeal.nD Cert.MixOutFwdRefIdeal.τ).loc Cert.MixOutFwdRefIdeal.main_arg3) = m ((c.tc : Thread Cert.MixOutFwdIdeal.nD Cert.MixOutFwdIdeal.τ).loc Cert.MixOutFwdIdeal.main_arg3)) →
    ∃ (v0 : (c : Dev Cert.MixOutFwdIdeal.nD) → Buf (Elt Ideal) ((c.tc : Thread Cert.MixOutFwdIdeal.nD Cert.MixOutFwdIdeal.τ).loc Cert.MixOutFwdIdeal.main_v3)),
      θ_run (Cert.MixOutFwdIdeal.defs (F := Ideal)) (onTc (τ := Cert.MixOutFwdIdeal.τ) (Cert.MixOutFwdIdeal.main (F := Ideal))) ⟨m, fun _ => 0, g⟩ (fun r => ∀ c : Dev Cert.MixOutFwdIdeal.nD,
          r.2.mem ((c.tc : Thread Cert.MixOutFwdIdeal.nD Cert.MixOutFwdIdeal.τ).loc Cert.MixOutFwdIdeal.main_v3) = v0 c
          ∧ r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
          ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
          ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
          ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v2) = v0 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)
      ∧ m' ((c.tc : Thread Cert.SumDevRefIdeal.nD Cert.SumDevRefIdeal.τ).loc Cert.SumDevRefIdeal.main_arg1) = m ((c.tc : Thread Cert.SumDevIdeal.nD Cert.SumDevIdeal.τ).loc Cert.SumDevIdeal.main_arg1)
      ∧ m' ((c.tc : Thread Cert.SumDevRefIdeal.nD Cert.SumDevRefIdeal.τ).loc Cert.SumDevRefIdeal.main_arg2) = m ((c.tc : Thread Cert.SumDevIdeal.nD Cert.SumDevIdeal.τ).loc Cert.SumDevIdeal.main_arg2)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
          ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
          ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v6) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0)
          ∧ r.2.mem ((c.tc : Thread Cert.SumDevRefIdeal.nD Cert.SumDevRefIdeal.τ).loc Cert.SumDevRefIdeal.main_arg1) = m' ((c.tc : Thread Cert.SumDevRefIdeal.nD Cert.SumDevRefIdeal.τ).loc Cert.SumDevRefIdeal.main_arg1)
          ∧ r.2.mem ((c.tc : Thread Cert.SumDevRefIdeal.nD Cert.SumDevRefIdeal.τ).loc Cert.SumDevRefIdeal.main_arg2) = m' ((c.tc : Thread Cert.SumDevRefIdeal.nD Cert.SumDevRefIdeal.τ).loc Cert.SumDevRefIdeal.main_arg2))

def preserves_AddCast_AddCastIdeal : Prop :=
  True

def algebraic_AddCastIdeal_AddCastRefIdeal [hAddCastIdeal : Cert.AddCastIdeal.Facts] [hAddCastRefIdeal : Cert.AddCastRefIdeal.Facts] [hPre_core_of_two : Cert.Pre_core_of_two.Facts] : Prop :=
  ∀ (m : (ℓ : Loc Cert.AddCastIdeal.nD Cert.AddCastIdeal.τ Cert.AddCastIdeal.sig) → Buf (Elt Ideal) ℓ) (g : Dev Cert.AddCastIdeal.nD → PrngReg)
    (m' : (ℓ : Loc Cert.AddCastRefIdeal.nD Cert.AddCastRefIdeal.τ Cert.AddCastRefIdeal.sig) → Buf (Elt Ideal) ℓ) (g' : Dev Cert.AddCastRefIdeal.nD → PrngReg), Pre_AddCastIdeal m →
    (∀ c : Dev Cert.AddCastIdeal.nD,
      m' ((c.tc : Thread Cert.AddCastRefIdeal.nD Cert.AddCastRefIdeal.τ).loc Cert.AddCastRefIdeal.main_arg0) = m ((c.tc : Thread Cert.AddCastIdeal.nD Cert.AddCastIdeal.τ).loc Cert.AddCastIdeal.main_arg0)
      ∧ m' ((c.tc : Thread Cert.AddCastRefIdeal.nD Cert.AddCastRefIdeal.τ).loc Cert.AddCastRefIdeal.main_arg1) = m ((c.tc : Thread Cert.AddCastIdeal.nD Cert.AddCastIdeal.τ).loc Cert.AddCastIdeal.main_arg1)
      ∧ m' ((c.tc : Thread Cert.AddCastRefIdeal.nD Cert.AddCastRefIdeal.τ).loc Cert.AddCastRefIdeal.main_arg2) = m ((c.tc : Thread Cert.AddCastIdeal.nD Cert.AddCastIdeal.τ).loc Cert.AddCastIdeal.main_arg2)) →
    ∃ (v0 : (c : Dev Cert.AddCastIdeal.nD) → Buf (Elt Ideal) ((c.tc : Thread Cert.AddCastIdeal.nD Cert.AddCastIdeal.τ).loc Cert.AddCastIdeal.main_v0)),
      θ_run (Cert.AddCastIdeal.defs (F := Ideal)) (onTc (τ := Cert.AddCastIdeal.τ) (Cert.AddCastIdeal.main (F := Ideal))) ⟨m, fun _ => 0, g⟩ (fun r => ∀ c : Dev Cert.AddCastIdeal.nD,
          r.2.mem ((c.tc : Thread Cert.AddCastIdeal.nD Cert.AddCastIdeal.τ).loc Cert.AddCastIdeal.main_v0) = v0 c
          ∧ r.2.mem ((c.tc : Thread Cert.AddCastIdeal.nD Cert.AddCastIdeal.τ).loc Cert.AddCastIdeal.main_arg0) = m ((c.tc : Thread Cert.AddCastIdeal.nD Cert.AddCastIdeal.τ).loc Cert.AddCastIdeal.main_arg0)
          ∧ r.2.mem ((c.tc : Thread Cert.AddCastIdeal.nD Cert.AddCastIdeal.τ).loc Cert.AddCastIdeal.main_arg1) = m ((c.tc : Thread Cert.AddCastIdeal.nD Cert.AddCastIdeal.τ).loc Cert.AddCastIdeal.main_arg1)
          ∧ r.2.mem ((c.tc : Thread Cert.AddCastIdeal.nD Cert.AddCastIdeal.τ).loc Cert.AddCastIdeal.main_arg2) = m ((c.tc : Thread Cert.AddCastIdeal.nD Cert.AddCastIdeal.τ).loc Cert.AddCastIdeal.main_arg2))
      ∧ θ_run (Cert.AddCastRefIdeal.defs (F := Ideal)) (onTc (τ := Cert.AddCastRefIdeal.τ) (Cert.AddCastRefIdeal.main (F := Ideal))) ⟨m', fun _ => 0, g'⟩ (fun r => ∀ c : Dev Cert.AddCastRefIdeal.nD,
          r.2.mem ((c.tc : Thread Cert.AddCastRefIdeal.nD Cert.AddCastRefIdeal.τ).loc Cert.AddCastRefIdeal.main_v7) = v0 c
          ∧ r.2.mem ((c.tc : Thread Cert.AddCastRefIdeal.nD Cert.AddCastRefIdeal.τ).loc Cert.AddCastRefIdeal.main_arg0) = m' ((c.tc : Thread Cert.AddCastRefIdeal.nD Cert.AddCastRefIdeal.τ).loc Cert.AddCastRefIdeal.main_arg0)
          ∧ r.2.mem ((c.tc : Thread Cert.AddCastRefIdeal.nD Cert.AddCastRefIdeal.τ).loc Cert.AddCastRefIdeal.main_arg1) = m' ((c.tc : Thread Cert.AddCastRefIdeal.nD Cert.AddCastRefIdeal.τ).loc Cert.AddCastRefIdeal.main_arg1)
          ∧ r.2.mem ((c.tc : Thread Cert.AddCastRefIdeal.nD Cert.AddCastRefIdeal.τ).loc Cert.AddCastRefIdeal.main_arg2) = m' ((c.tc : Thread Cert.AddCastRefIdeal.nD Cert.AddCastRefIdeal.τ).loc Cert.AddCastRefIdeal.main_arg2))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] [hPre_core_and_chip : Cert.Pre_core_and_chip.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)
      ∧ m' ((c.tc : Thread Cert.SumSlotsRefIdeal.nD Cert.SumSlotsRefIdeal.τ).loc Cert.SumSlotsRefIdeal.main_arg1) = m ((c.tc : Thread Cert.SumSlotsIdeal.nD Cert.SumSlotsIdeal.τ).loc Cert.SumSlotsIdeal.main_arg1)
      ∧ m' ((c.tc : Thread Cert.SumSlotsRefIdeal.nD Cert.SumSlotsRefIdeal.τ).loc Cert.SumSlotsRefIdeal.main_arg2) = m ((c.tc : Thread Cert.SumSlotsIdeal.nD Cert.SumSlotsIdeal.τ).loc Cert.SumSlotsIdeal.main_arg2)) →
    ∃ (v0 : (c : Dev Cert.SumSlotsIdeal.nD) → Buf (Elt Ideal) ((c.tc : Thread Cert.SumSlotsIdeal.nD Cert.SumSlotsIdeal.τ).loc Cert.SumSlotsIdeal.main_v7)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v7) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0)
          ∧ r.2.mem ((c.tc : Thread Cert.SumSlotsIdeal.nD Cert.SumSlotsIdeal.τ).loc Cert.SumSlotsIdeal.main_arg1) = m ((c.tc : Thread Cert.SumSlotsIdeal.nD Cert.SumSlotsIdeal.τ).loc Cert.SumSlotsIdeal.main_arg1)
          ∧ r.2.mem ((c.tc : Thread Cert.SumSlotsIdeal.nD Cert.SumSlotsIdeal.τ).loc Cert.SumSlotsIdeal.main_arg2) = m ((c.tc : Thread Cert.SumSlotsIdeal.nD Cert.SumSlotsIdeal.τ).loc Cert.SumSlotsIdeal.main_arg2))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v11) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0)
          ∧ r.2.mem ((c.tc : Thread Cert.SumSlotsRefIdeal.nD Cert.SumSlotsRefIdeal.τ).loc Cert.SumSlotsRefIdeal.main_arg1) = m' ((c.tc : Thread Cert.SumSlotsRefIdeal.nD Cert.SumSlotsRefIdeal.τ).loc Cert.SumSlotsRefIdeal.main_arg1)
          ∧ r.2.mem ((c.tc : Thread Cert.SumSlotsRefIdeal.nD Cert.SumSlotsRefIdeal.τ).loc Cert.SumSlotsRefIdeal.main_arg2) = m' ((c.tc : Thread Cert.SumSlotsRefIdeal.nD Cert.SumSlotsRefIdeal.τ).loc Cert.SumSlotsRefIdeal.main_arg2))

def preserves_PlaceCast_PlaceCastIdeal : Prop :=
  True

def algebraic_PlaceCastIdeal_PlaceCastRefIdeal [hPlaceCastIdeal : Cert.PlaceCastIdeal.Facts] [hPlaceCastRefIdeal : Cert.PlaceCastRefIdeal.Facts] [hPre_chip_of_four : Cert.Pre_chip_of_four.Facts] : Prop :=
  ∀ (m : (ℓ : Loc Cert.PlaceCastIdeal.nD Cert.PlaceCastIdeal.τ Cert.PlaceCastIdeal.sig) → Buf (Elt Ideal) ℓ) (g : Dev Cert.PlaceCastIdeal.nD → PrngReg)
    (m' : (ℓ : Loc Cert.PlaceCastRefIdeal.nD Cert.PlaceCastRefIdeal.τ Cert.PlaceCastRefIdeal.sig) → Buf (Elt Ideal) ℓ) (g' : Dev Cert.PlaceCastRefIdeal.nD → PrngReg), Pre_PlaceCastIdeal m →
    (∀ c : Dev Cert.PlaceCastIdeal.nD,
      m' ((c.tc : Thread Cert.PlaceCastRefIdeal.nD Cert.PlaceCastRefIdeal.τ).loc Cert.PlaceCastRefIdeal.main_arg0) = m ((c.tc : Thread Cert.PlaceCastIdeal.nD Cert.PlaceCastIdeal.τ).loc Cert.PlaceCastIdeal.main_arg0)
      ∧ m' ((c.tc : Thread Cert.PlaceCastRefIdeal.nD Cert.PlaceCastRefIdeal.τ).loc Cert.PlaceCastRefIdeal.main_arg1) = m ((c.tc : Thread Cert.PlaceCastIdeal.nD Cert.PlaceCastIdeal.τ).loc Cert.PlaceCastIdeal.main_arg1)
      ∧ m' ((c.tc : Thread Cert.PlaceCastRefIdeal.nD Cert.PlaceCastRefIdeal.τ).loc Cert.PlaceCastRefIdeal.main_arg2) = m ((c.tc : Thread Cert.PlaceCastIdeal.nD Cert.PlaceCastIdeal.τ).loc Cert.PlaceCastIdeal.main_arg2)
      ∧ m' ((c.tc : Thread Cert.PlaceCastRefIdeal.nD Cert.PlaceCastRefIdeal.τ).loc Cert.PlaceCastRefIdeal.main_arg3) = m ((c.tc : Thread Cert.PlaceCastIdeal.nD Cert.PlaceCastIdeal.τ).loc Cert.PlaceCastIdeal.main_arg3)) →
    ∃ (v0 : (c : Dev Cert.PlaceCastIdeal.nD) → Buf (Elt Ideal) ((c.tc : Thread Cert.PlaceCastIdeal.nD Cert.PlaceCastIdeal.τ).loc Cert.PlaceCastIdeal.main_v23)),
      θ_run (Cert.PlaceCastIdeal.defs (F := Ideal)) (onTc (τ := Cert.PlaceCastIdeal.τ) (Cert.PlaceCastIdeal.main (F := Ideal))) ⟨m, fun _ => 0, g⟩ (fun r => ∀ c : Dev Cert.PlaceCastIdeal.nD,
          r.2.mem ((c.tc : Thread Cert.PlaceCastIdeal.nD Cert.PlaceCastIdeal.τ).loc Cert.PlaceCastIdeal.main_v23) = v0 c
          ∧ r.2.mem ((c.tc : Thread Cert.PlaceCastIdeal.nD Cert.PlaceCastIdeal.τ).loc Cert.PlaceCastIdeal.main_arg0) = m ((c.tc : Thread Cert.PlaceCastIdeal.nD Cert.PlaceCastIdeal.τ).loc Cert.PlaceCastIdeal.main_arg0)
          ∧ r.2.mem ((c.tc : Thread Cert.PlaceCastIdeal.nD Cert.PlaceCastIdeal.τ).loc Cert.PlaceCastIdeal.main_arg1) = m ((c.tc : Thread Cert.PlaceCastIdeal.nD Cert.PlaceCastIdeal.τ).loc Cert.PlaceCastIdeal.main_arg1)
          ∧ r.2.mem ((c.tc : Thread Cert.PlaceCastIdeal.nD Cert.PlaceCastIdeal.τ).loc Cert.PlaceCastIdeal.main_arg2) = m ((c.tc : Thread Cert.PlaceCastIdeal.nD Cert.PlaceCastIdeal.τ).loc Cert.PlaceCastIdeal.main_arg2)
          ∧ r.2.mem ((c.tc : Thread Cert.PlaceCastIdeal.nD Cert.PlaceCastIdeal.τ).loc Cert.PlaceCastIdeal.main_arg3) = m ((c.tc : Thread Cert.PlaceCastIdeal.nD Cert.PlaceCastIdeal.τ).loc Cert.PlaceCastIdeal.main_arg3))
      ∧ θ_run (Cert.PlaceCastRefIdeal.defs (F := Ideal)) (onTc (τ := Cert.PlaceCastRefIdeal.τ) (Cert.PlaceCastRefIdeal.main (F := Ideal))) ⟨m', fun _ => 0, g'⟩ (fun r => ∀ c : Dev Cert.PlaceCastRefIdeal.nD,
          r.2.mem ((c.tc : Thread Cert.PlaceCastRefIdeal.nD Cert.PlaceCastRefIdeal.τ).loc Cert.PlaceCastRefIdeal.main_v4) = v0 c
          ∧ r.2.mem ((c.tc : Thread Cert.PlaceCastRefIdeal.nD Cert.PlaceCastRefIdeal.τ).loc Cert.PlaceCastRefIdeal.main_arg0) = m' ((c.tc : Thread Cert.PlaceCastRefIdeal.nD Cert.PlaceCastRefIdeal.τ).loc Cert.PlaceCastRefIdeal.main_arg0)
          ∧ r.2.mem ((c.tc : Thread Cert.PlaceCastRefIdeal.nD Cert.PlaceCastRefIdeal.τ).loc Cert.PlaceCastRefIdeal.main_arg1) = m' ((c.tc : Thread Cert.PlaceCastRefIdeal.nD Cert.PlaceCastRefIdeal.τ).loc Cert.PlaceCastRefIdeal.main_arg1)
          ∧ r.2.mem ((c.tc : Thread Cert.PlaceCastRefIdeal.nD Cert.PlaceCastRefIdeal.τ).loc Cert.PlaceCastRefIdeal.main_arg2) = m' ((c.tc : Thread Cert.PlaceCastRefIdeal.nD Cert.PlaceCastRefIdeal.τ).loc Cert.PlaceCastRefIdeal.main_arg2)
          ∧ r.2.mem ((c.tc : Thread Cert.PlaceCastRefIdeal.nD Cert.PlaceCastRefIdeal.τ).loc Cert.PlaceCastRefIdeal.main_arg3) = m' ((c.tc : Thread Cert.PlaceCastRefIdeal.nD Cert.PlaceCastRefIdeal.τ).loc Cert.PlaceCastRefIdeal.main_arg3))

def Claim : Prop :=
  ∃ (hMixIn : Cert.MixIn.Facts) (hMixInIdeal : Cert.MixInIdeal.Facts) (hMixInRefIdeal : Cert.MixInRefIdeal.Facts) (hFfn2 : Cert.Ffn2.Facts) (hFfn2Ideal : Cert.Ffn2Ideal.Facts) (hFfn2RefIdeal : Cert.Ffn2RefIdeal.Facts) (hConv : Cert.Conv.Facts) (hConvIdeal : Cert.ConvIdeal.Facts) (hConvRefIdeal : Cert.ConvRefIdeal.Facts) (hFfnBwdIdeal : Cert.FfnBwdIdeal.Facts) (hFfnBwdRefIdeal : Cert.FfnBwdRefIdeal.Facts) (hFfn1 : Cert.Ffn1.Facts) (hFfn1Ideal : Cert.Ffn1Ideal.Facts) (hFfn1RefIdeal : Cert.Ffn1RefIdeal.Facts) (hMixFwd : Cert.MixFwd.Facts) (hMixFwdIdeal : Cert.MixFwdIdeal.Facts) (hMixFwdRefIdeal : Cert.MixFwdRefIdeal.Facts) (hConvFwd : Cert.ConvFwd.Facts) (hConvFwdIdeal : Cert.ConvFwdIdeal.Facts) (hConvFwdRefIdeal : Cert.ConvFwdRefIdeal.Facts) (hWgrad : Cert.Wgrad.Facts) (hWgradIdeal : Cert.WgradIdeal.Facts) (hWgradRefIdeal : Cert.WgradRefIdeal.Facts) (hMixOut : Cert.MixOut.Facts) (hMixOutIdeal : Cert.MixOutIdeal.Facts) (hMixOutRefIdeal : Cert.MixOutRefIdeal.Facts) (hMixOutFwd : Cert.MixOutFwd.Facts) (hMixOutFwdIdeal : Cert.MixOutFwdIdeal.Facts) (hMixOutFwdRefIdeal : Cert.MixOutFwdRefIdeal.Facts) (hAdamw : Cert.Adamw.Facts) (hAdamwIdeal : Cert.AdamwIdeal.Facts) (hAdamwRefIdeal : Cert.AdamwRefIdeal.Facts) (hSumDev : Cert.SumDev.Facts) (hSumDevIdeal : Cert.SumDevIdeal.Facts) (hSumDevRefIdeal : Cert.SumDevRefIdeal.Facts) (hAddCast : Cert.AddCast.Facts) (hAddCastIdeal : Cert.AddCastIdeal.Facts) (hAddCastRefIdeal : Cert.AddCastRefIdeal.Facts) (hSumSlots : Cert.SumSlots.Facts) (hSumSlotsIdeal : Cert.SumSlotsIdeal.Facts) (hSumSlotsRefIdeal : Cert.SumSlotsRefIdeal.Facts) (hPlaceCast : Cert.PlaceCast.Facts) (hPlaceCastIdeal : Cert.PlaceCastIdeal.Facts) (hPlaceCastRefIdeal : Cert.PlaceCastRefIdeal.Facts) (hPre_finite_mix_in : Cert.Pre_finite_mix_in.Facts) (hPre_finite_ffn2 : Cert.Pre_finite_ffn2.Facts) (hPre_finite_conv : Cert.Pre_finite_conv.Facts) (hPre_finite_ffn_bwd : Cert.Pre_finite_ffn_bwd.Facts) (hPre_core_of_two : Cert.Pre_core_of_two.Facts) (hPre_core_and_chip : Cert.Pre_core_and_chip.Facts) (hPre_chip_of_four : Cert.Pre_chip_of_four.Facts),
    quiescent_MixIn (hMixIn := hMixIn)
    ∧ quiescent_MixInIdeal (hMixInIdeal := hMixInIdeal)
    ∧ quiescent_MixInIdeal_pre_finite_mix_in (hMixInIdeal := hMixInIdeal) (hPre_finite_mix_in := hPre_finite_mix_in)
    ∧ quiescent_MixInRefIdeal (hMixInRefIdeal := hMixInRefIdeal)
    ∧ quiescent_MixInRefIdeal_pre_finite_mix_in (hMixInRefIdeal := hMixInRefIdeal) (hPre_finite_mix_in := hPre_finite_mix_in)
    ∧ quiescent_Ffn2 (hFfn2 := hFfn2)
    ∧ quiescent_Ffn2Ideal (hFfn2Ideal := hFfn2Ideal)
    ∧ quiescent_Ffn2Ideal_pre_finite_ffn2 (hFfn2Ideal := hFfn2Ideal) (hPre_finite_ffn2 := hPre_finite_ffn2)
    ∧ quiescent_Ffn2RefIdeal (hFfn2RefIdeal := hFfn2RefIdeal)
    ∧ quiescent_Ffn2RefIdeal_pre_finite_ffn2 (hFfn2RefIdeal := hFfn2RefIdeal) (hPre_finite_ffn2 := hPre_finite_ffn2)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_FfnBwdIdeal (hFfnBwdIdeal := hFfnBwdIdeal)
    ∧ quiescent_FfnBwdIdeal_pre_finite_ffn_bwd (hFfnBwdIdeal := hFfnBwdIdeal) (hPre_finite_ffn_bwd := hPre_finite_ffn_bwd)
    ∧ quiescent_FfnBwdRefIdeal (hFfnBwdRefIdeal := hFfnBwdRefIdeal)
    ∧ quiescent_FfnBwdRefIdeal_pre_finite_ffn_bwd (hFfnBwdRefIdeal := hFfnBwdRefIdeal) (hPre_finite_ffn_bwd := hPre_finite_ffn_bwd)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutFwd (hMixOutFwd := hMixOutFwd)
    ∧ quiescent_MixOutFwdIdeal (hMixOutFwdIdeal := hMixOutFwdIdeal)
    ∧ quiescent_MixOutFwdRefIdeal (hMixOutFwdRefIdeal := hMixOutFwdRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ quiescent_AddCast (hAddCast := hAddCast) (hPre_core_of_two := hPre_core_of_two)
    ∧ quiescent_AddCastIdeal (hAddCastIdeal := hAddCastIdeal) (hPre_core_of_two := hPre_core_of_two)
    ∧ quiescent_AddCastRefIdeal (hAddCastRefIdeal := hAddCastRefIdeal)
    ∧ quiescent_AddCastRefIdeal_pre_core_of_two (hAddCastRefIdeal := hAddCastRefIdeal) (hPre_core_of_two := hPre_core_of_two)
    ∧ quiescent_SumSlots (hSumSlots := hSumSlots) (hPre_core_and_chip := hPre_core_and_chip)
    ∧ quiescent_SumSlotsIdeal (hSumSlotsIdeal := hSumSlotsIdeal) (hPre_core_and_chip := hPre_core_and_chip)
    ∧ quiescent_SumSlotsRefIdeal (hSumSlotsRefIdeal := hSumSlotsRefIdeal)
    ∧ quiescent_SumSlotsRefIdeal_pre_core_and_chip (hSumSlotsRefIdeal := hSumSlotsRefIdeal) (hPre_core_and_chip := hPre_core_and_chip)
    ∧ quiescent_PlaceCast (hPlaceCast := hPlaceCast) (hPre_chip_of_four := hPre_chip_of_four)
    ∧ quiescent_PlaceCastIdeal (hPlaceCastIdeal := hPlaceCastIdeal) (hPre_chip_of_four := hPre_chip_of_four)
    ∧ quiescent_PlaceCastRefIdeal (hPlaceCastRefIdeal := hPlaceCastRefIdeal)
    ∧ quiescent_PlaceCastRefIdeal_pre_chip_of_four (hPlaceCastRefIdeal := hPlaceCastRefIdeal) (hPre_chip_of_four := hPre_chip_of_four)
    ∧ preserves_MixIn_MixInIdeal
    ∧ algebraic_MixInIdeal_MixInRefIdeal_pre_finite_mix_in (hMixInIdeal := hMixInIdeal) (hMixInRefIdeal := hMixInRefIdeal) (hPre_finite_mix_in := hPre_finite_mix_in)
    ∧ preserves_Ffn2_Ffn2Ideal
    ∧ algebraic_Ffn2Ideal_Ffn2RefIdeal_pre_finite_ffn2 (hFfn2Ideal := hFfn2Ideal) (hFfn2RefIdeal := hFfn2RefIdeal) (hPre_finite_ffn2 := hPre_finite_ffn2)
    ∧ preserves_Conv_ConvIdeal
    ∧ algebraic_ConvIdeal_ConvRefIdeal_pre_finite_conv (hConvIdeal := hConvIdeal) (hConvRefIdeal := hConvRefIdeal) (hPre_finite_conv := hPre_finite_conv)
    ∧ algebraic_FfnBwdIdeal_FfnBwdRefIdeal_pre_finite_ffn_bwd (hFfnBwdIdeal := hFfnBwdIdeal) (hFfnBwdRefIdeal := hFfnBwdRefIdeal) (hPre_finite_ffn_bwd := hPre_finite_ffn_bwd)
    ∧ preserves_Ffn1_Ffn1Ideal
    ∧ algebraic_Ffn1Ideal_Ffn1RefIdeal (hFfn1Ideal := hFfn1Ideal) (hFfn1RefIdeal := hFfn1RefIdeal)
    ∧ preserves_MixFwd_MixFwdIdeal
    ∧ algebraic_MixFwdIdeal_MixFwdRefIdeal (hMixFwdIdeal := hMixFwdIdeal) (hMixFwdRefIdeal := hMixFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Wgrad_WgradIdeal
    ∧ algebraic_WgradIdeal_WgradRefIdeal (hWgradIdeal := hWgradIdeal) (hWgradRefIdeal := hWgradRefIdeal)
    ∧ preserves_MixOut_MixOutIdeal
    ∧ algebraic_MixOutIdeal_MixOutRefIdeal (hMixOutIdeal := hMixOutIdeal) (hMixOutRefIdeal := hMixOutRefIdeal)
    ∧ preserves_MixOutFwd_MixOutFwdIdeal
    ∧ algebraic_MixOutFwdIdeal_MixOutFwdRefIdeal (hMixOutFwdIdeal := hMixOutFwdIdeal) (hMixOutFwdRefIdeal := hMixOutFwdRefIdeal)
    ∧ preserves_Adamw_AdamwIdeal
    ∧ algebraic_AdamwIdeal_AdamwRefIdeal (hAdamwIdeal := hAdamwIdeal) (hAdamwRefIdeal := hAdamwRefIdeal)
    ∧ preserves_SumDev_SumDevIdeal
    ∧ algebraic_SumDevIdeal_SumDevRefIdeal (hSumDevIdeal := hSumDevIdeal) (hSumDevRefIdeal := hSumDevRefIdeal)
    ∧ preserves_AddCast_AddCastIdeal
    ∧ algebraic_AddCastIdeal_AddCastRefIdeal (hAddCastIdeal := hAddCastIdeal) (hAddCastRefIdeal := hAddCastRefIdeal) (hPre_core_of_two := hPre_core_of_two)
    ∧ preserves_SumSlots_SumSlotsIdeal
    ∧ algebraic_SumSlotsIdeal_SumSlotsRefIdeal (hSumSlotsIdeal := hSumSlotsIdeal) (hSumSlotsRefIdeal := hSumSlotsRefIdeal) (hPre_core_and_chip := hPre_core_and_chip)
    ∧ preserves_PlaceCast_PlaceCastIdeal
    ∧ algebraic_PlaceCastIdeal_PlaceCastRefIdeal (hPlaceCastIdeal := hPlaceCastIdeal) (hPlaceCastRefIdeal := hPlaceCastRefIdeal) (hPre_chip_of_four := hPre_chip_of_four)
-- ==== Pre_chip_of_four.lean ====
abbrev S704x1024 : Shape := ⟨2, ![704, 1024]⟩
abbrev S2 : Shape := ⟨1, ![2]⟩
abbrev S1 : Shape := ⟨1, ![1]⟩
abbrev S_ : Shape := ⟨0, ![]⟩

class Facts : Prop where
  slices_S2_S1_1 : S2.Slices ![1] S1
  bcast_S_S1 : S_.BroadcastsInDim S1 (![] : Fin 0 → Fin S1.rank)

variable [Facts]

def fn {F : FTy → Type} [FloatOps F] (main_arg0 : FVec F S704x1024 .f32) (main_arg1 : FVec F S704x1024 .f32) (main_arg2 : FVec F S704x1024 .f32) (main_arg3 : IVec S2 32) : IVec S1 1 :=
  let main_v0 : IVec S1 32 := (extractStridedSlice S1 ![1] · slices_S2_S1_1) main_arg3
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![1] · slices_S2_S1_1) main_arg3
  let main_c_0 : IVec S_ 32 := constantI S_ 32 4#32
  let main_v4 : IVec S1 32 := broadcastInDim S1 ![] bcast_S_S1 main_c_0
  let main_v5 : IVec S1 1 := cmpi .slt main_v3 main_v4
  let main_v6 : IVec S1 1 := andi main_v2 main_v5
  main_v6
-- ==== Pre_core_and_chip.lean ====
abbrev S4x352x1024 : Shape := ⟨3, ![4, 352, 1024]⟩
abbrev S3x352x1024 : Shape := ⟨3, ![3, 352, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 2#32 | 1 => 4#32
  | _ => 0#32

def fn {F : FTy → Type} [FloatOps F] (main_arg0 : FVec F S4x352x1024 .bf16) (main_arg1 : FVec F S3x352x1024 .bf16) (main_arg2 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_core_of_two.lean ====
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x704x1024 .f32) (main_arg1 : FVec F S4x352x1024 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 2#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_finite_conv.lean ====
abbrev S8192x2048 : Shape := ⟨2, ![8192, 2048]⟩
abbrev S31x512 : Shape := ⟨2, ![31, 512]⟩
abbrev S512 : Shape := ⟨1, ![512]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S512 .f32) (main_arg5 : FVec F S8192x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x2048 .f32) (main_arg1 : FVec F S31x512 .f32) (main_arg2 : FVec F S512 .f32) (main_arg3 : FVec F S512 .f32) (main_arg4 : FVec F S512 .f32) (main_arg5 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S31x512 .f32 := Host.absf main_arg1
  let main_cst_0 : FVec F S_ .f32 := constant S_ .f32 0x7F800000#32
  let main_v5 : FVec F S31x512 .f32 := broadcastInDim S31x512 ![] bcast_S_S31x512 main_cst_0
  let main_v6 : IVec S31x512 1 := cmpf .olt main_v4 main_v5
  let main_c_1 : IVec S_ 1 := constantI S_ 1 1#1
  let main_v7 : IVec S_ 1 := (fun x v => Host.reduce IntOp.andi x v reducesTo_S31x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Pre_finite_ffn2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1024 .f32) (main_arg6 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_ffn_bwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_mix_in.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x2048 .f32) (main_arg3 : FVec F S8192x1024 .f32) (main_arg4 : FVec F S8192x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S8192x2048 .f32 := Host.absf main_arg4
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== MixIn.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S1024x4x512 : Shape := ⟨3, ![1024, 4, 512]⟩
abbrev S4x1024x512 : Shape := ⟨3, ![4, 1024, 512]⟩
abbrev S8192x512 : Shape := ⟨2, ![8192, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S8192x2048, .bf16⟩
  | .hbm, ⟨9, _⟩ => ⟨S8192x1024, .bf16⟩
  | .hbm, ⟨10, _⟩ => ⟨S8192x512, .bf16⟩
  | .hbm, ⟨11, _⟩ => ⟨S8192x512, .bf16⟩
  | .hbm, ⟨12, _⟩ => ⟨S1x1024, .f32⟩
  | .hbm, ⟨13, _⟩ => ⟨S8192x1024, .f32⟩
  | .hbm, ⟨14, _⟩ => ⟨S4x1024x512, .f32⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S4x1024x512, .bf16⟩
  | .local _ .vmem, ⟨12, _⟩ => ⟨S512x1024, .f32⟩
  | .local _ .vmem, ⟨13, _⟩ => ⟨S512x1024, .f32⟩
  | .local _ .vmem, ⟨14, _⟩ => ⟨S4x1024x512, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixInRefIdeal.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S2048x1024, .f32⟩
  | .hbm, ⟨27, _⟩ => ⟨S1024x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x4x512, .f32⟩
  | .hbm, ⟨56, _⟩ => ⟨S4x1024x512, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Ffn2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x4x704x1024 : Shape := ⟨4, ![1, 4, 704, 1024]⟩
abbrev S3x4x704x1024 : Shape := ⟨4, ![3, 4, 704, 1024]⟩
abbrev S1x1024 : Shape := ⟨2, ![1, 1024]⟩
abbrev S4x8192x704 : Shape := ⟨3, ![4, 8192, 704]⟩
abbrev S8x128 : Shape := ⟨2, ![8, 128]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S1024x1 : Shape := ⟨2, ![1024, 1]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 24
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S2816x1024, .f32⟩
  | .hbm, ⟨8, _⟩ => ⟨S4x704x1024, .f32⟩
  | .hbm, ⟨9, _⟩ => ⟨S2816x1024, .f32⟩
  | .hbm, ⟨10, _⟩ => ⟨S4x704x1024, .f32⟩
  | .hbm, ⟨11, _⟩ => ⟨S4x704x1024, .f32⟩
  | .hbm, ⟨12, _⟩ => ⟨S1x4x704x1024, .f32⟩
  | .hbm, ⟨13, _⟩ => ⟨S1x4x704x1024, .f32⟩
  | .hbm, ⟨14, _⟩ => ⟨S1x4x704x1024, .f32⟩
  | .hbm, ⟨15, _⟩ => ⟨S3x4x704x1024, .f32⟩
  | .hbm, ⟨16, _⟩ => ⟨S3x4x704x1024, .bf16⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S4x8192x704, .bf16⟩
  | .hbm, ⟨21, _⟩ => ⟨S4x8192x704, .bf16⟩
  | .hbm, ⟨22, _⟩ => ⟨S8x128, .f32⟩
  | .hbm, ⟨23, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S8x128, .f32⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v116 : BitVec 1 := Scalar.cmpi .eq arg1 c3_i32
  let v117 : BitVec 32 := Scalar.extui v116
  let c0_i32_107 : BitVec 32 := 0#32
  let v118 : BitVec 1 := Scalar.cmpi .ne v117 c0_i32_107
  v118

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Ffn2RefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S8x128 : Shape := ⟨2, ![8, 128]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x4x704, .f32⟩
  | .hbm, ⟨109, _⟩ => ⟨S4x8192x704, .f32⟩
  | .hbm, ⟨110, _⟩ => ⟨S4x8192x704, .bf16⟩
  | .hbm, ⟨111, _⟩ => ⟨S8192x4x704, .f32⟩
  | .hbm, ⟨112, _⟩ => ⟨S4x8192x704, .f32⟩
  | .hbm, ⟨113, _⟩ => ⟨S4x8192x704, .bf16⟩
  | .hbm, ⟨114, _⟩ => ⟨S8x128, .f32⟩
  | .hbm, ⟨115, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_cst_12 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_cst_14 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== Conv.lean ====
abbrev S8192x2048 : Shape := ⟨2, ![8192, 2048]⟩
abbrev S31x512 : Shape := ⟨2, ![31, 512]⟩
abbrev S512 : Shape := ⟨1, ![512]⟩
abbrev S8192x1024 : Shape := ⟨2, ![8192, 1024]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S40x512 : Shape := ⟨2, ![40, 512]⟩
abbrev S512x512 : Shape := ⟨2, ![512, 512]⟩
abbrev S32x512 : Shape := ⟨2, ![32, 512]⟩
abbrev S512x1024 : Shape := ⟨2, ![512, 1024]⟩
abbrev S544x512 : Shape := ⟨2, ![544, 512]⟩
abbrev S7x536x512 : Shape := ⟨3, ![7, 536, 512]⟩
abbrev S64x512 : Shape := ⟨2, ![64, 512]⟩
abbrev S64 : Shape := ⟨1, ![64]⟩
abbrev S64x1 : Shape := ⟨2, ![64, 1]⟩
abbrev S536x512 : Shape := ⟨2, ![536, 512]⟩
abbrev S1x536x512 : Shape := ⟨3, ![1, 536, 512]⟩
abbrev S8x512 : Shape := ⟨2, ![8, 512]⟩
abbrev S1x64x512 : Shape := ⟨3, ![1, 64, 512]⟩
abbrev S8x8x512 : Shape := ⟨3, ![8, 8, 512]⟩

abbrev nBuf : Space → Nat
  | .hbm => 181
  | .vmem => 22
  | .smem => 0
  | _ => 0

abbrev hbmTy0_0 (i : Nat) : BufTy := match i % 128 with
  | 0 => ⟨S8192x2048, .f32⟩
  | 1 => ⟨S31x512, .f32⟩
  | 2 => ⟨S512, .f32⟩
  | 3 => ⟨S512, .f32⟩
  | 4 => ⟨S512, .f32⟩
  | 5 => ⟨S8192x1024, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S30x512, .f32⟩
  | 19 => ⟨S8222x512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512, .f32⟩
  | 26 => ⟨S8192x512, .f32⟩
  | 27 => ⟨S8192x512, .f32⟩
  | 28 => ⟨S8192x512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S8192x512, .f32⟩
  | 75 => ⟨S1x512, .f32⟩
  | 76 => ⟨S8192x512, .f32⟩
  | 77 => ⟨S8192x512, .f32⟩
  | 78 => ⟨S8192x512, .f32⟩
  | 79 => ⟨S8192x512, .f32⟩
  | 80 => ⟨S1x512, .f32⟩
  | 81 => ⟨S8192x512, .f32⟩
  | 82 => ⟨S8192x512, .f32⟩
  | 83 => ⟨S8192x512, .f32⟩
  | 84 => ⟨S8192x512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S1x512, .f32⟩
  | 91 => ⟨S8192x512, .f32⟩
  | 92 => ⟨S8192x512, .f32⟩
  | 93 => ⟨S8192x512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S8192x512, .f32⟩
  | 105 => ⟨S1x512, .f32⟩
  | 106 => ⟨S8192x512, .f32⟩
  | 107 => ⟨S8192x512, .f32⟩
  | 108 => ⟨S8192x512, .f32⟩
  | 109 => ⟨S8192x512, .f32⟩
  | 110 => ⟨S1x512, .f32⟩
  | 111 => ⟨S8192x512, .f32⟩
  | 112 => ⟨S8192x512, .f32⟩
  | 113 => ⟨S8192x512, .f32⟩
  | 114 => ⟨S8192x512, .f32⟩
  | 115 => ⟨S1x512, .f32⟩
  | 116 => ⟨S8192x512, .f32⟩
  | 117 => ⟨S8192x512, .f32⟩
  | 118 => ⟨S8192x512, .f32⟩
  | 119 => ⟨S8192x512, .f32⟩
  | 120 => ⟨S1x512, .f32⟩
  | 121 => ⟨S8192x512, .f32⟩
  | 122 => ⟨S8192x512, .f32⟩
  | 123 => ⟨S8192x512, .f32⟩
  | 124 => ⟨S8192x512, .f32⟩
  | 125 => ⟨S1x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S8192x512, .f32⟩
  | 12 => ⟨S1x512, .f32⟩
  | 13 => ⟨S8192x512, .f32⟩
  | 14 => ⟨S8192x512, .f32⟩
  | 15 => ⟨S8192x512, .f32⟩
  | 16 => ⟨S8192x512, .f32⟩
  | 17 => ⟨S1x512, .f32⟩
  | 18 => ⟨S8192x512, .f32⟩
  | 19 => ⟨S8192x512, .f32⟩
  | 20 => ⟨S8192x512, .f32⟩
  | 21 => ⟨S8192x512, .f32⟩
  | 22 => ⟨S1x512, .f32⟩
  | 23 => ⟨S8192x512, .f32⟩
  | 24 => ⟨S8192x512, .f32⟩
  | 25 => ⟨S8192x512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S1x512, .f32⟩
  | 50 => ⟨S1x512, .f32⟩
  | 51 => ⟨S8192x1024, .bf16⟩
  | 52 => ⟨S40x512, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S40x512, .f32⟩
  | .local _ .vmem, ⟨18, _⟩ => ⟨S544x512, .f32⟩
  | .local _ .vmem, ⟨19, _⟩ => ⟨S544x512, .f32⟩
  | .local _ .vmem, ⟨20, _⟩ => ⟨S7x536x512, .f32⟩
  | .local _ .vmem, ⟨21, _⟩ => ⟨S7x536x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170_0 : Ref sig .tc := ⟨.hbm, 179, rfl⟩
abbrev main_v170_1 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S40x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S8192x2048 : Shape := ⟨2, ![8192, 2048]⟩
abbrev S31x512 : Shape := ⟨2, ![31, 512]⟩
abbrev S512 : Shape := ⟨1, ![512]⟩
abbrev S8192x1024 : Shape := ⟨2, ![8192, 1024]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩
abbrev S5x512 : Shape := ⟨2, ![5, 512]⟩
abbrev S40x512 : Shape := ⟨2, ![40, 512]⟩

abbrev nBuf : Space → Nat
  | .hbm => 668
  | .vmem => 0
  | .smem => 0
  | _ => 0

abbrev hbmTy0_0 (i : Nat) : BufTy := match i % 128 with
  | 0 => ⟨S8192x2048, .f32⟩
  | 1 => ⟨S31x512, .f32⟩
  | 2 => ⟨S512, .f32⟩
  | 3 => ⟨S512, .f32⟩
  | 4 => ⟨S512, .f32⟩
  | 5 => ⟨S8192x1024, .f32⟩
  | 6 => ⟨S8192x1024, .f32⟩
  | 7 => ⟨S8192x512, .f32⟩
  | 8 => ⟨S8192x512, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S30x512, .f32⟩
  | 24 => ⟨S8222x512, .f32⟩
  | 25 => ⟨S_, .f32⟩
  | 26 => ⟨S30x512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S1x512, .f32⟩
  | 48 => ⟨S8192x512, .f32⟩
  | 49 => ⟨S8192x512, .f32⟩
  | 50 => ⟨S8192x512, .f32⟩
  | 51 => ⟨S8192x512, .f32⟩
  | 52 => ⟨S1x512, .f32⟩
  | 53 => ⟨S8192x512, .f32⟩
  | 54 => ⟨S8192x512, .f32⟩
  | 55 => ⟨S8192x512, .f32⟩
  | 56 => ⟨S8192x512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S8192x512, .f32⟩
  | 77 => ⟨S1x512, .f32⟩
  | 78 => ⟨S8192x512, .f32⟩
  | 79 => ⟨S8192x512, .f32⟩
  | 80 => ⟨S8192x512, .f32⟩
  | 81 => ⟨S8192x512, .f32⟩
  | 82 => ⟨S1x512, .f32⟩
  | 83 => ⟨S8192x512, .f32⟩
  | 84 => ⟨S8192x512, .f32⟩
  | 85 => ⟨S8192x512, .f32⟩
  | 86 => ⟨S8192x512, .f32⟩
  | 87 => ⟨S1x512, .f32⟩
  | 88 => ⟨S8192x512, .f32⟩
  | 89 => ⟨S8192x512, .f32⟩
  | 90 => ⟨S8192x512, .f32⟩
  | 91 => ⟨S8192x512, .f32⟩
  | 92 => ⟨S1x512, .f32⟩
  | 93 => ⟨S8192x512, .f32⟩
  | 94 => ⟨S8192x512, .f32⟩
  | 95 => ⟨S8192x512, .f32⟩
  | 96 => ⟨S8192x512, .f32⟩
  | 97 => ⟨S1x512, .f32⟩
  | 98 => ⟨S8192x512, .f32⟩
  | 99 => ⟨S8192x512, .f32⟩
  | 100 => ⟨S8192x512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S8192x512, .f32⟩
  | 112 => ⟨S1x512, .f32⟩
  | 113 => ⟨S8192x512, .f32⟩
  | 114 => ⟨S8192x512, .f32⟩
  | 115 => ⟨S8192x512, .f32⟩
  | 116 => ⟨S8192x512, .f32⟩
  | 117 => ⟨S1x512, .f32⟩
  | 118 => ⟨S8192x512, .f32⟩
  | 119 => ⟨S8192x512, .f32⟩
  | 120 => ⟨S8192x512, .f32⟩
  | 121 => ⟨S8192x512, .f32⟩
  | 122 => ⟨S1x512, .f32⟩
  | 123 => ⟨S8192x512, .f32⟩
  | 124 => ⟨S8192x512, .f32⟩
  | 125 => ⟨S8192x512, .f32⟩
  | 126 => ⟨S8192x512, .f32⟩
  | 127 => ⟨S1x512, .f32⟩
  | _ => ⟨S8192x2048, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x512, .f32⟩
  | 5 => ⟨S8192x512, .f32⟩
  | 6 => ⟨S8192x512, .f32⟩
  | 7 => ⟨S8192x512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S8192x512, .f32⟩
  | 14 => ⟨S1x512, .f32⟩
  | 15 => ⟨S8192x512, .f32⟩
  | 16 => ⟨S8192x512, .f32⟩
  | 17 => ⟨S8192x512, .f32⟩
  | 18 => ⟨S8192x512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S8192x512, .f32⟩
  | 26 => ⟨S8192x512, .f32⟩
  | 27 => ⟨S8192x512, .f32⟩
  | 28 => ⟨S8192x512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S8192x512, .f32⟩
  | 55 => ⟨S8192x512, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x512, .f32⟩
  | 63 => ⟨S8192x512, .f32⟩
  | 64 => ⟨S8192x512, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x512, .f32⟩
  | 80 => ⟨S8192x512, .f32⟩
  | 81 => ⟨S1x512, .f32⟩
  | 82 => ⟨S8192x512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S_, .f32⟩
  | 106 => ⟨S512, .f32⟩
  | 107 => ⟨S1x512, .f32⟩
  | 108 => ⟨S_, .f32⟩
  | 109 => ⟨S512, .f32⟩
  | 110 => ⟨S8192x512, .f32⟩
  | 111 => ⟨S_, .f32⟩
  | 112 => ⟨S512, .f32⟩
  | 113 => ⟨S1x512, .f32⟩
  | 114 => ⟨S8192x512, .f32⟩
  | 115 => ⟨S8192x512, .f32⟩
  | 116 => ⟨S_, .f32⟩
  | 117 => ⟨S512, .f32⟩
  | 118 => ⟨S8192x512, .f32⟩
  | 119 => ⟨S_, .f32⟩
  | 120 => ⟨S8192, .f32⟩
  | 121 => ⟨S8192x1, .f32⟩
  | 122 => ⟨S8192x512, .f32⟩
  | 123 => ⟨S8192x512, .f32⟩
  | 124 => ⟨S8192x1, .f32⟩
  | 125 => ⟨S_, .f32⟩
  | 126 => ⟨S8192x1, .f32⟩
  | 127 => ⟨S8192x1, .f32⟩
  | _ => ⟨S8192x2048, .f32⟩

abbrev hbmTy0_2 (i : Nat) : BufTy := match i % 128 with
  | 0 => ⟨S_, .f32⟩
  | 1 => ⟨S8192, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192, .f32⟩
  | 16 => ⟨S8192x512, .f32⟩
  | 17 => ⟨S8192x512, .f32⟩
  | 18 => ⟨S_, .f32⟩
  | 19 => ⟨S512, .f32⟩
  | 20 => ⟨S1x512, .f32⟩
  | 21 => ⟨S_, .f32⟩
  | 22 => ⟨S512, .f32⟩
  | 23 => ⟨S8192x512, .f32⟩
  | 24 => ⟨S_, .f32⟩
  | 25 => ⟨S512, .f32⟩
  | 26 => ⟨S1x512, .f32⟩
  | 27 => ⟨S8192x512, .f32⟩
  | 28 => ⟨S8192x512, .f32⟩
  | 29 => ⟨S_, .f32⟩
  | 30 => ⟨S31x512, .f32⟩
  | 31 => ⟨S_, .f32⟩
  | 32 => ⟨S8222x512, .f32⟩
  | 33 => ⟨S8192x512, .f32⟩
  | 34 => ⟨S_, .f32⟩
  | 35 => ⟨S512, .f32⟩
  | 36 => ⟨S1x512, .f32⟩
  | 37 => ⟨S8192x512, .f32⟩
  | 38 => ⟨S8192x512, .f32⟩
  | 39 => ⟨S_, .f32⟩
  | 40 => ⟨S31x512, .f32⟩
  | 41 => ⟨S31x512, .f32⟩
  | 42 => ⟨S_, .f32⟩
  | 43 => ⟨S8222x512, .f32⟩
  | 44 => ⟨S8222x512, .f32⟩
  | 45 => ⟨S8192x512, .f32⟩
  | 46 => ⟨S_, .f32⟩
  | 47 => ⟨S512, .f32⟩
  | 48 => ⟨S1x512, .f32⟩
  | 49 => ⟨S8192x512, .f32⟩
  | 50 => ⟨S8192x512, .f32⟩
  | 51 => ⟨S_, .f32⟩
  | 52 => ⟨S31x512, .f32⟩
  | 53 => ⟨S31x512, .f32⟩
  | 54 => ⟨S_, .f32⟩
  | 55 => ⟨S8222x512, .f32⟩
  | 56 => ⟨S8222x512, .f32⟩
  | 57 => ⟨S8192x512, .f32⟩
  | 58 => ⟨S_, .f32⟩
  | 59 => ⟨S512, .f32⟩
  | 60 => ⟨S1x512, .f32⟩
  | 61 => ⟨S8192x512, .f32⟩
  | 62 => ⟨S8192x512, .f32⟩
  | 63 => ⟨S_, .f32⟩
  | 64 => ⟨S31x512, .f32⟩
  | 65 => ⟨S31x512, .f32⟩
  | 66 => ⟨S_, .f32⟩
  | 67 => ⟨S8222x512, .f32⟩
  | 68 => ⟨S8222x512, .f32⟩
  | 69 => ⟨S8192x512, .f32⟩
  | 70 => ⟨S_, .f32⟩
  | 71 => ⟨S512, .f32⟩
  | 72 => ⟨S1x512, .f32⟩
  | 73 => ⟨S8192x512, .f32⟩
  | 74 => ⟨S8192x512, .f32⟩
  | 75 => ⟨S_, .f32⟩
  | 76 => ⟨S31x512, .f32⟩
  | 77 => ⟨S31x512, .f32⟩
  | 78 => ⟨S_, .f32⟩
  | 79 => ⟨S8222x512, .f32⟩
  | 80 => ⟨S8222x512, .f32⟩
  | 81 => ⟨S8192x512, .f32⟩
  | 82 => ⟨S_, .f32⟩
  | 83 => ⟨S512, .f32⟩
  | 84 => ⟨S1x512, .f32⟩
  | 85 => ⟨S8192x512, .f32⟩
  | 86 => ⟨S8192x512, .f32⟩
  | 87 => ⟨S_, .f32⟩
  | 88 => ⟨S31x512, .f32⟩
  | 89 => ⟨S31x512, .f32⟩
  | 90 => ⟨S_, .f32⟩
  | 91 => ⟨S8222x512, .f32⟩
  | 92 => ⟨S8222x512, .f32⟩
  | 93 => ⟨S8192x512, .f32⟩
  | 94 => ⟨S_, .f32⟩
  | 95 => ⟨S512, .f32⟩
  | 96 => ⟨S1x512, .f32⟩
  | 97 => ⟨S8192x512, .f32⟩
  | 98 => ⟨S8192x512, .f32⟩
  | 99 => ⟨S_, .f32⟩
  | 100 => ⟨S31x512, .f32⟩
  | 101 => ⟨S31x512, .f32⟩
  | 102 => ⟨S_, .f32⟩
  | 103 => ⟨S8222x512, .f32⟩
  | 104 => ⟨S8222x512, .f32⟩
  | 105 => ⟨S8192x512, .f32⟩
  | 106 => ⟨S_, .f32⟩
  | 107 => ⟨S512, .f32⟩
  | 108 => ⟨S1x512, .f32⟩
  | 109 => ⟨S8192x512, .f32⟩
  | 110 => ⟨S8192x512, .f32⟩
  | 111 => ⟨S_, .f32⟩
  | 112 => ⟨S31x512, .f32⟩
  | 113 => ⟨S31x512, .f32⟩
  | 114 => ⟨S_, .f32⟩
  | 115 => ⟨S8222x512, .f32⟩
  | 116 => ⟨S8222x512, .f32⟩
  | 117 => ⟨S8192x512, .f32⟩
  | 118 => ⟨S_, .f32⟩
  | 119 => ⟨S512, .f32⟩
  | 120 => ⟨S1x512, .f32⟩
  | 121 => ⟨S8192x512, .f32⟩
  | 122 => ⟨S8192x512, .f32⟩
  | 123 => ⟨S_, .f32⟩
  | 124 => ⟨S31x512, .f32⟩
  | 125 => ⟨S31x512, .f32⟩
  | 126 => ⟨S_, .f32⟩
  | 127 => ⟨S8222x512, .f32⟩
  | _ => ⟨S8192x2048, .f32⟩

abbrev hbmTy0_3 (i : Nat) : BufTy := match i % 128 with
  | 0 => ⟨S8222x512, .f32⟩
  | 1 => ⟨S8192x512, .f32⟩
  | 2 => ⟨S_, .f32⟩
  | 3 => ⟨S512, .f32⟩
  | 4 => ⟨S1x512, .f32⟩
  | 5 => ⟨S8192x512, .f32⟩
  | 6 => ⟨S8192x512, .f32⟩
  | 7 => ⟨S_, .f32⟩
  | 8 => ⟨S31x512, .f32⟩
  | 9 => ⟨S31x512, .f32⟩
  | 10 => ⟨S_, .f32⟩
  | 11 => ⟨S8222x512, .f32⟩
  | 12 => ⟨S8222x512, .f32⟩
  | 13 => ⟨S8192x512, .f32⟩
  | 14 => ⟨S_, .f32⟩
  | 15 => ⟨S512, .f32⟩
  | 16 => ⟨S1x512, .f32⟩
  | 17 => ⟨S8192x512, .f32⟩
  | 18 => ⟨S8192x512, .f32⟩
  | 19 => ⟨S_, .f32⟩
  | 20 => ⟨S31x512, .f32⟩
  | 21 => ⟨S31x512, .f32⟩
  | 22 => ⟨S_, .f32⟩
  | 23 => ⟨S8222x512, .f32⟩
  | 24 => ⟨S8222x512, .f32⟩
  | 25 => ⟨S8192x512, .f32⟩
  | 26 => ⟨S_, .f32⟩
  | 27 => ⟨S512, .f32⟩
  | 28 => ⟨S1x512, .f32⟩
  | 29 => ⟨S8192x512, .f32⟩
  | 30 => ⟨S8192x512, .f32⟩
  | 31 => ⟨S_, .f32⟩
  | 32 => ⟨S31x512, .f32⟩
  | 33 => ⟨S31x512, .f32⟩
  | 34 => ⟨S_, .f32⟩
  | 35 => ⟨S8222x512, .f32⟩
  | 36 => ⟨S8222x512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S8192x512, .f32⟩
  | 43 => ⟨S_, .f32⟩
  | 44 => ⟨S31x512, .f32⟩
  | 45 => ⟨S31x512, .f32⟩
  | 46 => ⟨S_, .f32⟩
  | 47 => ⟨S8222x512, .f32⟩
  | 48 => ⟨S8222x512, .f32⟩
  | 49 => ⟨S8192x512, .f32⟩
  | 50 => ⟨S_, .f32⟩
  | 51 => ⟨S512, .f32⟩
  | 52 => ⟨S1x512, .f32⟩
  | 53 => ⟨S8192x512, .f32⟩
  | 54 => ⟨S8192x512, .f32⟩
  | 55 => ⟨S_, .f32⟩
  | 56 => ⟨S31x512, .f32⟩
  | 57 => ⟨S31x512, .f32⟩
  | 58 => ⟨S_, .f32⟩
  | 59 => ⟨S8222x512, .f32⟩
  | 60 => ⟨S8222x512, .f32⟩
  | 61 => ⟨S8192x512, .f32⟩
  | 62 => ⟨S_, .f32⟩
  | 63 => ⟨S512, .f32⟩
  | 64 => ⟨S1x512, .f32⟩
  | 65 => ⟨S8192x512, .f32⟩
  | 66 => ⟨S8192x512, .f32⟩
  | 67 => ⟨S_, .f32⟩
  | 68 => ⟨S31x512, .f32⟩
  | 69 => ⟨S31x512, .f32⟩
  | 70 => ⟨S_, .f32⟩
  | 71 => ⟨S8222x512, .f32⟩
  | 72 => ⟨S8222x512, .f32⟩
  | 73 => ⟨S8192x512, .f32⟩
  | 74 => ⟨S_, .f32⟩
  | 75 => ⟨S512, .f32⟩
  | 76 => ⟨S1x512, .f32⟩
  | 77 => ⟨S8192x512, .f32⟩
  | 78 => ⟨S8192x512, .f32⟩
  | 79 => ⟨S_, .f32⟩
  | 80 => ⟨S31x512, .f32⟩
  | 81 => ⟨S31x512, .f32⟩
  | 82 => ⟨S_, .f32⟩
  | 83 => ⟨S8222x512, .f32⟩
  | 84 => ⟨S8222x512, .f32⟩
  | 85 => ⟨S8192x512, .f32⟩
  | 86 => ⟨S_, .f32⟩
  | 87 => ⟨S512, .f32⟩
  | 88 => ⟨S1x512, .f32⟩
  | 89 => ⟨S8192x512, .f32⟩
  | 90 => ⟨S8192x512, .f32⟩
  | 91 => ⟨S_, .f32⟩
  | 92 => ⟨S31x512, .f32⟩
  | 93 => ⟨S31x512, .f32⟩
  | 94 => ⟨S_, .f32⟩
  | 95 => ⟨S8222x512, .f32⟩
  | 96 => ⟨S8222x512, .f32⟩
  | 97 => ⟨S8192x512, .f32⟩
  | 98 => ⟨S_, .f32⟩
  | 99 => ⟨S512, .f32⟩
  | 100 => ⟨S1x512, .f32⟩
  | 101 => ⟨S8192x512, .f32⟩
  | 102 => ⟨S8192x512, .f32⟩
  | 103 => ⟨S_, .f32⟩
  | 104 => ⟨S31x512, .f32⟩
  | 105 => ⟨S31x512, .f32⟩
  | 106 => ⟨S_, .f32⟩
  | 107 => ⟨S8222x512, .f32⟩
  | 108 => ⟨S8222x512, .f32⟩
  | 109 => ⟨S8192x512, .f32⟩
  | 110 => ⟨S_, .f32⟩
  | 111 => ⟨S512, .f32⟩
  | 112 => ⟨S1x512, .f32⟩
  | 113 => ⟨S8192x512, .f32⟩
  | 114 => ⟨S8192x512, .f32⟩
  | 115 => ⟨S_, .f32⟩
  | 116 => ⟨S31x512, .f32⟩
  | 117 => ⟨S31x512, .f32⟩
  | 118 => ⟨S_, .f32⟩
  | 119 => ⟨S8222x512, .f32⟩
  | 120 => ⟨S8222x512, .f32⟩
  | 121 => ⟨S8192x512, .f32⟩
  | 122 => ⟨S_, .f32⟩
  | 123 => ⟨S512, .f32⟩
  | 124 => ⟨S1x512, .f32⟩
  | 125 => ⟨S8192x512, .f32⟩
  | 126 => ⟨S8192x512, .f32⟩
  | 127 => ⟨S_, .f32⟩
  | _ => ⟨S8192x2048, .f32⟩

abbrev hbmTy0_4 (i : Nat) : BufTy := match i % 128 with
  | 0 => ⟨S31x512, .f32⟩
  | 1 => ⟨S31x512, .f32⟩
  | 2 => ⟨S_, .f32⟩
  | 3 => ⟨S8222x512, .f32⟩
  | 4 => ⟨S8222x512, .f32⟩
  | 5 => ⟨S8192x512, .f32⟩
  | 6 => ⟨S_, .f32⟩
  | 7 => ⟨S512, .f32⟩
  | 8 => ⟨S1x512, .f32⟩
  | 9 => ⟨S8192x512, .f32⟩
  | 10 => ⟨S8192x512, .f32⟩
  | 11 => ⟨S_, .f32⟩
  | 12 => ⟨S31x512, .f32⟩
  | 13 => ⟨S31x512, .f32⟩
  | 14 => ⟨S_, .f32⟩
  | 15 => ⟨S8222x512, .f32⟩
  | 16 => ⟨S8222x512, .f32⟩
  | 17 => ⟨S8192x512, .f32⟩
  | 18 => ⟨S_, .f32⟩
  | 19 => ⟨S512, .f32⟩
  | 20 => ⟨S1x512, .f32⟩
  | 21 => ⟨S8192x512, .f32⟩
  | 22 => ⟨S8192x512, .f32⟩
  | 23 => ⟨S_, .f32⟩
  | 24 => ⟨S31x512, .f32⟩
  | 25 => ⟨S31x512, .f32⟩
  | 26 => ⟨S_, .f32⟩
  | 27 => ⟨S8222x512, .f32⟩
  | 28 => ⟨S8222x512, .f32⟩
  | 29 => ⟨S8192x512, .f32⟩
  | 30 => ⟨S_, .f32⟩
  | 31 => ⟨S512, .f32⟩
  | 32 => ⟨S1x512, .f32⟩
  | 33 => ⟨S8192x512, .f32⟩
  | 34 => ⟨S8192x512, .f32⟩
  | 35 => ⟨S_, .f32⟩
  | 36 => ⟨S31x512, .f32⟩
  | 37 => ⟨S31x512, .f32⟩
  | 38 => ⟨S_, .f32⟩
  | 39 => ⟨S8222x512, .f32⟩
  | 40 => ⟨S8222x512, .f32⟩
  | 41 => ⟨S8192x512, .f32⟩
  | 42 => ⟨S_, .f32⟩
  | 43 => ⟨S512, .f32⟩
  | 44 => ⟨S1x512, .f32⟩
  | 45 => ⟨S8192x512, .f32⟩
  | 46 => ⟨S8192x512, .f32⟩
  | 47 => ⟨S_, .f32⟩
  | 48 => ⟨S31x512, .f32⟩
  | 49 => ⟨S31x512, .f32⟩
  | 50 => ⟨S_, .f32⟩
  | 51 => ⟨S8222x512, .f32⟩
  | 52 => ⟨S8222x512, .f32⟩
  | 53 => ⟨S8192x512, .f32⟩
  | 54 => ⟨S_, .f32⟩
  | 55 => ⟨S512, .f32⟩
  | 56 => ⟨S1x512, .f32⟩
  | 57 => ⟨S8192x512, .f32⟩
  | 58 => ⟨S8192x512, .f32⟩
  | 59 => ⟨S_, .f32⟩
  | 60 => ⟨S31x512, .f32⟩
  | 61 => ⟨S31x512, .f32⟩
  | 62 => ⟨S_, .f32⟩
  | 63 => ⟨S8222x512, .f32⟩
  | 64 => ⟨S8222x512, .f32⟩
  | 65 => ⟨S8192x512, .f32⟩
  | 66 => ⟨S_, .f32⟩
  | 67 => ⟨S512, .f32⟩
  | 68 => ⟨S1x512, .f32⟩
  | 69 => ⟨S8192x512, .f32⟩
  | 70 => ⟨S8192x512, .f32⟩
  | 71 => ⟨S_, .f32⟩
  | 72 => ⟨S31x512, .f32⟩
  | 73 => ⟨S31x512, .f32⟩
  | 74 => ⟨S_, .f32⟩
  | 75 => ⟨S8222x512, .f32⟩
  | 76 => ⟨S8222x512, .f32⟩
  | 77 => ⟨S8192x512, .f32⟩
  | 78 => ⟨S_, .f32⟩
  | 79 => ⟨S512, .f32⟩
  | 80 => ⟨S1x512, .f32⟩
  | 81 => ⟨S8192x512, .f32⟩
  | 82 => ⟨S8192x512, .f32⟩
  | 83 => ⟨S_, .f32⟩
  | 84 => ⟨S31x512, .f32⟩
  | 85 => ⟨S31x512, .f32⟩
  | 86 => ⟨S_, .f32⟩
  | 87 => ⟨S8222x512, .f32⟩
  | 88 => ⟨S8222x512, .f32⟩
  | 89 => ⟨S8192x512, .f32⟩
  | 90 => ⟨S_, .f32⟩
  | 91 => ⟨S512, .f32⟩
  | 92 => ⟨S1x512, .f32⟩
  | 93 => ⟨S8192x512, .f32⟩
  | 94 => ⟨S8192x512, .f32⟩
  | 95 => ⟨S_, .f32⟩
  | 96 => ⟨S31x512, .f32⟩
  | 97 => ⟨S31x512, .f32⟩
  | 98 => ⟨S_, .f32⟩
  | 99 => ⟨S8222x512, .f32⟩
  | 100 => ⟨S8222x512, .f32⟩
  | 101 => ⟨S8192x512, .f32⟩
  | 102 => ⟨S_, .f32⟩
  | 103 => ⟨S512, .f32⟩
  | 104 => ⟨S1x512, .f32⟩
  | 105 => ⟨S8192x512, .f32⟩
  | 106 => ⟨S8192x512, .f32⟩
  | 107 => ⟨S_, .f32⟩
  | 108 => ⟨S31x512, .f32⟩
  | 109 => ⟨S31x512, .f32⟩
  | 110 => ⟨S_, .f32⟩
  | 111 => ⟨S8222x512, .f32⟩
  | 112 => ⟨S8222x512, .f32⟩
  | 113 => ⟨S8192x512, .f32⟩
  | 114 => ⟨S_, .f32⟩
  | 115 => ⟨S512, .f32⟩
  | 116 => ⟨S1x512, .f32⟩
  | 117 => ⟨S8192x512, .f32⟩
  | 118 => ⟨S8192x512, .f32⟩
  | 119 => ⟨S_, .f32⟩
  | 120 => ⟨S31x512, .f32⟩
  | 121 => ⟨S31x512, .f32⟩
  | 122 => ⟨S_, .f32⟩
  | 123 => ⟨S8222x512, .f32⟩
  | 124 => ⟨S8222x512, .f32⟩
  | 125 => ⟨S8192x512, .f32⟩
  | 126 => ⟨S_, .f32⟩
  | 127 => ⟨S512, .f32⟩
  | _ => ⟨S8192x2048, .f32⟩

abbrev hbmTy0_5 (i : Nat) : BufTy := match i % 128 with
  | 0 => ⟨S1x512, .f32⟩
  | 1 => ⟨S8192x512, .f32⟩
  | 2 => ⟨S8192x512, .f32⟩
  | 3 => ⟨S_, .f32⟩
  | 4 => ⟨S31x512, .f32⟩
  | 5 => ⟨S31x512, .f32⟩
  | 6 => ⟨S_, .f32⟩
  | 7 => ⟨S8222x512, .f32⟩
  | 8 => ⟨S8222x512, .f32⟩
  | 9 => ⟨S30x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S1x512, .f32⟩
  | 21 => ⟨S1x512, .f32⟩
  | 22 => ⟨S1x512, .f32⟩
  | 23 => ⟨S1x512, .f32⟩
  | 24 => ⟨S_, .f32⟩
  | 25 => ⟨S5x512, .f32⟩
  | 26 => ⟨S40x512, .f32⟩
  | 27 => ⟨S8192x1024, .bf16⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_cst_4 : Ref sig .tc := ⟨.hbm, 184, rfl⟩
abbrev main_v173 : Ref sig .tc := ⟨.hbm, 185, rfl⟩
abbrev main_v174 : Ref sig .tc := ⟨.hbm, 186, rfl⟩
abbrev main_cst_5 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_cst_6 : Ref sig .tc := ⟨.hbm, 193, rfl⟩
abbrev main_v180 : Ref sig .tc := ⟨.hbm, 194, rfl⟩
abbrev main_v181 : Ref sig .tc := ⟨.hbm, 195, rfl⟩
abbrev main_cst_7 : Ref sig .tc := ⟨.hbm, 196, rfl⟩
abbrev main_v182 : Ref sig .tc := ⟨.hbm, 197, rfl⟩
abbrev main_v183 : Ref sig .tc := ⟨.hbm, 198, rfl⟩
abbrev main_cst_8 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_cst_9 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_call0_v0 : Ref sig .tc := ⟨.hbm, 215, rfl⟩
abbrev main_call0_v1 : Ref sig .tc := ⟨.hbm, 216, rfl⟩
abbrev main_call0_cst : Ref sig .tc := ⟨.hbm, 217, rfl⟩
abbrev main_call0_v2 : Ref sig .tc := ⟨.hbm, 218, rfl⟩
abbrev main_call0_v3 : Ref sig .tc := ⟨.hbm, 219, rfl⟩
abbrev main_call0_cst_0 : Ref sig .tc := ⟨.hbm, 220, rfl⟩
abbrev main_call0_v4 : Ref sig .tc := ⟨.hbm, 221, rfl⟩
abbrev main_v198_2 : Ref sig .tc := ⟨.hbm, 222, rfl⟩
abbrev main_call0_cst_1 : Ref sig .tc := ⟨.hbm, 223, rfl⟩
abbrev main_call0_v6 : Ref sig .tc := ⟨.hbm, 224, rfl⟩
abbrev main_call0_v7 : Ref sig .tc := ⟨.hbm, 225, rfl⟩
abbrev main_v198_1 : Ref sig .tc := ⟨.hbm, 226, rfl⟩
abbrev main_v198_0 : Ref sig .tc := ⟨.hbm, 227, rfl⟩
abbrev main_v199 : Ref sig .tc := ⟨.hbm, 228, rfl⟩
abbrev main_call1_v0 : Ref sig .tc := ⟨.hbm, 229, rfl⟩
abbrev main_call1_v1 : Ref sig .tc := ⟨.hbm, 230, rfl⟩
abbrev main_call1_v2 : Ref sig .tc := ⟨.hbm, 231, rfl⟩
abbrev main_v200 : Ref sig .tc := ⟨.hbm, 232, rfl⟩
abbrev main_cst_10 : Ref sig .tc := ⟨.hbm, 233, rfl⟩
abbrev main_v201 : Ref sig .tc := ⟨.hbm, 234, rfl⟩
abbrev main_v202 : Ref sig .tc := ⟨.hbm, 235, rfl⟩
abbrev main_cst_11 : Ref sig .tc := ⟨.hbm, 236, rfl⟩
abbrev main_v203 : Ref sig .tc := ⟨.hbm, 237, rfl⟩
abbrev main_v204 : Ref sig .tc := ⟨.hbm, 238, rfl⟩
abbrev main_cst_12 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_cst_13 : Ref sig .tc := ⟨.hbm, 244, rfl⟩
abbrev main_v209 : Ref sig .tc := ⟨.hbm, 245, rfl⟩
abbrev main_v210 : Ref sig .tc := ⟨.hbm, 246, rfl⟩
abbrev main_cst_14 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_cst_15 : Ref sig .tc := ⟨.hbm, 253, rfl⟩
abbrev main_v216 : Ref sig .tc := ⟨.hbm, 254, rfl⟩
abbrev main_v217 : Ref sig .tc := ⟨.hbm, 255, rfl⟩
abbrev main_cst_16 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_cst_17 : Ref sig .tc := ⟨.hbm, 264, rfl⟩
abbrev main_v225 : Ref sig .tc := ⟨.hbm, 265, rfl⟩
abbrev main_v226 : Ref sig .tc := ⟨.hbm, 266, rfl⟩
abbrev main_cst_18 : Ref sig .tc := ⟨.hbm, 267, rfl⟩
abbrev main_v227 : Ref sig .tc := ⟨.hbm, 268, rfl⟩
abbrev main_v228 : Ref sig .tc := ⟨.hbm, 269, rfl⟩
abbrev main_cst_19 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_cst_20 : Ref sig .tc := ⟨.hbm, 274, rfl⟩
abbrev main_v232 : Ref sig .tc := ⟨.hbm, 275, rfl⟩
abbrev main_v233 : Ref sig .tc := ⟨.hbm, 276, rfl⟩
abbrev main_cst_21 : Ref sig .tc := ⟨.hbm, 277, rfl⟩
abbrev main_v234 : Ref sig .tc := ⟨.hbm, 278, rfl⟩
abbrev main_v235 : Ref sig .tc := ⟨.hbm, 279, rfl⟩
abbrev main_cst_22 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_cst_23 : Ref sig .tc := ⟨.hbm, 285, rfl⟩
abbrev main_v240 : Ref sig .tc := ⟨.hbm, 286, rfl⟩
abbrev main_cst_24 : Ref sig .tc := ⟨.hbm, 287, rfl⟩
abbrev main_v241 : Ref sig .tc := ⟨.hbm, 288, rfl⟩
abbrev main_v242 : Ref sig .tc := ⟨.hbm, 289, rfl⟩
abbrev main_cst_25 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_cst_26 : Ref sig .tc := ⟨.hbm, 295, rfl⟩
abbrev main_v247 : Ref sig .tc := ⟨.hbm, 296, rfl⟩
abbrev main_v248 : Ref sig .tc := ⟨.hbm, 297, rfl⟩
abbrev main_cst_27 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_cst_28 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_cst_29 : Ref sig .tc := ⟨.hbm, 307, rfl⟩
abbrev main_v256 : Ref sig .tc := ⟨.hbm, 308, rfl⟩
abbrev main_v257 : Ref sig .tc := ⟨.hbm, 309, rfl⟩
abbrev main_cst_30 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_cst_31 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_cst_32 : Ref sig .tc := ⟨.hbm, 319, rfl⟩
abbrev main_v265 : Ref sig .tc := ⟨.hbm, 320, rfl⟩
abbrev main_v266 : Ref sig .tc := ⟨.hbm, 321, rfl⟩
abbrev main_cst_33 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_cst_34 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_cst_35 : Ref sig .tc := ⟨.hbm, 331, rfl⟩
abbrev main_v274 : Ref sig .tc := ⟨.hbm, 332, rfl⟩
abbrev main_v275 : Ref sig .tc := ⟨.hbm, 333, rfl⟩
abbrev main_cst_36 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_cst_37 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_cst_38 : Ref sig .tc := ⟨.hbm, 343, rfl⟩
abbrev main_v283 : Ref sig .tc := ⟨.hbm, 344, rfl⟩
abbrev main_v284 : Ref sig .tc := ⟨.hbm, 345, rfl⟩
abbrev main_cst_39 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_cst_40 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_cst_41 : Ref sig .tc := ⟨.hbm, 355, rfl⟩
abbrev main_v292 : Ref sig .tc := ⟨.hbm, 356, rfl⟩
abbrev main_v293 : Ref sig .tc := ⟨.hbm, 357, rfl⟩
abbrev main_cst_42 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_cst_43 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_cst_44 : Ref sig .tc := ⟨.hbm, 367, rfl⟩
abbrev main_v301 : Ref sig .tc := ⟨.hbm, 368, rfl⟩
abbrev main_v302 : Ref sig .tc := ⟨.hbm, 369, rfl⟩
abbrev main_cst_45 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_cst_46 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_cst_47 : Ref sig .tc := ⟨.hbm, 379, rfl⟩
abbrev main_v310 : Ref sig .tc := ⟨.hbm, 380, rfl⟩
abbrev main_v311 : Ref sig .tc := ⟨.hbm, 381, rfl⟩
abbrev main_cst_48 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_cst_49 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_cst_50 : Ref sig .tc := ⟨.hbm, 391, rfl⟩
abbrev main_v319 : Ref sig .tc := ⟨.hbm, 392, rfl⟩
abbrev main_v320 : Ref sig .tc := ⟨.hbm, 393, rfl⟩
abbrev main_cst_51 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_cst_52 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_cst_53 : Ref sig .tc := ⟨.hbm, 403, rfl⟩
abbrev main_v328 : Ref sig .tc := ⟨.hbm, 404, rfl⟩
abbrev main_v329 : Ref sig .tc := ⟨.hbm, 405, rfl⟩
abbrev main_cst_54 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_cst_55 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_cst_56 : Ref sig .tc := ⟨.hbm, 415, rfl⟩
abbrev main_v337 : Ref sig .tc := ⟨.hbm, 416, rfl⟩
abbrev main_v338 : Ref sig .tc := ⟨.hbm, 417, rfl⟩
abbrev main_cst_57 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_cst_58 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_cst_59 : Ref sig .tc := ⟨.hbm, 427, rfl⟩
abbrev main_v346 : Ref sig .tc := ⟨.hbm, 428, rfl⟩
abbrev main_v347 : Ref sig .tc := ⟨.hbm, 429, rfl⟩
abbrev main_cst_60 : Ref sig .tc := ⟨.hbm, 430, rfl⟩
abbrev main_v348 : Ref sig .tc := ⟨.hbm, 431, rfl⟩
abbrev main_v349 : Ref sig .tc := ⟨.hbm, 432, rfl⟩
abbrev main_v350 : Ref sig .tc := ⟨.hbm, 433, rfl⟩
abbrev main_cst_61 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_cst_62 : Ref sig .tc := ⟨.hbm, 439, rfl⟩
abbrev main_v355 : Ref sig .tc := ⟨.hbm, 440, rfl⟩
abbrev main_v356 : Ref sig .tc := ⟨.hbm, 441, rfl⟩
abbrev main_cst_63 : Ref sig .tc := ⟨.hbm, 442, rfl⟩
abbrev main_v357 : Ref sig .tc := ⟨.hbm, 443, rfl⟩
abbrev main_v358 : Ref sig .tc := ⟨.hbm, 444, rfl⟩
abbrev main_v359 : Ref sig .tc := ⟨.hbm, 445, rfl⟩
abbrev main_cst_64 : Ref sig .tc := ⟨.hbm, 446, rfl⟩
abbrev main_v360 : Ref sig .tc := ⟨.hbm, 447, rfl⟩
abbrev main_v361 : Ref sig .tc := ⟨.hbm, 448, rfl⟩
abbrev main_v362 : Ref sig .tc := ⟨.hbm, 449, rfl⟩
abbrev main_v363 : Ref sig .tc := ⟨.hbm, 450, rfl⟩
abbrev main_cst_65 : Ref sig .tc := ⟨.hbm, 451, rfl⟩
abbrev main_v364 : Ref sig .tc := ⟨.hbm, 452, rfl⟩
abbrev main_v365 : Ref sig .tc := ⟨.hbm, 453, rfl⟩
abbrev main_cst_66 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_cst_67 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_cst_68 : Ref sig .tc := ⟨.hbm, 463, rfl⟩
abbrev main_v373 : Ref sig .tc := ⟨.hbm, 464, rfl⟩
abbrev main_v374 : Ref sig .tc := ⟨.hbm, 465, rfl⟩
abbrev main_cst_69 : Ref sig .tc := ⟨.hbm, 466, rfl⟩
abbrev main_v375 : Ref sig .tc := ⟨.hbm, 467, rfl⟩
abbrev main_v376 : Ref sig .tc := ⟨.hbm, 468, rfl⟩
abbrev main_v377 : Ref sig .tc := ⟨.hbm, 469, rfl⟩
abbrev main_cst_70 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_cst_71 : Ref sig .tc := ⟨.hbm, 475, rfl⟩
abbrev main_v382 : Ref sig .tc := ⟨.hbm, 476, rfl⟩
abbrev main_v383 : Ref sig .tc := ⟨.hbm, 477, rfl⟩
abbrev main_cst_72 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_cst_73 : Ref sig .tc := ⟨.hbm, 482, rfl⟩
abbrev main_v387 : Ref sig .tc := ⟨.hbm, 483, rfl⟩
abbrev main_v388 : Ref sig .tc := ⟨.hbm, 484, rfl⟩
abbrev main_v389 : Ref sig .tc := ⟨.hbm, 485, rfl⟩
abbrev main_v390 : Ref sig .tc := ⟨.hbm, 486, rfl⟩
abbrev main_cst_74 : Ref sig .tc := ⟨.hbm, 487, rfl⟩
abbrev main_v391 : Ref sig .tc := ⟨.hbm, 488, rfl⟩
abbrev main_v392 : Ref sig .tc := ⟨.hbm, 489, rfl⟩
abbrev main_cst_75 : Ref sig .tc := ⟨.hbm, 490, rfl⟩
abbrev main_v393 : Ref sig .tc := ⟨.hbm, 491, rfl⟩
abbrev main_v394 : Ref sig .tc := ⟨.hbm, 492, rfl⟩
abbrev main_v395 : Ref sig .tc := ⟨.hbm, 493, rfl⟩
abbrev main_cst_76 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_cst_77 : Ref sig .tc := ⟨.hbm, 499, rfl⟩
abbrev main_v400 : Ref sig .tc := ⟨.hbm, 500, rfl⟩
abbrev main_v401 : Ref sig .tc := ⟨.hbm, 501, rfl⟩
abbrev main_cst_78 : Ref sig .tc := ⟨.hbm, 502, rfl⟩
abbrev main_v402 : Ref sig .tc := ⟨.hbm, 503, rfl⟩
abbrev main_v403 : Ref sig .tc := ⟨.hbm, 504, rfl⟩
abbrev main_v404 : Ref sig .tc := ⟨.hbm, 505, rfl⟩
abbrev main_cst_79 : Ref sig .tc := ⟨.hbm, 506, rfl⟩
abbrev main_v405 : Ref sig .tc := ⟨.hbm, 507, rfl⟩
abbrev main_v406 : Ref sig .tc := ⟨.hbm, 508, rfl⟩
abbrev main_v407 : Ref sig .tc := ⟨.hbm, 509, rfl⟩
abbrev main_v408 : Ref sig .tc := ⟨.hbm, 510, rfl⟩
abbrev main_cst_80 : Ref sig .tc := ⟨.hbm, 511, rfl⟩
abbrev main_v409 : Ref sig .tc := ⟨.hbm, 512, rfl⟩
abbrev main_v410 : Ref sig .tc := ⟨.hbm, 513, rfl⟩
abbrev main_cst_81 : Ref sig .tc := ⟨.hbm, 514, rfl⟩
abbrev main_v411 : Ref sig .tc := ⟨.hbm, 515, rfl⟩
abbrev main_v412 : Ref sig .tc := ⟨.hbm, 516, rfl⟩
abbrev main_v413 : Ref sig .tc := ⟨.hbm, 517, rfl⟩
abbrev main_cst_82 : Ref sig .tc := ⟨.hbm, 518, rfl⟩
abbrev main_v414 : Ref sig .tc := ⟨.hbm, 519, rfl⟩
abbrev main_v415 : Ref sig .tc := ⟨.hbm, 520, rfl⟩
abbrev main_v416 : Ref sig .tc := ⟨.hbm, 521, rfl⟩
abbrev main_v417 : Ref sig .tc := ⟨.hbm, 522, rfl⟩
abbrev main_cst_83 : Ref sig .tc := ⟨.hbm, 523, rfl⟩
abbrev main_v418 : Ref sig .tc := ⟨.hbm, 524, rfl⟩
abbrev main_v419 : Ref sig .tc := ⟨.hbm, 525, rfl⟩
abbrev main_cst_84 : Ref sig .tc := ⟨.hbm, 526, rfl⟩
abbrev main_v420 : Ref sig .tc := ⟨.hbm, 527, rfl⟩
abbrev main_v421 : Ref sig .tc := ⟨.hbm, 528, rfl⟩
abbrev main_v422 : Ref sig .tc := ⟨.hbm, 529, rfl⟩
abbrev main_cst_85 : Ref sig .tc := ⟨.hbm, 530, rfl⟩
abbrev main_v423 : Ref sig .tc := ⟨.hbm, 531, rfl⟩
abbrev main_v424 : Ref sig .tc := ⟨.hbm, 532, rfl⟩
abbrev main_v425 : Ref sig .tc := ⟨.hbm, 533, rfl⟩
abbrev main_v426 : Ref sig .tc := ⟨.hbm, 534, rfl⟩
abbrev main_cst_86 : Ref sig .tc := ⟨.hbm, 535, rfl⟩
abbrev main_v427 : Ref sig .tc := ⟨.hbm, 536, rfl⟩
abbrev main_v428 : Ref sig .tc := ⟨.hbm, 537, rfl⟩
abbrev main_cst_87 : Ref sig .tc := ⟨.hbm, 538, rfl⟩
abbrev main_v429 : Ref sig .tc := ⟨.hbm, 539, rfl⟩
abbrev main_v430 : Ref sig .tc := ⟨.hbm, 540, rfl⟩
abbrev main_v431 : Ref sig .tc := ⟨.hbm, 541, rfl⟩
abbrev main_cst_88 : Ref sig .tc := ⟨.hbm, 542, rfl⟩
abbrev main_v432 : Ref sig .tc := ⟨.hbm, 543, rfl⟩
abbrev main_v433 : Ref sig .tc := ⟨.hbm, 544, rfl⟩
abbrev main_v434 : Ref sig .tc := ⟨.hbm, 545, rfl⟩
abbrev main_v435 : Ref sig .tc := ⟨.hbm, 546, rfl⟩
abbrev main_cst_89 : Ref sig .tc := ⟨.hbm, 547, rfl⟩
abbrev main_v436 : Ref sig .tc := ⟨.hbm, 548, rfl⟩
abbrev main_v437 : Ref sig .tc := ⟨.hbm, 549, rfl⟩
abbrev main_cst_90 : Ref sig .tc := ⟨.hbm, 550, rfl⟩
abbrev main_v438 : Ref sig .tc := ⟨.hbm, 551, rfl⟩
abbrev main_v439 : Ref sig .tc := ⟨.hbm, 552, rfl⟩
abbrev main_v440 : Ref sig .tc := ⟨.hbm, 553, rfl⟩
abbrev main_cst_91 : Ref sig .tc := ⟨.hbm, 554, rfl⟩
abbrev main_v441 : Ref sig .tc := ⟨.hbm, 555, rfl⟩
abbrev main_v442 : Ref sig .tc := ⟨.hbm, 556, rfl⟩
abbrev main_v443 : Ref sig .tc := ⟨.hbm, 557, rfl⟩
abbrev main_v444 : Ref sig .tc := ⟨.hbm, 558, rfl⟩
abbrev main_cst_92 : Ref sig .tc := ⟨.hbm, 559, rfl⟩
abbrev main_v445 : Ref sig .tc := ⟨.hbm, 560, rfl⟩
abbrev main_v446 : Ref sig .tc := ⟨.hbm, 561, rfl⟩
abbrev main_cst_93 : Ref sig .tc := ⟨.hbm, 562, rfl⟩
abbrev main_v447 : Ref sig .tc := ⟨.hbm, 563, rfl⟩
abbrev main_v448 : Ref sig .tc := ⟨.hbm, 564, rfl⟩
abbrev main_v449 : Ref sig .tc := ⟨.hbm, 565, rfl⟩
abbrev main_cst_94 : Ref sig .tc := ⟨.hbm, 566, rfl⟩
abbrev main_v450 : Ref sig .tc := ⟨.hbm, 567, rfl⟩
abbrev main_v451 : Ref sig .tc := ⟨.hbm, 568, rfl⟩
abbrev main_v452 : Ref sig .tc := ⟨.hbm, 569, rfl⟩
abbrev main_v453 : Ref sig .tc := ⟨.hbm, 570, rfl⟩
abbrev main_cst_95 : Ref sig .tc := ⟨.hbm, 571, rfl⟩
abbrev main_v454 : Ref sig .tc := ⟨.hbm, 572, rfl⟩
abbrev main_v455 : Ref sig .tc := ⟨.hbm, 573, rfl⟩
abbrev main_cst_96 : Ref sig .tc := ⟨.hbm, 574, rfl⟩
abbrev main_v456 : Ref sig .tc := ⟨.hbm, 575, rfl⟩
abbrev main_v457 : Ref sig .tc := ⟨.hbm, 576, rfl⟩
abbrev main_v458 : Ref sig .tc := ⟨.hbm, 577, rfl⟩
abbrev main_cst_97 : Ref sig .tc := ⟨.hbm, 578, rfl⟩
abbrev main_v459 : Ref sig .tc := ⟨.hbm, 579, rfl⟩
abbrev main_v460 : Ref sig .tc := ⟨.hbm, 580, rfl⟩
abbrev main_v461 : Ref sig .tc := ⟨.hbm, 581, rfl⟩
abbrev main_v462 : Ref sig .tc := ⟨.hbm, 582, rfl⟩
abbrev main_cst_98 : Ref sig .tc := ⟨.hbm, 583, rfl⟩
abbrev main_v463 : Ref sig .tc := ⟨.hbm, 584, rfl⟩
abbrev main_v464 : Ref sig .tc := ⟨.hbm, 585, rfl⟩
abbrev main_cst_99 : Ref sig .tc := ⟨.hbm, 586, rfl⟩
abbrev main_v465 : Ref sig .tc := ⟨.hbm, 587, rfl⟩
abbrev main_v466 : Ref sig .tc := ⟨.hbm, 588, rfl⟩
abbrev main_v467 : Ref sig .tc := ⟨.hbm, 589, rfl⟩
abbrev main_cst_100 : Ref sig .tc := ⟨.hbm, 590, rfl⟩
abbrev main_v468 : Ref sig .tc := ⟨.hbm, 591, rfl⟩
abbrev main_v469 : Ref sig .tc := ⟨.hbm, 592, rfl⟩
abbrev main_v470 : Ref sig .tc := ⟨.hbm, 593, rfl⟩
abbrev main_v471 : Ref sig .tc := ⟨.hbm, 594, rfl⟩
abbrev main_cst_101 : Ref sig .tc := ⟨.hbm, 595, rfl⟩
abbrev main_v472 : Ref sig .tc := ⟨.hbm, 596, rfl⟩
abbrev main_v473 : Ref sig .tc := ⟨.hbm, 597, rfl⟩
abbrev main_cst_102 : Ref sig .tc := ⟨.hbm, 598, rfl⟩
abbrev main_v474 : Ref sig .tc := ⟨.hbm, 599, rfl⟩
abbrev main_v475 : Ref sig .tc := ⟨.hbm, 600, rfl⟩
abbrev main_v476 : Ref sig .tc := ⟨.hbm, 601, rfl⟩
abbrev main_cst_103 : Ref sig .tc := ⟨.hbm, 602, rfl⟩
abbrev main_v477 : Ref sig .tc := ⟨.hbm, 603, rfl⟩
abbrev main_v478 : Ref sig .tc := ⟨.hbm, 604, rfl⟩
abbrev main_v479 : Ref sig .tc := ⟨.hbm, 605, rfl⟩
abbrev main_v480 : Ref sig .tc := ⟨.hbm, 606, rfl⟩
abbrev main_cst_104 : Ref sig .tc := ⟨.hbm, 607, rfl⟩
abbrev main_v481 : Ref sig .tc := ⟨.hbm, 608, rfl⟩
abbrev main_v482 : Ref sig .tc := ⟨.hbm, 609, rfl⟩
abbrev main_cst_105 : Ref sig .tc := ⟨.hbm, 610, rfl⟩
abbrev main_v483 : Ref sig .tc := ⟨.hbm, 611, rfl⟩
abbrev main_v484 : Ref sig .tc := ⟨.hbm, 612, rfl⟩
abbrev main_v485 : Ref sig .tc := ⟨.hbm, 613, rfl⟩
abbrev main_cst_106 : Ref sig .tc := ⟨.hbm, 614, rfl⟩
abbrev main_v486 : Ref sig .tc := ⟨.hbm, 615, rfl⟩
abbrev main_v487 : Ref sig .tc := ⟨.hbm, 616, rfl⟩
abbrev main_v488 : Ref sig .tc := ⟨.hbm, 617, rfl⟩
abbrev main_v489 : Ref sig .tc := ⟨.hbm, 618, rfl⟩
abbrev main_cst_107 : Ref sig .tc := ⟨.hbm, 619, rfl⟩
abbrev main_v490 : Ref sig .tc := ⟨.hbm, 620, rfl⟩
abbrev main_v491 : Ref sig .tc := ⟨.hbm, 621, rfl⟩
abbrev main_cst_108 : Ref sig .tc := ⟨.hbm, 622, rfl⟩
abbrev main_v492 : Ref sig .tc := ⟨.hbm, 623, rfl⟩
abbrev main_v493 : Ref sig .tc := ⟨.hbm, 624, rfl⟩
abbrev main_v494 : Ref sig .tc := ⟨.hbm, 625, rfl⟩
abbrev main_cst_109 : Ref sig .tc := ⟨.hbm, 626, rfl⟩
abbrev main_v495 : Ref sig .tc := ⟨.hbm, 627, rfl⟩
abbrev main_v496 : Ref sig .tc := ⟨.hbm, 628, rfl⟩
abbrev main_v497 : Ref sig .tc := ⟨.hbm, 629, rfl⟩
abbrev main_v498 : Ref sig .tc := ⟨.hbm, 630, rfl⟩
abbrev main_cst_110 : Ref sig .tc := ⟨.hbm, 631, rfl⟩
abbrev main_v499 : Ref sig .tc := ⟨.hbm, 632, rfl⟩
abbrev main_v500 : Ref sig .tc := ⟨.hbm, 633, rfl⟩
abbrev main_cst_111 : Ref sig .tc := ⟨.hbm, 634, rfl⟩
abbrev main_v501 : Ref sig .tc := ⟨.hbm, 635, rfl⟩
abbrev main_v502 : Ref sig .tc := ⟨.hbm, 636, rfl⟩
abbrev main_v503 : Ref sig .tc := ⟨.hbm, 637, rfl⟩
abbrev main_cst_112 : Ref sig .tc := ⟨.hbm, 638, rfl⟩
abbrev main_v504 : Ref sig .tc := ⟨.hbm, 639, rfl⟩
abbrev main_v505 : Ref sig .tc := ⟨.hbm, 640, rfl⟩
abbrev main_v506 : Ref sig .tc := ⟨.hbm, 641, rfl⟩
abbrev main_v507 : Ref sig .tc := ⟨.hbm, 642, rfl⟩
abbrev main_cst_113 : Ref sig .tc := ⟨.hbm, 643, rfl⟩
abbrev main_v508 : Ref sig .tc := ⟨.hbm, 644, rfl⟩
abbrev main_v509 : Ref sig .tc := ⟨.hbm, 645, rfl⟩
abbrev main_cst_114 : Ref sig .tc := ⟨.hbm, 646, rfl⟩
abbrev main_v510 : Ref sig .tc := ⟨.hbm, 647, rfl⟩
abbrev main_v511 : Ref sig .tc := ⟨.hbm, 648, rfl⟩
abbrev main_v512 : Ref sig .tc := ⟨.hbm, 649, rfl⟩
abbrev main_v513 : Ref sig .tc := ⟨.hbm, 650, rfl⟩
abbrev main_v514 : Ref sig .tc := ⟨.hbm, 651, rfl⟩
abbrev main_v515 : Ref sig .tc := ⟨.hbm, 652, rfl⟩
abbrev main_v516 : Ref sig .tc := ⟨.hbm, 653, rfl⟩
abbrev main_cst_115 : Ref sig .tc := ⟨.hbm, 654, rfl⟩
abbrev main_v517 : Ref sig .tc := ⟨.hbm, 655, rfl⟩
abbrev main_cst_116 : Ref sig .tc := ⟨.hbm, 656, rfl⟩
abbrev main_v518 : Ref sig .tc := ⟨.hbm, 657, rfl⟩
abbrev main_v519 : Ref sig .tc := ⟨.hbm, 658, rfl⟩
abbrev main_cst_117 : Ref sig .tc := ⟨.hbm, 659, rfl⟩
abbrev main_v520 : Ref sig .tc := ⟨.hbm, 660, rfl⟩
abbrev main_v521 : Ref sig .tc := ⟨.hbm, 661, rfl⟩
abbrev main_v522 : Ref sig .tc := ⟨.hbm, 662, rfl⟩
abbrev main_v523 : Ref sig .tc := ⟨.hbm, 663, rfl⟩
abbrev main_cst_118 : Ref sig .tc := ⟨.hbm, 664, rfl⟩
abbrev main_v524 : Ref sig .tc := ⟨.hbm, 665, rfl⟩
abbrev main_v525 : Ref sig .tc := ⟨.hbm, 666, rfl⟩
abbrev main_v526 : Ref sig .tc := ⟨.hbm, 667, rfl⟩

abbrev nD : Nat := 1
abbrev τ : Topo := Topo.v7x

variable {F : FTy → Type} [FloatOps F]
-- ==== FfnBwdIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x704x1024 : Shape := ⟨3, ![4, 704, 1024]⟩
abbrev S1x4x704x1024 : Shape := ⟨4, ![1, 4, 704, 1024]⟩
abbrev S3x4x704x1024 : Shape := ⟨4, ![3, 4, 704, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S512x1024 : Shape := ⟨2, ![512, 1024]⟩
abbrev S1x512x704 : Shape := ⟨3, ![1, 512, 704]⟩
abbrev S2x512x704 : Shape := ⟨3, ![2, 512, 704]⟩
abbrev S32x1024 : Shape := ⟨2, ![32, 1024]⟩
abbrev S32 : Shape := ⟨1, ![32]⟩
abbrev S32x1 : Shape := ⟨2, ![32, 1]⟩
abbrev S1x1x704x1024 : Shape := ⟨4, ![1, 1, 704, 1024]⟩
abbrev S704x1024 : Shape := ⟨2, ![704, 1024]⟩
abbrev S512x704 : Shape := ⟨2, ![512, 704]⟩
abbrev S1x32x704 : Shape := ⟨3, ![1, 32, 704]⟩
abbrev S32x704 : Shape := ⟨2, ![32, 704]⟩
abbrev S256x1024 : Shape := ⟨2, ![256, 1024]⟩
abbrev S256x704 : Shape := ⟨2, ![256, 704]⟩
abbrev S1x256x704 : Shape := ⟨3, ![1, 256, 704]⟩

abbrev nBuf : Space → Nat
  | .hbm => 48
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S2816x1024, .f32⟩
  | .hbm, ⟨23, _⟩ => ⟨S4x704x1024, .f32⟩
  | .hbm, ⟨24, _⟩ => ⟨S2816x1024, .f32⟩
  | .hbm, ⟨25, _⟩ => ⟨S4x704x1024, .f32⟩
  | .hbm, ⟨26, _⟩ => ⟨S4x704x1024, .f32⟩
  | .hbm, ⟨27, _⟩ => ⟨S1x4x704x1024, .f32⟩
  | .hbm, ⟨28, _⟩ => ⟨S1x4x704x1024, .f32⟩
  | .hbm, ⟨29, _⟩ => ⟨S1x4x704x1024, .f32⟩
  | .hbm, ⟨30, _⟩ => ⟨S3x4x704x1024, .f32⟩
  | .hbm, ⟨31, _⟩ => ⟨S3x4x704x1024, .bf16⟩
  | .hbm, ⟨32, _⟩ => ⟨S1x1024, .f32⟩
  | .hbm, ⟨33, _⟩ => ⟨S8192x2816, .f32⟩
  | .hbm, ⟨34, _⟩ => ⟨S8192x4x704, .f32⟩
  | .hbm, ⟨35, _⟩ => ⟨S4x8192x704, .f32⟩
  | .hbm, ⟨36, _⟩ => ⟨S4x8192x704, .bf16⟩
  | .hbm, ⟨37, _⟩ => ⟨S8192x2816, .f32⟩
  | .hbm, ⟨38, _⟩ => ⟨S8192x4x704, .f32⟩
  | .hbm, ⟨39, _⟩ => ⟨S4x8192x704, .f32⟩
  | .hbm, ⟨40, _⟩ => ⟨S4x8192x704, .bf16⟩
  | .hbm, ⟨41, _⟩ => ⟨S8192x1024, .f32⟩
  | .hbm, ⟨42, _⟩ => ⟨S4x8192x704, .bf16⟩
  | .hbm, ⟨43, _⟩ => ⟨S4x8192x704, .bf16⟩
  | .hbm, ⟨44, _⟩ => ⟨S4x8192x704, .bf16⟩
  | .hbm, ⟨45, _⟩ => ⟨S8192x1024, .bf16⟩
  | .hbm, ⟨46, _⟩ => ⟨S8192x1024, .bf16⟩
  | .hbm, ⟨47, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S3x4x704x1024, .bf16⟩
  | .local _ .vmem, ⟨10, _⟩ => ⟨S512x1024, .f32⟩
  | .local _ .vmem, ⟨11, _⟩ => ⟨S512x1024, .f32⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x1024, .f32⟩
  | .local _ .vmem, ⟨24, _⟩ => ⟨S2x512x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev main_v32_5 : Ref sig .tc := ⟨.hbm, 46, rfl⟩
abbrev main_v32_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_14 : BitVec 32 := 0#32
  let v28 : BitVec 1 := Scalar.cmpi .eq arg1 c0_i32_14
  let v29 : BitVec 32 := Scalar.extui v28
  let c0_i32_17 : BitVec 32 := 0#32
  let v30 : BitVec 1 := Scalar.cmpi .ne v29 c0_i32_17
  v30

def k0_off1 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v403 : Index := Scalar.indexCast v9
  let c0_244 : Index := 0#32
  let c0_245 : Index := 0#32
  ![v403.toNat, 0, 0]
def k0_cond3 (i : grid0.Coords) : BitVec 1 :=
  let arg1 : BitVec 32 := BitVec.ofNat 32 (i 1).val
  let c3_i32_18 : BitVec 32 := 3#32
  let v31 : BitVec 1 := Scalar.cmpi .slt arg1 c3_i32_18
  let v32 : BitVec 32 := Scalar.extui v31
  let c0_i32_22 : BitVec 32 := 0#32
  let v33 : BitVec 1 := Scalar.cmpi .ne v32 c0_i32_22
  v33

def k0_off2 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_34 : BitVec 32 := 0#32
  let c0_i32_35 : BitVec 32 := 0#32
  ![v9.toNat, 0, 0]
def k0_off3 (i : grid0.Coords) : Fin 4 → Nat :=
  let c2_i32_19 : BitVec 32 := 2#32
  let v306 : Index := Scalar.indexCast c2_i32_19
  let arg1 : BitVec 32 := BitVec.ofNat 32 (i 1).val
  let c1_i32_10 : BitVec 32 := 1#32
  let v21 : BitVec 32 := Scalar.addi arg1 c1_i32_10
  let c3_i32 : BitVec 32 := 3#32
  let v22 : BitVec 32 := Scalar.minsi v21 c3_i32
  let v307 : Index := Scalar.indexCast v22
  let c0_190 : Index := 0#32
  let c0_191 : Index := 0#32
  ![2, v307.toNat, 0, 0]
def k0_off4 (i : grid0.Coords) : Fin 3 → Nat :=
  let arg1 : BitVec 32 := BitVec.ofNat 32 (i 1).val
  let c1_i32_3 : BitVec 32 := 1#32
  let v10 : BitVec 32 := Scalar.addi arg1 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_193 : BitVec 32 := 0#32
  let c0_i32_194 : BitVec 32 := 0#32
  ![v20.toNat, 0, 0]
def k0_off5 (i : grid0.Coords) : Fin 4 → Nat :=
  let c0_i32_20 : BitVec 32 := 0#32
  let v319 : Index := Scalar.indexCast c0_i32_20
  let arg1 : BitVec 32 := BitVec.ofNat 32 (i 1).val
  let v320 : Index := Scalar.indexCast arg1
  let c0_202 : Index := 0#32
  let c0_203 : Index := 0#32
  ![0, v320.toNat, 0, 0]
def k0_off6 (i : grid0.Coords) : Fin 4 → Nat :=
  let c1_i32_21 : BitVec 32 := 1#32
  let v326 : Index := Scalar.indexCast c1_i32_21
  let arg1 : BitVec 32 := BitVec.ofNat 32 (i 1).val
  let v327 : Index := Scalar.indexCast arg1
  let c0_208 : Index := 0#32
  let c0_209 : Index := 0#32
  ![1, v327.toNat, 0, 0]
def k0_cond4 (i : grid0.Coords) : BitVec 1 :=
  let arg1 : BitVec 32 := BitVec.ofNat 32 (i 1).val
  let c3_i32_23 : BitVec 32 := 3#32
  let v34 : BitVec 1 := Scalar.cmpi .eq arg1 c3_i32_23
  let v35 : BitVec 32 := Scalar.extui v34
  let c0_i32_26 : BitVec 32 := 0#32
  let v36 : BitVec 1 := Scalar.cmpi .ne v35 c0_i32_26
  v36

def k0_off7 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_34 : BitVec 32 := 0#32
  let c0_i32_35 : BitVec 32 := 0#32
  ![v9.toNat, 0, 0]
def k0_off8 (i : grid0.Coords) : Fin 4 → Nat :=
  let c0_i32_24 : BitVec 32 := 0#32
  let v307 : Index := Scalar.indexCast c0_i32_24
  let arg1 : BitVec 32 := BitVec.ofNat 32 (i 1).val
  let v308 : Index := Scalar.indexCast arg1
  let c0_193 : Index := 0#32
  let c0_194 : Index := 0#32
  ![0, v308.toNat, 0, 0]
def k0_off9 (i : grid0.Coords) : Fin 4 → Nat :=
  let c1_i32_25 : BitVec 32 := 1#32
  let v314 : Index := Scalar.indexCast c1_i32_25
  let arg1 : BitVec 32 := BitVec.ofNat 32 (i 1).val
  let v315 : Index := Scalar.indexCast arg1
  let c0_199 : Index := 0#32
  let c0_200 : Index := 0#32
  ![1, v315.toNat, 0, 0]
def k0_cond5 (i : grid0.Coords) : BitVec 1 :=
  let arg1 : BitVec 32 := BitVec.ofNat 32 (i 1).val
  let c3_i32_27 : BitVec 32 := 3#32
  let v37 : BitVec 1 := Scalar.cmpi .eq arg1 c3_i32_27
  let v38 : BitVec 32 := Scalar.extui v37
  let c0_i32_28 : BitVec 32 := 0#32
  let v39 : BitVec 1 := Scalar.cmpi .ne v38 c0_i32_28
  v39

def k0_cond1 (i : grid0.Coords) : BitVec 1 :=
  let arg0 : BitVec 32 := BitVec.ofNat 32 (i 0).val
  let c0_i32_11 : BitVec 32 := 0#32
  let v23 : BitVec 1 := Scalar.cmpi .eq arg0 c0_i32_11
  let arg1 : BitVec 32 := BitVec.ofNat 32 (i 1).val
  let c0_i32_12 : BitVec 32 := 0#32
  let v24 : BitVec 1 := Scalar.cmpi .eq arg1 c0_i32_12
  let v25 : BitVec 1 := Scalar.andi v23 v24
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnBwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x2816, .f32⟩
  | 23 => ⟨S8192x2816, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S8192x2816, .f32⟩
  | 45 => ⟨S8192x2816, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S_, .f32⟩
  | 52 => ⟨S8192x2816, .f32⟩
  | 53 => ⟨S8192x2816, .f32⟩
  | 54 => ⟨S_, .f32⟩
  | 55 => ⟨S8192x2816, .f32⟩
  | 56 => ⟨S8192x2816, .f32⟩
  | 57 => ⟨S8192x2816, .f32⟩
  | 58 => ⟨S8192x2816, .f32⟩
  | 59 => ⟨S8192x2816, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S8192x2816, .f32⟩
  | 75 => ⟨S8192x2816, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S8192x1024, .f32⟩
  | 85 => ⟨S_, .f32⟩
  | 86 => ⟨S1024, .f32⟩
  | 87 => ⟨S8192x1024, .f32⟩
  | 88 => ⟨S_, .f32⟩
  | 89 => ⟨S8192, .f32⟩
  | 90 => ⟨S8192x1, .f32⟩
  | 91 => ⟨S8192x1024, .f32⟩
  | 92 => ⟨S8192x1024, .f32⟩
  | 93 => ⟨S8192x1024, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8192x4x704, .f32⟩
  | 6 => ⟨S4x8192x704, .f32⟩
  | 7 => ⟨S4x8192x704, .bf16⟩
  | 8 => ⟨S8192x4x704, .f32⟩
  | 9 => ⟨S4x8192x704, .f32⟩
  | 10 => ⟨S4x8192x704, .bf16⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S8192x2816, .f32⟩
  | 20 => ⟨S8192x2816, .f32⟩
  | 21 => ⟨S8192x4x704, .f32⟩
  | 22 => ⟨S4x8192x704, .f32⟩
  | 23 => ⟨S4x8192x704, .bf16⟩
  | 24 => ⟨S8192x1024, .bf16⟩
  | 25 => ⟨S_, .f32⟩
  | 26 => ⟨S8192x1024, .f32⟩
  | 27 => ⟨S8192x1024, .f32⟩
  | 28 => ⟨S8192x1024, .bf16⟩
  | 29 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v33_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v33_1 : Ref sig .tc := ⟨.hbm, 57, rfl⟩
abbrev main_v33_0 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_15 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩

abbrev nD : Nat := 1
abbrev τ : Topo := Topo.v7x

variable {F : FTy → Type} [FloatOps F]
-- ==== Ffn1.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x4x704x1024 : Shape := ⟨4, ![1, 4, 704, 1024]⟩
abbrev S3x4x704x1024 : Shape := ⟨4, ![3, 4, 704, 1024]⟩
abbrev S1x1024 : Shape := ⟨2, ![1, 1024]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S1024x1 : Shape := ⟨2, ![1024, 1]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S4x704x1024, .f32⟩
  | .hbm, ⟨7, _⟩ => ⟨S2816x1024, .f32⟩
  | .hbm, ⟨8, _⟩ => ⟨S4x704x1024, .f32⟩
  | .hbm, ⟨9, _⟩ => ⟨S4x704x1024, .f32⟩
  | .hbm, ⟨10, _⟩ => ⟨S1x4x704x1024, .f32⟩
  | .hbm, ⟨11, _⟩ => ⟨S1x4x704x1024, .f32⟩
  | .hbm, ⟨12, _⟩ => ⟨S1x4x704x1024, .f32⟩
  | .hbm, ⟨13, _⟩ => ⟨S3x4x704x1024, .f32⟩
  | .hbm, ⟨14, _⟩ => ⟨S3x4x704x1024, .bf16⟩
  | .hbm, ⟨15, _⟩ => ⟨S1x1024, .f32⟩
  | .hbm, ⟨16, _⟩ => ⟨S8192x1024, .f32⟩
  | .hbm, ⟨17, _⟩ => ⟨S4x8192x704, .bf16⟩
  | .hbm, ⟨18, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v111 : BitVec 1 := Scalar.cmpi .eq arg1 c3_i32
  let v112 : BitVec 32 := Scalar.extui v111
  let c0_i32_104 : BitVec 32 := 0#32
  let v113 : BitVec 1 := Scalar.cmpi .ne v112 c0_i32_104
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ffn1RefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x4x704, .f32⟩
  | .hbm, ⟨39, _⟩ => ⟨S4x8192x704, .f32⟩
  | .hbm, ⟨40, _⟩ => ⟨S4x8192x704, .bf16⟩
  | .hbm, ⟨41, _⟩ => ⟨S8192x4x704, .f32⟩
  | .hbm, ⟨42, _⟩ => ⟨S4x8192x704, .f32⟩
  | .hbm, ⟨43, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== MixFwd.lean ====
abbrev S8192x1024 : Shape := ⟨2, ![8192, 1024]⟩
abbrev S1024 : Shape := ⟨1, ![1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S8192x2048 : Shape := ⟨2, ![8192, 2048]⟩
abbrev S1024x1024 : Shape := ⟨2, ![1024, 1024]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S1x1024, .f32⟩
  | .hbm, ⟨7, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x512, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixFwdRefIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ConvFwd.lean ====
abbrev S8192x2048 : Shape := ⟨2, ![8192, 2048]⟩
abbrev S31x512 : Shape := ⟨2, ![31, 512]⟩
abbrev S512 : Shape := ⟨1, ![512]⟩
abbrev S1x512 : Shape := ⟨2, ![1, 512]⟩
abbrev S8192x512 : Shape := ⟨2, ![8192, 512]⟩
abbrev S512x512 : Shape := ⟨2, ![512, 512]⟩
abbrev S544x512 : Shape := ⟨2, ![544, 512]⟩
abbrev S7x536x512 : Shape := ⟨3, ![7, 536, 512]⟩
abbrev S32x512 : Shape := ⟨2, ![32, 512]⟩
abbrev S536x512 : Shape := ⟨2, ![536, 512]⟩
abbrev S1x536x512 : Shape := ⟨3, ![1, 536, 512]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S8192x512, .bf16⟩
  | .hbm, ⟨9, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S544x512, .f32⟩
  | .local _ .vmem, ⟨13, _⟩ => ⟨S7x536x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvFwdRefIdeal.lean ====
abbrev S8192x2048 : Shape := ⟨2, ![8192, 2048]⟩
abbrev S31x512 : Shape := ⟨2, ![31, 512]⟩
abbrev S512 : Shape := ⟨1, ![512]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩

abbrev nBuf : Space → Nat
  | .hbm => 213
  | .vmem => 0
  | .smem => 0
  | _ => 0

abbrev hbmTy0_0 (i : Nat) : BufTy := match i % 128 with
  | 0 => ⟨S8192x2048, .f32⟩
  | 1 => ⟨S31x512, .f32⟩
  | 2 => ⟨S512, .f32⟩
  | 3 => ⟨S512, .f32⟩
  | 4 => ⟨S512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S30x512, .f32⟩
  | 18 => ⟨S8222x512, .f32⟩
  | 19 => ⟨S8192x512, .f32⟩
  | 20 => ⟨S1x512, .f32⟩
  | 21 => ⟨S8192x512, .f32⟩
  | 22 => ⟨S8192x512, .f32⟩
  | 23 => ⟨S8192x512, .f32⟩
  | 24 => ⟨S1x512, .f32⟩
  | 25 => ⟨S8192x512, .f32⟩
  | 26 => ⟨S8192x512, .f32⟩
  | 27 => ⟨S8192x512, .f32⟩
  | 28 => ⟨S8192x512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S8192x512, .f32⟩
  | 61 => ⟨S8192x512, .f32⟩
  | 62 => ⟨S8192x512, .f32⟩
  | 63 => ⟨S8192x512, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S1x512, .f32⟩
  | 90 => ⟨S8192x512, .f32⟩
  | 91 => ⟨S8192x512, .f32⟩
  | 92 => ⟨S8192x512, .f32⟩
  | 93 => ⟨S8192x512, .f32⟩
  | 94 => ⟨S1x512, .f32⟩
  | 95 => ⟨S8192x512, .f32⟩
  | 96 => ⟨S8192x512, .f32⟩
  | 97 => ⟨S8192x512, .f32⟩
  | 98 => ⟨S8192x512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S1x512, .f32⟩
  | 105 => ⟨S8192x512, .f32⟩
  | 106 => ⟨S8192x512, .f32⟩
  | 107 => ⟨S8192x512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S8192x512, .f32⟩
  | 119 => ⟨S1x512, .f32⟩
  | 120 => ⟨S8192x512, .f32⟩
  | 121 => ⟨S8192x512, .f32⟩
  | 122 => ⟨S8192x512, .f32⟩
  | 123 => ⟨S8192x512, .f32⟩
  | 124 => ⟨S1x512, .f32⟩
  | 125 => ⟨S8192x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S1x512, .f32⟩
  | 2 => ⟨S8192x512, .f32⟩
  | 3 => ⟨S8192x512, .f32⟩
  | 4 => ⟨S8192x512, .f32⟩
  | 5 => ⟨S8192x512, .f32⟩
  | 6 => ⟨S1x512, .f32⟩
  | 7 => ⟨S8192x512, .f32⟩
  | 8 => ⟨S8192x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S8192x512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S8192x512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S8192x512, .f32⟩
  | 45 => ⟨S1x512, .f32⟩
  | 46 => ⟨S8192x512, .f32⟩
  | 47 => ⟨S8192x512, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x512, .f32⟩
  | 55 => ⟨S8192x512, .f32⟩
  | 56 => ⟨S8192x512, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x512, .f32⟩
  | 68 => ⟨S8192x512, .f32⟩
  | 69 => ⟨S1x512, .f32⟩
  | 70 => ⟨S8192x512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S8192x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_cst_2 : Ref sig .tc := ⟨.hbm, 176, rfl⟩
abbrev main_v168 : Ref sig .tc := ⟨.hbm, 177, rfl⟩
abbrev main_v169 : Ref sig .tc := ⟨.hbm, 178, rfl⟩
abbrev main_cst_3 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_cst_4 : Ref sig .tc := ⟨.hbm, 185, rfl⟩
abbrev main_v175 : Ref sig .tc := ⟨.hbm, 186, rfl⟩
abbrev main_v176 : Ref sig .tc := ⟨.hbm, 187, rfl⟩
abbrev main_cst_5 : Ref sig .tc := ⟨.hbm, 188, rfl⟩
abbrev main_v177 : Ref sig .tc := ⟨.hbm, 189, rfl⟩
abbrev main_v178 : Ref sig .tc := ⟨.hbm, 190, rfl⟩
abbrev main_cst_6 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_call0_v0 : Ref sig .tc := ⟨.hbm, 203, rfl⟩
abbrev main_call0_v1 : Ref sig .tc := ⟨.hbm, 204, rfl⟩
abbrev main_call0_cst : Ref sig .tc := ⟨.hbm, 205, rfl⟩
abbrev main_call0_v2 : Ref sig .tc := ⟨.hbm, 206, rfl⟩
abbrev main_call0_v3 : Ref sig .tc := ⟨.hbm, 207, rfl⟩
abbrev main_call0_cst_0 : Ref sig .tc := ⟨.hbm, 208, rfl⟩
abbrev main_call0_v4 : Ref sig .tc := ⟨.hbm, 209, rfl⟩
abbrev main_call0_v5 : Ref sig .tc := ⟨.hbm, 210, rfl⟩
abbrev main_v190 : Ref sig .tc := ⟨.hbm, 211, rfl⟩
abbrev main_v191 : Ref sig .tc := ⟨.hbm, 212, rfl⟩

abbrev nD : Nat := 1
abbrev τ : Topo := Topo.v7x

variable {F : FTy → Type} [FloatOps F]
-- ==== Wgrad.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S_ : Shape := ⟨0, ![]⟩
abbrev S8x128 : Shape := ⟨2, ![8, 128]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 21
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x1024, .f32⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S8192x4x704, .f32⟩
  | .hbm, ⟨9, _⟩ => ⟨S4x8192x704, .f32⟩
  | .hbm, ⟨10, _⟩ => ⟨S4x8192x704, .bf16⟩
  | .hbm, ⟨11, _⟩ => ⟨S8192x4x704, .f32⟩
  | .hbm, ⟨12, _⟩ => ⟨S4x8192x704, .f32⟩
  | .hbm, ⟨13, _⟩ => ⟨S4x8192x704, .bf16⟩
  | .hbm, ⟨14, _⟩ => ⟨S8192x1024, .bf16⟩
  | .hbm, ⟨15, _⟩ => ⟨S8192x1024, .bf16⟩
  | .hbm, ⟨16, _⟩ => ⟨S_, .f32⟩
  | .hbm, ⟨17, _⟩ => ⟨S8x128, .f32⟩
  | .hbm, ⟨18, _⟩ => ⟨S4x704x1024, .f32⟩
  | .hbm, ⟨19, _⟩ => ⟨S4x704x1024, .f32⟩
  | .hbm, ⟨20, _⟩ => ⟨S4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S8x128, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== WgradRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S_, .f32⟩
  | .hbm, ⟨13, _⟩ => ⟨S1024x2816, .f32⟩
  | .hbm, ⟨14, _⟩ => ⟨S8192x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S4x704x1024, .f32⟩
  | .hbm, ⟨19, _⟩ => ⟨S_, .f32⟩
  | .hbm, ⟨20, _⟩ => ⟨S2816x1024, .f32⟩
  | .hbm, ⟨21, _⟩ => ⟨S8192x1024, .f32⟩
  | .hbm, ⟨22, _⟩ => ⟨S1024x2816, .f32⟩
  | .hbm, ⟨23, _⟩ => ⟨S2816x1024, .f32⟩
  | .hbm, ⟨24, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== MixOut.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S8192x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixOutRefIdeal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MixOutFwd.lean ====
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixOutFwdRefIdeal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Adamw.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDev.lean ====
abbrev S752x128 : Shape := ⟨2, ![752, 128]⟩
abbrev S8x752x128 : Shape := ⟨3, ![8, 752, 128]⟩
abbrev S1 : Shape := ⟨1, ![1]⟩
abbrev S1x752x128 : Shape := ⟨3, ![1, 752, 128]⟩

abbrev nBuf : Space → Nat
  | .hbm => 3
  | .vmem => 3
  | .smem => 1
  | _ => 0

abbrev bufTy : (tb : Table) → Fin (tcTables nBuf tb) → BufTy
  | .hbm, ⟨0, _⟩ => ⟨S752x128, .f32⟩
  | .hbm, ⟨1, _⟩ => ⟨S8x752x128, .f32⟩
  | .hbm, ⟨2, _⟩ => ⟨S752x128, .f32⟩
  | .local _ .vmem, ⟨0, _⟩ => ⟨S752x128, .f32⟩
  | .local _ .vmem, ⟨1, _⟩ => ⟨S8x752x128, .f32⟩
  | .local _ .vmem, ⟨2, _⟩ => ⟨S752x128, .f32⟩
  | .local _ .smem, ⟨0, _⟩ => ⟨S1, .i32⟩
  | _, _ => ⟨S752x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S752x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x752x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S752x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumDevRefIdeal.lean ====
abbrev S752x128 : Shape := ⟨2, ![752, 128]⟩
abbrev S8x752x128 : Shape := ⟨3, ![8, 752, 128]⟩
abbrev S1 : Shape := ⟨1, ![1]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S752x128, .f32⟩
  | .hbm, ⟨1, _⟩ => ⟨S8x752x128, .f32⟩
  | .hbm, ⟨2, _⟩ => ⟨S1, .i32⟩
  | .hbm, ⟨3, _⟩ => ⟨S8, .i32⟩
  | .hbm, ⟨4, _⟩ => ⟨S8x1x1, .i32⟩
  | .hbm, ⟨5, _⟩ => ⟨S1x1x1, .i32⟩
  | .hbm, ⟨6, _⟩ => ⟨S8x1x1, .i32⟩
  | .hbm, ⟨7, _⟩ => ⟨S8x1x1, .i1⟩
  | .hbm, ⟨8, _⟩ => ⟨S8x752x128, .i1⟩
  | .hbm, ⟨9, _⟩ => ⟨S8x752x128, .f32⟩
  | .hbm, ⟨10, _⟩ => ⟨S8x752x128, .f32⟩
  | .hbm, ⟨11, _⟩ => ⟨S_, .f32⟩
  | .hbm, ⟨12, _⟩ => ⟨S752x128, .f32⟩
  | _, _ => ⟨S752x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== AddCast.lean ====
abbrev S4x704x1024 : Shape := ⟨3, ![4, 704, 1024]⟩
abbrev S4x352x1024 : Shape := ⟨3, ![4, 352, 1024]⟩
abbrev S1 : Shape := ⟨1, ![1]⟩
abbrev S1x352x1024 : Shape := ⟨3, ![1, 352, 1024]⟩
abbrev S352x1024 : Shape := ⟨2, ![352, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .bf16⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .bf16⟩
  | .local _ .vmem, ⟨5, _⟩ => ⟨S1x352x1024, .bf16⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddCastRefIdeal.lean ====
abbrev S4x704x1024 : Shape := ⟨3, ![4, 704, 1024]⟩
abbrev S4x352x1024 : Shape := ⟨3, ![4, 352, 1024]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S1, .i32⟩
  | .hbm, ⟨3, _⟩ => ⟨S1x1x1, .i32⟩
  | .hbm, ⟨4, _⟩ => ⟨S_, .i32⟩
  | .hbm, ⟨5, _⟩ => ⟨S1x1x1, .i32⟩
  | .hbm, ⟨6, _⟩ => ⟨S1x1x1, .i1⟩
  | .hbm, ⟨7, _⟩ => ⟨S4x352x1024, .f32⟩
  | .hbm, ⟨8, _⟩ => ⟨S4x352x1024, .f32⟩
  | .hbm, ⟨9, _⟩ => ⟨S4x352x1024, .i1⟩
  | .hbm, ⟨10, _⟩ => ⟨S4x352x1024, .f32⟩
  | .hbm, ⟨11, _⟩ => ⟨S4x352x1024, .f32⟩
  | .hbm, ⟨12, _⟩ => ⟨S4x352x1024, .bf16⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== SumSlots.lean ====
abbrev S4x352x1024 : Shape := ⟨3, ![4, 352, 1024]⟩
abbrev S3x352x1024 : Shape := ⟨3, ![3, 352, 1024]⟩
abbrev S2 : Shape := ⟨1, ![2]⟩
abbrev S1 : Shape := ⟨1, ![1]⟩
abbrev S1x1 : Shape := ⟨2, ![1, 1]⟩
abbrev S_ : Shape := ⟨0, ![]⟩
abbrev S704x1024 : Shape := ⟨2, ![704, 1024]⟩
abbrev S1x176x1024 : Shape := ⟨3, ![1, 176, 1024]⟩
abbrev S3x176x1024 : Shape := ⟨3, ![3, 176, 1024]⟩
abbrev S176x1024 : Shape := ⟨2, ![176, 1024]⟩
abbrev S352x1024 : Shape := ⟨2, ![352, 1024]⟩

abbrev nBuf : Space → Nat
  | .hbm => 12
  | .vmem => 6
  | .smem => 1
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S1, .i32⟩
  | .hbm, ⟨3, _⟩ => ⟨S1x1, .i32⟩
  | .hbm, ⟨4, _⟩ => ⟨S_, .i32⟩
  | .hbm, ⟨5, _⟩ => ⟨S1x1, .i32⟩
  | .hbm, ⟨6, _⟩ => ⟨S1x1, .i1⟩
  | .hbm, ⟨7, _⟩ => ⟨S704x1024, .f32⟩
  | .hbm, ⟨8, _⟩ => ⟨S352x1024, .f32⟩
  | .hbm, ⟨9, _⟩ => ⟨S352x1024, .f32⟩
  | .hbm, ⟨10, _⟩ => ⟨S352x1024, .i1⟩
  | .hbm, ⟨11, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .smem, ⟨0, _⟩ => ⟨S2, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_v7 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumSlotsRefIdeal.lean ====
abbrev S4x352x1024 : Shape := ⟨3, ![4, 352, 1024]⟩
abbrev S3x352x1024 : Shape := ⟨3, ![3, 352, 1024]⟩
abbrev S2 : Shape := ⟨1, ![2]⟩
abbrev S4 : Shape := ⟨1, ![4]⟩
abbrev S4x1x1 : Shape := ⟨3, ![4, 1, 1]⟩
abbrev S1 : Shape := ⟨1, ![1]⟩
abbrev S1x1x1 : Shape := ⟨3, ![1, 1, 1]⟩
abbrev S_ : Shape := ⟨0, ![]⟩
abbrev S352x1024 : Shape := ⟨2, ![352, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S2, .i32⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S1x1x1, .i32⟩
  | .hbm, ⟨7, _⟩ => ⟨S4x1x1, .i32⟩
  | .hbm, ⟨8, _⟩ => ⟨S4x1x1, .i1⟩
  | .hbm, ⟨9, _⟩ => ⟨S4x352x1024, .f32⟩
  | .hbm, ⟨10, _⟩ => ⟨S_, .f32⟩
  | .hbm, ⟨11, _⟩ => ⟨S_, .f32⟩
  | .hbm, ⟨12, _⟩ => ⟨S4x352x1024, .i1⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S352x1024, .f32⟩
  | .hbm, ⟨17, _⟩ => ⟨S3x352x1024, .f32⟩
  | .hbm, ⟨18, _⟩ => ⟨S_, .f32⟩
  | .hbm, ⟨19, _⟩ => ⟨S352x1024, .f32⟩
  | .hbm, ⟨20, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== PlaceCast.lean ====
abbrev S704x1024 : Shape := ⟨2, ![704, 1024]⟩
abbrev S2 : Shape := ⟨1, ![2]⟩
abbrev S1 : Shape := ⟨1, ![1]⟩
abbrev S1x1x1 : Shape := ⟨3, ![1, 1, 1]⟩
abbrev S_ : Shape := ⟨0, ![]⟩
abbrev S3x4x704x1024 : Shape := ⟨4, ![3, 4, 704, 1024]⟩
abbrev S176x1024 : Shape := ⟨2, ![176, 1024]⟩
abbrev S3x1x176x1024 : Shape := ⟨4, ![3, 1, 176, 1024]⟩
abbrev S1x1x176x1024 : Shape := ⟨4, ![1, 1, 176, 1024]⟩
abbrev S3x1x704x1024 : Shape := ⟨4, ![3, 1, 704, 1024]⟩
abbrev S3x704x1024 : Shape := ⟨3, ![3, 704, 1024]⟩

abbrev nBuf : Space → Nat
  | .hbm => 33
  | .vmem => 8
  | .smem => 1
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S1, .i32⟩
  | .hbm, ⟨4, _⟩ => ⟨S1x1x1, .i32⟩
  | .hbm, ⟨5, _⟩ => ⟨S_, .i32⟩
  | .hbm, ⟨6, _⟩ => ⟨S1x1x1, .i32⟩
  | .hbm, ⟨7, _⟩ => ⟨S1x1x1, .i1⟩
  | .hbm, ⟨8, _⟩ => ⟨S1, .i32⟩
  | .hbm, ⟨9, _⟩ => ⟨S1x1x1, .i32⟩
  | .hbm, ⟨10, _⟩ => ⟨S_, .i32⟩
  | .hbm, ⟨11, _⟩ => ⟨S1x1x1, .i32⟩
  | .hbm, ⟨12, _⟩ => ⟨S1x1x1, .i1⟩
  | .hbm, ⟨13, _⟩ => ⟨S1, .i32⟩
  | .hbm, ⟨14, _⟩ => ⟨S1x1x1, .i32⟩
  | .hbm, ⟨15, _⟩ => ⟨S_, .i32⟩
  | .hbm, ⟨16, _⟩ => ⟨S1x1x1, .i32⟩
  | .hbm, ⟨17, _⟩ => ⟨S1x1x1, .i1⟩
  | .hbm, ⟨18, _⟩ => ⟨S3x4x704x1024, .bf16⟩
  | .hbm, ⟨19, _⟩ => ⟨S3x1x704x1024, .bf16⟩
  | .hbm, ⟨20, _⟩ => ⟨S3x704x1024, .bf16⟩
  | .hbm, ⟨21, _⟩ => ⟨S3x1x704x1024, .bf16⟩
  | .hbm, ⟨22, _⟩ => ⟨S3x704x1024, .bf16⟩
  | .hbm, ⟨23, _⟩ => ⟨S3x1x704x1024, .bf16⟩
  | .hbm, ⟨24, _⟩ => ⟨S3x704x1024, .bf16⟩
  | .hbm, ⟨25, _⟩ => ⟨S3x1x704x1024, .bf16⟩
  | .hbm, ⟨26, _⟩ => ⟨S3x704x1024, .bf16⟩
  | .hbm, ⟨27, _⟩ => ⟨S3x704x1024, .i1⟩
  | .hbm, ⟨28, _⟩ => ⟨S3x704x1024, .bf16⟩
  | .hbm, ⟨29, _⟩ => ⟨S3x704x1024, .i1⟩
  | .hbm, ⟨30, _⟩ => ⟨S3x704x1024, .bf16⟩
  | .hbm, ⟨31, _⟩ => ⟨S3x704x1024, .i1⟩
  | .hbm, ⟨32, _⟩ => ⟨S3x704x1024, .bf16⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S3x1x176x1024, .bf16⟩
  | .local _ .vmem, ⟨7, _⟩ => ⟨S3x1x176x1024, .bf16⟩
  | .local _ .smem, ⟨0, _⟩ => ⟨S2, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_v21 : Ref sig .tc := ⟨.hbm, 28, rfl⟩
abbrev main_call1_v0 : Ref sig .tc := ⟨.hbm, 29, rfl⟩
abbrev main_v22 : Ref sig .tc := ⟨.hbm, 30, rfl⟩
abbrev main_call2_v0 : Ref sig .tc := ⟨.hbm, 31, rfl⟩
abbrev main_v23 : Ref sig .tc := ⟨.hbm, 32, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PlaceCastRefIdeal.lean ====
abbrev S704x1024 : Shape := ⟨2, ![704, 1024]⟩
abbrev S2 : Shape := ⟨1, ![2]⟩
abbrev S1x704x1024 : Shape := ⟨3, ![1, 704, 1024]⟩
abbrev S3x704x1024 : Shape := ⟨3, ![3, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S2, .i32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S3x704x1024, .f32⟩
  | .hbm, ⟨8, _⟩ => ⟨S3x704x1024, .bf16⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.MixIn.lean ====
/- The backward pass through the mixer's input projection and its norm: what each grid point leaves in the three result
   blocks, as sums over the argument arrays, and the three arrays at the end of the grid. -/
module

public import proofs.«01_k».proof.Proof.Gen.MixInIdeal.Value
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.MixInIdeal.Mine
open Cert.MixInIdeal Cert.MixInIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The projection's output gradient carried back through its weights: one row of `dz` against one row of `w`. -/
def dhid (dz : FVec Ideal S8192x2048 .f32) (w : FVec Ideal S1024x2048 .f32) (i : Fin 8192) (d : Fin 1024) : EReal :=
  ∑ j : Fin 2048, dz (ix2 i j) * w (ix2 d j)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![t.val, 0] :=
  (by decide +kernel : ∀ t : Fin grid0.N, _)

theorem dh_block (y : Fin 512) (d : Fin 1024) (i : Fin 8192) (hi : (i : ℕ) = t.val * 512 + y) :
    k0_pay1 (F := Ideal) (k0_pay17
        (k0_pay12 (View.ld (iblk m c 0 t) (Rect.unit ![0, 0] ![512, 512] inb_S512x1024_S512x512_0_0))
          (View.ld (iblk m c 6 t) (Rect.unit ![0, 0, 0] ![1, 1024, 512] inb_S4x1024x512_S1x1024x512_0_0_0)))
        (View.ld (iblk m c 0 t) (Rect.unit ![0, 512] ![512, 512] inb_S512x1024_S512x512_0_512))
        (View.ld (iblk m c 6 t) (Rect.unit ![1, 0, 0] ![1, 1024, 512] inb_S4x1024x512_S1x1024x512_1_0_0)) (iblk m c 1 t)
        (View.ld (iblk m c 6 t) (Rect.unit ![2, 0, 0] ![1, 1024, 512] inb_S4x1024x512_S1x1024x512_2_0_0)))
      (k0_pay19 (iblk m c 2 t))
      (View.ld (iblk m c 6 t) (Rect.unit ![3, 0, 0] ![1, 1024, 512] inb_S4x1024x512_S1x1024x512_3_0_0)) (ix2 y d) =
    dhid (m ((c.tc : Thread nD τ).loc main_arg4)) (m ((c.tc : Thread nD τ).loc main_arg2)) i d := by
  unfold dhid
  rw [← Fin.sum_mul_add_fin (L := 2048) 4 512, Fin.sum_univ_four]
  pointwise [k0_pay1, k0_pay17, k0_pay12, k0_pay19, k0_pay11, k0_pay14, k0_pay16]
  blk_point [iblk, V, idx t]

theorem lt_N : t.val < 16 := lt_of_lt_of_eq t.isLt N_0
/-- The array row that row `y` of the block at point `t` is. -/
def row (t : Fin cfg0.N) (y : Fin 512) : Fin 8192 := ⟨t.val * 512 + y, by have := lt_N t; omega⟩

abbrev MX : FVec Ideal S8192x1024 .f32 := m ((c.tc : Thread nD τ).loc main_arg0)
abbrev MG : FVec Ideal S1024 .f32 := m ((c.tc : Thread nD τ).loc main_arg1)
abbrev MW : FVec Ideal S1024x2048 .f32 := m ((c.tc : Thread nD τ).loc main_arg2)
abbrev MD : FVec Ideal S8192x1024 .f32 := m ((c.tc : Thread nD τ).loc main_arg3)
abbrev MZ : FVec Ideal S8192x2048 .f32 := m ((c.tc : Thread nD τ).loc main_arg4)

/-- A row's mean square, with the norm's small constant added. -/
def meansq (x : FVec Ideal S8192x1024 .f32) (i : Fin 8192) : EReal :=
  Ideal.div (∑ e : Fin 1024, x (ix2 i e) * x (ix2 i e)) (Ideal.ofBits .f32 0x44800000#32) + Ideal.ofBits .f32 0x358637BD#32
/-- The reciprocal root of a row's mean square. -/
def rinv (x : FVec Ideal S8192x1024 .f32) (i : Fin 8192) : EReal := Ideal.rsqrt (meansq x i)

theorem r_block (y : Fin 512) : k0_pay7 (F := Ideal) (iblk m c 3 t) (ix2 y 0) = rinv (MX m c) (row t y) := by
  unfold rinv meansq row
  pointwise [k0_pay7]
  blk_point [iblk, V, idx t]
theorem xh_block (y : Fin 512) (d : Fin 1024) :
    k0_pay8 (F := Ideal) (iblk m c 3 t) (ix2 y d) = MX m c (ix2 (row t y) d) * rinv (MX m c) (row t y) := by
  pointwise [k0_pay8]
  rw [r_block]
  unfold row
  blk_point [iblk, V, idx t]
theorem g_block (d : Fin 1024) : k0_pay9 (F := Ideal) (iblk m c 5 t) (ix2 0 d) = MG m c (ix1 d) := by
  pointwise [k0_pay9]
  blk_point [iblk, V, idx t]
theorem h_block (y : Fin 512) (d : Fin 1024) :
    k0_pay10 (F := Ideal) (iblk m c 3 t) (iblk m c 5 t) (ix2 y d) = MX m c (ix2 (row t y) d) * rinv (MX m c) (row t y) * MG m c (ix1 d) := by
  pointwise [k0_pay10]
  rw [xh_block, g_block]

theorem pay3_at (v11 : FVec Ideal S512x1 .f32) (v13 : FVec Ideal S512x1024 .f32) (v15 : FVec Ideal S1x1024 .f32) (v51 : FVec Ideal S512x1024 .f32)
    (v60 : FVec Ideal S512x512 .bf16) (v61 : FVec Ideal S1x1024x512 .bf16) (v72 : FVec Ideal S512x1024 .f32) (y : Fin 512) (d : Fin 1024)
    (D : Fin 1024 → EReal) (hD : ∀ e, k0_pay1 (F := Ideal) v51 v60 v61 (ix2 y e) = D e) :
    k0_pay3 v11 v13 v15 v51 v60 v61 v72 (ix2 y d) = v72 (ix2 y d) + v11 (ix2 y 0) * (D d * v15 (ix2 0 d)
      - v13 (ix2 y d) * Ideal.div (∑ e : Fin 1024, D e * v15 (ix2 0 e) * v13 (ix2 y e)) (Ideal.ofBits .f32 0x44800000#32)) := by
  pointwise [k0_pay3]
  simp only [hD]

theorem pay4_at (v13 v51 : FVec Ideal S512x1024 .f32)
    (v60 : FVec Ideal S512x512 .bf16) (v61 : FVec Ideal S1x1024x512 .bf16) (v87 : FVec Ideal S1x1024 .f32) (d : Fin 1024)
    (D : Fin 512 → EReal) (hD : ∀ y, k0_pay1 (F := Ideal) v51 v60 v61 (ix2 y d) = D y) :
    k0_pay4 v13 v51 v60 v61 v87 (ix2 0 d) = v87 (ix2 0 d) + ∑ y : Fin 512, D y * v13 (ix2 y d) := by
  pointwise [k0_pay4]
  simp only [hD]

theorem dy_block (y : Fin 512) (d : Fin 1024) : (iblk m c 4 t : FVec Ideal S512x1024 .f32) (ix2 y d) = MD m c (ix2 (row t y) d) := by
  unfold row
  blk_point [iblk, V, idx t]

theorem dx_point (y : Fin 512) (d : Fin 1024) : (outsAt0 m c t.val t.isLt).1 (ix2 y d)
    = MD m c (ix2 (row t y) d) + rinv (MX m c) (row t y) * (dhid (MZ m c) (MW m c) (row t y) d * MG m c (ix1 d)
        - MX m c (ix2 (row t y) d) * rinv (MX m c) (row t y) * Ideal.div (∑ e : Fin 1024,
            dhid (MZ m c) (MW m c) (row t y) e * MG m c (ix1 e) * (MX m c (ix2 (row t y) e) * rinv (MX m c) (row t y)))
          (Ideal.ofBits .f32 0x44800000#32)) := by
  by_cases h : t.val % 16 = 0
  · rw [outsAt0_A m c t h]; frame_out
    refine (pay3_at _ _ _ _ _ _ _ y d _ (fun e => dh_block m c t y e (row t y) rfl)).trans ?_
    simp only [r_block, xh_block, g_block, dy_block]
  · rw [outsAt0_B m c t h]; frame_out
    refine (pay3_at _ _ _ _ _ _ _ y d _ (fun e => dh_block m c t y e (row t y) rfl)).trans ?_
    simp only [r_block, xh_block, g_block, dy_block]

theorem dx_final : (dats m 0 c).arrAt 7 (cfgs 0).N = fun j : S8192x1024.Idx =>
    MD m c j + rinv (MX m c) (j 0) * (dhid (MZ m c) (MW m c) (j 0) (j 1) * MG m c (ix1 (j 1))
        - MX m c j * rinv (MX m c) (j 0) * Ideal.div (∑ e : Fin 1024,
            dhid (MZ m c) (MW m c) (j 0) e * MG m c (ix1 e) * (MX m c (ix2 (j 0) e) * rinv (MX m c) (j 0)))
          (Ideal.ofBits .f32 0x44800000#32)) := by
  refine (dats m 0 c).arrAt_eq_of_covers 7 _ (by decide +kernel) fun t hf y => ?_
  blk_simp
  rw [after0_7]
  idx_vars y
  have e : ((View.whole main_v8_0).slice (win0_7.rect t)).emb (ix2 y0 y1) = ix2 (row t y0) y1 := by
    unfold row; blk_ext [idx t]
  rw [e]
  exact dx_point m c t _ _

theorem pay6_at (j) : k0_pay6 (F := Ideal) j = 0 := by pointwise [k0_pay6]
theorem pay5_at (j) : k0_pay5 (F := Ideal) j = 0 := by pointwise [k0_pay5]

theorem dg_final : (dats m 0 c).arrAt 9 (cfgs 0).N = fun j : S1x1024.Idx =>
    ∑ i : Fin 8192, dhid (MZ m c) (MW m c) i (j 1) * (MX m c (ix2 i (j 1)) * rinv (MX m c) i) := by
  refine (dats m 0 c).arrAt_eq_of_after_last 9 t0_15 (by decide +kernel) _ fun j => ?_
  blk_simp
  idx_vars j
  obtain rfl : j0 = 0 := Subsingleton.elim _ _
  rw [after0_9, Pipeline.eq_sum_fin_of_reset_step_apply_last (fun n h => (outsAt0 m c n h).2.2) 16 (fun _ => 0)
    (fun p (j : S1x1024.Idx) => ∑ y : Fin 512, dhid (MZ m c) (MW m c) (row p y) (j 1) * (MX m c (ix2 (row p y) (j 1)) * rinv (MX m c) (row p y)))
    (fun t h j => ?_) (fun t h j => ?_) (le_of_eq N_0) t0_15 rfl _, zero_add]
  · exact Fin.sum_mul_add_fin 16 512 fun i : Fin 8192 => dhid (MZ m c) (MW m c) i j1 * (MX m c (ix2 i j1) * rinv (MX m c) i)
  · idx_vars j
    obtain rfl : j0 = 0 := Subsingleton.elim _ _
    rw [outsAt0_A m c t h]; frame_out
    refine (pay4_at _ _ _ _ _ _ _ (fun e => dh_block m c t e _ (row t e) rfl)).trans ?_
    simp only [xh_block, pay6_at]
  · idx_vars j
    obtain rfl : j0 = 0 := Subsingleton.elim _ _
    rw [outsAt0_B m c t h]; frame_out
    refine (pay4_at _ _ _ _ _ _ _ (fun e => dh_block m c t e _ (row t e) rfl)).trans ?_
    simp only [xh_block]

/-- Four stores over a fill of the whole block leave what they store wherever one of them lands. -/
theorem canon_over {s : Shape} {e : EltTy} (G : s.Idx → Elt Ideal e) (z p0 p1 p2 p3 : View.Piece (Elt Ideal) s e) (y : s.Idx)
    (h3 : ∀ x : p3.1.shape.Idx, p3.2 x = G (p3.1.emb x)) (h2 : ∀ x : p2.1.shape.Idx, p2.2 x = G (p2.1.emb x))
    (h1 : ∀ x : p1.1.shape.Idx, p1.2 x = G (p1.1.emb x)) (h0 : ∀ x : p0.1.shape.Idx, p0.2 x = G (p0.1.emb x))
    (hc : ∃ p ∈ [p3, p2, p1, p0], y ∈ p.1.set) : View.canon [p3, p2, p1, p0, z] y = G y :=
  View.canon_append_of_piecesOf G [z] [p3, p2, p1, p0] ⟨h3, h2, h1, h0, trivial⟩ y hc

/-- The gradient of the projection that one block of rows gives. -/
def dwPart (t : Fin cfg0.N) (j : S4x1024x512.Idx) : EReal :=
  ∑ y : Fin 512, MX m c (ix2 (row t y) (j 1)) * rinv (MX m c) (row t y) * MG m c (ix1 (j 1))
    * MZ m c (ix2 (row t y) ⟨(j 0).val * 512 + (j 2).val, by have := (j 0).isLt; have := (j 2).isLt; simp at *; omega⟩)

theorem step0 (acc : Vec Ideal S4x1024x512 .f32) (x : S1x1024x512.Idx) (j : S4x1024x512.Idx) (h0 : (j 0 : ℕ) = 0) (h1 : (j 1 : ℕ) = x 1) (h2 : (j 2 : ℕ) = x 2) :
    k0_pay13 (F := Ideal) (iblk m c 3 t) (iblk m c 5 t) (View.ld (iblk m c 0 t) (Rect.unit ![0, 0] ![512, 512] inb_S512x1024_S512x512_0_0))
      (View.ld (Val := Elt Ideal) (e' := .f32) acc (Rect.unit ![0, 0, 0] ![1, 1024, 512] inb_S4x1024x512_S1x1024x512_0_0_0)) x = acc j + dwPart m c t j := by
  idx_vars x
  obtain rfl : x0 = 0 := Subsingleton.elim _ _
  obtain rfl : j = ix3 0 x1 x2 := by blk_ext
  unfold dwPart
  pointwise [k0_pay13, k0_pay11]
  simp only [h_block]
  unfold row
  blk_point [iblk, V, idx t]
theorem step1 (acc : Vec Ideal S4x1024x512 .f32) (x : S1x1024x512.Idx) (j : S4x1024x512.Idx) (h0 : (j 0 : ℕ) = 1) (h1 : (j 1 : ℕ) = x 1) (h2 : (j 2 : ℕ) = x 2) :
    k0_pay15 (F := Ideal) (k0_pay10 (iblk m c 3 t) (iblk m c 5 t)) (View.ld (iblk m c 0 t) (Rect.unit ![0, 512] ![512, 512] inb_S512x1024_S512x512_0_512))
      (View.ld (Val := Elt Ideal) (e' := .f32) acc (Rect.unit ![1, 0, 0] ![1, 1024, 512] inb_S4x1024x512_S1x1024x512_1_0_0)) x = acc j + dwPart m c t j := by
  idx_vars x
  obtain rfl : x0 = 0 := Subsingleton.elim _ _
  obtain rfl : j = ix3 1 x1 x2 := by blk_ext
  unfold dwPart
  pointwise [k0_pay15, k0_pay14]
  simp only [h_block]
  unfold row
  blk_point [iblk, V, idx t]
theorem step2 (acc : Vec Ideal S4x1024x512 .f32) (x : S1x1024x512.Idx) (j : S4x1024x512.Idx) (h0 : (j 0 : ℕ) = 2) (h1 : (j 1 : ℕ) = x 1) (h2 : (j 2 : ℕ) = x 2) :
    k0_pay18 (F := Ideal) (k0_pay10 (iblk m c 3 t) (iblk m c 5 t)) (iblk m c 1 t)
      (View.ld (Val := Elt Ideal) (e' := .f32) acc (Rect.unit ![2, 0, 0] ![1, 1024, 512] inb_S4x1024x512_S1x1024x512_2_0_0)) x = acc j + dwPart m c t j := by
  idx_vars x
  obtain rfl : x0 = 0 := Subsingleton.elim _ _
  obtain rfl : j = ix3 2 x1 x2 := by blk_ext
  unfold dwPart
  pointwise [k0_pay18, k0_pay16]
  simp only [h_block]
  unfold row
  blk_point [iblk, V, idx t]
theorem step3 (acc : Vec Ideal S4x1024x512 .f32) (x : S1x1024x512.Idx) (j : S4x1024x512.Idx) (h0 : (j 0 : ℕ) = 3) (h1 : (j 1 : ℕ) = x 1) (h2 : (j 2 : ℕ) = x 2) :
    k0_pay2 (F := Ideal) (k0_pay10 (iblk m c 3 t) (iblk m c 5 t)) (k0_pay19 (iblk m c 2 t))
      (View.ld (Val := Elt Ideal) (e' := .f32) acc (Rect.unit ![3, 0, 0] ![1, 1024, 512] inb_S4x1024x512_S1x1024x512_3_0_0)) x = acc j + dwPart m c t j := by
  idx_vars x
  obtain rfl : x0 = 0 := Subsingleton.elim _ _
  obtain rfl : j = ix3 3 x1 x2 := by blk_ext
  unfold dwPart
  pointwise [k0_pay2, k0_pay19]
  simp only [h_block]
  unfold row
  blk_point [iblk, V, idx t]

theorem dw_final : (dats m 0 c).arrAt 8 (cfgs 0).N = fun j : S4x1024x512.Idx =>
    ∑ i : Fin 8192, MX m c (ix2 i (j 1)) * rinv (MX m c) i * MG m c (ix1 (j 1)) * MZ m c (ix2 i ⟨(j 0).val * 512 + (j 2).val, by have := (j 0).isLt; have := (j 2).isLt; simp at *; omega⟩) := by
  refine (dats m 0 c).arrAt_eq_of_after_last 8 t0_15 (by decide +kernel) _ fun j => ?_
  blk_simp
  idx_vars j
  rw [after0_8, Pipeline.eq_sum_fin_of_reset_step_apply_last (fun n h => (outsAt0 m c n h).2.1) 16 (fun _ => 0)
    (fun p (j : S4x1024x512.Idx) => dwPart m c p j)
    (fun t h j => ?_) (fun t h j => ?_) (le_of_eq N_0) t0_15 rfl _, zero_add]
  · exact Fin.sum_mul_add_fin 16 512 fun i : Fin 8192 => MX m c (ix2 i j1) * rinv (MX m c) i * MG m c (ix1 j1) * MZ m c (ix2 i ⟨j0 * 512 + j2, _⟩)
  · rw [outsAt0_A m c t h]; frame_open
    simp (disch := decide) only [↓ View.readCov_skip, ↓ View.readCov_cons_toLoadRect, ↓ View.readCov_fill]
    frame_out
    refine (canon_over (fun j : S4x1024x512.Idx => k0_pay5 (F := Ideal) j + dwPart m c t j) _ _ _ _ _ j (fun x => ?_) (fun x => ?_) (fun x => ?_) (fun x => ?_)
      (by exact View.cover_of_tiledL (s := S4x1024x512) _ S1x1024x512.size (by sl_kernel_rfl) j)).trans ?_
    · refine step3 m c t _ x _ ?_ ?_ ?_ <;> simp [Rect.unit, Rect.emb]
    · refine step2 m c t _ x _ ?_ ?_ ?_ <;> simp [Rect.unit, Rect.emb]
    · refine step1 m c t _ x _ ?_ ?_ ?_ <;> simp [Rect.unit, Rect.emb]
    · refine step0 m c t _ x _ ?_ ?_ ?_ <;> simp [Rect.unit, Rect.emb]
    · simp only [pay5_at]
  · rw [outsAt0_B m c t h]; frame_out
    canon_tiles x hx
    · exact step3 m c t _ x j (by omega) hx1 hx2
    · exact step2 m c t _ x j (by omega) hx1 hx2
    · exact step1 m c t _ x j (by omega) hx1 hx2
    · exact step0 m c t _ x j (by omega) hx1 hx2
end Cert.MixInIdeal.Mine
end
-- ==== Proof.Reals.lean ====
/- Finite extended reals: sums, products and quotients of reals are reals, the float constants the programs spell, what a
   finiteness check says of its array, and the gradient of the root-mean-square normalisation in its two forms. -/
module

public import Idealize.ShloMosaic.PureOps.Ideal
public import Idealize.ShloMosaic.Lib.ReduceAll
import Idealize.ShloMosaic.Lib.IdealHost
public import Mathlib.Analysis.SpecialFunctions.Pow.Real

@[expose] public section

noncomputable section

namespace Cert.Reals

open Idealize.ShloMosaic

/-- The value is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A function with real values is a function into the reals. -/
theorem lift {ι : Type} {f : ι → EReal} (h : ∀ i, IsReal (f i)) : ∃ g : ι → ℝ, f = fun i => (g i : EReal) :=
  ⟨fun i => (h i).choose, funext fun i => (h i).choose_spec⟩

/-! ### Constants -/

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul]; norm_num

theorem ofBits_inf : Ideal.ofBits .f32 0x7F800000#32 = ⊤ := by
  simp [Ideal.ofBits, Ideal.ieee]

theorem ofBits_millionth : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1024th : Ideal.ofBits .f32 0x3A800000#32 = ((1 / 1024 : ℝ) : EReal) := by
  simp [Ideal.ofBits, Ideal.ieee, -EReal.coe_mul]; norm_num

/-- The logistic function of a real is a real. -/
theorem IsReal.logistic {x : EReal} (hx : IsReal x) : IsReal (Ideal.logistic x) := by
  obtain ⟨a, rfl⟩ := hx; exact ⟨_, Ideal.logistic_coe a⟩

/-- A constant goes into a sum of reals. -/
theorem mul_sum {ι : Type} (s : Finset ι) (c : EReal) (f : ι → EReal) (hc : IsReal c) (hf : ∀ i, IsReal (f i)) : ∑ i ∈ s, c * f i = c * ∑ i ∈ s, f i := by
  obtain ⟨c, rfl⟩ := hc
  obtain ⟨f, rfl⟩ := lift hf
  simp only [← EReal.coe_mul, coe_sum, Finset.mul_sum]

/-- The reciprocal root of a row's mean square is a real. -/
theorem IsReal.rms {n : ℕ} {x : Fin n → EReal} (hx : ∀ e, IsReal (x e)) :
    IsReal (Ideal.rsqrt (Ideal.div (∑ e, x e * x e) (Ideal.ofBits .f32 0x44800000#32) + Ideal.ofBits .f32 0x358637BD#32)) := by
  obtain ⟨X, rfl⟩ := lift hx
  obtain ⟨ε, hε, he⟩ := ofBits_millionth
  simp only [ofBits_1024, he, ← EReal.coe_mul, coe_sum, Ideal.div_coe (by norm_num : (1024 : ℝ) ≠ 0), ← EReal.coe_add]
  have hpos : 0 < (∑ e, X e * X e) * (1 / 1024) + ε := by
    have : 0 ≤ ∑ e, X e * X e := Finset.sum_nonneg fun e _ => mul_self_nonneg _
    positivity
  exact ⟨_, by rw [Ideal.rsqrt_coe, if_neg (not_lt.mpr hpos.le), if_neg hpos.ne']⟩

/-! ### What a finiteness check says -/

/-- `|x| < ∞` says that `x` is a real number. -/
theorem isReal_of_abs_lt {x : EReal} (h : Ideal.cmp .olt (max x (-x)) (Ideal.ofBits .f32 0x7F800000#32) = 1#1) : IsReal x := by
  rw [ofBits_inf] at h
  have h' : max x (-x) < ⊤ := by
    by_contra hn
    simp [Ideal.cmp, hn] at h
  refine ⟨x.toReal, (EReal.coe_toReal ?_ ?_).symm⟩
  · rintro rfl; simp at h'
  · rintro rfl; simp at h'

/-! ### The normalisation's gradient -/

/-- The gradient through `x · rsqrt (mean x² + ε)` with the mean taken of the normalised products, against the one that
    differentiates the mean's quotient and the root in turn. -/
theorem rms_grad {n : ℕ} (x q : Fin n → EReal) (hx : ∀ e, IsReal (x e)) (hq : ∀ e, IsReal (q e)) (v : EReal) (d : Fin n)
    (hv : v = Ideal.div (∑ e, x e * x e) (Ideal.ofBits .f32 0x44800000#32) + Ideal.ofBits .f32 0x358637BD#32) :
    Ideal.rsqrt v * (q d - x d * Ideal.rsqrt v * Ideal.div (∑ e, q e * (x e * Ideal.rsqrt v)) (Ideal.ofBits .f32 0x44800000#32))
      = q d * Ideal.rsqrt v
        + x d * Ideal.div ((∑ e, x e * q e) * (Ideal.ofBits .f32 0xBF000000#32 * Ideal.div (Ideal.rsqrt v) v)) (Ideal.ofBits .f32 0x44800000#32)
        + Ideal.div ((∑ e, x e * q e) * (Ideal.ofBits .f32 0xBF000000#32 * Ideal.div (Ideal.rsqrt v) v)) (Ideal.ofBits .f32 0x44800000#32) * x d := by
  obtain ⟨X, rfl⟩ := lift hx
  obtain ⟨Q, rfl⟩ := lift hq
  obtain ⟨ε, hε, he⟩ := ofBits_millionth
  simp only [ofBits_1024, ofBits_neg_half, he, ← EReal.coe_mul, coe_sum, Ideal.div_coe (by norm_num : (1024 : ℝ) ≠ 0), ← EReal.coe_add] at hv ⊢
  set V : ℝ := (∑ e, X e * X e) * (1 / 1024) + ε with hV
  have hpos : 0 < V := by
    have : 0 ≤ ∑ e, X e * X e := Finset.sum_nonneg fun e _ => mul_self_nonneg _
    positivity
  have hr : Ideal.rsqrt v = (((Real.sqrt V)⁻¹ : ℝ) : EReal) := by
    rw [hv, Ideal.rsqrt_coe, if_neg (not_lt.mpr hpos.le), if_neg hpos.ne']
  rw [hr, hv, Ideal.div_coe hpos.ne']
  set R : ℝ := (Real.sqrt V)⁻¹ with hR
  have hVR : 1 / V = R * R := by
    rw [hR, ← mul_inv, Real.mul_self_sqrt hpos.le, one_div]
  have hs : ∑ e, Q e * (X e * R) = (∑ e, X e * Q e) * R := by
    rw [Finset.sum_mul]; exact Finset.sum_congr rfl fun e _ => by ring
  simp only [← EReal.coe_mul, coe_sum, ← EReal.coe_add, ← EReal.coe_sub, hs, hVR]
  refine congrArg _ ?_
  ring

end Cert.Reals

end
-- ==== Proof.MixInPair.lean ====
/- The mixer's input projection and its norm: the reference's gradients read at an index, and their equality with what
   the kernel's arrays hold. -/
module

public import proofs.«01_k».proof.Proof.MixIn
public import proofs.«01_k».proof.Proof.Reals
public import proofs.«01_k».proof.Proof.Gen.MixInRefIdeal.Read
public import proofs.«01_k».proof.Proof.Gen.Pre_finite_mix_in
import Idealize.ShloMosaic.Lib.Pipeline.ValueKit
public import Idealize.ShloMosaic.Lib.Pointwise

@[expose] public section

set_option maxRecDepth 16384

noncomputable section

namespace Cert.MixInPair

open Cert.MixInRefIdeal Cert.MixInRefIdeal.Gen Idealize.ShloMosaic Idealize.ShloMosaic.TcCoe Idealize.SL.Sem
open Cert.MixInIdeal.Mine (dhid meansq rinv)
open Cert.Reals

variable (x : FVec Ideal S8192x1024 .f32) (g : FVec Ideal S1024 .f32) (w : FVec Ideal S1024x2048 .f32) (dy : FVec Ideal S8192x1024 .f32) (z : FVec Ideal S8192x2048 .f32)

theorem meansq_ref (i : Fin 8192) : Read.val_main_v6 (F := Ideal) x (ix2 i 0) = meansq x i := by
  unfold meansq
  pointwise [Read.val_main_v6, Read.val_main_v5, Read.val_main_v4, Read.val_main_v3, Read.val_main_v2, Read.val_main_v1, Read.val_main_v0,
    Read.val_main_cst, Read.val_main_cst_0, Read.val_main_cst_1]

theorem rinv_ref (i : Fin 8192) : Read.val_main_v7 (F := Ideal) x (ix2 i 0) = rinv x i := by
  unfold rinv
  rw [← meansq_ref]
  pointwise [Read.val_main_v7]

theorem q_ref (i : Fin 8192) (d : Fin 1024) : Read.val_main_v24 (F := Ideal) g w z (ix2 i d) = dhid z w i d * g (ix1 d) := by
  unfold dhid
  pointwise [Read.val_main_v24, Read.val_main_v23, Read.val_main_v13, Read.val_main_v19]

theorem c_ref (i : Fin 8192) (a : Fin 1) : Read.val_main_v10 (F := Ideal) x (ix2 i a) = Ideal.ofBits .f32 0xBF000000#32 * Ideal.div (rinv x i) (meansq x i) := by
  obtain rfl : a = 0 := Subsingleton.elim _ _
  pointwise [Read.val_main_v10, Read.val_main_v9, Read.val_main_v8, Read.val_main_cst_2]
  rw [meansq_ref, rinv_ref]

theorem dx_ref (hx : ∀ i, IsReal (x i)) (hg : ∀ i, IsReal (g i)) (hw : ∀ i, IsReal (w i)) (hz : ∀ i, IsReal (z i)) :
    Read.val_main_v40 (F := Ideal) x g w dy z = fun j : S8192x1024.Idx =>
      dy j + rinv x (j 0) * (dhid z w (j 0) (j 1) * g (ix1 (j 1))
        - x j * rinv x (j 0) * Ideal.div (∑ e : Fin 1024, dhid z w (j 0) e * g (ix1 e) * (x (ix2 (j 0) e) * rinv x (j 0)))
          (Ideal.ofBits .f32 0x44800000#32)) := by
  funext j
  idx_vars j
  have hq : ∀ e : Fin 1024, IsReal (dhid z w j0 e * g (ix1 e)) := fun e =>
    (IsReal.sum fun _ _ => (hz _).mul (hw _)).mul (hg _)
  have key := rms_grad (fun e : Fin 1024 => x (ix2 j0 e)) (fun e : Fin 1024 => dhid z w j0 e * g (ix1 e)) (fun e => hx _) hq (meansq x j0) j1 rfl
  change _ = dy (ix2 j0 j1) + Ideal.rsqrt (meansq x j0) * (dhid z w j0 j1 * g (ix1 j1)
        - x (ix2 j0 j1) * Ideal.rsqrt (meansq x j0) * Ideal.div (∑ e : Fin 1024, dhid z w j0 e * g (ix1 e) * (x (ix2 j0 e) * Ideal.rsqrt (meansq x j0)))
          (Ideal.ofBits .f32 0x44800000#32))
  rw [key]
  pointwise [Read.val_main_v40, Read.val_main_v39, Read.val_main_v38, Read.val_main_v37, Read.val_main_v36, Read.val_main_v35, Read.val_main_v34,
    Read.val_main_v33, Read.val_main_v32, Read.val_main_v31, Read.val_main_v30, Read.val_main_v29, Read.val_main_v28, Read.val_main_v27, Read.val_main_v26,
    Read.val_main_cst_5, Read.val_main_cst_6, Read.val_main_cst_7]
  simp only [q_ref, rinv_ref, c_ref, Finset.univ_unique, Finset.sum_singleton, add_assoc]
  rfl

theorem dw_ref : Read.val_main_v42 (F := Ideal) x g z = fun j : S4x1024x512.Idx =>
    ∑ i : Fin 8192, x (ix2 i (j 1)) * rinv x i * g (ix1 (j 1)) * z (ix2 i ⟨(j 0).val * 512 + (j 2).val, by have := (j 0).isLt; have := (j 2).isLt; simp at *; omega⟩) := by
  funext j
  idx_vars j
  pointwise [Read.val_main_v42, Read.val_main_v41, Read.val_main_v18, Read.val_main_v17, Read.val_main_v15, Read.val_main_v14, Read.val_main_v13, Read.val_main_v12, Read.val_main_v11]
  simp only [rinv_ref]
  exact Finset.sum_congr rfl fun i _ => mul_comm _ _

theorem dg_ref : Read.val_main_v43 (F := Ideal) x w z = fun j : S1x1024.Idx =>
    ∑ i : Fin 8192, dhid z w i (j 1) * (x (ix2 i (j 1)) * rinv x i) := by
  funext j
  idx_vars j
  unfold dhid
  pointwise [Read.val_main_v43, Read.val_main_v25, Read.val_main_v22, Read.val_main_v21, Read.val_main_v20, Read.val_main_v19, Read.val_main_v12, Read.val_main_v11,
    Read.val_main_cst_3, Read.val_main_cst_4]
  simp only [rinv_ref, Finset.univ_unique, Finset.sum_singleton]
  exact Finset.sum_congr rfl fun i _ => mul_comm _ _

theorem finite_of_pre (h : Cert.Pre_finite_mix_in.fn (F := Ideal) x g w dy z = fun _ => 1#1) :
    (∀ i, IsReal (x i)) ∧ (∀ i, IsReal (g i)) ∧ (∀ i, IsReal (w i)) ∧ (∀ i, IsReal (z i)) := by
  have h0 := congrFun h (Shape.Idx.first (by decide))
  dsimp only [Cert.Pre_finite_mix_in.fn, Cert.Pre_finite_mix_in.fn_part1] at h0
  obtain ⟨h1, hz⟩ := IntOp.andi_eq_one.1 h0
  obtain ⟨h2, hw⟩ := IntOp.andi_eq_one.1 h1
  obtain ⟨hx, hg⟩ := IntOp.andi_eq_one.1 h2
  exact ⟨fun i => isReal_of_abs_lt (Host.reduce_andi_all _ _ _ _ _ hx i), fun i => isReal_of_abs_lt (Host.reduce_andi_all _ _ _ _ _ hg i),
    fun i => isReal_of_abs_lt (Host.reduce_andi_all _ _ _ _ _ hw i), fun i => isReal_of_abs_lt (Host.reduce_andi_all _ _ _ _ _ hz i)⟩

end Cert.MixInPair

end
-- ==== Proof.MixInClaim.lean ====
/- The claims about the mixer projection's gradient call. -/
module

public import proofs.«01_k».proof.Defs
public import proofs.«01_k».proof.Proof.Gen.MixIn.Frame
public import proofs.«01_k».proof.Proof.Gen.Pre_finite_mix_in
public import proofs.«01_k».proof.Proof.MixInPair
import Idealize.ShloMosaic.Lib.Claim

@[expose] public section

set_option maxRecDepth 16384

noncomputable section

namespace Cert.MixInClaim

open Idealize.ShloMosaic Idealize.SL.Sem

/-- The reference runs, its arguments end unchanged, and it has no semaphore. -/
theorem frame_ref : Cert.quiescent_MixInRefIdeal := by
  intro m g _
  exact (θ_run Cert.MixInRefIdeal.defs _ _).mono (fun r h => ⟨fun c => (h c).2.2.2, sem_eq_zero_of_no_sems (by decide) r.2⟩)
    (Cert.MixInRefIdeal.Value.run m g)

/-- The same under the precondition. -/
theorem frame_ref_pre : Cert.quiescent_MixInRefIdeal_pre_finite_mix_in := fun m g _ => frame_ref m g trivial

/-- The call's three gradients are the reference's. -/
theorem algebraic : Cert.algebraic_MixInIdeal_MixInRefIdeal_pre_finite_mix_in := by
  pair_intro
  · run_from Cert.MixInIdeal.Value.run_blocks m g
  · have hfin := fun c => Cert.MixInPair.finite_of_pre _ _ _ _ _ (hpre c)
    run_from Cert.MixInRefIdeal.Value.run m' g'
    · obtain ⟨h0, h1, h2, h3, h4⟩ := hagree c
      obtain ⟨hx, hg, hw, hz⟩ := hfin c
      rw [Cert.MixInRefIdeal.Read.val_main_v40_eq, h0, h1, h2, h3, h4, Cert.MixInPair.dx_ref _ _ _ _ _ hx hg hw hz]
      exact (Cert.MixInIdeal.Mine.dx_final m c).symm
    · exact (Cert.MixInPair.dw_ref _ _ _).trans (Cert.MixInIdeal.Mine.dw_final m c).symm
    · exact (Cert.MixInPair.dg_ref _ _ _).trans (Cert.MixInIdeal.Mine.dg_final m c).symm

end Cert.MixInClaim
-- ==== Proof.Ffn2.lean ====
/- The second feed-forward block with the loss at its end: what each grid point leaves in the five result blocks. -/
module

public import proofs.«01_k».proof.Proof.Gen.Ffn2Ideal.Value
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.Ffn2Ideal.Mine
open Cert.Ffn2Ideal Cert.Ffn2Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem idx : ∀ t : Fin cfg0.N, win0_0.index t = ![t.val / 4, 0] ∧ win0_1.index t = ![0, 0] ∧ win0_2.index t = ![0, t.val % 4, 0, 0] ∧ win0_3.index t = ![1, t.val % 4, 0, 0]
    ∧ win0_4.index t = ![2, t.val % 4, 0, 0] ∧ win0_5.index t = ![0, 0] ∧ win0_6.index t = ![t.val / 4, 0] ∧ win0_7.index t = ![t.val / 4, 0]
    ∧ win0_8.index t = ![t.val % 4, t.val / 4, 0] ∧ win0_9.index t = ![t.val % 4, t.val / 4, 0] ∧ win0_10.index t = ![0, 0] ∧ win0_11.index t = ![0, 0] :=
  (by decide +kernel : ∀ t : Fin grid0.N, _)

theorem lt_N : t.val < 32 := lt_of_lt_of_eq t.isLt N_0
/-- The array row that row `y` of the block at point `t` is. -/
def row (t : Fin cfg0.N) (y : Fin 1024) : Fin 8192 := ⟨t.val / 4 * 1024 + y, by have := lt_N t; omega⟩
/-- The hidden lane that lane `k` of the weights at point `t` is. -/
def lane (t : Fin cfg0.N) (k : Fin 704) : Fin 2816 := ⟨t.val % 4 * 704 + k, by omega⟩

abbrev MX : FVec Ideal S8192x1024 .f32 := m ((c.tc : Thread nD τ).loc main_arg0)
abbrev MG : FVec Ideal S1024 .f32 := m ((c.tc : Thread nD τ).loc main_arg1)
abbrev WG : FVec Ideal S1024x2816 .f32 := m ((c.tc : Thread nD τ).loc main_arg2)
abbrev WU : FVec Ideal S1024x2816 .f32 := m ((c.tc : Thread nD τ).loc main_arg3)
abbrev WD : FVec Ideal S2816x1024 .f32 := m ((c.tc : Thread nD τ).loc main_arg4)
abbrev GF : FVec Ideal S1024 .f32 := m ((c.tc : Thread nD τ).loc main_arg5)
abbrev TG : FVec Ideal S8192x1024 .f32 := m ((c.tc : Thread nD τ).loc main_arg6)

/-- A row's mean square with the norm's small constant added, and its reciprocal root. -/
def rinv (x : Fin 1024 → EReal) : EReal :=
  Ideal.rsqrt (Ideal.div (∑ e : Fin 1024, x e * x e) (Ideal.ofBits .f32 0x44800000#32) + Ideal.ofBits .f32 0x358637BD#32)
/-- The normalised input. -/
def hid (x : FVec Ideal S8192x1024 .f32) (g : FVec Ideal S1024 .f32) (i : Fin 8192) (d : Fin 1024) : EReal :=
  x (ix2 i d) * rinv (fun e => x (ix2 i e)) * g (ix1 d)
/-- The normalised input against one column of a projection. -/
def proj (x : FVec Ideal S8192x1024 .f32) (g : FVec Ideal S1024 .f32) (w : FVec Ideal S1024x2816 .f32) (i : Fin 8192) (k : Fin 2816) : EReal :=
  ∑ d : Fin 1024, hid x g i d * w (ix2 d k)
/-- The gated hidden lane. -/
def gated (x : FVec Ideal S8192x1024 .f32) (g : FVec Ideal S1024 .f32) (wg wu : FVec Ideal S1024x2816 .f32) (i : Fin 8192) (k : Fin 2816) : EReal :=
  proj x g wg i k * Ideal.logistic (proj x g wg i k) * proj x g wu i k

/-- The three weight arrays as the kernel takes them: one stack, cut by chip. -/
def stack (wg wu : FVec Ideal S1024x2816 .f32) (wd : FVec Ideal S2816x1024 .f32) : FVec Ideal S3x4x704x1024 .bf16 :=
  truncf .bf16 (concatenate S3x4x704x1024 0 [
    ⟨S1x4x704x1024, broadcastInDim S1x4x704x1024 ![1, 2, 3] bcast_S4x704x1024_S1x4x704x1024_1_2_3 (shapeCast S4x704x1024 (transpose S2816x1024 [1, 0] wg transposes_S1024x2816_S2816x1024_1_0) shapeCasts_S2816x1024_S4x704x1024)⟩,
    ⟨S1x4x704x1024, broadcastInDim S1x4x704x1024 ![1, 2, 3] bcast_S4x704x1024_S1x4x704x1024_1_2_3 (shapeCast S4x704x1024 (transpose S2816x1024 [1, 0] wu transposes_S1024x2816_S2816x1024_1_0) shapeCasts_S2816x1024_S4x704x1024)⟩,
    ⟨S1x4x704x1024, broadcastInDim S1x4x704x1024 ![1, 2, 3] bcast_S4x704x1024_S1x4x704x1024_1_2_3 (shapeCast S4x704x1024 wd shapeCasts_S2816x1024_S4x704x1024)⟩]
    concatenates_S1x4x704x1024_S1x4x704x1024_S1x4x704x1024_S3x4x704x1024_d0) bitsLt_bf16_f32
theorem stack0 (wg wu : FVec Ideal S1024x2816 .f32) (wd : FVec Ideal S2816x1024 .f32) (j : Fin 4) (k : Fin 704) (d : Fin 1024) : stack wg wu wd (ix4 0 j k d) = wg (ix2 d ⟨j * 704 + k, by omega⟩) := by
  pointwise [stack]
theorem stack1 (wg wu : FVec Ideal S1024x2816 .f32) (wd : FVec Ideal S2816x1024 .f32) (j : Fin 4) (k : Fin 704) (d : Fin 1024) : stack wg wu wd (ix4 1 j k d) = wu (ix2 d ⟨j * 704 + k, by omega⟩) := by
  pointwise [stack]
theorem stack2 (wg wu : FVec Ideal S1024x2816 .f32) (wd : FVec Ideal S2816x1024 .f32) (j : Fin 4) (k : Fin 704) (d : Fin 1024) : stack wg wu wd (ix4 2 j k d) = wd (ix2 ⟨j * 704 + k, by omega⟩ d) := by
  pointwise [stack]
theorem V_v9 : V m c main_v9 = stack (WG m c) (WU m c) (WD m c) := by
  unfold V; after_results
  rfl
theorem wg_block (k : Fin 704) (d : Fin 1024) : (iblk m c 2 t : FVec Ideal S1x1x704x1024 .bf16) (ix4 0 0 k d) = WG m c (ix2 d (lane t k)) := by
  have e : ((cfg0.win 2).blk t).view.emb (ix4 0 0 k d) = (ix4 0 ⟨t.val % 4, Nat.mod_lt _ (by decide)⟩ k d : S3x4x704x1024.Idx) := by blk_ext [idx t]
  have h : (iblk m c 2 t : FVec Ideal S1x1x704x1024 .bf16) (ix4 0 0 k d) = (V m c main_v9 : S3x4x704x1024.Idx → Elt Ideal .bf16) (((cfg0.win 2).blk t).view.emb (ix4 0 0 k d)) := rfl
  rw [h, e, V_v9]
  exact stack0 _ _ _ _ _ _
theorem wu_block (k : Fin 704) (d : Fin 1024) : (iblk m c 3 t : FVec Ideal S1x1x704x1024 .bf16) (ix4 0 0 k d) = WU m c (ix2 d (lane t k)) := by
  have e : ((cfg0.win 3).blk t).view.emb (ix4 0 0 k d) = (ix4 1 ⟨t.val % 4, Nat.mod_lt _ (by decide)⟩ k d : S3x4x704x1024.Idx) := by blk_ext [idx t]
  have h : (iblk m c 3 t : FVec Ideal S1x1x704x1024 .bf16) (ix4 0 0 k d) = (V m c main_v9 : S3x4x704x1024.Idx → Elt Ideal .bf16) (((cfg0.win 3).blk t).view.emb (ix4 0 0 k d)) := rfl
  rw [h, e, V_v9]
  exact stack1 _ _ _ _ _ _
theorem wd_block (k : Fin 704) (d : Fin 1024) : (iblk m c 4 t : FVec Ideal S1x1x704x1024 .bf16) (ix4 0 0 k d) = WD m c (ix2 (lane t k) d) := by
  have e : ((cfg0.win 4).blk t).view.emb (ix4 0 0 k d) = (ix4 2 ⟨t.val % 4, Nat.mod_lt _ (by decide)⟩ k d : S3x4x704x1024.Idx) := by blk_ext [idx t]
  have h : (iblk m c 4 t : FVec Ideal S1x1x704x1024 .bf16) (ix4 0 0 k d) = (V m c main_v9 : S3x4x704x1024.Idx → Elt Ideal .bf16) (((cfg0.win 4).blk t).view.emb (ix4 0 0 k d)) := rfl
  rw [h, e, V_v9]
  exact stack2 _ _ _ _ _ _
theorem h_block (y d : Fin 1024) : k0_pay39 (F := Ideal) (iblk m c 0 t) (iblk m c 1 t) (ix2 y d) = hid (MX m c) (MG m c) (row t y) d := by
  unfold hid rinv row
  pointwise [k0_pay39]
  blk_point [iblk, V, idx t]
theorem gf_block (d : Fin 1024) : (iblk m c 5 t : FVec Ideal S1x1024 .f32) (ix2 0 d) = GF m c (ix1 d) := by
  blk_point [iblk, V, idx t]
theorem tg_block (y d : Fin 1024) : (iblk m c 6 t : FVec Ideal S1024x1024 .f32) (ix2 y d) = TG m c (ix2 (row t y) d) := by
  unfold row
  blk_point [iblk, V, idx t]
theorem x_block (y d : Fin 1024) : (iblk m c 0 t : FVec Ideal S1024x1024 .f32) (ix2 y d) = MX m c (ix2 (row t y) d) := by
  unfold row
  blk_point [iblk, V, idx t]

/-- One chip's share of the feed-forward output at a row and a column; `j` is taken modulo the four chips. -/
def part (x : FVec Ideal S8192x1024 .f32) (g : FVec Ideal S1024 .f32) (wg wu : FVec Ideal S1024x2816 .f32) (wd : FVec Ideal S2816x1024 .f32)
    (i : Fin 8192) (d : Fin 1024) (j : ℕ) : EReal :=
  ∑ k : Fin 704, gated x g wg wu i ⟨j % 4 * 704 + k, by omega⟩ * wd (ix2 ⟨j % 4 * 704 + k, by omega⟩ d)

/-- What the kernel makes of one chunk of rows: the chunk of the accumulator after this point. -/
theorem acc_at (H : FVec Ideal S256x1024 .bf16) (I2 I3 I4 : FVec Ideal S1x1x704x1024 .bf16) (A : FVec Ideal S256x1024 .f32) (y : Fin 256) (d : Fin 1024)
    (h : Fin 1024 → EReal) (hH : ∀ e, H (ix2 y e) = h e) :
    k0_pay48 (F := Ideal) (k0_pay47 H I2 I3) A I4 (ix2 y d) = A (ix2 y d) + ∑ k : Fin 704,
      (∑ e, h e * I2 (ix4 0 0 k e)) * Ideal.logistic (∑ e, h e * I2 (ix4 0 0 k e)) * (∑ e, h e * I3 (ix4 0 0 k e)) * I4 (ix4 0 0 k d) := by
  pointwise [k0_pay48, k0_pay47, k0_pay43, k0_pay44]
  simp only [hH]
theorem acc1 (H : FVec Ideal S256x1024 .bf16) (I2 I3 I4 : FVec Ideal S1x1x704x1024 .bf16) (A : FVec Ideal S256x1024 .f32) :
    k0_pay54 (F := Ideal) (k0_pay53 H I2 I3) A I4 = k0_pay48 (k0_pay47 H I2 I3) A I4 := rfl
theorem acc2 (H : FVec Ideal S256x1024 .bf16) (I2 I3 I4 : FVec Ideal S1x1x704x1024 .bf16) (A : FVec Ideal S256x1024 .f32) :
    k0_pay61 (F := Ideal) (k0_pay59 H I2 I3) A (k0_pay60 I4) (constant S256x1024 FTy.f32 0#32) = k0_pay48 (k0_pay47 H I2 I3) A I4 := rfl
theorem acc3 (H : FVec Ideal S256x1024 .bf16) (I2 I3 I4 : FVec Ideal S1x1x704x1024 .bf16) (A : FVec Ideal S256x1024 .f32) :
    k0_pay1 (F := Ideal) (k0_pay66 H I2 I3 A I4) = k0_pay48 (k0_pay47 H I2 I3) A I4 := rfl

theorem ld_rows {e : EltTy} (X : Vec Ideal S1024x1024 e) (o : ℕ) (h : ∀ a, ![o, 0] a + ![256, 1024] a ≤ S1024x1024.size a) (x0 : Fin 256) (d : Fin 1024) (y : Fin 1024) (hy : (y : ℕ) = o + x0) :
    View.ld X (Rect.unit ![o, 0] ![256, 1024] h) (ix2 x0 d) = X (ix2 y d) := by
  show X ((Rect.unit (s := S1024x1024) ![o, 0] ![256, 1024] h).idx (ix2 x0 d)) = X (ix2 y d)
  refine congrArg X ?_
  funext a
  refine Fin.ext ?_
  match a with
  | 0 => simp [Rect.unit, hy]
  | 1 => simp [Rect.unit]

/-- The accumulator chunk at a point, out of what the chunk held before. -/
theorem acc_point (o : ℕ) (h : ∀ a, ![o, 0] a + ![256, 1024] a ≤ S1024x1024.size a) (H : FVec Ideal S1024x1024 .bf16) (A : FVec Ideal S1024x1024 .f32)
    (hH : ∀ y e, H (ix2 y e) = hid (MX m c) (MG m c) (row t y) e) (x0 : Fin 256) (d : Fin 1024) (y : Fin 1024) (hy : (y : ℕ) = o + x0) :
    k0_pay48 (F := Ideal) (k0_pay47 (View.ld (Val := Elt Ideal) (e' := .bf16) H (Rect.unit ![o, 0] ![256, 1024] h)) (iblk m c 2 t) (iblk m c 3 t)) (View.ld (Val := Elt Ideal) (e' := .f32) A (Rect.unit ![o, 0] ![256, 1024] h)) (iblk m c 4 t) (ix2 x0 d)
      = A (ix2 y d) + part (MX m c) (MG m c) (WG m c) (WU m c) (WD m c) (row t y) d t.val := by
  refine (acc_at _ _ _ _ _ x0 d (fun e => hid (MX m c) (MG m c) (row t y) e) (fun e => (ld_rows _ _ _ _ _ y hy).trans (hH y e))).trans ?_
  rw [ld_rows _ _ _ _ _ y hy]
  unfold part gated proj
  simp only [wg_block, wu_block, wd_block]
  rfl

/-- A feed-forward lane chunk, as stored. -/
theorem a_at (H : FVec Ideal S256x1024 .bf16) (I2 : FVec Ideal S1x1x704x1024 .bf16) (y : Fin 256) (k : Fin 704) :
    k0_pay45 (F := Ideal) H I2 (ix3 0 y k) = ∑ e, H (ix2 y e) * I2 (ix4 0 0 k e) := by
  pointwise [k0_pay45, k0_pay43]
theorem a1 : @k0_pay51 = @k0_pay45 := rfl
theorem a2 : @k0_pay57 = @k0_pay45 := rfl
theorem a3 : @k0_pay64 = @k0_pay45 := rfl
theorem b0 : @k0_pay46 = @k0_pay45 := rfl
theorem b1 : @k0_pay52 = @k0_pay45 := rfl
theorem b2 : @k0_pay58 = @k0_pay45 := rfl
theorem b3 : @k0_pay65 = @k0_pay45 := rfl

/-- A row with the feed-forward output added. -/
def res (x a : Fin 1024 → EReal) (e : Fin 1024) : EReal := x e + Ideal.ofBits .f32 0x3F000000#32 * a e
def nrm (v : Fin 1024 → EReal) (d : Fin 1024) : EReal := v d * rinv v
def err (v g t : Fin 1024 → EReal) (d : Fin 1024) : EReal := nrm v d * g d - t d
def rowLoss (v g t : Fin 1024 → EReal) : EReal := Ideal.div (∑ e, err v g t e * err v g t e) (Ideal.ofBits .f32 0x44800000#32)
def dyv (v g t : Fin 1024 → EReal) (d : Fin 1024) : EReal := err v g t d * Ideal.ofBits .f32 0x3A800000#32
def gradRow (v g t : Fin 1024 → EReal) (d : Fin 1024) : EReal :=
  rinv v * (dyv v g t d * g d - nrm v d * Ideal.div (∑ e, dyv v g t e * g e * nrm v e) (Ideal.ofBits .f32 0x44800000#32))

section chunk
variable (X A T : FVec Ideal S256x1024 .f32) (G : FVec Ideal S1x1024 .f32) (x a g tg : Fin 256 → Fin 1024 → EReal) (y : Fin 256) (d : Fin 1024)
theorem r_at (hX : ∀ e, X (ix2 y e) = x y e) (hA : ∀ e, A (ix2 y e) = a y e) : k0_pay14 (F := Ideal) X A (ix2 y 0) = rinv (res (x y) (a y)) := by
  unfold rinv res
  pointwise [k0_pay14, k0_pay13]
  simp only [hX, hA]
theorem n_at (hX : ∀ e, X (ix2 y e) = x y e) (hA : ∀ e, A (ix2 y e) = a y e) : k0_pay15 (F := Ideal) X A (ix2 y d) = nrm (res (x y) (a y)) d := by
  unfold nrm
  rw [← r_at X A x a y hX hA]
  unfold res
  pointwise [k0_pay15, k0_pay13]
  simp only [hX, hA]
theorem e_at (hX : ∀ e, X (ix2 y e) = x y e) (hA : ∀ e, A (ix2 y e) = a y e) (hT : ∀ e, T (ix2 y e) = tg y e) :
    k0_pay16 (F := Ideal) G X A T (ix2 y d) = err (res (x y) (a y)) (fun e => G (ix2 0 e)) (tg y) d := by
  unfold err
  rw [← n_at X A x a y d hX hA]
  pointwise [k0_pay16]
  simp only [hT]
theorem grad_at (hX : ∀ e, X (ix2 y e) = x y e) (hA : ∀ e, A (ix2 y e) = a y e) (hT : ∀ e, T (ix2 y e) = tg y e) :
    k0_pay21 (F := Ideal) G (k0_pay14 X A) (k0_pay15 X A) (k0_pay16 G X A T) (ix2 y d) = gradRow (res (x y) (a y)) (fun e => G (ix2 0 e)) (tg y) d := by
  unfold gradRow dyv
  rw [← r_at X A x a y hX hA]
  simp only [← fun d => n_at X A x a y d hX hA, ← fun d => e_at X A T G x a tg y d hX hA hT]
  pointwise [k0_pay21, k0_pay19]
theorem loss_at (hX : ∀ y e, X (ix2 y e) = x y e) (hA : ∀ y e, A (ix2 y e) = a y e) (hT : ∀ y e, T (ix2 y e) = tg y e) :
    k0_pay17 (F := Ideal) G X A T = Ideal.ofBits .f32 0x3F000000#32 * ∑ y : Fin 256, rowLoss (res (x y) (a y)) (fun e => G (ix2 0 e)) (tg y) := by
  unfold rowLoss
  simp only [← fun y d => e_at X A T G x a tg y d (hX y) (hA y) (hT y)]
  pointwise [k0_pay17]
  simp only [Finset.univ_unique, Finset.sum_singleton]
theorem dg_at (P : FVec Ideal S1x1024 .f32) (hX : ∀ y e, X (ix2 y e) = x y e) (hA : ∀ y e, A (ix2 y e) = a y e) (hT : ∀ y e, T (ix2 y e) = tg y e) :
    k0_pay20 (F := Ideal) P (k0_pay15 X A) (k0_pay16 G X A T) (ix2 0 d) = P (ix2 0 d) + ∑ y : Fin 256, dyv (res (x y) (a y)) (fun e => G (ix2 0 e)) (tg y) d * nrm (res (x y) (a y)) d := by
  unfold dyv
  simp only [← fun y d => n_at X A x a y d (hX y) (hA y), ← fun y d => e_at X A T G x a tg y d (hX y) (hA y) (hT y)]
  pointwise [k0_pay20, k0_pay19]
theorem loss0 : k0_pay8 (F := Ideal) G X A T = Scalar.addf (Scalar.ofBits .f32 0#32) (k0_pay17 (k0_pay3 G) X A T) := rfl
theorem loss2 (s : Ideal .f32) : k0_pay27 (F := Ideal) s (k0_pay26 G X A T) = k0_pay18 s (k0_pay17 G X A T) := rfl
theorem loss3 (s : Ideal .f32) (L : FVec Ideal S8x128 .f32) (j) : k0_pay38 (F := Ideal) G s (k0_pay33 X A) T L j = L j + k0_pay18 s (k0_pay17 G X A T) := by
  have e : k0_pay38 (F := Ideal) G s (k0_pay33 X A) T L = addf (shapeCast S8x128 L shapeCasts_S8x128_S8x128) (broadcast S8x128 (k0_pay18 s (k0_pay17 G X A T))) := rfl
  rw [e]; pointwise
theorem dg0 : k0_pay10 (F := Ideal) G X A T = k0_pay20 (broadcast S1x1024 (Scalar.ofBits .f32 0#32)) (k0_pay15 X A) (k0_pay16 (k0_pay3 G) X A T) := rfl
theorem dg2 (P : FVec Ideal S1x1024 .f32) : k0_pay29 (F := Ideal) P (k0_pay24 X A) (k0_pay25 G X A T) = k0_pay20 P (k0_pay15 X A) (k0_pay16 G X A T) := rfl
theorem dg3 (P : FVec Ideal S1x1024 .f32) : k0_pay36 (F := Ideal) G P (k0_pay33 X A) T = k0_pay20 P (k0_pay15 X A) (k0_pay16 G X A T) := rfl
theorem grad0 : k0_pay12 (F := Ideal) (k0_pay5 X A) (k0_pay6 X A) (k0_pay9 G X A T) (k0_pay11 G) = k0_pay21 (k0_pay3 G) (k0_pay14 X A) (k0_pay15 X A) (k0_pay16 (k0_pay3 G) X A T) := rfl
theorem grad2 : k0_pay30 (F := Ideal) G (k0_pay23 X A) (k0_pay24 X A) (k0_pay25 G X A T) = k0_pay21 G (k0_pay14 X A) (k0_pay15 X A) (k0_pay16 G X A T) := rfl
theorem grad3 : k0_pay37 (F := Ideal) G (k0_pay32 X A) (k0_pay33 X A) T = k0_pay21 G (k0_pay14 X A) (k0_pay15 X A) (k0_pay16 G X A T) := rfl
theorem g3_at : k0_pay3 (F := Ideal) G (ix2 0 d) = G (ix2 0 d) := by pointwise [k0_pay3]
end chunk

/-- Four stores over a fill of the whole block leave what they store wherever one of them lands. -/
theorem canon_over {s : Shape} {e : EltTy} (G : s.Idx → Elt Ideal e) (z p0 p1 p2 p3 : View.Piece (Elt Ideal) s e) (y : s.Idx)
    (h3 : ∀ x : p3.1.shape.Idx, p3.2 x = G (p3.1.emb x)) (h2 : ∀ x : p2.1.shape.Idx, p2.2 x = G (p2.1.emb x))
    (h1 : ∀ x : p1.1.shape.Idx, p1.2 x = G (p1.1.emb x)) (h0 : ∀ x : p0.1.shape.Idx, p0.2 x = G (p0.1.emb x))
    (hc : ∃ p ∈ [p3, p2, p1, p0], y ∈ p.1.set) : View.canon [p3, p2, p1, p0, z] y = G y :=
  View.canon_append_of_piecesOf G [z] [p3, p2, p1, p0] ⟨h3, h2, h1, h0, trivial⟩ y hc

/-- The kept normalised input, after every point, is the point's rows of it. -/
theorem hid_all : ∀ n (hn : n < cfg0.N) (y d : Fin 1024), (outsAt0 m c n hn).2.2.2.2.2.1 (ix2 y d) = hid (MX m c) (MG m c) (row ⟨n, hn⟩ y) d := by
  intro n
  induction n using Nat.strong_induction_on with
  | _ n ih =>
    intro hn y d
    have keep : n % 4 ≠ 0 → (outsAt0 m c (n - 1) (by omega)).2.2.2.2.2.1 (ix2 y d) = hid (MX m c) (MG m c) (row ⟨n, hn⟩ y) d := fun h => by
      rw [ih (n - 1) (by omega) (by omega) y d]
      congr 1
      unfold row
      refine Fin.ext ?_
      show (n - 1) / 4 * 1024 + y.val = n / 4 * 1024 + y.val
      have : (n - 1) / 4 = n / 4 := by omega
      rw [this]
    by_cases h0 : n % 4 = 0
    · by_cases h1 : n % 32 = 0
      · rw [outsAt0_A m c ⟨n, hn⟩ h0 h1 (by show ¬ n % 4 = 3; omega)]; frame_out
        exact h_block m c ⟨n, hn⟩ y d
      · rw [outsAt0_D m c ⟨n, hn⟩ h0 h1 (by show ¬ n % 4 = 3; omega)]; frame_out
        exact h_block m c ⟨n, hn⟩ y d
    · by_cases h2 : n % 4 = 3
      · rw [outsAt0_C m c ⟨n, hn⟩ h0 (by show ¬ n % 32 = 0; omega) h2]; frame_out
        exact keep h0
      · rw [outsAt0_B m c ⟨n, hn⟩ h0 (by show ¬ n % 32 = 0; omega) h2]; frame_out
        exact keep h0

/-- The accumulator chunk at a point, at a chunk's index and the block's. -/
theorem acc_idx (o : ℕ) (h : ∀ a, ![o, 0] a + ![256, 1024] a ≤ S1024x1024.size a) (H : FVec Ideal S1024x1024 .bf16) (A : FVec Ideal S1024x1024 .f32)
    (hH : ∀ y e, H (ix2 y e) = hid (MX m c) (MG m c) (row t y) e) (x : S256x1024.Idx) (j : S1024x1024.Idx) (h0 : (j 0 : ℕ) = o + x 0) (h1 : (j 1 : ℕ) = x 1) :
    k0_pay48 (F := Ideal) (k0_pay47 (View.ld (Val := Elt Ideal) (e' := .bf16) H (Rect.unit ![o, 0] ![256, 1024] h)) (iblk m c 2 t) (iblk m c 3 t)) (View.ld (Val := Elt Ideal) (e' := .f32) A (Rect.unit ![o, 0] ![256, 1024] h)) (iblk m c 4 t) x
      = A j + part (MX m c) (MG m c) (WG m c) (WU m c) (WD m c) (row t (j 0)) (j 1) t.val := by
  idx_vars x
  idx_vars j
  obtain rfl : j1 = x1 := Fin.ext h1
  exact acc_point m c t o h H A hH x0 j1 _ h0

theorem zero_at (j) : k0_pay40 (F := Ideal) j = 0 := by pointwise [k0_pay40]

/-- What the accumulator holds of a row after the first `n` chips' shares. -/
def upto (x : FVec Ideal S8192x1024 .f32) (g : FVec Ideal S1024 .f32) (wg wu : FVec Ideal S1024x2816 .f32) (wd : FVec Ideal S2816x1024 .f32)
    (i : Fin 8192) (n : ℕ) (d : Fin 1024) : EReal := ∑ j ∈ Finset.range n, part x g wg wu wd i d j

theorem part_mod (x : FVec Ideal S8192x1024 .f32) (g : FVec Ideal S1024 .f32) (wg wu : FVec Ideal S1024x2816 .f32) (wd : FVec Ideal S2816x1024 .f32)
    (i : Fin 8192) (d : Fin 1024) (n : ℕ) : part x g wg wu wd i d n = part x g wg wu wd i d (n % 4) := by
  unfold part
  simp only [Nat.mod_mod]

theorem acc_first (h0 : t.val % 4 = 0) (y d : Fin 1024) : (outsAt0 m c t.val t.isLt).2.2.2.2.2.2 (ix2 y d) = 0 + part (MX m c) (MG m c) (WG m c) (WU m c) (WD m c) (row t y) d t.val := by
  by_cases h1 : t.val % 32 = 0
  · rw [outsAt0_A m c t h0 h1 (by omega)]; frame_open
    simp (disch := decide) only [↓ View.readCov_skip, ↓ View.readCov_cons_toLoadRect, ↓ View.readCov_fill]
    frame_out
    refine (canon_over (fun j : S1024x1024.Idx => k0_pay40 (F := Ideal) j + part (MX m c) (MG m c) (WG m c) (WU m c) (WD m c) (row t (j 0)) (j 1) t.val) _ _ _ _ _ (ix2 y d) (fun x => ?_) (fun x => ?_) (fun x => ?_) (fun x => ?_)
      (by exact View.cover_of_tiledL (s := S1024x1024) _ S256x1024.size (by sl_kernel_rfl) (ix2 y d))).trans ?_
    · rw [acc3]
      refine acc_idx m c t _ _ _ _ (h_block m c t) x _ ?_ ?_ <;> simp [Rect.unit, Rect.emb]
    · rw [acc2]
      refine acc_idx m c t _ _ _ _ (h_block m c t) x _ ?_ ?_ <;> simp [Rect.unit, Rect.emb]
    · rw [acc1]
      refine acc_idx m c t _ _ _ _ (h_block m c t) x _ ?_ ?_ <;> simp [Rect.unit, Rect.emb]
    · refine acc_idx m c t _ _ _ _ (h_block m c t) x _ ?_ ?_ <;> simp [Rect.unit, Rect.emb]
    · rw [zero_at]; rfl
  · rw [outsAt0_D m c t h0 h1 (by omega)]; frame_open
    simp (disch := decide) only [↓ View.readCov_skip, ↓ View.readCov_cons_toLoadRect, ↓ View.readCov_fill]
    frame_out
    refine (canon_over (fun j : S1024x1024.Idx => k0_pay40 (F := Ideal) j + part (MX m c) (MG m c) (WG m c) (WU m c) (WD m c) (row t (j 0)) (j 1) t.val) _ _ _ _ _ (ix2 y d) (fun x => ?_) (fun x => ?_) (fun x => ?_) (fun x => ?_)
      (by exact View.cover_of_tiledL (s := S1024x1024) _ S256x1024.size (by sl_kernel_rfl) (ix2 y d))).trans ?_
    · rw [acc3]
      refine acc_idx m c t _ _ _ _ (h_block m c t) x _ ?_ ?_ <;> simp [Rect.unit, Rect.emb]
    · rw [acc2]
      refine acc_idx m c t _ _ _ _ (h_block m c t) x _ ?_ ?_ <;> simp [Rect.unit, Rect.emb]
    · rw [acc1]
      refine acc_idx m c t _ _ _ _ (h_block m c t) x _ ?_ ?_ <;> simp [Rect.unit, Rect.emb]
    · refine acc_idx m c t _ _ _ _ (h_block m c t) x _ ?_ ?_ <;> simp [Rect.unit, Rect.emb]
    · rw [zero_at]; rfl
theorem hid_before (h0 : ¬ t.val % 4 = 0) (hp : t.val - 1 < cfg0.N) (y d : Fin 1024) : (outsAt0 m c (t.val - 1) hp).2.2.2.2.2.1 (ix2 y d) = hid (MX m c) (MG m c) (row t y) d := by
  rw [hid_all]
  congr 1
  unfold row
  refine Fin.ext ?_
  show (t.val - 1) / 4 * 1024 + y.val = t.val / 4 * 1024 + y.val
  have : (t.val - 1) / 4 = t.val / 4 := by omega
  rw [this]
theorem lt_before : t.val - 1 < cfg0.N := by have := t.isLt; omega
theorem acc_step (h0 : ¬ t.val % 4 = 0) (y d : Fin 1024) : (outsAt0 m c t.val t.isLt).2.2.2.2.2.2 (ix2 y d) =
    (outsAt0 m c (t.val - 1) (lt_before t)).2.2.2.2.2.2 (ix2 y d) + part (MX m c) (MG m c) (WG m c) (WU m c) (WD m c) (row t y) d t.val := by
  have hp := hid_before m c t h0 (lt_before t)
  by_cases h2 : t.val % 4 = 3
  · rw [outsAt0_C m c t h0 (by omega) h2]; frame_out
    simp only [read_unread_whole]
    canon_tiles x hx
    · rw [acc3]; exact acc_idx m c t _ _ _ _ hp x _ hx0 hx1
    · rw [acc2]; exact acc_idx m c t _ _ _ _ hp x _ hx0 hx1
    · rw [acc1]; exact acc_idx m c t _ _ _ _ hp x _ hx0 hx1
    · exact acc_idx m c t _ _ _ _ hp x _ (hx0.trans (Nat.zero_add _).symm) hx1
  · rw [outsAt0_B m c t h0 (by omega) h2]; frame_out
    simp only [read_unread_whole]
    canon_tiles x hx
    · rw [acc3]; exact acc_idx m c t _ _ _ _ hp x _ hx0 hx1
    · rw [acc2]; exact acc_idx m c t _ _ _ _ hp x _ hx0 hx1
    · rw [acc1]; exact acc_idx m c t _ _ _ _ hp x _ hx0 hx1
    · exact acc_idx m c t _ _ _ _ hp x _ (hx0.trans (Nat.zero_add _).symm) hx1
theorem acc_all : ∀ n (hn : n < cfg0.N) (y d : Fin 1024), (outsAt0 m c n hn).2.2.2.2.2.2 (ix2 y d) = upto (MX m c) (MG m c) (WG m c) (WU m c) (WD m c) (row ⟨n, hn⟩ y) (n % 4 + 1) d := by
  intro n
  induction n with
  | zero =>
    intro hn y d
    refine (acc_first m c ⟨0, hn⟩ rfl y d).trans ?_
    unfold upto
    rw [Finset.sum_range_succ, part_mod]; rfl
  | succ n ih =>
    intro hn y d
    unfold upto at ih ⊢
    rw [Finset.sum_range_succ, ← part_mod]
    by_cases h0 : (n + 1) % 4 = 0
    · refine (acc_first m c ⟨n + 1, hn⟩ h0 y d).trans ?_
      rw [h0]; rfl
    · refine (acc_step m c ⟨n + 1, hn⟩ h0 y d).trans ?_
      have e : row ⟨n, by omega⟩ y = row ⟨n + 1, hn⟩ y := by
        unfold row
        refine Fin.ext ?_
        show n / 4 * 1024 + y.val = (n + 1) / 4 * 1024 + y.val
        have : n / 4 = (n + 1) / 4 := by omega
        rw [this]
      have e' : (n + 1) % 4 = n % 4 + 1 := by omega
      rw [e', ← e]
      exact congrArg (· + _) (ih (by omega) y d)

abbrev ACC (i : Fin 8192) : Fin 1024 → EReal := upto (MX m c) (MG m c) (WG m c) (WU m c) (WD m c) i 4
abbrev XR (i : Fin 8192) : Fin 1024 → EReal := fun e => MX m c (ix2 i e)
abbrev TR (i : Fin 8192) : Fin 1024 → EReal := fun e => TG m c (ix2 i e)
abbrev GR : Fin 1024 → EReal := fun e => GF m c (ix1 e)
/-- The row of the block's output that the loss is taken of. -/
abbrev VR (i : Fin 8192) : Fin 1024 → EReal := res (XR m c i) (ACC m c i)

/-- At a tile's last point the accumulator chunk holds every chip's share. -/
theorem acc_last (h2 : t.val % 4 = 3) (o : ℕ) (h : ∀ a, ![o, 0] a + ![256, 1024] a ≤ S1024x1024.size a) (x0 : Fin 256) (d : Fin 1024) (y : Fin 1024) (hy : (y : ℕ) = o + x0) :
    k0_pay48 (F := Ideal) (k0_pay47 (View.ld (Val := Elt Ideal) (e' := .bf16) (outsAt0 m c (t.val - 1) (lt_before t)).2.2.2.2.2.1 (Rect.unit ![o, 0] ![256, 1024] h)) (iblk m c 2 t) (iblk m c 3 t))
      (View.ld (Val := Elt Ideal) (e' := .f32) (outsAt0 m c (t.val - 1) (lt_before t)).2.2.2.2.2.2 (Rect.unit ![o, 0] ![256, 1024] h)) (iblk m c 4 t) (ix2 x0 d) = ACC m c (row t y) d := by
  refine (acc_point m c t o h _ _ (hid_before m c t (by omega) _) x0 d y hy).trans ((acc_step m c t (by omega) y d).symm.trans ?_)
  rw [acc_all, h2]

/-- The row of the block that row `y` of the chunk starting at row `o` is. -/
def at_ (o : ℕ) (h : ∀ a, ![o, 0] a + ![256, 1024] a ≤ S1024x1024.size a) (y : Fin 256) : Fin 1024 := ⟨o + y, by have := h 0; simp at this; omega⟩

section rows
variable (h2 : t.val % 4 = 3) (o : ℕ) (h : ∀ a, ![o, 0] a + ![256, 1024] a ≤ S1024x1024.size a)

abbrev CX : FVec Ideal S256x1024 .f32 := View.ld (Val := Elt Ideal) (e' := .f32) (iblk m c 0 t) (Rect.unit (s := S1024x1024) ![o, 0] ![256, 1024] h)
abbrev CT : FVec Ideal S256x1024 .f32 := View.ld (Val := Elt Ideal) (e' := .f32) (iblk m c 6 t) (Rect.unit (s := S1024x1024) ![o, 0] ![256, 1024] h)
abbrev CA : FVec Ideal S256x1024 .f32 :=
  k0_pay48 (F := Ideal) (k0_pay47 (View.ld (Val := Elt Ideal) (e' := .bf16) (outsAt0 m c (t.val - 1) (lt_before t)).2.2.2.2.2.1 (Rect.unit (s := S1024x1024) ![o, 0] ![256, 1024] h)) (iblk m c 2 t) (iblk m c 3 t))
      (View.ld (Val := Elt Ideal) (e' := .f32) (outsAt0 m c (t.val - 1) (lt_before t)).2.2.2.2.2.2 (Rect.unit (s := S1024x1024) ![o, 0] ![256, 1024] h)) (iblk m c 4 t)

theorem cx (y : Fin 256) (e) : CX m c t o h (ix2 y e) = XR m c (row t (at_ o h y)) e :=
  (ld_rows _ _ _ _ _ (at_ o h y) rfl).trans (x_block m c t _ e)
theorem ct (y : Fin 256) (e) : CT m c t o h (ix2 y e) = TR m c (row t (at_ o h y)) e :=
  (ld_rows _ _ _ _ _ (at_ o h y) rfl).trans (tg_block m c t _ e)
include h2 in
theorem ca (y : Fin 256) (e) : CA m c t o h (ix2 y e) = ACC m c (row t (at_ o h y)) e := acc_last m c t h2 o h y e (at_ o h y) rfl
theorem cg : (fun e => k0_pay3 (F := Ideal) (iblk m c 5 t) (ix2 0 e)) = GR m c := funext fun e => (g3_at _ e).trans (gf_block m c t e)

include h2 in
theorem grad_point (x : S256x1024.Idx) (y d : Fin 1024) (h0 : (y : ℕ) = o + x 0) (h1 : (d : ℕ) = x 1) :
    k0_pay21 (F := Ideal) (k0_pay3 (iblk m c 5 t)) (k0_pay14 (CX m c t o h) (CA m c t o h)) (k0_pay15 (CX m c t o h) (CA m c t o h))
      (k0_pay16 (k0_pay3 (iblk m c 5 t)) (CX m c t o h) (CA m c t o h) (CT m c t o h)) x = gradRow (VR m c (row t y)) (GR m c) (TR m c (row t y)) d := by
  idx_vars x
  obtain rfl : y = at_ o h x0 := Fin.ext h0
  obtain rfl : d = x1 := Fin.ext h1
  rw [grad_at _ _ _ _ (fun y => XR m c (row t (at_ o h y))) (fun y => ACC m c (row t (at_ o h y))) (fun y => TR m c (row t (at_ o h y))) x0 d
    (cx m c t o h x0) (ca m c t h2 o h x0) (ct m c t o h x0), cg]
include h2 in
theorem loss_point : k0_pay17 (F := Ideal) (k0_pay3 (iblk m c 5 t)) (CX m c t o h) (CA m c t o h) (CT m c t o h)
    = Ideal.ofBits .f32 0x3F000000#32 * ∑ y : Fin 256, rowLoss (VR m c (row t (at_ o h y))) (GR m c) (TR m c (row t (at_ o h y))) := by
  rw [loss_at _ _ _ _ (fun y => XR m c (row t (at_ o h y))) (fun y => ACC m c (row t (at_ o h y))) (fun y => TR m c (row t (at_ o h y)))
    (cx m c t o h) (ca m c t h2 o h) (ct m c t o h), cg]
include h2 in
theorem dg_point (P : FVec Ideal S1x1024 .f32) (d : Fin 1024) : k0_pay20 (F := Ideal) P (k0_pay15 (CX m c t o h) (CA m c t o h))
      (k0_pay16 (k0_pay3 (iblk m c 5 t)) (CX m c t o h) (CA m c t o h) (CT m c t o h)) (ix2 0 d)
    = P (ix2 0 d) + ∑ y : Fin 256, dyv (VR m c (row t (at_ o h y))) (GR m c) (TR m c (row t (at_ o h y))) d * nrm (VR m c (row t (at_ o h y))) d := by
  rw [dg_at _ _ _ _ (fun y => XR m c (row t (at_ o h y))) (fun y => ACC m c (row t (at_ o h y))) (fun y => TR m c (row t (at_ o h y))) d _
    (cx m c t o h) (ca m c t h2 o h) (ct m c t o h), cg]
end rows

theorem y_point (h2 : t.val % 4 = 3) (y d : Fin 1024) : (outsAt0 m c t.val t.isLt).1 (ix2 y d) = gradRow (VR m c (row t y)) (GR m c) (TR m c (row t y)) d := by
  rw [outsAt0_C m c t (by omega) (by omega) h2]; frame_open
  simp (disch := decide) only [↓ View.readCov_skip, ↓ View.readCov_cons_toLoadRect, ↓ View.readCov_fill]
  frame_out
  simp only [read_unread_whole, acc1, acc2, acc3, grad0, grad2, grad3]
  canon_tiles x hx
  · exact grad_point m c t h2 _ _ x y d hx0 hx1
  · exact grad_point m c t h2 _ _ x y d hx0 hx1
  · exact grad_point m c t h2 _ _ x y d hx0 hx1
  · exact grad_point m c t h2 _ _ x y d (hx0.trans (Nat.zero_add _).symm) hx1

/-- The rows of a block in its four chunks. -/
theorem sum_chunks (f : Fin 1024 → EReal) : ∑ y, f y = (∑ y : Fin 256, f ⟨0 + y, by omega⟩) + (∑ y : Fin 256, f ⟨256 + y, by omega⟩) + (∑ y : Fin 256, f ⟨512 + y, by omega⟩) + ∑ y : Fin 256, f ⟨768 + y, by omega⟩ := by
  rw [← Fin.sum_mul_add_fin (L := 1024) 4 256, Fin.sum_univ_four]
  rfl
/-- The block's share of the loss. -/
def lossPart (p : Fin cfg0.N) : EReal :=
  ∑ q : Fin 4, Ideal.ofBits .f32 0x3F000000#32 * ∑ y : Fin 256, rowLoss (VR m c (row p ⟨q * 256 + y, by omega⟩)) (GR m c) (TR m c (row p ⟨q * 256 + y, by omega⟩))
def dgPart (p : Fin cfg0.N) (d : Fin 1024) : EReal :=
  ∑ y : Fin 1024, dyv (VR m c (row p y)) (GR m c) (TR m c (row p y)) d * nrm (VR m c (row p y)) d

theorem l_point (h2 : t.val % 4 = 3) (j) : (outsAt0 m c t.val t.isLt).2.2.2.1 j = (outsAt0 m c (t.val - 1) (lt_before t)).2.2.2.1 j + lossPart m c t := by
  rw [outsAt0_C m c t (by omega) (by omega) h2]; frame_open
  simp (disch := decide) only [↓ View.readCov_skip, ↓ View.readCov_cons_toLoadRect, ↓ View.readCov_fill]
  frame_out
  simp only [read_unread_whole, acc1, acc2, acc3, loss0, loss2, loss3]
  unfold lossPart
  rw [Fin.sum_univ_four]
  refine congrArg _ ?_
  refine (congrArg₂ k0_pay18 (congrArg₂ k0_pay18 (congrArg₂ k0_pay18 (congrArg _ (loss_point m c t h2 0 _)) (loss_point m c t h2 256 _)) (loss_point m c t h2 512 _)) (loss_point m c t h2 768 _)).trans ?_
  pointwise [k0_pay18]
  have e : ∀ p q : Fin 1024, p = q → rowLoss (VR m c (row t p)) (GR m c) (TR m c (row t p)) = rowLoss (VR m c (row t q)) (GR m c) (TR m c (row t q)) := fun p q h => by rw [h]
  refine congrArg₂ (· + ·) (congrArg₂ (· + ·) (congrArg₂ (· + ·) ?_ ?_) ?_) ?_ <;>
    exact congrArg _ (Finset.sum_congr rfl fun y _ => e _ _ (Fin.ext (by simp [at_])))
theorem g_point (h2 : t.val % 4 = 3) (d) : (outsAt0 m c t.val t.isLt).2.2.2.2.1 (ix2 0 d) = (outsAt0 m c (t.val - 1) (lt_before t)).2.2.2.2.1 (ix2 0 d) + dgPart m c t d := by
  rw [outsAt0_C m c t (by omega) (by omega) h2]; frame_open
  simp (disch := decide) only [↓ View.readCov_skip, ↓ View.readCov_cons_toLoadRect, ↓ View.readCov_fill]
  frame_out
  simp only [read_unread_whole, acc1, acc2, acc3, dg0, dg2, dg3]
  have e : ∀ (a b : FVec Ideal S1x1024 .f32), k0_pay2 (F := Ideal) a b (ix2 0 d) = b (ix2 0 d) + a (ix2 0 d) := fun a b => by pointwise [k0_pay2]
  rw [e]
  refine congrArg _ ?_
  unfold dgPart
  rw [sum_chunks]
  refine (dg_point m c t h2 768 _ _ d).trans (congrArg₂ (· + ·) ((dg_point m c t h2 512 _ _ d).trans (congrArg₂ (· + ·)
    ((dg_point m c t h2 256 _ _ d).trans (congrArg₂ (· + ·) ((dg_point m c t h2 0 _ _ d).trans ?_) rfl)) rfl)) rfl)
  have hz : broadcast S1x1024 (FloatOps.ofBits (F := Ideal) FTy.f32 0#32) (ix2 0 d) = (0 : EReal) := by pointwise
  refine (congrArg (· + _) hz).trans ((zero_add _).trans ?_)
  exact Finset.sum_congr rfl fun y _ => rfl

/-- A chunk of a projection's columns, as stored. -/
theorem a_idx (o : ℕ) (h : ∀ a, ![o, 0] a + ![256, 1024] a ≤ S1024x1024.size a) (H : FVec Ideal S1024x1024 .bf16)
    (hH : ∀ y e, H (ix2 y e) = hid (MX m c) (MG m c) (row t y) e) (x : S1x256x704.Idx) (y : Fin 1024) (k : Fin 704) (h0 : (y : ℕ) = o + x 1) (h1 : (k : ℕ) = x 2) :
    k0_pay45 (F := Ideal) (View.ld (Val := Elt Ideal) (e' := .bf16) H (Rect.unit ![o, 0] ![256, 1024] h)) (iblk m c 2 t) x = proj (MX m c) (MG m c) (WG m c) (row t y) (lane t k) := by
  idx_vars x
  obtain rfl : k = x2 := Fin.ext h1
  obtain rfl : x0 = 0 := Subsingleton.elim _ _
  rw [a_at]
  unfold proj
  simp only [fun e => (ld_rows (e := .bf16) H o h x1 e y h0).trans (hH y e), wg_block]
theorem b_idx (o : ℕ) (h : ∀ a, ![o, 0] a + ![256, 1024] a ≤ S1024x1024.size a) (H : FVec Ideal S1024x1024 .bf16)
    (hH : ∀ y e, H (ix2 y e) = hid (MX m c) (MG m c) (row t y) e) (x : S1x256x704.Idx) (y : Fin 1024) (k : Fin 704) (h0 : (y : ℕ) = o + x 1) (h1 : (k : ℕ) = x 2) :
    k0_pay45 (F := Ideal) (View.ld (Val := Elt Ideal) (e' := .bf16) H (Rect.unit ![o, 0] ![256, 1024] h)) (iblk m c 3 t) x = proj (MX m c) (MG m c) (WU m c) (row t y) (lane t k) := by
  idx_vars x
  obtain rfl : k = x2 := Fin.ext h1
  obtain rfl : x0 = 0 := Subsingleton.elim _ _
  rw [a_at]
  unfold proj
  simp only [fun e => (ld_rows (e := .bf16) H o h x1 e y h0).trans (hH y e), wu_block]
theorem a_first (h0 : t.val % 4 = 0) (y : Fin 1024) (k : Fin 704) : (outsAt0 m c t.val t.isLt).2.1 (ix3 0 y k) = proj (MX m c) (MG m c) (WG m c) (row t y) (lane t k) := by
  by_cases h1 : t.val % 32 = 0
  · rw [outsAt0_A m c t h0 h1 (by omega)]; frame_open
    simp (disch := decide) only [↓ View.readCov_skip, ↓ View.readCov_cons_toLoadRect, ↓ View.readCov_fill]
    frame_out
    simp only [read_unread_whole, a1, a2, a3, b0, b1, b2, b3]
    canon_tiles x hx
    · exact a_idx m c t _ _ _ (h_block m c t) x y k hx1 hx2
    · exact a_idx m c t _ _ _ (h_block m c t) x y k hx1 hx2
    · exact a_idx m c t _ _ _ (h_block m c t) x y k hx1 hx2
    · exact a_idx m c t _ _ _ (h_block m c t) x y k (hx1.trans (Nat.zero_add _).symm) hx2
  · rw [outsAt0_D m c t h0 h1 (by omega)]; frame_open
    simp (disch := decide) only [↓ View.readCov_skip, ↓ View.readCov_cons_toLoadRect, ↓ View.readCov_fill]
    frame_out
    simp only [read_unread_whole, a1, a2, a3, b0, b1, b2, b3]
    canon_tiles x hx
    · exact a_idx m c t _ _ _ (h_block m c t) x y k hx1 hx2
    · exact a_idx m c t _ _ _ (h_block m c t) x y k hx1 hx2
    · exact a_idx m c t _ _ _ (h_block m c t) x y k hx1 hx2
    · exact a_idx m c t _ _ _ (h_block m c t) x y k (hx1.trans (Nat.zero_add _).symm) hx2
theorem a_later (h0 : ¬ t.val % 4 = 0) (y : Fin 1024) (k : Fin 704) : (outsAt0 m c t.val t.isLt).2.1 (ix3 0 y k) = proj (MX m c) (MG m c) (WG m c) (row t y) (lane t k) := by
  have hp := hid_before m c t h0 (lt_before t)
  by_cases h2 : t.val % 4 = 3
  · rw [outsAt0_C m c t h0 (by omega) h2]; frame_open
    simp (disch := decide) only [↓ View.readCov_skip, ↓ View.readCov_cons_toLoadRect, ↓ View.readCov_fill]
    frame_out
    simp only [read_unread_whole, a1, a2, a3, b0, b1, b2, b3]
    canon_tiles x hx
    · exact a_idx m c t _ _ _ hp x y k hx1 hx2
    · exact a_idx m c t _ _ _ hp x y k hx1 hx2
    · exact a_idx m c t _ _ _ hp x y k hx1 hx2
    · exact a_idx m c t _ _ _ hp x y k (hx1.trans (Nat.zero_add _).symm) hx2
  · rw [outsAt0_B m c t h0 (by omega) h2]; frame_open
    simp (disch := decide) only [↓ View.readCov_skip, ↓ View.readCov_cons_toLoadRect, ↓ View.readCov_fill]
    frame_out
    simp only [read_unread_whole, a1, a2, a3, b0, b1, b2, b3]
    canon_tiles x hx
    · exact a_idx m c t _ _ _ hp x y k hx1 hx2
    · exact a_idx m c t _ _ _ hp x y k hx1 hx2
    · exact a_idx m c t _ _ _ hp x y k hx1 hx2
    · exact a_idx m c t _ _ _ hp x y k (hx1.trans (Nat.zero_add _).symm) hx2
theorem a_point (y : Fin 1024) (k : Fin 704) : (outsAt0 m c t.val t.isLt).2.1 (ix3 0 y k) = proj (MX m c) (MG m c) (WG m c) (row t y) (lane t k) := by
  by_cases h0 : t.val % 4 = 0
  · exact a_first m c t h0 y k
  · exact a_later m c t h0 y k
theorem b_first (h0 : t.val % 4 = 0) (y : Fin 1024) (k : Fin 704) : (outsAt0 m c t.val t.isLt).2.2.1 (ix3 0 y k) = proj (MX m c) (MG m c) (WU m c) (row t y) (lane t k) := by
  by_cases h1 : t.val % 32 = 0
  · rw [outsAt0_A m c t h0 h1 (by omega)]; frame_open
    simp (disch := decide) only [↓ View.readCov_skip, ↓ View.readCov_cons_toLoadRect, ↓ View.readCov_fill]
    frame_out
    simp only [read_unread_whole, a1, a2, a3, b0, b1, b2, b3]
    canon_tiles x hx
    · exact b_idx m c t _ _ _ (h_block m c t) x y k hx1 hx2
    · exact b_idx m c t _ _ _ (h_block m c t) x y k hx1 hx2
    · exact b_idx m c t _ _ _ (h_block m c t) x y k hx1 hx2
    · exact b_idx m c t _ _ _ (h_block m c t) x y k (hx1.trans (Nat.zero_add _).symm) hx2
  · rw [outsAt0_D m c t h0 h1 (by omega)]; frame_open
    simp (disch := decide) only [↓ View.readCov_skip, ↓ View.readCov_cons_toLoadRect, ↓ View.readCov_fill]
    frame_out
    simp only [read_unread_whole, a1, a2, a3, b0, b1, b2, b3]
    canon_tiles x hx
    · exact b_idx m c t _ _ _ (h_block m c t) x y k hx1 hx2
    · exact b_idx m c t _ _ _ (h_block m c t) x y k hx1 hx2
    · exact b_idx m c t _ _ _ (h_block m c t) x y k hx1 hx2
    · exact b_idx m c t _ _ _ (h_block m c t) x y k (hx1.trans (Nat.zero_add _).symm) hx2
theorem b_later (h0 : ¬ t.val % 4 = 0) (y : Fin 1024) (k : Fin 704) : (outsAt0 m c t.val t.isLt).2.2.1 (ix3 0 y k) = proj (MX m c) (MG m c) (WU m c) (row t y) (lane t k) := by
  have hp := hid_before m c t h0 (lt_before t)
  by_cases h2 : t.val % 4 = 3
  · rw [outsAt0_C m c t h0 (by omega) h2]; frame_open
    simp (disch := decide) only [↓ View.readCov_skip, ↓ View.readCov_cons_toLoadRect, ↓ View.readCov_fill]
    frame_out
    simp only [read_unread_whole, a1, a2, a3, b0, b1, b2, b3]
    canon_tiles x hx
    · exact b_idx m c t _ _ _ hp x y k hx1 hx2
    · exact b_idx m c t _ _ _ hp x y k hx1 hx2
    · exact b_idx m c t _ _ _ hp x y k hx1 hx2
    · exact b_idx m c t _ _ _ hp x y k (hx1.trans (Nat.zero_add _).symm) hx2
  · rw [outsAt0_B m c t h0 (by omega) h2]; frame_open
    simp (disch := decide) only [↓ View.readCov_skip, ↓ View.readCov_cons_toLoadRect, ↓ View.readCov_fill]
    frame_out
    simp only [read_unread_whole, a1, a2, a3, b0, b1, b2, b3]
    canon_tiles x hx
    · exact b_idx m c t _ _ _ hp x y k hx1 hx2
    · exact b_idx m c t _ _ _ hp x y k hx1 hx2
    · exact b_idx m c t _ _ _ hp x y k hx1 hx2
    · exact b_idx m c t _ _ _ hp x y k (hx1.trans (Nat.zero_add _).symm) hx2
theorem b_point (y : Fin 1024) (k : Fin 704) : (outsAt0 m c t.val t.isLt).2.2.1 (ix3 0 y k) = proj (MX m c) (MG m c) (WU m c) (row t y) (lane t k) := by
  by_cases h0 : t.val % 4 = 0
  · exact b_first m c t h0 y k
  · exact b_later m c t h0 y k
theorem lane_lt (j : S4x8192x704.Idx) : (j 0 : ℕ) * 704 + j 2 < 2816 := by
  have h0 := (j 0).isLt
  have h2 := (j 2).isLt
  simp at h0 h2
  omega
/-- The column of the joined weights an entry of the stored projection belongs to. -/
def col (j : S4x8192x704.Idx) : Fin 2816 := ⟨j 0 * 704 + j 2, lane_lt j⟩
theorem y_final : (dats m 0 c).arrAt 7 (cfgs 0).N = fun j : S8192x1024.Idx => gradRow (VR m c (j 0)) (GR m c) (TR m c (j 0)) (j 1) := by
  refine (dats m 0 c).arrAt_eq_of_covers 7 _ (by decide +kernel) fun t hf y => ?_
  have h2 : t.val % 4 = 3 := (flush0_7 t).mp hf
  blk_simp
  rw [after0_7]
  idx_vars y
  have e : ((View.whole main_v12_0).slice (win0_7.rect t)).emb (ix2 y0 y1) = ix2 (row t y0) y1 := by
    unfold row; blk_ext [idx t]
  rw [e]
  exact y_point m c t h2 _ _
theorem a_final : (dats m 0 c).arrAt 8 (cfgs 0).N = fun j : S4x8192x704.Idx => proj (MX m c) (MG m c) (WG m c) (j 1) (col j) := by
  refine (dats m 0 c).arrAt_eq_of_covers 8 _ (by decide +kernel) fun t hf y => ?_
  blk_simp
  rw [after0_8]
  idx_vars y
  obtain rfl : y0 = 0 := Subsingleton.elim _ _
  have e : ((View.whole main_v12_1).slice (win0_8.rect t)).emb (ix3 0 y1 y2) = ix3 ⟨t.val % 4, Nat.mod_lt _ (by decide)⟩ (row t y1) y2 := by
    unfold row; blk_ext [idx t]
  rw [e]
  exact a_point m c t _ _
theorem b_final : (dats m 0 c).arrAt 9 (cfgs 0).N = fun j : S4x8192x704.Idx => proj (MX m c) (MG m c) (WU m c) (j 1) (col j) := by
  refine (dats m 0 c).arrAt_eq_of_covers 9 _ (by decide +kernel) fun t hf y => ?_
  blk_simp
  rw [after0_9]
  idx_vars y
  obtain rfl : y0 = 0 := Subsingleton.elim _ _
  have e : ((View.whole main_v12_2).slice (win0_9.rect t)).emb (ix3 0 y1 y2) = ix3 ⟨t.val % 4, Nat.mod_lt _ (by decide)⟩ (row t y1) y2 := by
    unfold row; blk_ext [idx t]
  rw [e]
  exact b_point m c t _ _
end Cert.Ffn2Ideal.Mine
end
-- ==== Proof.Ffn2Sum.lean ====
/- The second feed-forward block with the loss at its end: the loss and the final norm's gradient, added up over the
   blocks of rows, and the five arrays the call leaves. -/
module

public import proofs.«01_k».proof.Proof.Ffn2
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.Ffn2Ideal.Mine
open Cert.Ffn2Ideal Cert.Ffn2Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The point that finishes the `i`-th block of rows. -/
def last (i : ℕ) : Fin cfg0.N := ⟨i % 8 * 4 + 3, lt_of_lt_of_eq (by omega) N_0.symm⟩
def lossTile (i : ℕ) : EReal := lossPart m c (last i)
def dgTile (i : ℕ) (d : Fin 1024) : EReal := dgPart m c (last i) d
theorem loss_keep (t : Fin cfg0.N) (h1 : ¬ t.val % 32 = 0) (h2 : ¬ t.val % 4 = 3) (j : S8x128.Idx) : (outsAt0 m c t.val t.isLt).2.2.2.1 j = (outsAt0 m c (t.val - 1) (lt_before t)).2.2.2.1 j := by
  by_cases h0 : t.val % 4 = 0
  · rw [outsAt0_D m c t h0 h1 h2]; rfl
  · rw [outsAt0_B m c t h0 h1 h2]; rfl
theorem loss_first (t : Fin cfg0.N) (h1 : t.val % 32 = 0) (j : S8x128.Idx) : (outsAt0 m c t.val t.isLt).2.2.2.1 j = 0 := by
  rw [outsAt0_A m c t (by omega) h1 (by omega)]; frame_out
  pointwise [k0_pay41]
/-- After a point: the blocks of rows finished so far. -/
theorem loss_all : ∀ n (hn : n < cfg0.N) (j : S8x128.Idx), (outsAt0 m c n hn).2.2.2.1 j = ∑ i ∈ Finset.range ((n + 1) / 4), lossTile m c i := by
  intro n
  induction n with
  | zero =>
    intro hn j
    exact loss_first m c ⟨0, hn⟩ rfl j
  | succ n ih =>
    intro hn j
    have hN : n + 1 < 32 := lt_of_lt_of_eq hn N_0
    by_cases h2 : (n + 1) % 4 = 3
    · rw [l_point m c ⟨n + 1, hn⟩ h2, show (n + 1 + 1) / 4 = (n + 1) / 4 + 1 by omega, Finset.sum_range_succ]
      refine congrArg₂ (· + ·) (ih (by omega) j) ?_
      have e : (⟨n + 1, hn⟩ : Fin cfg0.N) = last ((n + 1) / 4) := Fin.ext (by show n + 1 = (n + 1) / 4 % 8 * 4 + 3; omega)
      rw [e]; rfl
    · rw [loss_keep m c ⟨n + 1, hn⟩ (by show ¬ (n + 1) % 32 = 0; omega) h2, show (n + 1 + 1) / 4 = (n + 1) / 4 by omega]
      exact ih (by omega) j
theorem dg_keep (t : Fin cfg0.N) (h1 : ¬ t.val % 32 = 0) (h2 : ¬ t.val % 4 = 3) (d : Fin 1024) : (outsAt0 m c t.val t.isLt).2.2.2.2.1 (ix2 0 d) = (outsAt0 m c (t.val - 1) (lt_before t)).2.2.2.2.1 (ix2 0 d) := by
  by_cases h0 : t.val % 4 = 0
  · rw [outsAt0_D m c t h0 h1 h2]; rfl
  · rw [outsAt0_B m c t h0 h1 h2]; rfl
theorem dg_first (t : Fin cfg0.N) (h1 : t.val % 32 = 0) (d : Fin 1024) : (outsAt0 m c t.val t.isLt).2.2.2.2.1 (ix2 0 d) = 0 := by
  rw [outsAt0_A m c t (by omega) h1 (by omega)]; frame_out
  pointwise [k0_pay42]
/-- After a point: the blocks of rows finished so far. -/
theorem dg_all : ∀ n (hn : n < cfg0.N) (d : Fin 1024), (outsAt0 m c n hn).2.2.2.2.1 (ix2 0 d) = ∑ i ∈ Finset.range ((n + 1) / 4), dgTile m c i d := by
  intro n
  induction n with
  | zero =>
    intro hn d
    exact dg_first m c ⟨0, hn⟩ rfl d
  | succ n ih =>
    intro hn d
    have hN : n + 1 < 32 := lt_of_lt_of_eq hn N_0
    by_cases h2 : (n + 1) % 4 = 3
    · rw [g_point m c ⟨n + 1, hn⟩ h2, show (n + 1 + 1) / 4 = (n + 1) / 4 + 1 by omega, Finset.sum_range_succ]
      refine congrArg₂ (· + ·) (ih (by omega) d) ?_
      have e : (⟨n + 1, hn⟩ : Fin cfg0.N) = last ((n + 1) / 4) := Fin.ext (by show n + 1 = (n + 1) / 4 % 8 * 4 + 3; omega)
      rw [e]; rfl
    · rw [dg_keep m c ⟨n + 1, hn⟩ (by show ¬ (n + 1) % 32 = 0; omega) h2, show (n + 1 + 1) / 4 = (n + 1) / 4 by omega]
      exact ih (by omega) d

theorem row_last (i : Fin 8) (y : Fin 1024) : row (last i) y = ⟨i * 1024 + y, by omega⟩ := by
  unfold row last
  refine Fin.ext ?_
  show (i.val % 8 * 4 + 3) / 4 * 1024 + y.val = i.val * 1024 + y.val
  have : (i.val % 8 * 4 + 3) / 4 = i.val := by omega
  rw [this]
/-- The loss a run leaves: half the rows' losses, in chunks of 256 rows. -/
def lossSum (v : Fin 8192 → Fin 1024 → EReal) (g : Fin 1024 → EReal) (t : Fin 8192 → Fin 1024 → EReal) : EReal :=
  ∑ i : Fin 8, ∑ q : Fin 4, Ideal.ofBits .f32 0x3F000000#32 * ∑ y : Fin 256, rowLoss (v ⟨i * 1024 + (q * 256 + y), by omega⟩) g (t ⟨i * 1024 + (q * 256 + y), by omega⟩)
theorem lossTile_eq (i : Fin 8) : lossTile m c i = ∑ q : Fin 4, Ideal.ofBits .f32 0x3F000000#32 * ∑ y : Fin 256, rowLoss (VR m c ⟨i * 1024 + (q * 256 + y), by omega⟩) (GR m c) (TR m c ⟨i * 1024 + (q * 256 + y), by omega⟩) := by
  unfold lossTile lossPart
  simp only [row_last]
theorem dgTile_eq (i : Fin 8) (d : Fin 1024) : dgTile m c i d = ∑ y : Fin 1024, dyv (VR m c ⟨i * 1024 + y, by omega⟩) (GR m c) (TR m c ⟨i * 1024 + y, by omega⟩) d * nrm (VR m c ⟨i * 1024 + y, by omega⟩) d := by
  unfold dgTile dgPart
  simp only [row_last]
/-- The final norm's gradient in one of its columns. -/
def dgSum (v : Fin 8192 → Fin 1024 → EReal) (g : Fin 1024 → EReal) (t : Fin 8192 → Fin 1024 → EReal) (d : Fin 1024) : EReal :=
  ∑ i : Fin 8192, dyv (v i) g (t i) d * nrm (v i) d
theorem loss_final : (dats m 0 c).arrAt 10 (cfgs 0).N = fun _ : S8x128.Idx => lossSum (VR m c) (GR m c) (TR m c) := by
  refine (dats m 0 c).arrAt_eq_of_covers 10 _ (by decide +kernel) fun t hf y => ?_
  have h2 : t.val % 32 = 31 := (flush0_10 t).mp hf
  have hN : t.val < 32 := lt_of_lt_of_eq t.isLt N_0
  blk_simp
  rw [after0_10]
  refine (loss_all m c t.val t.isLt _).trans ?_
  rw [show (t.val + 1) / 4 = 8 by omega, Finset.sum_range]
  exact Finset.sum_congr rfl fun i _ => lossTile_eq m c i
theorem dg_final : (dats m 0 c).arrAt 11 cfg0.N = fun j : S1x1024.Idx => dgSum (VR m c) (GR m c) (TR m c) (j 1) := by
  refine (dats m 0 c).arrAt_eq_of_covers 11 _ (by decide +kernel) fun t hf y => ?_
  have h2 : t.val % 32 = 31 := (flush0_11 t).mp hf
  have hN : t.val < 32 := lt_of_lt_of_eq t.isLt N_0
  blk_simp
  rw [after0_11]
  idx_vars y
  obtain rfl : y0 = 0 := Subsingleton.elim _ _
  have e : ((View.whole main_v12_4).slice (win0_11.rect t)).emb (ix2 0 y1) = ix2 0 y1 := by
    blk_ext [idx t]
  rw [e]
  refine (dg_all m c t.val t.isLt _).trans ?_
  rw [show (t.val + 1) / 4 = 8 by omega, Finset.sum_range]
  refine (Finset.sum_congr rfl fun i _ => dgTile_eq m c i _).trans ?_
  exact Fin.sum_mul_add_fin (L := 8192) 8 1024 (fun i => dyv (VR m c i) (GR m c) (TR m c i) y1 * nrm (VR m c i) y1)
end Cert.Ffn2Ideal.Mine
end
-- ==== Proof.Ffn2Pair.lean ====
/- The second feed-forward block with the loss at its end: the reference's loss and gradients read at an index, and their
   equality with what the kernel's arrays hold. -/
module

public import proofs.«01_k».proof.Proof.Ffn2Sum
public import proofs.«01_k».proof.Proof.Reals
public import proofs.«01_k».proof.Proof.Gen.Ffn2RefIdeal.Read
public import proofs.«01_k».proof.Proof.Gen.Pre_finite_ffn2
import Idealize.ShloMosaic.Lib.Pipeline.ValueKit
public import Idealize.ShloMosaic.Lib.Pointwise

@[expose] public section

set_option maxRecDepth 16384

noncomputable section

namespace Cert.Ffn2Pair

open Cert.Ffn2RefIdeal Cert.Ffn2RefIdeal.Gen Idealize.ShloMosaic Idealize.ShloMosaic.TcCoe Idealize.SL.Sem
open Cert.Ffn2Ideal.Mine (rinv hid proj gated part upto res nrm err rowLoss dyv gradRow col lossSum dgSum)
open Cert.Reals

variable (x : FVec Ideal S8192x1024 .f32) (g : FVec Ideal S1024 .f32) (wg wu : FVec Ideal S1024x2816 .f32) (wd : FVec Ideal S2816x1024 .f32)
  (gf : FVec Ideal S1024 .f32) (tg : FVec Ideal S8192x1024 .f32)

/-- The block's output row, as the kernel adds it up. -/
abbrev vrow (i : Fin 8192) : Fin 1024 → EReal := res (fun e => x (ix2 i e)) (upto x g wg wu wd i 4)
abbrev grow : Fin 1024 → EReal := fun e => gf (ix1 e)
abbrev trow (i : Fin 8192) : Fin 1024 → EReal := fun e => tg (ix2 i e)

theorem rinv_ref (i : Fin 8192) : Read.val_main_v7 (F := Ideal) x (ix2 i 0) = rinv (fun e => x (ix2 i e)) := by
  unfold rinv
  pointwise [Read.val_main_v7, Read.val_main_v6, Read.val_main_v5, Read.val_main_v4, Read.val_main_v3, Read.val_main_v2, Read.val_main_v1, Read.val_main_v0,
    Read.val_main_cst, Read.val_main_cst_0, Read.val_main_cst_1]

theorem hid_ref (i : Fin 8192) (d : Fin 1024) : Read.val_main_v12 (F := Ideal) x g (ix2 i d) = hid x g i d := by
  unfold hid
  rw [← rinv_ref]
  pointwise [Read.val_main_v12, Read.val_main_v11, Read.val_main_v10, Read.val_main_v9, Read.val_main_v8]

theorem gate_ref (i : Fin 8192) (k : Fin 2816) : Read.val_main_v13 (F := Ideal) x g wg (ix2 i k) = proj x g wg i k := by
  unfold proj
  pointwise [Read.val_main_v13]
  simp only [hid_ref]

theorem up_ref (i : Fin 8192) (k : Fin 2816) : Read.val_main_v14 (F := Ideal) x g wu (ix2 i k) = proj x g wu i k := by
  unfold proj
  pointwise [Read.val_main_v14]
  simp only [hid_ref]

theorem gated_ref (i : Fin 8192) (k : Fin 2816) : Read.val_main_v16 (F := Ideal) x g wg wu (ix2 i k) = gated x g wg wu i k := by
  unfold gated Ideal.logistic
  pointwise [Read.val_main_v16, Read.val_main_v15, Read.val_main_call0_v5, Read.val_main_call0_v4, Read.val_main_call0_v3, Read.val_main_call0_v2,
    Read.val_main_call0_v1, Read.val_main_call0_v0, Read.val_main_call0_cst, Read.val_main_call0_cst_0]
  simp only [gate_ref, up_ref, ofBits_one, EReal.coe_one]

theorem upto_eq (i : Fin 8192) (d : Fin 1024) : upto x g wg wu wd i 4 d = ∑ k : Fin 2816, gated x g wg wu i k * wd (ix2 k d) := by
  unfold upto part
  rw [Finset.sum_range, ← Fin.sum_mul_add_fin (L := 2816) 4 704]
  refine Finset.sum_congr rfl fun j _ => Finset.sum_congr rfl fun k _ => ?_
  have e : (⟨j.val % 4 * 704 + k.val, by omega⟩ : Fin 2816) = ⟨j.val * 704 + k.val, by omega⟩ := Fin.ext (by simp)
  rw [e]

theorem v_ref (i : Fin 8192) (d : Fin 1024) : Read.val_main_v20 (F := Ideal) x g wg wu wd (ix2 i d) = vrow x g wg wu wd i d := by
  unfold vrow res
  rw [upto_eq]
  pointwise [Read.val_main_v20, Read.val_main_v19, Read.val_main_v18, Read.val_main_v17, Read.val_main_cst_2]
  simp only [gated_ref]

theorem msq_ref (i : Fin 8192) : Read.val_main_v27 (F := Ideal) x g wg wu wd (ix2 i 0)
    = Ideal.div (∑ e : Fin 1024, vrow x g wg wu wd i e * vrow x g wg wu wd i e) (Ideal.ofBits .f32 0x44800000#32) + Ideal.ofBits .f32 0x358637BD#32 := by
  pointwise [Read.val_main_v27, Read.val_main_v26, Read.val_main_v25, Read.val_main_v24, Read.val_main_v23, Read.val_main_v22, Read.val_main_v21,
    Read.val_main_cst_3, Read.val_main_cst_4, Read.val_main_cst_5]
  simp only [v_ref]

theorem vinv_ref (i : Fin 8192) : Read.val_main_v28 (F := Ideal) x g wg wu wd (ix2 i 0) = rinv (vrow x g wg wu wd i) := by
  unfold rinv
  rw [← msq_ref]
  pointwise [Read.val_main_v28]

theorem nrm_ref (i : Fin 8192) (d : Fin 1024) : Read.val_main_v33 (F := Ideal) x g wg wu wd (ix2 i d) = nrm (vrow x g wg wu wd i) d := by
  unfold nrm
  rw [← vinv_ref, ← v_ref]
  pointwise [Read.val_main_v33, Read.val_main_v32]

theorem err_ref (i : Fin 8192) (d : Fin 1024) : Read.val_main_v37 (F := Ideal) x g wg wu wd gf tg (ix2 i d) = err (vrow x g wg wu wd i) (grow gf) (trow tg i) d := by
  unfold err
  rw [← nrm_ref]
  pointwise [Read.val_main_v37, Read.val_main_v36, Read.val_main_v35, Read.val_main_v34]

theorem dyv_ref (i : Fin 8192) (d : Fin 1024) : Read.val_main_v51 (F := Ideal) x g wg wu wd gf tg (ix2 i d) = dyv (vrow x g wg wu wd i) (grow gf) (trow tg i) d := by
  unfold dyv
  rw [← err_ref]
  pointwise [Read.val_main_v51, Read.val_main_v50, Read.val_main_v49, Read.val_main_v48, Read.val_main_v47, Read.val_main_v46, Read.val_main_v40, Read.val_main_v39,
    Read.val_main_cst_7, Read.val_main_cst_12, Read.val_main_cst_13, Read.val_main_cst_14]
  rw [ofBits_half, ofBits_two, ofBits_1024, ofBits_1024th, Ideal.div_coe (by norm_num : (1024 : ℝ) ≠ 0), ← EReal.coe_mul, ← mul_assoc, ← EReal.coe_mul, mul_comm]
  congr 2
  norm_num

theorem rowLoss_ref (i : Fin 8192) : Read.val_main_v43 (F := Ideal) x g wg wu wd gf tg (ix1 i) = rowLoss (vrow x g wg wu wd i) (grow gf) (trow tg i) := by
  unfold rowLoss
  pointwise [Read.val_main_v43, Read.val_main_v42, Read.val_main_v41, Read.val_main_v38, Read.val_main_cst_8, Read.val_main_cst_9]
  simp only [err_ref]

/-- The seven arrays are finite. -/
structure Fin7 : Prop where
  x : ∀ i, IsReal (x i)
  g : ∀ i, IsReal (g i)
  wg : ∀ i, IsReal (wg i)
  wu : ∀ i, IsReal (wu i)
  wd : ∀ i, IsReal (wd i)
  gf : ∀ i, IsReal (gf i)
  tg : ∀ i, IsReal (tg i)

variable {x g wg wu wd gf tg} (h : Fin7 x g wg wu wd gf tg)
include h
theorem real_proj (w : FVec Ideal S1024x2816 .f32) (hw : ∀ i, IsReal (w i)) (i : Fin 8192) (k : Fin 2816) : IsReal (proj x g w i k) :=
  IsReal.sum fun d _ => (((h.x _).mul (IsReal.rms fun e => h.x _)).mul (h.g _)).mul (hw _)
theorem real_v (i : Fin 8192) (d : Fin 1024) : IsReal (vrow x g wg wu wd i d) := by
  unfold vrow res
  rw [upto_eq]
  refine (h.x _).add (IsReal.mul ⟨_, ofBits_half⟩ (IsReal.sum fun k _ => ?_))
  have ha := real_proj h wg h.wg i k
  exact ((ha.mul ha.logistic).mul (real_proj h wu h.wu i k)).mul (h.wd _)
theorem real_nrm (i : Fin 8192) (d : Fin 1024) : IsReal (nrm (vrow x g wg wu wd i) d) := (real_v h i d).mul (IsReal.rms fun e => real_v h i e)
theorem real_err (i : Fin 8192) (d : Fin 1024) : IsReal (err (vrow x g wg wu wd i) (grow gf) (trow tg i) d) := ((real_nrm h i d).mul (h.gf _)).sub (h.tg _)
theorem real_loss (i : Fin 8192) : IsReal (rowLoss (vrow x g wg wu wd i) (grow gf) (trow tg i)) := by
  unfold rowLoss
  obtain ⟨r, hr⟩ := IsReal.sum (s := Finset.univ) fun e _ => (real_err h i e).mul (real_err h i e)
  rw [hr, ofBits_1024, Ideal.div_coe (by norm_num : (1024 : ℝ) ≠ 0), ← EReal.coe_mul]
  exact ⟨_, rfl⟩

theorem dx_ref : Read.val_main_v71 (F := Ideal) x g wg wu wd gf tg = fun j : S8192x1024.Idx => gradRow (vrow x g wg wu wd (j 0)) (grow gf) (trow tg (j 0)) (j 1) := by
  funext j
  idx_vars j
  have key := rms_grad (vrow x g wg wu wd j0) (fun e => dyv (vrow x g wg wu wd j0) (grow gf) (trow tg j0) e * gf (ix1 e)) (real_v h j0)
    (fun e => ((real_err h j0 e).mul ⟨_, ofBits_1024th⟩).mul (h.gf _)) _ j1 rfl
  refine Eq.trans ?_ key.symm
  change _ = _ + _ * Ideal.div ((∑ e, _) * (_ * Ideal.div (rinv (vrow x g wg wu wd j0)) _)) _ + _
  pointwise [Read.val_main_v71, Read.val_main_v70, Read.val_main_v69, Read.val_main_v68, Read.val_main_v67, Read.val_main_v66, Read.val_main_v65, Read.val_main_v64,
    Read.val_main_v63, Read.val_main_v62, Read.val_main_v61, Read.val_main_v60, Read.val_main_v59, Read.val_main_v58, Read.val_main_v56, Read.val_main_v55, Read.val_main_v34,
    Read.val_main_v31, Read.val_main_v30, Read.val_main_v29, Read.val_main_cst_6, Read.val_main_cst_17, Read.val_main_cst_18, Read.val_main_cst_19]
  simp only [v_ref, dyv_ref, vinv_ref, msq_ref, Finset.univ_unique, Finset.sum_singleton]
  have e0 : (default : Fin 1) = 0 := rfl
  simp only [e0, vinv_ref, msq_ref]
  rfl

theorem loss_ref : Read.val_main_v78 (F := Ideal) x g wg wu wd gf tg = fun _ : S8x128.Idx => lossSum (vrow x g wg wu wd) (grow gf) (trow tg) := by
  funext j
  unfold lossSum
  have hs := fun (i : Fin 8) => mul_sum Finset.univ (Ideal.ofBits .f32 0x3F000000#32) (fun q : Fin 4 => ∑ y : Fin 256, rowLoss (vrow x g wg wu wd ⟨i * 1024 + (q * 256 + y), by omega⟩) (grow gf) (trow tg ⟨i * 1024 + (q * 256 + y), by omega⟩))
    ⟨_, ofBits_half⟩ (fun q => IsReal.sum fun y _ => real_loss h _)
  have hs' := mul_sum Finset.univ (Ideal.ofBits .f32 0x3F000000#32) (fun i : Fin 8 => ∑ q : Fin 4, ∑ y : Fin 256, rowLoss (vrow x g wg wu wd ⟨i * 1024 + (q * 256 + y), by omega⟩) (grow gf) (trow tg ⟨i * 1024 + (q * 256 + y), by omega⟩))
    ⟨_, ofBits_half⟩ (fun i => IsReal.sum fun q _ => IsReal.sum fun y _ => real_loss h _)
  simp only [hs, hs']
  have hq := fun (i : Fin 8) => Fin.sum_mul_add_fin (L := 1024) 4 256 (fun p => rowLoss (vrow x g wg wu wd ⟨i * 1024 + p, by omega⟩) (grow gf) (trow tg ⟨i * 1024 + p, by omega⟩))
  have hi := Fin.sum_mul_add_fin (L := 8192) 8 1024 (fun p => rowLoss (vrow x g wg wu wd p) (grow gf) (trow tg p))
  simp only [hq, hi]
  pointwise [Read.val_main_v78, Read.val_main_v45, Read.val_main_v44, Read.val_main_cst_10, Read.val_main_cst_11]
  simp only [rowLoss_ref]
omit h

theorem a_ref : Read.val_main_v74 (F := Ideal) x g wg = fun j : S4x8192x704.Idx => proj x g wg (j 1) (col j) := by
  funext j
  idx_vars j
  pointwise [Read.val_main_v74, Read.val_main_v73, Read.val_main_v72]
  rw [gate_ref]
  rfl
theorem b_ref : Read.val_main_v77 (F := Ideal) x g wu = fun j : S4x8192x704.Idx => proj x g wu (j 1) (col j) := by
  funext j
  idx_vars j
  pointwise [Read.val_main_v77, Read.val_main_v76, Read.val_main_v75]
  rw [up_ref]
  rfl

theorem dg_ref : Read.val_main_v79 (F := Ideal) x g wg wu wd gf tg = fun j : S1x1024.Idx => dgSum (vrow x g wg wu wd) (grow gf) (trow tg) (j 1) := by
  unfold dgSum
  funext j
  idx_vars j
  pointwise [Read.val_main_v79, Read.val_main_v57, Read.val_main_v54, Read.val_main_v53, Read.val_main_v52, Read.val_main_cst_15, Read.val_main_cst_16]
  simp only [nrm_ref, dyv_ref, Finset.univ_unique, Finset.sum_singleton]
  exact Finset.sum_congr rfl fun i _ => mul_comm _ _

theorem finite_of_pre (h : Cert.Pre_finite_ffn2.fn (F := Ideal) x g wg wu wd gf tg = fun _ => 1#1) : Fin7 x g wg wu wd gf tg := by
  have h0 := congrFun h (Shape.Idx.first (by decide))
  dsimp only [Cert.Pre_finite_ffn2.fn, Cert.Pre_finite_ffn2.fn_part1] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨fun i => isReal_of_abs_lt (Host.reduce_andi_all _ _ _ _ _ h1 i), fun i => isReal_of_abs_lt (Host.reduce_andi_all _ _ _ _ _ h2 i),
    fun i => isReal_of_abs_lt (Host.reduce_andi_all _ _ _ _ _ h3 i), fun i => isReal_of_abs_lt (Host.reduce_andi_all _ _ _ _ _ h4 i),
    fun i => isReal_of_abs_lt (Host.reduce_andi_all _ _ _ _ _ h5 i), fun i => isReal_of_abs_lt (Host.reduce_andi_all _ _ _ _ _ h6 i),
    fun i => isReal_of_abs_lt (Host.reduce_andi_all _ _ _ _ _ h7 i)⟩

end Cert.Ffn2Pair

end
-- ==== Proof.Ffn2Claim.lean ====
/- The claims about the second feed-forward block's call with the loss at its end. -/
module

public import proofs.«01_k».proof.Defs
public import proofs.«01_k».proof.Proof.Gen.Ffn2.Frame
public import proofs.«01_k».proof.Proof.Gen.Pre_finite_ffn2
public import proofs.«01_k».proof.Proof.Ffn2Pair
import Idealize.ShloMosaic.Lib.Claim

@[expose] public section

set_option maxRecDepth 16384
set_option maxHeartbeats 1000000

noncomputable section

namespace Cert.Ffn2Claim

open Idealize.ShloMosaic Idealize.SL.Sem

/-- The reference runs, its arguments end unchanged, and it has no semaphore. -/
theorem frame_ref : Cert.quiescent_Ffn2RefIdeal := by
  intro m g _
  exact (θ_run Cert.Ffn2RefIdeal.defs _ _).mono (fun r h => ⟨fun c => (h c).2.2.2.2.2, sem_eq_zero_of_no_sems (by decide) r.2⟩)
    (Cert.Ffn2RefIdeal.Value.run m g)

/-- The same under the precondition. -/
theorem frame_ref_pre : Cert.quiescent_Ffn2RefIdeal_pre_finite_ffn2 := fun m g _ => frame_ref m g trivial

/-- The call's gradient, loss and saved projections are the reference's. -/
theorem algebraic : Cert.algebraic_Ffn2Ideal_Ffn2RefIdeal_pre_finite_ffn2 := by
  pair_intro
  · run_from Cert.Ffn2Ideal.Value.run_blocks m g
  · have hfin := fun c => Cert.Ffn2Pair.finite_of_pre (hpre c)
    run_from Cert.Ffn2RefIdeal.Value.run m' g'
    · obtain ⟨h0, h1, h2, h3, h4, h5, h6⟩ := hagree c
      rewrite [Cert.Ffn2RefIdeal.Read.val_main_v71_eq, h0, h1, h2, h3, h4, h5, h6, Cert.Ffn2Pair.dx_ref (hfin c)]
      exact (Cert.Ffn2Ideal.Mine.y_final m c).symm
    · obtain ⟨h0, h1, h2, h3, h4, h5, h6⟩ := hagree c
      rewrite [Cert.Ffn2RefIdeal.Read.val_main_v74_eq, Cert.Ffn2Pair.a_ref]
      exact (Cert.Ffn2Ideal.Mine.a_final m c).symm
    · obtain ⟨h0, h1, h2, h3, h4, h5, h6⟩ := hagree c
      rewrite [Cert.Ffn2RefIdeal.Read.val_main_v77_eq, Cert.Ffn2Pair.b_ref]
      exact (Cert.Ffn2Ideal.Mine.b_final m c).symm
    · obtain ⟨h0, h1, h2, h3, h4, h5, h6⟩ := hagree c
      rewrite [Cert.Ffn2RefIdeal.Read.val_main_v78_eq, h0, h1, h2, h3, h4, h5, h6]
      exact (Cert.Ffn2Pair.loss_ref (hfin c)).trans (Cert.Ffn2Ideal.Mine.loss_final m c).symm
    · obtain ⟨h0, h1, h2, h3, h4, h5, h6⟩ := hagree c
      rewrite [Cert.Ffn2RefIdeal.Read.val_main_v79_eq, h0, h1, h2, h3, h4, h5, h6]
      exact Cert.Ffn2Pair.dg_ref.trans (Cert.Ffn2Ideal.Mine.dg_final m c).symm

end Cert.Ffn2Claim
-- ==== Proof.Conv.lean ====
module

public import proofs.«01_k».proof.Proof.Gen.ConvIdeal.Value
public import Idealize.ShloMosaic.Lib.Pointwise
import Idealize.ShloMosaic.Lib.Pipeline.ValueKit
import Idealize.ShloMosaic.Lib.Pipeline.ReadBack
import Idealize.ShloMosaic.Lib.Tactic

@[expose] public section
set_option maxRecDepth 16384
set_option maxHeartbeats 4000000
noncomputable section
/-! # What one point of the convolution's backward call stores

The body of a point is 31 taps on 8 chunks of 64 rows, each written out. Here each of its stores is written
once, as a function of the chunk and of the tap. -/
namespace Cert.ConvIdeal.Mine
open Cert.ConvIdeal Cert.ConvIdeal.Gen Idealize.ShloMosaic Idealize.ShloMosaic.TcCoe Idealize.SL.Sem

section Body
variable {F : FTy → Type} [FloatOps F]

/-! ## The chunks -/

theorem inb_chunk {T : Nat} (n : Nat) (h : 64 * n + 64 ≤ T) : ∀ a, ![64 * n, 0] a + S64x512.size a ≤ (⟨2, ![T, 512]⟩ : Shape).size a
  | ⟨0, _⟩ => h
  | ⟨1, _⟩ => Nat.le_refl 512

/-- Rows `64 n … 64 n + 63` of a block of 512 rows. -/
def rows64 {sg : RefSig} (a : Memref sg .tc .vmem S512x512 .f32) (ha : a.IsWhole) (x : Vec F S512x512 .f32) (n : Nat) (h : n < 8) :
    Vec F S64x512 .f32 :=
  View.readAt (Elt F) a.view (Rect.unit (s := S512x512) ![64 * n, 0] S64x512.size (inb_chunk (T := 512) n (by omega))).toLoadRect (ha.unread x)

def whole1 {sg : RefSig} (a : Memref sg .tc .vmem S1x512 .f32) (ha : a.IsWhole) (x : Vec F S1x512 .f32) : Vec F S1x512 .f32 :=
  View.readAt (Elt F) a.view (Rect.unit ![0, 0] S1x512.size inb_S1x512_S1x512_0_0).toLoadRect (ha.unread x)

/-- The gradient at the layer norm's argument, of one chunk. -/
def d1Of (g b : Vec F S1x512 .f32) (u du : Vec F S64x512 .f32) : FVec F S64x512 .f32 :=
  k0_pay27 (k0_pay17 (k0_pay14 u) (k0_pay15 u) (Scalar.ofBits .f32 0x44000000#32))
    (k0_pay18 (k0_pay14 u) (k0_pay15 u) (Scalar.ofBits .f32 0x44000000#32))
    (k0_pay23 (k0_pay10 g) (k0_pay14 u) (k0_pay15 u) (Scalar.ofBits .f32 0x44000000#32) b du)
    (k0_pay24 (k0_pay10 g) (k0_pay14 u) (k0_pay15 u) (Scalar.ofBits .f32 0x44000000#32) b du)

/-- The chunks' gradients, stored one below the other. -/
def d1List (P : (n : Nat) → n < 8 → FVec F S64x512 .f32) : (n : Nat) → n ≤ 8 → List (View.Piece (Elt F) S544x512 .f32)
  | 0, _ => []
  | n + 1, h => ⟨Rect.unit ![64 * n, 0] S64x512.size (inb_chunk (T := 544) n (by omega)), P n h⟩ :: d1List P n (by omega)

/-! ## The taps -/

theorem inb_row {T : Nat} (n : Nat) (h : n < T) : ∀ a, ![n, 0] a + S1x512.size a ≤ (⟨2, ![T, 512]⟩ : Shape).size a
  | ⟨0, _⟩ => h
  | ⟨1, _⟩ => Nat.le_refl 512

theorem inb_at {T : Nat} (o : Nat) (h : o + 64 ≤ T) : ∀ a, ![o, 0] a + S64x512.size a ≤ (⟨2, ![T, 512]⟩ : Shape).size a
  | ⟨0, _⟩ => h
  | ⟨1, _⟩ => Nat.le_refl 512

theorem inb_sh (r : Nat) (h : r + 536 ≤ 544) : ∀ a, ![r, 0] a + S536x512.size a ≤ S544x512.size a
  | ⟨0, _⟩ => h
  | ⟨1, _⟩ => Nat.le_refl 512

theorem inb_plane (r : Nat) (h : r < 7) : ∀ a, ![r, 0, 0] a + S1x536x512.size a ≤ S7x536x512.size a
  | ⟨0, _⟩ => h
  | ⟨1, _⟩ => Nat.le_refl 536
  | ⟨2, _⟩ => Nat.le_refl 512

theorem inb_part (r o : Nat) (h : r < 7) (h' : o + 64 ≤ 536) : ∀ a, ![r, o, 0] a + S1x64x512.size a ≤ S7x536x512.size a
  | ⟨0, _⟩ => h
  | ⟨1, _⟩ => h'
  | ⟨2, _⟩ => Nat.le_refl 512

/-- The seven shifted copies of a buffer, of what loads of 536 rows of it read. -/
def shList (P : (r : Nat) → r < 7 → Vec F S536x512 .f32) : (n : Nat) → n ≤ 7 → List (View.Piece (Elt F) S7x536x512 .f32)
  | 0, _ => []
  | n + 1, h => ⟨Rect.unit ![n, 0, 0] S1x536x512.size (inb_plane n h), shapeCast S1x536x512 (P n h) shapeCasts_S536x512_S1x536x512⟩ ::
      shList P n (by omega)

/-- 64 rows from row `o` of a buffer, as a load after the writes `L` reads them. -/
def at64 {sg : RefSig} (v : Memref sg .tc .vmem S544x512 .f32) (L : List (View.Piece (Elt F) S544x512 .f32)) (o : Nat) (h : o + 64 ≤ 544) :
    Vec F S64x512 .f32 :=
  v.view.readCov L (Rect.unit (s := S544x512) ![o, 0] S64x512.size (inb_at (T := 544) o h)).toLoadRect

def plane64 {sg : RefSig} (v : Memref sg .tc .vmem S7x536x512 .f32) (L : List (View.Piece (Elt F) S7x536x512 .f32)) (r o : Nat) (h : r < 7)
    (h' : o + 64 ≤ 536) : Vec F S1x64x512 .f32 :=
  v.view.readCov L (Rect.unit (s := S7x536x512) ![r, o, 0] S1x64x512.size (inb_part r o h h')).toLoadRect

/-- The same of a load that may read rows the writes leave: those hold what the buffer held. -/
def at64Over {sg : RefSig} (v : Memref sg .tc .vmem S544x512 .f32) (hv : v.IsWhole) (xs : Vec F S544x512 .f32) (L : List (View.Piece (Elt F) S544x512 .f32))
    (o : Nat) (h : o + 64 ≤ 544) : Vec F S64x512 .f32 :=
  if e : o + 64 ≤ 512 then at64 v L o h
  else View.readAt (Elt F) v.view (Rect.unit (s := S544x512) ![o, 0] S64x512.size (inb_at (T := 544) o h)).toLoadRect (v.view.writes (Elt F) (hv.unread xs) L)

/-- The rows `s + 64 n …` of a buffer: from the buffer itself where `s` is a multiple of 8, else from its shifted copy. -/
def tap {sg : RefSig} (rd : (o : Nat) → o + 64 ≤ 544 → Vec F S64x512 .f32)
    (v' : Memref sg .tc .vmem S7x536x512 .f32) (L' : List (View.Piece (Elt F) S7x536x512 .f32))
    (s : Nat) (hs : s ≤ 32) (n : Nat) (h : n < 8) : FVec F S64x512 .f32 :=
  if e : s % 8 = 0 then rd (s + 64 * n) (by omega)
  else shapeCast S64x512 (plane64 v' L' (s % 8 - 1) (8 * (s / 8) + 64 * n) (by omega) (by omega)) shapeCasts_S1x64x512_S64x512

/-- One tap's products, summed over the chunks, eight rows kept apart. -/
def tapAcc (D X : (n : Nat) → n < 8 → FVec F S64x512 .f32) : (n : Nat) → n ≤ 8 → FVec F S8x512 .f32
  | 0, _ => broadcast S8x512 (Scalar.ofBits .f32 0x00000000#32)
  | n + 1, h => addf (tapAcc D X n (by omega))
      (multiReduction .add [0] S8x512 (shapeCast S8x8x512 (mulf (D n h) (X n h)) shapeCasts_S64x512_S8x8x512)
        0x00000000#32 reduces_S8x8x512_S8x512 (.inl rfl) rfl)

/-- A row of the summed gradients and what the point adds to it. -/
def tapRow (D X : (n : Nat) → n < 8 → FVec F S64x512 .f32) (old : Vec F S1x512 .f32) : FVec F S1x512 .f32 :=
  addf (shapeCast S1x512 old shapeCasts_S1x512_S1x512)
    (shapeCast S1x512 (multiReduction .add [0] S512 (tapAcc D X 8 (by omega)) 0x00000000#32 reduces_S8x512_S512 (.inl rfl) rfl)
      shapeCasts_S512_S1x512)

/-- The stores of the 31 taps' rows; `R` is the load of a row after the stores before it. -/
def stList (D : (n : Nat) → n < 8 → FVec F S64x512 .f32) (X : (k : Nat) → k < 31 → (n : Nat) → n < 8 → FVec F S64x512 .f32)
    (R : List (View.Piece (Elt F) S40x512 .f32) → (k : Nat) → k < 40 → Vec F S1x512 .f32)
    (L : List (View.Piece (Elt F) S40x512 .f32)) : (n : Nat) → n ≤ 31 → List (View.Piece (Elt F) S40x512 .f32)
  | 0, _ => L
  | n + 1, h => ⟨Rect.unit (s := S40x512) ![n, 0] S1x512.size (inb_row (T := 40) n (by omega)),
      tapRow D (X n h) (R (stList D X R L n (by omega)) n (by omega))⟩ :: stList D X R L n (by omega)

/-- The sums over the point's rows for the layer norm's gain and bias and for the convolution's bias. -/
def gainAcc (g b : Vec F S1x512 .f32) (u du : (n : Nat) → n < 8 → Vec F S64x512 .f32) : (n : Nat) → n ≤ 8 → FVec F S1x512 .f32
  | 0, _ => broadcast S1x512 (Scalar.ofBits .f32 0x00000000#32)
  | n + 1, h => k0_pay20 (k0_pay10 g) (gainAcc g b u du n (by omega)) (k0_pay14 (u n h)) (k0_pay15 (u n h))
      (Scalar.ofBits .f32 0x44000000#32) b (du n h)

def lnbAcc (g b : Vec F S1x512 .f32) (u du : (n : Nat) → n < 8 → Vec F S64x512 .f32) : (n : Nat) → n ≤ 8 → FVec F S1x512 .f32
  | 0, _ => broadcast S1x512 (Scalar.ofBits .f32 0x00000000#32)
  | n + 1, h => k0_pay21 (k0_pay10 g) (lnbAcc g b u du n (by omega)) (k0_pay14 (u n h)) (k0_pay15 (u n h))
      (Scalar.ofBits .f32 0x44000000#32) b (du n h)

def biasAcc (g b : Vec F S1x512 .f32) (u du : (n : Nat) → n < 8 → Vec F S64x512 .f32) : (n : Nat) → n ≤ 8 → FVec F S1x512 .f32
  | 0, _ => broadcast S1x512 (Scalar.ofBits .f32 0x00000000#32)
  | n + 1, h => k0_pay26 (biasAcc g b u du n (by omega)) (k0_pay17 (k0_pay14 (u n h)) (k0_pay15 (u n h)) (Scalar.ofBits .f32 0x44000000#32))
    (k0_pay18 (k0_pay14 (u n h)) (k0_pay15 (u n h)) (Scalar.ofBits .f32 0x44000000#32))
    (k0_pay23 (k0_pay10 g) (k0_pay14 (u n h)) (k0_pay15 (u n h)) (Scalar.ofBits .f32 0x44000000#32) b (du n h))
    (k0_pay24 (k0_pay10 g) (k0_pay14 (u n h)) (k0_pay15 (u n h)) (Scalar.ofBits .f32 0x44000000#32) b (du n h))

/-- A row of the summed gradients and a sum added to it. -/
def plusRow (old : Vec F S1x512 .f32) (s : FVec F S1x512 .f32) : FVec F S1x512 .f32 := addf (shapeCast S1x512 old shapeCasts_S1x512_S1x512) s

/-- The three rows stored before the taps'. -/
def threeList (g b : Vec F S1x512 .f32) (u du : (n : Nat) → n < 8 → Vec F S64x512 .f32)
    (R : List (View.Piece (Elt F) S40x512 .f32) → (k : Nat) → k < 40 → Vec F S1x512 .f32)
    (L : List (View.Piece (Elt F) S40x512 .f32)) : List (View.Piece (Elt F) S40x512 .f32) :=
  let L1 := ⟨Rect.unit (s := S40x512) ![32, 0] S1x512.size (inb_row (T := 40) 32 (by omega)), plusRow (R L 32 (by omega)) (biasAcc g b u du 8 (by omega))⟩ :: L
  let L2 := ⟨Rect.unit (s := S40x512) ![33, 0] S1x512.size (inb_row (T := 40) 33 (by omega)), plusRow (R L1 33 (by omega)) (gainAcc g b u du 8 (by omega))⟩ :: L1
  ⟨Rect.unit (s := S40x512) ![34, 0] S1x512.size (inb_row (T := 40) 34 (by omega)), plusRow (R L2 34 (by omega)) (lnbAcc g b u du 8 (by omega))⟩ :: L2

/-! ## The gradient of the gated input -/

/-- A tap's row of the convolution. -/
def wRow {sg : RefSig} (a : Memref sg .tc .vmem S31x512 .f32) (ha : a.IsWhole) (x : Vec F S31x512 .f32) (k : Nat) (h : k < 31) : Vec F S1x512 .f32 :=
  View.readAt (Elt F) a.view (Rect.unit (s := S31x512) ![k, 0] S1x512.size (inb_row (T := 31) k h)).toLoadRect (ha.unread x)

def dzAcc (Y : (k : Nat) → k < 31 → FVec F S64x512 .f32) (w : (k : Nat) → k < 31 → Vec F S1x512 .f32) : (k : Nat) → k < 31 → FVec F S64x512 .f32
  | 0, h => mulf (Y 0 h) (broadcastTo S64x512 (w 0 h) broadcasts_S1x512_S64x512)
  | k + 1, h => addf (dzAcc Y w k (by omega)) (mulf (Y (k + 1) h) (broadcastTo S64x512 (w (k + 1) h) broadcasts_S1x512_S64x512))

def dzLeft (a cg : FVec F S64x512 .f32) : FVec F S64x512 .bf16 := truncf .bf16 (mulf a (logistic cg)) bitsLt_bf16_f32

def dzRight (a cv cg : FVec F S64x512 .f32) : FVec F S64x512 .bf16 :=
  truncf .bf16 (mulf (mulf (mulf a cv) (logistic cg)) (subf (broadcast S64x512 (Scalar.ofBits .f32 0x3F800000#32)) (logistic cg))) bitsLt_bf16_f32

theorem inb_left (n : Nat) (h : n < 8) : ∀ a, ![64 * n, 0] a + S64x512.size a ≤ S512x1024.size a
  | ⟨0, _⟩ => show 64 * n + 64 ≤ 512 by omega
  | ⟨1, _⟩ => show 0 + 512 ≤ 1024 by omega

theorem inb_right (n : Nat) (h : n < 8) : ∀ a, ![64 * n, 512] a + S64x512.size a ≤ S512x1024.size a
  | ⟨0, _⟩ => show 64 * n + 64 ≤ 512 by omega
  | ⟨1, _⟩ => show 512 + 512 ≤ 1024 by omega

def dzList (Y : (n : Nat) → n < 8 → (k : Nat) → k < 31 → FVec F S64x512 .f32) (w : (k : Nat) → k < 31 → Vec F S1x512 .f32)
    (cv cg : (n : Nat) → n < 8 → Vec F S64x512 .f32) : (n : Nat) → n ≤ 8 → List (View.Piece (Elt F) S512x1024 .bf16)
  | 0, _ => []
  | n + 1, h => ⟨Rect.unit (s := S512x1024) ![64 * n, 512] S64x512.size (inb_right n h), dzRight (dzAcc (Y n h) w 30 (by omega)) (cv n h) (cg n h)⟩ ::
      ⟨Rect.unit (s := S512x1024) ![64 * n, 0] S64x512.size (inb_left n h), dzLeft (dzAcc (Y n h) w 30 (by omega)) (cg n h)⟩ ::
      dzList Y w cv cg n (by omega)

/-! ## The two cases of a point -/

variable (c : Dev nD) (i : grid0.Coords)
  (arg1 : Memref sig .tc .vmem S512x512 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S512x512 .f32) (harg4 : arg4.IsWhole)
  (arg5 : Memref sig .tc .vmem S32x512 .f32) (harg5 : arg5.IsWhole) (arg6 : Memref sig .tc .vmem S32x512 .f32) (harg6 : arg6.IsWhole)
  (arg7 : Memref sig .tc .vmem S31x512 .f32) (harg7 : arg7.IsWhole) (arg8 : Memref sig .tc .vmem S1x512 .f32) (harg8 : arg8.IsWhole)
  (arg9 : Memref sig .tc .vmem S1x512 .f32) (harg9 : arg9.IsWhole) (arg10 : Memref sig .tc .vmem S512x1024 .bf16) (harg10 : arg10.IsWhole)
  (arg11 : Memref sig .tc .vmem S40x512 .f32) (harg11 : arg11.IsWhole) (arg12 : Memref sig .tc .vmem S544x512 .f32) (harg12 : arg12.IsWhole)
  (arg13 : Memref sig .tc .vmem S544x512 .f32) (harg13 : arg13.IsWhole) (arg14 : Memref sig .tc .vmem S7x536x512 .f32) (harg14 : arg14.IsWhole)
  (arg15 : Memref sig .tc .vmem S7x536x512 .f32) (harg15 : arg15.IsWhole)
  (x0 x1 x2 x3 : Vec F S512x512 .f32) (x4 x5 : Vec F S32x512 .f32) (x6 : Vec F S31x512 .f32) (x7 x8 : Vec F S1x512 .f32)

def d1L : List (View.Piece (Elt F) S544x512 .f32) :=
  d1List (fun n h => d1Of (whole1 arg8 harg8 x7) (whole1 arg9 harg9 x8) (rows64 arg2 harg2 x1 n h) (rows64 arg1 harg1 x0 n h)) 8 (by omega)

/-- After the halo's store of zeros. -/
def d1L0 : List (View.Piece (Elt F) S544x512 .f32) :=
  d1L arg1 harg1 arg2 harg2 arg8 harg8 arg9 harg9 x0 x1 x7 x8 ++ [⟨Rect.unit ![512, 0] S32x512.size inb_S544x512_S32x512_512_0, k0_pay7⟩]

def u0L : List (View.Piece (Elt F) S544x512 .f32) :=
  [⟨Rect.unit ![32, 0] S512x512.size inb_S544x512_S512x512_32_0,
      k0_pay9 (View.readAt (Elt F) arg3.view (Rect.unit ![0, 0] S512x512.size inb_S512x512_S512x512_0_0).toLoadRect (harg3.unread x2))
        (View.readAt (Elt F) arg4.view (Rect.unit ![0, 0] S512x512.size inb_S512x512_S512x512_0_0).toLoadRect (harg4.unread x3))⟩,
    ⟨Rect.unit ![0, 0] S32x512.size inb_S544x512_S32x512_0_0,
      k0_pay8 i (View.readAt (Elt F) arg5.view (Rect.unit ![0, 0] S32x512.size inb_S32x512_S32x512_0_0).toLoadRect (harg5.unread x4))
        (View.readAt (Elt F) arg6.view (Rect.unit ![0, 0] S32x512.size inb_S32x512_S32x512_0_0).toLoadRect (harg6.unread x5))⟩]

/-- The shifted copies after the writes `L` that cover the buffer. -/
def shL {sg : RefSig} (v : Memref sg .tc .vmem S544x512 .f32) (L : List (View.Piece (Elt F) S544x512 .f32)) : List (View.Piece (Elt F) S7x536x512 .f32) :=
  shList (fun r h => v.view.readCov L (Rect.unit (s := S544x512) ![r + 1, 0] S536x512.size (inb_sh (r + 1) (by omega))).toLoadRect) 7 (by omega)

/-- The shifted copies after the writes `L` over what the buffer held. -/
def shOver {sg : RefSig} (v : Memref sg .tc .vmem S544x512 .f32) (hv : v.IsWhole) (xs : Vec F S544x512 .f32) (L : List (View.Piece (Elt F) S544x512 .f32)) :
    List (View.Piece (Elt F) S7x536x512 .f32) :=
  shList (fun r h => View.readAt (Elt F) v.view (Rect.unit (s := S544x512) ![r + 1, 0] S536x512.size (inb_sh (r + 1) (by omega))).toLoadRect
    (v.view.writes (Elt F) (hv.unread xs) L)) 7 (by omega)

def stOf (D1 : List (View.Piece (Elt F) S544x512 .f32))
    (R : List (View.Piece (Elt F) S40x512 .f32) → (k : Nat) → k < 40 → Vec F S1x512 .f32)
    (L : List (View.Piece (Elt F) S40x512 .f32)) : List (View.Piece (Elt F) S40x512 .f32) :=
  stList (fun n h => at64 arg13 D1 (64 * n) (by omega))
    (fun k hk n h => tap (at64 arg12 (u0L i arg3 harg3 arg4 harg4 arg5 harg5 arg6 harg6 x2 x3 x4 x5)) arg14
      (shL arg12 (u0L i arg3 harg3 arg4 harg4 arg5 harg5 arg6 harg6 x2 x3 x4 x5)) (2 + k) (by omega) n h) R
    (threeList (whole1 arg8 harg8 x7) (whole1 arg9 harg9 x8) (fun n h => rows64 arg2 harg2 x1 n h) (fun n h => rows64 arg1 harg1 x0 n h) R L)
    31 (by omega)

def dzOf (rd : (o : Nat) → o + 64 ≤ 544 → Vec F S64x512 .f32) (Sh : List (View.Piece (Elt F) S7x536x512 .f32)) : List (View.Piece (Elt F) S512x1024 .bf16) :=
  dzList (fun n h k hk => tap rd arg15 Sh (30 - k) (by omega) n h) (fun k hk => wRow arg7 harg7 x6 k hk)
    (fun n h => rows64 arg3 harg3 x2 n h) (fun n h => rows64 arg4 harg4 x3 n h) 8 (by omega)

theorem st_B (hc0 : ¬cond0_0 i) (xo10 : Vec F S40x512 .f32) (xs1 : Vec F S544x512 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xs1).2.1
      = stOf i arg1 harg1 arg2 harg2 arg3 harg3 arg4 harg4 arg5 harg5 arg6 harg6 arg8 harg8 arg9 harg9 arg12 arg13 arg14 x0 x1 x2 x3 x4 x5 x7 x8 (d1L arg1 harg1 arg2 harg2 arg8 harg8 arg9 harg9 x0 x1 x7 x8)
        (fun _ k hk => View.readAt (Elt F) arg11.view (Rect.unit (s := S40x512) ![k, 0] S1x512.size (inb_row (T := 40) k hk)).toLoadRect (harg11.unread xo10)) [] := by sl_kernel_rfl

theorem st_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1
      = stOf i arg1 harg1 arg2 harg2 arg3 harg3 arg4 harg4 arg5 harg5 arg6 harg6 arg8 harg8 arg9 harg9 arg12 arg13 arg14 x0 x1 x2 x3 x4 x5 x7 x8 (d1L0 arg1 harg1 arg2 harg2 arg8 harg8 arg9 harg9 x0 x1 x7 x8)
        (fun L k hk => arg11.view.readCov L (Rect.unit (s := S40x512) ![k, 0] S1x512.size (inb_row (T := 40) k hk)).toLoadRect)
        [⟨Rect.unit (s := S40x512) ![0, 0] S40x512.size inb_S40x512_S40x512_0_0, k0_pay6⟩] := by sl_kernel_rfl

theorem d1_B (hc0 : ¬cond0_0 i) (xo10 : Vec F S40x512 .f32) (xs1 : Vec F S544x512 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xs1).2.2.1
      = ⟨Rect.unit ![512, 0] S32x512.size inb_S544x512_S32x512_512_0, k0_pay5 (arg13.view.readCov (d1L arg1 harg1 arg2 harg2 arg8 harg8 arg9 harg9 x0 x1 x7 x8) (Rect.unit (s := S544x512) ![0, 0] S32x512.size inb_S544x512_S32x512_0_0).toLoadRect)⟩ :: d1L arg1 harg1 arg2 harg2 arg8 harg8 arg9 harg9 x0 x1 x7 x8 := by sl_kernel_rfl

theorem d1_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1
      = ⟨Rect.unit ![512, 0] S32x512.size inb_S544x512_S32x512_512_0, k0_pay5 (arg13.view.readCov (d1L0 arg1 harg1 arg2 harg2 arg8 harg8 arg9 harg9 x0 x1 x7 x8) (Rect.unit (s := S544x512) ![0, 0] S32x512.size inb_S544x512_S32x512_0_0).toLoadRect)⟩ :: d1L0 arg1 harg1 arg2 harg2 arg8 harg8 arg9 harg9 x0 x1 x7 x8 := by sl_kernel_rfl

theorem dz_B (hc0 : ¬cond0_0 i) (xo10 : Vec F S40x512 .f32) (xs1 : Vec F S544x512 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xs1).1
      = dzOf arg3 harg3 arg4 harg4 arg7 harg7 arg15 x2 x3 x6 (at64Over arg13 harg13 xs1 (d1L arg1 harg1 arg2 harg2 arg8 harg8 arg9 harg9 x0 x1 x7 x8)) (shOver arg13 harg13 xs1 (d1L arg1 harg1 arg2 harg2 arg8 harg8 arg9 harg9 x0 x1 x7 x8)) := by sl_kernel_rfl

theorem dz_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1
      = dzOf arg3 harg3 arg4 harg4 arg7 harg7 arg15 x2 x3 x6 (at64 arg13 (d1L0 arg1 harg1 arg2 harg2 arg8 harg8 arg9 harg9 x0 x1 x7 x8)) (shL arg13 (d1L0 arg1 harg1 arg2 harg2 arg8 harg8 arg9 harg9 x0 x1 x7 x8)) := by sl_kernel_rfl

end Body
end Cert.ConvIdeal.Mine
end
end
-- ==== Proof.Norm.lean ====
/- The layer normalisation over 512 lanes on real numbers, its gradient in two forms, and the gradient of `x · σ(x)` in two forms. -/
module

public import proofs.«01_k».proof.Proof.Reals

@[expose] public section

noncomputable section

namespace Cert.Norm

open Idealize.ShloMosaic Cert.Reals

theorem ofBits_512 : Ideal.ofBits .f32 0x44000000#32 = ((512 : ℝ) : EReal) := by
  simp [Ideal.ofBits, Ideal.ieee, -EReal.coe_mul]; norm_num

theorem ofBits_hundredth : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

/-- The row's distance from its mean. -/
def cen (x : Fin 512 → EReal) (d : Fin 512) : EReal := x d - Ideal.div (∑ e, x e) (Ideal.ofBits .f32 0x44000000#32)
/-- The row's variance, kept away from zero. -/
def vrc (x : Fin 512 → EReal) : EReal := Ideal.div (∑ e, cen x e * cen x e) (Ideal.ofBits .f32 0x44000000#32) + Ideal.ofBits .f32 0x3727C5AC#32
/-- The normalised row. -/
def nrm (x : Fin 512 → EReal) (d : Fin 512) : EReal := cen x d * Ideal.rsqrt (vrc x)
/-- The normalisation's gradient: `q` is the gradient at the normalised row. -/
def grad (x q : Fin 512 → EReal) (d : Fin 512) : EReal :=
  Ideal.rsqrt (vrc x) * ((q d - Ideal.div (∑ e, q e) (Ideal.ofBits .f32 0x44000000#32))
    - nrm x d * Ideal.div (∑ e, q e * nrm x e) (Ideal.ofBits .f32 0x44000000#32))

/-- The share of the variance in the gradient, as the quotient's and the root's derivatives give it. -/
def spread (x q : Fin 512 → EReal) : EReal :=
  Ideal.div ((∑ e, cen x e * q e) * (Ideal.ofBits .f32 0xBF000000#32 * Ideal.div (Ideal.rsqrt (vrc x)) (vrc x))) (Ideal.ofBits .f32 0x44000000#32)
/-- The gradient at the centred row. -/
def back (x q : Fin 512 → EReal) (d : Fin 512) : EReal := q d * Ideal.rsqrt (vrc x) + cen x d * spread x q + spread x q * cen x d

theorem real_parts {x : Fin 512 → EReal} (hx : ∀ e, IsReal (x e)) : ∃ (C : Fin 512 → ℝ) (V : ℝ), 0 < V ∧ (∀ e, cen x e = (C e : EReal)) ∧ vrc x = (V : EReal)
    ∧ Ideal.rsqrt (vrc x) = (((Real.sqrt V)⁻¹ : ℝ) : EReal) ∧ ∑ e, C e = 0 := by
  obtain ⟨X, rfl⟩ := lift hx
  obtain ⟨ε, hε, he⟩ := ofBits_hundredth
  have h512 := Ideal.div_coe (by norm_num : (512 : ℝ) ≠ 0)
  have hC : ∀ e, cen (fun i => (X i : EReal)) e = ((X e - (∑ i, X i) * (1 / 512) : ℝ) : EReal) := fun e => by
    unfold cen
    rw [ofBits_512, coe_sum, h512, ← EReal.coe_mul, ← EReal.coe_sub]
  have hV : vrc (fun i => (X i : EReal)) = (((∑ e, (X e - (∑ i, X i) * (1 / 512)) * (X e - (∑ i, X i) * (1 / 512))) * (1 / 512) + ε : ℝ) : EReal) := by
    unfold vrc
    simp only [hC, ofBits_512, he, ← EReal.coe_mul, coe_sum, h512, ← EReal.coe_add]
  have hpos : 0 < (∑ e, (X e - (∑ i, X i) * (1 / 512)) * (X e - (∑ i, X i) * (1 / 512))) * (1 / 512) + ε := by
    have : 0 ≤ ∑ e, (X e - (∑ i, X i) * (1 / 512)) * (X e - (∑ i, X i) * (1 / 512)) := Finset.sum_nonneg fun e _ => mul_self_nonneg _
    positivity
  refine ⟨_, _, hpos, hC, hV, ?_, ?_⟩
  · rw [hV, Ideal.rsqrt_coe, if_neg (not_lt.mpr hpos.le), if_neg hpos.ne']
  · rw [Finset.sum_sub_distrib, Finset.sum_const, Finset.card_univ, Fintype.card_fin, nsmul_eq_mul]
    push_cast
    ring

theorem IsReal.nrm {x : Fin 512 → EReal} (hx : ∀ e, IsReal (x e)) (d : Fin 512) : IsReal (nrm x d) := by
  obtain ⟨C, V, -, hC, -, hr, -⟩ := real_parts hx
  unfold Norm.nrm
  rw [hC, hr, ← EReal.coe_mul]
  exact ⟨_, rfl⟩

theorem grad_eq (x q : Fin 512 → EReal) (hx : ∀ e, IsReal (x e)) (hq : ∀ e, IsReal (q e)) (d : Fin 512) :
    grad x q d = back x q d + Ideal.div (∑ e, -back x q e) (Ideal.ofBits .f32 0x44000000#32) := by
  obtain ⟨C, V, hV, hC, hv, hr, h0⟩ := real_parts hx
  obtain ⟨Q, rfl⟩ := lift hq
  have h512 := Ideal.div_coe (by norm_num : (512 : ℝ) ≠ 0)
  set R : ℝ := (Real.sqrt V)⁻¹ with hR
  have hVR : 1 / V = R * R := by rw [hR, ← mul_inv, Real.mul_self_sqrt hV.le, one_div]
  have hS : spread x (fun i => (Q i : EReal)) = (((∑ e, C e * Q e) * (-1 / 2 * (R * (R * R))) * (1 / 512) : ℝ) : EReal) := by
    unfold spread
    rw [hr, hv, Ideal.div_coe hV.ne', ofBits_512, h512, ofBits_neg_half]
    simp only [hC, ← EReal.coe_mul, coe_sum, hVR]
  set S : ℝ := (∑ e, C e * Q e) * (-1 / 2 * (R * (R * R))) * (1 / 512) with hSd
  have hB : ∀ e, back x (fun i => (Q i : EReal)) e = ((Q e * R + C e * S + S * C e : ℝ) : EReal) := fun e => by
    unfold back
    rw [hr, hS, hC]
    simp only [← EReal.coe_mul, ← EReal.coe_add]
  have hN : ∀ e, Norm.nrm x e = ((C e * R : ℝ) : EReal) := fun e => by
    unfold Norm.nrm
    rw [hr, hC, ← EReal.coe_mul]
  unfold grad
  rw [hr, ofBits_512, h512, h512, h512]
  simp only [hB, hN, ← EReal.coe_mul, ← EReal.coe_neg, coe_sum, ← EReal.coe_sub, ← EReal.coe_add]
  refine congrArg _ ?_
  have e1 : ∑ e, Q e * (C e * R) = (∑ e, C e * Q e) * R := by
    rw [Finset.sum_mul]; exact Finset.sum_congr rfl fun e _ => by ring
  have e2 : ∑ e, -(Q e * R + C e * S + S * C e) = -((∑ e, Q e) * R) := by
    have : ∀ e, -(Q e * R + C e * S + S * C e) = -(Q e * R) + -(2 * S) * C e := fun e => by ring
    simp only [this]
    rw [Finset.sum_add_distrib, ← Finset.mul_sum, h0, mul_zero, add_zero, Finset.sum_neg_distrib, Finset.sum_mul]
  rw [e1, e2, hSd]
  ring

theorem real_grad {x q : Fin 512 → EReal} (hx : ∀ e, IsReal (x e)) (hq : ∀ e, IsReal (q e)) (d : Fin 512) : IsReal (grad x q d) := by
  obtain ⟨C, V, -, hC, -, hr, -⟩ := real_parts hx
  obtain ⟨Q, rfl⟩ := lift hq
  have h512 := Ideal.div_coe (by norm_num : (512 : ℝ) ≠ 0)
  unfold grad Norm.nrm
  rw [hr, ofBits_512, h512, h512]
  simp only [hC, ← EReal.coe_mul, coe_sum, ← EReal.coe_sub]
  exact ⟨_, rfl⟩

/-- The gradient of `u · σ(u)`: the factored form and the product rule's. -/
theorem swish_grad {c u : EReal} (hc : IsReal c) (hu : IsReal u) :
    c * (Ideal.logistic u * (Ideal.ofBits .f32 0x3F800000#32 + u * (Ideal.ofBits .f32 0x3F800000#32 - Ideal.logistic u)))
      = u * c * (Ideal.logistic u * (Ideal.ofBits .f32 0x3F800000#32 - Ideal.logistic u)) + c * Ideal.logistic u := by
  obtain ⟨s, hs⟩ := hu.logistic
  obtain ⟨a, rfl⟩ := hc
  obtain ⟨b, rfl⟩ := hu
  rw [hs, ofBits_one]
  simp only [← EReal.coe_mul, ← EReal.coe_sub, ← EReal.coe_add]
  refine congrArg _ ?_
  ring

end Cert.Norm

end
-- ==== Proof.ConvRows.lean ====
/- The convolution's backward call, entry by entry: what its loads read, what a tap adds, what a chunk of the gated input's gradient is. -/
module

public import proofs.«01_k».proof.Proof.Conv
public import proofs.«01_k».proof.Proof.Norm
import Idealize.ShloMosaic.Lib.Pipeline.ValueKit
import Idealize.ShloMosaic.Lib.Pipeline.ReadBack
import Idealize.ShloMosaic.Lib.WritesUnit
import Idealize.ShloMosaic.Lib.Claim

@[expose] public section
set_option maxRecDepth 16384
noncomputable section
namespace Cert.ConvIdeal.Mine
open Cert.ConvIdeal Cert.ConvIdeal.Gen Idealize.ShloMosaic Idealize.ShloMosaic.TcCoe Idealize.SL.Sem

/-! ## Sums over rows -/

theorem sum_chunks (f : ℕ → EReal) (w : ℕ) : ∀ m : ℕ, ∑ n ∈ Finset.range m, ∑ r ∈ Finset.range w, f (w * n + r) = ∑ ρ ∈ Finset.range (w * m), f ρ
  | 0 => by simp
  | m + 1 => by rw [Finset.sum_range_succ, sum_chunks f w m, Nat.mul_succ, Finset.sum_range_add]

/-! ## What a buffer holds -/

/-- What the buffer holds after the writes `L` over `f`: row `ρ`, lane `d` is `G ρ d`. -/
def Holds {sg : RefSig} (v : Memref sg .tc .vmem S544x512 .f32) (f : v.view.ty.Contents (Elt Ideal)) (L : List (View.Piece (Elt Ideal) S544x512 .f32))
    (G : ℕ → Fin 512 → EReal) : Prop :=
  ∀ (ρ : Fin 544) (d : Fin 512), v.view.read (Elt Ideal) (v.view.writes (Elt Ideal) f L) (ix2 ρ d) = G ρ d

variable {sg : RefSig} {v : Memref sg .tc .vmem S544x512 .f32} {v' : Memref sg .tc .vmem S7x536x512 .f32} {G : ℕ → Fin 512 → EReal}

theorem at64_apply {L : List (View.Piece (Elt Ideal) S544x512 .f32)} (h : Holds v v.view.junk L G) (o : ℕ) (ho : o + 64 ≤ 544) (r : Fin 64) (d : Fin 512) :
    at64 v L o ho (ix2 r d) = G (o + r) d := by
  have e : (Rect.unit (s := S544x512) ![o, 0] S64x512.size (inb_at (T := 544) o ho)).toLoadRect.idx (ix2 r d) = ix2 (⟨o + r, by omega⟩ : Fin 544) d := by
    funext a; match a with
    | ⟨0, _⟩ => exact Fin.ext (by simp [Rect.unit, ix2])
    | ⟨1, _⟩ => exact Fin.ext (by simp [Rect.unit, ix2])
  have := h ⟨o + r, by omega⟩ d
  rw [← e] at this
  exact this

theorem d1List_read (P : (n : Nat) → n < 8 → FVec Ideal S64x512 .f32) (f : v.view.ty.Contents (Elt Ideal)) (L : List (View.Piece (Elt Ideal) S544x512 .f32))
    (y : S544x512.Idx) : ∀ (m : ℕ) (hm : m ≤ 8), v.view.read (Elt Ideal) (v.view.writes (Elt Ideal) f (d1List P m hm ++ L)) y
      = if h : (y 0).val < 64 * m then P ((y 0).val / 64) (by omega) (ix2 ⟨(y 0).val % 64, by omega⟩ (y 1)) else v.view.read (Elt Ideal) (v.view.writes (Elt Ideal) f L) y
  | 0, _ => by rw [dif_neg (by omega)]; rfl
  | m + 1, hm => by
    by_cases h1 : 64 * m ≤ (y 0).val ∧ (y 0).val < 64 * (m + 1)
    · rw [dif_pos h1.2]
      refine (View.read_writes_cons_unit_of_mem _ _ _ _ _ y (ix2 ⟨(y 0).val - 64 * m, by omega⟩ (y 1)) rfl ?_).trans ?_
      · intro a; match a with
        | ⟨0, _⟩ => exact (show (y 0).val = 64 * m + ((y 0).val - 64 * m) by omega)
        | ⟨1, _⟩ => exact (show (y 1).val = 0 + (y 1).val by omega)
      · have e1 : m = (y 0).val / 64 := by omega
        have e2 : (⟨(y 0).val - 64 * m, by omega⟩ : Fin 64) = ⟨(y 0).val % 64, by omega⟩ := Fin.ext (by show (y 0).val - 64 * m = (y 0).val % 64; omega)
        rw [e2]
        congr 1
    · refine (View.read_writes_cons_unit_of_not_mem _ _ _ _ _ y rfl 0 ?_).trans ?_
      · show (y 0).val < 64 * m ∨ 64 * m + 64 ≤ (y 0).val
        omega
      · refine (d1List_read P f L y m (by omega)).trans ?_
        by_cases h2 : (y 0).val < 64 * m
        · rw [dif_pos h2, dif_pos (by omega)]
        · rw [dif_neg h2, dif_neg (by omega)]

theorem shList_read (P : (r : Nat) → r < 7 → Vec Ideal S536x512 .f32) (f : v'.view.ty.Contents (Elt Ideal)) (y : S7x536x512.Idx) :
    ∀ (m : ℕ) (hm : m ≤ 7) (h : (y 0).val < m), v'.view.read (Elt Ideal) (v'.view.writes (Elt Ideal) f (shList P m hm)) y = P (y 0).val (y 0).isLt (ix2 (y 1) (y 2))
  | 0, _, h => absurd h (by omega)
  | m + 1, hm, h => by
    by_cases h1 : (y 0).val = m
    · refine (View.read_writes_cons_unit_of_mem _ _ _ _ _ y (ix3 0 (y 1) (y 2)) rfl ?_).trans ?_
      · intro a; match a with
        | ⟨0, _⟩ => exact (show (y 0).val = m + 0 by omega)
        | ⟨1, _⟩ => exact (show (y 1).val = 0 + (y 1).val by omega)
        | ⟨2, _⟩ => exact (show (y 2).val = 0 + (y 2).val by omega)
      · subst h1
        pointwise []
    · refine (View.read_writes_cons_unit_of_not_mem _ _ _ _ _ y rfl 0 ?_).trans ?_
      · show (y 0).val < m ∨ m + 1 ≤ (y 0).val
        omega
      · exact shList_read P f y m (by omega) (by omega)

/-- The shifted copies hold the buffer's rows one to seven below. -/
def Shifted {sg : RefSig} (v' : Memref sg .tc .vmem S7x536x512 .f32) (L : List (View.Piece (Elt Ideal) S7x536x512 .f32)) (G : ℕ → Fin 512 → EReal) : Prop :=
  ∀ (r : Fin 7) (o : Fin 536) (d : Fin 512), v'.view.read (Elt Ideal) (v'.view.writes (Elt Ideal) v'.view.junk L) (ix3 r o d) = G (r + 1 + o) d

theorem idx536 (r : ℕ) (h : r < 7) (o : Fin 536) (d : Fin 512) :
    (Rect.unit (s := S544x512) ![r + 1, 0] S536x512.size (inb_sh (r + 1) (by omega))).toLoadRect.idx (ix2 o d) = ix2 (⟨r + 1 + o, by omega⟩ : Fin 544) d := by
  funext a; match a with
  | ⟨0, _⟩ => exact Fin.ext (by simp [Rect.unit, ix2])
  | ⟨1, _⟩ => exact Fin.ext (by simp [Rect.unit, ix2])

theorem shL_holds {L : List (View.Piece (Elt Ideal) S544x512 .f32)} (h : Holds v v.view.junk L G) : Shifted v' (shL v L) G := fun r o d => by
  refine (shList_read _ _ (ix3 r o d) 7 (by omega) r.isLt).trans ?_
  have := h ⟨r + 1 + o, by omega⟩ d
  rw [← idx536 r.val r.isLt o d] at this
  exact this

theorem shOver_holds (hv : v.IsWhole) (xs : Vec Ideal S544x512 .f32) {L : List (View.Piece (Elt Ideal) S544x512 .f32)} (h : Holds v (hv.unread xs) L G) :
    Shifted v' (shOver v hv xs L) G := fun r o d => by
  refine (shList_read _ _ (ix3 r o d) 7 (by omega) r.isLt).trans ?_
  have := h ⟨r + 1 + o, by omega⟩ d
  rw [← idx536 r.val r.isLt o d] at this
  exact this

theorem tap_apply {rd : (o : Nat) → o + 64 ≤ 544 → Vec Ideal S64x512 .f32} (hr : ∀ o ho (r : Fin 64) d, rd o ho (ix2 r d) = G (o + r) d)
    {L : List (View.Piece (Elt Ideal) S7x536x512 .f32)} (hs : Shifted v' L G) (s : ℕ) (h32 : s ≤ 32) (n : ℕ) (hn : n < 8) (r : Fin 64) (d : Fin 512) :
    tap rd v' L s h32 n hn (ix2 r d) = G (s + 64 * n + r) d := by
  unfold tap
  by_cases e : s % 8 = 0
  · rw [dif_pos e]; exact hr _ _ _ _
  · rw [dif_neg e]
    have h1 : ∀ X : Vec Ideal S1x64x512 .f32, shapeCast S64x512 X shapeCasts_S1x64x512_S64x512 (ix2 r d) = X (ix3 0 r d) := fun X => by pointwise []
    rw [h1]
    have e : (Rect.unit (s := S7x536x512) ![s % 8 - 1, 8 * (s / 8) + 64 * n, 0] S1x64x512.size (inb_part _ _ (by omega) (by omega))).toLoadRect.idx (ix3 0 r d)
        = ix3 (⟨s % 8 - 1, by omega⟩ : Fin 7) (⟨8 * (s / 8) + 64 * n + r, by omega⟩ : Fin 536) d := by
      funext a; match a with
      | ⟨0, _⟩ => exact Fin.ext (by simp [Rect.unit, ix3])
      | ⟨1, _⟩ => exact Fin.ext (by simp [Rect.unit, ix3])
      | ⟨2, _⟩ => exact Fin.ext (by simp [Rect.unit, ix3])
    have := hs ⟨s % 8 - 1, by omega⟩ ⟨8 * (s / 8) + 64 * n + r, by omega⟩ d
    rw [← e] at this
    refine Eq.trans this ?_
    congr 1
    show s % 8 - 1 + 1 + (8 * (s / 8) + 64 * n + r.val) = s + 64 * n + r.val
    omega

/-! ## One tap -/

theorem tapAcc_apply {D X : (n : Nat) → n < 8 → FVec Ideal S64x512 .f32} {f : ℕ → EReal} (d : Fin 512)
    (h : ∀ n hn (r : Fin 64), D n hn (ix2 r d) * X n hn (ix2 r d) = f (64 * n + r)) (a : Fin 8) :
    ∀ (m : ℕ) (hm : m ≤ 8), tapAcc D X m hm (ix2 a d) = ∑ n ∈ Finset.range m, ∑ b ∈ Finset.range 8, f (64 * n + (8 * b + a))
  | 0, _ => by
    rw [Finset.sum_range_zero]
    unfold tapAcc
    pointwise []
  | m + 1, hm => by
    have h1 : ∀ (A : FVec Ideal S8x512 .f32) (U W : FVec Ideal S64x512 .f32),
        addf A (multiReduction .add [0] S8x512 (shapeCast S8x8x512 (mulf U W) shapeCasts_S64x512_S8x8x512) 0x00000000#32 reduces_S8x8x512_S8x512 (.inl rfl) rfl) (ix2 a d)
          = A (ix2 a d) + ∑ b : Fin 8, U (ix2 ⟨b * 8 + a, by omega⟩ d) * W (ix2 ⟨b * 8 + a, by omega⟩ d) := fun A U W => by
      pointwise []
    show addf (tapAcc D X m (by omega)) _ (ix2 a d) = _
    rw [h1, tapAcc_apply d h a m (by omega), Finset.sum_range_succ, Finset.sum_range (n := 8)]
    congr 1
    exact Finset.sum_congr rfl fun b _ => by rw [Nat.mul_comm 8]; exact h m hm ⟨b * 8 + a, by omega⟩

theorem tapRow_apply {D X : (n : Nat) → n < 8 → FVec Ideal S64x512 .f32} {f : ℕ → EReal} (d : Fin 512)
    (h : ∀ n hn (r : Fin 64), D n hn (ix2 r d) * X n hn (ix2 r d) = f (64 * n + r)) (old : Vec Ideal S1x512 .f32) :
    tapRow D X old (ix2 0 d) = old (ix2 0 d) + ∑ ρ ∈ Finset.range 512, f ρ := by
  have h1 : ∀ (A : FVec Ideal S8x512 .f32), addf (shapeCast S1x512 old shapeCasts_S1x512_S1x512)
      (shapeCast S1x512 (multiReduction .add [0] S512 A 0x00000000#32 reduces_S8x512_S512 (.inl rfl) rfl) shapeCasts_S512_S1x512) (ix2 0 d)
        = old (ix2 0 d) + ∑ a : Fin 8, A (ix2 a d) := fun A => by pointwise []
  unfold tapRow
  rw [h1]
  congr 1
  simp only [tapAcc_apply d h]
  rw [Finset.sum_comm]
  have h2 := sum_chunks f 64 8
  refine Eq.trans (Finset.sum_congr rfl fun n _ => ?_) h2
  rw [Finset.sum_comm]
  refine Eq.trans (Finset.sum_congr rfl fun b _ => ?_) (sum_chunks (fun r => f (64 * n + r)) 8 8)
  exact (Finset.sum_range (n := 8) fun a => f (64 * n + (8 * b + a))).symm

/-! ## One chunk of the layer norm's gradient -/

/-- The gated input's layer norm, its lanes scaled and shifted. -/
def pre (u g b : Fin 512 → EReal) (e : Fin 512) : EReal := Norm.nrm u e * g e + b e
/-- The gradient at `pre`, from the gradient `du` at its swish. -/
def du2 (u g b du : Fin 512 → EReal) (e : Fin 512) : EReal :=
  du e * (Ideal.logistic (pre u g b e) * (Ideal.ofBits .f32 0x3F800000#32 + pre u g b e * (Ideal.ofBits .f32 0x3F800000#32 - Ideal.logistic (pre u g b e))))
/-- The gradient at the row `u`. -/
def d1 (u g b du : Fin 512 → EReal) (e : Fin 512) : EReal := Norm.grad u (fun k => du2 u g b du k * g k) e

abbrev K512 : Ideal .f32 := Scalar.ofBits .f32 0x44000000#32

theorem cen_apply (u : Vec Ideal S64x512 .f32) (r : Fin 64) (e : Fin 512) :
    k0_pay16 (k0_pay14 u) (k0_pay15 u) K512 (ix2 r e) = Norm.cen (fun k => u (ix2 r k)) e := by
  unfold Norm.cen
  pointwise [k0_pay16, k0_pay14, k0_pay15]

theorem root_apply (u : Vec Ideal S64x512 .f32) (r : Fin 64) :
    k0_pay17 (k0_pay14 u) (k0_pay15 u) K512 (ix2 r 0) = Ideal.rsqrt (Norm.vrc (fun k => u (ix2 r k))) := by
  unfold Norm.vrc
  simp only [← cen_apply]
  generalize k0_pay14 u = A
  pointwise [k0_pay17]

theorem nrm_apply (u : Vec Ideal S64x512 .f32) (r : Fin 64) (e : Fin 512) :
    k0_pay18 (k0_pay14 u) (k0_pay15 u) K512 (ix2 r e) = Norm.nrm (fun k => u (ix2 r k)) e := by
  unfold Norm.nrm
  rw [← cen_apply, ← root_apply]
  pointwise [k0_pay18]

theorem du2_apply (g b : Vec Ideal S1x512 .f32) (u du : Vec Ideal S64x512 .f32) (r : Fin 64) (e : Fin 512) :
    k0_pay19 (k0_pay10 g) (k0_pay14 u) (k0_pay15 u) K512 b du (ix2 r e)
      = du2 (fun k => u (ix2 r k)) (fun k => g (ix2 0 k)) (fun k => b (ix2 0 k)) (fun k => du (ix2 r k)) e := by
  unfold du2 pre
  rw [← nrm_apply]
  pointwise [k0_pay19, k0_pay10]

theorem q_apply (g b : Vec Ideal S1x512 .f32) (u du : Vec Ideal S64x512 .f32) (r : Fin 64) (e : Fin 512) :
    k0_pay22 (k0_pay10 g) (k0_pay14 u) (k0_pay15 u) K512 b du (ix2 r e)
      = du2 (fun k => u (ix2 r k)) (fun k => g (ix2 0 k)) (fun k => b (ix2 0 k)) (fun k => du (ix2 r k)) e * g (ix2 0 e) := by
  rw [← du2_apply]
  pointwise [k0_pay22, k0_pay10]

theorem grad_apply (g b : Vec Ideal S1x512 .f32) (u du : Vec Ideal S64x512 .f32) (r : Fin 64) (e : Fin 512) :
    k0_pay25 (k0_pay17 (k0_pay14 u) (k0_pay15 u) K512) (k0_pay18 (k0_pay14 u) (k0_pay15 u) K512)
      (k0_pay23 (k0_pay10 g) (k0_pay14 u) (k0_pay15 u) K512 b du) (k0_pay24 (k0_pay10 g) (k0_pay14 u) (k0_pay15 u) K512 b du) (ix2 r e)
      = d1 (fun k => u (ix2 r k)) (fun k => g (ix2 0 k)) (fun k => b (ix2 0 k)) (fun k => du (ix2 r k)) e := by
  unfold d1 Norm.grad
  simp only [← q_apply g b u du, ← nrm_apply, ← root_apply]
  pointwise [k0_pay25, k0_pay23, k0_pay24]

theorem d1Of_apply (g b : Vec Ideal S1x512 .f32) (u du : Vec Ideal S64x512 .f32) (r : Fin 64) (e : Fin 512) :
    d1Of g b u du (ix2 r e) = d1 (fun k => u (ix2 r k)) (fun k => g (ix2 0 k)) (fun k => b (ix2 0 k)) (fun k => du (ix2 r k)) e := by
  rw [← grad_apply]
  unfold d1Of
  pointwise [k0_pay27]

/-! ## The three rows of sums -/

section Rows
variable (g b : Vec Ideal S1x512 .f32) (u du : (n : Nat) → n < 8 → Vec Ideal S64x512 .f32) (d : Fin 512)

theorem biasAcc_apply {f : ℕ → EReal}
    (h : ∀ n hn (r : Fin 64), d1 (fun k => u n hn (ix2 r k)) (fun k => g (ix2 0 k)) (fun k => b (ix2 0 k)) (fun k => du n hn (ix2 r k)) d = f (64 * n + r)) :
    ∀ (m : ℕ) (hm : m ≤ 8), biasAcc g b u du m hm (ix2 0 d) = ∑ n ∈ Finset.range m, ∑ r ∈ Finset.range 64, f (64 * n + r)
  | 0, _ => by
    rw [Finset.sum_range_zero]
    unfold biasAcc
    pointwise []
  | m + 1, hm => by
    rw [Finset.sum_range_succ, ← biasAcc_apply h m (by omega), Finset.sum_range (n := 64)]
    simp only [← h m hm, ← grad_apply]
    have h1 : ∀ A : FVec Ideal S1x512 .f32, k0_pay26 A (k0_pay17 (k0_pay14 (u m hm)) (k0_pay15 (u m hm)) K512) (k0_pay18 (k0_pay14 (u m hm)) (k0_pay15 (u m hm)) K512)
        (k0_pay23 (k0_pay10 g) (k0_pay14 (u m hm)) (k0_pay15 (u m hm)) K512 b (du m hm)) (k0_pay24 (k0_pay10 g) (k0_pay14 (u m hm)) (k0_pay15 (u m hm)) K512 b (du m hm)) (ix2 0 d)
        = A (ix2 0 d) + ∑ r : Fin 64, k0_pay25 (k0_pay17 (k0_pay14 (u m hm)) (k0_pay15 (u m hm)) K512) (k0_pay18 (k0_pay14 (u m hm)) (k0_pay15 (u m hm)) K512)
          (k0_pay23 (k0_pay10 g) (k0_pay14 (u m hm)) (k0_pay15 (u m hm)) K512 b (du m hm)) (k0_pay24 (k0_pay10 g) (k0_pay14 (u m hm)) (k0_pay15 (u m hm)) K512 b (du m hm)) (ix2 r d) := fun A => by
      pointwise [k0_pay26]
    exact h1 _

theorem lnbAcc_apply {f : ℕ → EReal}
    (h : ∀ n hn (r : Fin 64), du2 (fun k => u n hn (ix2 r k)) (fun k => g (ix2 0 k)) (fun k => b (ix2 0 k)) (fun k => du n hn (ix2 r k)) d = f (64 * n + r)) :
    ∀ (m : ℕ) (hm : m ≤ 8), lnbAcc g b u du m hm (ix2 0 d) = ∑ n ∈ Finset.range m, ∑ r ∈ Finset.range 64, f (64 * n + r)
  | 0, _ => by
    rw [Finset.sum_range_zero]
    unfold lnbAcc
    pointwise []
  | m + 1, hm => by
    rw [Finset.sum_range_succ, ← lnbAcc_apply h m (by omega), Finset.sum_range (n := 64)]
    simp only [← h m hm, ← du2_apply]
    have h1 : ∀ A : FVec Ideal S1x512 .f32, k0_pay21 (k0_pay10 g) A (k0_pay14 (u m hm)) (k0_pay15 (u m hm)) K512 b (du m hm) (ix2 0 d)
        = A (ix2 0 d) + ∑ r : Fin 64, k0_pay19 (k0_pay10 g) (k0_pay14 (u m hm)) (k0_pay15 (u m hm)) K512 b (du m hm) (ix2 r d) := fun A => by
      pointwise [k0_pay21]
    exact h1 _

theorem gainAcc_apply {f : ℕ → EReal}
    (h : ∀ n hn (r : Fin 64), du2 (fun k => u n hn (ix2 r k)) (fun k => g (ix2 0 k)) (fun k => b (ix2 0 k)) (fun k => du n hn (ix2 r k)) d
      * Norm.nrm (fun k => u n hn (ix2 r k)) d = f (64 * n + r)) :
    ∀ (m : ℕ) (hm : m ≤ 8), gainAcc g b u du m hm (ix2 0 d) = ∑ n ∈ Finset.range m, ∑ r ∈ Finset.range 64, f (64 * n + r)
  | 0, _ => by
    rw [Finset.sum_range_zero]
    unfold gainAcc
    pointwise []
  | m + 1, hm => by
    rw [Finset.sum_range_succ, ← gainAcc_apply h m (by omega), Finset.sum_range (n := 64)]
    simp only [← h m hm, ← du2_apply, ← nrm_apply]
    have h1 : ∀ A : FVec Ideal S1x512 .f32, k0_pay20 (k0_pay10 g) A (k0_pay14 (u m hm)) (k0_pay15 (u m hm)) K512 b (du m hm) (ix2 0 d)
        = A (ix2 0 d) + ∑ r : Fin 64, k0_pay19 (k0_pay10 g) (k0_pay14 (u m hm)) (k0_pay15 (u m hm)) K512 b (du m hm) (ix2 r d) * k0_pay18 (k0_pay14 (u m hm)) (k0_pay15 (u m hm)) K512 (ix2 r d) := fun A => by
      pointwise [k0_pay20]
    exact h1 _

end Rows

theorem plusRow_apply (old : Vec Ideal S1x512 .f32) (s : FVec Ideal S1x512 .f32) (d : Fin 512) : plusRow old s (ix2 0 d) = old (ix2 0 d) + s (ix2 0 d) := by
  pointwise [plusRow]

/-! ## The gated input's gradient -/

theorem dzAcc_apply {Y : (k : Nat) → k < 31 → FVec Ideal S64x512 .f32} {w : (k : Nat) → k < 31 → Vec Ideal S1x512 .f32} {y W : ℕ → EReal} (r : Fin 64) (d : Fin 512)
    (hY : ∀ k hk, Y k hk (ix2 r d) = y k) (hw : ∀ k hk, w k hk (ix2 0 d) = W k) :
    ∀ (k : ℕ) (hk : k < 31), dzAcc Y w k hk (ix2 r d) = ∑ j ∈ Finset.range (k + 1), y j * W j
  | 0, hk => by
    rw [Finset.sum_range_one, ← hY 0 hk, ← hw 0 hk]
    unfold dzAcc
    pointwise []
  | k + 1, hk => by
    rw [Finset.sum_range_succ, ← dzAcc_apply r d hY hw k (by omega), ← hY (k + 1) hk, ← hw (k + 1) hk]
    have h1 : ∀ (A U : FVec Ideal S64x512 .f32) (V : Vec Ideal S1x512 .f32), addf A (mulf U (broadcastTo S64x512 V broadcasts_S1x512_S64x512)) (ix2 r d)
        = A (ix2 r d) + U (ix2 r d) * V (ix2 0 d) := fun A U V => by pointwise []
    exact h1 _ _ _

theorem dzLeft_apply (a cg : FVec Ideal S64x512 .f32) (y : S64x512.Idx) : dzLeft a cg y = a y * Ideal.logistic (cg y) := by
  pointwise [dzLeft]

theorem dzRight_apply (a cv cg : FVec Ideal S64x512 .f32) (y : S64x512.Idx) :
    dzRight a cv cg y = a y * cv y * Ideal.logistic (cg y) * (Ideal.ofBits .f32 0x3F800000#32 - Ideal.logistic (cg y)) := by
  pointwise [dzRight]

end Cert.ConvIdeal.Mine
end
end
-- ==== Proof.ConvSums.lean ====
/- The convolution's backward call: what the block of sums and the block of gradients hold after a point's stores. -/
module

public import proofs.«01_k».proof.Proof.ConvRows
import Idealize.ShloMosaic.Lib.Pipeline.ValueKit
import Idealize.ShloMosaic.Lib.Pipeline.ReadBack
import Idealize.ShloMosaic.Lib.WritesUnit
import Idealize.ShloMosaic.Lib.Claim

@[expose] public section
set_option maxRecDepth 16384
noncomputable section
namespace Cert.ConvIdeal.Mine
open Cert.ConvIdeal Cert.ConvIdeal.Gen Idealize.ShloMosaic Idealize.ShloMosaic.TcCoe Idealize.SL.Sem

/-! ## The row block of sums -/

/-- What the block of sums holds after the writes `L` over `f`. -/
def Sums (v : View sig .tc .vmem S40x512 .f32) (f : v.ty.Contents (Elt Ideal)) (L : List (View.Piece (Elt Ideal) S40x512 .f32)) (Z : ℕ → Fin 512 → EReal) : Prop :=
  ∀ (k : Fin 40) (d : Fin 512), v.read (Elt Ideal) (v.writes (Elt Ideal) f L) (ix2 k d) = Z k d

section Sums
variable {v : View sig .tc .vmem S40x512 .f32} {f : v.ty.Contents (Elt Ideal)}

theorem sums_cons {L : List (View.Piece (Elt Ideal) S40x512 .f32)} {Z : ℕ → Fin 512 → EReal} (h : Sums v f L Z) (k : ℕ) (hk : k < 40)
    (p : FVec Ideal S1x512 .f32) (P : Fin 512 → EReal) (hp : ∀ d, p (ix2 0 d) = P d) :
    Sums v f (⟨Rect.unit (s := S40x512) ![k, 0] S1x512.size (inb_row (T := 40) k hk), p⟩ :: L) (fun j d => if j = k then P d else Z j d) := fun j d => by
  show _ = if j.val = k then P d else Z j d
  by_cases e : j.val = k
  · rw [if_pos e]
    refine (View.read_writes_cons_unit_of_mem _ _ _ _ _ _ (ix2 0 d) rfl ?_).trans (hp d)
    intro a; match a with
    | ⟨0, _⟩ => exact (show j.val = k + 0 by omega)
    | ⟨1, _⟩ => exact (show d.val = 0 + d.val by omega)
  · rw [if_neg e]
    refine (View.read_writes_cons_unit_of_not_mem _ _ _ _ _ _ rfl 0 ?_).trans (h j d)
    show j.val < k ∨ k + 1 ≤ j.val
    omega

variable {R : List (View.Piece (Elt Ideal) S40x512 .f32) → (k : Nat) → k < 40 → Vec Ideal S1x512 .f32} {O : ℕ → Fin 512 → EReal}

/-- What a load of a row not yet stored reads: the old row. -/
def Olds (v : View sig .tc .vmem S40x512 .f32) (f : v.ty.Contents (Elt Ideal))
    (R : List (View.Piece (Elt Ideal) S40x512 .f32) → (k : Nat) → k < 40 → Vec Ideal S1x512 .f32) (O : ℕ → Fin 512 → EReal) : Prop :=
  ∀ L Z, Sums v f L Z → ∀ k hk, (∀ d, Z k d = O k d) → ∀ d, R L k hk (ix2 0 d) = O k d

theorem three_sums (hR : Olds v f R O) {L : List (View.Piece (Elt Ideal) S40x512 .f32)} (hL : Sums v f L O)
    (g b : Vec Ideal S1x512 .f32) (u du : (n : Nat) → n < 8 → Vec Ideal S64x512 .f32) {fb fg fl : Fin 512 → EReal}
    (hb : ∀ d, biasAcc g b u du 8 (by omega) (ix2 0 d) = fb d) (hg : ∀ d, gainAcc g b u du 8 (by omega) (ix2 0 d) = fg d)
    (hl : ∀ d, lnbAcc g b u du 8 (by omega) (ix2 0 d) = fl d) :
    Sums v f (threeList g b u du R L) (fun j d => if j = 34 then O 34 d + fl d else if j = 33 then O 33 d + fg d else if j = 32 then O 32 d + fb d else O j d) := by
  have h1 := sums_cons hL 32 (by omega) (plusRow (R L 32 (by omega)) (biasAcc g b u du 8 (by omega))) (fun d => O 32 d + fb d) fun d => by
    rw [plusRow_apply, hb, hR L O hL 32 _ fun _ => rfl]
  have h2 := sums_cons h1 33 (by omega) (plusRow (R _ 33 (by omega)) (gainAcc g b u du 8 (by omega))) (fun d => O 33 d + fg d) fun d => by
    rw [plusRow_apply, hg, hR _ _ h1 33 _ fun _ => rfl]
  exact sums_cons h2 34 (by omega) (plusRow (R _ 34 (by omega)) (lnbAcc g b u du 8 (by omega))) (fun d => O 34 d + fl d) fun d => by
    rw [plusRow_apply, hl, hR _ _ h2 34 _ fun _ => rfl]

theorem taps_sums (hR : Olds v f R O) {L : List (View.Piece (Elt Ideal) S40x512 .f32)} {Z : ℕ → Fin 512 → EReal} (hL : Sums v f L Z)
    (hZ : ∀ k < 31, ∀ d, Z k d = O k d) {D : (n : Nat) → n < 8 → FVec Ideal S64x512 .f32} {X : (k : Nat) → k < 31 → (n : Nat) → n < 8 → FVec Ideal S64x512 .f32}
    {F : ℕ → Fin 512 → ℕ → EReal} (h : ∀ k hk d n hn (r : Fin 64), D n hn (ix2 r d) * X k hk n hn (ix2 r d) = F k d (64 * n + r)) :
    ∀ (n : ℕ) (hn : n ≤ 31), Sums v f (stList D X R L n hn) (fun j d => if j < n then O j d + ∑ ρ ∈ Finset.range 512, F j d ρ else Z j d)
  | 0, _ => fun j d => hL j d
  | n + 1, hn => by
    have ih := taps_sums hR hL hZ h n (by omega)
    have := sums_cons ih n (by omega) (tapRow D (X n hn) (R _ n (by omega))) (fun d => O n d + ∑ ρ ∈ Finset.range 512, F n d ρ) fun d => by
      rw [tapRow_apply d (h n hn d)]
      congr 1
      exact hR _ _ ih n (by omega) (fun d => by rw [if_neg (by omega)]; exact hZ n (by omega) d) d
    intro j d
    refine (this j d).trans ?_
    dsimp only
    by_cases e : j.val = n
    · rw [if_pos e, if_pos (by omega), e]
    · rw [if_neg e]
      by_cases e' : j.val < n
      · rw [if_pos e', if_pos (by omega)]
      · rw [if_neg e', if_neg (by omega)]
end Sums

theorem row_idx (k : ℕ) (hk : k < 40) (d : Fin 512) :
    (Rect.unit (s := S40x512) ![k, 0] S1x512.size (inb_row (T := 40) k hk)).toLoadRect.idx (ix2 0 d) = ix2 (⟨k, hk⟩ : Fin 40) d := by
  funext a; match a with
  | ⟨0, _⟩ => exact Fin.ext (by simp [Rect.unit, ix2])
  | ⟨1, _⟩ => exact Fin.ext (by simp [Rect.unit, ix2])

theorem olds_A (v : Memref sig .tc .vmem S40x512 .f32) (O : ℕ → Fin 512 → EReal) :
    Olds v.view v.view.junk (fun L k hk => v.view.readCov L (Rect.unit (s := S40x512) ![k, 0] S1x512.size (inb_row (T := 40) k hk)).toLoadRect) O :=
  fun L Z hL k hk hZ d => by
    have := hL ⟨k, hk⟩ d
    rw [← row_idx k hk d] at this
    exact Eq.trans this (hZ d)

theorem olds_B (v : Memref sig .tc .vmem S40x512 .f32) (hv : v.IsWhole) (x : Vec Ideal S40x512 .f32) :
    Olds v.view (hv.unread x) (fun _ k hk => View.readAt (Elt Ideal) v.view (Rect.unit (s := S40x512) ![k, 0] S1x512.size (inb_row (T := 40) k hk)).toLoadRect (hv.unread x))
      (fun k d => if h : k < 40 then x (ix2 ⟨k, h⟩ d) else 0) :=
  fun L Z hL k hk hZ d => by
    show _ = if h : k < 40 then x (ix2 ⟨k, h⟩ d) else 0
    rw [dif_pos hk]
    have : x (ix2 (⟨k, hk⟩ : Fin 40) d) = v.view.read (Elt Ideal) (hv.unread x) (ix2 (⟨k, hk⟩ : Fin 40) d) := by rw [hv.read_unread]
    rw [this, ← row_idx k hk d]
    rfl

/-! ## The gated input's gradient, stored -/

/-- One chunk's two pieces, read where they were written and elsewhere. -/
theorem pair_read (v : View sig .tc .vmem S512x1024 .bf16) (f : v.ty.Contents (Elt Ideal)) (L : List (View.Piece (Elt Ideal) S512x1024 .bf16)) (A B : FVec Ideal S64x512 .bf16)
    (n : ℕ) (hn : n < 8) (ρ : Fin 512) (d : Fin 512) (r : Fin 64) (e : ρ.val = 64 * n + r) :
    v.read (Elt Ideal) (v.writes (Elt Ideal) f (⟨Rect.unit (s := S512x1024) ![64 * n, 512] S64x512.size (inb_right n hn), B⟩ ::
        ⟨Rect.unit (s := S512x1024) ![64 * n, 0] S64x512.size (inb_left n hn), A⟩ :: L)) (ix2 ρ (⟨d, by omega⟩ : Fin 1024)) = A (ix2 r d)
    ∧ v.read (Elt Ideal) (v.writes (Elt Ideal) f (⟨Rect.unit (s := S512x1024) ![64 * n, 512] S64x512.size (inb_right n hn), B⟩ ::
        ⟨Rect.unit (s := S512x1024) ![64 * n, 0] S64x512.size (inb_left n hn), A⟩ :: L)) (ix2 ρ (⟨512 + d, by omega⟩ : Fin 1024)) = B (ix2 r d) := by
  constructor
  · refine (View.read_writes_cons_unit_of_not_mem _ _ _ _ _ _ rfl 1 ?_).trans ?_
    · show d.val < 512 ∨ 512 + 512 ≤ d.val
      omega
    refine View.read_writes_cons_unit_of_mem (s := S512x1024) (size := S64x512.size) _ _ _ _ _ _ (ix2 r d : S64x512.Idx) rfl ?_
    intro a; match a with
    | ⟨0, _⟩ => exact e
    | ⟨1, _⟩ => exact (show d.val = 0 + d.val by omega)
  · refine View.read_writes_cons_unit_of_mem (s := S512x1024) (size := S64x512.size) _ _ _ _ _ _ (ix2 r d : S64x512.Idx) rfl ?_
    intro a; match a with
    | ⟨0, _⟩ => exact e
    | ⟨1, _⟩ => exact rfl

theorem pair_miss (v : View sig .tc .vmem S512x1024 .bf16) (f : v.ty.Contents (Elt Ideal)) (L : List (View.Piece (Elt Ideal) S512x1024 .bf16)) (A B : FVec Ideal S64x512 .bf16)
    (n : ℕ) (hn : n < 8) (ρ : Fin 512) (d : Fin 1024) (e : ρ.val < 64 * n ∨ 64 * n + 64 ≤ ρ.val) :
    v.read (Elt Ideal) (v.writes (Elt Ideal) f (⟨Rect.unit (s := S512x1024) ![64 * n, 512] S64x512.size (inb_right n hn), B⟩ ::
        ⟨Rect.unit (s := S512x1024) ![64 * n, 0] S64x512.size (inb_left n hn), A⟩ :: L)) (ix2 ρ d) = v.read (Elt Ideal) (v.writes (Elt Ideal) f L) (ix2 ρ d) := by
  refine (View.read_writes_cons_unit_of_not_mem _ _ _ _ _ _ rfl 0 ?_).trans ?_
  · exact e
  exact View.read_writes_cons_unit_of_not_mem _ _ _ _ _ _ rfl 0 e

theorem dzList_read (v : View sig .tc .vmem S512x1024 .bf16) (f : v.ty.Contents (Elt Ideal)) (Y : (n : Nat) → n < 8 → (k : Nat) → k < 31 → FVec Ideal S64x512 .f32)
    (w : (k : Nat) → k < 31 → Vec Ideal S1x512 .f32) (cv cg : (n : Nat) → n < 8 → Vec Ideal S64x512 .f32) (n : ℕ) (hn : n < 8) (ρ : Fin 512) (r : Fin 64) (e : ρ.val = 64 * n + r) (d : Fin 512) :
    ∀ (m : ℕ) (hm : m ≤ 8) (_ : n < m),
      v.read (Elt Ideal) (v.writes (Elt Ideal) f (dzList Y w cv cg m hm)) (ix2 ρ (⟨d, by omega⟩ : Fin 1024))
        = dzLeft (dzAcc (Y n hn) w 30 (by omega)) (cg n hn) (ix2 r d)
      ∧ v.read (Elt Ideal) (v.writes (Elt Ideal) f (dzList Y w cv cg m hm)) (ix2 ρ (⟨512 + d, by omega⟩ : Fin 1024))
        = dzRight (dzAcc (Y n hn) w 30 (by omega)) (cv n hn) (cg n hn) (ix2 r d)
  | 0, _, h => absurd h (by omega)
  | m + 1, hm, h => by
    rw [dzList]
    by_cases h1 : n = m
    · subst h1
      exact pair_read v f _ _ _ n hn ρ d r e
    · rw [pair_miss v f _ _ _ m hm ρ _ (by omega), pair_miss v f _ _ _ m hm ρ _ (by omega)]
      exact dzList_read v f Y w cv cg n hn ρ r e d m (by omega) (by omega)

end Cert.ConvIdeal.Mine
end
end
-- ==== Proof.ConvBody.lean ====
/- The convolution's backward call: what one grid point leaves, over any buffers. -/
module

public import proofs.«01_k».proof.Proof.ConvSums
import Idealize.ShloMosaic.Lib.Pipeline.ValueKit
import Idealize.ShloMosaic.Lib.Pipeline.ReadBack
import Idealize.ShloMosaic.Lib.WritesUnit
import Idealize.ShloMosaic.Lib.Claim

@[expose] public section
set_option maxRecDepth 16384
noncomputable section
namespace Cert.ConvIdeal.Mine
open Cert.ConvIdeal Cert.ConvIdeal.Gen Idealize.ShloMosaic Idealize.ShloMosaic.TcCoe Idealize.SL.Sem

section Body
variable (i : grid0.Coords)
  {arg1 : Memref sig .tc .vmem S512x512 .f32} (harg1 : arg1.IsWhole) {arg2 : Memref sig .tc .vmem S512x512 .f32} (harg2 : arg2.IsWhole)
  {arg3 : Memref sig .tc .vmem S512x512 .f32} (harg3 : arg3.IsWhole) {arg4 : Memref sig .tc .vmem S512x512 .f32} (harg4 : arg4.IsWhole)
  {arg5 : Memref sig .tc .vmem S32x512 .f32} (harg5 : arg5.IsWhole) {arg6 : Memref sig .tc .vmem S32x512 .f32} (harg6 : arg6.IsWhole)
  {arg7 : Memref sig .tc .vmem S31x512 .f32} (harg7 : arg7.IsWhole) {arg8 : Memref sig .tc .vmem S1x512 .f32} (harg8 : arg8.IsWhole)
  {arg9 : Memref sig .tc .vmem S1x512 .f32} (harg9 : arg9.IsWhole)
  {arg11 : Memref sig .tc .vmem S40x512 .f32} {arg12 : Memref sig .tc .vmem S544x512 .f32} {arg13 : Memref sig .tc .vmem S544x512 .f32}
  {arg14 : Memref sig .tc .vmem S7x536x512 .f32} {arg15 : Memref sig .tc .vmem S7x536x512 .f32} (harg13 : arg13.IsWhole)
  {x0 x1 x2 x3 : Vec Ideal S512x512 .f32} {x4 x5 : Vec Ideal S32x512 .f32} {x6 : Vec Ideal S31x512 .f32} {x7 x8 : Vec Ideal S1x512 .f32}

theorem rows64_apply {sg : RefSig} (a : Memref sg .tc .vmem S512x512 .f32) (ha : a.IsWhole) (x : Vec Ideal S512x512 .f32) (n : ℕ) (hn : n < 8) (r : Fin 64) (d : Fin 512) :
    rows64 a ha x n hn (ix2 r d) = x (ix2 (⟨64 * n + r, by omega⟩ : Fin 512) d) := by
  have e : (Rect.unit (s := S512x512) ![64 * n, 0] S64x512.size (inb_chunk (T := 512) n (by omega))).toLoadRect.idx (ix2 r d) = ix2 (⟨64 * n + r, by omega⟩ : Fin 512) d := by
    funext a; match a with
    | ⟨0, _⟩ => exact Fin.ext (by simp [Rect.unit, ix2])
    | ⟨1, _⟩ => exact Fin.ext (by simp [Rect.unit, ix2])
  have h : x (ix2 (⟨64 * n + r, by omega⟩ : Fin 512) d) = a.view.read (Elt Ideal) (ha.unread x) (ix2 (⟨64 * n + r, by omega⟩ : Fin 512) d) := by rw [ha.read_unread]
  rw [h, ← e]
  rfl

theorem wRow_apply {sg : RefSig} (a : Memref sg .tc .vmem S31x512 .f32) (ha : a.IsWhole) (x : Vec Ideal S31x512 .f32) (k : ℕ) (hk : k < 31) (d : Fin 512) :
    wRow a ha x k hk (ix2 0 d) = x (ix2 (⟨k, hk⟩ : Fin 31) d) := by
  have e : (Rect.unit (s := S31x512) ![k, 0] S1x512.size (inb_row (T := 31) k hk)).toLoadRect.idx (ix2 0 d) = ix2 (⟨k, hk⟩ : Fin 31) d := by
    funext a; match a with
    | ⟨0, _⟩ => exact Fin.ext (by simp [Rect.unit, ix2])
    | ⟨1, _⟩ => exact Fin.ext (by simp [Rect.unit, ix2])
  have h : x (ix2 (⟨k, hk⟩ : Fin 31) d) = a.view.read (Elt Ideal) (ha.unread x) (ix2 (⟨k, hk⟩ : Fin 31) d) := by rw [ha.read_unread]
  rw [h, ← e]
  rfl

theorem load_whole {sg : RefSig} {A B : ℕ} (a : Memref sg .tc .vmem ⟨2, ![A, B]⟩ .f32) (ha : a.IsWhole) (x : Vec Ideal ⟨2, ![A, B]⟩ .f32)
    (inb : ∀ k, ![0, 0] k + ![A, B] k ≤ (⟨2, ![A, B]⟩ : Shape).size k) :
    View.readAt (Elt Ideal) a.view (Rect.unit (s := ⟨2, ![A, B]⟩) ![0, 0] ![A, B] inb).toLoadRect (ha.unread x) = x := by
  funext y
  have e : (Rect.unit (s := ⟨2, ![A, B]⟩) ![0, 0] ![A, B] inb).toLoadRect.idx y = y := by
    funext k; match k with
    | ⟨0, _⟩ => exact Fin.ext (by simp [Rect.unit])
    | ⟨1, _⟩ => exact Fin.ext (by simp [Rect.unit])
  show a.view.read (Elt Ideal) (ha.unread x) ((Rect.unit (s := ⟨2, ![A, B]⟩) ![0, 0] ![A, B] inb).toLoadRect.idx y) = x y
  rw [ha.read_unread]
  exact congrArg x e

theorem whole1_eq {sg : RefSig} (a : Memref sg .tc .vmem S1x512 .f32) (ha : a.IsWhole) (x : Vec Ideal S1x512 .f32) : whole1 a ha x = x :=
  load_whole a ha x _

/-! ## The gradients at the norm's argument -/

variable {D : ℕ → Fin 512 → EReal}
  (hD : ∀ (ρ : Fin 512) d, d1 (fun k => x1 (ix2 ρ k)) (fun k => x7 (ix2 0 k)) (fun k => x8 (ix2 0 k)) (fun k => x0 (ix2 ρ k)) d = D ρ d)
include hD

theorem d1L_low (f : arg13.view.ty.Contents (Elt Ideal)) (L : List (View.Piece (Elt Ideal) S544x512 .f32)) (ρ : Fin 544) (h : ρ.val < 512) (d : Fin 512) :
    arg13.view.read (Elt Ideal) (arg13.view.writes (Elt Ideal) f (d1L arg1 harg1 arg2 harg2 arg8 harg8 arg9 harg9 x0 x1 x7 x8 ++ L)) (ix2 ρ d) = D ρ d := by
  refine (d1List_read _ f L (ix2 ρ d) 8 (by omega)).trans ((dif_pos (show ρ.val < 64 * 8 by omega)).trans ?_)
  refine (d1Of_apply _ _ _ _ _ _).trans ?_
  simp only [rows64_apply, whole1_eq]
  refine Eq.trans ?_ (hD ⟨ρ, h⟩ d)
  have e : ∀ h', (⟨64 * (ρ.val / 64) + ρ.val % 64, h'⟩ : Fin 512) = ⟨ρ, h⟩ := fun h' => Fin.ext (by show 64 * (ρ.val / 64) + ρ.val % 64 = ρ.val; omega)
  exact congrArg₂ (fun a b : Fin 512 → EReal => d1 a (fun k => x7 (ix2 0 k)) (fun k => x8 (ix2 0 k)) b d) (funext fun k => congrArg (fun j => x1 (ix2 j k)) (e _)) (funext fun k => congrArg (fun j => x0 (ix2 j k)) (e _))

theorem d1L0_holds (hz : ∀ (j : Fin 32) d, D (512 + j) d = 0) :
    Holds arg13 arg13.view.junk (d1L0 arg1 harg1 arg2 harg2 arg8 harg8 arg9 harg9 x0 x1 x7 x8) D := fun ρ d => by
  by_cases h : ρ.val < 512
  · exact d1L_low harg1 harg2 harg8 harg9 hD _ _ ρ h d
  · refine (d1List_read _ _ _ (ix2 ρ d) 8 (by omega)).trans ((dif_neg (show ¬ρ.val < 64 * 8 by omega)).trans ?_)
    refine (View.read_writes_cons_unit_of_mem (s := S544x512) (size := S32x512.size) _ _ _ _ _ _ (ix2 (⟨ρ - 512, by omega⟩ : Fin 32) d : S32x512.Idx) rfl ?_).trans ?_
    · intro a; match a with
      | ⟨0, _⟩ => exact (show ρ.val = 512 + (ρ - 512) by omega)
      | ⟨1, _⟩ => exact (show d.val = 0 + d.val by omega)
    · have := hz ⟨ρ - 512, by omega⟩ d
      have e : 512 + (ρ.val - 512) = ρ.val := by omega
      dsimp only at this
      rw [e] at this
      rw [this]
      pointwise [k0_pay7]

theorem d1L_holds {xs : Vec Ideal S544x512 .f32} (hz : ∀ (j : Fin 32) d, xs (ix2 (⟨512 + j, by omega⟩ : Fin 544) d) = D (512 + j) d) :
    Holds arg13 (harg13.unread xs) (d1L arg1 harg1 arg2 harg2 arg8 harg8 arg9 harg9 x0 x1 x7 x8) D := fun ρ d => by
  rw [← List.append_nil (d1L arg1 harg1 arg2 harg2 arg8 harg8 arg9 harg9 x0 x1 x7 x8)]
  by_cases h : ρ.val < 512
  · exact d1L_low harg1 harg2 harg8 harg9 hD _ _ ρ h d
  · refine (d1List_read _ _ _ (ix2 ρ d) 8 (by omega)).trans ((dif_neg (show ¬ρ.val < 64 * 8 by omega)).trans ?_)
    have h2 : arg13.view.read (Elt Ideal) (arg13.view.writes (Elt Ideal) (harg13.unread xs) []) (ix2 ρ d) = xs (ix2 ρ d) := by
      show arg13.view.read (Elt Ideal) (harg13.unread xs) (ix2 ρ d) = _
      rw [harg13.read_unread]
    refine h2.trans ?_
    have := hz ⟨ρ - 512, by omega⟩ d
    have e : 512 + (ρ.val - 512) = ρ.val := by omega
    have e2 : ∀ h', (⟨512 + (ρ.val - 512), h'⟩ : Fin 544) = ρ := fun h' => Fin.ext e
    dsimp only at this
    rw [e2, e] at this
    exact this

theorem at64Over_apply {xs : Vec Ideal S544x512 .f32} (hz : ∀ (j : Fin 32) d, xs (ix2 (⟨512 + j, by omega⟩ : Fin 544) d) = D (512 + j) d)
    (o : ℕ) (ho : o + 64 ≤ 544) (r : Fin 64) (d : Fin 512) :
    at64Over arg13 harg13 xs (d1L arg1 harg1 arg2 harg2 arg8 harg8 arg9 harg9 x0 x1 x7 x8) o ho (ix2 r d) = D (o + r) d := by
  have e : (Rect.unit (s := S544x512) ![o, 0] S64x512.size (inb_at (T := 544) o ho)).toLoadRect.idx (ix2 r d) = ix2 (⟨o + r, by omega⟩ : Fin 544) d := by
    funext a; match a with
    | ⟨0, _⟩ => exact Fin.ext (by simp [Rect.unit, ix2])
    | ⟨1, _⟩ => exact Fin.ext (by simp [Rect.unit, ix2])
  unfold at64Over
  split
  · have := d1L_low harg1 harg2 harg8 harg9 hD arg13.view.junk [] ⟨o + r, by omega⟩ (show o + r.val < 512 by omega) d
    rw [List.append_nil, ← e] at this
    exact this
  · have := d1L_holds harg1 harg2 harg8 harg9 harg13 hD hz ⟨o + r, by omega⟩ d
    rw [← e] at this
    exact this

theorem at64_low (n : ℕ) (hn : 64 * n + 64 ≤ 544) (r : Fin 64) (d : Fin 512) :
    at64 arg13 (d1L arg1 harg1 arg2 harg2 arg8 harg8 arg9 harg9 x0 x1 x7 x8) (64 * n) hn (ix2 r d) = D (64 * n + r) d := by
  have e : (Rect.unit (s := S544x512) ![64 * n, 0] S64x512.size (inb_at (T := 544) (64 * n) hn)).toLoadRect.idx (ix2 r d) = ix2 (⟨64 * n + r, by omega⟩ : Fin 544) d := by
    funext a; match a with
    | ⟨0, _⟩ => exact Fin.ext (by simp [Rect.unit, ix2])
    | ⟨1, _⟩ => exact Fin.ext (by simp [Rect.unit, ix2])
  have := d1L_low harg1 harg2 harg8 harg9 hD arg13.view.junk [] ⟨64 * n + r, by omega⟩ (show 64 * n + r.val < 512 by omega) d
  rw [List.append_nil, ← e] at this
  exact this

/-- The halo the next point reads. -/
theorem halo_read {L : List (View.Piece (Elt Ideal) S544x512 .f32)} (v : View sig .tc .vmem S544x512 .f32) (f : v.ty.Contents (Elt Ideal)) (j : Fin 32) (d : Fin 512) :
    v.read (Elt Ideal) (v.writes (Elt Ideal) f (⟨Rect.unit (s := S544x512) ![512, 0] S32x512.size inb_S544x512_S32x512_512_0,
      k0_pay5 (arg13.view.readCov (d1L arg1 harg1 arg2 harg2 arg8 harg8 arg9 harg9 x0 x1 x7 x8 ++ L) (Rect.unit (s := S544x512) ![0, 0] S32x512.size inb_S544x512_S32x512_0_0).toLoadRect)⟩ ::
      (d1L arg1 harg1 arg2 harg2 arg8 harg8 arg9 harg9 x0 x1 x7 x8 ++ L))) (ix2 (⟨512 + j, by omega⟩ : Fin 544) d) = D j d := by
  refine (View.read_writes_cons_unit_of_mem (s := S544x512) (size := S32x512.size) _ _ _ _ _ _ (ix2 j d : S32x512.Idx) rfl ?_).trans ?_
  · intro a; match a with
    | ⟨0, _⟩ => exact rfl
    | ⟨1, _⟩ => exact (show d.val = 0 + d.val by omega)
  · have h1 : ∀ X : Vec Ideal S32x512 .f32, k0_pay5 X (ix2 j d) = X (ix2 j d) := fun X => by pointwise [k0_pay5]
    have e : (Rect.unit (s := S544x512) ![0, 0] S32x512.size inb_S544x512_S32x512_0_0).toLoadRect.idx (ix2 j d) = ix2 (⟨j, by omega⟩ : Fin 544) d := by
      funext a; match a with
      | ⟨0, _⟩ => exact Fin.ext (by simp [Rect.unit, ix2])
      | ⟨1, _⟩ => exact Fin.ext (by simp [Rect.unit, ix2])
    have := d1L_low harg1 harg2 harg8 harg9 hD arg13.view.junk L ⟨j, by omega⟩ (show j.val < 512 by omega) d
    rw [← e] at this
    exact (h1 _).trans this

/-! ## The gated input -/

omit hD
variable {U : ℕ → Fin 512 → EReal} (hU1 : ∀ (j : Fin 32) d, k0_pay8 i x4 x5 (ix2 j d) = U j d) (hU2 : ∀ (ρ d : Fin 512), k0_pay9 x2 x3 (ix2 ρ d) = U (32 + ρ) d)
include hU1 hU2

theorem u0L_holds : Holds arg12 arg12.view.junk (u0L i arg3 harg3 arg4 harg4 arg5 harg5 arg6 harg6 x2 x3 x4 x5) U := fun ρ d => by
  unfold u0L
  have e4 := load_whole arg5 harg5 x4 inb_S32x512_S32x512_0_0
  have e5 := load_whole arg6 harg6 x5 inb_S32x512_S32x512_0_0
  have e2 := load_whole arg3 harg3 x2 inb_S512x512_S512x512_0_0
  have e3 := load_whole arg4 harg4 x3 inb_S512x512_S512x512_0_0
  by_cases h : ρ.val < 32
  · refine (View.read_writes_cons_unit_of_not_mem _ _ _ _ _ _ rfl 0 ?_).trans ?_
    · exact .inl h
    refine (View.read_writes_cons_unit_of_mem (s := S544x512) (size := S32x512.size) _ _ _ _ _ _ (ix2 (⟨ρ, h⟩ : Fin 32) d : S32x512.Idx) rfl ?_).trans ((congrFun (congrArg₂ (k0_pay8 i) e4 e5) _).trans (hU1 ⟨ρ, h⟩ d))
    intro a; match a with
    | ⟨0, _⟩ => exact (show ρ.val = 0 + ρ by omega)
    | ⟨1, _⟩ => exact (show d.val = 0 + d.val by omega)
  · refine (View.read_writes_cons_unit_of_mem (s := S544x512) (size := S512x512.size) _ _ _ _ _ _ (ix2 (⟨ρ - 32, by omega⟩ : Fin 512) d : S512x512.Idx) rfl ?_).trans ?_
    · intro a; match a with
      | ⟨0, _⟩ => exact (show ρ.val = 32 + (ρ - 32) by omega)
      | ⟨1, _⟩ => exact (show d.val = 0 + d.val by omega)
    · have := hU2 ⟨ρ - 32, by omega⟩ d
      have e : 32 + (ρ.val - 32) = ρ.val := by omega
      dsimp only at this
      rw [e] at this
      exact (congrFun (congrArg₂ k0_pay9 e2 e3) _).trans this

/-! ## The sums and the gated input's gradient -/

include hD
variable {Q N : ℕ → Fin 512 → EReal}
  (hQ : ∀ (ρ : Fin 512) d, du2 (fun k => x1 (ix2 ρ k)) (fun k => x7 (ix2 0 k)) (fun k => x8 (ix2 0 k)) (fun k => x0 (ix2 ρ k)) d = Q ρ d)
  (hN : ∀ (ρ : Fin 512) d, Norm.nrm (fun k => x1 (ix2 ρ k)) d = N ρ d)
include hQ hN

/-- What one point adds to row `k` of the sums. -/
def adds (D U Q N : ℕ → Fin 512 → EReal) (k : ℕ) (d : Fin 512) : EReal :=
  if k < 31 then ∑ ρ ∈ Finset.range 512, D ρ d * U (2 + k + ρ) d
  else if k = 32 then ∑ ρ ∈ Finset.range 512, D ρ d
  else if k = 33 then ∑ ρ ∈ Finset.range 512, Q ρ d * N ρ d
  else if k = 34 then ∑ ρ ∈ Finset.range 512, Q ρ d else 0

theorem stOf_read {R : List (View.Piece (Elt Ideal) S40x512 .f32) → (k : Nat) → k < 40 → Vec Ideal S1x512 .f32} {O : ℕ → Fin 512 → EReal}
    {f : arg11.view.ty.Contents (Elt Ideal)} (hR : Olds arg11.view f R O) {L : List (View.Piece (Elt Ideal) S40x512 .f32)} (hL : Sums arg11.view f L O)
    {D1 : List (View.Piece (Elt Ideal) S544x512 .f32)} (h1 : ∀ n hn (r : Fin 64) d, at64 arg13 D1 (64 * n) hn (ix2 r d) = D (64 * n + r) d) :
    Sums arg11.view f (stOf i arg1 harg1 arg2 harg2 arg3 harg3 arg4 harg4 arg5 harg5 arg6 harg6 arg8 harg8 arg9 harg9 arg12 arg13 arg14 x0 x1 x2 x3 x4 x5 x7 x8 D1 R L) (fun k d => O k d + adds D U Q N k d) := by
  have hb : ∀ d, biasAcc (whole1 arg8 harg8 x7) (whole1 arg9 harg9 x8) (fun n h => rows64 arg2 harg2 x1 n h) (fun n h => rows64 arg1 harg1 x0 n h) 8 (by omega) (ix2 0 d)
      = ∑ ρ ∈ Finset.range 512, D ρ d := fun d => by
    refine (biasAcc_apply _ _ _ _ d (f := fun ρ => D ρ d) (fun n hn r => ?_) 8 (by omega)).trans (sum_chunks (fun ρ => D ρ d) 64 8)
    simp only [rows64_apply, whole1_eq]
    exact hD _ d
  have hl : ∀ d, lnbAcc (whole1 arg8 harg8 x7) (whole1 arg9 harg9 x8) (fun n h => rows64 arg2 harg2 x1 n h) (fun n h => rows64 arg1 harg1 x0 n h) 8 (by omega) (ix2 0 d)
      = ∑ ρ ∈ Finset.range 512, Q ρ d := fun d => by
    refine (lnbAcc_apply _ _ _ _ d (f := fun ρ => Q ρ d) (fun n hn r => ?_) 8 (by omega)).trans (sum_chunks (fun ρ => Q ρ d) 64 8)
    simp only [rows64_apply, whole1_eq]
    exact hQ _ d
  have hg : ∀ d, gainAcc (whole1 arg8 harg8 x7) (whole1 arg9 harg9 x8) (fun n h => rows64 arg2 harg2 x1 n h) (fun n h => rows64 arg1 harg1 x0 n h) 8 (by omega) (ix2 0 d)
      = ∑ ρ ∈ Finset.range 512, Q ρ d * N ρ d := fun d => by
    refine (gainAcc_apply _ _ _ _ d (f := fun ρ => Q ρ d * N ρ d) (fun n hn r => ?_) 8 (by omega)).trans (sum_chunks (fun ρ => Q ρ d * N ρ d) 64 8)
    simp only [rows64_apply, whole1_eq]
    exact congrArg₂ (· * ·) (hQ _ d) (hN _ d)
  have hu := u0L_holds i harg3 harg4 harg5 harg6 (arg12 := arg12) hU1 hU2
  have h3 := three_sums hR hL (whole1 arg8 harg8 x7) (whole1 arg9 harg9 x8) (fun n h => rows64 arg2 harg2 x1 n h) (fun n h => rows64 arg1 harg1 x0 n h) hb hg hl
  have h4 := taps_sums hR h3 (fun k hk d => by
    show (if k = 34 then _ else if k = 33 then _ else if k = 32 then _ else O k d) = O k d
    rw [if_neg (by omega), if_neg (by omega), if_neg (by omega)])
    (D := fun n h => at64 arg13 D1 (64 * n) (by omega))
    (X := fun k hk n h => tap (at64 arg12 (u0L i arg3 harg3 arg4 harg4 arg5 harg5 arg6 harg6 x2 x3 x4 x5)) arg14
      (shL arg12 (u0L i arg3 harg3 arg4 harg4 arg5 harg5 arg6 harg6 x2 x3 x4 x5)) (2 + k) (by omega) n h)
    (F := fun k d ρ => D ρ d * U (2 + k + ρ) d) (fun k hk d n hn r => by
      refine congrArg₂ (· * ·) (h1 n _ r d) ((tap_apply (fun o ho r d => at64_apply hu o ho r d) (shL_holds hu) (2 + k) (by omega) n hn r d).trans ?_)
      rw [Nat.add_assoc (2 + k)]) 31 (by omega)
  intro k d
  refine (h4 k d).trans ?_
  show (if k.val < 31 then O k d + _ else if k.val = 34 then _ else if k.val = 33 then _ else if k.val = 32 then _ else O k d) = O k d + adds D U Q N k d
  unfold adds
  by_cases a : k.val < 31
  · rw [if_pos a, if_pos a]
  rw [if_neg a, if_neg a]
  by_cases a : k.val = 34
  · rw [if_pos a, if_neg (by omega), if_neg (by omega), if_pos a, a]
  rw [if_neg a]
  by_cases a' : k.val = 33
  · rw [if_pos a', if_neg (by omega), if_pos a', a']
  rw [if_neg a']
  by_cases a'' : k.val = 32
  · rw [if_pos a'', if_pos a'', a'']
  rw [if_neg a'', if_neg a'', if_neg a', if_neg a, add_zero]

omit hD hU1 hU2 hQ hN
/-- The convolution's gradient at a row. -/
def back (D : ℕ → Fin 512 → EReal) (w : Vec Ideal S31x512 .f32) (ρ : ℕ) (d : Fin 512) : EReal :=
  ∑ k ∈ Finset.range 31, D (30 - k + ρ) d * (if h : k < 31 then w (ix2 (⟨k, h⟩ : Fin 31) d) else 0)

theorem dzOf_read {rd : (o : Nat) → o + 64 ≤ 544 → Vec Ideal S64x512 .f32} (hr : ∀ o ho (r : Fin 64) d, rd o ho (ix2 r d) = D (o + r) d)
    {L : List (View.Piece (Elt Ideal) S7x536x512 .f32)} (hs : Shifted arg15 L D)
    (v : View sig .tc .vmem S512x1024 .bf16) (f : v.ty.Contents (Elt Ideal)) (ρ d : Fin 512) :
    v.read (Elt Ideal) (v.writes (Elt Ideal) f (dzOf arg3 harg3 arg4 harg4 arg7 harg7 arg15 x2 x3 x6 rd L)) (ix2 ρ (⟨d, by omega⟩ : Fin 1024))
        = back D x6 ρ d * Ideal.logistic (x3 (ix2 ρ d))
      ∧ v.read (Elt Ideal) (v.writes (Elt Ideal) f (dzOf arg3 harg3 arg4 harg4 arg7 harg7 arg15 x2 x3 x6 rd L)) (ix2 ρ (⟨512 + d, by omega⟩ : Fin 1024))
        = back D x6 ρ d * x2 (ix2 ρ d) * Ideal.logistic (x3 (ix2 ρ d)) * (Ideal.ofBits .f32 0x3F800000#32 - Ideal.logistic (x3 (ix2 ρ d))) := by
  have hn : ρ.val / 64 < 8 := by omega
  have er : ρ.val = 64 * (ρ.val / 64) + (⟨ρ.val % 64, Nat.mod_lt _ (by decide)⟩ : Fin 64).val := by show ρ.val = 64 * (ρ.val / 64) + ρ.val % 64; omega
  generalize (⟨ρ.val % 64, Nat.mod_lt _ (by decide)⟩ : Fin 64) = r at er
  generalize ρ.val / 64 = n at hn er
  have eρ : ∀ h', (⟨64 * n + r, h'⟩ : Fin 512) = ρ := fun h' => Fin.ext er.symm
  have hb : dzAcc (fun k hk => tap rd arg15 L (30 - k) (by omega) n hn) (fun k hk => wRow arg7 harg7 x6 k hk) 30 (by omega) (ix2 r d) = back D x6 ρ d := by
    refine (dzAcc_apply (y := fun k => D (30 - k + ρ) d) (W := fun k => if h : k < 31 then x6 (ix2 (⟨k, h⟩ : Fin 31) d) else 0) r d (fun k hk => ?_) (fun k hk => ?_) 30 (by omega)).trans rfl
    · refine (tap_apply hr hs (30 - k) (by omega) n hn r d).trans ?_
      rw [Nat.add_assoc, ← er]
    · refine (wRow_apply _ _ _ _ _ _).trans ?_
      rw [dif_pos hk]
  obtain ⟨h1, h2⟩ := dzList_read v f (fun n h k hk => tap rd arg15 L (30 - k) (by omega) n h) (fun k hk => wRow arg7 harg7 x6 k hk)
    (fun n h => rows64 arg3 harg3 x2 n h) (fun n h => rows64 arg4 harg4 x3 n h) n hn ρ r er d 8 (by omega) hn
  constructor
  · refine h1.trans ((dzLeft_apply _ _ _).trans ?_)
    rw [hb, rows64_apply, eρ]
  · refine h2.trans ((dzRight_apply _ _ _ _).trans ?_)
    rw [hb, rows64_apply, rows64_apply, eρ]

end Body
end Cert.ConvIdeal.Mine
end
end
-- ==== Proof.ConvPoint.lean ====
/- The convolution's backward call: its results, entry by entry. -/
module

public import proofs.«01_k».proof.Proof.ConvBody
import Idealize.ShloMosaic.Lib.Pipeline.ValueKit
import Idealize.ShloMosaic.Lib.Pipeline.ReadBack
import Idealize.ShloMosaic.Lib.WritesUnit
import Idealize.ShloMosaic.Lib.Claim

@[expose] public section
set_option maxRecDepth 16384
noncomputable section
namespace Cert.ConvIdeal.Mine
open Cert.ConvIdeal Cert.ConvIdeal.Gen Idealize.ShloMosaic Idealize.ShloMosaic.TcCoe Idealize.SL.Sem

/-! ## The results, of the arrays -/

section Spec
variable (z : FVec Ideal S8192x2048 .f32) (u : FVec Ideal S8192x512 .f32) (dc : FVec Ideal S8192x1024 .f32) (w : FVec Ideal S31x512 .f32) (g b : FVec Ideal S512 .f32)

/-- The gated input, 32 rows of zeros before it. -/
def gin (σ : ℕ) (d : Fin 512) : EReal :=
  if h : 32 ≤ σ ∧ σ < 8224 then z (ix2 (⟨σ - 32, by omega⟩ : Fin 8192) (⟨d, by omega⟩ : Fin 2048)) * Ideal.logistic (z (ix2 (⟨σ - 32, by omega⟩ : Fin 8192) (⟨512 + d, by omega⟩ : Fin 2048))) else 0
/-- The gradient at the convolution, zeros after the last row. -/
def DD (ρ : ℕ) (d : Fin 512) : EReal :=
  if h : ρ < 8192 then d1 (fun k => u (ix2 (⟨ρ, h⟩ : Fin 8192) k)) (fun k => g (ix1 k)) (fun k => b (ix1 k)) (fun k => dc (ix2 (⟨ρ, h⟩ : Fin 8192) (⟨k, by omega⟩ : Fin 1024))) d else 0
/-- The gradient at the norm's result. -/
def QQ (ρ : ℕ) (d : Fin 512) : EReal :=
  if h : ρ < 8192 then du2 (fun k => u (ix2 (⟨ρ, h⟩ : Fin 8192) k)) (fun k => g (ix1 k)) (fun k => b (ix1 k)) (fun k => dc (ix2 (⟨ρ, h⟩ : Fin 8192) (⟨k, by omega⟩ : Fin 1024))) d else 0
/-- The normalised row. -/
def NN (ρ : ℕ) (d : Fin 512) : EReal := if h : ρ < 8192 then Norm.nrm (fun k => u (ix2 (⟨ρ, h⟩ : Fin 8192) k)) d else 0
/-- What row `ρ` adds to row `k` of the sums. -/
def share (k ρ : ℕ) (d : Fin 512) : EReal :=
  if k < 31 then DD u dc g b ρ d * gin z (2 + k + ρ) d
  else if k = 32 then DD u dc g b ρ d
  else if k = 33 then QQ u dc g b ρ d * NN u ρ d
  else if k = 34 then QQ u dc g b ρ d else 0
def stAt (k : ℕ) (d : Fin 512) : EReal := ∑ ρ ∈ Finset.range 8192, share z u dc g b k ρ d
/-- Row `k` of the sums, `k` a row of the result. -/
def stOn (k : Fin 40) (d : Fin 512) : EReal := stAt z u dc g b k d
def dzAt (i : Fin 8192) (e : Fin 1024) : EReal :=
  if h : e.val < 512 then back (DD u dc g b) w i ⟨e, h⟩ * Ideal.logistic (z (ix2 i (⟨512 + e, by omega⟩ : Fin 2048)))
  else back (DD u dc g b) w i ⟨e - 512, by omega⟩ * z (ix2 i (⟨e - 512, by omega⟩ : Fin 2048)) * Ideal.logistic (z (ix2 i (⟨e, by omega⟩ : Fin 2048)))
    * (Ideal.ofBits .f32 0x3F800000#32 - Ideal.logistic (z (ix2 i (⟨e, by omega⟩ : Fin 2048))))

theorem adds_eq (o k : ℕ) (d : Fin 512) :
    adds (fun s => DD u dc g b (o + s)) (fun s => gin z (o + s)) (fun s => QQ u dc g b (o + s)) (fun s => NN u (o + s)) k d = ∑ ρ ∈ Finset.range 512, share z u dc g b k (o + ρ) d := by
  unfold adds share
  split
  · refine Finset.sum_congr rfl fun ρ _ => ?_
    show DD u dc g b (o + ρ) d * gin z (o + (2 + k + ρ)) d = _
    rw [show o + (2 + k + ρ) = 2 + k + (o + ρ) by omega]
  split
  · rfl
  split
  · rfl
  split
  · rfl
  · rw [Finset.sum_const_zero]

theorem back_shift (o : ℕ) (ρ : ℕ) (d : Fin 512) : back (fun s => DD u dc g b (o + s)) w ρ d = back (DD u dc g b) w (o + ρ) d := by
  unfold back
  refine Finset.sum_congr rfl fun k _ => ?_
  show DD u dc g b (o + (30 - k + ρ)) d * _ = _
  rw [show o + (30 - k + ρ) = 30 - k + (o + ρ) by omega]
end Spec

/-! ## The blocks -/

variable (m : (ℓ : Loc nD τ sig) → Buf (Elt Ideal) ℓ) (c : Dev nD) (t : Fin cfg0.N)

theorem idx : ∀ t : Fin cfg0.N, win0_0.index t = ![15 - t.val, 0] ∧ win0_1.index t = ![15 - t.val, 0] ∧ win0_2.index t = ![15 - t.val, 0] ∧ win0_3.index t = ![15 - t.val, 1]
    ∧ win0_4.index t = ![(15 - t.val) * 16 - 1, 0] ∧ win0_5.index t = ![(15 - t.val) * 16 - 1, 1] ∧ win0_6.index t = ![0, 0] ∧ win0_7.index t = ![0, 0] ∧ win0_8.index t = ![0, 0]
    ∧ win0_9.index t = ![15 - t.val, 0] ∧ win0_10.index t = ![0, 0] :=
  (by decide +kernel : ∀ t : Fin grid0.N, _)

theorem lt_N : t.val < 16 := lt_of_lt_of_eq t.isLt N_0
/-- The first row of the point's block. -/
def base (t : Fin cfg0.N) : ℕ := (15 - t.val) * 512
/-- The array row that row `y` of the block at point `t` is. -/
def row (t : Fin cfg0.N) (y : Fin 512) : Fin 8192 := ⟨(15 - t.val) * 512 + y, by have := lt_N t; omega⟩

abbrev MZ : FVec Ideal S8192x2048 .f32 := m ((c.tc : Thread nD τ).loc main_arg0)
abbrev MW : FVec Ideal S31x512 .f32 := m ((c.tc : Thread nD τ).loc main_arg1)
abbrev MG : FVec Ideal S512 .f32 := m ((c.tc : Thread nD τ).loc main_arg3)
abbrev MB : FVec Ideal S512 .f32 := m ((c.tc : Thread nD τ).loc main_arg4)
abbrev MD : FVec Ideal S8192x1024 .f32 := m ((c.tc : Thread nD τ).loc main_arg5)
/-- The convolution's result, as the host lines make it. -/
abbrev HU : FVec Ideal S8192x512 .f32 := V m c main_v167

theorem x0_block (r d : Fin 512) : (iblk m c 0 t : FVec Ideal S512x512 .f32) (ix2 r d) = MD m c (ix2 (row t r) (⟨d, by omega⟩ : Fin 1024)) := by
  unfold row
  blk_point [iblk, V, idx t]
theorem x2_block (r d : Fin 512) : (iblk m c 2 t : FVec Ideal S512x512 .f32) (ix2 r d) = MZ m c (ix2 (row t r) (⟨d, by omega⟩ : Fin 2048)) := by
  unfold row
  blk_point [iblk, V, idx t]
theorem x3_block (r d : Fin 512) : (iblk m c 3 t : FVec Ideal S512x512 .f32) (ix2 r d) = MZ m c (ix2 (row t r) (⟨512 + d, by omega⟩ : Fin 2048)) := by
  unfold row
  blk_point [iblk, V, idx t]
theorem x4_block (j : Fin 32) (d : Fin 512) : (iblk m c 4 t : FVec Ideal S32x512 .f32) (ix2 j d) = MZ m c (ix2 (⟨((15 - t.val) * 16 - 1) * 32 + j, by omega⟩ : Fin 8192) (⟨d, by omega⟩ : Fin 2048)) := by
  blk_point [iblk, V, idx t]
theorem x5_block (j : Fin 32) (d : Fin 512) : (iblk m c 5 t : FVec Ideal S32x512 .f32) (ix2 j d) = MZ m c (ix2 (⟨((15 - t.val) * 16 - 1) * 32 + j, by omega⟩ : Fin 8192) (⟨512 + d, by omega⟩ : Fin 2048)) := by
  blk_point [iblk, V, idx t]
theorem x6_block (k : Fin 31) (d : Fin 512) : (iblk m c 6 t : FVec Ideal S31x512 .f32) (ix2 k d) = MW m c (ix2 k d) := by
  blk_point [iblk, V, idx t]
theorem V_g : V m c main_v168 = shapeCast S1x512 (MG m c) shapeCasts_S512_S1x512 := by
  unfold V; after_results
  rfl
theorem V_b : V m c main_v169 = shapeCast S1x512 (MB m c) shapeCasts_S512_S1x512 := by
  unfold V; after_results
  rfl
theorem x7_block (d : Fin 512) : (iblk m c 7 t : FVec Ideal S1x512 .f32) (ix2 0 d) = MG m c (ix1 d) := by
  have e : ((cfg0.win 7).blk t).view.emb (ix2 0 d) = (ix2 0 d : S1x512.Idx) := by blk_ext [idx t]
  have h : (iblk m c 7 t : FVec Ideal S1x512 .f32) (ix2 0 d) = (V m c main_v168 : S1x512.Idx → Elt Ideal .f32) (((cfg0.win 7).blk t).view.emb (ix2 0 d)) := rfl
  rw [h, e, V_g]
  pointwise []
theorem x8_block (d : Fin 512) : (iblk m c 8 t : FVec Ideal S1x512 .f32) (ix2 0 d) = MB m c (ix1 d) := by
  have e : ((cfg0.win 8).blk t).view.emb (ix2 0 d) = (ix2 0 d : S1x512.Idx) := by blk_ext [idx t]
  have h : (iblk m c 8 t : FVec Ideal S1x512 .f32) (ix2 0 d) = (V m c main_v169 : S1x512.Idx → Elt Ideal .f32) (((cfg0.win 8).blk t).view.emb (ix2 0 d)) := rfl
  rw [h, e, V_b]
  pointwise []
theorem x1_block (r d : Fin 512) : (iblk m c 1 t : FVec Ideal S512x512 .f32) (ix2 r d) = HU m c (ix2 (row t r) d) := by
  have e : ((cfg0.win 1).blk t).view.emb (ix2 r d) = (ix2 (row t r) d : S8192x512.Idx) := by unfold row; blk_ext [idx t]
  have h : (iblk m c 1 t : FVec Ideal S512x512 .f32) (ix2 r d) = (V m c main_v167 : S8192x512.Idx → Elt Ideal .f32) (((cfg0.win 1).blk t).view.emb (ix2 r d)) := rfl
  rw [h, e]

theorem last_tile : ∀ t : Fin cfg0.N, Scalar.cmpi .eq (Scalar.subi 15#32 (BitVec.ofNat 32 ((grid0.coords t) 0).val)) 0#32 = if t.val = 15 then 1#1 else 0#1 :=
  (by decide +kernel : ∀ t : Fin grid0.N, _)

abbrev D' : ℕ → Fin 512 → EReal := DD (HU m c) (MD m c) (MG m c) (MB m c)
abbrev Q' : ℕ → Fin 512 → EReal := QQ (HU m c) (MD m c) (MG m c) (MB m c)
/-- The same from the point's first row on. -/
def Dt (s : ℕ) (d : Fin 512) : EReal := D' m c (base t + s) d
def Qt (s : ℕ) (d : Fin 512) : EReal := Q' m c (base t + s) d
def Nt (s : ℕ) (d : Fin 512) : EReal := NN (HU m c) (base t + s) d
def Ut (s : ℕ) (d : Fin 512) : EReal := gin (MZ m c) (base t + s) d

theorem hD (ρ d : Fin 512) : d1 (fun k => iblk m c 1 t (ix2 ρ k)) (fun k => iblk m c 7 t (ix2 0 k)) (fun k => iblk m c 8 t (ix2 0 k)) (fun k => iblk m c 0 t (ix2 ρ k)) d = Dt m c t ρ d := by
  have := lt_N t
  unfold Dt D' DD
  rw [dif_pos (show base t + ρ.val < 8192 by unfold base; omega)]
  simp only [x1_block, x7_block, x8_block, x0_block]
  rfl
theorem hQ (ρ d : Fin 512) : du2 (fun k => iblk m c 1 t (ix2 ρ k)) (fun k => iblk m c 7 t (ix2 0 k)) (fun k => iblk m c 8 t (ix2 0 k)) (fun k => iblk m c 0 t (ix2 ρ k)) d = Qt m c t ρ d := by
  have := lt_N t
  unfold Qt Q' QQ
  rw [dif_pos (show base t + ρ.val < 8192 by unfold base; omega)]
  simp only [x1_block, x7_block, x8_block, x0_block]
  rfl
theorem hN (ρ d : Fin 512) : Norm.nrm (fun k => iblk m c 1 t (ix2 ρ k)) d = Nt m c t ρ d := by
  have := lt_N t
  unfold Nt NN
  rw [dif_pos (show base t + ρ.val < 8192 by unfold base; omega)]
  simp only [x1_block]
  rfl
theorem hU1 (j : Fin 32) (d : Fin 512) : k0_pay8 (grid0.coords t) (iblk m c 4 t) (iblk m c 5 t) (ix2 j d) = Ut m c t j d := by
  have := lt_N t
  unfold Ut gin
  by_cases h : t.val = 15
  · rw [dif_neg (by unfold base; omega)]
    unfold k0_pay8
    rw [last_tile, if_pos h]
    pointwise []
  · have hb : 512 ≤ base t := by unfold base; omega
    rw [dif_pos (by unfold base at *; omega)]
    have h1 : ∀ A B : Vec Ideal S32x512 .f32, k0_pay8 (grid0.coords t) A B (ix2 j d) = A (ix2 j d) * Ideal.logistic (B (ix2 j d)) := fun A B => by
      unfold k0_pay8
      rw [last_tile, if_neg h]
      pointwise []
    rw [h1, x4_block, x5_block]
    have e : ∀ h1 h2, (⟨((15 - t.val) * 16 - 1) * 32 + j, h1⟩ : Fin 8192) = ⟨base t + j - 32, h2⟩ := fun _ _ => Fin.ext (by show ((15 - t.val) * 16 - 1) * 32 + j.val = (15 - t.val) * 512 + j.val - 32; omega)
    rw [e]
theorem hU2 (ρ d : Fin 512) : k0_pay9 (iblk m c 2 t) (iblk m c 3 t) (ix2 ρ d) = Ut m c t (32 + ρ) d := by
  have := lt_N t
  have h1 : ∀ A B : Vec Ideal S512x512 .f32, k0_pay9 A B (ix2 ρ d) = A (ix2 ρ d) * Ideal.logistic (B (ix2 ρ d)) := fun A B => by pointwise [k0_pay9]
  rw [h1, x2_block, x3_block]
  unfold Ut gin
  rw [dif_pos (by unfold base; omega)]
  have e : ∀ h2, row t ρ = ⟨base t + (32 + ρ) - 32, h2⟩ := fun _ => Fin.ext (by show (15 - t.val) * 512 + ρ.val = (15 - t.val) * 512 + (32 + ρ.val) - 32; omega)
  rw [e]

/-! ## The points -/

theorem base_A (h0 : t.val % 16 = 0) : base t = 7680 := by have := lt_N t; unfold base; omega
theorem zero_after (h0 : t.val % 16 = 0) (j : Fin 32) (d : Fin 512) : Dt m c t (512 + j) d = 0 := by
  unfold Dt
  rw [base_A t h0]
  unfold D' DD
  rw [dif_neg (by omega)]

/-- The rows the next point needs. -/
theorem carry (j : Fin 32) (d : Fin 512) : (outsAt0 m c t.val t.isLt).2.2 (ix2 (⟨512 + j, by omega⟩ : Fin 544) d) = Dt m c t j d := by
  by_cases h0 : t.val % 16 = 0
  · rw [outsAt0_A m c t h0]
    dsimp only
    unfold sout0_A_1
    rw [d1_A]
    exact halo_read (arg13 := scM0_1) (D := Dt m c t) (x0 := iblk m c 0 t) (x1 := iblk m c 1 t) (x7 := iblk m c 7 t) (x8 := iblk m c 8 t) (hs0_0 t) (hs0_1 t) (hs0_7 t) (hs0_8 t) (hD m c t) _ _ j d
  · rw [outsAt0_B m c t h0]
    dsimp only
    unfold sout0_B_1
    rw [d1_B]
    have := halo_read (arg13 := scM0_1) (D := Dt m c t) (x0 := iblk m c 0 t) (x1 := iblk m c 1 t) (x7 := iblk m c 7 t) (x8 := iblk m c 8 t) (L := []) (hs0_0 t) (hs0_1 t) (hs0_7 t) (hs0_8 t) (hD m c t) VS0_1 VS0_1.junk j d
    rw [List.append_nil] at this
    exact this

theorem before (h0 : ¬t.val % 16 = 0) (j : Fin 32) (d : Fin 512) :
    (outsAt0 m c (t.val - 1) (Nat.lt_of_le_of_lt (Nat.sub_le _ _) t.isLt)).2.2 (ix2 (⟨512 + j, by omega⟩ : Fin 544) d) = Dt m c t (512 + j) d := by
  have := lt_N t
  refine (carry m c ⟨t.val - 1, Nat.lt_of_le_of_lt (Nat.sub_le _ _) t.isLt⟩ j d).trans ?_
  have e : base ⟨t.val - 1, Nat.lt_of_le_of_lt (Nat.sub_le _ _) t.isLt⟩ + j.val = base t + (512 + j) := by
    show (15 - (t.val - 1)) * 512 + j.val = (15 - t.val) * 512 + (512 + j.val)
    omega
  unfold Dt
  rw [e]

theorem back_block (ρ d : Fin 512) : back (Dt m c t) (iblk m c 6 t) ρ d = back (D' m c) (MW m c) (row t ρ) d := by
  refine Eq.trans ?_ (back_shift _ _ _ _ _ (base t) ρ d)
  unfold back
  refine Finset.sum_congr rfl fun k hk => ?_
  rw [dif_pos (Finset.mem_range.1 hk), dif_pos (Finset.mem_range.1 hk), x6_block]
  rfl

theorem dz_halves (ρ d : Fin 512) :
    (outsAt0 m c t.val t.isLt).1 (ix2 ρ (⟨d, by omega⟩ : Fin 1024)) = back (Dt m c t) (iblk m c 6 t) ρ d * Ideal.logistic (iblk m c 3 t (ix2 ρ d))
    ∧ (outsAt0 m c t.val t.isLt).1 (ix2 ρ (⟨512 + d, by omega⟩ : Fin 1024)) = back (Dt m c t) (iblk m c 6 t) ρ d * iblk m c 2 t (ix2 ρ d) * Ideal.logistic (iblk m c 3 t (ix2 ρ d))
      * (Ideal.ofBits .f32 0x3F800000#32 - Ideal.logistic (iblk m c 3 t (ix2 ρ d))) := by
  by_cases h0 : t.val % 16 = 0
  · rw [outsAt0_A m c t h0]
    dsimp only
    unfold out0_A_9
    rw [dz_A]
    have hh := d1L0_holds (arg13 := scM0_1) (D := Dt m c t) (x0 := iblk m c 0 t) (x1 := iblk m c 1 t) (x7 := iblk m c 7 t) (x8 := iblk m c 8 t) (hs0_0 t) (hs0_1 t) (hs0_7 t) (hs0_8 t) (hD m c t) (zero_after m c t h0)
    exact dzOf_read (arg15 := scM0_3) (D := Dt m c t) (x2 := iblk m c 2 t) (x3 := iblk m c 3 t) (x6 := iblk m c 6 t) (hs0_2 t) (hs0_3 t) (hs0_6 t) (fun o ho r d => at64_apply hh o ho r d) (shL_holds hh) VO0_9 VO0_9.junk ρ d
  · rw [outsAt0_B m c t h0]
    dsimp only
    unfold out0_B_9
    rw [dz_B]
    have hh := d1L_holds (arg13 := scM0_1) (D := Dt m c t) (x0 := iblk m c 0 t) (x1 := iblk m c 1 t) (x7 := iblk m c 7 t) (x8 := iblk m c 8 t) (hs0_0 t) (hs0_1 t) (hs0_7 t) (hs0_8 t) (Memref.isWhole_whole _) (hD m c t) (before m c t h0)
    exact dzOf_read (arg15 := scM0_3) (D := Dt m c t) (x2 := iblk m c 2 t) (x3 := iblk m c 3 t) (x6 := iblk m c 6 t) (hs0_2 t) (hs0_3 t) (hs0_6 t)
      (fun o ho r d => at64Over_apply (arg13 := scM0_1) (D := Dt m c t) (x0 := iblk m c 0 t) (x1 := iblk m c 1 t) (x7 := iblk m c 7 t) (x8 := iblk m c 8 t) (hs0_0 t) (hs0_1 t) (hs0_7 t) (hs0_8 t) (Memref.isWhole_whole _) (hD m c t) (before m c t h0) o ho r d)
      (shOver_holds (Memref.isWhole_whole _) _ hh) VO0_9 VO0_9.junk ρ d

theorem dz_point (ρ : Fin 512) (e : Fin 1024) : (outsAt0 m c t.val t.isLt).1 (ix2 ρ e) = dzAt (MZ m c) (HU m c) (MD m c) (MW m c) (MG m c) (MB m c) (row t ρ) e := by
  unfold dzAt
  by_cases h : e.val < 512
  · rw [dif_pos h]
    refine ((dz_halves m c t ρ ⟨e, h⟩).1).trans ?_
    rw [back_block, x3_block]
  · rw [dif_neg h]
    have e1 : ∀ h', (⟨512 + (e.val - 512), h'⟩ : Fin 1024) = e := fun h' => Fin.ext (by show 512 + (e.val - 512) = e.val; omega)
    have e2 : ∀ h' h'', (⟨512 + (e.val - 512), h'⟩ : Fin 2048) = ⟨e, h''⟩ := fun h' h'' => Fin.ext (by show 512 + (e.val - 512) = e.val; omega)
    have := (dz_halves m c t ρ ⟨e - 512, by omega⟩).2
    rw [e1, back_block, x3_block, x2_block, e2 _ (by omega)] at this
    exact this

/-! ## The sums, point by point -/

abbrev G' : ℕ → ℕ → Fin 512 → EReal := share (MZ m c) (HU m c) (MD m c) (MG m c) (MB m c)

theorem adds_at (k : ℕ) (d : Fin 512) : adds (Dt m c t) (Ut m c t) (Qt m c t) (Nt m c t) k d = ∑ ρ ∈ Finset.range 512, G' m c k (base t + ρ) d :=
  adds_eq _ _ _ _ _ (base t) k d

theorem st_first (h0 : t.val % 16 = 0) (k : Fin 40) (d : Fin 512) : (outsAt0 m c t.val t.isLt).2.1 (ix2 k d) = ∑ ρ ∈ Finset.range 512, G' m c k (base t + ρ) d := by
  rw [outsAt0_A m c t h0]
  dsimp only
  unfold out0_A_10
  rw [st_A]
  have hh := d1L0_holds (arg13 := scM0_1) (D := Dt m c t) (x0 := iblk m c 0 t) (x1 := iblk m c 1 t) (x7 := iblk m c 7 t) (x8 := iblk m c 8 t) (hs0_0 t) (hs0_1 t) (hs0_7 t) (hs0_8 t) (hD m c t) (zero_after m c t h0)
  have hL : Sums (ms0_10 t).view (ms0_10 t).view.junk [⟨Rect.unit (s := S40x512) ![0, 0] S40x512.size inb_S40x512_S40x512_0_0, (k0_pay6 : FVec Ideal S40x512 .f32)⟩] (fun _ _ => 0) := fun k d => by
    refine (View.read_writes_cons_unit_of_mem (s := S40x512) (size := S40x512.size) _ _ _ _ _ _ (ix2 k d : S40x512.Idx) rfl ?_).trans ?_
    · intro a; match a with
      | ⟨0, _⟩ => exact (show k.val = 0 + k.val by omega)
      | ⟨1, _⟩ => exact (show d.val = 0 + d.val by omega)
    · pointwise [k0_pay6]
  have := stOf_read (grid0.coords t) (D := Dt m c t) (U := Ut m c t) (Q := Qt m c t) (N := Nt m c t) (x2 := iblk m c 2 t) (x3 := iblk m c 3 t) (x4 := iblk m c 4 t) (x5 := iblk m c 5 t) (x0 := iblk m c 0 t) (x1 := iblk m c 1 t) (x7 := iblk m c 7 t) (x8 := iblk m c 8 t) (arg12 := scM0_0) (arg13 := scM0_1) (arg14 := scM0_2) (hs0_0 t) (hs0_1 t) (hs0_2 t) (hs0_3 t) (hs0_4 t) (hs0_5 t) (hs0_7 t) (hs0_8 t) (hD m c t) (hU1 m c t) (hU2 m c t) (hQ m c t) (hN m c t)
    (olds_A (ms0_10 t) _) hL (fun n hn r d => at64_apply hh (64 * n) hn r d) k d
  rw [View.read_writes_junk_apply_eq_canon] at this ⊢
  exact this.trans ((zero_add _).trans (adds_at m c t k d))

theorem st_later (h0 : ¬t.val % 16 = 0) (k : Fin 40) (d : Fin 512) : (outsAt0 m c t.val t.isLt).2.1 (ix2 k d)
    = (outsAt0 m c (t.val - 1) (Nat.lt_of_le_of_lt (Nat.sub_le _ _) t.isLt)).2.1 (ix2 k d) + ∑ ρ ∈ Finset.range 512, G' m c k (base t + ρ) d := by
  have hb := before m c t h0
  rw [outsAt0_B m c t h0]
  dsimp only
  generalize (outsAt0 m c (t.val - 1) (Nat.lt_of_le_of_lt (Nat.sub_le _ _) t.isLt)).2.2 = xs at hb
  generalize (outsAt0 m c (t.val - 1) (Nat.lt_of_le_of_lt (Nat.sub_le _ _) t.isLt)).2.1 = xo
  unfold out0_B_10
  rw [st_B]
  have hL : Sums (ms0_10 t).view ((hs0_10 t).unread xo) [] (fun k d => if h : k < 40 then xo (ix2 ⟨k, h⟩ d) else 0) := fun k d => by
    show (ms0_10 t).view.read (Elt Ideal) ((hs0_10 t).unread xo) (ix2 k d) = if h : k.val < 40 then xo (ix2 ⟨k, h⟩ d) else 0
    rw [(hs0_10 t).read_unread, dif_pos k.isLt]
  have := stOf_read (grid0.coords t) (D := Dt m c t) (U := Ut m c t) (Q := Qt m c t) (N := Nt m c t) (x2 := iblk m c 2 t) (x3 := iblk m c 3 t) (x4 := iblk m c 4 t) (x5 := iblk m c 5 t) (x0 := iblk m c 0 t) (x1 := iblk m c 1 t) (x7 := iblk m c 7 t) (x8 := iblk m c 8 t) (arg12 := scM0_0) (arg13 := scM0_1) (arg14 := scM0_2) (hs0_0 t) (hs0_1 t) (hs0_2 t) (hs0_3 t) (hs0_4 t) (hs0_5 t) (hs0_7 t) (hs0_8 t) (hD m c t) (hU1 m c t) (hU2 m c t) (hQ m c t) (hN m c t)
    (olds_B (ms0_10 t) (hs0_10 t) xo) hL (D1 := d1L (ms0_0 t) (hs0_0 t) (ms0_1 t) (hs0_1 t) (ms0_7 t) (hs0_7 t) (ms0_8 t) (hs0_8 t) (iblk m c 0 t) (iblk m c 1 t) (iblk m c 7 t) (iblk m c 8 t))
    (fun n hn r d => at64_low (arg13 := scM0_1) (D := Dt m c t) (x0 := iblk m c 0 t) (x1 := iblk m c 1 t) (x7 := iblk m c 7 t) (x8 := iblk m c 8 t) (hs0_0 t) (hs0_1 t) (hs0_7 t) (hs0_8 t) (hD m c t) n hn r d) k d
  refine this.trans ?_
  show (if h : k.val < 40 then xo (ix2 ⟨k, h⟩ d) else 0) + _ = _
  rw [dif_pos k.isLt]
  exact congrArg _ (adds_at m c t k d)

theorem st_sum (k : Fin 40) (d : Fin 512) : ∀ (n : ℕ) (hn : n < cfg0.N), (outsAt0 m c n hn).2.1 (ix2 k d) = ∑ ρ ∈ Finset.range (512 * (n + 1)), G' m c k ((15 - n) * 512 + ρ) d
  | 0, hn => st_first m c ⟨0, hn⟩ (Nat.zero_mod _) k d
  | n + 1, hn => by
    have hN := lt_N ⟨n + 1, hn⟩
    dsimp only at hN
    have h := st_later m c ⟨n + 1, hn⟩ (show ¬(n + 1) % 16 = 0 by omega) k d
    refine h.trans ?_
    have ih := st_sum k d n (by omega)
    refine (congrArg (· + _) ih).trans ?_
    rw [show 512 * (n + 1 + 1) = 512 + 512 * (n + 1) by omega, Finset.sum_range_add, add_comm]
    refine congrArg₂ (· + ·) rfl (Finset.sum_congr rfl fun ρ _ => ?_)
    rw [show (15 - n) * 512 + ρ = (15 - (n + 1)) * 512 + (512 + ρ) by omega]

theorem st_point (h : t.val % 16 = 15) (k : Fin 40) (d : Fin 512) : (outsAt0 m c t.val t.isLt).2.1 (ix2 k d) = stAt (MZ m c) (HU m c) (MD m c) (MG m c) (MB m c) k d := by
  have := lt_N t
  refine (st_sum m c k d t.val t.isLt).trans ?_
  have e : t.val = 15 := by omega
  rw [e]
  unfold stAt
  refine Finset.sum_congr rfl fun ρ _ => ?_
  rw [show (15 - 15) * 512 + ρ = ρ by omega]

theorem dz_final : (dats m 0 c).arrAt 9 (cfgs 0).N = fun j : S8192x1024.Idx => dzAt (MZ m c) (HU m c) (MD m c) (MW m c) (MG m c) (MB m c) (j 0) (j 1) := by
  refine (dats m 0 c).arrAt_eq_of_covers 9 _ (by decide +kernel) fun t hf y => ?_
  blk_simp
  rw [after0_9]
  idx_vars y
  have e : ((View.whole main_v170_0).slice (win0_9.rect t)).emb (ix2 y0 y1) = ix2 (row t y0) y1 := by
    unfold row; blk_ext [idx t]
  rw [e]
  exact dz_point m c t _ _

theorem st_final : (dats m 0 c).arrAt 10 (cfgs 0).N = fun j : S40x512.Idx => stOn (MZ m c) (HU m c) (MD m c) (MG m c) (MB m c) (j 0) (j 1) := by
  refine (dats m 0 c).arrAt_eq_of_covers 10 _ (by decide +kernel) fun t hf y => ?_
  have h2 : t.val % 16 = 15 := (flush0_10 t).mp hf
  blk_simp
  rw [after0_10]
  idx_vars y
  have e : ((View.whole main_v170_1).slice (win0_10.rect t)).emb (ix2 y0 y1) = ix2 y0 y1 := by
    blk_ext [idx t]
  rw [e]
  exact st_point m c t h2 _ _

end Cert.ConvIdeal.Mine
end
end
-- ==== Proof.ConvTaps.lean ====
/- The convolution's reference: its 31 shifted terms, and the sums their gradients are added into, one term after another. -/
module

public import proofs.«01_k».proof.Proof.ConvPoint
public import proofs.«01_k».proof.Proof.Reals
public import proofs.«01_k».proof.Proof.Gen.ConvRefIdeal.Read
public import proofs.«01_k».proof.Proof.Gen.ConvIdeal.Value
import Idealize.ShloMosaic.Lib.Pipeline.ValueKit
import Idealize.ShloMosaic.Lib.Tactic
public import Idealize.ShloMosaic.Lib.Pointwise

@[expose] public section

set_option maxRecDepth 16384

noncomputable section

namespace Cert.ConvPair

open Cert.ConvRefIdeal Cert.ConvRefIdeal.Gen Idealize.ShloMosaic Idealize.ShloMosaic.TcCoe Idealize.SL.Sem

theorem sl_up (k : ℕ) (h : k < 31) : S8222x512.Slices ![k, 0] S8192x512 := ⟨rfl, fun a => by
  match a with
  | ⟨0, _⟩ => exact (show k + 8192 ≤ 8222 by omega)
  | ⟨1, _⟩ => exact (show 0 + 512 ≤ 512 by omega)⟩
theorem sl_w (k : ℕ) (h : k < 31) : S31x512.Slices ![k, 0] S1x512 := ⟨rfl, fun a => by
  match a with
  | ⟨0, _⟩ => exact (show k + 1 ≤ 31 by omega)
  | ⟨1, _⟩ => exact (show 0 + 512 ≤ 512 by omega)⟩
theorem pd_w (k : ℕ) (h : k < 31) : S1x512.Pads (![k, 0] : Fin 2 → Nat) ![30 - k, 0] ![0, 0] S31x512 := ⟨rfl, fun a => by
  match a with
  | ⟨0, _⟩ => exact (show 31 = k + 1 + 0 * (1 - 1) + (30 - k) by omega)
  | ⟨1, _⟩ => exact (show 512 = 0 + 512 + 0 * (512 - 1) + 0 by omega)⟩
theorem pd_up (k : ℕ) (h : k < 31) : S8192x512.Pads (![k, 0] : Fin 2 → Nat) ![30 - k, 0] ![0, 0] S8222x512 := ⟨rfl, fun a => by
  match a with
  | ⟨0, _⟩ => exact (show 8222 = k + 8192 + 0 * (8192 - 1) + (30 - k) by omega)
  | ⟨1, _⟩ => exact (show 512 = 0 + 512 + 0 * (512 - 1) + 0 by omega)⟩

section Lists
variable {F : FTy → Type} [FloatOps F]

/-- The input shifted by `k` rows. -/
def shiftBy (up : FVec F S8222x512 .f32) (k : ℕ) (h : k < 31) : FVec F S8192x512 .f32 := extractStridedSlice S8192x512 ![k, 0] up (sl_up k h)
/-- Row `k` of the taps, at every row. -/
def tapRow (w : FVec F S31x512 .f32) (k : ℕ) (h : k < 31) : FVec F S8192x512 .f32 :=
  broadcastInDim S8192x512 ![0, 1] bcast_S1x512_S8192x512_0_1 (extractStridedSlice S1x512 ![k, 0] w (sl_w k h))
/-- The sum of the first `k + 1` shifted terms. -/
def taps (up : FVec F S8222x512 .f32) (w : FVec F S31x512 .f32) : (k : ℕ) → k < 31 → FVec F S8192x512 .f32
  | 0, h => mulf (shiftBy up 0 h) (tapRow w 0 h)
  | k + 1, h => addf (taps up w k (by omega)) (mulf (shiftBy up (k + 1) h) (tapRow w (k + 1) h))

/-- Tap `k`'s gradient, alone in its row of the taps. -/
def wPart (up : FVec F S8222x512 .f32) (D : FVec F S8192x512 .f32) (k : ℕ) (h : k < 31) : FVec F S31x512 .f32 :=
  pad S31x512 ![k, 0] ![30 - k, 0] ![0, 0] (shapeCast S1x512 (Host.reduceAdd (mulf (shiftBy up k h) D) (constant S_ .f32 0x00000000#32) reducesTo_S8192x512_S512_d0 h_S_) shapeCasts_S512_S1x512)
    (constant S_ .f32 0x00000000#32) (pd_w k h) h_S_
/-- What tap `k` passes back, in the rows it reads. -/
def uPart (w : FVec F S31x512 .f32) (D : FVec F S8192x512 .f32) (k : ℕ) (h : k < 31) : FVec F S8222x512 .f32 :=
  pad S8222x512 ![k, 0] ![30 - k, 0] ![0, 0] (mulf D (tapRow w k h)) (constant S_ .f32 0x00000000#32) (pd_up k h) h_S_
/-- The taps' gradient: the last `j + 1` of them, the last one first. -/
def wSum (up : FVec F S8222x512 .f32) (D : FVec F S8192x512 .f32) : (j : ℕ) → j < 31 → FVec F S31x512 .f32
  | 0, h => wPart up D 30 (by omega)
  | j + 1, h => addf (wSum up D j (by omega)) (wPart up D (30 - (j + 1)) (by omega))
/-- The gradient at the padded input, from the last `j + 1` taps. -/
def uSum (w : FVec F S31x512 .f32) (D : FVec F S8192x512 .f32) : (j : ℕ) → j < 31 → FVec F S8222x512 .f32
  | 0, h => uPart w D 30 (by omega)
  | j + 1, h => addf (uSum w D j (by omega)) (uPart w D (30 - (j + 1)) (by omega))
end Lists

section Eq
variable {F : FTy → Type} [FloatOps F]
variable (z : FVec F S8192x2048 .f32) (w : FVec F S31x512 .f32) (bi g b : FVec F S512 .f32) (dc : FVec F S8192x1024 .f32)

theorem taps_ref : Read.val_main_v169 (F := F) z w = taps (F := F) (Read.val_main_v14 (F := F) z) w 30 (by omega) := by sl_kernel_rfl
theorem wSum_ref : Read.val_main_v509 (F := F) z w bi g b dc = wSum (F := F) (Read.val_main_v14 (F := F) z) (Read.val_main_v231 (F := F) z w bi g b dc) 30 (by omega) := by
  sl_kernel_rfl
theorem uSum_ref : Read.val_main_v511 (F := F) z w bi g b dc = uSum (F := F) w (Read.val_main_v231 (F := F) z w bi g b dc) 30 (by omega) := by sl_kernel_rfl
end Eq

end Cert.ConvPair

end
-- ==== Proof.ConvHost.lean ====
/- The convolution's reference, entry by entry: the input of the norm. -/
module

public import proofs.«01_k».proof.Proof.ConvTaps
public import proofs.«01_k».proof.Proof.Gen.Pre_finite_conv
import Idealize.ShloMosaic.Lib.Pipeline.ValueKit
import Idealize.ShloMosaic.Lib.Pipeline.ReadBack
import Idealize.ShloMosaic.Lib.Claim
import Idealize.ShloMosaic.Lib.Tactic
public import Idealize.ShloMosaic.Lib.Pointwise

@[expose] public section

set_option maxRecDepth 16384

noncomputable section

namespace Cert.ConvPair

open Cert.ConvRefIdeal Cert.ConvRefIdeal.Gen Idealize.ShloMosaic Idealize.ShloMosaic.TcCoe Idealize.SL.Sem
open Cert.Reals
open Cert.ConvIdeal.Mine (gin HU MZ MW)

section Lists
variable {F : FTy → Type} [FloatOps F]

/-- The gated input, 30 rows of zeros before it. -/
def padded (a s : FVec F S8192x512 .f32) : FVec F S8222x512 .f32 :=
  concatenate S8222x512 0 [⟨S30x512, (broadcastInDim S30x512 ![] bcast_S_S30x512 (constant S_ .f32 0x00000000#32))⟩, ⟨S8192x512, mulf a s⟩] concatenates_S30x512_S8192x512_S8222x512_d0
/-- The logistic function of an array. -/
def sig (a : FVec F S8192x512 .f32) : FVec F S8192x512 .f32 :=
  Host.divf (broadcastInDim S8192x512 ![] bcast_S_S8192x512 (constant S_ .f32 0x3F800000#32))
    (addf (broadcastInDim S8192x512 ![] bcast_S_S8192x512 (constant S_ .f32 0x3F800000#32)) (Host.exp (Host.negf a)))
/-- The convolution of a padded input. -/
def conv (up : FVec F S8222x512 .f32) (w : FVec F S31x512 .f32) (bi : FVec F S512 .f32) : FVec F S8192x512 .f32 :=
  addf (taps up w 30 (by omega)) (broadcastInDim S8192x512 ![0, 1] bcast_S1x512_S8192x512_0_1 (broadcastInDim S1x512 ![1] bcast_S512_S1x512_1 bi))

theorem up_eq (z : FVec F S8192x2048 .f32) : Read.val_main_v14 (F := F) z = padded (F := F) (Read.val_main_v1 (F := F) z) (Read.val_main_v8 (F := F) z) := rfl
end Lists

variable (z : FVec Ideal S8192x2048 .f32) (w : FVec Ideal S31x512 .f32) (bi g b : FVec Ideal S512 .f32) (dc : FVec Ideal S8192x1024 .f32)

/-- The padded input, read at a row. -/
theorem up_ref (σ : Fin 8222) (d : Fin 512) : Read.val_main_v14 (F := Ideal) z (ix2 σ d) = gin z (2 + σ.val) d := by
  rw [up_eq]
  unfold gin padded
  have hs := σ.isLt
  pointwise [Read.val_main_v1, Read.val_main_v0, Read.val_main_v8, Read.val_main_v7, Read.val_main_v6, Read.val_main_v5, Read.val_main_v4, Read.val_main_v3, Read.val_main_v2, Read.val_main_cst, Read.val_main_cst_0]
  by_cases h : σ.val < 30
  · rw [dif_pos h, dif_neg (by omega)]
  · rw [dif_neg h, dif_pos (by omega)]
    have e : 2 + σ.val - 32 = σ.val - 30 := by omega
    simp only [e]
    rfl

theorem conv_ref : Read.val_main_v172 (F := Ideal) z w bi = conv (F := Ideal) (Read.val_main_v14 (F := Ideal) z) w bi := by
  unfold Read.val_main_v172
  rw [taps_ref]
  rfl

section Kernel
variable (m : (ℓ : Loc Cert.ConvIdeal.nD Cert.ConvIdeal.τ Cert.ConvIdeal.sig) → Buf (Elt Ideal) ℓ) (c : Dev Cert.ConvIdeal.nD)

theorem HU_eq : HU m c = conv (F := Ideal) (padded (F := Ideal) (extractStridedSlice S8192x512 ![0, 0] (MZ m c) Cert.ConvIdeal.Gen.slices_S8192x2048_S8192x512_0_0)
      (sig (F := Ideal) (extractStridedSlice S8192x512 ![0, 512] (MZ m c) Cert.ConvIdeal.Gen.slices_S8192x2048_S8192x512_0_512))) (MW m c)
      (m ((c.tc : Thread Cert.ConvIdeal.nD Cert.ConvIdeal.τ).loc Cert.ConvIdeal.main_arg2)) := by
  show Cert.ConvIdeal.Gen.V m c Cert.ConvIdeal.main_v167 = _
  unfold Cert.ConvIdeal.Gen.V
  after_results
  sl_kernel_rfl

/-- The kernel's input of the norm is the reference's. -/
theorem HU_ref : HU m c = Read.val_main_v172 (F := Ideal) (MZ m c) (MW m c) (m ((c.tc : Thread Cert.ConvIdeal.nD Cert.ConvIdeal.τ).loc Cert.ConvIdeal.main_arg2)) := by
  rw [HU_eq, conv_ref]
  congr 1
  funext j
  idx_vars j
  rw [up_eq]
  unfold padded sig
  pointwise [Read.val_main_v1, Read.val_main_v0, Read.val_main_v8, Read.val_main_v7, Read.val_main_v6, Read.val_main_v5, Read.val_main_v4, Read.val_main_v3, Read.val_main_v2, Read.val_main_cst, Read.val_main_cst_0]
end Kernel

/-! ## Finite arguments -/

/-- The six arrays are finite. -/
structure Fin6 : Prop where
  z : ∀ i, IsReal (z i)
  w : ∀ i, IsReal (w i)
  bi : ∀ i, IsReal (bi i)
  g : ∀ i, IsReal (g i)
  b : ∀ i, IsReal (b i)
  dc : ∀ i, IsReal (dc i)

theorem finite_of_pre (h : Cert.Pre_finite_conv.fn (F := Ideal) z w bi g b dc = fun _ => 1#1) : Fin6 z w bi g b dc := by
  have h0 := congrFun h (Shape.Idx.first (by decide))
  dsimp only [Cert.Pre_finite_conv.fn, Cert.Pre_finite_conv.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨fun i => isReal_of_abs_lt (Host.reduce_andi_all _ _ _ _ _ h1 i), fun i => isReal_of_abs_lt (Host.reduce_andi_all _ _ _ _ _ h2 i),
    fun i => isReal_of_abs_lt (Host.reduce_andi_all _ _ _ _ _ h3 i), fun i => isReal_of_abs_lt (Host.reduce_andi_all _ _ _ _ _ h4 i),
    fun i => isReal_of_abs_lt (Host.reduce_andi_all _ _ _ _ _ h5 i), fun i => isReal_of_abs_lt (Host.reduce_andi_all _ _ _ _ _ h6 i)⟩

theorem real_gin (hz : ∀ i, IsReal (z i)) (σ : ℕ) (d : Fin 512) : IsReal (gin z σ d) := by
  unfold gin
  split
  · exact (hz _).mul (hz _).logistic
  · exact ⟨0, rfl⟩

theorem real_taps (up : FVec Ideal S8222x512 .f32) (w : FVec Ideal S31x512 .f32) (hu : ∀ i, IsReal (up i)) (hw : ∀ i, IsReal (w i)) (i : Fin 8192) (d : Fin 512) :
    ∀ (k : ℕ) (h : k < 31), IsReal (taps (F := Ideal) up w k h (ix2 i d)) := by
  intro k
  induction k with
  | zero => intro h; exact (hu _).mul (hw _)
  | succ k ih => intro h; exact (ih (by omega)).add ((hu _).mul (hw _))

theorem real_u (hz : ∀ i, IsReal (z i)) (hw : ∀ i, IsReal (w i)) (hb : ∀ i, IsReal (bi i)) (i : Fin 8192) (d : Fin 512) : IsReal (Read.val_main_v172 (F := Ideal) z w bi (ix2 i d)) := by
  rw [conv_ref]
  refine IsReal.add (real_taps _ w (fun j => ?_) hw i d 30 (by omega)) (hb _)
  idx_vars j
  rw [up_ref]
  exact real_gin z hz _ _

end Cert.ConvPair

end
-- ==== Proof.ConvPair.lean ====
/- The convolution's backward call: the reference's gradients read at an index, and their equality with what the
   kernel's arrays hold. -/
module

public import proofs.«01_k».proof.Proof.ConvHost
import Idealize.ShloMosaic.Lib.Pipeline.ValueKit
import Idealize.ShloMosaic.Lib.Claim
public import Idealize.ShloMosaic.Lib.Pointwise

@[expose] public section

set_option maxRecDepth 16384

noncomputable section

namespace Cert.ConvPair

open Cert.ConvRefIdeal Cert.ConvRefIdeal.Gen Idealize.ShloMosaic Idealize.ShloMosaic.TcCoe Idealize.SL.Sem
open Cert.Reals
open Cert.ConvIdeal.Mine (gin DD QQ NN share stAt stOn dzAt pre du2 d1 back)

variable (z : FVec Ideal S8192x2048 .f32) (w : FVec Ideal S31x512 .f32) (bi g b : FVec Ideal S512 .f32) (dc : FVec Ideal S8192x1024 .f32)

/-- The rows the norm reads. -/
abbrev UU : FVec Ideal S8192x512 .f32 := Read.val_main_v172 (F := Ideal) z w bi
abbrev urow (i : Fin 8192) : Fin 512 → EReal := fun k => UU z w bi (ix2 i k)
abbrev vrow (v : FVec Ideal S512 .f32) : Fin 512 → EReal := fun k => v (ix1 k)
abbrev crow (i : Fin 8192) : Fin 512 → EReal := fun k => dc (ix2 i (⟨k, by omega⟩ : Fin 1024))

theorem cen_ref (i : Fin 8192) (d : Fin 512) : Read.val_main_v178 (F := Ideal) z w bi (ix2 i d) = Norm.cen (urow z w bi i) d := by
  unfold Norm.cen
  pointwise [Read.val_main_v178, Read.val_main_v177, Read.val_main_v176, Read.val_main_v175, Read.val_main_v174, Read.val_main_v173, Read.val_main_cst_4, Read.val_main_cst_5]

theorem vrc_ref (i : Fin 8192) : Read.val_main_v185 (F := Ideal) z w bi (ix2 i 0) = Norm.vrc (urow z w bi i) := by
  unfold Norm.vrc
  simp only [← cen_ref]
  pointwise [Read.val_main_v185, Read.val_main_v184, Read.val_main_v183, Read.val_main_v182, Read.val_main_v181, Read.val_main_v180, Read.val_main_v179,
    Read.val_main_cst_6, Read.val_main_cst_7, Read.val_main_cst_8]

theorem rs_ref (i : Fin 8192) : Read.val_main_v186 (F := Ideal) z w bi (ix2 i 0) = Ideal.rsqrt (Norm.vrc (urow z w bi i)) := by
  rw [← vrc_ref]
  pointwise [Read.val_main_v186]

theorem nrm_ref (i : Fin 8192) (d : Fin 512) : Read.val_main_v191 (F := Ideal) z w bi (ix2 i d) = Norm.nrm (urow z w bi i) d := by
  unfold Norm.nrm
  rw [← cen_ref, ← rs_ref]
  pointwise [Read.val_main_v191, Read.val_main_v190]

theorem pre_ref (i : Fin 8192) (d : Fin 512) : Read.val_main_v197 (F := Ideal) z w bi g b (ix2 i d) = pre (urow z w bi i) (vrow g) (vrow b) d := by
  unfold pre
  rw [← nrm_ref]
  pointwise [Read.val_main_v197, Read.val_main_v196, Read.val_main_v195, Read.val_main_v194, Read.val_main_v193, Read.val_main_v192]

variable {z w bi g b dc} (h : Fin6 z w bi g b dc)
include h
theorem real_urow (i : Fin 8192) (d : Fin 512) : IsReal (urow z w bi i d) := real_u z w bi h.z h.w h.bi i d
theorem real_pre (i : Fin 8192) (d : Fin 512) : IsReal (pre (urow z w bi i) (vrow g) (vrow b) d) :=
  ((Norm.IsReal.nrm (real_urow h i) d).mul (h.g _)).add (h.b _)

theorem du2_ref (i : Fin 8192) (d : Fin 512) : Read.val_main_v200 (F := Ideal) z w bi g b dc (ix2 i d) = du2 (urow z w bi i) (vrow g) (vrow b) (crow dc i) d := by
  unfold du2
  rw [Norm.swish_grad (h.dc _) (real_pre h i d), ← pre_ref]
  unfold Ideal.logistic
  pointwise [Read.val_main_v200, Read.val_main_call1_v2, Read.val_main_call1_v1, Read.val_main_call1_v0, Read.val_main_v199, Read.val_main_v198_1, Read.val_main_v198_2,
    Read.val_main_call0_v7, Read.val_main_call0_v6, Read.val_main_call0_v4, Read.val_main_call0_v3, Read.val_main_call0_v2, Read.val_main_call0_v1, Read.val_main_call0_v0,
    Read.val_main_call0_cst, Read.val_main_call0_cst_0, Read.val_main_call0_cst_1]
  exact add_comm _ _

theorem q_ref (i : Fin 8192) (d : Fin 512) : Read.val_main_v208 (F := Ideal) z w bi g b dc (ix2 i d) = du2 (urow z w bi i) (vrow g) (vrow b) (crow dc i) d * g (ix1 d) := by
  rw [← du2_ref h]
  pointwise [Read.val_main_v208, Read.val_main_v207, Read.val_main_v192]

/-- The gradient at the normalised row. -/
abbrev qrow (z : FVec Ideal S8192x2048 .f32) (w : FVec Ideal S31x512 .f32) (bi g b : FVec Ideal S512 .f32) (dc : FVec Ideal S8192x1024 .f32) (i : Fin 8192) : Fin 512 → EReal :=
  fun k => du2 (urow z w bi i) (vrow g) (vrow b) (crow dc i) k * g (ix1 k)

theorem real_du2 (i : Fin 8192) (d : Fin 512) : IsReal (du2 (urow z w bi i) (vrow g) (vrow b) (crow dc i) d) := by
  have hp := real_pre h i d
  have h1 : IsReal (Ideal.ofBits .f32 0x3F800000#32) := ⟨_, ofBits_one⟩
  exact (h.dc _).mul (hp.logistic.mul (h1.add (hp.mul (h1.sub hp.logistic))))
theorem real_q (i : Fin 8192) (d : Fin 512) : IsReal (qrow z w bi g b dc i d) := (real_du2 h i d).mul (h.g _)

theorem spread_ref (i : Fin 8192) : Read.val_main_v218 (F := Ideal) z w bi g b dc (ix1 i) = Norm.spread (urow z w bi i) (qrow z w bi g b dc i) := by
  unfold Norm.spread
  simp only [← vrc_ref, ← cen_ref, ← q_ref h]
  have e0 : (default : Fin 1) = 0 := rfl
  pointwise [Read.val_main_v218, Read.val_main_v217, Read.val_main_v216, Read.val_main_v215, Read.val_main_v212, Read.val_main_v211, Read.val_main_v210, Read.val_main_v189, Read.val_main_v188,
    Read.val_main_v187, Read.val_main_v186, Read.val_main_cst_9, Read.val_main_cst_14, Read.val_main_cst_15, Read.val_main_cst_16]
  simp only [Finset.univ_unique, Finset.sum_singleton, e0]

theorem back_ref (i : Fin 8192) (d : Fin 512) : Read.val_main_v223 (F := Ideal) z w bi g b dc (ix2 i d) = Norm.back (urow z w bi i) (qrow z w bi g b dc i) d := by
  unfold Norm.back
  rw [← cen_ref, ← spread_ref h, ← rs_ref]
  have e : qrow z w bi g b dc i d = Read.val_main_v208 (F := Ideal) z w bi g b dc (ix2 i d) := (q_ref h i d).symm
  rw [e]
  pointwise [Read.val_main_v223, Read.val_main_v222, Read.val_main_v221, Read.val_main_v220, Read.val_main_v219, Read.val_main_v214, Read.val_main_v213]

theorem d1_ref (i : Fin 8192) (d : Fin 512) : Read.val_main_v231 (F := Ideal) z w bi g b dc (ix2 i d) = d1 (urow z w bi i) (vrow g) (vrow b) (crow dc i) d := by
  have key := Norm.grad_eq (urow z w bi i) (qrow z w bi g b dc i) (real_urow h i) (real_q h i) d
  refine Eq.trans ?_ key.symm
  simp only [← back_ref h]
  have e0 : (default : Fin 1) = 0 := rfl
  pointwise [Read.val_main_v231, Read.val_main_v230, Read.val_main_v229, Read.val_main_v228, Read.val_main_v227, Read.val_main_v226, Read.val_main_v225, Read.val_main_v224,
    Read.val_main_cst_17, Read.val_main_cst_18, Read.val_main_cst_19]
  simp only [Finset.univ_unique, Finset.sum_singleton, e0]
omit h

/-! ## The sums over the taps -/

section Sums
variable (up : FVec Ideal S8222x512 .f32) (D : FVec Ideal S8192x512 .f32)

theorem wPart_apply (k : ℕ) (h : k < 31) (r : Fin 31) (d : Fin 512) :
    wPart (F := Ideal) up D k h (ix2 r d) = if r.val = k then ∑ i : Fin 8192, up (ix2 (⟨r.val + i.val, by omega⟩ : Fin 8222) d) * D (ix2 i d) else 0 := by
  unfold wPart shiftBy
  by_cases e : r.val = k
  · subst e
    rw [if_pos rfl]
    pointwise []
    rw [dif_pos (by omega)]
  · rw [if_neg e]
    pointwise []
    rw [dif_neg (by omega)]

theorem wSum_apply (r : Fin 31) (d : Fin 512) : ∀ (j : ℕ) (h : j < 31),
    wSum (F := Ideal) up D j h (ix2 r d) = if 30 - j ≤ r.val then ∑ i : Fin 8192, up (ix2 (⟨r.val + i.val, by omega⟩ : Fin 8222) d) * D (ix2 i d) else 0 := by
  intro j
  induction j with
  | zero =>
    intro h
    refine (wPart_apply up D 30 (by omega) r d).trans ?_
    by_cases e : r.val = 30
    · rw [if_pos e, if_pos (by omega)]
    · rw [if_neg e, if_neg (by omega)]
  | succ j ih =>
    intro h
    have e : wSum (F := Ideal) up D (j + 1) h (ix2 r d) = wSum (F := Ideal) up D j (by omega) (ix2 r d) + wPart (F := Ideal) up D (30 - (j + 1)) (by omega) (ix2 r d) := rfl
    rw [e, ih (by omega), wPart_apply]
    by_cases h1 : 30 - j ≤ r.val
    · rw [if_pos h1, if_neg (by omega), if_pos (by omega), add_zero]
    · by_cases h2 : r.val = 30 - (j + 1)
      · rw [if_neg h1, if_pos h2, if_pos (by omega), zero_add]
      · rw [if_neg h1, if_neg h2, if_neg (by omega), add_zero]

/-- An array read at any row, zero after its last one. -/
def ext (ρ : ℕ) (d : Fin 512) : EReal := if h : ρ < 8192 then D (ix2 (⟨ρ, h⟩ : Fin 8192) d) else 0

theorem uPart_apply (k : ℕ) (h : k < 31) (i : Fin 8192) (d : Fin 512) :
    uPart (F := Ideal) w D k h (ix2 (⟨30 + i.val, by omega⟩ : Fin 8222) d) = ext D (30 - k + i.val) d * w (ix2 (⟨k, h⟩ : Fin 31) d) := by
  unfold uPart tapRow ext
  by_cases e : 30 - k + i.val < 8192
  · rw [dif_pos e]
    pointwise []
    rw [dif_pos (by omega)]
    have e2 : 30 + i.val - k = 30 - k + i.val := by omega
    simp only [e2]
  · rw [dif_neg e, zero_mul]
    pointwise []
    rw [dif_neg (by omega)]

theorem uSum_apply (i : Fin 8192) (d : Fin 512) : ∀ (j : ℕ) (h : j < 31),
    uSum (F := Ideal) w D j h (ix2 (⟨30 + i.val, by omega⟩ : Fin 8222) d) = ∑ n ∈ Finset.range (j + 1), ext D (n + i.val) d * (if h : 30 - n < 31 then w (ix2 (⟨30 - n, h⟩ : Fin 31) d) else 0) := by
  intro j
  induction j with
  | zero =>
    intro h
    rw [Finset.sum_range_one, dif_pos (by omega)]
    exact uPart_apply D 30 (by omega) i d
  | succ j ih =>
    intro h
    have e : uSum (F := Ideal) w D (j + 1) h (ix2 (⟨30 + i.val, by omega⟩ : Fin 8222) d)
      = uSum (F := Ideal) w D j (by omega) (ix2 (⟨30 + i.val, by omega⟩ : Fin 8222) d) + uPart (F := Ideal) w D (30 - (j + 1)) (by omega) (ix2 (⟨30 + i.val, by omega⟩ : Fin 8222) d) := rfl
    rw [e, ih (by omega), uPart_apply, Finset.sum_range_succ _ (j + 1), dif_pos (by omega)]
    have e2 : 30 - (30 - (j + 1)) = j + 1 := by omega
    rw [e2]

theorem uSum_back (i : Fin 8192) (d : Fin 512) : uSum (F := Ideal) w D 30 (by omega) (ix2 (⟨30 + i.val, by omega⟩ : Fin 8222) d) = back (ext D) w i.val d := by
  rw [uSum_apply]
  unfold back
  rw [← Finset.sum_range_reflect]
  refine Finset.sum_congr rfl fun k hk => ?_
  have hk := Finset.mem_range.1 hk
  have e : 30 - (30 + 1 - 1 - k) = k := by omega
  have e2 : 30 + 1 - 1 - k = 30 - k := by omega
  simp only [e, e2]
end Sums

/-! ## The two results -/

theorem stAt_zero (z : FVec Ideal S8192x2048 .f32) (u : FVec Ideal S8192x512 .f32) (dc : FVec Ideal S8192x1024 .f32) (g b : FVec Ideal S512 .f32) (k : ℕ) (d : Fin 512)
    (hk : k = 31 ∨ 35 ≤ k) : stAt z u dc g b k d = 0 := by
  unfold stAt
  refine Finset.sum_eq_zero fun ρ _ => ?_
  unfold share
  rw [if_neg (by omega), if_neg (by omega), if_neg (by omega), if_neg (by omega)]

include h
theorem ext_ref : ext (Read.val_main_v231 (F := Ideal) z w bi g b dc) = DD (UU z w bi) dc g b := by
  funext ρ d
  unfold ext DD
  by_cases e : ρ < 8192
  · rw [dif_pos e, dif_pos e, d1_ref h]
  · rw [dif_neg e, dif_neg e]

theorem pass_ref (i : Fin 8192) (d : Fin 512) : Read.val_main_v513 (F := Ideal) z w bi g b dc (ix2 i d) = back (DD (UU z w bi) dc g b) w i.val d := by
  rw [← ext_ref h, ← uSum_back, ← uSum_ref]
  pointwise [Read.val_main_v513]

theorem dz_ref : Read.val_main_v526 (F := Ideal) z w bi g b dc = fun j : S8192x1024.Idx => dzAt z (UU z w bi) dc w g b (j 0) (j 1) := by
  funext j
  idx_vars j
  show _ = dzAt z (UU z w bi) dc w g b j0 j1
  unfold dzAt
  by_cases e : j1.val < 512
  · rw [dif_pos e, ← pass_ref h]
    unfold Ideal.logistic
    pointwise [Read.val_main_v526, Read.val_main_v519, Read.val_main_v518, Read.val_main_v517, Read.val_main_v516, Read.val_main_v515, Read.val_main_v514, Read.val_main_v11, Read.val_main_v10,
      Read.val_main_v9, Read.val_main_v8, Read.val_main_v7, Read.val_main_v6, Read.val_main_v5, Read.val_main_v4, Read.val_main_v3, Read.val_main_v2, Read.val_main_v1, Read.val_main_v0,
      Read.val_main_cst, Read.val_main_cst_0, Read.val_main_cst_1, Read.val_main_cst_115, Read.val_main_cst_116]
    rw [dif_neg (by omega), dif_pos e, zero_add]
  · rw [dif_neg e, ← pass_ref h]
    unfold Ideal.logistic
    pointwise [Read.val_main_v526, Read.val_main_v519, Read.val_main_v518, Read.val_main_v517, Read.val_main_v516, Read.val_main_v515, Read.val_main_v514, Read.val_main_v11, Read.val_main_v10,
      Read.val_main_v9, Read.val_main_v8, Read.val_main_v7, Read.val_main_v6, Read.val_main_v5, Read.val_main_v4, Read.val_main_v3, Read.val_main_v2, Read.val_main_v1, Read.val_main_v0,
      Read.val_main_cst, Read.val_main_cst_0, Read.val_main_cst_1, Read.val_main_cst_115, Read.val_main_cst_116]
    have e2 : 512 + (j1.val - 512) = j1.val := by omega
    rw [dif_pos (by omega), dif_neg (by omega), add_zero]
    simp only [e2]
    rw [← mul_assoc, mul_comm (z _)]

theorem dw_ref (k : Fin 31) (d : Fin 512) : Read.val_main_v509 (F := Ideal) z w bi g b dc (ix2 k d) = stAt z (UU z w bi) dc g b k.val d := by
  rw [wSum_ref, wSum_apply, if_pos (by omega)]
  unfold stAt
  rw [Finset.sum_range]
  refine Finset.sum_congr rfl fun i _ => ?_
  unfold share
  rw [if_pos k.isLt, ← ext_ref h, up_ref, mul_comm]
  unfold ext
  rw [dif_pos i.isLt, ← add_assoc]

theorem db_ref (d : Fin 512) : Read.val_main_v234 (F := Ideal) z w bi g b dc (ix1 d) = stAt z (UU z w bi) dc g b 32 d := by
  unfold stAt
  rw [Finset.sum_range]
  have e0 : (default : Fin 1) = 0 := rfl
  have e : ∀ i : Fin 8192, share z (UU z w bi) dc g b 32 i.val d = Read.val_main_v231 (F := Ideal) z w bi g b dc (ix2 i d) := fun i => by
    unfold share
    rw [if_neg (by decide), if_pos rfl, ← ext_ref h]
    exact dif_pos i.isLt
  simp only [e]
  pointwise [Read.val_main_v234, Read.val_main_v233, Read.val_main_v232, Read.val_main_cst_20, Read.val_main_cst_21]
  simp only [Finset.univ_unique, Finset.sum_singleton]

theorem dg_ref (d : Fin 512) : Read.val_main_v209 (F := Ideal) z w bi g b dc (ix1 d) = stAt z (UU z w bi) dc g b 33 d := by
  unfold stAt
  rw [Finset.sum_range]
  have e : ∀ i : Fin 8192, share z (UU z w bi) dc g b 33 i.val d = Read.val_main_v191 (F := Ideal) z w bi (ix2 i d) * Read.val_main_v200 (F := Ideal) z w bi g b dc (ix2 i d) := fun i => by
    unfold share QQ NN
    rw [if_neg (by decide), if_neg (by decide), if_pos rfl, dif_pos i.isLt, dif_pos i.isLt, mul_comm, du2_ref h, nrm_ref]
  simp only [e]
  pointwise [Read.val_main_v209, Read.val_main_v206, Read.val_main_v205, Read.val_main_v204, Read.val_main_cst_12, Read.val_main_cst_13]
  simp only [Finset.univ_unique, Finset.sum_singleton]

theorem dn_ref (d : Fin 512) : Read.val_main_v203 (F := Ideal) z w bi g b dc (ix1 d) = stAt z (UU z w bi) dc g b 34 d := by
  unfold stAt
  rw [Finset.sum_range]
  have e : ∀ i : Fin 8192, share z (UU z w bi) dc g b 34 i.val d = Read.val_main_v200 (F := Ideal) z w bi g b dc (ix2 i d) := fun i => by
    unfold share QQ
    rw [if_neg (by decide), if_neg (by decide), if_neg (by decide), if_pos rfl, dif_pos i.isLt, du2_ref h]
  simp only [e]
  pointwise [Read.val_main_v203, Read.val_main_v202, Read.val_main_v201, Read.val_main_cst_10, Read.val_main_cst_11]
  simp only [Finset.univ_unique, Finset.sum_singleton]

theorem st_ref : Read.val_main_v525 (F := Ideal) z w bi g b dc = fun j : S40x512.Idx => stOn z (UU z w bi) dc g b (j 0) (j 1) := by
  funext j
  idx_vars j
  show _ = stAt z (UU z w bi) dc g b j0.val j1
  pointwise [Read.val_main_v525, Read.val_main_v524, Read.val_main_v523, Read.val_main_v522, Read.val_main_v521, Read.val_main_v520, Read.val_main_cst_117, Read.val_main_cst_118]
  simp only [dw_ref h, db_ref h, dg_ref h, dn_ref h]
  have h0 := j0.isLt
  by_cases h1 : j0.val < 31
  · rw [dif_pos h1]
  rw [dif_neg h1]
  by_cases h2 : j0.val - 31 < 1
  · rw [dif_pos h2]
    exact (stAt_zero _ _ _ _ _ _ j1 (by omega)).symm
  rw [dif_neg h2]
  by_cases h3 : j0.val - 31 - 1 < 1
  · rw [dif_pos h3, show j0.val = 32 by omega]
  rw [dif_neg h3]
  by_cases h4 : j0.val - 31 - 1 - 1 < 1
  · rw [dif_pos h4, show j0.val = 33 by omega]
  rw [dif_neg h4]
  by_cases h5 : j0.val - 31 - 1 - 1 - 1 < 1
  · rw [dif_pos h5, show j0.val = 34 by omega]
  rw [dif_neg h5]
  exact (stAt_zero _ _ _ _ _ _ j1 (by omega)).symm
omit h

end Cert.ConvPair

end
-- ==== Proof.ConvClaim.lean ====
/- The claims about the convolution's backward call. -/
module

public import proofs.«01_k».proof.Defs
public import proofs.«01_k».proof.Proof.Gen.Conv.Frame
public import proofs.«01_k».proof.Proof.Gen.Pre_finite_conv
public import proofs.«01_k».proof.Proof.ConvPair
import Idealize.ShloMosaic.Lib.Claim

@[expose] public section

set_option maxRecDepth 16384
set_option maxHeartbeats 1000000

noncomputable section

namespace Cert.ConvClaim

open Idealize.ShloMosaic Idealize.SL.Sem

/-- The reference runs, its arguments end unchanged, and it has no semaphore. -/
theorem frame_ref : Cert.quiescent_ConvRefIdeal := by
  intro m g _
  exact (θ_run Cert.ConvRefIdeal.defs _ _).mono (fun r h => ⟨fun c => (h c).2.2, sem_eq_zero_of_no_sems (by decide) r.2⟩)
    (Cert.ConvRefIdeal.Value.run m g)

/-- The same under the precondition. -/
theorem frame_ref_pre : Cert.quiescent_ConvRefIdeal_pre_finite_conv := fun m g _ => frame_ref m g trivial

/-- The call's gradients are the reference's. -/
theorem algebraic : Cert.algebraic_ConvIdeal_ConvRefIdeal_pre_finite_conv := by
  pair_intro
  · run_from Cert.ConvIdeal.Value.run_blocks m g
  · have hfin := fun c => Cert.ConvPair.finite_of_pre _ _ _ _ _ _ (hpre c)
    run_from Cert.ConvRefIdeal.Value.run m' g'
    · obtain ⟨h0, h1, h2, h3, h4, h5⟩ := hagree c
      rewrite [Cert.ConvRefIdeal.Read.val_main_v526_eq]
      show Cert.ConvRefIdeal.Read.val_main_v526 (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1))
        (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3))
        (m' ((c.tc : Thread Cert.ConvRefIdeal.nD Cert.ConvRefIdeal.τ).loc Cert.ConvRefIdeal.main_arg4)) (m' ((c.tc : Thread Cert.ConvRefIdeal.nD Cert.ConvRefIdeal.τ).loc Cert.ConvRefIdeal.main_arg5)) = _
      rewrite [h0, h1, h2, h3, h4, h5, Cert.ConvPair.dz_ref (hfin c)]
      refine Eq.trans ?_ (Cert.ConvIdeal.Mine.dz_final m c).symm
      rewrite [Cert.ConvPair.HU_ref m c]
      rfl
    · obtain ⟨h0, h1, h2, h3, h4, h5⟩ := hagree c
      rewrite [Cert.ConvRefIdeal.Read.val_main_v525_eq]
      show Cert.ConvRefIdeal.Read.val_main_v525 (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1))
        (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3))
        (m' ((c.tc : Thread Cert.ConvRefIdeal.nD Cert.ConvRefIdeal.τ).loc Cert.ConvRefIdeal.main_arg4)) (m' ((c.tc : Thread Cert.ConvRefIdeal.nD Cert.ConvRefIdeal.τ).loc Cert.ConvRefIdeal.main_arg5)) = _
      rewrite [h0, h1, h2, h3, h4, h5, Cert.ConvPair.st_ref (hfin c)]
      refine Eq.trans ?_ (Cert.ConvIdeal.Mine.st_final m c).symm
      rewrite [Cert.ConvPair.HU_ref m c]
      rfl

end Cert.ConvClaim
-- ==== Proof.FfnBwdRuns.lean ====
module

public import proofs.«01_k».proof.Proof.Gen.FfnBwdIdeal.Frame
public import proofs.«01_k».proof.Proof.Gen.FfnBwdIdeal.Skeleton

@[expose] public section

set_option maxRecDepth 16384

noncomputable section

/-!
# The points of the feed forward gradient's grid

Which branches of the body a point takes, and the buffers it works on.
-/

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points whose coordinates have i1 ≤ 2 — decided over the grid. -/
theorem hcond0_2 : ∀ t : Fin cfg0.N, cond0_2 (grid0.coords t) ↔ t.val % 4 ≤ 2 :=
  (by decide +kernel : ∀ t : Fin grid0.N, cond0_2 (grid0.coords t) ↔ t.val % 4 ≤ 2)

/-- The condition of the body's `scf.if` 3 (`k0_h4`), from the grid coordinates (the skeleton's scalar
    chain substituted). -/
abbrev cond0_3 (i : grid0.Coords) : Prop := k0_cond4 i = 1#1
/-- It holds at the points ≡ 3 (mod 4) — by arithmetic of the point. -/
theorem hcond0_3 : ∀ t : Fin cfg0.N, cond0_3 (grid0.coords t) ↔ t.val % 4 = 3 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ t.val % 4 = 3)

/-- The condition of the body's `scf.if` 4 (`k0_h5`), from the grid coordinates (the skeleton's scalar
    chain substituted). -/
abbrev cond0_4 (i : grid0.Coords) : Prop := k0_cond5 i = 1#1
/-- It holds at the points ≡ 3 (mod 4) — by arithmetic of the point. -/
theorem hcond0_4 : ∀ t : Fin cfg0.N, cond0_4 (grid0.coords t) ↔ t.val % 4 = 3 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_4, k0_cond5, e0, e1]
    word_cmp
   : ∀ t : Fin grid0.N, cond0_4 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x704 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x4x704x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x704 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x704 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x704 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S512x1024 .f32 := Memref.whole cc0_scratch0
abbrev scM0_1 : Memref sig .tc .vmem S2x512x704 .f32 := Memref.whole cc0_scratch1
/-- The scratch `arg15` the kernel carries between points, as a view: what it holds is stated through it. -/
abbrev VS0_0 : View sig .tc .vmem S512x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.FfnBwdIdeal.Gen

end
-- ==== Proof.FfnBwdProg.lean ====
module

public import proofs.«01_k».proof.Proof.FfnBwdRuns

@[expose] public section

set_option maxRecDepth 16384

noncomputable section

/-!
# The body of the feed forward gradient in two steps

The first step starts a tile, the second works on one block of columns.
-/

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

/-- The body after its first step. -/
def second : { R : (Σ' (_ : BitVec 32) (_ : BitVec 32), BitVec 32) → Prog (TpuEff nD τ sig (Elt F) Λ₀ .tc) PUnit //
    cc0_ffn2_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 >>= R) } := by
  refine ⟨?_, ?h⟩
  case h =>
    simp only [cc0_ffn2_bwd_eq_skeleton]; unfold cc0_ffn2_bwd_skel
    exact rfl

/-- One of the two slots of the scratch buffer, at an offset. -/
abbrev slotM (o : Fin 3 → ℕ) (ho : ∀ a, o a + S1x512x704.size a ≤ S2x512x704.size a) : Memref sig .tc .vmem S512x704 .f32 :=
  (arg16.slice (Rect.unit (s := S2x512x704) o S1x512x704.size ho) (fun _ => rfl)).squeeze S512x704 squeezes_S1x512x704_S512x704

/-- A memref's elements held outright, the buffer's contents given. -/
abbrev held {s : Shape} {e : EltTy} (m : Memref sig .tc .vmem s e) (f : m.view.ty.Contents (Elt F)) : sProp 𝕄 :=
  m.view.loc (c : Thread nD τ) ↦[m.view.set]{fullShare} f

end Cert.FfnBwdIdeal.Gen

end
-- ==== Proof.FfnBwdBlock.lean ====
module

public import proofs.«01_k».proof.Proof.FfnBwdProg

@[expose] public section

set_option maxRecDepth 16384

noncomputable section

/-!
# One block of columns that is not the last of its tile
-/

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

set_option maxHeartbeats 4000000 in
/-- What the second step stores at a block that is not the last of its tile, and that it runs. -/
def blockRun (hc2 : cond0_2 i) (hc3 : ¬cond0_3 i) (hc4 : ¬cond0_4 i)
    (g5 : arg5.view.ty.Contents (Elt F)) (g6 : arg6.view.ty.Contents (Elt F)) (g7 : arg7.view.ty.Contents (Elt F)) (g13 : arg13.view.ty.Contents (Elt F)) (g15 : arg15.view.ty.Contents (Elt F)) (gC : (slotM arg16 (k0_off2 i) (k0_off2_inb i hc2)).view.ty.Contents (Elt F)) :
    Σ' (L9 : List (View.Piece (Elt F) S1x512x704 .bf16)), Σ' (L10 : List (View.Piece (Elt F) S1x512x704 .bf16)), Σ' (L11 : List (View.Piece (Elt F) S1x512x704 .bf16)), Σ' (L15 : List (View.Piece (Elt F) S512x1024 .f32)),
    { LN : List (View.Piece (Elt F) S512x704 .f32) //
      ∀ (g9 : arg9.view.ty.Contents (Elt F)) (g10 : arg10.view.ty.Contents (Elt F)) (g11 : arg11.view.ty.Contents (Elt F)) (gN : (slotM arg16 (k0_off4 i) (k0_off4_inb i hc2)).view.ty.Contents (Elt F)) (r0 r1 r2 : BitVec 32) (E : Set ℕ) (K : PUnit → sProp 𝕄),
        iprop(held c arg5 g5
          ∗ held c arg6 g6
          ∗ held c arg7 g7
          ∗ held c arg13 g13
          ∗ held c arg15 g15
          ∗ held c (slotM arg16 (k0_off2 i) (k0_off2_inb i hc2)) gC
          ∗ held c arg9 g9
          ∗ held c arg10 g10
          ∗ held c arg11 g11
          ∗ held c (slotM arg16 (k0_off4 i) (k0_off4_inb i hc2)) gN
          ∗ (iprop(held c arg5 g5
          ∗ held c arg6 g6
          ∗ held c arg7 g7
          ∗ held c arg13 g13
          ∗ held c arg15 (arg15.view.writes (Elt F) g15 L15)
          ∗ held c (slotM arg16 (k0_off2 i) (k0_off2_inb i hc2)) gC
          ∗ held c arg9 (arg9.view.writes (Elt F) g9 L9)
          ∗ held c arg10 (arg10.view.writes (Elt F) g10 L10)
          ∗ held c arg11 (arg11.view.writes (Elt F) g11 L11)
          ∗ held c (slotM arg16 (k0_off4 i) (k0_off4_inb i hc2)) ((slotM arg16 (k0_off4 i) (k0_off4_inb i hc2)).view.writes (Elt F) gN LN)) -∗ K ⟨⟩))
        ⊢ wp frame (wpE (defs₀ (F := F)) Variants.none c none) E ((second (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16).1 ⟨r0, r1, r2⟩) K } := by
  refine ⟨?_, ?_, ?_, ?_, ?_, fun g9 g10 g11 gN r0 r1 r2 E K => ?run⟩
  case run =>
    simp only [second, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold held
    iintro ⟨H5, H6, H7, H13, H15, HC, H9, H10, H11, HN, Hk⟩
    sl_exec (disch := first | sl_exact hc0 | sl_exact hc1 | sl_exact hc2 | sl_exact hc3 | sl_exact hc4)
    sl_step
    iapply Hk
    isplitl [H5]
    · iexact H5
    isplitl [H6]
    · iexact H6
    isplitl [H7]
    · iexact H7
    isplitl [H13]
    · iexact H13
    isplitl [H15]
    · iexact H15
    isplitl [HC]
    · iexact HC
    isplitl [H9]
    · iexact H9
    isplitl [H10]
    · iexact H10
    isplitl [H11]
    · iexact H11
    iexact HN

end Cert.FfnBwdIdeal.Gen

end
-- ==== Proof.FfnBwdLast.lean ====
module

public import proofs.«01_k».proof.Proof.FfnBwdProg

@[expose] public section

set_option maxRecDepth 16384

noncomputable section

/-!
# The last block of columns of a tile
-/

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

set_option maxHeartbeats 4000000 in
/-- What the second step stores at the last block of a tile, and that it runs. -/
def lastRun (hc2 : ¬cond0_2 i) (hc3 : cond0_3 i) (hc4 : cond0_4 i)
    (g2 : arg2.view.ty.Contents (Elt F)) (g3 : arg3.view.ty.Contents (Elt F)) (g4 : arg4.view.ty.Contents (Elt F)) (g5 : arg5.view.ty.Contents (Elt F)) (g6 : arg6.view.ty.Contents (Elt F)) (g7 : arg7.view.ty.Contents (Elt F)) (g15 : arg15.view.ty.Contents (Elt F)) (gC : (slotM arg16 (k0_off7 i) (k0_off7_inb i hc3)).view.ty.Contents (Elt F)) (g14 : arg14.view.ty.Contents (Elt F)) :
    Σ' (L8 : List (View.Piece (Elt F) S512x1024 .f32)), Σ' (L9 : List (View.Piece (Elt F) S1x512x704 .bf16)), Σ' (L10 : List (View.Piece (Elt F) S1x512x704 .bf16)), Σ' (L11 : List (View.Piece (Elt F) S1x512x704 .bf16)), Σ' (L15 : List (View.Piece (Elt F) S512x1024 .f32)),
    { L14 : List (View.Piece (Elt F) S1x1024 .f32) //
      ∀ (g8 : arg8.view.ty.Contents (Elt F)) (g9 : arg9.view.ty.Contents (Elt F)) (g10 : arg10.view.ty.Contents (Elt F)) (g11 : arg11.view.ty.Contents (Elt F)) (r0 r1 r2 : BitVec 32) (E : Set ℕ) (K : PUnit → sProp 𝕄),
        iprop(held c arg2 g2
          ∗ held c arg3 g3
          ∗ held c arg4 g4
          ∗ held c arg5 g5
          ∗ held c arg6 g6
          ∗ held c arg7 g7
          ∗ held c arg15 g15
          ∗ held c (slotM arg16 (k0_off7 i) (k0_off7_inb i hc3)) gC
          ∗ held c arg14 g14
          ∗ held c arg8 g8
          ∗ held c arg9 g9
          ∗ held c arg10 g10
          ∗ held c arg11 g11
          ∗ (iprop(held c arg2 g2
          ∗ held c arg3 g3
          ∗ held c arg4 g4
          ∗ held c arg5 g5
          ∗ held c arg6 g6
          ∗ held c arg7 g7
          ∗ held c arg15 (arg15.view.writes (Elt F) g15 L15)
          ∗ held c (slotM arg16 (k0_off7 i) (k0_off7_inb i hc3)) gC
          ∗ held c arg14 (arg14.view.writes (Elt F) g14 L14)
          ∗ held c arg8 (arg8.view.writes (Elt F) g8 L8)
          ∗ held c arg9 (arg9.view.writes (Elt F) g9 L9)
          ∗ held c arg10 (arg10.view.writes (Elt F) g10 L10)
          ∗ held c arg11 (arg11.view.writes (Elt F) g11 L11)) -∗ K ⟨⟩))
        ⊢ wp frame (wpE (defs₀ (F := F)) Variants.none c none) E ((second (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16).1 ⟨r0, r1, r2⟩) K } := by
  refine ⟨?_, ?_, ?_, ?_, ?_, ?_, fun g8 g9 g10 g11 r0 r1 r2 E K => ?run⟩
  case run =>
    simp only [second, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold held
    iintro ⟨H2, H3, H4, H5, H6, H7, H15, HC, H14, H8, H9, H10, H11, Hk⟩
    sl_exec (disch := first | sl_exact hc0 | sl_exact hc1 | sl_exact hc2 | sl_exact hc3 | sl_exact hc4)
    sl_step
    iapply Hk
    isplitl [H2]
    · iexact H2
    isplitl [H3]
    · iexact H3
    isplitl [H4]
    · iexact H4
    isplitl [H5]
    · iexact H5
    isplitl [H6]
    · iexact H6
    isplitl [H7]
    · iexact H7
    isplitl [H15]
    · iexact H15
    isplitl [HC]
    · iexact HC
    isplitl [H14]
    · iexact H14
    isplitl [H8]
    · iexact H8
    isplitl [H9]
    · iexact H9
    isplitl [H10]
    · iexact H10
    iexact H11

end Cert.FfnBwdIdeal.Gen

end
-- ==== Proof.FfnBwdStart.lean ====
module

public import proofs.«01_k».proof.Proof.FfnBwdProg

@[expose] public section

set_option maxRecDepth 16384

noncomputable section

/-!
# The start of a tile after the first
-/

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

set_option maxHeartbeats 4000000 in
/-- What the first step stores at the start of a tile after the first, and that it runs. -/
def startRun (hc0 : ¬cond0_0 i) (hc1 : cond0_1 i)
    (g2 : arg2.view.ty.Contents (Elt F)) (g3 : arg3.view.ty.Contents (Elt F)) (g4 : arg4.view.ty.Contents (Elt F)) (g7 : arg7.view.ty.Contents (Elt F)) :
    Σ' (r : Σ' (_ : BitVec 32) (_ : BitVec 32), BitVec 32), Σ' (L12 : List (View.Piece (Elt F) S512x1024 .bf16)), Σ' (L13 : List (View.Piece (Elt F) S512x1024 .bf16)), Σ' (L15 : List (View.Piece (Elt F) S512x1024 .f32)),
    { L16 : List (View.Piece (Elt F) S2x512x704 .f32) //
      ∀ (g12 : arg12.view.ty.Contents (Elt F)) (g13 : arg13.view.ty.Contents (Elt F)) (g15 : arg15.view.ty.Contents (Elt F)) (g16 : arg16.view.ty.Contents (Elt F))  (E : Set ℕ) (K : (Σ' (_ : BitVec 32) (_ : BitVec 32), BitVec 32) → sProp 𝕄),
        iprop(held c arg2 g2
          ∗ held c arg3 g3
          ∗ held c arg4 g4
          ∗ held c arg7 g7
          ∗ held c arg12 g12
          ∗ held c arg13 g13
          ∗ held c arg15 g15
          ∗ held c arg16 g16
          ∗ (iprop(held c arg2 g2
          ∗ held c arg3 g3
          ∗ held c arg4 g4
          ∗ held c arg7 g7
          ∗ held c arg12 (arg12.view.writes (Elt F) g12 L12)
          ∗ held c arg13 (arg13.view.writes (Elt F) g13 L13)
          ∗ held c arg15 (arg15.view.writes (Elt F) g15 L15)
          ∗ held c arg16 (arg16.view.writes (Elt F) g16 L16)) -∗ K r))
        ⊢ wp frame (wpE (defs₀ (F := F)) Variants.none c none) E (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun g12 g13 g15 g16  E K => ?run⟩
  case run =>
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold held
    iintro ⟨H2, H3, H4, H7, H12, H13, H15, H16, Hk⟩
    sl_exec (disch := first | sl_exact hc0 | sl_exact hc1 | sl_exact hc2 | sl_exact hc3 | sl_exact hc4)
    sl_step
    iapply Hk
    isplitl [H2]
    · iexact H2
    isplitl [H3]
    · iexact H3
    isplitl [H4]
    · iexact H4
    isplitl [H7]
    · iexact H7
    isplitl [H12]
    · iexact H12
    isplitl [H13]
    · iexact H13
    isplitl [H15]
    · iexact H15
    iexact H16

end Cert.FfnBwdIdeal.Gen

end
-- ==== Proof.FfnBwdFirst.lean ====
module

public import proofs.«01_k».proof.Proof.FfnBwdProg

@[expose] public section

set_option maxRecDepth 16384

noncomputable section

/-!
# The start of the first tile
-/

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

set_option maxHeartbeats 4000000 in
/-- What the first step stores at the start of the first tile, and that it runs. -/
def firstRun (hc0 : cond0_0 i) (hc1 : cond0_1 i)
    (g2 : arg2.view.ty.Contents (Elt F)) (g3 : arg3.view.ty.Contents (Elt F)) (g4 : arg4.view.ty.Contents (Elt F)) (g7 : arg7.view.ty.Contents (Elt F)) :
    Σ' (r : Σ' (_ : BitVec 32) (_ : BitVec 32), BitVec 32), Σ' (L12 : List (View.Piece (Elt F) S512x1024 .bf16)), Σ' (L13 : List (View.Piece (Elt F) S512x1024 .bf16)), Σ' (L15 : List (View.Piece (Elt F) S512x1024 .f32)), Σ' (L16 : List (View.Piece (Elt F) S2x512x704 .f32)),
    { L14 : List (View.Piece (Elt F) S1x1024 .f32) //
      ∀ (g12 : arg12.view.ty.Contents (Elt F)) (g13 : arg13.view.ty.Contents (Elt F)) (g15 : arg15.view.ty.Contents (Elt F)) (g16 : arg16.view.ty.Contents (Elt F)) (g14 : arg14.view.ty.Contents (Elt F))  (E : Set ℕ) (K : (Σ' (_ : BitVec 32) (_ : BitVec 32), BitVec 32) → sProp 𝕄),
        iprop(held c arg2 g2
          ∗ held c arg3 g3
          ∗ held c arg4 g4
          ∗ held c arg7 g7
          ∗ held c arg12 g12
          ∗ held c arg13 g13
          ∗ held c arg15 g15
          ∗ held c arg16 g16
          ∗ held c arg14 g14
          ∗ (iprop(held c arg2 g2
          ∗ held c arg3 g3
          ∗ held c arg4 g4
          ∗ held c arg7 g7
          ∗ held c arg12 (arg12.view.writes (Elt F) g12 L12)
          ∗ held c arg13 (arg13.view.writes (Elt F) g13 L13)
          ∗ held c arg15 (arg15.view.writes (Elt F) g15 L15)
          ∗ held c arg16 (arg16.view.writes (Elt F) g16 L16)
          ∗ held c arg14 (arg14.view.writes (Elt F) g14 L14)) -∗ K r))
        ⊢ wp frame (wpE (defs₀ (F := F)) Variants.none c none) E (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun g12 g13 g15 g16 g14  E K => ?run⟩
  case run =>
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold held
    iintro ⟨H2, H3, H4, H7, H12, H13, H15, H16, H14, Hk⟩
    sl_exec (disch := first | sl_exact hc0 | sl_exact hc1 | sl_exact hc2 | sl_exact hc3 | sl_exact hc4)
    sl_step
    iapply Hk
    isplitl [H2]
    · iexact H2
    isplitl [H3]
    · iexact H3
    isplitl [H4]
    · iexact H4
    isplitl [H7]
    · iexact H7
    isplitl [H12]
    · iexact H12
    isplitl [H13]
    · iexact H13
    isplitl [H15]
    · iexact H15
    isplitl [H16]
    · iexact H16
    iexact H14

end Cert.FfnBwdIdeal.Gen

end
-- ==== Proof.FfnBwdLists.lean ====
module

public import proofs.«01_k».proof.Proof.FfnBwdBlock
public import proofs.«01_k».proof.Proof.FfnBwdLast
public import proofs.«01_k».proof.Proof.FfnBwdStart
public import proofs.«01_k».proof.Proof.FfnBwdFirst
import Idealize.ShloMosaic.Lib.Tactic

@[expose] public section

set_option maxRecDepth 16384

noncomputable section

/-!
# The feed forward gradient: the stores of a grid point, written once for all chunks of rows
-/

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Chunks of thirty two rows -/

theorem inb3 (n : ℕ) (h : n < 16) : ∀ a, (![0, 32 * n, 0] : Fin 3 → ℕ) a + S1x32x704.size a ≤ S1x512x704.size a := by
  intro a; match a with
  | ⟨0, _⟩ => exact (by decide : 0 + 1 ≤ 1)
  | ⟨1, _⟩ => exact (show 32 * n + 32 ≤ 512 by omega)
  | ⟨2, _⟩ => exact (by decide : 0 + 704 ≤ 704)

theorem inb2 (n : ℕ) (h : n < 16) : ∀ a, (![32 * n, 0] : Fin 2 → ℕ) a + S32x1024.size a ≤ S512x1024.size a := by
  intro a; match a with
  | ⟨0, _⟩ => exact (show 32 * n + 32 ≤ 512 by omega)
  | ⟨1, _⟩ => exact (by decide : 0 + 1024 ≤ 1024)

theorem inbS (n : ℕ) (h : n < 16) : ∀ a, (![32 * n, 0] : Fin 2 → ℕ) a + S32x704.size a ≤ S512x704.size a := by
  intro a; match a with
  | ⟨0, _⟩ => exact (show 32 * n + 32 ≤ 512 by omega)
  | ⟨1, _⟩ => exact (by decide : 0 + 704 ≤ 704)

/-- The stores of the first chunks of a block of columns, the latest first. -/
def rows3 (f : (n : ℕ) → n < 16 → Vec F S1x32x704 .bf16) : (n : ℕ) → n ≤ 16 → List (View.Piece (Elt F) S1x512x704 .bf16)
  | 0, _ => []
  | n + 1, h => ⟨Rect.unit (s := S1x512x704) ![0, 32 * n, 0] S1x32x704.size (inb3 n h), f n h⟩ :: rows3 f n (Nat.le_of_succ_le h)

/-- The stores of the first chunks of a tile, the latest first. -/
def rows2 {e : EltTy} (f : (n : ℕ) → n < 16 → Vec F S32x1024 e) : (n : ℕ) → n ≤ 16 → List (View.Piece (Elt F) S512x1024 e)
  | 0, _ => []
  | n + 1, h => ⟨Rect.unit (s := S512x1024) ![32 * n, 0] S32x1024.size (inb2 n h), f n h⟩ :: rows2 f n (Nat.le_of_succ_le h)

/-- A chunk of a block of columns. -/
def ld3 (a : Memref sig .tc .vmem S1x512x704 .bf16) (g : a.view.ty.Contents (Elt F)) (n : ℕ) (h : n < 16) : Vec F S1x32x704 .bf16 :=
  View.readAt (Elt F) a.view (Rect.unit (s := S1x512x704) ![0, 32 * n, 0] S1x32x704.size (inb3 n h)).toLoadRect g

/-- A chunk of a tile. -/
def ld2 (a : Memref sig .tc .vmem S512x1024 .f32) (g : a.view.ty.Contents (Elt F)) (n : ℕ) (h : n < 16) : Vec F S32x1024 .f32 :=
  View.readAt (Elt F) a.view (Rect.unit (s := S512x1024) ![32 * n, 0] S32x1024.size (inb2 n h)).toLoadRect g

/-- A chunk of a slot. -/
def ldS (a : Memref sig .tc .vmem S512x704 .f32) (g : a.view.ty.Contents (Elt F)) (n : ℕ) (h : n < 16) : Vec F S32x704 .f32 :=
  View.readAt (Elt F) a.view (Rect.unit (s := S512x704) ![32 * n, 0] S32x704.size (inbS n h)).toLoadRect g

/-- The row of the norm's weights. -/
def ldG (a : Memref sig .tc .vmem S1x1024 .f32) (g : a.view.ty.Contents (Elt F)) : Vec F S1x1024 .f32 :=
  View.readAt (Elt F) a.view (Rect.unit (s := S1x1024) ![0, 0] S1x1024.size inb_S1x1024_S1x1024_0_0).toLoadRect g

/-- One chip's rows of one of the three weights. -/
def ldW (a : Memref sig .tc .vmem S3x4x704x1024 .bf16) (g : a.view.ty.Contents (Elt F)) (o : Fin 4 → ℕ) (ho : ∀ k, o k + S1x1x704x1024.size k ≤ S3x4x704x1024.size k) : Vec F S1x1x704x1024 .bf16 :=
  View.readAt (Elt F) a.view (Rect.unit (s := S3x4x704x1024) o S1x1x704x1024.size ho).toLoadRect g

section Lists
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

section Block
variable (g5 : arg5.view.ty.Contents (Elt F)) (g6 : arg6.view.ty.Contents (Elt F)) (g7 : arg7.view.ty.Contents (Elt F)) (g15 : arg15.view.ty.Contents (Elt F)) (S : Memref sig .tc .vmem S512x704 .f32) (gC : S.view.ty.Contents (Elt F))

/-- The gradient at the gate's argument, the first chunks. -/
def daL (n : ℕ) (h : n ≤ 16) : List (View.Piece (Elt F) S1x512x704 .bf16) :=
  rows3 (fun k hk => k0_pay46 (F := F) (ld3 arg5 g5 k hk) (ld3 arg6 g6 k hk) (ldS S gC k hk)) n h

/-- The gradient at the other factor, the first chunks. -/
def dbL (n : ℕ) (h : n ≤ 16) : List (View.Piece (Elt F) S1x512x704 .bf16) :=
  rows3 (fun k hk => k0_pay47 (F := F) (ld3 arg5 g5 k hk) (ldS S gC k hk)) n h

/-- The product of the two factors. -/
def pL : List (View.Piece (Elt F) S1x512x704 .bf16) :=
  rows3 (fun k hk => k0_pay48 (F := F) (ld3 arg5 g5 k hk) (ld3 arg6 g6 k hk)) 16 le_rfl

/-- What a block adds to the gradient at the normed rows, in two halves. -/
def dhL (oa ob : Fin 4 → ℕ) (ha : ∀ k, oa k + S1x1x704x1024.size k ≤ S3x4x704x1024.size k) (hb : ∀ k, ob k + S1x1x704x1024.size k ≤ S3x4x704x1024.size k) :
    List (View.Piece (Elt F) S512x1024 .f32) :=
  [⟨Rect.unit (s := S512x1024) ![256, 0] S256x1024.size inb_S512x1024_S256x1024_256_0,
    k0_pay99 (F := F) (View.readAt (Elt F) arg15.view (Rect.unit (s := S512x1024) ![256, 0] S256x1024.size inb_S512x1024_S256x1024_256_0).toLoadRect g15)
      (arg9.view.readCov (daL arg5 arg6 g5 g6 S gC 16 le_rfl) (Rect.unit (s := S1x512x704) ![0, 256, 0] S1x256x704.size inb_S1x512x704_S1x256x704_0_256_0).toLoadRect) (ldW arg7 g7 oa ha)
      (arg10.view.readCov (dbL arg5 g5 S gC 16 le_rfl) (Rect.unit (s := S1x512x704) ![0, 256, 0] S1x256x704.size inb_S1x512x704_S1x256x704_0_256_0).toLoadRect) (ldW arg7 g7 ob hb)⟩,
   ⟨Rect.unit (s := S512x1024) ![0, 0] S256x1024.size inb_S512x1024_S256x1024_0_0,
    k0_pay99 (F := F) (View.readAt (Elt F) arg15.view (Rect.unit (s := S512x1024) ![0, 0] S256x1024.size inb_S512x1024_S256x1024_0_0).toLoadRect g15)
      (arg9.view.readCov (daL arg5 arg6 g5 g6 S gC 8 (by decide)) (Rect.unit (s := S1x512x704) ![0, 0, 0] S1x256x704.size inb_S1x512x704_S1x256x704_0_0_0).toLoadRect) (ldW arg7 g7 oa ha)
      (arg10.view.readCov (dbL arg5 g5 S gC 8 (by decide)) (Rect.unit (s := S1x512x704) ![0, 0, 0] S1x256x704.size inb_S1x512x704_S1x256x704_0_0_0).toLoadRect) (ldW arg7 g7 ob hb)⟩]

end Block

/-- The next block's product with the output's weights, in two halves. -/
def dpL (g7 : arg7.view.ty.Contents (Elt F)) (g13 : arg13.view.ty.Contents (Elt F)) (o : Fin 4 → ℕ) (ho : ∀ k, o k + S1x1x704x1024.size k ≤ S3x4x704x1024.size k) : List (View.Piece (Elt F) S512x704 .f32) :=
  [⟨Rect.unit (s := S512x704) ![256, 0] S256x704.size inb_S512x704_S256x704_256_0,
    k0_pay98 (F := F) (View.readAt (Elt F) arg13.view (Rect.unit (s := S512x1024) ![256, 0] S256x1024.size inb_S512x1024_S256x1024_256_0).toLoadRect g13) (ldW arg7 g7 o ho)⟩,
   ⟨Rect.unit (s := S512x704) ![0, 0] S256x704.size inb_S512x704_S256x704_0_0,
    k0_pay98 (F := F) (View.readAt (Elt F) arg13.view (Rect.unit (s := S512x1024) ![0, 0] S256x1024.size inb_S512x1024_S256x1024_0_0).toLoadRect g13) (ldW arg7 g7 o ho)⟩]

section Last
variable (g2 : arg2.view.ty.Contents (Elt F)) (g3 : arg3.view.ty.Contents (Elt F)) (g4 : arg4.view.ty.Contents (Elt F)) (g14 : arg14.view.ty.Contents (Elt F)) (L15 : List (View.Piece (Elt F) S512x1024 .f32))

/-- A chunk of the gradient at the normed rows, once it is whole. -/
def dhRows (n : ℕ) (h : n < 16) : Vec F S32x1024 .f32 :=
  arg15.view.readCov L15 (Rect.unit (s := S512x1024) ![32 * n, 0] S32x1024.size (inb2 n h)).toLoadRect

/-- The gradient at the rows. -/
def dxL : List (View.Piece (Elt F) S512x1024 .f32) :=
  rows2 (fun k hk => k0_pay293 (F := F) (ldG arg4 g4) (ld2 arg3 g3 k hk) (dhRows arg15 L15 k hk) (ld2 arg2 g2 k hk)) 16 le_rfl

/-- The gradient at the norm's weights, over the first chunks. -/
def dgSum : (n : ℕ) → n ≤ 16 → FVec F S1x1024 .f32
  | 0, _ => broadcast S1x1024 (Scalar.ofBits .f32 0x00000000#32)
  | n + 1, h => addf (dgSum n (Nat.le_of_succ_le h)) (shapeCast S1x1024
      (multiReduction .add [0] S1024 (mulf (dhRows arg15 L15 n h) (k0_pay292 (F := F) (ld2 arg3 g3 n h))) 0x00000000#32 reduces_S32x1024_S1024 (.inl rfl) rfl) shapeCasts_S1024_S1x1024)

/-- The gradient at the norm's weights, added to that of the tiles before. -/
def dgL : List (View.Piece (Elt F) S1x1024 .f32) :=
  [⟨Rect.unit (s := S1x1024) ![0, 0] S1x1024.size inb_S1x1024_S1x1024_0_0,
    addf (shapeCast S1x1024 (ldG arg14 g14) shapeCasts_S1x1024_S1x1024) (dgSum arg3 arg15 g3 L15 16 le_rfl)⟩]

end Last

section Start
variable (g2 : arg2.view.ty.Contents (Elt F)) (g3 : arg3.view.ty.Contents (Elt F)) (g4 : arg4.view.ty.Contents (Elt F)) (g7 : arg7.view.ty.Contents (Elt F))

/-- The normed rows. -/
def hbL : List (View.Piece (Elt F) S512x1024 .bf16) :=
  rows2 (fun k hk => k0_pay5 (F := F) (ld2 arg3 g3 k hk) (ldG arg4 g4)) 16 le_rfl

/-- Half the incoming gradient. -/
def dyL : List (View.Piece (Elt F) S512x1024 .bf16) :=
  rows2 (fun k hk => k0_pay6 (F := F) (ld2 arg2 g2 k hk)) 16 le_rfl

/-- The gradient at the normed rows before the first block. -/
def zeroL : List (View.Piece (Elt F) S512x1024 .f32) :=
  [⟨Rect.unit (s := S512x1024) ![0, 0] S512x1024.size inb_S512x1024_S512x1024_0_0, k0_pay362⟩]

/-- The first block's product with the output's weights. -/
def firstL (o : Fin 3 → ℕ) (ho : ∀ k, o k + S1x512x704.size k ≤ S2x512x704.size k) : List (View.Piece (Elt F) S2x512x704 .f32) :=
  [⟨Rect.unit (s := S2x512x704) o S1x512x704.size ho,
    k0_pay363 (F := F) (arg13.view.readCov (dyL arg2 g2) (Rect.unit (s := S512x1024) ![0, 0] S512x1024.size inb_S512x1024_S512x1024_0_0).toLoadRect)
      (ldW arg7 g7 ![2, 0, 0, 0] inb_S3x4x704x1024_S1x1x704x1024_2_0_0_0)⟩]

end Start

/-! ## These are the runs' stores -/

set_option maxHeartbeats 4000000 in
theorem block_da (hc2 : cond0_2 i) (hc3 : ¬cond0_3 i) (hc4 : ¬cond0_4 i) (g5 : arg5.view.ty.Contents (Elt F)) (g6 : arg6.view.ty.Contents (Elt F)) (g7 : arg7.view.ty.Contents (Elt F)) (g13 : arg13.view.ty.Contents (Elt F)) (g15 : arg15.view.ty.Contents (Elt F)) (gC : (slotM arg16 (k0_off2 i) (k0_off2_inb i hc2)).view.ty.Contents (Elt F)) :
    (blockRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g5 g6 g7 g13 g15 gC).1 = daL (F := F) arg5 arg6 g5 g6 (slotM arg16 (k0_off2 i) (k0_off2_inb i hc2)) gC 16 le_rfl := by sl_kernel_rfl

set_option maxHeartbeats 4000000 in
theorem block_db (hc2 : cond0_2 i) (hc3 : ¬cond0_3 i) (hc4 : ¬cond0_4 i) (g5 : arg5.view.ty.Contents (Elt F)) (g6 : arg6.view.ty.Contents (Elt F)) (g7 : arg7.view.ty.Contents (Elt F)) (g13 : arg13.view.ty.Contents (Elt F)) (g15 : arg15.view.ty.Contents (Elt F)) (gC : (slotM arg16 (k0_off2 i) (k0_off2_inb i hc2)).view.ty.Contents (Elt F)) :
    (blockRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g5 g6 g7 g13 g15 gC).2.1 = dbL (F := F) arg5 g5 (slotM arg16 (k0_off2 i) (k0_off2_inb i hc2)) gC 16 le_rfl := by sl_kernel_rfl

set_option maxHeartbeats 4000000 in
theorem block_p (hc2 : cond0_2 i) (hc3 : ¬cond0_3 i) (hc4 : ¬cond0_4 i) (g5 : arg5.view.ty.Contents (Elt F)) (g6 : arg6.view.ty.Contents (Elt F)) (g7 : arg7.view.ty.Contents (Elt F)) (g13 : arg13.view.ty.Contents (Elt F)) (g15 : arg15.view.ty.Contents (Elt F)) (gC : (slotM arg16 (k0_off2 i) (k0_off2_inb i hc2)).view.ty.Contents (Elt F)) :
    (blockRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g5 g6 g7 g13 g15 gC).2.2.1 = pL (F := F) arg5 arg6 g5 g6 := by sl_kernel_rfl

set_option maxHeartbeats 4000000 in
theorem block_dh (hc2 : cond0_2 i) (hc3 : ¬cond0_3 i) (hc4 : ¬cond0_4 i) (g5 : arg5.view.ty.Contents (Elt F)) (g6 : arg6.view.ty.Contents (Elt F)) (g7 : arg7.view.ty.Contents (Elt F)) (g13 : arg13.view.ty.Contents (Elt F)) (g15 : arg15.view.ty.Contents (Elt F)) (gC : (slotM arg16 (k0_off2 i) (k0_off2_inb i hc2)).view.ty.Contents (Elt F)) :
    (blockRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g5 g6 g7 g13 g15 gC).2.2.2.1 = dhL (F := F) arg5 arg6 arg7 arg9 arg10 arg15 g5 g6 g7 g15 (slotM arg16 (k0_off2 i) (k0_off2_inb i hc2)) gC (k0_off5 i) (k0_off6 i) (k0_off5_inb i hc2) (k0_off6_inb i hc2) := by sl_kernel_rfl

set_option maxHeartbeats 4000000 in
theorem block_dp (hc2 : cond0_2 i) (hc3 : ¬cond0_3 i) (hc4 : ¬cond0_4 i) (g5 : arg5.view.ty.Contents (Elt F)) (g6 : arg6.view.ty.Contents (Elt F)) (g7 : arg7.view.ty.Contents (Elt F)) (g13 : arg13.view.ty.Contents (Elt F)) (g15 : arg15.view.ty.Contents (Elt F)) (gC : (slotM arg16 (k0_off2 i) (k0_off2_inb i hc2)).view.ty.Contents (Elt F)) :
    (blockRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g5 g6 g7 g13 g15 gC).2.2.2.2.1 = dpL (F := F) arg7 arg13 g7 g13 (k0_off3 i) (k0_off3_inb i hc2) := by sl_kernel_rfl

set_option maxHeartbeats 4000000 in
theorem last_dx (hc2 : ¬cond0_2 i) (hc3 : cond0_3 i) (hc4 : cond0_4 i) (g2 : arg2.view.ty.Contents (Elt F)) (g3 : arg3.view.ty.Contents (Elt F)) (g4 : arg4.view.ty.Contents (Elt F)) (g5 : arg5.view.ty.Contents (Elt F)) (g6 : arg6.view.ty.Contents (Elt F)) (g7 : arg7.view.ty.Contents (Elt F)) (g15 : arg15.view.ty.Contents (Elt F)) (gC : (slotM arg16 (k0_off7 i) (k0_off7_inb i hc3)).view.ty.Contents (Elt F)) (g14 : arg14.view.ty.Contents (Elt F)) :
    (lastRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g2 g3 g4 g5 g6 g7 g15 gC g14).1 = dxL (F := F) arg2 arg3 arg4 arg15 g2 g3 g4 (dhL (F := F) arg5 arg6 arg7 arg9 arg10 arg15 g5 g6 g7 g15 (slotM arg16 (k0_off7 i) (k0_off7_inb i hc3)) gC (k0_off8 i) (k0_off9 i) (k0_off8_inb i hc3) (k0_off9_inb i hc3)) := by sl_kernel_rfl

set_option maxHeartbeats 4000000 in
theorem last_da (hc2 : ¬cond0_2 i) (hc3 : cond0_3 i) (hc4 : cond0_4 i) (g2 : arg2.view.ty.Contents (Elt F)) (g3 : arg3.view.ty.Contents (Elt F)) (g4 : arg4.view.ty.Contents (Elt F)) (g5 : arg5.view.ty.Contents (Elt F)) (g6 : arg6.view.ty.Contents (Elt F)) (g7 : arg7.view.ty.Contents (Elt F)) (g15 : arg15.view.ty.Contents (Elt F)) (gC : (slotM arg16 (k0_off7 i) (k0_off7_inb i hc3)).view.ty.Contents (Elt F)) (g14 : arg14.view.ty.Contents (Elt F)) :
    (lastRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g2 g3 g4 g5 g6 g7 g15 gC g14).2.1 = daL (F := F) arg5 arg6 g5 g6 (slotM arg16 (k0_off7 i) (k0_off7_inb i hc3)) gC 16 le_rfl := by sl_kernel_rfl

set_option maxHeartbeats 4000000 in
theorem last_db (hc2 : ¬cond0_2 i) (hc3 : cond0_3 i) (hc4 : cond0_4 i) (g2 : arg2.view.ty.Contents (Elt F)) (g3 : arg3.view.ty.Contents (Elt F)) (g4 : arg4.view.ty.Contents (Elt F)) (g5 : arg5.view.ty.Contents (Elt F)) (g6 : arg6.view.ty.Contents (Elt F)) (g7 : arg7.view.ty.Contents (Elt F)) (g15 : arg15.view.ty.Contents (Elt F)) (gC : (slotM arg16 (k0_off7 i) (k0_off7_inb i hc3)).view.ty.Contents (Elt F)) (g14 : arg14.view.ty.Contents (Elt F)) :
    (lastRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g2 g3 g4 g5 g6 g7 g15 gC g14).2.2.1 = dbL (F := F) arg5 g5 (slotM arg16 (k0_off7 i) (k0_off7_inb i hc3)) gC 16 le_rfl := by sl_kernel_rfl

set_option maxHeartbeats 4000000 in
theorem last_p (hc2 : ¬cond0_2 i) (hc3 : cond0_3 i) (hc4 : cond0_4 i) (g2 : arg2.view.ty.Contents (Elt F)) (g3 : arg3.view.ty.Contents (Elt F)) (g4 : arg4.view.ty.Contents (Elt F)) (g5 : arg5.view.ty.Contents (Elt F)) (g6 : arg6.view.ty.Contents (Elt F)) (g7 : arg7.view.ty.Contents (Elt F)) (g15 : arg15.view.ty.Contents (Elt F)) (gC : (slotM arg16 (k0_off7 i) (k0_off7_inb i hc3)).view.ty.Contents (Elt F)) (g14 : arg14.view.ty.Contents (Elt F)) :
    (lastRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g2 g3 g4 g5 g6 g7 g15 gC g14).2.2.2.1 = pL (F := F) arg5 arg6 g5 g6 := by sl_kernel_rfl

set_option maxHeartbeats 4000000 in
theorem last_dh (hc2 : ¬cond0_2 i) (hc3 : cond0_3 i) (hc4 : cond0_4 i) (g2 : arg2.view.ty.Contents (Elt F)) (g3 : arg3.view.ty.Contents (Elt F)) (g4 : arg4.view.ty.Contents (Elt F)) (g5 : arg5.view.ty.Contents (Elt F)) (g6 : arg6.view.ty.Contents (Elt F)) (g7 : arg7.view.ty.Contents (Elt F)) (g15 : arg15.view.ty.Contents (Elt F)) (gC : (slotM arg16 (k0_off7 i) (k0_off7_inb i hc3)).view.ty.Contents (Elt F)) (g14 : arg14.view.ty.Contents (Elt F)) :
    (lastRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g2 g3 g4 g5 g6 g7 g15 gC g14).2.2.2.2.1 = dhL (F := F) arg5 arg6 arg7 arg9 arg10 arg15 g5 g6 g7 g15 (slotM arg16 (k0_off7 i) (k0_off7_inb i hc3)) gC (k0_off8 i) (k0_off9 i) (k0_off8_inb i hc3) (k0_off9_inb i hc3) := by sl_kernel_rfl

set_option maxHeartbeats 4000000 in
theorem last_dg (hc2 : ¬cond0_2 i) (hc3 : cond0_3 i) (hc4 : cond0_4 i) (g2 : arg2.view.ty.Contents (Elt F)) (g3 : arg3.view.ty.Contents (Elt F)) (g4 : arg4.view.ty.Contents (Elt F)) (g5 : arg5.view.ty.Contents (Elt F)) (g6 : arg6.view.ty.Contents (Elt F)) (g7 : arg7.view.ty.Contents (Elt F)) (g15 : arg15.view.ty.Contents (Elt F)) (gC : (slotM arg16 (k0_off7 i) (k0_off7_inb i hc3)).view.ty.Contents (Elt F)) (g14 : arg14.view.ty.Contents (Elt F)) :
    (lastRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g2 g3 g4 g5 g6 g7 g15 gC g14).2.2.2.2.2.1 = dgL (F := F) arg3 arg14 arg15 g3 g14 (dhL (F := F) arg5 arg6 arg7 arg9 arg10 arg15 g5 g6 g7 g15 (slotM arg16 (k0_off7 i) (k0_off7_inb i hc3)) gC (k0_off8 i) (k0_off9 i) (k0_off8_inb i hc3) (k0_off9_inb i hc3)) := by sl_kernel_rfl

set_option maxHeartbeats 4000000 in
theorem start_hb (hc0 : ¬cond0_0 i) (hc1 : cond0_1 i) (g2 : arg2.view.ty.Contents (Elt F)) (g3 : arg3.view.ty.Contents (Elt F)) (g4 : arg4.view.ty.Contents (Elt F)) (g7 : arg7.view.ty.Contents (Elt F)) :
    (startRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.1 = hbL (F := F) arg3 arg4 g3 g4 := by sl_kernel_rfl

set_option maxHeartbeats 4000000 in
theorem start_dy (hc0 : ¬cond0_0 i) (hc1 : cond0_1 i) (g2 : arg2.view.ty.Contents (Elt F)) (g3 : arg3.view.ty.Contents (Elt F)) (g4 : arg4.view.ty.Contents (Elt F)) (g7 : arg7.view.ty.Contents (Elt F)) :
    (startRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.1 = dyL (F := F) arg2 g2 := by sl_kernel_rfl

set_option maxHeartbeats 4000000 in
theorem start_zero (hc0 : ¬cond0_0 i) (hc1 : cond0_1 i) (g2 : arg2.view.ty.Contents (Elt F)) (g3 : arg3.view.ty.Contents (Elt F)) (g4 : arg4.view.ty.Contents (Elt F)) (g7 : arg7.view.ty.Contents (Elt F)) :
    (startRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.2.1 = zeroL (F := F) := by sl_kernel_rfl

set_option maxHeartbeats 4000000 in
theorem start_dp (hc0 : ¬cond0_0 i) (hc1 : cond0_1 i) (g2 : arg2.view.ty.Contents (Elt F)) (g3 : arg3.view.ty.Contents (Elt F)) (g4 : arg4.view.ty.Contents (Elt F)) (g7 : arg7.view.ty.Contents (Elt F)) :
    (startRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.2.2.1 = firstL (F := F) arg2 arg7 arg13 g2 g7 (k0_off1 i) (k0_off1_inb i hc1) := by sl_kernel_rfl

set_option maxHeartbeats 4000000 in
theorem first_hb (hc0 : cond0_0 i) (hc1 : cond0_1 i) (g2 : arg2.view.ty.Contents (Elt F)) (g3 : arg3.view.ty.Contents (Elt F)) (g4 : arg4.view.ty.Contents (Elt F)) (g7 : arg7.view.ty.Contents (Elt F)) :
    (firstRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.1 = hbL (F := F) arg3 arg4 g3 g4 := by sl_kernel_rfl

set_option maxHeartbeats 4000000 in
theorem first_dy (hc0 : cond0_0 i) (hc1 : cond0_1 i) (g2 : arg2.view.ty.Contents (Elt F)) (g3 : arg3.view.ty.Contents (Elt F)) (g4 : arg4.view.ty.Contents (Elt F)) (g7 : arg7.view.ty.Contents (Elt F)) :
    (firstRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.1 = dyL (F := F) arg2 g2 := by sl_kernel_rfl

set_option maxHeartbeats 4000000 in
theorem first_zero (hc0 : cond0_0 i) (hc1 : cond0_1 i) (g2 : arg2.view.ty.Contents (Elt F)) (g3 : arg3.view.ty.Contents (Elt F)) (g4 : arg4.view.ty.Contents (Elt F)) (g7 : arg7.view.ty.Contents (Elt F)) :
    (firstRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.2.1 = zeroL (F := F) := by sl_kernel_rfl

set_option maxHeartbeats 4000000 in
theorem first_dp (hc0 : cond0_0 i) (hc1 : cond0_1 i) (g2 : arg2.view.ty.Contents (Elt F)) (g3 : arg3.view.ty.Contents (Elt F)) (g4 : arg4.view.ty.Contents (Elt F)) (g7 : arg7.view.ty.Contents (Elt F)) :
    (firstRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.2.2.1 = firstL (F := F) arg2 arg7 arg13 g2 g7 (k0_off1 i) (k0_off1_inb i hc1) := by sl_kernel_rfl

set_option maxHeartbeats 4000000 in
theorem first_dg (hc0 : cond0_0 i) (hc1 : cond0_1 i) (g2 : arg2.view.ty.Contents (Elt F)) (g3 : arg3.view.ty.Contents (Elt F)) (g4 : arg4.view.ty.Contents (Elt F)) (g7 : arg7.view.ty.Contents (Elt F)) :
    (firstRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.2.2.2.1 = [⟨Rect.unit (s := S1x1024) ![0, 0] S1x1024.size inb_S1x1024_S1x1024_0_0, k0_pay360⟩] := by sl_kernel_rfl

end Lists

end Cert.FfnBwdIdeal.Gen

end
-- ==== Proof.FfnBwdVals.lean ====
/- The feed forward gradient: what the stores of a grid point leave, in real arithmetic. -/
module

public import proofs.«01_k».proof.Proof.FfnBwdLists
public import Idealize.ShloMosaic.Lib.Pointwise
import Idealize.ShloMosaic.Lib.Pipeline.ValueKit
import Idealize.ShloMosaic.Lib.Pipeline.ReadBack
import Idealize.ShloMosaic.Lib.WritesUnit

@[expose] public section

set_option maxRecDepth 16384

noncomputable section

namespace Cert.FfnBwdIdeal.Gen

open Idealize.ShloMosaic Idealize.ShloMosaic.TcCoe Idealize.SL.Sem

/-! ## What is computed -/

def one : EReal := Ideal.ofBits .f32 0x3F800000#32

/-- The reciprocal root of a row's mean square. -/
def rinv (x : Fin 1024 → EReal) : EReal :=
  Ideal.rsqrt (Ideal.div (∑ e : Fin 1024, x e * x e) (Ideal.ofBits .f32 0x44800000#32) + Ideal.ofBits .f32 0x358637BD#32)

/-- The gradient at the gate's argument. -/
def daAt (a b d : EReal) : EReal := d * b * (Ideal.logistic a * (one + a * (one - Ideal.logistic a)))

/-- The gradient at the other factor. -/
def dbAt (a d : EReal) : EReal := d * (a * Ideal.logistic a)

def daV (a b : Vec Ideal S1x512x704 .bf16) (d : Vec Ideal S512x704 .f32) : Vec Ideal S1x512x704 .bf16 :=
  fun j => daAt (a j) (b j) (d (ix2 (j 1) (j 2)))

def dbV (a : Vec Ideal S1x512x704 .bf16) (d : Vec Ideal S512x704 .f32) : Vec Ideal S1x512x704 .bf16 :=
  fun j => dbAt (a j) (d (ix2 (j 1) (j 2)))

def pV (a b : Vec Ideal S1x512x704 .bf16) : Vec Ideal S1x512x704 .bf16 := fun j => a j * Ideal.logistic (a j) * b j

/-- The gradient at the normed rows, with the block of chip `q` added. -/
def dhV (h : Vec Ideal S512x1024 .f32) (a b : Vec Ideal S1x512x704 .bf16) (d : Vec Ideal S512x704 .f32) (W : Vec Ideal S3x4x704x1024 .bf16) (q : Fin 4) :
    Vec Ideal S512x1024 .f32 :=
  fun j => h j + (∑ k : Fin 704, daV a b d (ix3 0 (j 0) k) * W (ix4 0 q k (j 1)) + ∑ k : Fin 704, dbV a d (ix3 0 (j 0) k) * W (ix4 1 q k (j 1)))

/-- The gradient at the product of the factors, in the columns of chip `q`. -/
def dpV (H : Vec Ideal S512x1024 .bf16) (W : Vec Ideal S3x4x704x1024 .bf16) (q : Fin 4) : Vec Ideal S512x704 .f32 :=
  fun j => ∑ e : Fin 1024, H (ix2 (j 0) e) * W (ix4 2 q (j 1) e)

def hbV (x : Vec Ideal S512x1024 .f32) (g : Vec Ideal S1x1024 .f32) : Vec Ideal S512x1024 .bf16 :=
  fun j => x j * rinv (fun e => x (ix2 (j 0) e)) * g (ix2 0 (j 1))

def dyV (y : Vec Ideal S512x1024 .f32) : Vec Ideal S512x1024 .bf16 := fun j => Ideal.ofBits .f32 0x3F000000#32 * y j

def zeroV : Vec Ideal S512x1024 .f32 := fun _ => 0

def dxV (y x : Vec Ideal S512x1024 .f32) (g : Vec Ideal S1x1024 .f32) (h : Vec Ideal S512x1024 .f32) : Vec Ideal S512x1024 .f32 :=
  fun j => y j + rinv (fun e => x (ix2 (j 0) e)) * (h j * g (ix2 0 (j 1)) - x j * rinv (fun e => x (ix2 (j 0) e)) *
    Ideal.div (∑ e : Fin 1024, h (ix2 (j 0) e) * g (ix2 0 e) * (x (ix2 (j 0) e) * rinv (fun e => x (ix2 (j 0) e)))) (Ideal.ofBits .f32 0x44800000#32))

def dgRow (x h : Vec Ideal S512x1024 .f32) (r : Fin 512) (d : Fin 1024) : EReal := h (ix2 r d) * (x (ix2 r d) * rinv (fun e => x (ix2 r e)))

def dgV (acc : Vec Ideal S1x1024 .f32) (x h : Vec Ideal S512x1024 .f32) : Vec Ideal S1x1024 .f32 :=
  fun j => acc j + ∑ r : Fin 512, dgRow x h r (j 1)

/-! ## The stored values, point by point -/

theorem da_at (a b : Vec Ideal S1x32x704 .bf16) (d : Vec Ideal S32x704 .f32) (r : Fin 32) (k : Fin 704) :
    k0_pay46 (F := Ideal) a b d (ix3 0 r k) = daAt (a (ix3 0 r k)) (b (ix3 0 r k)) (d (ix2 r k)) := by
  unfold daAt one
  pointwise [k0_pay46, k0_pay42, k0_pay43, k0_pay44]

theorem db_at (a : Vec Ideal S1x32x704 .bf16) (d : Vec Ideal S32x704 .f32) (r : Fin 32) (k : Fin 704) :
    k0_pay47 (F := Ideal) a d (ix3 0 r k) = dbAt (a (ix3 0 r k)) (d (ix2 r k)) := by
  unfold dbAt
  pointwise [k0_pay47, k0_pay42, k0_pay44, k0_pay45]

theorem p_at (a b : Vec Ideal S1x32x704 .bf16) (r : Fin 32) (k : Fin 704) :
    k0_pay48 (F := Ideal) a b (ix3 0 r k) = a (ix3 0 r k) * Ideal.logistic (a (ix3 0 r k)) * b (ix3 0 r k) := by
  pointwise [k0_pay48, k0_pay42, k0_pay43, k0_pay44, k0_pay45]

theorem hb_at (x : Vec Ideal S32x1024 .f32) (g : Vec Ideal S1x1024 .f32) (r : Fin 32) (d : Fin 1024) :
    k0_pay5 (F := Ideal) x g (ix2 r d) = x (ix2 r d) * rinv (fun e => x (ix2 r e)) * g (ix2 0 d) := by
  unfold rinv
  pointwise [k0_pay5]

theorem dy_at (y : Vec Ideal S32x1024 .f32) (r : Fin 32) (d : Fin 1024) :
    k0_pay6 (F := Ideal) y (ix2 r d) = Ideal.ofBits .f32 0x3F000000#32 * y (ix2 r d) := by
  pointwise [k0_pay6]

theorem dp_at (H : Vec Ideal S256x1024 .bf16) (W : Vec Ideal S1x1x704x1024 .bf16) (r : Fin 256) (k : Fin 704) :
    k0_pay98 (F := Ideal) H W (ix2 r k) = ∑ e : Fin 1024, H (ix2 r e) * W (ix4 0 0 k e) := by
  pointwise [k0_pay98]

theorem dp0_at (H : Vec Ideal S512x1024 .bf16) (W : Vec Ideal S1x1x704x1024 .bf16) (r : Fin 512) (k : Fin 704) :
    k0_pay363 (F := Ideal) H W (ix3 0 r k) = ∑ e : Fin 1024, H (ix2 r e) * W (ix4 0 0 k e) := by
  pointwise [k0_pay363]

theorem dh_at (h : Vec Ideal S256x1024 .f32) (a b : Vec Ideal S1x256x704 .bf16) (A B : Vec Ideal S1x1x704x1024 .bf16) (r : Fin 256) (d : Fin 1024) :
    k0_pay99 (F := Ideal) h a A b B (ix2 r d) = h (ix2 r d) + (∑ k : Fin 704, a (ix3 0 r k) * A (ix4 0 0 k d) + ∑ k : Fin 704, b (ix3 0 r k) * B (ix4 0 0 k d)) := by
  pointwise [k0_pay99]

theorem dx_at (g : Vec Ideal S1x1024 .f32) (x h y : Vec Ideal S32x1024 .f32) (r : Fin 32) (d : Fin 1024) :
    k0_pay293 (F := Ideal) g x h y (ix2 r d) = y (ix2 r d) + rinv (fun e => x (ix2 r e)) * (h (ix2 r d) * g (ix2 0 d) - x (ix2 r d) * rinv (fun e => x (ix2 r e)) *
      Ideal.div (∑ e : Fin 1024, h (ix2 r e) * g (ix2 0 e) * (x (ix2 r e) * rinv (fun e => x (ix2 r e)))) (Ideal.ofBits .f32 0x44800000#32)) := by
  unfold rinv
  pointwise [k0_pay293, k0_pay290, k0_pay291, k0_pay292]

theorem dg_at (P : FVec Ideal S1x1024 .f32) (h x : Vec Ideal S32x1024 .f32) (d : Fin 1024) :
    addf P (shapeCast S1x1024 (multiReduction .add [0] S1024 (mulf h (k0_pay292 (F := Ideal) x)) 0x00000000#32 reduces_S32x1024_S1024 (.inl rfl) rfl) shapeCasts_S1024_S1x1024) (ix2 0 d)
      = P (ix2 0 d) + ∑ r : Fin 32, h (ix2 r d) * (x (ix2 r d) * rinv (fun e => x (ix2 r e))) := by
  unfold rinv
  pointwise [k0_pay291, k0_pay292]

theorem zero_at (j) : k0_pay362 (F := Ideal) j = 0 := by pointwise [k0_pay362]
theorem zero_row_at (j) : k0_pay360 (F := Ideal) j = 0 := by pointwise [k0_pay360]

/-! ## What chunks of stores leave -/

theorem rows3_read (v : View sig .tc .vmem S1x512x704 .bf16) (P : (n : ℕ) → n < 16 → Vec Ideal S1x32x704 .bf16) (f : v.ty.Contents (Elt Ideal)) (r : Fin 512) (k : Fin 704) :
    ∀ (m : ℕ) (hm : m ≤ 16) (h : r.val < 32 * m), v.read (Elt Ideal) (v.writes (Elt Ideal) f (rows3 P m hm)) (ix3 0 r k)
      = P (r / 32) (by omega) (ix3 0 ⟨r % 32, by omega⟩ k)
  | 0, _, h => absurd h (by omega)
  | m + 1, hm, h => by
    by_cases h1 : 32 * m ≤ r.val
    · refine (View.read_writes_cons_unit_of_mem (s := S1x512x704) (size := S1x32x704.size) _ _ _ _ _ _ (ix3 0 ⟨r - 32 * m, by omega⟩ k : S1x32x704.Idx) rfl ?_).trans ?_
      · intro a; match a with
        | ⟨0, _⟩ => exact rfl
        | ⟨1, _⟩ => exact (show r.val = 32 * m + (r - 32 * m) by omega)
        | ⟨2, _⟩ => exact (show k.val = 0 + k.val by omega)
      · have e1 : m = r.val / 32 := by omega
        have e2 : (⟨r - 32 * m, by omega⟩ : Fin 32) = ⟨r % 32, by omega⟩ := Fin.ext (by show r.val - 32 * m = r % 32; omega)
        rw [e2]
        congr 1
    · refine (View.read_writes_cons_unit_of_not_mem (s := S1x512x704) (size := S1x32x704.size) _ _ _ _ _ _ rfl 1 ?_).trans ?_
      · show r.val < 32 * m ∨ 32 * m + 32 ≤ r.val
        omega
      · exact rows3_read v P f r k m (by omega) (by omega)

theorem rows2_read {e : EltTy} (v : View sig .tc .vmem S512x1024 e) (P : (n : ℕ) → n < 16 → Vec Ideal S32x1024 e) (f : v.ty.Contents (Elt Ideal)) (r : Fin 512) (d : Fin 1024) :
    ∀ (m : ℕ) (hm : m ≤ 16) (h : r.val < 32 * m), v.read (Elt Ideal) (v.writes (Elt Ideal) f (rows2 P m hm)) (ix2 r d)
      = P (r / 32) (by omega) (ix2 ⟨r % 32, by omega⟩ d)
  | 0, _, h => absurd h (by omega)
  | m + 1, hm, h => by
    by_cases h1 : 32 * m ≤ r.val
    · refine (View.read_writes_cons_unit_of_mem (s := S512x1024) (size := S32x1024.size) _ _ _ _ _ _ (ix2 ⟨r - 32 * m, by omega⟩ d : S32x1024.Idx) rfl ?_).trans ?_
      · intro a; match a with
        | ⟨0, _⟩ => exact (show r.val = 32 * m + (r - 32 * m) by omega)
        | ⟨1, _⟩ => exact (show d.val = 0 + d.val by omega)
      · have e1 : m = r.val / 32 := by omega
        have e2 : (⟨r - 32 * m, by omega⟩ : Fin 32) = ⟨r % 32, by omega⟩ := Fin.ext (by show r.val - 32 * m = r % 32; omega)
        rw [e2]
        congr 1
    · refine (View.read_writes_cons_unit_of_not_mem (s := S512x1024) (size := S32x1024.size) _ _ _ _ _ _ rfl 0 ?_).trans ?_
      · show r.val < 32 * m ∨ 32 * m + 32 ≤ r.val
        omega
      · exact rows2_read v P f r d m (by omega) (by omega)

/-! ## What the loads give -/

theorem row_idx3 (n o : ℕ) (ho : ∀ a, (![0, o, 0] : Fin 3 → ℕ) a + (![1, n, 704] : Fin 3 → ℕ) a ≤ S1x512x704.size a) (r : Fin n) (k : Fin 704) (h : o + r.val < 512) :
    (Rect.unit (s := S1x512x704) ![0, o, 0] ![1, n, 704] ho).toLoadRect.idx (ix3 0 r k) = (ix3 0 ⟨o + r, h⟩ k : S1x512x704.Idx) := by
  funext a; match a with
  | ⟨0, _⟩ => exact Fin.ext (by simp [Rect.unit, ix3])
  | ⟨1, _⟩ => exact Fin.ext (by simp [Rect.unit, ix3])
  | ⟨2, _⟩ => exact Fin.ext (by simp [Rect.unit, ix3])

theorem row_idx2 {C : ℕ} (n o : ℕ) (ho : ∀ a, (![o, 0] : Fin 2 → ℕ) a + (![n, C] : Fin 2 → ℕ) a ≤ (⟨2, ![512, C]⟩ : Shape).size a) (r : Fin n) (k : Fin C) (h : o + r.val < 512) :
    (Rect.unit (s := ⟨2, ![512, C]⟩) ![o, 0] ![n, C] ho).toLoadRect.idx (ix2 r k) = (ix2 ⟨o + r, h⟩ k : (⟨2, ![512, C]⟩ : Shape).Idx) := by
  funext a; match a with
  | ⟨0, _⟩ => exact Fin.ext (by simp [Rect.unit, ix2])
  | ⟨1, _⟩ => exact Fin.ext (by simp [Rect.unit, ix2])

theorem ld3_at (a : Memref sig .tc .vmem S1x512x704 .bf16) {g : a.view.ty.Contents (Elt Ideal)} {x : Vec Ideal S1x512x704 .bf16} (hx : a.view.read (Elt Ideal) g = x)
    (n : ℕ) (h : n < 16) (r : Fin 32) (k : Fin 704) : ld3 a g n h (ix3 0 r k) = x (ix3 0 ⟨32 * n + r, by omega⟩ k) := by
  rw [← hx, ← row_idx3 32 (32 * n) (inb3 n h) r k]
  rfl

theorem ld2_at (a : Memref sig .tc .vmem S512x1024 .f32) {g : a.view.ty.Contents (Elt Ideal)} {x : Vec Ideal S512x1024 .f32} (hx : a.view.read (Elt Ideal) g = x)
    (n : ℕ) (h : n < 16) (r : Fin 32) (k : Fin 1024) : ld2 a g n h (ix2 r k) = x (ix2 ⟨32 * n + r, by omega⟩ k) := by
  rw [← hx, ← row_idx2 (C := 1024) 32 (32 * n) (inb2 n h) r k]
  rfl

theorem ldS_at (a : Memref sig .tc .vmem S512x704 .f32) {g : a.view.ty.Contents (Elt Ideal)} {x : Vec Ideal S512x704 .f32} (hx : a.view.read (Elt Ideal) g = x)
    (n : ℕ) (h : n < 16) (r : Fin 32) (k : Fin 704) : ldS a g n h (ix2 r k) = x (ix2 ⟨32 * n + r, by omega⟩ k) := by
  rw [← hx, ← row_idx2 (C := 704) 32 (32 * n) (inbS n h) r k]
  rfl

theorem ldG_at (a : Memref sig .tc .vmem S1x1024 .f32) {g : a.view.ty.Contents (Elt Ideal)} {x : Vec Ideal S1x1024 .f32} (hx : a.view.read (Elt Ideal) g = x)
    (d : Fin 1024) : ldG a g (ix2 0 d) = x (ix2 0 d) := by
  have e : (Rect.unit (s := S1x1024) ![0, 0] S1x1024.size inb_S1x1024_S1x1024_0_0).toLoadRect.idx (ix2 0 d) = (ix2 0 d : S1x1024.Idx) := by
    funext a; match a with
    | ⟨0, _⟩ => exact Fin.ext (by simp [Rect.unit, ix2])
    | ⟨1, _⟩ => exact Fin.ext (by simp [Rect.unit, ix2])
  rw [← hx]
  exact congrArg (a.view.read (Elt Ideal) g) e

theorem ldW_at (a : Memref sig .tc .vmem S3x4x704x1024 .bf16) {g : a.view.ty.Contents (Elt Ideal)} {x : Vec Ideal S3x4x704x1024 .bf16} (hx : a.view.read (Elt Ideal) g = x)
    {o : Fin 4 → ℕ} (ho) (w : Fin 3) (q : Fin 4) (e : o = ![w.val, q.val, 0, 0]) (k : Fin 704) (d : Fin 1024) : ldW a g o ho (ix4 0 0 k d) = x (ix4 w q k d) := by
  subst e
  have e : (Rect.unit (s := S3x4x704x1024) ![w.val, q.val, 0, 0] S1x1x704x1024.size ho).toLoadRect.idx (ix4 0 0 k d) = (ix4 w q k d : S3x4x704x1024.Idx) := by
    funext a; match a with
    | ⟨0, _⟩ => exact Fin.ext (by simp [Rect.unit, ix4])
    | ⟨1, _⟩ => exact Fin.ext (by simp [Rect.unit, ix4])
    | ⟨2, _⟩ => exact Fin.ext (by simp [Rect.unit, ix4])
    | ⟨3, _⟩ => exact Fin.ext (by simp [Rect.unit, ix4])
  rw [← hx]
  exact congrArg (a.view.read (Elt Ideal) g) e

/-! ## The buffers after a point -/

theorem row_split (r : Fin 512) : (⟨32 * (r.val / 32) + r.val % 32, by omega⟩ : Fin 512) = r := Fin.ext (by show 32 * (r.val / 32) + r.val % 32 = r.val; omega)

section Buffers
variable {arg2 arg3 : Memref sig .tc .vmem S512x1024 .f32} {arg4 : Memref sig .tc .vmem S1x1024 .f32}
  {arg5 arg6 arg9 arg10 arg11 : Memref sig .tc .vmem S1x512x704 .bf16} {arg7 : Memref sig .tc .vmem S3x4x704x1024 .bf16}
  {arg8 : Memref sig .tc .vmem S512x1024 .f32} {arg12 arg13 : Memref sig .tc .vmem S512x1024 .bf16} {arg14 : Memref sig .tc .vmem S1x1024 .f32}
  {arg15 : Memref sig .tc .vmem S512x1024 .f32} {S : Memref sig .tc .vmem S512x704 .f32}
  {g2 : arg2.view.ty.Contents (Elt Ideal)} {g3 : arg3.view.ty.Contents (Elt Ideal)} {g4 : arg4.view.ty.Contents (Elt Ideal)}
  {g5 : arg5.view.ty.Contents (Elt Ideal)} {g6 : arg6.view.ty.Contents (Elt Ideal)} {g7 : arg7.view.ty.Contents (Elt Ideal)}
  {g13 : arg13.view.ty.Contents (Elt Ideal)} {g14 : arg14.view.ty.Contents (Elt Ideal)} {g15 : arg15.view.ty.Contents (Elt Ideal)} {gC : S.view.ty.Contents (Elt Ideal)}
  {x2 x3 : Vec Ideal S512x1024 .f32} {x4 : Vec Ideal S1x1024 .f32} {x5 x6 : Vec Ideal S1x512x704 .bf16} {x7 : Vec Ideal S3x4x704x1024 .bf16}
  {x13 : Vec Ideal S512x1024 .bf16} {x14 : Vec Ideal S1x1024 .f32} {x15 : Vec Ideal S512x1024 .f32} {xC : Vec Ideal S512x704 .f32}
  (h2 : arg2.view.read (Elt Ideal) g2 = x2) (h3 : arg3.view.read (Elt Ideal) g3 = x3) (h4 : arg4.view.read (Elt Ideal) g4 = x4)
  (h5 : arg5.view.read (Elt Ideal) g5 = x5) (h6 : arg6.view.read (Elt Ideal) g6 = x6) (h7 : arg7.view.read (Elt Ideal) g7 = x7)
  (h13 : arg13.view.read (Elt Ideal) g13 = x13) (h14 : arg14.view.read (Elt Ideal) g14 = x14) (h15 : arg15.view.read (Elt Ideal) g15 = x15)
  (hC : S.view.read (Elt Ideal) gC = xC)

section
include h5 h6 hC
theorem da_rows (v : View sig .tc .vmem S1x512x704 .bf16) (f : v.ty.Contents (Elt Ideal)) (n : ℕ) (hn : n ≤ 16) (r : Fin 512) (h : r.val < 32 * n) (k : Fin 704) :
    v.read (Elt Ideal) (v.writes (Elt Ideal) f (daL arg5 arg6 g5 g6 S gC n hn)) (ix3 0 r k) = daV x5 x6 xC (ix3 0 r k) := by
  unfold daL
  rw [rows3_read v _ f r k n hn h, da_at, ld3_at arg5 h5, ld3_at arg6 h6, ldS_at S hC]
  simp only [row_split]
  rfl

theorem da_read (f : arg9.view.ty.Contents (Elt Ideal)) : arg9.view.read (Elt Ideal) (arg9.view.writes (Elt Ideal) f (daL arg5 arg6 g5 g6 S gC 16 le_rfl)) = daV x5 x6 xC := by
  funext j
  obtain ⟨z, r, k, rfl⟩ : ∃ (z : Fin 1) (r : Fin 512) (k : Fin 704), j = ix3 z r k := ⟨j 0, j 1, j 2, by funext a; match a with | ⟨0, _⟩ => rfl | ⟨1, _⟩ => rfl | ⟨2, _⟩ => rfl⟩
  obtain rfl : z = 0 := Subsingleton.elim _ _
  exact da_rows h5 h6 hC _ f 16 le_rfl r (by omega) k
end

section
include h5 hC
theorem db_rows (v : View sig .tc .vmem S1x512x704 .bf16) (f : v.ty.Contents (Elt Ideal)) (n : ℕ) (hn : n ≤ 16) (r : Fin 512) (h : r.val < 32 * n) (k : Fin 704) :
    v.read (Elt Ideal) (v.writes (Elt Ideal) f (dbL arg5 g5 S gC n hn)) (ix3 0 r k) = dbV x5 xC (ix3 0 r k) := by
  unfold dbL
  rw [rows3_read v _ f r k n hn h, db_at, ld3_at arg5 h5, ldS_at S hC]
  simp only [row_split]
  rfl

theorem db_read (f : arg10.view.ty.Contents (Elt Ideal)) : arg10.view.read (Elt Ideal) (arg10.view.writes (Elt Ideal) f (dbL arg5 g5 S gC 16 le_rfl)) = dbV x5 xC := by
  funext j
  obtain ⟨z, r, k, rfl⟩ : ∃ (z : Fin 1) (r : Fin 512) (k : Fin 704), j = ix3 z r k := ⟨j 0, j 1, j 2, by funext a; match a with | ⟨0, _⟩ => rfl | ⟨1, _⟩ => rfl | ⟨2, _⟩ => rfl⟩
  obtain rfl : z = 0 := Subsingleton.elim _ _
  exact db_rows h5 hC _ f 16 le_rfl r (by omega) k
end

section
include h5 h6
theorem p_read (f : arg11.view.ty.Contents (Elt Ideal)) : arg11.view.read (Elt Ideal) (arg11.view.writes (Elt Ideal) f (pL arg5 arg6 g5 g6)) = pV x5 x6 := by
  funext j
  obtain ⟨z, r, k, rfl⟩ : ∃ (z : Fin 1) (r : Fin 512) (k : Fin 704), j = ix3 z r k := ⟨j 0, j 1, j 2, by funext a; match a with | ⟨0, _⟩ => rfl | ⟨1, _⟩ => rfl | ⟨2, _⟩ => rfl⟩
  obtain rfl : z = 0 := Subsingleton.elim _ _
  unfold pL
  rw [rows3_read _ _ f r k 16 le_rfl (by omega), p_at, ld3_at arg5 h5, ld3_at arg6 h6]
  simp only [row_split]
  rfl
end

/-- Two stores, of the upper and of the lower half of the rows. -/
theorem halves_read {C : ℕ} {e : EltTy} (v : View sig .tc .vmem (⟨2, ![512, C]⟩ : Shape) e) (f : v.ty.Contents (Elt Ideal)) (hi lo) (P Q : Vec Ideal ⟨2, ![256, C]⟩ e)
    (G : Vec Ideal (⟨2, ![512, C]⟩ : Shape) e) (hP : ∀ (r : Fin 256) (d : Fin C), P (ix2 r d) = G (ix2 ⟨256 + r, by omega⟩ d)) (hQ : ∀ (r : Fin 256) (d : Fin C), Q (ix2 r d) = G (ix2 ⟨r, by omega⟩ d)) :
    v.read (Elt Ideal) (v.writes (Elt Ideal) f [⟨Rect.unit (s := ⟨2, ![512, C]⟩) ![256, 0] ![256, C] hi, P⟩, ⟨Rect.unit (s := ⟨2, ![512, C]⟩) ![0, 0] ![256, C] lo, Q⟩]) = G := by
  funext j
  obtain ⟨r, d, rfl⟩ : ∃ (r : Fin 512) (d : Fin C), j = ix2 r d := ⟨j 0, j 1, by funext a; match a with | ⟨0, _⟩ => rfl | ⟨1, _⟩ => rfl⟩
  by_cases h : 256 ≤ r.val
  · refine (View.read_writes_cons_unit_of_mem (s := ⟨2, ![512, C]⟩) (size := ![256, C]) _ _ _ _ _ _ (ix2 ⟨r - 256, by omega⟩ d : (⟨2, ![256, C]⟩ : Shape).Idx) rfl ?_).trans ?_
    · intro a; match a with
      | ⟨0, _⟩ => exact (show r.val = 256 + (r - 256) by omega)
      | ⟨1, _⟩ => exact (show d.val = 0 + d.val by omega)
    · refine (hP _ d).trans (congrArg (fun a => G (ix2 a d)) (Fin.ext ?_))
      show 256 + (r.val - 256) = r; omega
  · refine (View.read_writes_cons_unit_of_not_mem (s := ⟨2, ![512, C]⟩) (size := ![256, C]) _ _ _ _ _ _ rfl 0 ?_).trans ?_
    · show r.val < 256 ∨ 256 + 256 ≤ r.val
      omega
    · refine (View.read_writes_cons_unit_of_mem (s := ⟨2, ![512, C]⟩) (size := ![256, C]) _ _ _ _ _ _ (ix2 ⟨r, by omega⟩ d : (⟨2, ![256, C]⟩ : Shape).Idx) rfl ?_).trans ?_
      · intro a; match a with
        | ⟨0, _⟩ => exact (show r.val = 0 + r.val by omega)
        | ⟨1, _⟩ => exact (show d.val = 0 + d.val by omega)
      · exact hQ _ d

section
include h7 h13
theorem dp_read {v : Memref sig .tc .vmem S512x704 .f32} (f : v.view.ty.Contents (Elt Ideal)) {o : Fin 4 → ℕ} (ho) (q : Fin 4) (e : o = ![2, q.val, 0, 0]) :
    v.view.read (Elt Ideal) (v.view.writes (Elt Ideal) f (dpL arg7 arg13 g7 g13 o ho)) = dpV x13 x7 q := by
  unfold dpL
  refine halves_read (C := 704) _ _ _ _ _ _ _ (fun r k => ?_) (fun r k => ?_)
  · rw [dp_at]
    refine Finset.sum_congr rfl fun d _ => ?_
    rw [ldW_at arg7 h7 ho 2 q e, ← h13]
    exact congrArg (fun z => arg13.view.read (Elt Ideal) g13 z * _) (row_idx2 (C := 1024) 256 256 _ r d (by omega))
  · rw [dp_at]
    refine Finset.sum_congr rfl fun d _ => ?_
    rw [ldW_at arg7 h7 ho 2 q e, ← h13]
    refine congrArg (fun z => arg13.view.read (Elt Ideal) g13 z * _) ((row_idx2 (C := 1024) 256 0 _ r d (by omega)).trans ?_)
    exact congrArg (fun a => ix2 a d) (Fin.ext (Nat.zero_add _))
end

section
include h5 h6 h7 h15 hC
theorem dh_read {v : View sig .tc .vmem S512x1024 .f32} (f : v.ty.Contents (Elt Ideal)) {oa ob : Fin 4 → ℕ} (ha) (hb) (q : Fin 4) (ea : oa = ![0, q.val, 0, 0]) (eb : ob = ![1, q.val, 0, 0]) :
    v.read (Elt Ideal) (v.writes (Elt Ideal) f (dhL arg5 arg6 arg7 arg9 arg10 arg15 g5 g6 g7 g15 S gC oa ob ha hb)) = dhV x15 x5 x6 xC x7 q := by
  unfold dhL
  refine halves_read (C := 1024) _ _ _ _ _ _ _ (fun r d => ?_) (fun r d => ?_)
  · rw [dh_at]
    refine congrArg₂ (· + ·) ?_ (congrArg₂ (· + ·) (Finset.sum_congr rfl fun k _ => congrArg₂ (· * ·) ?_ ?_) (Finset.sum_congr rfl fun k _ => congrArg₂ (· * ·) ?_ ?_))
    · rw [← h15]
      exact congrArg (arg15.view.read (Elt Ideal) g15) (row_idx2 (C := 1024) 256 256 _ r d (by omega))
    · exact (congrArg (arg9.view.read (Elt Ideal) _) (row_idx3 256 256 _ r k (by omega))).trans (da_rows h5 h6 hC arg9.view arg9.view.junk 16 le_rfl ⟨256 + r, by omega⟩ (by show 256 + r.val < 512; omega) k)
    · exact ldW_at arg7 h7 ha 0 q ea k d
    · exact (congrArg (arg10.view.read (Elt Ideal) _) (row_idx3 256 256 _ r k (by omega))).trans (db_rows h5 hC arg10.view arg10.view.junk 16 le_rfl ⟨256 + r, by omega⟩ (by show 256 + r.val < 512; omega) k)
    · exact ldW_at arg7 h7 hb 1 q eb k d
  · rw [dh_at]
    have e0 : ∀ h, (⟨0 + r.val, h⟩ : Fin 512) = ⟨r, by omega⟩ := fun _ => Fin.ext (Nat.zero_add _)
    refine congrArg₂ (· + ·) ?_ (congrArg₂ (· + ·) (Finset.sum_congr rfl fun k _ => congrArg₂ (· * ·) ?_ ?_) (Finset.sum_congr rfl fun k _ => congrArg₂ (· * ·) ?_ ?_))
    · rw [← h15]
      exact congrArg (arg15.view.read (Elt Ideal) g15) ((row_idx2 (C := 1024) 256 0 _ r d (by omega)).trans (congrArg (fun a => ix2 a d) (e0 _)))
    · exact (congrArg (arg9.view.read (Elt Ideal) _) ((row_idx3 256 0 _ r k (by omega)).trans (congrArg (fun a => ix3 0 a k) (e0 _)))).trans (da_rows h5 h6 hC arg9.view arg9.view.junk 8 (by decide) ⟨r, by omega⟩ (by show r.val < 256; omega) k)
    · exact ldW_at arg7 h7 ha 0 q ea k d
    · exact (congrArg (arg10.view.read (Elt Ideal) _) ((row_idx3 256 0 _ r k (by omega)).trans (congrArg (fun a => ix3 0 a k) (e0 _)))).trans (db_rows h5 hC arg10.view arg10.view.junk 8 (by decide) ⟨r, by omega⟩ (by show r.val < 256; omega) k)
    · exact ldW_at arg7 h7 hb 1 q eb k d
end

theorem idx2_eta {A B : ℕ} (j : (⟨2, ![A, B]⟩ : Shape).Idx) : ∃ (r : Fin A) (d : Fin B), j = ix2 r d :=
  ⟨j 0, j 1, by funext a; match a with | ⟨0, _⟩ => rfl | ⟨1, _⟩ => rfl⟩

section
include h3 h4
theorem hb_read (f : arg12.view.ty.Contents (Elt Ideal)) : arg12.view.read (Elt Ideal) (arg12.view.writes (Elt Ideal) f (hbL arg3 arg4 g3 g4)) = hbV x3 x4 := by
  funext j
  obtain ⟨r, d, rfl⟩ := idx2_eta j
  unfold hbL
  rw [rows2_read _ _ f r d 16 le_rfl (by omega), hb_at, ldG_at arg4 h4]
  simp only [ld2_at arg3 h3, row_split]
  rfl
end

section
include h2
theorem dy_read (f : arg13.view.ty.Contents (Elt Ideal)) : arg13.view.read (Elt Ideal) (arg13.view.writes (Elt Ideal) f (dyL arg2 g2)) = dyV x2 := by
  funext j
  obtain ⟨r, d, rfl⟩ := idx2_eta j
  unfold dyL
  rw [rows2_read _ _ f r d 16 le_rfl (by omega), dy_at, ld2_at arg2 h2]
  simp only [row_split]
  rfl
end

/-- One store of the whole buffer. -/
theorem whole_read {A B : ℕ} {e : EltTy} (v : View sig .tc .vmem (⟨2, ![A, B]⟩ : Shape) e) (f : v.ty.Contents (Elt Ideal)) (h) (P : Vec Ideal ⟨2, ![A, B]⟩ e) :
    v.read (Elt Ideal) (v.writes (Elt Ideal) f [⟨Rect.unit (s := ⟨2, ![A, B]⟩) ![0, 0] ![A, B] h, P⟩]) = P := by
  funext j
  refine (View.read_writes_cons_unit_of_mem (s := ⟨2, ![A, B]⟩) (size := ![A, B]) _ _ _ _ _ _ j rfl ?_)
  intro a; match a with
  | ⟨0, _⟩ => exact (Nat.zero_add _).symm
  | ⟨1, _⟩ => exact (Nat.zero_add _).symm

theorem zero_read (v : View sig .tc .vmem S512x1024 .f32) (f : v.ty.Contents (Elt Ideal)) : v.read (Elt Ideal) (v.writes (Elt Ideal) f zeroL) = zeroV :=
  (whole_read (A := 512) (B := 1024) v f _ _).trans (funext fun j => zero_at j)

section
variable {L : List (View.Piece (Elt Ideal) S512x1024 .f32)} {h : Vec Ideal S512x1024 .f32}
  (hL : arg15.view.read (Elt Ideal) (arg15.view.writes (Elt Ideal) arg15.view.junk L) = h)
include hL
theorem dhRows_at (n : ℕ) (hn : n < 16) (r : Fin 32) (d : Fin 1024) : dhRows arg15 L n hn (ix2 r d) = h (ix2 ⟨32 * n + r, by omega⟩ d) := by
  rw [← hL, ← row_idx2 (C := 1024) 32 (32 * n) (inb2 n hn) r d]
  rfl

include h2 h3 h4 in
theorem dx_read (f : arg8.view.ty.Contents (Elt Ideal)) : arg8.view.read (Elt Ideal) (arg8.view.writes (Elt Ideal) f (dxL arg2 arg3 arg4 arg15 g2 g3 g4 L)) = dxV x2 x3 x4 h := by
  funext j
  obtain ⟨r, d, rfl⟩ := idx2_eta j
  unfold dxL
  rw [rows2_read _ _ f r d 16 le_rfl (by omega), dx_at]
  simp only [ld2_at arg3 h3, ld2_at arg2 h2, ldG_at arg4 h4, dhRows_at hL, row_split]
  rfl

include h3 in
theorem dgSum_at (d : Fin 1024) : ∀ (n : ℕ) (hn : n ≤ 16), dgSum arg3 arg15 g3 L n hn (ix2 0 d) = ∑ k ∈ Finset.range n, ∑ r : Fin 32, dgRow x3 h ⟨(32 * k + r) % 512, by omega⟩ d
  | 0, _ => by
    rw [Finset.range_zero, Finset.sum_empty]
    unfold dgSum
    pointwise []
  | n + 1, hn => by
    unfold dgSum
    rw [dg_at, dgSum_at d n (by omega), Finset.sum_range_succ]
    refine congrArg _ (Finset.sum_congr rfl fun r _ => ?_)
    have e : (⟨(32 * n + r.val) % 512, by omega⟩ : Fin 512) = ⟨32 * n + r, by omega⟩ := Fin.ext (Nat.mod_eq_of_lt (by omega))
    rw [e]
    simp only [ld2_at arg3 h3, dhRows_at hL]
    rfl

include h3 h14 in
theorem dg_read (f : arg14.view.ty.Contents (Elt Ideal)) : arg14.view.read (Elt Ideal) (arg14.view.writes (Elt Ideal) f (dgL arg3 arg14 arg15 g3 g14 L)) = dgV x14 x3 h := by
  refine (whole_read (A := 1) (B := 1024) _ f _ _).trans (funext fun j => ?_)
  obtain ⟨z, d, rfl⟩ := idx2_eta j
  obtain rfl : z = 0 := Subsingleton.elim _ _
  have e1 : addf (shapeCast S1x1024 (ldG arg14 g14) shapeCasts_S1x1024_S1x1024) (dgSum arg3 arg15 g3 L 16 le_rfl) (ix2 0 d) = ldG arg14 g14 (ix2 0 d) + dgSum arg3 arg15 g3 L 16 le_rfl (ix2 0 d) := by
    pointwise []
  rw [e1, ldG_at arg14 h14, dgSum_at h3 hL]
  show _ = x14 (ix2 0 d) + ∑ r : Fin 512, dgRow x3 h r d
  refine congrArg _ ?_
  rw [Finset.sum_range, ← Equiv.sum_comp (finProdFinEquiv (m := 16) (n := 32)), Fintype.sum_prod_type]
  refine Finset.sum_congr rfl fun k _ => Finset.sum_congr rfl fun r _ => congrArg (fun a => dgRow x3 h a d) (Fin.ext ?_)
  show (32 * k.val + r.val) % 512 = r.val + 32 * k.val
  omega
end

end Buffers

end Cert.FfnBwdIdeal.Gen

end
-- ==== Proof.FfnBwdSlots.lean ====
/- The feed forward gradient: the two slots of the scratch buffer. -/
module

public import proofs.«01_k».proof.Proof.FfnBwdVals
import Idealize.ShloMosaic.Lib.Ring
import Idealize.ShloMosaic.Lib.WritesUnit

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! ## The two slots of the scratch buffer -/

section Slots
variable (c : Dev nD) (arg16 : Memref sig .tc .vmem S2x512x704 .f32)

theorem inbQ (q : Fin 2) : ∀ a, (![q.val, 0, 0] : Fin 3 → ℕ) a + S1x512x704.size a ≤ S2x512x704.size a := by
  intro a; match a with
  | ⟨0, _⟩ => exact (show q.val + 1 ≤ 2 by omega)
  | ⟨1, _⟩ => exact (by decide : 0 + 512 ≤ 512)
  | ⟨2, _⟩ => exact (by decide : 0 + 704 ≤ 704)

theorem of_eq {P Q : sProp 𝕄} (e : P = Q) : P ⊢ Q := e ▸ .rfl

/-- A slot by its number. -/
abbrev slotQ (q : Fin 2) : Memref sig .tc .vmem S512x704 .f32 := slotM arg16 ![q.val, 0, 0] (inbQ q)

theorem slot_owns {o o' : Fin 3 → ℕ} (e : o = o') (ho ho') (X : Vec Ideal S512x704 .f32) :
    (owns (c : Thread nD τ) (slotM arg16 o ho) fullShare X : sProp 𝕄) = owns (c : Thread nD τ) (slotM arg16 o' ho') fullShare X := by
  subst e; rfl

theorem slot_set (q : Fin 2) : (slotQ arg16 q).view.set = (Rect.unit (s := S2x512x704) ![q.val, 0, 0] S1x512x704.size (inbQ q)).set.map arg16.view.emb :=
  (Memref.set_view_squeeze _ squeezes_S1x512x704_S512x704).trans (View.set_slice _ _)

theorem slot_read (q : Fin 2) (g : arg16.view.ty.Contents (Elt Ideal)) :
    (slotQ arg16 q).view.read (Elt Ideal) g = fun j => arg16.view.read (Elt Ideal) g (ix3 q (j 0) (j 1)) := by
  refine (Memref.read_squeeze_slice arg16 _ (fun _ => rfl) squeezes_S1x512x704_S512x704 shapeCasts_S1x512x704_S512x704 g).trans (funext fun j => ?_)
  obtain ⟨r, d, rfl⟩ := idx2_eta j
  have e : (Rect.unit (s := S2x512x704) ![q.val, 0, 0] S1x512x704.size (inbQ q)).toLoadRect.idx (ix3 0 r d) = (ix3 q r d : S2x512x704.Idx) := by
    funext a; match a with
    | ⟨0, _⟩ => exact Fin.ext (by simp [Rect.unit, ix3])
    | ⟨1, _⟩ => exact Fin.ext (by simp [Rect.unit, ix3])
    | ⟨2, _⟩ => exact Fin.ext (by simp [Rect.unit, ix3])
  have h : ∀ z : Vec Ideal S1x512x704 .f32, shapeCast S512x704 z shapeCasts_S1x512x704_S512x704 (ix2 r d) = z (ix3 0 r d) := fun z => by pointwise []
  exact (h _).trans (congrArg (arg16.view.read (Elt Ideal) g) e)

theorem slots_disjoint (q q' : Fin 2) (h : q ≠ q') : Disjoint (slotQ arg16 q).view.set (slotQ arg16 q').view.set := by
  rw [slot_set, slot_set]
  exact (Finset.disjoint_map _).mpr (Ring.lead_disjoint (s := S2x512x704) 0 1 (fun b : Fin 2 => ![b.val, 0, 0]) S1x512x704.size inbQ (fun b => (Nat.one_mul _).symm) rfl q q' h)

theorem slots_cover : Finset.univ.biUnion (fun q => (slotQ arg16 q).view.set) = arg16.view.set := by
  have h := Ring.lead_cover (s := S2x512x704) 0 1 (fun b : Fin 2 => ![b.val, 0, 0]) S1x512x704.size inbQ (fun b => (Nat.one_mul _).symm)
    (fun b a ha => by match a with | ⟨0, _⟩ => exact absurd rfl ha | ⟨1, _⟩ => rfl | ⟨2, _⟩ => rfl) rfl
    (fun a ha => by match a with | ⟨0, _⟩ => exact absurd rfl ha | ⟨1, _⟩ => rfl | ⟨2, _⟩ => rfl) rfl
  rw [show (fun q => (slotQ arg16 q).view.set) = _ from funext (slot_set arg16)]
  ext x
  simp only [Finset.mem_biUnion, Finset.mem_univ, true_and, Finset.mem_map, View.set]
  constructor
  · rintro ⟨q, y, _, e⟩; exact ⟨y, e⟩
  · rintro ⟨y, e⟩
    have hy := Finset.mem_univ y
    rw [← h, Finset.mem_biUnion] at hy
    obtain ⟨q, _, hq⟩ := hy
    exact ⟨q, y, hq, e⟩

abbrev pt16 (S : Finset arg16.view.ty.Idx) (g : arg16.view.ty.Contents (Elt Ideal)) : sProp 𝕄 := arg16.view.loc (c : Thread nD τ) ↦[S]{fullShare} g

theorem pt_split (g : arg16.view.ty.Contents (Elt Ideal)) :
    pt16 c arg16 arg16.view.set g = iprop(pt16 c arg16 (slotQ arg16 0).view.set g ∗ pt16 c arg16 (slotQ arg16 1).view.set g) :=
  (Ring.pointsTo_sub_blocks (ℓ := arg16.view.loc (c : Thread nD τ)) (Ix := Unit) (Name := ℕ) (U := UR sig nD τ) (Lvl := ℕ) (Val := Elt Ideal) (q := fullShare)
    (fun q : Fin 2 => (slotQ arg16 q).view.set) (slots_disjoint arg16) arg16.view.set (slots_cover arg16) g).trans (Ring.bigSep_fin2 _)

theorem pt_join (g0 g1 : arg16.view.ty.Contents (Elt Ideal)) :
    iprop(pt16 c arg16 (slotQ arg16 0).view.set g0 ∗ pt16 c arg16 (slotQ arg16 1).view.set g1) ⊢ iprop(∃ g, pt16 c arg16 arg16.view.set g) := by
  refine .trans ?_ (Ring.pointsTo_sub_blocks_join_exists (ℓ := arg16.view.loc (c : Thread nD τ)) (Ix := Unit) (Name := ℕ) (U := UR sig nD τ) (Lvl := ℕ) (Val := Elt Ideal) (q := fullShare)
    (fun q : Fin 2 => (slotQ arg16 q).view.set) (slots_disjoint arg16) arg16.view.set (slots_cover arg16) g0)
  rw [Ring.bigSep_fin2]
  iintro ⟨H0, H1⟩
  isplitl [H0]
  · iexists g0; iexact H0
  iexists g1; iexact H1

/-- Owning the buffer is owning its slots. -/
theorem slots_split (X : Vec Ideal S2x512x704 .f32) :
    (owns (c : Thread nD τ) arg16 fullShare X : sProp 𝕄)
      ⊢ iprop(owns (c : Thread nD τ) (slotQ arg16 0) fullShare (fun j => X (ix3 0 (j 0) (j 1))) ∗ owns (c : Thread nD τ) (slotQ arg16 1) fullShare (fun j => X (ix3 1 (j 0) (j 1)))) := by
  unfold owns
  iintro ⟨%g, %hg, H⟩
  ihave H2 := (of_eq (pt_split c arg16 g)) $$ H
  icases H2 with ⟨H0, H1⟩
  isplitl [H0]
  · iexists g; isplitr
    swap; · iexact H0
    ipureintro; exact (slot_read arg16 0 g).trans (by rw [hg])
  iexists g; isplitr
  swap; · iexact H1
  ipureintro; exact (slot_read arg16 1 g).trans (by rw [hg])

/-- Owning both slots is owning the buffer. -/
theorem slots_join (X Y : Vec Ideal S512x704 .f32) :
    iprop(owns (c : Thread nD τ) (slotQ arg16 0) fullShare X ∗ owns (c : Thread nD τ) (slotQ arg16 1) fullShare Y)
      ⊢ (iprop(∃ d, owns (c : Thread nD τ) arg16 fullShare d) : sProp 𝕄) := by
  unfold owns
  iintro ⟨⟨%g0, -, H0⟩, ⟨%g1, -, H1⟩⟩
  ihave H := (pt_join c arg16 g0 g1) $$ [H0 H1]
  · isplitl [H0]
    · iexact H0
    iexact H1
  icases H with ⟨%g, H⟩
  iexists _; iexists g; isplitr
  swap; · iexact H
  ipureintro; rfl

end Slots

/-- The first block's product, read off the slot it was stored to. -/
theorem first_read {arg2 : Memref sig .tc .vmem S512x1024 .f32} {arg7 : Memref sig .tc .vmem S3x4x704x1024 .bf16} {arg13 : Memref sig .tc .vmem S512x1024 .bf16} {arg16 : Memref sig .tc .vmem S2x512x704 .f32}
    {g2 : arg2.view.ty.Contents (Elt Ideal)} {g7 : arg7.view.ty.Contents (Elt Ideal)} {x2 : Vec Ideal S512x1024 .f32} {x7 : Vec Ideal S3x4x704x1024 .bf16}
    (h2 : arg2.view.read (Elt Ideal) g2 = x2) (h7 : arg7.view.read (Elt Ideal) g7 = x7) (f : arg16.view.ty.Contents (Elt Ideal))
    {o : Fin 3 → ℕ} (ho) (p : Fin 2) (e : o = ![p.val, 0, 0]) :
    (fun j : S512x704.Idx => arg16.view.read (Elt Ideal) (arg16.view.writes (Elt Ideal) f (firstL arg2 arg7 arg13 g2 g7 o ho)) (ix3 p (j 0) (j 1))) = dpV (dyV x2) x7 0 := by
  funext j
  obtain ⟨r, k, rfl⟩ := idx2_eta j
  subst e
  refine (View.read_writes_cons_unit_of_mem (s := S2x512x704) (size := S1x512x704.size) _ _ _ _ _ _ (ix3 0 r k : S1x512x704.Idx) rfl ?_).trans ?_
  · intro a; match a with
    | ⟨0, _⟩ => exact rfl
    | ⟨1, _⟩ => exact (show r.val = 0 + r.val by omega)
    | ⟨2, _⟩ => exact (show k.val = 0 + k.val by omega)
  · rw [dp0_at]
    refine Finset.sum_congr rfl fun d _ => congrArg₂ (· * ·) ?_ (ldW_at arg7 h7 _ 2 0 rfl k d)
    have e : (Rect.unit (s := S512x1024) ![0, 0] S512x1024.size inb_S512x1024_S512x1024_0_0).toLoadRect.idx (ix2 r d) = (ix2 r d : S512x1024.Idx) := by
      funext a; match a with
      | ⟨0, _⟩ => exact Fin.ext (by simp [Rect.unit, ix2])
      | ⟨1, _⟩ => exact Fin.ext (by simp [Rect.unit, ix2])
    exact (congrArg (arg13.view.read (Elt Ideal) _) e).trans (congrFun (dy_read h2 _) _)

end Cert.FfnBwdIdeal.Gen

end
-- ==== Proof.FfnBwdOwns.lean ====
/- The feed forward gradient: what the body does to the buffers it owns, in real arithmetic. -/
module

public import proofs.«01_k».proof.Proof.FfnBwdSlots

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

section Runs
variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

set_option maxHeartbeats 4000000 in
/-- A block of columns that is not the last of its tile. -/
theorem block_owns (hc2 : cond0_2 i) (hc3 : ¬cond0_3 i) (hc4 : ¬cond0_4 i) (p p' : Fin 2) (q q' : Fin 4)
    (e2 : k0_off2 i = ![p.val, 0, 0]) (e4 : k0_off4 i = ![p'.val, 0, 0]) (e5 : k0_off5 i = ![0, q.val, 0, 0]) (e6 : k0_off6 i = ![1, q.val, 0, 0]) (e3 : k0_off3 i = ![2, q'.val, 0, 0])
    (x5 : Vec Ideal S1x512x704 .bf16) (x6 : Vec Ideal S1x512x704 .bf16) (x7 : Vec Ideal S3x4x704x1024 .bf16) (x13 : Vec Ideal S512x1024 .bf16) (x15 : Vec Ideal S512x1024 .f32) (xC : Vec Ideal S512x704 .f32) (E : Set ℕ) (K : PUnit → sProp 𝕄) (r0 r1 r2 : BitVec 32) :
    iprop(owns (c : Thread nD τ) arg5 fullShare x5
        ∗ owns (c : Thread nD τ) arg6 fullShare x6
        ∗ owns (c : Thread nD τ) arg7 fullShare x7
        ∗ owns (c : Thread nD τ) arg13 fullShare x13
        ∗ owns (c : Thread nD τ) arg15 fullShare x15
        ∗ owns (c : Thread nD τ) (slotQ arg16 p) fullShare xC
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) (slotQ arg16 p') fullShare d)
        ∗ (iprop(owns (c : Thread nD τ) arg5 fullShare x5
        ∗ owns (c : Thread nD τ) arg6 fullShare x6
        ∗ owns (c : Thread nD τ) arg7 fullShare x7
        ∗ owns (c : Thread nD τ) arg13 fullShare x13
        ∗ owns (c : Thread nD τ) arg15 fullShare (dhV x15 x5 x6 xC x7 q)
        ∗ owns (c : Thread nD τ) (slotQ arg16 p) fullShare xC
        ∗ owns (c : Thread nD τ) arg9 fullShare (daV x5 x6 xC)
        ∗ owns (c : Thread nD τ) arg10 fullShare (dbV x5 xC)
        ∗ owns (c : Thread nD τ) arg11 fullShare (pV x5 x6)
        ∗ owns (c : Thread nD τ) (slotQ arg16 p') fullShare (dpV x13 x7 q')) -∗ K ⟨⟩))
      ⊢ wp frame (wpE (defs₀ (F := Ideal)) Variants.none c none) E ((second (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16).1 ⟨r0, r1, r2⟩) K := by
  simp only [slot_owns c arg16 e2.symm (inbQ p) (k0_off2_inb i hc2), slot_owns c arg16 e4.symm (inbQ p') (k0_off4_inb i hc2)]
  unfold owns
  iintro ⟨⟨%g5, %h5, H5⟩, ⟨%g6, %h6, H6⟩, ⟨%g7, %h7, H7⟩, ⟨%g13, %h13, H13⟩, ⟨%g15, %h15, H15⟩, ⟨%gC, %hC, HC⟩, ⟨%d9, ⟨%g9, %h9, H9⟩⟩, ⟨%d10, ⟨%g10, %h10, H10⟩⟩, ⟨%d11, ⟨%g11, %h11, H11⟩⟩, ⟨%dN, ⟨%gN, %hN, HN⟩⟩, Hk⟩
  iapply ((blockRun c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g5 g6 g7 g13 g15 gC).2.2.2.2.2 g9 g10 g11 gN r0 r1 r2 E K)
  isplitl [H5]; · iexact H5
  isplitl [H6]; · iexact H6
  isplitl [H7]; · iexact H7
  isplitl [H13]; · iexact H13
  isplitl [H15]; · iexact H15
  isplitl [HC]; · iexact HC
  isplitl [H9]; · iexact H9
  isplitl [H10]; · iexact H10
  isplitl [H11]; · iexact H11
  isplitl [HN]; · iexact HN
  iintro ⟨H5, H6, H7, H13, H15, HC, H9, H10, H11, HN⟩
  iapply Hk
  isplitl [H5]
  · iexists _; isplitr
    swap; · iexact H5
    ipureintro; exact h5
  isplitl [H6]
  · iexists _; isplitr
    swap; · iexact H6
    ipureintro; exact h6
  isplitl [H7]
  · iexists _; isplitr
    swap; · iexact H7
    ipureintro; exact h7
  isplitl [H13]
  · iexists _; isplitr
    swap; · iexact H13
    ipureintro; exact h13
  isplitl [H15]
  · iexists _; isplitr
    swap; · iexact H15
    ipureintro; rw [block_dh]; exact dh_read h5 h6 h7 h15 hC _ _ _ q e5 e6
  isplitl [HC]
  · iexists _; isplitr
    swap; · iexact HC
    ipureintro; exact hC
  isplitl [H9]
  · iexists _; isplitr
    swap; · iexact H9
    ipureintro; rw [block_da]; exact da_read h5 h6 hC _
  isplitl [H10]
  · iexists _; isplitr
    swap; · iexact H10
    ipureintro; rw [block_db]; exact db_read h5 hC _
  isplitl [H11]
  · iexists _; isplitr
    swap; · iexact H11
    ipureintro; rw [block_p]; exact p_read h5 h6 _
  iexists _; isplitr
  swap; · iexact HN
  ipureintro; rw [block_dp]; exact dp_read h7 h13 _ _ q' e3

set_option maxHeartbeats 4000000 in
/-- The last block of columns of a tile. -/
theorem last_owns (hc2 : ¬cond0_2 i) (hc3 : cond0_3 i) (hc4 : cond0_4 i) (p : Fin 2) (q : Fin 4)
    (e7 : k0_off7 i = ![p.val, 0, 0]) (e8 : k0_off8 i = ![0, q.val, 0, 0]) (e9 : k0_off9 i = ![1, q.val, 0, 0])
    (x2 : Vec Ideal S512x1024 .f32) (x3 : Vec Ideal S512x1024 .f32) (x4 : Vec Ideal S1x1024 .f32) (x5 : Vec Ideal S1x512x704 .bf16) (x6 : Vec Ideal S1x512x704 .bf16) (x7 : Vec Ideal S3x4x704x1024 .bf16) (x15 : Vec Ideal S512x1024 .f32) (xC : Vec Ideal S512x704 .f32) (x14 : Vec Ideal S1x1024 .f32) (E : Set ℕ) (K : PUnit → sProp 𝕄) (r0 r1 r2 : BitVec 32) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg15 fullShare x15
        ∗ owns (c : Thread nD τ) (slotQ arg16 p) fullShare xC
        ∗ owns (c : Thread nD τ) arg14 fullShare x14
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg15 fullShare (dhV x15 x5 x6 xC x7 q)
        ∗ owns (c : Thread nD τ) (slotQ arg16 p) fullShare xC
        ∗ owns (c : Thread nD τ) arg14 fullShare (dgV x14 x3 (dhV x15 x5 x6 xC x7 q))
        ∗ owns (c : Thread nD τ) arg8 fullShare (dxV x2 x3 x4 (dhV x15 x5 x6 xC x7 q))
        ∗ owns (c : Thread nD τ) arg9 fullShare (daV x5 x6 xC)
        ∗ owns (c : Thread nD τ) arg10 fullShare (dbV x5 xC)
        ∗ owns (c : Thread nD τ) arg11 fullShare (pV x5 x6)) -∗ K ⟨⟩))
      ⊢ wp frame (wpE (defs₀ (F := Ideal)) Variants.none c none) E ((second (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16).1 ⟨r0, r1, r2⟩) K := by
  simp only [slot_owns c arg16 e7.symm (inbQ p) (k0_off7_inb i hc3)]
  unfold owns
  iintro ⟨⟨%g2, %h2, H2⟩, ⟨%g3, %h3, H3⟩, ⟨%g4, %h4, H4⟩, ⟨%g5, %h5, H5⟩, ⟨%g6, %h6, H6⟩, ⟨%g7, %h7, H7⟩, ⟨%g15, %h15, H15⟩, ⟨%gC, %hC, HC⟩, ⟨%g14, %h14, H14⟩, ⟨%d8, ⟨%g8, %h8, H8⟩⟩, ⟨%d9, ⟨%g9, %h9, H9⟩⟩, ⟨%d10, ⟨%g10, %h10, H10⟩⟩, ⟨%d11, ⟨%g11, %h11, H11⟩⟩, Hk⟩
  iapply ((lastRun c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 g2 g3 g4 g5 g6 g7 g15 gC g14).2.2.2.2.2.2 g8 g9 g10 g11 r0 r1 r2 E K)
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [HC]; · iexact HC
  isplitl [H14]; · iexact H14
  isplitl [H8]; · iexact H8
  isplitl [H9]; · iexact H9
  isplitl [H10]; · iexact H10
  isplitl [H11]; · iexact H11
  iintro ⟨H2, H3, H4, H5, H6, H7, H15, HC, H14, H8, H9, H10, H11⟩
  iapply Hk
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H5]
  · iexists _; isplitr
    swap; · iexact H5
    ipureintro; exact h5
  isplitl [H6]
  · iexists _; isplitr
    swap; · iexact H6
    ipureintro; exact h6
  isplitl [H7]
  · iexists _; isplitr
    swap; · iexact H7
    ipureintro; exact h7
  isplitl [H15]
  · iexists _; isplitr
    swap; · iexact H15
    ipureintro; rw [last_dh]; exact dh_read h5 h6 h7 h15 hC _ _ _ q e8 e9
  isplitl [HC]
  · iexists _; isplitr
    swap; · iexact HC
    ipureintro; exact hC
  isplitl [H14]
  · iexists _; isplitr
    swap; · iexact H14
    ipureintro; rw [last_dg]; exact dg_read h3 h14 (dh_read h5 h6 h7 h15 hC _ _ _ q e8 e9) _
  isplitl [H8]
  · iexists _; isplitr
    swap; · iexact H8
    ipureintro; rw [last_dx]; exact dx_read h2 h3 h4 (dh_read h5 h6 h7 h15 hC _ _ _ q e8 e9) _
  isplitl [H9]
  · iexists _; isplitr
    swap; · iexact H9
    ipureintro; rw [last_da]; exact da_read h5 h6 hC _
  isplitl [H10]
  · iexists _; isplitr
    swap; · iexact H10
    ipureintro; rw [last_db]; exact db_read h5 hC _
  iexists _; isplitr
  swap; · iexact H11
  ipureintro; rw [last_p]; exact p_read h5 h6 _

set_option maxHeartbeats 4000000 in
/-- The start of a later tile. -/
theorem start_owns (hc0 : ¬cond0_0 i) (hc1 : cond0_1 i) (p : Fin 2) (e1 : k0_off1 i = ![p.val, 0, 0])
    (x2 : Vec Ideal S512x1024 .f32) (x3 : Vec Ideal S512x1024 .f32) (x4 : Vec Ideal S1x1024 .f32) (x7 : Vec Ideal S3x4x704x1024 .bf16) (E : Set ℕ) (K : (Σ' (_ : BitVec 32) (_ : BitVec 32), BitVec 32) → sProp 𝕄) :
    iprop(owns (c : Thread nD τ) arg2 fullShare x2
        ∗ owns (c : Thread nD τ) arg3 fullShare x3
        ∗ owns (c : Thread nD τ) arg4 fullShare x4
        ∗ owns (c : Thread nD τ) arg7 fullShare x7
        ∗ (∃ d, owns (c : Thread nD τ) arg12 fullShare d)
        ∗ (∃ d, owns (c : Thread nD τ) arg13 fullShare d)
        ∗ (∃ d, owns (c : Thread nD τ) arg15 fullShare d)
        ∗ (∃ d, owns (c : Thread nD τ) arg16 fullShare d)
        ∗ (∀ r, iprop(owns (c : Thread nD τ) arg2 fullShare x2
        ∗ owns (c : Thread nD τ) arg3 fullShare x3
        ∗ owns (c : Thread nD τ) arg4 fullShare x4
        ∗ owns (c : Thread nD τ) arg7 fullShare x7
        ∗ owns (c : Thread nD τ) arg12 fullShare (hbV x3 x4)
        ∗ owns (c : Thread nD τ) arg13 fullShare (dyV x2)
        ∗ owns (c : Thread nD τ) arg15 fullShare zeroV
        ∗ (∃ X, ⌜(fun j : S512x704.Idx => X (ix3 p (j 0) (j 1))) = dpV (dyV x2) x7 0⌝ ∗ owns (c : Thread nD τ) arg16 fullShare X)) -∗ K r))
      ⊢ wp frame (wpE (defs₀ (F := Ideal)) Variants.none c none) E (k0_part56 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%g2, %h2, H2⟩, ⟨%g3, %h3, H3⟩, ⟨%g4, %h4, H4⟩, ⟨%g7, %h7, H7⟩, ⟨%d12, ⟨%g12, %h12, H12⟩⟩, ⟨%d13, ⟨%g13, %h13, H13⟩⟩, ⟨%d15, ⟨%g15, %h15, H15⟩⟩, ⟨%d16, ⟨%g16, %h16, H16⟩⟩, Hk⟩
  iapply ((startRun c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.2.2.2 g12 g13 g15 g16 E K)
  isplitl [H2]; · iexact H2
  isplitl [H3]; · iexact H3
  isplitl [H4]; · iexact H4
  isplitl [H7]; · iexact H7
  isplitl [H12]; · iexact H12
  isplitl [H13]; · iexact H13
  isplitl [H15]; · iexact H15
  isplitl [H16]; · iexact H16
  iintro ⟨H2, H3, H4, H7, H12, H13, H15, H16⟩
  iapply Hk
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H7]
  · iexists _; isplitr
    swap; · iexact H7
    ipureintro; exact h7
  isplitl [H12]
  · iexists _; isplitr
    swap; · iexact H12
    ipureintro; rw [start_hb]; exact hb_read h3 h4 _
  isplitl [H13]
  · iexists _; isplitr
    swap; · iexact H13
    ipureintro; rw [start_dy]; exact dy_read h2 _
  isplitl [H15]
  · iexists _; isplitr
    swap; · iexact H15
    ipureintro; rw [start_zero]; exact zero_read _ _
  iexists _; isplitr
  swap
  · iexists _; isplitr
    swap; · iexact H16
    ipureintro; rfl
  ipureintro; rw [start_dp]; exact first_read h2 h7 _ _ p e1

set_option maxHeartbeats 4000000 in
/-- The start of the first tile. -/
theorem first_owns (hc0 : cond0_0 i) (hc1 : cond0_1 i) (p : Fin 2) (e1 : k0_off1 i = ![p.val, 0, 0])
    (x2 : Vec Ideal S512x1024 .f32) (x3 : Vec Ideal S512x1024 .f32) (x4 : Vec Ideal S1x1024 .f32) (x7 : Vec Ideal S3x4x704x1024 .bf16) (E : Set ℕ) (K : (Σ' (_ : BitVec 32) (_ : BitVec 32), BitVec 32) → sProp 𝕄) :
    iprop(owns (c : Thread nD τ) arg2 fullShare x2
        ∗ owns (c : Thread nD τ) arg3 fullShare x3
        ∗ owns (c : Thread nD τ) arg4 fullShare x4
        ∗ owns (c : Thread nD τ) arg7 fullShare x7
        ∗ (∃ d, owns (c : Thread nD τ) arg12 fullShare d)
        ∗ (∃ d, owns (c : Thread nD τ) arg13 fullShare d)
        ∗ (∃ d, owns (c : Thread nD τ) arg15 fullShare d)
        ∗ (∃ d, owns (c : Thread nD τ) arg16 fullShare d)
        ∗ (∃ d, owns (c : Thread nD τ) arg14 fullShare d)
        ∗ (∀ r, iprop(owns (c : Thread nD τ) arg2 fullShare x2
        ∗ owns (c : Thread nD τ) arg3 fullShare x3
        ∗ owns (c : Thread nD τ) arg4 fullShare x4
        ∗ owns (c : Thread nD τ) arg7 fullShare x7
        ∗ owns (c : Thread nD τ) arg12 fullShare (hbV x3 x4)
        ∗ owns (c : Thread nD τ) arg13 fullShare (dyV x2)
        ∗ owns (c : Thread nD τ) arg15 fullShare zeroV
        ∗ (∃ X, ⌜(fun j : S512x704.Idx => X (ix3 p (j 0) (j 1))) = dpV (dyV x2) x7 0⌝ ∗ owns (c : Thread nD τ) arg16 fullShare X)
        ∗ owns (c : Thread nD τ) arg14 fullShare (fun _ => 0)) -∗ K r))
      ⊢ wp frame (wpE (defs₀ (F := Ideal)) Variants.none c none) E (k0_part56 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%g2, %h2, H2⟩, ⟨%g3, %h3, H3⟩, ⟨%g4, %h4, H4⟩, ⟨%g7, %h7, H7⟩, ⟨%d12, ⟨%g12, %h12, H12⟩⟩, ⟨%d13, ⟨%g13, %h13, H13⟩⟩, ⟨%d15, ⟨%g15, %h15, H15⟩⟩, ⟨%d16, ⟨%g16, %h16, H16⟩⟩, ⟨%d14, ⟨%g14, %h14, H14⟩⟩, Hk⟩
  iapply ((firstRun c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 g2 g3 g4 g7).2.2.2.2.2.2 g12 g13 g15 g16 g14 E K)
  isplitl [H2]; · iexact H2
  isplitl [H3]; · iexact H3
  isplitl [H4]; · iexact H4
  isplitl [H7]; · iexact H7
  isplitl [H12]; · iexact H12
  isplitl [H13]; · iexact H13
  isplitl [H15]; · iexact H15
  isplitl [H16]; · iexact H16
  isplitl [H14]; · iexact H14
  iintro ⟨H2, H3, H4, H7, H12, H13, H15, H16, H14⟩
  iapply Hk
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H7]
  · iexists _; isplitr
    swap; · iexact H7
    ipureintro; exact h7
  isplitl [H12]
  · iexists _; isplitr
    swap; · iexact H12
    ipureintro; rw [first_hb]; exact hb_read h3 h4 _
  isplitl [H13]
  · iexists _; isplitr
    swap; · iexact H13
    ipureintro; rw [first_dy]; exact dy_read h2 _
  isplitl [H15]
  · iexists _; isplitr
    swap; · iexact H15
    ipureintro; rw [first_zero]; exact zero_read _ _
  isplitl [H16]
  · iexists _; isplitr
    swap
    · iexists _; isplitr
      swap; · iexact H16
      ipureintro; rfl
    ipureintro; rw [first_dp]; exact first_read h2 h7 _ _ p e1
  iexists _; isplitr
  swap; · iexact H14
  ipureintro; rw [first_dg]; exact (whole_read (A := 1) (B := 1024) _ _ _ _).trans (funext fun j => zero_row_at j)

end Runs

end Cert.FfnBwdIdeal.Gen

end
-- ==== Proof.FfnBwdBody.lean ====
/- The feed forward gradient: the whole body at a grid point, in real arithmetic. -/
module

public import proofs.«01_k».proof.Proof.FfnBwdOwns

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S3x4x704x1024 .bf16) (harg7 : arg7.IsWhole)
  (arg8 : Memref sig .tc .vmem S512x1024 .f32) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S2x512x704 .f32) (harg16 : arg16.IsWhole)

set_option maxHeartbeats 4000000 in
/-- At a point that starts no tile the body's first part does nothing. -/
theorem skip_owns (hc0 : ¬cond0_0 i) (hc1 : ¬cond0_1 i) (E : Set ℕ) (K : (Σ' (_ : BitVec 32) (_ : BitVec 32), BitVec 32) → sProp 𝕄) :
    (iprop(∀ r, K r) : sProp 𝕄) ⊢ wp frame (wpE (defs₀ (F := Ideal)) Variants.none c none) E (k0_part56 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold k0_part56
  iintro HK
  sl_exec
  irw [wp_ret]
  iapply HK

set_option maxHeartbeats 4000000 in
/-- The first point of the first tile. -/
theorem first_body (hc0 : cond0_0 i) (hc1 : cond0_1 i) (hc2 : cond0_2 i) (hc3 : ¬cond0_3 i) (hc4 : ¬cond0_4 i) (q q' : Fin 4)
    (e1 : k0_off1 i = ![0, 0, 0]) (e2 : k0_off2 i = ![0, 0, 0]) (e4 : k0_off4 i = ![1, 0, 0]) (e5 : k0_off5 i = ![0, q.val, 0, 0]) (e6 : k0_off6 i = ![1, q.val, 0, 0]) (e3 : k0_off3 i = ![2, q'.val, 0, 0])
    (x2 : Vec Ideal S512x1024 .f32) (x3 : Vec Ideal S512x1024 .f32) (x4 : Vec Ideal S1x1024 .f32) (x5 : Vec Ideal S1x512x704 .bf16) (x6 : Vec Ideal S1x512x704 .bf16) (x7 : Vec Ideal S3x4x704x1024 .bf16) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg15 fullShare d)
        ∗ (∃ d, owns (c : Thread nD τ) arg16 fullShare d)
        ∗ (∃ d, owns (c : Thread nD τ) arg14 fullShare d)
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg9 fullShare (daV x5 x6 (dpV (dyV x2) x7 0))
        ∗ owns (c : Thread nD τ) arg10 fullShare (dbV x5 (dpV (dyV x2) x7 0))
        ∗ owns (c : Thread nD τ) arg11 fullShare (pV x5 x6)
        ∗ owns (c : Thread nD τ) arg12 fullShare (hbV x3 x4)
        ∗ owns (c : Thread nD τ) arg13 fullShare (dyV x2)
        ∗ owns (c : Thread nD τ) arg15 fullShare (dhV zeroV x5 x6 (dpV (dyV x2) x7 0) x7 q)
        ∗ owns (c : Thread nD τ) (slotQ arg16 1) fullShare (dpV (dyV x2) x7 q')
        ∗ (∃ d, owns (c : Thread nD τ) (slotQ arg16 0) fullShare d)
        ∗ owns (c : Thread nD τ) arg14 fullShare (fun _ => 0)) -∗ K ⟨⟩))
      ⊢ wp frame (wpE (defs₀ (F := Ideal)) Variants.none c none) E (cc0_ffn2_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [(second (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16).2, wp_bind]
  iintro ⟨H2, H3, H4, H5, H6, H7, H9, H10, H11, H12, H13, H15, H16, H14, Hk⟩
  iapply (first_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 0 e1 x2 x3 x4 x7 E _)
  isplitl [H2]; · iexact H2
  isplitl [H3]; · iexact H3
  isplitl [H4]; · iexact H4
  isplitl [H7]; · iexact H7
  isplitl [H12]; · iexact H12
  isplitl [H13]; · iexact H13
  isplitl [H15]; · iexact H15
  isplitl [H16]; · iexact H16
  isplitl [H14]; · iexact H14
  iintro %r ⟨H2, H3, H4, H7, H12, H13, H15, ⟨%X, %hX, H16⟩, H14⟩
  ihave HS := (slots_split c arg16 X) $$ H16
  icases HS with ⟨HC, HN⟩
  rw [hX]
  obtain ⟨r0, r1, r2⟩ := r
  iapply (block_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 0 1 q q' e2 e4 e5 e6 e3 x5 x6 x7 (dyV x2) zeroV (dpV (dyV x2) x7 0) E K r0 r1 r2)
  isplitl [H5]; · iexact H5
  isplitl [H6]; · iexact H6
  isplitl [H7]; · iexact H7
  isplitl [H13]; · iexact H13
  isplitl [H15]; · iexact H15
  isplitl [HC]; · iexact HC
  isplitl [H9]; · iexact H9
  isplitl [H10]; · iexact H10
  isplitl [H11]; · iexact H11
  isplitl [HN]; · iexists _; iexact HN
  iintro ⟨H5, H6, H7, H13, H15, HC, H9, H10, H11, HN⟩
  iapply Hk
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H15]; · iexact H15
  isplitl [HN]; · iexact HN
  isplitl [HC]; · iexists _; iexact HC
  iexact H14

set_option maxHeartbeats 4000000 in
/-- The first point of a later tile. -/
theorem start_body (hc0 : ¬cond0_0 i) (hc1 : cond0_1 i) (hc2 : cond0_2 i) (hc3 : ¬cond0_3 i) (hc4 : ¬cond0_4 i) (q q' : Fin 4)
    (e1 : k0_off1 i = ![0, 0, 0]) (e2 : k0_off2 i = ![0, 0, 0]) (e4 : k0_off4 i = ![1, 0, 0]) (e5 : k0_off5 i = ![0, q.val, 0, 0]) (e6 : k0_off6 i = ![1, q.val, 0, 0]) (e3 : k0_off3 i = ![2, q'.val, 0, 0])
    (x2 : Vec Ideal S512x1024 .f32) (x3 : Vec Ideal S512x1024 .f32) (x4 : Vec Ideal S1x1024 .f32) (x5 : Vec Ideal S1x512x704 .bf16) (x6 : Vec Ideal S1x512x704 .bf16) (x7 : Vec Ideal S3x4x704x1024 .bf16) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg15 fullShare d)
        ∗ (∃ d, owns (c : Thread nD τ) arg16 fullShare d)
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg9 fullShare (daV x5 x6 (dpV (dyV x2) x7 0))
        ∗ owns (c : Thread nD τ) arg10 fullShare (dbV x5 (dpV (dyV x2) x7 0))
        ∗ owns (c : Thread nD τ) arg11 fullShare (pV x5 x6)
        ∗ owns (c : Thread nD τ) arg12 fullShare (hbV x3 x4)
        ∗ owns (c : Thread nD τ) arg13 fullShare (dyV x2)
        ∗ owns (c : Thread nD τ) arg15 fullShare (dhV zeroV x5 x6 (dpV (dyV x2) x7 0) x7 q)
        ∗ owns (c : Thread nD τ) (slotQ arg16 1) fullShare (dpV (dyV x2) x7 q')
        ∗ (∃ d, owns (c : Thread nD τ) (slotQ arg16 0) fullShare d)) -∗ K ⟨⟩))
      ⊢ wp frame (wpE (defs₀ (F := Ideal)) Variants.none c none) E (cc0_ffn2_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [(second (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16).2, wp_bind]
  iintro ⟨H2, H3, H4, H5, H6, H7, H9, H10, H11, H12, H13, H15, H16, Hk⟩
  iapply (start_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 0 e1 x2 x3 x4 x7 E _)
  isplitl [H2]; · iexact H2
  isplitl [H3]; · iexact H3
  isplitl [H4]; · iexact H4
  isplitl [H7]; · iexact H7
  isplitl [H12]; · iexact H12
  isplitl [H13]; · iexact H13
  isplitl [H15]; · iexact H15
  isplitl [H16]; · iexact H16
  iintro %r ⟨H2, H3, H4, H7, H12, H13, H15, ⟨%X, %hX, H16⟩⟩
  ihave HS := (slots_split c arg16 X) $$ H16
  icases HS with ⟨HC, HN⟩
  rw [hX]
  obtain ⟨r0, r1, r2⟩ := r
  iapply (block_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 0 1 q q' e2 e4 e5 e6 e3 x5 x6 x7 (dyV x2) zeroV (dpV (dyV x2) x7 0) E K r0 r1 r2)
  isplitl [H5]; · iexact H5
  isplitl [H6]; · iexact H6
  isplitl [H7]; · iexact H7
  isplitl [H13]; · iexact H13
  isplitl [H15]; · iexact H15
  isplitl [HC]; · iexact HC
  isplitl [H9]; · iexact H9
  isplitl [H10]; · iexact H10
  isplitl [H11]; · iexact H11
  isplitl [HN]; · iexists _; iexact HN
  iintro ⟨H5, H6, H7, H13, H15, HC, H9, H10, H11, HN⟩
  iapply Hk
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H15]; · iexact H15
  isplitl [HN]; · iexact HN
  iexists _; iexact HC

set_option maxHeartbeats 4000000 in
/-- A point within a tile. -/
theorem mid_body (hc0 : ¬cond0_0 i) (hc1 : ¬cond0_1 i) (hc2 : cond0_2 i) (hc3 : ¬cond0_3 i) (hc4 : ¬cond0_4 i) (p p' : Fin 2) (q q' : Fin 4)
    (e2 : k0_off2 i = ![p.val, 0, 0]) (e4 : k0_off4 i = ![p'.val, 0, 0]) (e5 : k0_off5 i = ![0, q.val, 0, 0]) (e6 : k0_off6 i = ![1, q.val, 0, 0]) (e3 : k0_off3 i = ![2, q'.val, 0, 0])
    (x5 : Vec Ideal S1x512x704 .bf16) (x6 : Vec Ideal S1x512x704 .bf16) (x7 : Vec Ideal S3x4x704x1024 .bf16) (x13 : Vec Ideal S512x1024 .bf16) (x15 : Vec Ideal S512x1024 .f32) (xC : Vec Ideal S512x704 .f32) (E : Set ℕ) (K : PUnit → sProp 𝕄) :
    iprop(owns (c : Thread nD τ) arg5 fullShare x5
        ∗ owns (c : Thread nD τ) arg6 fullShare x6
        ∗ owns (c : Thread nD τ) arg7 fullShare x7
        ∗ owns (c : Thread nD τ) arg13 fullShare x13
        ∗ owns (c : Thread nD τ) arg15 fullShare x15
        ∗ owns (c : Thread nD τ) (slotQ arg16 p) fullShare xC
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) (slotQ arg16 p') fullShare d)
        ∗ (iprop(owns (c : Thread nD τ) arg5 fullShare x5
        ∗ owns (c : Thread nD τ) arg6 fullShare x6
        ∗ owns (c : Thread nD τ) arg7 fullShare x7
        ∗ owns (c : Thread nD τ) arg13 fullShare x13
        ∗ owns (c : Thread nD τ) arg15 fullShare (dhV x15 x5 x6 xC x7 q)
        ∗ (∃ d, owns (c : Thread nD τ) (slotQ arg16 p) fullShare d)
        ∗ owns (c : Thread nD τ) arg9 fullShare (daV x5 x6 xC)
        ∗ owns (c : Thread nD τ) arg10 fullShare (dbV x5 xC)
        ∗ owns (c : Thread nD τ) arg11 fullShare (pV x5 x6)
        ∗ owns (c : Thread nD τ) (slotQ arg16 p') fullShare (dpV x13 x7 q')) -∗ K ⟨⟩))
      ⊢ wp frame (wpE (defs₀ (F := Ideal)) Variants.none c none) E (cc0_ffn2_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [(second (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16).2, wp_bind]
  iintro ⟨H5, H6, H7, H13, H15, HC, H9, H10, H11, HN, Hk⟩
  iapply (skip_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 E _)
  iintro %r
  obtain ⟨r0, r1, r2⟩ := r
  iapply (block_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 p p' q q' e2 e4 e5 e6 e3 x5 x6 x7 x13 x15 xC E K r0 r1 r2)
  isplitl [H5]; · iexact H5
  isplitl [H6]; · iexact H6
  isplitl [H7]; · iexact H7
  isplitl [H13]; · iexact H13
  isplitl [H15]; · iexact H15
  isplitl [HC]; · iexact HC
  isplitl [H9]; · iexact H9
  isplitl [H10]; · iexact H10
  isplitl [H11]; · iexact H11
  isplitl [HN]; · iexact HN
  iintro ⟨H5, H6, H7, H13, H15, HC, H9, H10, H11, HN⟩
  iapply Hk
  isplitl [H5]; · iexact H5
  isplitl [H6]; · iexact H6
  isplitl [H7]; · iexact H7
  isplitl [H13]; · iexact H13
  isplitl [H15]; · iexact H15
  isplitl [HC]; · iexists _; iexact HC
  isplitl [H9]; · iexact H9
  isplitl [H10]; · iexact H10
  isplitl [H11]; · iexact H11
  iexact HN

set_option maxHeartbeats 4000000 in
/-- The last point of a tile. -/
theorem last_body (hc0 : ¬cond0_0 i) (hc1 : ¬cond0_1 i) (hc2 : ¬cond0_2 i) (hc3 : cond0_3 i) (hc4 : cond0_4 i) (p : Fin 2) (q : Fin 4)
    (e7 : k0_off7 i = ![p.val, 0, 0]) (e8 : k0_off8 i = ![0, q.val, 0, 0]) (e9 : k0_off9 i = ![1, q.val, 0, 0])
    (x2 : Vec Ideal S512x1024 .f32) (x3 : Vec Ideal S512x1024 .f32) (x4 : Vec Ideal S1x1024 .f32) (x5 : Vec Ideal S1x512x704 .bf16) (x6 : Vec Ideal S1x512x704 .bf16) (x7 : Vec Ideal S3x4x704x1024 .bf16) (x15 : Vec Ideal S512x1024 .f32) (xC : Vec Ideal S512x704 .f32) (x14 : Vec Ideal S1x1024 .f32) (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg15 fullShare x15
        ∗ owns (c : Thread nD τ) (slotQ arg16 p) fullShare xC
        ∗ owns (c : Thread nD τ) arg14 fullShare x14
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg15 fullShare (dhV x15 x5 x6 xC x7 q)
        ∗ owns (c : Thread nD τ) (slotQ arg16 p) fullShare xC
        ∗ owns (c : Thread nD τ) arg14 fullShare (dgV x14 x3 (dhV x15 x5 x6 xC x7 q))
        ∗ owns (c : Thread nD τ) arg8 fullShare (dxV x2 x3 x4 (dhV x15 x5 x6 xC x7 q))
        ∗ owns (c : Thread nD τ) arg9 fullShare (daV x5 x6 xC)
        ∗ owns (c : Thread nD τ) arg10 fullShare (dbV x5 xC)
        ∗ owns (c : Thread nD τ) arg11 fullShare (pV x5 x6)) -∗ K ⟨⟩))
      ⊢ wp frame (wpE (defs₀ (F := Ideal)) Variants.none c none) E (cc0_ffn2_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [(second (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16).2, wp_bind]
  iintro ⟨H2, H3, H4, H5, H6, H7, H15, HC, H14, H8, H9, H10, H11, Hk⟩
  iapply (skip_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 E _)
  iintro %r
  obtain ⟨r0, r1, r2⟩ := r
  iapply (last_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 hc3 hc4 p q e7 e8 e9 x2 x3 x4 x5 x6 x7 x15 xC x14 E K r0 r1 r2)
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [HC]; · iexact HC
  isplitl [H14]; · iexact H14
  isplitl [H8]; · iexact H8
  isplitl [H9]; · iexact H9
  isplitl [H10]; · iexact H10
  isplitl [H11]; · iexact H11
  iintro ⟨H2, H3, H4, H5, H6, H7, H15, HC, H14, H8, H9, H10, H11⟩
  iapply Hk
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [HC]; · iexact HC
  isplitl [H14]; · iexact H14
  isplitl [H8]; · iexact H8
  isplitl [H9]; · iexact H9
  isplitl [H10]; · iexact H10
  iexact H11

end Cert.FfnBwdIdeal.Gen

end
-- ==== Proof.FfnBwdDats.lean ====
/- The feed forward gradient: what every buffer holds from point to point, in real arithmetic. -/
module

public import proofs.«01_k».proof.Proof.FfnBwdBody
import Idealize.ShloMosaic.Lib.Pipeline.ValueKit
public import Idealize.ShloMosaic.Lib.Pipeline.TableIdle

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-! ## Where each window stands -/

theorem idx : ∀ t : Fin cfg0.N, win0_0.index t = ![t.val / 4, 0] ∧ win0_1.index t = ![t.val / 4, 0] ∧ win0_2.index t = ![0, 0] ∧ win0_3.index t = ![t.val % 4, t.val / 4, 0]
    ∧ win0_4.index t = ![t.val % 4, t.val / 4, 0] ∧ win0_5.index t = ![0, 0, 0, 0] ∧ win0_6.index t = ![t.val / 4, 0] ∧ win0_7.index t = ![t.val % 4, t.val / 4, 0]
    ∧ win0_8.index t = ![t.val % 4, t.val / 4, 0] ∧ win0_9.index t = ![t.val % 4, t.val / 4, 0] ∧ win0_10.index t = ![t.val / 4, 0] ∧ win0_11.index t = ![t.val / 4, 0] ∧ win0_12.index t = ![0, 0] :=
  (by decide +kernel : ∀ t : Fin grid0.N, _)

theorem offs : ∀ t : Fin cfg0.N, k0_off1 (grid0.coords t) = ![t.val % 2, 0, 0] ∧ k0_off2 (grid0.coords t) = ![t.val % 2, 0, 0] ∧ k0_off7 (grid0.coords t) = ![t.val % 2, 0, 0]
    ∧ k0_off4 (grid0.coords t) = ![(t.val + 1) % 2, 0, 0] ∧ k0_off5 (grid0.coords t) = ![0, t.val % 4, 0, 0] ∧ k0_off8 (grid0.coords t) = ![0, t.val % 4, 0, 0]
    ∧ k0_off6 (grid0.coords t) = ![1, t.val % 4, 0, 0] ∧ k0_off9 (grid0.coords t) = ![1, t.val % 4, 0, 0] :=
  (by decide +kernel : ∀ t : Fin grid0.N, _)

theorem off_next : ∀ t : Fin cfg0.N, t.val % 4 ≤ 2 → k0_off3 (grid0.coords t) = ![2, (t.val + 1) % 4, 0, 0] :=
  (by decide +kernel : ∀ t : Fin grid0.N, _)

theorem idles : ∀ t : Fin cfg0.N, cfg0.idle 6 (grid0.coords t) = decide (t.val % 4 ≠ 3) ∧ cfg0.idle 10 (grid0.coords t) = decide (t.val % 4 ≠ 0) ∧ cfg0.idle 11 (grid0.coords t) = decide (t.val % 4 ≠ 0)
    ∧ cfg0.idle 12 (grid0.coords t) = decide (t.val ≠ 0 ∧ t.val % 4 ≠ 3) :=
  (by decide +kernel : ∀ t : Fin grid0.N, _)

theorem lt_N (t : Fin cfg0.N) : t.val < 64 := lt_of_lt_of_eq t.isLt N_0

variable (c : Dev nD)

/-- The point before. -/
abbrev pred (t : Fin cfg0.N) : Fin cfg0.N := ⟨t.val - 1, Nat.lt_of_le_of_lt (Nat.sub_le _ _) t.isLt⟩

/-- The place of a tile's row in the whole array. -/
def row (t : Fin cfg0.N) (r : Fin 512) : Fin 8192 := ⟨t.val / 4 * 512 + r, by have := lt_N t; omega⟩

abbrev MX : FVec Ideal S8192x1024 .f32 := m ((c.tc : Thread nD τ).loc main_arg0)
abbrev MY : FVec Ideal S8192x1024 .f32 := m ((c.tc : Thread nD τ).loc main_arg5)

section Blocks
variable (t : Fin cfg0.N)
theorem y_block (r : Fin 512) (d : Fin 1024) : (iblk m c 0 t : FVec Ideal S512x1024 .f32) (ix2 r d) = MY m c (ix2 (row t r) d) := by
  unfold row
  blk_point [iblk, V, idx t]
theorem x_block (r : Fin 512) (d : Fin 1024) : (iblk m c 1 t : FVec Ideal S512x1024 .f32) (ix2 r d) = MX m c (ix2 (row t r) d) := by
  unfold row
  blk_point [iblk, V, idx t]
theorem g_block (d : Fin 1024) : (iblk m c 2 t : FVec Ideal S1x1024 .f32) (ix2 0 d) = (V m c main_v23 : FVec Ideal S1x1024 .f32) (ix2 0 d) := by
  have e : ((cfg0.win 2).blk t).view.emb (ix2 0 d) = (ix2 0 d : S1x1024.Idx) := by blk_ext [idx t]
  have h : (iblk m c 2 t : FVec Ideal S1x1024 .f32) (ix2 0 d) = (V m c main_v23 : S1x1024.Idx → Elt Ideal .f32) (((cfg0.win 2).blk t).view.emb (ix2 0 d)) := rfl
  rw [h, e]
theorem a_block (r : Fin 512) (k : Fin 704) : (iblk m c 3 t : FVec Ideal S1x512x704 .bf16) (ix3 0 r k) = (V m c main_v27 : FVec Ideal S4x8192x704 .bf16) (ix3 ⟨t.val % 4, Nat.mod_lt _ (by decide)⟩ (row t r) k) := by
  have e : ((cfg0.win 3).blk t).view.emb (ix3 0 r k) = (ix3 ⟨t.val % 4, Nat.mod_lt _ (by decide)⟩ (row t r) k : S4x8192x704.Idx) := by unfold row; blk_ext [idx t]
  have h : (iblk m c 3 t : FVec Ideal S1x512x704 .bf16) (ix3 0 r k) = (V m c main_v27 : S4x8192x704.Idx → Elt Ideal .bf16) (((cfg0.win 3).blk t).view.emb (ix3 0 r k)) := rfl
  rw [h, e]
theorem b_block (r : Fin 512) (k : Fin 704) : (iblk m c 4 t : FVec Ideal S1x512x704 .bf16) (ix3 0 r k) = (V m c main_v31 : FVec Ideal S4x8192x704 .bf16) (ix3 ⟨t.val % 4, Nat.mod_lt _ (by decide)⟩ (row t r) k) := by
  have e : ((cfg0.win 4).blk t).view.emb (ix3 0 r k) = (ix3 ⟨t.val % 4, Nat.mod_lt _ (by decide)⟩ (row t r) k : S4x8192x704.Idx) := by unfold row; blk_ext [idx t]
  have h : (iblk m c 4 t : FVec Ideal S1x512x704 .bf16) (ix3 0 r k) = (V m c main_v31 : S4x8192x704.Idx → Elt Ideal .bf16) (((cfg0.win 4).blk t).view.emb (ix3 0 r k)) := rfl
  rw [h, e]
theorem w_block (w : Fin 3) (q : Fin 4) (k : Fin 704) (d : Fin 1024) :
    (iblk m c 5 t : FVec Ideal S3x4x704x1024 .bf16) (ix4 w q k d) = (V m c main_v22 : FVec Ideal S3x4x704x1024 .bf16) (ix4 w q k d) := by
  have e : ((cfg0.win 5).blk t).view.emb (ix4 w q k d) = (ix4 w q k d : S3x4x704x1024.Idx) := by blk_ext [idx t]
  have h : (iblk m c 5 t : FVec Ideal S3x4x704x1024 .bf16) (ix4 w q k d) = (V m c main_v22 : S3x4x704x1024.Idx → Elt Ideal .bf16) (((cfg0.win 5).blk t).view.emb (ix4 w q k d)) := rfl
  rw [h, e]

theorem row_pred (h : t.val % 4 ≠ 0) (r : Fin 512) : row (pred t) r = row t r :=
  Fin.ext (by show (t.val - 1) / 4 * 512 + r.val = t.val / 4 * 512 + r.val; have : (t.val - 1) / 4 = t.val / 4 := by omega
              rw [this])
theorem y_tile (h : t.val % 4 ≠ 0) : iblk m c 0 (pred t) = iblk m c 0 t := by
  funext j
  obtain ⟨r, d, rfl⟩ := idx2_eta (A := 512) (B := 1024) j
  exact (y_block m c _ r d).trans ((congrArg (fun a => MY m c (ix2 a d)) (row_pred t h r)).trans (y_block m c t r d).symm)
theorem x_tile (h : t.val % 4 ≠ 0) : iblk m c 1 (pred t) = iblk m c 1 t := by
  funext j
  obtain ⟨r, d, rfl⟩ := idx2_eta (A := 512) (B := 1024) j
  exact (x_block m c _ r d).trans ((congrArg (fun a => MX m c (ix2 a d)) (row_pred t h r)).trans (x_block m c t r d).symm)
theorem g_tile (t' : Fin cfg0.N) : iblk m c 2 t' = iblk m c 2 t := by
  funext j
  obtain ⟨r, d, rfl⟩ := idx2_eta (A := 1) (B := 1024) j
  obtain rfl := Subsingleton.elim r 0
  exact (g_block m c t' d).trans (g_block m c t d).symm
theorem w_tile (t' : Fin cfg0.N) : iblk m c 5 t' = iblk m c 5 t := by
  funext j
  have e : j = (ix4 (j 0) (j 1) (j 2) (j 3) : S3x4x704x1024.Idx) := by
    funext a; match a with
    | ⟨0, _⟩ => rfl
    | ⟨1, _⟩ => rfl
    | ⟨2, _⟩ => rfl
    | ⟨3, _⟩ => rfl
  rw [e]
  exact (w_block m c t' _ _ _ _).trans (w_block m c t _ _ _ _).symm

/-! ## What the buffers hold -/

/-- The block of columns a point is at. -/
def col : Fin 4 := ⟨t.val % 4, Nat.mod_lt _ (by decide)⟩

/-- The product of the output's gradient and a block of the output weights, as the point finds it. -/
def dpAt : Vec Ideal S512x704 .f32 := dpV (dyV (iblk m c 0 t)) (iblk m c 5 t) (col t)
end Blocks

/-- The gradient of the normalised input, as a point leaves it. -/
def dhAt : (n : ℕ) → n < cfg0.N → Vec Ideal S512x1024 .f32
  | 0, hn => dhV zeroV (iblk m c 3 ⟨0, hn⟩) (iblk m c 4 ⟨0, hn⟩) (dpAt m c ⟨0, hn⟩) (iblk m c 5 ⟨0, hn⟩) (col ⟨0, hn⟩)
  | n + 1, hn => dhV (if (n + 1) % 4 = 0 then zeroV else dhAt n (Nat.lt_of_succ_lt hn)) (iblk m c 3 ⟨n + 1, hn⟩) (iblk m c 4 ⟨n + 1, hn⟩) (dpAt m c ⟨n + 1, hn⟩) (iblk m c 5 ⟨n + 1, hn⟩) (col ⟨n + 1, hn⟩)

theorem dhAt_start (t : Fin cfg0.N) (h : t.val % 4 = 0) : dhAt m c t.val t.isLt = dhV zeroV (iblk m c 3 t) (iblk m c 4 t) (dpAt m c t) (iblk m c 5 t) (col t) := by
  obtain ⟨n, hn⟩ := t
  cases n with
  | zero => rfl
  | succ n => exact (congrArg (fun z => dhV z _ _ _ _ _) (if_pos h))

theorem dhAt_next (t : Fin cfg0.N) (h : t.val % 4 ≠ 0) :
    dhAt m c t.val t.isLt = dhV (dhAt m c (pred t).val (pred t).isLt) (iblk m c 3 t) (iblk m c 4 t) (dpAt m c t) (iblk m c 5 t) (col t) := by
  obtain ⟨n, hn⟩ := t
  cases n with
  | zero => exact absurd rfl h
  | succ n => exact (congrArg (fun z => dhV z _ _ _ _ _) (if_neg h))

/-- The gradient of the gain so far, as a point leaves it. -/
def dgAt : (n : ℕ) → n < cfg0.N → Vec Ideal S1x1024 .f32
  | 0, _ => fun _ => 0
  | n + 1, hn => if (n + 1) % 4 = 3 then dgV (dgAt n (Nat.lt_of_succ_lt hn)) (iblk m c 1 ⟨n + 1, hn⟩) (dhAt m c (n + 1) hn) else dgAt n (Nat.lt_of_succ_lt hn)

theorem dgAt_last (t : Fin cfg0.N) (h : t.val % 4 = 3) : dgAt m c t.val t.isLt = dgV (dgAt m c (pred t).val (pred t).isLt) (iblk m c 1 t) (dhAt m c t.val t.isLt) := by
  obtain ⟨n, hn⟩ := t
  cases n with
  | zero => exact absurd (show 0 % 4 = 3 from h) (by decide)
  | succ n => exact if_pos h

theorem dgAt_next (t : Fin cfg0.N) (h0 : t.val ≠ 0) (h : t.val % 4 ≠ 3) : dgAt m c t.val t.isLt = dgAt m c (pred t).val (pred t).isLt := by
  obtain ⟨n, hn⟩ := t
  cases n with
  | zero => exact absurd rfl h0
  | succ n => exact if_neg h

/-- What is held between points: within a tile the gradient so far and the next product. -/
def PhiS (n : ℕ) (h : n ≤ cfg0.N) : sProp 𝕄 :=
  if h0 : n % 4 = 0 then Pipeline.ΦA spec0 c
  else iprop((owns (c : Thread nD τ) scM0_0 fullShare (dhAt m c (n - 1) (by have : cfg0.N = 64 := N_0; omega))
    ∗ owns (c : Thread nD τ) (slotQ scM0_1 ⟨n % 2, Nat.mod_lt _ (by decide)⟩) fullShare (dpAt m c ⟨n, by have : cfg0.N = 64 := N_0; omega⟩)
    ∗ (∃ d, owns (c : Thread nD τ) (slotQ scM0_1 ⟨(n + 1) % 2, Nat.mod_lt _ (by decide)⟩) fullShare d)) ∗ ∃ r, prngReg c r)

theorem PhiS_tile (n : ℕ) (h : n ≤ cfg0.N) (h0 : n % 4 = 0) : PhiS m c n h = Pipeline.ΦA spec0 c := dif_pos h0

theorem PhiS_in (n : ℕ) (h : n < cfg0.N) (h' : n ≤ cfg0.N) (h0 : n % 4 ≠ 0) (hp : n - 1 < cfg0.N) :
    PhiS m c n h' = iprop((owns (c : Thread nD τ) scM0_0 fullShare (dhAt m c (n - 1) hp)
      ∗ owns (c : Thread nD τ) (slotQ scM0_1 ⟨n % 2, Nat.mod_lt _ (by decide)⟩) fullShare (dpAt m c ⟨n, h⟩)
      ∗ (∃ d, owns (c : Thread nD τ) (slotQ scM0_1 ⟨(n + 1) % 2, Nat.mod_lt _ (by decide)⟩) fullShare d)) ∗ ∃ r, prngReg c r) := dif_neg h0

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxV (iblk m c 0 t) (iblk m c 1 t) (iblk m c 2 t) (dhAt m c t.val t.isLt)
    | ⟨7, _⟩ => daV (iblk m c 3 t) (iblk m c 4 t) (dpAt m c t)
    | ⟨8, _⟩ => dbV (iblk m c 3 t) (dpAt m c t)
    | ⟨9, _⟩ => pV (iblk m c 3 t) (iblk m c 4 t)
    | ⟨10, _⟩ => hbV (iblk m c 1 t) (iblk m c 2 t)
    | ⟨11, _⟩ => dyV (iblk m c 0 t)
    | ⟨12, _⟩ => dgAt m c t.val t.isLt
  Φ t := PhiS m c t.val (Nat.le_of_lt_succ t.isLt)
  q _ := fullShare
  owed _ := 0

theorem A_eq (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = dxV (iblk m c 0 t) (iblk m c 1 t) (iblk m c 2 t) (dhAt m c t.val t.isLt) := by dsimp only [dats]
theorem after0_7 (t : Fin cfg0.N) : (dats m 0 c).after 7 t = daV (iblk m c 3 t) (iblk m c 4 t) (dpAt m c t) := by dsimp only [dats]
theorem after0_8 (t : Fin cfg0.N) : (dats m 0 c).after 8 t = dbV (iblk m c 3 t) (dpAt m c t) := by dsimp only [dats]
theorem after0_9 (t : Fin cfg0.N) : (dats m 0 c).after 9 t = pV (iblk m c 3 t) (iblk m c 4 t) := by dsimp only [dats]
theorem after0_10 (t : Fin cfg0.N) : (dats m 0 c).after 10 t = hbV (iblk m c 1 t) (iblk m c 2 t) := by dsimp only [dats]
theorem after0_11 (t : Fin cfg0.N) : (dats m 0 c).after 11 t = dyV (iblk m c 0 t) := by dsimp only [dats]
theorem after0_12 (t : Fin cfg0.N) : (dats m 0 c).after 12 t = dgAt m c t.val t.isLt := by dsimp only [dats]
theorem before0_0 (t : Fin cfg0.N) (d) : (dats m 0 c).before 0 t d = iblk m c 0 t := before0_0_of m (dats m 0 c) (A_eq m c 0) (after0_0 m c) t d
theorem before0_1 (t : Fin cfg0.N) (d) : (dats m 0 c).before 1 t d = iblk m c 1 t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d

theorem fresh_tile (w : Fin cfg0.W) (hi : ∀ t : Fin cfg0.N, cfg0.idle w (grid0.coords t) = decide (t.val % 4 ≠ 0)) (hf : ∀ t : Fin cfg0.N, (cfg0.win w).flush t = true ↔ t.val % 4 = 3) :
    ∀ n, n ≤ cfg0.N → cfg0.fresh w n = decide (n % 4 = 0) := by
  refine cfg0.fresh_tab w (fun n => decide (n % 4 = 0)) rfl fun t => ?_
  have e : (cfg0.win w).flush t = decide (t.val % 4 = 3) := Bool.eq_iff_iff.mpr ((hf t).trans (by simp))
  rw [e, hi t]
  rw [← Bool.decide_and, ← Bool.decide_or]
  exact decide_eq_decide.mpr (by omega)

theorem before0_10 (t : Fin cfg0.N) (h : t.val % 4 ≠ 0) (d) : (dats m 0 c).before 10 t d = hbV (iblk m c 1 t) (iblk m c 2 t) := by
  have hc : ∀ t : Fin cfg0.N, t.val % 4 ≠ 0 → (dats m 0 c).after 10 (pred t) = hbV (iblk m c 1 t) (iblk m c 2 t) := fun t h => by
    rw [after0_10, x_tile m c t h, g_tile m c t (pred t)]
  have hfr := fresh_tile 10 (fun t => (idles t).2.1) flush0_10
  rw [(dats m 0 c).before_out_traj 10 rfl (fun _ _ => rfl) (fun t _ hi _ => by
      rw [after0_10]; exact (hc t (by rw [(idles t).2.1] at hi; exact of_decide_eq_true hi)).symm) t.val t rfl d,
    hfr t.val (Nat.le_of_lt t.isLt), if_neg (by simpa using h)]
  exact hc t h

theorem before0_11 (t : Fin cfg0.N) (h : t.val % 4 ≠ 0) (d) : (dats m 0 c).before 11 t d = dyV (iblk m c 0 t) := by
  have hc : ∀ t : Fin cfg0.N, t.val % 4 ≠ 0 → (dats m 0 c).after 11 (pred t) = dyV (iblk m c 0 t) := fun t h => by
    rw [after0_11, y_tile m c t h]
  have hfr := fresh_tile 11 (fun t => (idles t).2.2.1) flush0_11
  rw [(dats m 0 c).before_out_traj 11 rfl (fun _ _ => rfl) (fun t _ hi _ => by
      rw [after0_11]; exact (hc t (by rw [(idles t).2.2.1] at hi; exact of_decide_eq_true hi)).symm) t.val t rfl d,
    hfr t.val (Nat.le_of_lt t.isLt), if_neg (by simpa using h)]
  exact hc t h

theorem fresh_all : ∀ n, n ≤ cfg0.N → cfg0.fresh 12 n = decide (n = 0 ∨ n = 64) := by
  refine cfg0.fresh_tab 12 (fun n => decide (n = 0 ∨ n = 64)) rfl fun t => ?_
  have ht := lt_N t
  have e : (cfg0.win 12).flush t = decide (t.val % 64 = 63) := Bool.eq_iff_iff.mpr ((flush0_12 t).trans (by simp))
  rw [e, (idles t).2.2.2]
  rw [← Bool.decide_and, ← Bool.decide_or]
  exact decide_eq_decide.mpr (by omega)

theorem before0_12 (t : Fin cfg0.N) (h : t.val ≠ 0) (d) : (dats m 0 c).before 12 t d = dgAt m c (pred t).val (pred t).isLt := by
  have ht := lt_N t
  rw [(dats m 0 c).before_out_traj 12 rfl (fun _ _ => rfl) (fun t _ hi _ => by
      rw [(idles t).2.2.2] at hi
      have := of_decide_eq_true hi
      rw [after0_12, after0_12]; exact dgAt_next m c t this.1 this.2) t.val t rfl d,
    fresh_all t.val (Nat.le_of_lt t.isLt), if_neg (by simp; omega)]
  exact after0_12 m c _
end Cert.FfnBwdIdeal.Gen

end
-- ==== Proof.FfnBwdFrame.lean ====
/- The feed forward gradient: the run and the frame, in real arithmetic. -/
module

public import proofs.«01_k».proof.Proof.FfnBwdDats
public import Idealize.ShloMosaic.Lib.Claim

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

theorem leaves_live (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem leaves_flush (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

theorem leaves_idle (w : Fin cfg0.W) (t : Fin cfg0.N) (h : cfg0.idle w (cfg0.grid.coords t) = true) (h' : (cfg0.win w).flush t = false) :
    (dats m 0 c).leavesExact w t = iprop(∃ d, owns (c : Thread nD τ) ((cfg0.win w).stage (cfg0.slots t w)) fullShare ((dats m 0 c).before w t d)) :=
  (dats m 0 c).leavesExact_idle w t h h'

theorem next_lt (t : Fin cfg0.N) (h : t.val + 1 < 64) : t.val + 1 < cfg0.N := lt_of_lt_of_eq h (show 64 = cfg0.N from N_0.symm)

/-- What the body is called with at a point, -/
def bodyPre (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
theorem first_point (t : Fin cfg0.N) (h : t.val = 0) :
    bodyPre m c t ⊢ wp frame (wpE (defs₀ (F := Ideal)) Variants.none c none) Set.univ (bodyAt0 t) (fun _ => bodyPost m c t) := by
  have hN := lt_N t
  unfold bodyPre bodyPost bodyAt0
  simp only [before0_0, before0_1, before0_2, before0_3, before0_4, before0_5]
  rw [show (dats m 0 c).owesAt () t.succ = (dats m 0 c).owesAt () t.castSucc from rfl, PhiS_castSucc,
    show (dats m 0 c).Φ t.succ = PhiS m c (t.val + 1) t.isLt from rfl]
  obtain ⟨o1, o2, o7, o4, o5, o8, o6, o9⟩ := offs t
  obtain ⟨i6, i10, i11, i12⟩ := idles t
  rw [leaves_live m c 0 t (liveAt0_0 t), after0_0, leaves_live m c 1 t (liveAt0_1 t), after0_1, leaves_live m c 2 t (liveAt0_2 t), after0_2, leaves_live m c 3 t (liveAt0_3 t), after0_3, leaves_live m c 4 t (liveAt0_4 t), after0_4, leaves_live m c 5 t (liveAt0_5 t), after0_5, leaves_flush m c 7 t (flush0_7 t), after0_7, leaves_flush m c 8 t (flush0_8 t), after0_8, leaves_flush m c 9 t (flush0_9 t), after0_9, leaves_idle m c 6 t (by rw [i6]; exact decide_eq_true (by omega)) (Bool.eq_false_iff.mpr fun h => by have := (flush0_6 _).mp h; omega), leaves_live m c 10 t (by rw [i10]; exact decide_eq_false (by omega)), after0_10, leaves_live m c 11 t (by rw [i11]; exact decide_eq_false (by omega)), after0_11, leaves_live m c 12 t (by rw [i12]; exact decide_eq_false (by omega)), after0_12]
  have hz : t.val % 4 = 0 := by omega
  have hd : dpAt m c t = dpV (dyV (iblk m c 0 t)) (iblk m c 5 t) 0 := by
    unfold dpAt; rw [show col t = 0 from Fin.ext hz]
  have hs : t.val + 1 < cfg0.N := next_lt t (by omega)
  have hn : dpAt m c ⟨t.val + 1, hs⟩ = dpV (dyV (iblk m c 0 t)) (iblk m c 5 t) 1 := by
    unfold dpAt
    rw [← y_tile m c ⟨t.val + 1, hs⟩ (by show (t.val + 1) % 4 ≠ 0; omega), w_tile m c t,
      show col (⟨t.val + 1, hs⟩ : Fin cfg0.N) = 1 from Fin.ext (by show (t.val + 1) % 4 = 1; omega)]
    rfl
  have e2 : t.val % 2 = 0 := by omega
  have e3 : (t.val + 1) % 2 = 1 := by omega
  rw [PhiS_tile m c _ _ hz, PhiA0_eq, PhiS_in m c (t.val + 1) hs _ (by omega) t.isLt, hn]
  rw [show (⟨(t.val + 1) % 2, Nat.mod_lt _ (by decide)⟩ : Fin 2) = 1 from Fin.ext e3, show (⟨(t.val + 1 + 1) % 2, Nat.mod_lt _ (by decide)⟩ : Fin 2) = 0 from Fin.ext (by show (t.val + 1 + 1) % 2 = 0; omega)]
  rw [show dhAt m c (t.val + 1 - 1) t.isLt = dhAt m c t.val t.isLt from rfl, dhAt_start m c t hz, hd]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (first_body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr (by omega)) ((hcond0_1 t).mpr (by omega)) ((hcond0_2 t).mpr (by omega)) (fun h => by have := (hcond0_3 t).mp h; omega) (fun h => by have := (hcond0_4 t).mp h; omega) (col t) 1 (by rw [o1, e2]) (by rw [o2, e2]) (by rw [o4, e3]) o5 o6
    ((off_next t (by omega)).trans (by rw [show (t.val + 1) % 4 = 1 by omega]; rfl)) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [H12]; · iexists _; iexact H12
  iintro ⟨H0, H1, H2, H3, H4, H5, H7, H8, H9, H10, H11, HS0, HN, HC, H12⟩
  isplitl [HS0 HN HC Hg]
  · isplitl [HS0 HN HC]
    · isplitl [HS0]; · iexact HS0
      isplitl [HN]; · iexact HN
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexact H7
  isplitl [H8]; · iexact H8
  isplitl [H9]; · iexact H9
  isplitl [H10]; · iexact H10
  isplitl [H11]; · iexact H11
  irw [show dgAt m c t.val t.isLt = (fun _ => 0) from by obtain ⟨n, hn⟩ := t; obtain rfl : n = 0 := h; rfl]; iexact H12

set_option maxHeartbeats 4000000 in
theorem start_point (t : Fin cfg0.N) (h : t.val % 4 = 0) (h0 : t.val ≠ 0) :
    bodyPre m c t ⊢ wp frame (wpE (defs₀ (F := Ideal)) Variants.none c none) Set.univ (bodyAt0 t) (fun _ => bodyPost m c t) := by
  have hN := lt_N t
  unfold bodyPre bodyPost bodyAt0
  simp only [before0_0, before0_1, before0_2, before0_3, before0_4, before0_5]
  rw [show (dats m 0 c).owesAt () t.succ = (dats m 0 c).owesAt () t.castSucc from rfl, PhiS_castSucc,
    show (dats m 0 c).Φ t.succ = PhiS m c (t.val + 1) t.isLt from rfl]
  obtain ⟨o1, o2, o7, o4, o5, o8, o6, o9⟩ := offs t
  obtain ⟨i6, i10, i11, i12⟩ := idles t
  rw [leaves_live m c 0 t (liveAt0_0 t), after0_0, leaves_live m c 1 t (liveAt0_1 t), after0_1, leaves_live m c 2 t (liveAt0_2 t), after0_2, leaves_live m c 3 t (liveAt0_3 t), after0_3, leaves_live m c 4 t (liveAt0_4 t), after0_4, leaves_live m c 5 t (liveAt0_5 t), after0_5, leaves_flush m c 7 t (flush0_7 t), after0_7, leaves_flush m c 8 t (flush0_8 t), after0_8, leaves_flush m c 9 t (flush0_9 t), after0_9, leaves_idle m c 6 t (by rw [i6]; exact decide_eq_true (by omega)) (Bool.eq_false_iff.mpr fun h => by have := (flush0_6 _).mp h; omega), leaves_live m c 10 t (by rw [i10]; exact decide_eq_false (by omega)), after0_10, leaves_live m c 11 t (by rw [i11]; exact decide_eq_false (by omega)), after0_11, leaves_idle m c 12 t (by rw [i12]; exact decide_eq_true (by omega)) (Bool.eq_false_iff.mpr fun h => by have := (flush0_12 _).mp h; omega)]
  have hz : t.val % 4 = 0 := by omega
  have hd : dpAt m c t = dpV (dyV (iblk m c 0 t)) (iblk m c 5 t) 0 := by
    unfold dpAt; rw [show col t = 0 from Fin.ext hz]
  have hs : t.val + 1 < cfg0.N := next_lt t (by omega)
  have hn : dpAt m c ⟨t.val + 1, hs⟩ = dpV (dyV (iblk m c 0 t)) (iblk m c 5 t) 1 := by
    unfold dpAt
    rw [← y_tile m c ⟨t.val + 1, hs⟩ (by show (t.val + 1) % 4 ≠ 0; omega), w_tile m c t,
      show col (⟨t.val + 1, hs⟩ : Fin cfg0.N) = 1 from Fin.ext (by show (t.val + 1) % 4 = 1; omega)]
    rfl
  have e2 : t.val % 2 = 0 := by omega
  have e3 : (t.val + 1) % 2 = 1 := by omega
  rw [PhiS_tile m c _ _ hz, PhiA0_eq, PhiS_in m c (t.val + 1) hs _ (by omega) t.isLt, hn]
  rw [show (⟨(t.val + 1) % 2, Nat.mod_lt _ (by decide)⟩ : Fin 2) = 1 from Fin.ext e3, show (⟨(t.val + 1 + 1) % 2, Nat.mod_lt _ (by decide)⟩ : Fin 2) = 0 from Fin.ext (by show (t.val + 1 + 1) % 2 = 0; omega)]
  rw [show dhAt m c (t.val + 1 - 1) t.isLt = dhAt m c t.val t.isLt from rfl, dhAt_start m c t hz, hd]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (start_body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => by have := (hcond0_0 t).mp h; omega) ((hcond0_1 t).mpr (by omega)) ((hcond0_2 t).mpr (by omega)) (fun h => by have := (hcond0_3 t).mp h; omega) (fun h => by have := (hcond0_4 t).mp h; omega) (col t) 1 (by rw [o1, e2]) (by rw [o2, e2]) (by rw [o4, e3]) o5 o6
    ((off_next t (by omega)).trans (by rw [show (t.val + 1) % 4 = 1 by omega]; rfl)) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H7, H8, H9, H10, H11, HS0, HN, HC⟩
  isplitl [HS0 HN HC Hg]
  · isplitl [HS0 HN HC]
    · isplitl [HS0]; · iexact HS0
      isplitl [HN]; · iexact HN
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexact H7
  isplitl [H8]; · iexact H8
  isplitl [H9]; · iexact H9
  isplitl [H10]; · iexact H10
  isplitl [H11]; · iexact H11
  iexists d12; iexact H12

set_option maxHeartbeats 4000000 in
theorem mid_point (t : Fin cfg0.N) (h : t.val % 4 ≠ 0) (h3 : t.val % 4 ≠ 3) :
    bodyPre m c t ⊢ wp frame (wpE (defs₀ (F := Ideal)) Variants.none c none) Set.univ (bodyAt0 t) (fun _ => bodyPost m c t) := by
  have hN := lt_N t
  unfold bodyPre bodyPost bodyAt0
  simp only [before0_0, before0_1, before0_2, before0_3, before0_4, before0_5]
  rw [show (dats m 0 c).owesAt () t.succ = (dats m 0 c).owesAt () t.castSucc from rfl, PhiS_castSucc,
    show (dats m 0 c).Φ t.succ = PhiS m c (t.val + 1) t.isLt from rfl]
  obtain ⟨o1, o2, o7, o4, o5, o8, o6, o9⟩ := offs t
  obtain ⟨i6, i10, i11, i12⟩ := idles t
  rw [leaves_live m c 0 t (liveAt0_0 t), after0_0, leaves_live m c 1 t (liveAt0_1 t), after0_1, leaves_live m c 2 t (liveAt0_2 t), after0_2, leaves_live m c 3 t (liveAt0_3 t), after0_3, leaves_live m c 4 t (liveAt0_4 t), after0_4, leaves_live m c 5 t (liveAt0_5 t), after0_5, leaves_flush m c 7 t (flush0_7 t), after0_7, leaves_flush m c 8 t (flush0_8 t), after0_8, leaves_flush m c 9 t (flush0_9 t), after0_9, leaves_idle m c 6 t (by rw [i6]; exact decide_eq_true (by omega)) (Bool.eq_false_iff.mpr fun h => by have := (flush0_6 _).mp h; omega), leaves_idle m c 10 t (by rw [i10]; exact decide_eq_true (by omega)) (Bool.eq_false_iff.mpr fun h => by have := (flush0_10 _).mp h; omega), leaves_idle m c 11 t (by rw [i11]; exact decide_eq_true (by omega)) (Bool.eq_false_iff.mpr fun h => by have := (flush0_11 _).mp h; omega), leaves_idle m c 12 t (by rw [i12]; exact decide_eq_true (by omega)) (Bool.eq_false_iff.mpr fun h => by have := (flush0_12 _).mp h; omega)]
  have hs : t.val + 1 < cfg0.N := next_lt t (by omega)
  have hn : dpAt m c ⟨t.val + 1, hs⟩ = dpV (dyV (iblk m c 0 t)) (iblk m c 5 t) ⟨(t.val + 1) % 4, Nat.mod_lt _ (by decide)⟩ := by
    unfold dpAt
    rw [← y_tile m c ⟨t.val + 1, hs⟩ (by show (t.val + 1) % 4 ≠ 0; omega), w_tile m c t]
    rfl
  have e2 : (t.val + 1 + 1) % 2 = t.val % 2 := by omega
  have hp : t.val - 1 < cfg0.N := (pred t).isLt
  rw [PhiS_in m c t.val t.isLt _ h hp, PhiS_in m c (t.val + 1) hs _ (by omega) t.isLt, hn]
  rw [show (⟨(t.val + 1 + 1) % 2, Nat.mod_lt _ (by decide)⟩ : Fin 2) = ⟨t.val % 2, Nat.mod_lt _ (by decide)⟩ from Fin.ext e2]
  rw [show dhAt m c (t.val + 1 - 1) t.isLt = dhAt m c t.val t.isLt from rfl, dhAt_next m c t h]
  simp only [before0_11 m c t h]
  iintro ⟨⟨⟨HS0, HC, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (mid_body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => by have := (hcond0_0 t).mp h; omega) (fun h => by have := (hcond0_1 t).mp h; omega) ((hcond0_2 t).mpr (by omega)) (fun h => by have := (hcond0_3 t).mp h; omega) (fun h => by have := (hcond0_4 t).mp h; omega) ⟨t.val % 2, Nat.mod_lt _ (by decide)⟩ ⟨(t.val + 1) % 2, Nat.mod_lt _ (by decide)⟩ (col t) ⟨(t.val + 1) % 4, Nat.mod_lt _ (by decide)⟩
    o2 o4 o5 o6 (off_next t (by omega)) (iblk m c 3 t) (iblk m c 4 t) (iblk m c 5 t) (dyV (iblk m c 0 t)) (dhAt m c (t.val - 1) hp) (dpAt m c t) Set.univ _)
  isplitl [H3]; · iexact H3
  isplitl [H4]; · iexact H4
  isplitl [H5]; · iexact H5
  isplitl [H11]; · iexact H11
  isplitl [HS0]; · iexact HS0
  isplitl [HC]; · iexact HC
  isplitl [H7]; · iexists _; iexact H7
  isplitl [H8]; · iexists _; iexact H8
  isplitl [H9]; · iexists _; iexact H9
  isplitl [HN]; · iexact HN
  iintro ⟨H3, H4, H5, H11, HS0, HC, H7, H8, H9, HN⟩
  isplitl [HS0 HN HC Hg]
  · isplitl [HS0 HN HC]
    · isplitl [HS0]; · iexact HS0
      isplitl [HN]; · iexact HN
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexact H7
  isplitl [H8]; · iexact H8
  isplitl [H9]; · iexact H9
  isplitl [H10]; · iexists d10; iexact H10
  isplitl [H11]; · iexists d11; iexact H11
  iexists d12; iexact H12

set_option maxHeartbeats 4000000 in
theorem last_point (t : Fin cfg0.N) (h3 : t.val % 4 = 3) :
    bodyPre m c t ⊢ wp frame (wpE (defs₀ (F := Ideal)) Variants.none c none) Set.univ (bodyAt0 t) (fun _ => bodyPost m c t) := by
  have hN := lt_N t
  unfold bodyPre bodyPost bodyAt0
  simp only [before0_0, before0_1, before0_2, before0_3, before0_4, before0_5]
  rw [show (dats m 0 c).owesAt () t.succ = (dats m 0 c).owesAt () t.castSucc from rfl, PhiS_castSucc,
    show (dats m 0 c).Φ t.succ = PhiS m c (t.val + 1) t.isLt from rfl]
  obtain ⟨o1, o2, o7, o4, o5, o8, o6, o9⟩ := offs t
  obtain ⟨i6, i10, i11, i12⟩ := idles t
  rw [leaves_live m c 0 t (liveAt0_0 t), after0_0, leaves_live m c 1 t (liveAt0_1 t), after0_1, leaves_live m c 2 t (liveAt0_2 t), after0_2, leaves_live m c 3 t (liveAt0_3 t), after0_3, leaves_live m c 4 t (liveAt0_4 t), after0_4, leaves_live m c 5 t (liveAt0_5 t), after0_5, leaves_flush m c 7 t (flush0_7 t), after0_7, leaves_flush m c 8 t (flush0_8 t), after0_8, leaves_flush m c 9 t (flush0_9 t), after0_9, leaves_flush m c 6 t ((flush0_6 t).mpr h3), after0_6, leaves_flush m c 10 t ((flush0_10 t).mpr h3), after0_10, leaves_flush m c 11 t ((flush0_11 t).mpr h3), after0_11, leaves_live m c 12 t (by rw [i12]; exact decide_eq_false (by omega)), after0_12]
  have h : t.val % 4 ≠ 0 := by omega
  have hp : t.val - 1 < cfg0.N := (pred t).isLt
  have e1 : t.val % 2 = 1 := by omega
  rw [PhiS_in m c t.val t.isLt _ h hp, PhiS_tile m c (t.val + 1) _ (by omega), PhiA0_eq]
  rw [show (⟨t.val % 2, Nat.mod_lt _ (by decide)⟩ : Fin 2) = 1 from Fin.ext e1, show (⟨(t.val + 1) % 2, Nat.mod_lt _ (by decide)⟩ : Fin 2) = 0 from Fin.ext (by show (t.val + 1) % 2 = 0; omega)]
  rw [dgAt_last m c t h3, dhAt_next m c t h]
  simp only [before0_10 m c t h, before0_11 m c t h, before0_12 m c t (by omega)]
  iintro ⟨⟨⟨HS0, HC, ⟨%dn, HN⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (last_body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => by have := (hcond0_0 t).mp h; omega) (fun h => by have := (hcond0_1 t).mp h; omega) (fun h => by have := (hcond0_2 t).mp h; omega) ((hcond0_3 t).mpr (by omega)) ((hcond0_4 t).mpr (by omega)) 1 (col t)
    (by rw [o7, e1]; rfl) o8 o9 (iblk m c 0 t) (iblk m c 1 t) (iblk m c 2 t) (iblk m c 3 t) (iblk m c 4 t) (iblk m c 5 t) (dhAt m c (t.val - 1) hp) (dpAt m c t) (dgAt m c (t.val - 1) hp) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HC]; · iexact HC
  isplitl [H12]; · iexact H12
  isplitl [H6]; · iexists _; iexact H6
  isplitl [H7]; · iexists _; iexact H7
  isplitl [H8]; · iexists _; iexact H8
  isplitl [H9]; · iexists _; iexact H9
  iintro ⟨H0, H1, H2, H3, H4, H5, HS0, HC, H12, H6, H7, H8, H9⟩
  isplitl [HS0 HN HC Hg]
  · isplitl [HS0 HN HC]
    · isplitl [HS0]; · iexists _; iexact HS0
      iapply (slots_join c scM0_1 dn (dpAt m c t))
      isplitl [HN]; · iexact HN
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (t : Fin cfg0.N) :
    bodyPre m c t ⊢ wp frame (wpE (defs₀ (F := Ideal)) Variants.none c none) Set.univ (bodyAt0 t) (fun _ => bodyPost m c t) := by
  by_cases h0 : t.val = 0
  · exact first_point m c t h0
  by_cases h : t.val % 4 = 0
  · exact start_point m c t h h0
  by_cases h3 : t.val % 4 = 3
  · exact last_point m c t h3
  exact mid_point m c t h h3

theorem defs₀_row (t : Fin cfg0.N) : defs₀ (F := Ideal) .tc cfg0.body (cfg0.bodyArgs t (cfg0.slots t)) = bodyAt0 t := by
  unfold defs₀; rw [Defs.onTc_tc]

theorem body_obligation : BodyObligation (dats m 0 c) (defs₀ (F := Ideal)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiS m c 0 (Nat.zero_le _) from rfl, PhiS_tile m c 0 _ rfl]

theorem hout : (dats m 0 c).Φ (Fin.last cfg0.N) ⊢ Pipeline.ΦA spec0 c := by
  rw [show (dats m 0 c).Φ (Fin.last cfg0.N) = PhiS m c cfg0.N le_rfl from rfl, PhiS_tile m c cfg0.N le_rfl (by rw [show cfg0.N = 64 from N_0])]

set_option backward.isDefEq.respectTransparency.types false in
/-- The run, with every counter at zero at its end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnBwdIdeal.Gen

end
-- ==== Proof.FfnBwdHost.lean ====
/- The feed forward gradient: the arrays the host prepares for the call, read at an index. -/
module

public import proofs.«01_k».proof.Proof.FfnBwdFrame
public import Idealize.ShloMosaic.Lib.Pointwise
import Idealize.ShloMosaic.Lib.Pipeline.ValueKit
import Idealize.ShloMosaic.Lib.Claim

@[expose] public section

set_option maxRecDepth 16384

noncomputable section

namespace Cert.FfnBwdIdeal.Gen

open Idealize.ShloMosaic Idealize.ShloMosaic.TcCoe Idealize.SL.Sem

/-! ## The mathematics, entry by entry -/

section Maths
variable (x : FVec Ideal S8192x1024 .f32) (g : FVec Ideal S1024 .f32) (wg wu : FVec Ideal S1024x2816 .f32) (wd : FVec Ideal S2816x1024 .f32)
  (dy : FVec Ideal S8192x1024 .f32)

/-- The normed input. -/
def hid (i : Fin 8192) (d : Fin 1024) : EReal := x (ix2 i d) * rinv (fun e => x (ix2 i e)) * g (ix1 d)

/-- The normed input against one column of a projection. -/
def proj (w : FVec Ideal S1024x2816 .f32) (i : Fin 8192) (k : Fin 2816) : EReal := ∑ d : Fin 1024, hid x g i d * w (ix2 d k)

/-- Half the output's gradient, taken back through the output weights. -/
def back (i : Fin 8192) (k : Fin 2816) : EReal := ∑ e : Fin 1024, Ideal.ofBits .f32 0x3F000000#32 * dy (ix2 i e) * wd (ix2 k e)

def gateGrad (i : Fin 8192) (k : Fin 2816) : EReal := daAt (proj x g wg i k) (proj x g wu i k) (back wd dy i k)
def upGrad (i : Fin 8192) (k : Fin 2816) : EReal := dbAt (proj x g wg i k) (back wd dy i k)
def gated (i : Fin 8192) (k : Fin 2816) : EReal := proj x g wg i k * Ideal.logistic (proj x g wg i k) * proj x g wu i k

/-- The lane of all the hidden lanes that a lane of a chip's share is. -/
def lane (q : ℕ) (k : Fin 704) : Fin 2816 := ⟨q % 4 * 704 + k, by omega⟩

/-- What a chip's share of the hidden lanes adds to the gradient at the normed input. -/
def part (i : Fin 8192) (q : ℕ) (d : Fin 1024) : EReal :=
  ∑ k : Fin 704, gateGrad x g wg wu wd dy i (lane q k) * wg (ix2 d (lane q k)) + ∑ k : Fin 704, upGrad x g wg wd dy i (lane q k) * wu (ix2 d (lane q k))

def upto (i : Fin 8192) (n : ℕ) (d : Fin 1024) : EReal := ∑ q ∈ Finset.range n, part x g wg wu wd dy i q d

/-- A row of the norm's gradient: `h` is the gradient at its output. -/
def normGrad (x g h : Fin 1024 → EReal) (d : Fin 1024) : EReal :=
  rinv x * (h d * g d - x d * rinv x * Ideal.div (∑ e : Fin 1024, h e * g e * (x e * rinv x)) (Ideal.ofBits .f32 0x44800000#32))

def inGrad (i : Fin 8192) (d : Fin 1024) : EReal := dy (ix2 i d) + normGrad (fun e => x (ix2 i e)) (fun e => g (ix1 e)) (upto x g wg wu wd dy i 4) d

def gainRow (i : Fin 8192) (d : Fin 1024) : EReal := upto x g wg wu wd dy i 4 d * (x (ix2 i d) * rinv (fun e => x (ix2 i e)))
def gainGrad (d : Fin 1024) : EReal := ∑ i : Fin 8192, gainRow x g wg wu wd dy i d

/-! ## What the host prepares -/

/-- The three weight arrays as the kernel takes them: one stack, cut by chip. -/
def stack : FVec Ideal S3x4x704x1024 .bf16 :=
  truncf .bf16 (concatenate S3x4x704x1024 0 [
    ⟨S1x4x704x1024, broadcastInDim S1x4x704x1024 ![1, 2, 3] bcast_S4x704x1024_S1x4x704x1024_1_2_3 (shapeCast S4x704x1024 (transpose S2816x1024 [1, 0] wg transposes_S1024x2816_S2816x1024_1_0) shapeCasts_S2816x1024_S4x704x1024)⟩,
    ⟨S1x4x704x1024, broadcastInDim S1x4x704x1024 ![1, 2, 3] bcast_S4x704x1024_S1x4x704x1024_1_2_3 (shapeCast S4x704x1024 (transpose S2816x1024 [1, 0] wu transposes_S1024x2816_S2816x1024_1_0) shapeCasts_S2816x1024_S4x704x1024)⟩,
    ⟨S1x4x704x1024, broadcastInDim S1x4x704x1024 ![1, 2, 3] bcast_S4x704x1024_S1x4x704x1024_1_2_3 (shapeCast S4x704x1024 wd shapeCasts_S2816x1024_S4x704x1024)⟩]
    concatenates_S1x4x704x1024_S1x4x704x1024_S1x4x704x1024_S3x4x704x1024_d0) bitsLt_bf16_f32
theorem stack0 (q : Fin 4) (k : Fin 704) (d : Fin 1024) : stack wg wu wd (ix4 0 q k d) = wg (ix2 d ⟨q * 704 + k, by omega⟩) := by
  pointwise [stack]
theorem stack1 (q : Fin 4) (k : Fin 704) (d : Fin 1024) : stack wg wu wd (ix4 1 q k d) = wu (ix2 d ⟨q * 704 + k, by omega⟩) := by
  pointwise [stack]
theorem stack2 (q : Fin 4) (k : Fin 704) (d : Fin 1024) : stack wg wu wd (ix4 2 q k d) = wd (ix2 ⟨q * 704 + k, by omega⟩ d) := by
  pointwise [stack]

/-- The normed input, as the host computes it. -/
def hidden : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0
      (Host.reduceAdd (mulf x x) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))
theorem hidden_at (i : Fin 8192) (d : Fin 1024) : hidden x g (ix2 i d) = hid x g i d := by
  unfold hid rinv
  pointwise [hidden]

/-- A projection of it, cut by chip. -/
def chips (w : FVec Ideal S1024x2816 .f32) : FVec Ideal S4x8192x704 .bf16 :=
  truncf .bf16 (transpose S4x8192x704 [1, 0, 2] (shapeCast S8192x4x704 (Host.dotGeneral dot_S8192x1024_S1024x2816_S8192x2816_1_0_0_1_n_n none (hidden x g) w)
    shapeCasts_S8192x2816_S8192x4x704) transposes_S8192x4x704_S4x8192x704_1_0_2) bitsLt_bf16_f32
theorem chips_at (w : FVec Ideal S1024x2816 .f32) (q : Fin 4) (i : Fin 8192) (k : Fin 704) : chips x g w (ix3 q i k) = proj x g w i ⟨q * 704 + k, by omega⟩ := by
  unfold proj
  pointwise [chips]
  simp only [hidden_at]
end Maths

variable (m : (ℓ : Loc nD τ sig) → Buf (Elt Ideal) ℓ) (c : Dev nD) (t : Fin cfg0.N)
abbrev MG : FVec Ideal S1024 .f32 := m ((c.tc : Thread nD τ).loc main_arg1)
abbrev WG : FVec Ideal S1024x2816 .f32 := m ((c.tc : Thread nD τ).loc main_arg2)
abbrev WU : FVec Ideal S1024x2816 .f32 := m ((c.tc : Thread nD τ).loc main_arg3)
abbrev WD : FVec Ideal S2816x1024 .f32 := m ((c.tc : Thread nD τ).loc main_arg4)

theorem V_v22 : V m c main_v22 = stack (WG m c) (WU m c) (WD m c) := by
  unfold V; after_results
  rfl
theorem V_v23 (d : Fin 1024) : (V m c main_v23 : FVec Ideal S1x1024 .f32) (ix2 0 d) = MG m c (ix1 d) := by
  have e : V m c main_v23 = shapeCast S1x1024 (MG m c) shapeCasts_S1024_S1x1024 := by
    unfold V; after_results
    rfl
  rw [e]
  pointwise []
theorem V_v27 : V m c main_v27 = chips (MX m c) (MG m c) (WG m c) := by
  unfold V; after_results
  rfl
theorem V_v31 : V m c main_v31 = chips (MX m c) (MG m c) (WU m c) := by
  unfold V; after_results
  rfl

/-! ## The blocks a point is given -/

theorem lane_col (k : Fin 704) : lane t.val k = ⟨(col t).val * 704 + k, by omega⟩ := rfl

theorem gain_at (d : Fin 1024) : (iblk m c 2 t : FVec Ideal S1x1024 .f32) (ix2 0 d) = MG m c (ix1 d) :=
  (g_block m c t d).trans (V_v23 m c d)
theorem gate_at (r : Fin 512) (k : Fin 704) : (iblk m c 3 t : FVec Ideal S1x512x704 .bf16) (ix3 0 r k) = proj (MX m c) (MG m c) (WG m c) (row t r) (lane t.val k) := by
  rw [a_block, V_v27, chips_at]; rfl
theorem up_at (r : Fin 512) (k : Fin 704) : (iblk m c 4 t : FVec Ideal S1x512x704 .bf16) (ix3 0 r k) = proj (MX m c) (MG m c) (WU m c) (row t r) (lane t.val k) := by
  rw [b_block, V_v31, chips_at]; rfl
theorem wg_at (k : Fin 704) (d : Fin 1024) : (iblk m c 5 t : FVec Ideal S3x4x704x1024 .bf16) (ix4 0 (col t) k d) = WG m c (ix2 d (lane t.val k)) := by
  rw [w_block, V_v22, stack0]; rfl
theorem wu_at (k : Fin 704) (d : Fin 1024) : (iblk m c 5 t : FVec Ideal S3x4x704x1024 .bf16) (ix4 1 (col t) k d) = WU m c (ix2 d (lane t.val k)) := by
  rw [w_block, V_v22, stack1]; rfl
theorem wd_at (k : Fin 704) (d : Fin 1024) : (iblk m c 5 t : FVec Ideal S3x4x704x1024 .bf16) (ix4 2 (col t) k d) = WD m c (ix2 (lane t.val k) d) := by
  rw [w_block, V_v22, stack2]; rfl

end Cert.FfnBwdIdeal.Gen

end
-- ==== Proof.FfnBwdValue.lean ====
/- The feed forward gradient: what the seven arrays hold after the run. -/
module

public import proofs.«01_k».proof.Proof.FfnBwdHost
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.FfnBwdIdeal.Gen

open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-! ## What a point leaves -/

theorem back_at (r : Fin 512) (k : Fin 704) : dpAt m c t (ix2 r k) = back (WD m c) (MY m c) (row t r) (lane t.val k) := by
  unfold back
  show ∑ e : Fin 1024, dyV (iblk m c 0 t) (ix2 r e) * (iblk m c 5 t : FVec Ideal S3x4x704x1024 .bf16) (ix4 2 (col t) k e) = _
  refine Finset.sum_congr rfl fun e _ => ?_
  rw [wd_at]
  exact congrArg (fun z => Ideal.ofBits .f32 0x3F000000#32 * z * WD m c (ix2 (lane t.val k) e)) (y_block m c t r e)

theorem da_point (r : Fin 512) (k : Fin 704) : daV (iblk m c 3 t) (iblk m c 4 t) (dpAt m c t) (ix3 0 r k) = gateGrad (MX m c) (MG m c) (WG m c) (WU m c) (WD m c) (MY m c) (row t r) (lane t.val k) := by
  unfold gateGrad
  rw [← gate_at m c t, ← up_at m c t, ← back_at m c t]; rfl
theorem db_point (r : Fin 512) (k : Fin 704) : dbV (iblk m c 3 t) (dpAt m c t) (ix3 0 r k) = upGrad (MX m c) (MG m c) (WG m c) (WD m c) (MY m c) (row t r) (lane t.val k) := by
  unfold upGrad
  rw [← gate_at m c t, ← back_at m c t]; rfl
theorem p_point (r : Fin 512) (k : Fin 704) : pV (iblk m c 3 t) (iblk m c 4 t) (ix3 0 r k) = gated (MX m c) (MG m c) (WG m c) (WU m c) (row t r) (lane t.val k) := by
  unfold gated
  rw [← gate_at m c t, ← up_at m c t]; rfl

theorem x_row (r : Fin 512) : (fun e => (iblk m c 1 t : FVec Ideal S512x1024 .f32) (ix2 r e)) = fun e => MX m c (ix2 (row t r) e) := funext fun e => x_block m c t r e

theorem hb_point (r : Fin 512) (d : Fin 1024) : hbV (iblk m c 1 t) (iblk m c 2 t) (ix2 r d) = hid (MX m c) (MG m c) (row t r) d := by
  unfold hid
  rw [← x_row m c t, ← x_block m c t, ← gain_at m c t]; rfl
theorem dy_point (r : Fin 512) (d : Fin 1024) : dyV (iblk m c 0 t) (ix2 r d) = Ideal.ofBits .f32 0x3F000000#32 * MY m c (ix2 (row t r) d) := by
  rw [← y_block m c t]; rfl

/-- A point adds its chip's share. -/
theorem dh_add (h : Vec Ideal S512x1024 .f32) (r : Fin 512) (d : Fin 1024) :
    dhV h (iblk m c 3 t) (iblk m c 4 t) (dpAt m c t) (iblk m c 5 t) (col t) (ix2 r d)
      = h (ix2 r d) + part (MX m c) (MG m c) (WG m c) (WU m c) (WD m c) (MY m c) (row t r) t.val d := by
  unfold part
  refine congrArg (h (ix2 r d) + ·) (congrArg₂ (· + ·) (Finset.sum_congr rfl fun k _ => ?_) (Finset.sum_congr rfl fun k _ => ?_))
  · exact congrArg₂ (· * ·) (da_point m c t r k) (wg_at m c t k d)
  · exact congrArg₂ (· * ·) (db_point m c t r k) (wu_at m c t k d)

theorem part_mod (i : Fin 8192) (q : ℕ) (d : Fin 1024) : part (MX m c) (MG m c) (WG m c) (WU m c) (WD m c) (MY m c) i q d = part (MX m c) (MG m c) (WG m c) (WU m c) (WD m c) (MY m c) i (q % 4) d := by
  have e : ∀ k, lane q k = lane (q % 4) k := fun k => Fin.ext (by show q % 4 * 704 + k.val = q % 4 % 4 * 704 + k.val; rw [Nat.mod_mod])
  unfold part
  simp only [e]

/-- After a point: the shares of the chips so far. -/
theorem dh_all : ∀ n (hn : n < cfg0.N) (r : Fin 512) (d : Fin 1024),
    dhAt m c n hn (ix2 r d) = upto (MX m c) (MG m c) (WG m c) (WU m c) (WD m c) (MY m c) (row ⟨n, hn⟩ r) (n % 4 + 1) d := by
  intro n
  induction n with
  | zero =>
    intro hn r d
    rw [dhAt_start m c ⟨0, hn⟩ rfl, dh_add]
    unfold upto
    rw [show 0 % 4 + 1 = 1 from rfl, Finset.sum_range_one]
    exact zero_add _
  | succ n ih =>
    intro hn r d
    by_cases h : (n + 1) % 4 = 0
    · rw [dhAt_start m c ⟨n + 1, hn⟩ h, dh_add, part_mod, h]
      unfold upto
      rw [show 0 + 1 = 1 from rfl, Finset.sum_range_one]
      exact zero_add _
    · rw [dhAt_next m c ⟨n + 1, hn⟩ h, dh_add, part_mod]
      unfold upto
      rw [Finset.sum_range_succ, show (n + 1) % 4 = n % 4 + 1 by omega]
      refine congrArg (· + _) ?_
      refine (ih (Nat.lt_of_succ_lt hn) r d).trans ?_
      rw [← row_pred ⟨n + 1, hn⟩ h r]; rfl

theorem dh_last (h : t.val % 4 = 3) (r : Fin 512) (d : Fin 1024) :
    dhAt m c t.val t.isLt (ix2 r d) = upto (MX m c) (MG m c) (WG m c) (WU m c) (WD m c) (MY m c) (row t r) 4 d := by
  rw [dh_all m c t.val t.isLt, h]

theorem dx_point (h : t.val % 4 = 3) (r : Fin 512) (d : Fin 1024) : dxV (iblk m c 0 t) (iblk m c 1 t) (iblk m c 2 t) (dhAt m c t.val t.isLt) (ix2 r d)
    = inGrad (MX m c) (MG m c) (WG m c) (WU m c) (WD m c) (MY m c) (row t r) d := by
  unfold inGrad normGrad
  simp only [← dh_last m c t h, ← x_block m c t, ← y_block m c t, ← gain_at m c t]
  rfl

/-! ## The gain's gradient -/

/-- The last point of a tile. -/
def tileEnd (i : ℕ) : Fin cfg0.N := ⟨i % 16 * 4 + 3, by rw [show cfg0.N = 64 from N_0]; omega⟩

def gainTile (i : ℕ) (d : Fin 1024) : EReal := ∑ r : Fin 512, gainRow (MX m c) (MG m c) (WG m c) (WU m c) (WD m c) (MY m c) (row (tileEnd i) r) d

theorem gain_tile (h : t.val % 4 = 3) (r : Fin 512) (d : Fin 1024) : dgRow (iblk m c 1 t) (dhAt m c t.val t.isLt) r d = gainRow (MX m c) (MG m c) (WG m c) (WU m c) (WD m c) (MY m c) (row t r) d := by
  unfold gainRow
  simp only [← dh_last m c t h, ← x_block m c t]
  rfl

theorem dg_all : ∀ n (hn : n < cfg0.N) (d : Fin 1024), dgAt m c n hn (ix2 0 d) = ∑ i ∈ Finset.range ((n + 1) / 4), gainTile m c i d := by
  intro n
  induction n with
  | zero => intro hn d; rfl
  | succ n ih =>
    intro hn d
    have hN : n + 1 < 64 := lt_of_lt_of_eq hn N_0
    by_cases h : (n + 1) % 4 = 3
    · rw [dgAt_last m c ⟨n + 1, hn⟩ h, show (n + 1 + 1) / 4 = (n + 1) / 4 + 1 by omega, Finset.sum_range_succ]
      refine congrArg₂ (· + ·) (ih (by omega) d) ?_
      have e : (⟨n + 1, hn⟩ : Fin cfg0.N) = tileEnd ((n + 1) / 4) := Fin.ext (by show n + 1 = (n + 1) / 4 % 16 * 4 + 3; omega)
      refine Finset.sum_congr rfl fun r _ => ?_
      rw [← e]
      exact gain_tile m c ⟨n + 1, hn⟩ h r d
    · rw [dgAt_next m c ⟨n + 1, hn⟩ (Nat.succ_ne_zero n) h, show (n + 1 + 1) / 4 = (n + 1) / 4 by omega]
      exact ih (by omega) d

theorem row_end (i : Fin 16) (r : Fin 512) : row (tileEnd i) r = ⟨i * 512 + r, by omega⟩ := by
  unfold row tileEnd
  refine Fin.ext ?_
  show (i.val % 16 * 4 + 3) / 4 * 512 + r.val = i.val * 512 + r.val
  have : (i.val % 16 * 4 + 3) / 4 = i.val := by omega
  rw [this]

/-! ## The arrays after the run -/

theorem lane_lt (j : S4x8192x704.Idx) : (j 0 : ℕ) * 704 + j 2 < 2816 := by
  have h0 := (j 0).isLt
  have h2 := (j 2).isLt
  simp at h0 h2
  omega
/-- The hidden lane an entry of an array cut by chip belongs to. -/
def laneOf (j : S4x8192x704.Idx) : Fin 2816 := ⟨j 0 * 704 + j 2, lane_lt j⟩

theorem dx_final : (dats m 0 c).arrAt 6 (cfgs 0).N = fun j : S8192x1024.Idx => inGrad (MX m c) (MG m c) (WG m c) (WU m c) (WD m c) (MY m c) (j 0) (j 1) := by
  refine (dats m 0 c).arrAt_eq_of_covers 6 _ (by decide +kernel) fun t hf y => ?_
  have h3 : t.val % 4 = 3 := (flush0_6 t).mp hf
  blk_simp
  rw [after0_6]
  idx_vars y
  have e : ((View.whole main_v32_0).slice (win0_6.rect t)).emb (ix2 y0 y1) = ix2 (row t y0) y1 := by
    unfold row; blk_ext [idx t]
  rw [e]
  exact dx_point m c t h3 _ _
theorem da_final : (dats m 0 c).arrAt 7 (cfgs 0).N = fun j : S4x8192x704.Idx => gateGrad (MX m c) (MG m c) (WG m c) (WU m c) (WD m c) (MY m c) (j 1) (laneOf j) := by
  refine (dats m 0 c).arrAt_eq_of_covers 7 _ (by decide +kernel) fun t hf y => ?_
  blk_simp
  rw [after0_7]
  idx_vars y
  obtain rfl : y0 = 0 := Subsingleton.elim _ _
  have e : ((View.whole main_v32_1).slice (win0_7.rect t)).emb (ix3 0 y1 y2) = ix3 ⟨t.val % 4, Nat.mod_lt _ (by decide)⟩ (row t y1) y2 := by
    unfold row; blk_ext [idx t]
  rw [e]
  exact da_point m c t _ _
theorem db_final : (dats m 0 c).arrAt 8 (cfgs 0).N = fun j : S4x8192x704.Idx => upGrad (MX m c) (MG m c) (WG m c) (WD m c) (MY m c) (j 1) (laneOf j) := by
  refine (dats m 0 c).arrAt_eq_of_covers 8 _ (by decide +kernel) fun t hf y => ?_
  blk_simp
  rw [after0_8]
  idx_vars y
  obtain rfl : y0 = 0 := Subsingleton.elim _ _
  have e : ((View.whole main_v32_2).slice (win0_8.rect t)).emb (ix3 0 y1 y2) = ix3 ⟨t.val % 4, Nat.mod_lt _ (by decide)⟩ (row t y1) y2 := by
    unfold row; blk_ext [idx t]
  rw [e]
  exact db_point m c t _ _
theorem p_final : (dats m 0 c).arrAt 9 (cfgs 0).N = fun j : S4x8192x704.Idx => gated (MX m c) (MG m c) (WG m c) (WU m c) (j 1) (laneOf j) := by
  refine (dats m 0 c).arrAt_eq_of_covers 9 _ (by decide +kernel) fun t hf y => ?_
  blk_simp
  rw [after0_9]
  idx_vars y
  obtain rfl : y0 = 0 := Subsingleton.elim _ _
  have e : ((View.whole main_v32_3).slice (win0_9.rect t)).emb (ix3 0 y1 y2) = ix3 ⟨t.val % 4, Nat.mod_lt _ (by decide)⟩ (row t y1) y2 := by
    unfold row; blk_ext [idx t]
  rw [e]
  exact p_point m c t _ _
theorem hb_final : (dats m 0 c).arrAt 10 (cfgs 0).N = fun j : S8192x1024.Idx => hid (MX m c) (MG m c) (j 0) (j 1) := by
  refine (dats m 0 c).arrAt_eq_of_covers 10 _ (by decide +kernel) fun t hf y => ?_
  blk_simp
  rw [after0_10]
  idx_vars y
  have e : ((View.whole main_v32_4).slice (win0_10.rect t)).emb (ix2 y0 y1) = ix2 (row t y0) y1 := by
    unfold row; blk_ext [idx t]
  rw [e]
  exact hb_point m c t _ _
theorem dy_final : (dats m 0 c).arrAt 11 (cfgs 0).N = fun j : S8192x1024.Idx => Ideal.ofBits .f32 0x3F000000#32 * MY m c j := by
  refine (dats m 0 c).arrAt_eq_of_covers 11 _ (by decide +kernel) fun t hf y => ?_
  blk_simp
  rw [after0_11]
  idx_vars y
  have e : ((View.whole main_v32_5).slice (win0_11.rect t)).emb (ix2 y0 y1) = ix2 (row t y0) y1 := by
    unfold row; blk_ext [idx t]
  rw [e]
  exact dy_point m c t _ _
theorem dg_final : (dats m 0 c).arrAt 12 (cfgs 0).N = fun j : S1x1024.Idx => gainGrad (MX m c) (MG m c) (WG m c) (WU m c) (WD m c) (MY m c) (j 1) := by
  refine (dats m 0 c).arrAt_eq_of_covers 12 _ (by decide +kernel) fun t hf y => ?_
  have h2 : t.val % 64 = 63 := (flush0_12 t).mp hf
  have hN : t.val < 64 := lt_of_lt_of_eq t.isLt N_0
  blk_simp
  rw [after0_12]
  idx_vars y
  obtain rfl : y0 = 0 := Subsingleton.elim _ _
  have e : ((View.whole main_v32_6).slice (win0_12.rect t)).emb (ix2 0 y1) = ix2 0 y1 := by
    blk_ext [idx t]
  rw [e]
  refine (dg_all m c t.val t.isLt _).trans ?_
  rw [show (t.val + 1) / 4 = 16 by omega, Finset.sum_range]
  unfold gainTile
  simp only [row_end]
  exact Fin.sum_mul_add_fin (L := 8192) 16 512 (fun i => gainRow (MX m c) (MG m c) (WG m c) (WU m c) (WD m c) (MY m c) i y1)

/-- The run, with each result array named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v32_0) = (dats m 0 c).arrAt 6 cfg0.N
      ∧ r.2.mem ((c : Thread nD τ).loc main_v32_1) = (dats m 0 c).arrAt 7 cfg0.N
      ∧ r.2.mem ((c : Thread nD τ).loc main_v32_2) = (dats m 0 c).arrAt 8 cfg0.N
      ∧ r.2.mem ((c : Thread nD τ).loc main_v32_3) = (dats m 0 c).arrAt 9 cfg0.N
      ∧ r.2.mem ((c : Thread nD τ).loc main_v32_4) = (dats m 0 c).arrAt 10 cfg0.N
      ∧ r.2.mem ((c : Thread nD τ).loc main_v32_5) = (dats m 0 c).arrAt 11 cfg0.N
      ∧ r.2.mem ((c : Thread nD τ).loc main_v32_6) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 6, (h.1 c).1 7, (h.1 c).1 8, (h.1 c).1 9, (h.1 c).1 10, (h.1 c).1 11, (h.1 c).1 12, h.2 c⟩)
    (θ_run_and (run_main m ρ) (unchanged m ρ))

end Cert.FfnBwdIdeal.Gen

end
-- ==== Proof.FfnBwdPair.lean ====
/- The feed forward gradient: the reference's seven arrays read at an index, and their equality with what the kernel's
   arrays hold. -/
module

public import proofs.«01_k».proof.Proof.FfnBwdHost
public import proofs.«01_k».proof.Proof.FfnBwdValue
public import proofs.«01_k».proof.Proof.Norm
public import proofs.«01_k».proof.Proof.Gen.FfnBwdRefIdeal.Read
public import proofs.«01_k».proof.Proof.Gen.Pre_finite_ffn_bwd
import Idealize.ShloMosaic.Lib.Pipeline.ValueKit
public import Idealize.ShloMosaic.Lib.Pointwise

@[expose] public section

set_option maxRecDepth 16384

noncomputable section

namespace Cert.FfnBwdPair

open Cert.FfnBwdRefIdeal Cert.FfnBwdRefIdeal.Gen Idealize.ShloMosaic Idealize.ShloMosaic.TcCoe Idealize.SL.Sem
open Cert.FfnBwdIdeal.Gen (rinv one hid proj back daAt dbAt gateGrad upGrad gated lane part upto normGrad inGrad gainRow gainGrad laneOf)
open Cert.Reals
open Cert.Norm (swish_grad)

variable (x : FVec Ideal S8192x1024 .f32) (g : FVec Ideal S1024 .f32) (wg wu : FVec Ideal S1024x2816 .f32) (wd : FVec Ideal S2816x1024 .f32)
  (dy : FVec Ideal S8192x1024 .f32)

abbrev grow : Fin 1024 → EReal := fun e => g (ix1 e)

/-! ## The forward lines -/

theorem rinv_ref (i : Fin 8192) : Read.val_main_v7 (F := Ideal) x (ix2 i 0) = rinv (fun e => x (ix2 i e)) := by
  unfold rinv
  pointwise [Read.val_main_v7, Read.val_main_v6, Read.val_main_v5, Read.val_main_v4, Read.val_main_v3, Read.val_main_v2, Read.val_main_v1, Read.val_main_v0,
    Read.val_main_cst, Read.val_main_cst_0, Read.val_main_cst_1]
theorem hid_ref (i : Fin 8192) (d : Fin 1024) : Read.val_main_v12 (F := Ideal) x g (ix2 i d) = hid x g i d := by
  unfold hid
  rw [← rinv_ref]
  pointwise [Read.val_main_v12, Read.val_main_v11, Read.val_main_v10, Read.val_main_v9, Read.val_main_v8]
theorem gate_ref (i : Fin 8192) (k : Fin 2816) : Read.val_main_v13 (F := Ideal) x g wg (ix2 i k) = proj x g wg i k := by
  unfold proj
  pointwise [Read.val_main_v13]
  simp only [hid_ref]
theorem up_ref (i : Fin 8192) (k : Fin 2816) : Read.val_main_v14 (F := Ideal) x g wu (ix2 i k) = proj x g wu i k := by
  unfold proj
  pointwise [Read.val_main_v14]
  simp only [hid_ref]
theorem msq_ref (i : Fin 8192) : Read.val_main_v21 (F := Ideal) x (ix2 i 0)
    = Ideal.div (∑ e : Fin 1024, x (ix2 i e) * x (ix2 i e)) (Ideal.ofBits .f32 0x44800000#32) + Ideal.ofBits .f32 0x358637BD#32 := by
  pointwise [Read.val_main_v21, Read.val_main_v20, Read.val_main_v19, Read.val_main_v18, Read.val_main_v17, Read.val_main_v16, Read.val_main_v15,
    Read.val_main_cst_2, Read.val_main_cst_3, Read.val_main_cst_4]
theorem rinv_ref' (i : Fin 8192) : Read.val_main_v22 (F := Ideal) x (ix2 i 0) = rinv (fun e => x (ix2 i e)) := by
  unfold rinv
  rw [← msq_ref]
  pointwise [Read.val_main_v22]
theorem hid_ref' (i : Fin 8192) (d : Fin 1024) : Read.val_main_v30 (F := Ideal) x g (ix2 i d) = hid x g i d := by
  unfold hid
  rw [← rinv_ref']
  pointwise [Read.val_main_v30, Read.val_main_v29, Read.val_main_v28, Read.val_main_v27, Read.val_main_v26]
theorem gate_ref' (i : Fin 8192) (k : Fin 2816) : Read.val_main_v31 (F := Ideal) x g wg (ix2 i k) = proj x g wg i k := by
  unfold proj
  pointwise [Read.val_main_v31]
  simp only [hid_ref']
theorem up_ref' (i : Fin 8192) (k : Fin 2816) : Read.val_main_v32 (F := Ideal) x g wu (ix2 i k) = proj x g wu i k := by
  unfold proj
  pointwise [Read.val_main_v32]
  simp only [hid_ref']
theorem sig_ref (i : Fin 8192) (k : Fin 2816) : Read.val_main_v70_2 (F := Ideal) x g wg (ix2 i k) = Ideal.logistic (proj x g wg i k) := by
  unfold Ideal.logistic
  pointwise [Read.val_main_v70_2, Read.val_main_call2_v4, Read.val_main_call2_v3, Read.val_main_call2_v2, Read.val_main_call2_v1, Read.val_main_call2_v0,
    Read.val_main_call2_cst, Read.val_main_call2_cst_0]
  simp only [gate_ref, ofBits_one, EReal.coe_one]
theorem sig_ref' (i : Fin 8192) (k : Fin 2816) : Read.val_main_v33_2 (F := Ideal) x g wg (ix2 i k) = Ideal.logistic (proj x g wg i k) := by
  unfold Ideal.logistic
  pointwise [Read.val_main_v33_2, Read.val_main_call0_v4, Read.val_main_call0_v3, Read.val_main_call0_v2, Read.val_main_call0_v1, Read.val_main_call0_v0,
    Read.val_main_call0_cst, Read.val_main_call0_cst_0]
  simp only [gate_ref', ofBits_one, EReal.coe_one]
theorem sig_ref'' (i : Fin 8192) (k : Fin 2816) : Read.val_main_call4_v5 (F := Ideal) x g wg (ix2 i k) = Ideal.logistic (proj x g wg i k) := by
  unfold Ideal.logistic
  pointwise [Read.val_main_call4_v5, Read.val_main_call4_v4, Read.val_main_call4_v3, Read.val_main_call4_v2, Read.val_main_call4_v1, Read.val_main_call4_v0,
    Read.val_main_call4_cst, Read.val_main_call4_cst_0]
  simp only [gate_ref, ofBits_one, EReal.coe_one]
theorem back_ref (i : Fin 8192) (k : Fin 2816) : Read.val_main_v77 (F := Ideal) wd dy (ix2 i k) = back wd dy i k := by
  unfold back
  pointwise [Read.val_main_v77, Read.val_main_v76, Read.val_main_v75, Read.val_main_cst_14]
theorem back_ref' (i : Fin 8192) (k : Fin 2816) : Read.val_main_v42 (F := Ideal) wd dy (ix2 i k) = back wd dy i k := by
  unfold back
  pointwise [Read.val_main_v42, Read.val_main_v41, Read.val_main_v40, Read.val_main_v39, Read.val_main_cst_7]

/-! ## The gradients at the two projections -/

/-- The six arrays are finite. -/
structure Fin6 : Prop where
  x : ∀ i, IsReal (x i)
  g : ∀ i, IsReal (g i)
  wg : ∀ i, IsReal (wg i)
  wu : ∀ i, IsReal (wu i)
  wd : ∀ i, IsReal (wd i)
  dy : ∀ i, IsReal (dy i)

variable {x g wg wu wd dy} (h : Fin6 x g wg wu wd dy)
include h
theorem real_proj (w : FVec Ideal S1024x2816 .f32) (hw : ∀ i, IsReal (w i)) (i : Fin 8192) (k : Fin 2816) : IsReal (proj x g w i k) :=
  IsReal.sum fun d _ => (((h.x _).mul (IsReal.rms fun e => h.x _)).mul (h.g _)).mul (hw _)
theorem real_back (i : Fin 8192) (k : Fin 2816) : IsReal (back wd dy i k) :=
  IsReal.sum fun e _ => (IsReal.mul ⟨_, ofBits_half⟩ (h.dy _)).mul (h.wd _)
theorem real_one : IsReal one := ⟨_, ofBits_one⟩
theorem real_gateGrad (i : Fin 8192) (k : Fin 2816) : IsReal (gateGrad x g wg wu wd dy i k) := by
  have ha := real_proj h wg h.wg i k
  exact ((real_back h i k).mul (real_proj h wu h.wu i k)).mul (ha.logistic.mul ((real_one h).add (ha.mul ((real_one h).sub ha.logistic))))
theorem real_upGrad (i : Fin 8192) (k : Fin 2816) : IsReal (upGrad x g wg wd dy i k) := by
  have ha := real_proj h wg h.wg i k
  exact (real_back h i k).mul (ha.mul ha.logistic)
theorem gate_form (i : Fin 8192) (k : Fin 2816) : gateGrad x g wg wu wd dy i k
    = proj x g wg i k * (back wd dy i k * proj x g wu i k) * (Ideal.logistic (proj x g wg i k) * (Ideal.ofBits .f32 0x3F800000#32 - Ideal.logistic (proj x g wg i k)))
      + back wd dy i k * proj x g wu i k * Ideal.logistic (proj x g wg i k) :=
  swish_grad ((real_back h i k).mul (real_proj h wu h.wu i k)) (real_proj h wg h.wg i k)
theorem gateGrad_ref (i : Fin 8192) (k : Fin 2816) : Read.val_main_v80 (F := Ideal) x g wg wu wd dy (ix2 i k) = gateGrad x g wg wu wd dy i k := by
  rw [gate_form h, add_comm]
  pointwise [Read.val_main_v80, Read.val_main_call3_v2, Read.val_main_call3_v1, Read.val_main_call3_v0, Read.val_main_v79, Read.val_main_v70_1, Read.val_main_call2_v7,
    Read.val_main_call2_v6, Read.val_main_call2_cst_1]
  simp only [gate_ref, up_ref, sig_ref, back_ref]
theorem gateGrad_ref' (i : Fin 8192) (k : Fin 2816) : Read.val_main_v45 (F := Ideal) x g wg wu wd dy (ix2 i k) = gateGrad x g wg wu wd dy i k := by
  rw [gate_form h, add_comm]
  pointwise [Read.val_main_v45, Read.val_main_call1_v2, Read.val_main_call1_v1, Read.val_main_call1_v0, Read.val_main_v44, Read.val_main_v33_1, Read.val_main_call0_v7,
    Read.val_main_call0_v6, Read.val_main_call0_cst_1]
  simp only [gate_ref', up_ref', sig_ref', back_ref']
omit h
theorem upGrad_ref (i : Fin 8192) (k : Fin 2816) : Read.val_main_v78 (F := Ideal) x g wg wd dy (ix2 i k) = upGrad x g wg wd dy i k := by
  unfold upGrad dbAt
  rw [mul_comm]
  pointwise [Read.val_main_v78, Read.val_main_v70_0]
  simp only [gate_ref, sig_ref, back_ref]
theorem upGrad_ref' (i : Fin 8192) (k : Fin 2816) : Read.val_main_v43 (F := Ideal) x g wg wd dy (ix2 i k) = upGrad x g wg wd dy i k := by
  unfold upGrad dbAt
  rw [mul_comm]
  pointwise [Read.val_main_v43, Read.val_main_v33_0]
  simp only [gate_ref', sig_ref', back_ref']
include h
theorem da_ref : Read.val_main_v83 (F := Ideal) x g wg wu wd dy = fun j : S4x8192x704.Idx => gateGrad x g wg wu wd dy (j 1) (laneOf j) := by
  funext j
  idx_vars j
  pointwise [Read.val_main_v83, Read.val_main_v82, Read.val_main_v81]
  rw [gateGrad_ref h]
  rfl
omit h
theorem db_ref : Read.val_main_v86 (F := Ideal) x g wg wd dy = fun j : S4x8192x704.Idx => upGrad x g wg wd dy (j 1) (laneOf j) := by
  funext j
  idx_vars j
  pointwise [Read.val_main_v86, Read.val_main_v85, Read.val_main_v84]
  rw [upGrad_ref]
  rfl
theorem p_ref : Read.val_main_v91 (F := Ideal) x g wg wu = fun j : S4x8192x704.Idx => gated x g wg wu (j 1) (laneOf j) := by
  funext j
  idx_vars j
  unfold gated
  pointwise [Read.val_main_v91, Read.val_main_v90, Read.val_main_v89, Read.val_main_v88, Read.val_main_v87]
  simp only [gate_ref, up_ref, sig_ref'']
  rfl
theorem hb_ref : Read.val_main_v92 (F := Ideal) x g = fun j : S8192x1024.Idx => hid x g (j 0) (j 1) := by
  funext j
  idx_vars j
  pointwise [Read.val_main_v92]
  exact hid_ref _ _ _ _
theorem dy_ref : Read.val_main_v95 (F := Ideal) dy = fun j : S8192x1024.Idx => Ideal.ofBits .f32 0x3F000000#32 * dy j := by
  funext j
  idx_vars j
  pointwise [Read.val_main_v95, Read.val_main_v94, Read.val_main_v93, Read.val_main_cst_15]

/-! ## The gradient at the norm's output -/

theorem upto_eq (i : Fin 8192) (d : Fin 1024) : upto x g wg wu wd dy i 4 d
    = ∑ k : Fin 2816, upGrad x g wg wd dy i k * wu (ix2 d k) + ∑ k : Fin 2816, gateGrad x g wg wu wd dy i k * wg (ix2 d k) := by
  unfold upto part
  have e : ∀ (q : Fin 4) (k : Fin 704), lane q k = ⟨q.val * 704 + k.val, by omega⟩ := fun q k => Fin.ext (by show q.val % 4 * 704 + k.val = _; rw [Nat.mod_eq_of_lt q.isLt])
  rw [Finset.sum_range, Finset.sum_add_distrib, add_comm, ← Fin.sum_mul_add_fin (L := 2816) 4 704, ← Fin.sum_mul_add_fin (L := 2816) 4 704]
  simp only [e]
include h
theorem dh_ref (i : Fin 8192) (d : Fin 1024) : Read.val_main_v48 (F := Ideal) x g wg wu wd dy (ix2 i d) = upto x g wg wu wd dy i 4 d := by
  rw [upto_eq]
  pointwise [Read.val_main_v48, Read.val_main_v47, Read.val_main_v46]
  simp only [upGrad_ref', gateGrad_ref' h]
theorem real_upto (i : Fin 8192) (d : Fin 1024) : IsReal (upto x g wg wu wd dy i 4 d) := by
  rw [upto_eq]
  exact (IsReal.sum fun k _ => (real_upGrad h i k).mul (h.wu _)).add (IsReal.sum fun k _ => (real_gateGrad h i k).mul (h.wg _))

theorem dx_ref : Read.val_main_v69 (F := Ideal) x g wg wu wd dy = fun j : S8192x1024.Idx => inGrad x g wg wu wd dy (j 0) (j 1) := by
  funext j
  idx_vars j
  have key := rms_grad (fun e => x (ix2 j0 e)) (fun e => upto x g wg wu wd dy j0 4 e * g (ix1 e)) (fun e => h.x _)
    (fun e => (real_upto h j0 e).mul (h.g _)) _ j1 rfl
  refine Eq.trans ?_ (congrArg (dy (ix2 j0 j1) + ·) key.symm)
  rw [← add_assoc, ← add_assoc]
  change _ = _ + _ + _ * Ideal.div ((∑ e, _) * (_ * Ideal.div (rinv (fun e => x (ix2 j0 e))) _)) _ + _
  pointwise [Read.val_main_v69, Read.val_main_v68, Read.val_main_v67, Read.val_main_v66, Read.val_main_v65, Read.val_main_v64, Read.val_main_v63, Read.val_main_v62,
    Read.val_main_v61, Read.val_main_v60, Read.val_main_v59, Read.val_main_v58, Read.val_main_v57, Read.val_main_v56, Read.val_main_v55, Read.val_main_v53, Read.val_main_v52,
    Read.val_main_v28, Read.val_main_v25, Read.val_main_v24, Read.val_main_v23, Read.val_main_cst_5, Read.val_main_cst_10, Read.val_main_cst_11, Read.val_main_cst_12]
  simp only [dh_ref h, rinv_ref', msq_ref, Finset.univ_unique, Finset.sum_singleton]
  have e0 : (default : Fin 1) = 0 := rfl
  simp only [e0, rinv_ref', msq_ref]
  rfl

theorem dg_ref : Read.val_main_v96 (F := Ideal) x g wg wu wd dy = fun j : S1x1024.Idx => gainGrad x g wg wu wd dy (j 1) := by
  unfold gainGrad gainRow
  funext j
  idx_vars j
  pointwise [Read.val_main_v96, Read.val_main_v54, Read.val_main_v51, Read.val_main_v50, Read.val_main_v49, Read.val_main_v27, Read.val_main_v26, Read.val_main_cst_8, Read.val_main_cst_9]
  simp only [dh_ref h, rinv_ref', Finset.univ_unique, Finset.sum_singleton]
  exact Finset.sum_congr rfl fun i _ => mul_comm _ _
omit h

theorem finite_of_pre (h : Cert.Pre_finite_ffn_bwd.fn (F := Ideal) x g wg wu wd dy = fun _ => 1#1) : Fin6 x g wg wu wd dy := by
  have h0 := congrFun h (Shape.Idx.first (by decide))
  dsimp only [Cert.Pre_finite_ffn_bwd.fn, Cert.Pre_finite_ffn_bwd.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨fun i => isReal_of_abs_lt (Host.reduce_andi_all _ _ _ _ _ h1 i), fun i => isReal_of_abs_lt (Host.reduce_andi_all _ _ _ _ _ h2 i),
    fun i => isReal_of_abs_lt (Host.reduce_andi_all _ _ _ _ _ h3 i), fun i => isReal_of_abs_lt (Host.reduce_andi_all _ _ _ _ _ h4 i),
    fun i => isReal_of_abs_lt (Host.reduce_andi_all _ _ _ _ _ h5 i), fun i => isReal_of_abs_lt (Host.reduce_andi_all _ _ _ _ _ h6 i)⟩

end Cert.FfnBwdPair

end
-- ==== Proof.FfnBwdClaim.lean ====
/- The claims about the feed-forward block's gradient call. -/
module

public import proofs.«01_k».proof.Defs
public import proofs.«01_k».proof.Proof.Gen.Pre_finite_ffn_bwd
public import proofs.«01_k».proof.Proof.FfnBwdPair
import Idealize.ShloMosaic.Lib.Claim

@[expose] public section

set_option maxRecDepth 16384
set_option maxHeartbeats 1000000

noncomputable section

namespace Cert.FfnBwdClaim

open Idealize.ShloMosaic Idealize.SL.Sem

/-- The call runs at the ideal instance, its arguments end unchanged and its semaphores at zero. -/
theorem frame_ideal : Cert.quiescent_FfnBwdIdeal := fun m g _ => Cert.FfnBwdIdeal.Gen.frame m g
theorem frame_ideal_pre : Cert.quiescent_FfnBwdIdeal_pre_finite_ffn_bwd := fun m g _ => Cert.FfnBwdIdeal.Gen.frame m g

/-- The reference runs, its arguments end unchanged, and it has no semaphore. -/
theorem frame_ref : Cert.quiescent_FfnBwdRefIdeal := by
  intro m g _
  exact (θ_run Cert.FfnBwdRefIdeal.defs _ _).mono (fun r h => ⟨fun c => (h c).2.2.2.2.2.2.2, sem_eq_zero_of_no_sems (by decide) r.2⟩)
    (Cert.FfnBwdRefIdeal.Value.run m g)

/-- The same under the precondition. -/
theorem frame_ref_pre : Cert.quiescent_FfnBwdRefIdeal_pre_finite_ffn_bwd := fun m g _ => frame_ref m g trivial

/-- The call's gradients are the reference's. -/
theorem algebraic : Cert.algebraic_FfnBwdIdeal_FfnBwdRefIdeal_pre_finite_ffn_bwd := by
  pair_intro
  · run_from Cert.FfnBwdIdeal.Gen.run_blocks m g
  · have hfin := fun c => Cert.FfnBwdPair.finite_of_pre (hpre c)
    run_from Cert.FfnBwdRefIdeal.Value.run m' g'
    · obtain ⟨h0, h1, h2, h3, h4, h5⟩ := hagree c
      refine Eq.trans (Cert.FfnBwdRefIdeal.Read.val_main_v69_eq ..) (Eq.trans ?_ (Cert.FfnBwdIdeal.Gen.dx_final m c).symm)
      rw [h0, h1, h2, h3, h4, h5]
      exact Cert.FfnBwdPair.dx_ref (hfin c)
    · obtain ⟨h0, h1, h2, h3, h4, h5⟩ := hagree c
      refine Eq.trans (Cert.FfnBwdRefIdeal.Read.val_main_v83_eq ..) (Eq.trans ?_ (Cert.FfnBwdIdeal.Gen.da_final m c).symm)
      rw [h0, h1, h2, h3, h4, h5]
      exact Cert.FfnBwdPair.da_ref (hfin c)
    · obtain ⟨h0, h1, h2, h3, h4, h5⟩ := hagree c
      refine Eq.trans (Cert.FfnBwdRefIdeal.Read.val_main_v86_eq ..) (Eq.trans ?_ (Cert.FfnBwdIdeal.Gen.db_final m c).symm)
      exact Cert.FfnBwdPair.db_ref
    · obtain ⟨h0, h1, h2, h3, h4, h5⟩ := hagree c
      refine Eq.trans (Cert.FfnBwdRefIdeal.Read.val_main_v91_eq ..) (Eq.trans ?_ (Cert.FfnBwdIdeal.Gen.p_final m c).symm)
      exact Cert.FfnBwdPair.p_ref
    · obtain ⟨h0, h1, h2, h3, h4, h5⟩ := hagree c
      refine Eq.trans (Cert.FfnBwdRefIdeal.Read.val_main_v92_eq ..) (Eq.trans ?_ (Cert.FfnBwdIdeal.Gen.hb_final m c).symm)
      exact Cert.FfnBwdPair.hb_ref
    · obtain ⟨h0, h1, h2, h3, h4, h5⟩ := hagree c
      refine Eq.trans (Cert.FfnBwdRefIdeal.Read.val_main_v95_eq ..) (Eq.trans ?_ (Cert.FfnBwdIdeal.Gen.dy_final m c).symm)
      exact Cert.FfnBwdPair.dy_ref
    · obtain ⟨h0, h1, h2, h3, h4, h5⟩ := hagree c
      refine Eq.trans (Cert.FfnBwdRefIdeal.Read.val_main_v96_eq ..) (Eq.trans ?_ (Cert.FfnBwdIdeal.Gen.dg_final m c).symm)
      rw [h0, h1, h2, h3, h4, h5]
      exact Cert.FfnBwdPair.dg_ref (hfin c)

end Cert.FfnBwdClaim
-- ==== Proof.Ffn1.lean ====
/- The first feed-forward block going forward: what each grid point leaves in the three result blocks, in the words of the
   second block's module (`hid`, `proj`, `gated`, `part`, `upto`: the two blocks share their arithmetic). -/
module

public import proofs.«01_k».proof.Proof.Ffn2
public import proofs.«01_k».proof.Proof.Gen.Ffn1Ideal.Value
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.Ffn1Ideal.Mine
open Cert.Ffn1Ideal Cert.Ffn1Ideal.Gen Idealize.ShloMosaic Idealize.ShloMosaic.TcCoe Idealize.SL.Sem
open Cert.Ffn2Ideal.Mine (rinv hid proj gated part upto res stack stack0 stack1 stack2 acc_at a_at ld_rows canon_over part_mod col)

variable (m : (ℓ : Loc nD τ sig) → Buf (Elt Ideal) ℓ) (c : Dev nD) (t : Fin cfg0.N)

theorem idx : ∀ t : Fin cfg0.N, win0_0.index t = ![t.val / 4, 0] ∧ win0_1.index t = ![0, 0] ∧ win0_2.index t = ![0, t.val % 4, 0, 0] ∧ win0_3.index t = ![1, t.val % 4, 0, 0]
    ∧ win0_4.index t = ![2, t.val % 4, 0, 0] ∧ win0_5.index t = ![t.val / 4, 0]
    ∧ win0_6.index t = ![t.val % 4, t.val / 4, 0] ∧ win0_7.index t = ![t.val % 4, t.val / 4, 0] :=
  (by decide +kernel : ∀ t : Fin grid0.N, _)

theorem lt_N : t.val < 32 := lt_of_lt_of_eq t.isLt N_0
/-- The token that row `y` of the block at point `t` is. -/
def tok (t : Fin cfg0.N) (y : Fin 1024) : Fin 8192 := ⟨t.val / 4 * 1024 + y, by have := lt_N t; omega⟩
/-- The hidden unit that lane `k` of the weights at point `t` is. -/
def unit (t : Fin cfg0.N) (k : Fin 704) : Fin 2816 := ⟨t.val % 4 * 704 + k, by omega⟩

abbrev X : FVec Ideal S8192x1024 .f32 := m ((c.tc : Thread nD τ).loc main_arg0)
abbrev G : FVec Ideal S1024 .f32 := m ((c.tc : Thread nD τ).loc main_arg1)
abbrev WG : FVec Ideal S1024x2816 .f32 := m ((c.tc : Thread nD τ).loc main_arg2)
abbrev WU : FVec Ideal S1024x2816 .f32 := m ((c.tc : Thread nD τ).loc main_arg3)
abbrev WD : FVec Ideal S2816x1024 .f32 := m ((c.tc : Thread nD τ).loc main_arg4)
/-- One chip's share of a token's output. -/
abbrev share (i : Fin 8192) (d : Fin 1024) (j : ℕ) : EReal := part (X m c) (G m c) (WG m c) (WU m c) (WD m c) i d j

theorem V_stack : V m c main_v9 = stack (WG m c) (WU m c) (WD m c) := by
  unfold V; after_results
  rfl
theorem gate_block (k : Fin 704) (d : Fin 1024) : (iblk m c 2 t : FVec Ideal S1x1x704x1024 .bf16) (ix4 0 0 k d) = WG m c (ix2 d (unit t k)) := by
  have e : ((cfg0.win 2).blk t).view.emb (ix4 0 0 k d) = (ix4 0 ⟨t.val % 4, Nat.mod_lt _ (by decide)⟩ k d : S3x4x704x1024.Idx) := by blk_ext [idx t]
  have h : (iblk m c 2 t : FVec Ideal S1x1x704x1024 .bf16) (ix4 0 0 k d) = (V m c main_v9 : S3x4x704x1024.Idx → Elt Ideal .bf16) (((cfg0.win 2).blk t).view.emb (ix4 0 0 k d)) := rfl
  rw [h, e, V_stack]
  exact stack0 _ _ _ _ _ _
theorem up_block (k : Fin 704) (d : Fin 1024) : (iblk m c 3 t : FVec Ideal S1x1x704x1024 .bf16) (ix4 0 0 k d) = WU m c (ix2 d (unit t k)) := by
  have e : ((cfg0.win 3).blk t).view.emb (ix4 0 0 k d) = (ix4 1 ⟨t.val % 4, Nat.mod_lt _ (by decide)⟩ k d : S3x4x704x1024.Idx) := by blk_ext [idx t]
  have h : (iblk m c 3 t : FVec Ideal S1x1x704x1024 .bf16) (ix4 0 0 k d) = (V m c main_v9 : S3x4x704x1024.Idx → Elt Ideal .bf16) (((cfg0.win 3).blk t).view.emb (ix4 0 0 k d)) := rfl
  rw [h, e, V_stack]
  exact stack1 _ _ _ _ _ _
theorem down_block (k : Fin 704) (d : Fin 1024) : (iblk m c 4 t : FVec Ideal S1x1x704x1024 .bf16) (ix4 0 0 k d) = WD m c (ix2 (unit t k) d) := by
  have e : ((cfg0.win 4).blk t).view.emb (ix4 0 0 k d) = (ix4 2 ⟨t.val % 4, Nat.mod_lt _ (by decide)⟩ k d : S3x4x704x1024.Idx) := by blk_ext [idx t]
  have h : (iblk m c 4 t : FVec Ideal S1x1x704x1024 .bf16) (ix4 0 0 k d) = (V m c main_v9 : S3x4x704x1024.Idx → Elt Ideal .bf16) (((cfg0.win 4).blk t).view.emb (ix4 0 0 k d)) := rfl
  rw [h, e, V_stack]
  exact stack2 _ _ _ _ _ _
theorem h_block (y d : Fin 1024) : k0_pay2 (F := Ideal) (iblk m c 0 t) (iblk m c 1 t) (ix2 y d) = hid (X m c) (G m c) (tok t y) d := by
  unfold hid rinv tok
  pointwise [k0_pay2]
  blk_point [iblk, V, idx t]
theorem x_block (y d : Fin 1024) : (iblk m c 0 t : FVec Ideal S1024x1024 .f32) (ix2 y d) = X m c (ix2 (tok t y) d) := by
  unfold tok
  blk_point [iblk, V, idx t]

section words
variable (H : FVec Ideal S256x1024 .bf16) (A : FVec Ideal S256x1024 .f32) (I J K : FVec Ideal S1x1x704x1024 .bf16)
/-- The four chunks' updates of the accumulator are the second block's. -/
theorem acc0 : k0_pay9 (F := Ideal) (k0_pay8 H I J A K) = Ffn2Ideal.Gen.k0_pay48 (Ffn2Ideal.Gen.k0_pay47 H I J) A K := rfl
theorem acc1 : k0_pay15 (F := Ideal) (k0_pay14 H I J A K) = Ffn2Ideal.Gen.k0_pay48 (Ffn2Ideal.Gen.k0_pay47 H I J) A K := rfl
theorem acc2 : k0_pay20 (F := Ideal) H I J A K = Ffn2Ideal.Gen.k0_pay48 (Ffn2Ideal.Gen.k0_pay47 H I J) A K := rfl
theorem acc3 : k0_pay25 (F := Ideal) H I J A K = Ffn2Ideal.Gen.k0_pay48 (Ffn2Ideal.Gen.k0_pay47 H I J) A K := rfl
/-- The eight stores of a projection are the second block's. -/
theorem st0 : k0_pay6 (F := Ideal) H I = Ffn2Ideal.Gen.k0_pay45 H I := rfl
theorem st1 : k0_pay7 (F := Ideal) H I = Ffn2Ideal.Gen.k0_pay45 H I := rfl
theorem st2 : k0_pay12 (F := Ideal) H I = Ffn2Ideal.Gen.k0_pay45 H I := rfl
theorem st3 : k0_pay13 (F := Ideal) H I = Ffn2Ideal.Gen.k0_pay45 H I := rfl
theorem st4 : k0_pay18 (F := Ideal) H I = Ffn2Ideal.Gen.k0_pay45 H I := rfl
theorem st5 : k0_pay19 (F := Ideal) H I = Ffn2Ideal.Gen.k0_pay45 H I := rfl
theorem st6 : k0_pay23 (F := Ideal) H I = Ffn2Ideal.Gen.k0_pay45 H I := rfl
theorem st7 : k0_pay24 (F := Ideal) H I = Ffn2Ideal.Gen.k0_pay45 H I := rfl
theorem zero_at (j) : k0_pay3 (F := Ideal) j = 0 := by pointwise [k0_pay3]
theorem sum_at (P Q : FVec Ideal S1024x1024 .f32) (y d : Fin 1024) : k0_pay1 (F := Ideal) P Q (ix2 y d) = P (ix2 y d) + Ideal.ofBits .f32 0x3F000000#32 * Q (ix2 y d) := by
  pointwise [k0_pay1]
end words

section rows
variable (o : ℕ) (h : ∀ a, ![o, 0] a + ![256, 1024] a ≤ S1024x1024.size a) (H : FVec Ideal S1024x1024 .bf16) (hH : ∀ y e, H (ix2 y e) = hid (X m c) (G m c) (tok t y) e)
include hH
/-- A chunk of the accumulator after the point, from the block's accumulator before it. -/
theorem acc_idx (A : FVec Ideal S1024x1024 .f32) (x : S256x1024.Idx) (j : S1024x1024.Idx) (h0 : (j 0 : ℕ) = o + x 0) (h1 : (j 1 : ℕ) = x 1) :
    Ffn2Ideal.Gen.k0_pay48 (F := Ideal) (Ffn2Ideal.Gen.k0_pay47 (View.ld (Val := Elt Ideal) (e' := .bf16) H (Rect.unit ![o, 0] ![256, 1024] h)) (iblk m c 2 t) (iblk m c 3 t))
      (View.ld (Val := Elt Ideal) (e' := .f32) A (Rect.unit ![o, 0] ![256, 1024] h)) (iblk m c 4 t) x = A j + share m c (tok t (j 0)) (j 1) t.val := by
  idx_vars x
  idx_vars j
  obtain rfl : j1 = x1 := Fin.ext h1
  refine (acc_at _ _ _ _ _ x0 j1 (fun e => hid (X m c) (G m c) (tok t j0) e) (fun e => (ld_rows _ _ _ _ _ j0 h0).trans (hH j0 e))).trans ?_
  rw [ld_rows _ _ _ _ _ j0 h0]
  unfold share part gated proj
  simp only [gate_block, up_block, down_block]
  rfl
/-- A chunk of a projection as stored, for weights that are `W`'s columns. -/
theorem st_idx (W : FVec Ideal S1024x2816 .f32) (I : FVec Ideal S1x1x704x1024 .bf16) (hI : ∀ k d, I (ix4 0 0 k d) = W (ix2 d (unit t k)))
    (x : S1x256x704.Idx) (y : Fin 1024) (k : Fin 704) (h0 : (y : ℕ) = o + x 1) (h1 : (k : ℕ) = x 2) :
    Ffn2Ideal.Gen.k0_pay45 (F := Ideal) (View.ld (Val := Elt Ideal) (e' := .bf16) H (Rect.unit ![o, 0] ![256, 1024] h)) I x = proj (X m c) (G m c) W (tok t y) (unit t k) := by
  idx_vars x
  obtain rfl : k = x2 := Fin.ext h1
  obtain rfl : x0 = 0 := Subsingleton.elim _ _
  rw [a_at]
  unfold proj
  simp only [fun e => (ld_rows (e := .bf16) H o h x1 e y h0).trans (hH y e), hI]
end rows

theorem tok_back (h0 : ¬ t.val % 4 = 0) (hp : t.val - 1 < cfg0.N) (y : Fin 1024) : tok ⟨t.val - 1, hp⟩ y = tok t y := by
  unfold tok
  refine Fin.ext ?_
  show (t.val - 1) / 4 * 1024 + y.val = t.val / 4 * 1024 + y.val
  have : (t.val - 1) / 4 = t.val / 4 := by omega
  rw [this]
theorem lt_before : t.val - 1 < cfg0.N := by have := t.isLt; omega

/-- The kept normalised input, after every point, is the point's tokens' rows of it. -/
theorem hid_all : ∀ n (hn : n < cfg0.N) (y d : Fin 1024), (outsAt0 m c n hn).2.2.2.1 (ix2 y d) = hid (X m c) (G m c) (tok ⟨n, hn⟩ y) d := by
  intro n
  induction n using Nat.strong_induction_on with
  | _ n ih =>
    intro hn y d
    by_cases h0 : n % 4 = 0
    · rw [outsAt0_A m c ⟨n, hn⟩ h0 (by show ¬ n % 4 = 3; omega)]; frame_out
      exact h_block m c ⟨n, hn⟩ y d
    · have keep : (outsAt0 m c (n - 1) (by omega)).2.2.2.1 (ix2 y d) = hid (X m c) (G m c) (tok ⟨n, hn⟩ y) d := by
        rw [ih (n - 1) (by omega) (by omega) y d]
        exact congrArg (fun i => hid (X m c) (G m c) i d) (tok_back ⟨n, hn⟩ h0 (by show n - 1 < _; omega) y)
      by_cases h2 : n % 4 = 3
      · rw [outsAt0_C m c ⟨n, hn⟩ h0 h2]; frame_out
        exact keep
      · rw [outsAt0_B m c ⟨n, hn⟩ h0 h2]; frame_out
        exact keep
theorem hid_before (h0 : ¬ t.val % 4 = 0) (y d : Fin 1024) : (outsAt0 m c (t.val - 1) (lt_before t)).2.2.2.1 (ix2 y d) = hid (X m c) (G m c) (tok t y) d :=
  (hid_all m c _ _ y d).trans (congrArg (fun i => hid (X m c) (G m c) i d) (tok_back t h0 _ y))

theorem acc_first (h0 : t.val % 4 = 0) (y d : Fin 1024) : (outsAt0 m c t.val t.isLt).2.2.2.2 (ix2 y d) = 0 + share m c (tok t y) d t.val := by
  rw [outsAt0_A m c t h0 (by omega)]; frame_open
  simp (disch := decide) only [↓ View.readCov_skip, ↓ View.readCov_cons_toLoadRect, ↓ View.readCov_fill]
  frame_out
  refine (canon_over (fun j : S1024x1024.Idx => k0_pay3 (F := Ideal) j + share m c (tok t (j 0)) (j 1) t.val) _ _ _ _ _ (ix2 y d) (fun x => ?_) (fun x => ?_) (fun x => ?_) (fun x => ?_)
    (by exact View.cover_of_tiledL (s := S1024x1024) _ S256x1024.size (by sl_kernel_rfl) (ix2 y d))).trans ?_
  · rw [acc3]; refine acc_idx m c t _ _ _ (h_block m c t) _ x _ ?_ ?_ <;> simp [Rect.unit, Rect.emb]
  · rw [acc2]; refine acc_idx m c t _ _ _ (h_block m c t) _ x _ ?_ ?_ <;> simp [Rect.unit, Rect.emb]
  · rw [acc1]; refine acc_idx m c t _ _ _ (h_block m c t) _ x _ ?_ ?_ <;> simp [Rect.unit, Rect.emb]
  · rw [acc0]; refine acc_idx m c t _ _ _ (h_block m c t) _ x _ ?_ ?_ <;> simp [Rect.unit, Rect.emb]
  · rw [zero_at]; rfl
theorem acc_step (h0 : ¬ t.val % 4 = 0) (y d : Fin 1024) : (outsAt0 m c t.val t.isLt).2.2.2.2 (ix2 y d) =
    (outsAt0 m c (t.val - 1) (lt_before t)).2.2.2.2 (ix2 y d) + share m c (tok t y) d t.val := by
  have hp := hid_before m c t h0
  by_cases h2 : t.val % 4 = 3
  · rw [outsAt0_C m c t h0 h2]; frame_out
    simp only [read_unread_whole, acc0, acc1, acc2, acc3]
    canon_tiles x hx
    · exact acc_idx m c t _ _ _ hp _ x _ hx0 hx1
    · exact acc_idx m c t _ _ _ hp _ x _ hx0 hx1
    · exact acc_idx m c t _ _ _ hp _ x _ hx0 hx1
    · exact acc_idx m c t _ _ _ hp _ x _ (hx0.trans (Nat.zero_add _).symm) hx1
  · rw [outsAt0_B m c t h0 h2]; frame_out
    simp only [read_unread_whole, acc0, acc1, acc2, acc3]
    canon_tiles x hx
    · exact acc_idx m c t _ _ _ hp _ x _ hx0 hx1
    · exact acc_idx m c t _ _ _ hp _ x _ hx0 hx1
    · exact acc_idx m c t _ _ _ hp _ x _ hx0 hx1
    · exact acc_idx m c t _ _ _ hp _ x _ (hx0.trans (Nat.zero_add _).symm) hx1
/-- The accumulator after point `n` holds the shares of the chips so far. -/
theorem acc_all : ∀ n (hn : n < cfg0.N) (y d : Fin 1024), (outsAt0 m c n hn).2.2.2.2 (ix2 y d) = upto (X m c) (G m c) (WG m c) (WU m c) (WD m c) (tok ⟨n, hn⟩ y) (n % 4 + 1) d := by
  intro n
  induction n using Nat.strong_induction_on with
  | _ n ih =>
    intro hn y d
    unfold upto at ih ⊢
    rw [Finset.sum_range_succ, ← part_mod]
    by_cases h0 : n % 4 = 0
    · refine (acc_first m c ⟨n, hn⟩ h0 y d).trans ?_
      rw [h0]; rfl
    · refine (acc_step m c ⟨n, hn⟩ h0 y d).trans (congrArg (· + _) ?_)
      refine (ih (n - 1) (by omega) (by omega) y d).trans ?_
      rw [tok_back ⟨n, hn⟩ h0 (by show n - 1 < _; omega) y, show (n - 1) % 4 + 1 = n % 4 by omega]

/-- The stored output of a tile's last point. -/
theorem y_point (h2 : t.val % 4 = 3) (y d : Fin 1024) : (outsAt0 m c t.val t.isLt).1 (ix2 y d)
    = res (fun e => X m c (ix2 (tok t y) e)) (upto (X m c) (G m c) (WG m c) (WU m c) (WD m c) (tok t y) 4) d := by
  have e : (outsAt0 m c t.val t.isLt).1 = k0_pay1 (F := Ideal) (iblk m c 0 t) (outsAt0 m c t.val t.isLt).2.2.2.2 := by
    rw [outsAt0_C m c t (by omega) h2]; frame_open
    frame_out
    refine congrArg (k0_pay1 (F := Ideal) (iblk m c 0 t)) ?_
    rw [View.readCov_eq_canon']
    funext j
    refine congrArg _ (funext fun a => Fin.ext ?_)
    match a with
    | ⟨0, _⟩ => show 0 + 1 * _ = _; rw [Nat.zero_add, Nat.one_mul]
    | ⟨1, _⟩ => show 0 + 1 * _ = _; rw [Nat.zero_add, Nat.one_mul]
  rw [e, sum_at, x_block, acc_all, h2]
  rfl
/-- The stored gate projection of a point. -/
theorem a_point (y : Fin 1024) (k : Fin 704) : (outsAt0 m c t.val t.isLt).2.1 (ix3 0 y k) = proj (X m c) (G m c) (WG m c) (tok t y) (unit t k) := by
  have go := fun o h H hH => st_idx m c t o h H hH (WG m c) _ (gate_block m c t)
  by_cases h0 : t.val % 4 = 0
  · rw [outsAt0_A m c t h0 (by omega)]; frame_open
    simp (disch := decide) only [↓ View.readCov_skip, ↓ View.readCov_cons_toLoadRect, ↓ View.readCov_fill]
    frame_out
    simp only [read_unread_whole, st0, st2, st4, st6]
    canon_tiles x hx
    · exact go _ _ _ (h_block m c t) x y k hx1 hx2
    · exact go _ _ _ (h_block m c t) x y k hx1 hx2
    · exact go _ _ _ (h_block m c t) x y k hx1 hx2
    · exact go _ _ _ (h_block m c t) x y k (hx1.trans (Nat.zero_add _).symm) hx2
  have hp := hid_before m c t h0
  by_cases h2 : t.val % 4 = 3
  · rw [outsAt0_C m c t h0 h2]; frame_out
    simp only [read_unread_whole, st0, st2, st4, st6]
    canon_tiles x hx
    · exact go _ _ _ hp x y k hx1 hx2
    · exact go _ _ _ hp x y k hx1 hx2
    · exact go _ _ _ hp x y k hx1 hx2
    · exact go _ _ _ hp x y k (hx1.trans (Nat.zero_add _).symm) hx2
  · rw [outsAt0_B m c t h0 h2]; frame_out
    simp only [read_unread_whole, st0, st2, st4, st6]
    canon_tiles x hx
    · exact go _ _ _ hp x y k hx1 hx2
    · exact go _ _ _ hp x y k hx1 hx2
    · exact go _ _ _ hp x y k hx1 hx2
    · exact go _ _ _ hp x y k (hx1.trans (Nat.zero_add _).symm) hx2
/-- The stored up projection of a point. -/
theorem b_point (y : Fin 1024) (k : Fin 704) : (outsAt0 m c t.val t.isLt).2.2.1 (ix3 0 y k) = proj (X m c) (G m c) (WU m c) (tok t y) (unit t k) := by
  have go := fun o h H hH => st_idx m c t o h H hH (WU m c) _ (up_block m c t)
  by_cases h0 : t.val % 4 = 0
  · rw [outsAt0_A m c t h0 (by omega)]; frame_open
    simp (disch := decide) only [↓ View.readCov_skip, ↓ View.readCov_cons_toLoadRect, ↓ View.readCov_fill]
    frame_out
    simp only [read_unread_whole, st1, st3, st5, st7]
    canon_tiles x hx
    · exact go _ _ _ (h_block m c t) x y k hx1 hx2
    · exact go _ _ _ (h_block m c t) x y k hx1 hx2
    · exact go _ _ _ (h_block m c t) x y k hx1 hx2
    · exact go _ _ _ (h_block m c t) x y k (hx1.trans (Nat.zero_add _).symm) hx2
  have hp := hid_before m c t h0
  by_cases h2 : t.val % 4 = 3
  · rw [outsAt0_C m c t h0 h2]; frame_out
    simp only [read_unread_whole, st1, st3, st5, st7]
    canon_tiles x hx
    · exact go _ _ _ hp x y k hx1 hx2
    · exact go _ _ _ hp x y k hx1 hx2
    · exact go _ _ _ hp x y k hx1 hx2
    · exact go _ _ _ hp x y k (hx1.trans (Nat.zero_add _).symm) hx2
  · rw [outsAt0_B m c t h0 h2]; frame_out
    simp only [read_unread_whole, st1, st3, st5, st7]
    canon_tiles x hx
    · exact go _ _ _ hp x y k hx1 hx2
    · exact go _ _ _ hp x y k hx1 hx2
    · exact go _ _ _ hp x y k hx1 hx2
    · exact go _ _ _ hp x y k (hx1.trans (Nat.zero_add _).symm) hx2

theorem y_final : (dats m 0 c).arrAt 5 (cfgs 0).N
    = fun j : S8192x1024.Idx => res (fun e => X m c (ix2 (j 0) e)) (upto (X m c) (G m c) (WG m c) (WU m c) (WD m c) (j 0) 4) (j 1) := by
  refine (dats m 0 c).arrAt_eq_of_covers 5 _ (by decide +kernel) fun t hf y => ?_
  have h2 : t.val % 4 = 3 := (flush0_5 t).mp hf
  blk_simp
  rw [after0_5]
  idx_vars y
  have e : ((View.whole main_v11_0).slice (win0_5.rect t)).emb (ix2 y0 y1) = ix2 (tok t y0) y1 := by
    unfold tok; blk_ext [idx t]
  rw [e]
  exact y_point m c t h2 _ _
theorem a_final : (dats m 0 c).arrAt 6 (cfgs 0).N = fun j : S4x8192x704.Idx => proj (X m c) (G m c) (WG m c) (j 1) (col j) := by
  refine (dats m 0 c).arrAt_eq_of_covers 6 _ (by decide +kernel) fun t hf y => ?_
  blk_simp
  rw [after0_6]
  idx_vars y
  obtain rfl : y0 = 0 := Subsingleton.elim _ _
  have e : ((View.whole main_v11_1).slice (win0_6.rect t)).emb (ix3 0 y1 y2) = ix3 ⟨t.val % 4, Nat.mod_lt _ (by decide)⟩ (tok t y1) y2 := by
    unfold tok; blk_ext [idx t]
  rw [e]
  exact a_point m c t _ _
theorem b_final : (dats m 0 c).arrAt 7 (cfgs 0).N = fun j : S4x8192x704.Idx => proj (X m c) (G m c) (WU m c) (j 1) (col j) := by
  refine (dats m 0 c).arrAt_eq_of_covers 7 _ (by decide +kernel) fun t hf y => ?_
  blk_simp
  rw [after0_7]
  idx_vars y
  obtain rfl : y0 = 0 := Subsingleton.elim _ _
  have e : ((View.whole main_v11_2).slice (win0_7.rect t)).emb (ix3 0 y1 y2) = ix3 ⟨t.val % 4, Nat.mod_lt _ (by decide)⟩ (tok t y1) y2 := by
    unfold tok; blk_ext [idx t]
  rw [e]
  exact b_point m c t _ _
end Cert.Ffn1Ideal.Mine
end
-- ==== Proof.Ffn1Claim.lean ====
/- The first feed-forward block going forward: the reference read at an index, the frame of the reference, and the equality
   of the two programs' results. -/
module

public import proofs.«01_k».proof.Proof.Ffn1
public import proofs.«01_k».proof.Proof.Ffn2Pair
public import proofs.«01_k».proof.Proof.Gen.Ffn1RefIdeal.Run
public import proofs.«01_k».proof.Proof.Gen.Ffn1RefIdeal.Read
import Idealize.ShloMosaic.Lib.Claim
public import proofs.«01_k».proof.Defs

@[expose] public section

set_option maxRecDepth 16384
set_option maxHeartbeats 1000000

noncomputable section

namespace Cert.Ffn1Claim

open Cert.Ffn1RefIdeal Cert.Ffn1RefIdeal.Gen Idealize.ShloMosaic Idealize.ShloMosaic.TcCoe Idealize.SL.Sem
open Cert.Ffn2Ideal.Mine (rinv hid proj gated upto res col)

section read
variable (x : FVec Ideal S8192x1024 .f32) (g : FVec Ideal S1024 .f32) (wg wu : FVec Ideal S1024x2816 .f32) (wd : FVec Ideal S2816x1024 .f32)

theorem rinv_ref (i : Fin 8192) : Read.val_main_v7 (F := Ideal) x (ix2 i 0) = rinv (fun e => x (ix2 i e)) := by
  unfold rinv
  pointwise [Read.val_main_v7, Read.val_main_v6, Read.val_main_v5, Read.val_main_v4, Read.val_main_v3, Read.val_main_v2, Read.val_main_v1, Read.val_main_v0,
    Read.val_main_cst, Read.val_main_cst_0, Read.val_main_cst_1]
theorem hid_ref (i : Fin 8192) (d : Fin 1024) : Read.val_main_v12 (F := Ideal) x g (ix2 i d) = hid x g i d := by
  unfold hid
  rw [← rinv_ref]
  pointwise [Read.val_main_v12, Read.val_main_v11, Read.val_main_v10, Read.val_main_v9, Read.val_main_v8]
theorem gate_ref (i : Fin 8192) (k : Fin 2816) : Read.val_main_v13 (F := Ideal) x g wg (ix2 i k) = proj x g wg i k := by
  unfold proj
  pointwise [Read.val_main_v13]
  simp only [hid_ref]
theorem up_ref (i : Fin 8192) (k : Fin 2816) : Read.val_main_v14 (F := Ideal) x g wu (ix2 i k) = proj x g wu i k := by
  unfold proj
  pointwise [Read.val_main_v14]
  simp only [hid_ref]
theorem gated_ref (i : Fin 8192) (k : Fin 2816) : Read.val_main_v16 (F := Ideal) x g wg wu (ix2 i k) = gated x g wg wu i k := by
  unfold gated Ideal.logistic
  pointwise [Read.val_main_v16, Read.val_main_v15, Read.val_main_call0_v5, Read.val_main_call0_v4, Read.val_main_call0_v3, Read.val_main_call0_v2,
    Read.val_main_call0_v1, Read.val_main_call0_v0, Read.val_main_call0_cst, Read.val_main_call0_cst_0]
  simp only [gate_ref, up_ref, Cert.Reals.ofBits_one, EReal.coe_one]
theorem y_ref : Read.val_main_v20 (F := Ideal) x g wg wu wd = fun j : S8192x1024.Idx => res (fun e => x (ix2 (j 0) e)) (upto x g wg wu wd (j 0) 4) (j 1) := by
  funext j
  idx_vars j
  unfold res
  show _ = x (ix2 j0 j1) + _ * upto x g wg wu wd j0 4 j1
  rw [Cert.Ffn2Pair.upto_eq]
  pointwise [Read.val_main_v20, Read.val_main_v19, Read.val_main_v18, Read.val_main_v17, Read.val_main_cst_2]
  simp only [gated_ref]
theorem a_ref : Read.val_main_v23 (F := Ideal) x g wg = fun j : S4x8192x704.Idx => proj x g wg (j 1) (col j) := by
  funext j
  idx_vars j
  pointwise [Read.val_main_v23, Read.val_main_v22, Read.val_main_v21]
  rw [gate_ref]
  rfl
theorem b_ref : Read.val_main_v26 (F := Ideal) x g wu = fun j : S4x8192x704.Idx => proj x g wu (j 1) (col j) := by
  funext j
  idx_vars j
  pointwise [Read.val_main_v26, Read.val_main_v25, Read.val_main_v24]
  rw [up_ref]
  rfl
end read

/-- The reference runs, its arguments end unchanged, and it has no semaphore. -/
theorem frame_ref : Cert.quiescent_Ffn1RefIdeal := by
  intro m g _
  exact (θ_run Cert.Ffn1RefIdeal.defs _ _).mono (fun r h => ⟨fun c => (h c).2.2.2, sem_eq_zero_of_no_sems (by decide) r.2⟩)
    (Cert.Ffn1RefIdeal.Value.run m g)

/-- The block's output and its two saved projections are the reference's. -/
theorem algebraic : Cert.algebraic_Ffn1Ideal_Ffn1RefIdeal := by
  pair_intro
  · run_from Cert.Ffn1Ideal.Value.run_blocks m g
  · run_from Cert.Ffn1RefIdeal.Value.run m' g'
    · rewrite [Cert.Ffn1RefIdeal.Read.val_main_v20_eq, y_ref]
      exact (Cert.Ffn1Ideal.Mine.y_final m c).symm
    · rewrite [Cert.Ffn1RefIdeal.Read.val_main_v23_eq, a_ref]
      exact (Cert.Ffn1Ideal.Mine.a_final m c).symm
    · rewrite [Cert.Ffn1RefIdeal.Read.val_main_v26_eq, b_ref]
      exact (Cert.Ffn1Ideal.Mine.b_final m c).symm

end Cert.Ffn1Claim
-- ==== Proof.MixFwd.lean ====
/- The mixer's norm and combined input projection, forward: what each grid point leaves in its block of the result, the
   whole result, and the reference's. -/
module

public import proofs.«01_k».proof.Proof.Gen.MixFwdIdeal.Value
public import proofs.«01_k».proof.Proof.Gen.MixFwdRefIdeal.Read
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.MixFwdIdeal.Mine
open Cert.MixFwdIdeal Cert.MixFwdIdeal.Gen Idealize.ShloMosaic Idealize.ShloMosaic.TcCoe Idealize.SL.Sem
open Idealize.ShloMosaic.Pipeline (Dat)

/-- A row's normalised entry. -/
def hid (x : FVec Ideal S8192x1024 .f32) (g : FVec Ideal S1024 .f32) (i : Fin 8192) (d : Fin 1024) : EReal :=
  x (ix2 i d) * Ideal.rsqrt (Ideal.div (∑ e : Fin 1024, x (ix2 i e) * x (ix2 i e)) (Ideal.ofBits .f32 0x44800000#32) + Ideal.ofBits .f32 0x358637BD#32) * g (ix1 d)

/-- The projection of the normalised rows. -/
def proj (x : FVec Ideal S8192x1024 .f32) (g : FVec Ideal S1024 .f32) (w : FVec Ideal S1024x2048 .f32) (j : S8192x2048.Idx) : EReal :=
  ∑ d : Fin 1024, hid x g (j 0) d * w (ix2 d (j 1))

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0, 0] ∧ win0_3.index t = ![t.val, 0] :=
  (by decide +kernel : ∀ t : Fin grid0.N, _)

theorem lt_N : t.val < 8 := lt_of_lt_of_eq t.isLt N_0
/-- The array row that row `y` of the block at point `t` is. -/
def row (t : Fin cfg0.N) (y : Fin 1024) : Fin 8192 := ⟨t.val * 1024 + y, by have := lt_N t; omega⟩

abbrev MX : FVec Ideal S8192x1024 .f32 := m ((c.tc : Thread nD τ).loc main_arg0)
abbrev MG : FVec Ideal S1024 .f32 := m ((c.tc : Thread nD τ).loc main_arg1)
abbrev MW : FVec Ideal S1024x2048 .f32 := m ((c.tc : Thread nD τ).loc main_arg2)

theorem h_block (y d : Fin 1024) : k0_pay2 (F := Ideal) (iblk m c 0 t) (iblk m c 1 t) (ix2 y d) = hid (MX m c) (MG m c) (row t y) d := by
  unfold hid row
  pointwise [k0_pay2]
  blk_point [iblk, V, idx t]

theorem w_block (q : Fin 4) (d : Fin 1024) (k : Fin 512) (l : Fin 2048) (hl : (l : ℕ) = q * 512 + k) :
    (iblk m c 2 t : FVec Ideal S4x1024x512 .bf16) (ix3 q d k) = MW m c (ix2 d l) := by
  rw [show l = ⟨q * 512 + k, by omega⟩ from Fin.ext hl]
  blk_point [iblk, V, idx t]

/-- One chunk of columns against one chip's weights. -/
theorem pay_at (H : FVec Ideal S1024x1024 .bf16) (w : FVec Ideal S1x1024x512 .bf16) (y : Fin 1024) (k : Fin 512) :
    k0_pay1 (F := Ideal) H w (ix2 y k) = ∑ d : Fin 1024, H (ix2 y d) * w (ix3 0 d k) := by
  pointwise [k0_pay1]

theorem chunk (q : Fin 4) (o : Fin 3 → ℕ) (ho : o = ![q.val, 0, 0]) (h : ∀ a, o a + ![1, 1024, 512] a ≤ S4x1024x512.size a) (x : S1024x512.Idx) (y : S1024x2048.Idx) (h0 : (y 0 : ℕ) = x 0) (h1 : (y 1 : ℕ) = q * 512 + x 1) :
    k0_pay1 (F := Ideal) (k0_pay2 (iblk m c 0 t) (iblk m c 1 t)) (View.ld (Val := Elt Ideal) (e' := .bf16) (iblk m c 2 t) (Rect.unit o ![1, 1024, 512] h)) x
      = proj (MX m c) (MG m c) (MW m c) (ix2 (row t (y 0)) (y 1)) := by
  subst ho
  idx_vars x
  idx_vars y
  obtain rfl : y0 = x0 := Fin.ext h0
  rw [pay_at]
  unfold proj
  refine Finset.sum_congr rfl fun d _ => ?_
  rw [h_block]
  refine congrArg (fun e : EReal => hid (MX m c) (MG m c) (row t y0) d * e) (Eq.trans ?_ (w_block m c t q d x1 y1 h1))
  show (iblk m c 2 t : FVec Ideal S4x1024x512 .bf16) ((Rect.unit (s := S4x1024x512) ![q.val, 0, 0] ![1, 1024, 512] h).idx (ix3 0 d x1)) = _
  refine congrArg _ ?_
  funext a
  refine Fin.ext ?_
  match a with
  | 0 => simp [Rect.unit]
  | 1 => simp [Rect.unit]
  | 2 => simp [Rect.unit]

set_option maxHeartbeats 1000000 in
theorem point (y : S1024x2048.Idx) : out0_3 (F := Ideal) (iblk m c 0 t) (iblk m c 1 t) (iblk m c 2 t) y = proj (MX m c) (MG m c) (MW m c) (ix2 (row t (y 0)) (y 1)) := by
  unfold out0_3
  frame_out
  canon_tiles x hx
  · exact chunk m c t 3 _ rfl _ x y (by omega) (by show _ = 3 * 512 + _; omega)
  · exact chunk m c t 2 _ rfl _ x y (by omega) (by show _ = 2 * 512 + _; omega)
  · exact chunk m c t 1 _ rfl _ x y (by omega) (by show _ = 1 * 512 + _; omega)
  · exact chunk m c t 0 _ rfl _ x y (by omega) (by show _ = 0 * 512 + _; omega)

/-- The whole result. -/
theorem final : (dats m 0 c).arrAt 3 (cfgs 0).N = proj (MX m c) (MG m c) (MW m c) := by
  refine (dats m 0 c).arrAt_eq_of_covers 3 _ (by decide +kernel) fun t hf y => ?_
  blk_simp
  rw [after0_3]
  idx_vars y
  have e : ((View.whole main_v4).slice (win0_3.rect t)).emb (ix2 y0 y1) = ix2 (row t y0) y1 := by
    unfold row; blk_ext [idx t]
  rw [e]
  exact point m c t _

open Cert.MixFwdRefIdeal in
/-- The reference's result. -/
theorem ref (x : FVec Ideal S8192x1024 .f32) (g : FVec Ideal S1024 .f32) (w : FVec Ideal S1024x2048 .f32) :
    Read.val_main_v13 (F := Ideal) x g w = proj x g w := by
  funext j
  idx_vars j
  unfold proj hid
  pointwise [Read.val_main_v13, Read.val_main_v12, Read.val_main_v11, Read.val_main_v10, Read.val_main_v9, Read.val_main_v8, Read.val_main_v7, Read.val_main_v6,
    Read.val_main_v5, Read.val_main_v4, Read.val_main_v3, Read.val_main_v2, Read.val_main_v1, Read.val_main_v0, Read.val_main_cst, Read.val_main_cst_0, Read.val_main_cst_1]

end Cert.MixFwdIdeal.Mine

end
-- ==== Proof.MixFwdClaim.lean ====
/- The claims about the mixer's input projection, forward. -/
module

public import proofs.«01_k».proof.Defs
public import proofs.«01_k».proof.Proof.MixFwd
public import proofs.«01_k».proof.Proof.Gen.MixFwdRefIdeal.Run
import Idealize.ShloMosaic.Lib.Claim

@[expose] public section

set_option maxRecDepth 16384

noncomputable section

namespace Cert.MixFwdClaim

open Idealize.ShloMosaic Idealize.SL.Sem

/-- The reference runs, its arguments end unchanged, and it has no semaphore. -/
theorem frame_ref : Cert.quiescent_MixFwdRefIdeal := by
  intro m g _
  exact (θ_run Cert.MixFwdRefIdeal.defs _ _).mono (fun r h => ⟨fun c => (h c).2, sem_eq_zero_of_no_sems (by decide) r.2⟩)
    (Cert.MixFwdRefIdeal.Value.run m g)

/-- The call's projection is the reference's. -/
theorem algebraic : Cert.algebraic_MixFwdIdeal_MixFwdRefIdeal := by
  pair_intro
  · run_from Cert.MixFwdIdeal.Value.run_blocks m g
  · run_from Cert.MixFwdRefIdeal.Value.run m' g'
    exact (Cert.MixFwdIdeal.Mine.ref _ _ _).trans (Cert.MixFwdIdeal.Mine.final m c).symm

end Cert.MixFwdClaim

end
-- ==== Proof.ConvFwd.lean ====
/- The depthwise convolution going forward: what one grid point leaves, over any buffers. The rows of the buffer, the shifted
   copies and the taps are read as in the backward call's modules. -/
module

public import proofs.«01_k».proof.Proof.ConvBody
public import proofs.«01_k».proof.Proof.Gen.ConvFwdIdeal.Value
import Idealize.ShloMosaic.Lib.Pipeline.ValueKit
import Idealize.ShloMosaic.Lib.Pipeline.ReadBack
import Idealize.ShloMosaic.Lib.WritesUnit
import Idealize.ShloMosaic.Lib.Claim
public import Idealize.ShloMosaic.Lib.Pointwise

@[expose] public section

set_option maxRecDepth 16384

noncomputable section

namespace Cert.ConvFwdIdeal.Mine

open Cert.ConvFwdIdeal Cert.ConvFwdIdeal.Gen Idealize.ShloMosaic Idealize.ShloMosaic.TcCoe Idealize.SL.Sem
open Cert.ConvIdeal.Mine (at64 tap shL shOver dzAcc wRow whole1 inb_at inb_chunk Holds Shifted pre)

section Body
variable {F : FTy → Type} [FloatOps F]

/-- A chunk of the convolution, its bias added. -/
def uOf (acc : FVec F S64x512 .f32) (bi : Vec F S1x512 .f32) : FVec F S64x512 .f32 :=
  addf acc (broadcastTo S64x512 (shapeCast S1x512 bi shapeCasts_S1x512_S1x512) broadcasts_S1x512_S64x512)

/-- The chunk's rows, centred. -/
def cenOf (u : FVec F S64x512 .f32) : FVec F S64x512 .f32 :=
  subf u (broadcastTo S64x512 (divf (shapeCast S64x1 (multiReduction .add [1] S64 u 0x00000000#32 reduces_S64x512_S64 (.inl rfl) rfl) shapeCasts_S64_S64x1)
    (broadcast S64x1 (Scalar.ofBits .f32 0x44000000#32))) broadcasts_S64x1_S64x512)

/-- One over the root of the centred rows' variance. -/
def rootOf (a : FVec F S64x512 .f32) : FVec F S64x1 .f32 :=
  rsqrt (addf (divf (shapeCast S64x1 (multiReduction .add [1] S64 (mulf a a) 0x00000000#32 reduces_S64x512_S64 (.inl rfl) rfl) shapeCasts_S64_S64x1)
    (broadcast S64x1 (Scalar.ofBits .f32 0x44000000#32))) (broadcast S64x1 (Scalar.ofBits .f32 0x3727C5AC#32)))

/-- The chunk normalised, scaled, shifted and through the swish. -/
def yOf (u : FVec F S64x512 .f32) (g b : Vec F S1x512 .f32) : FVec F S64x512 .bf16 := k0_pay73 (cenOf u) (rootOf (cenOf u)) g b

/-- Rows of the buffer after the writes `L`, of which those above row 32 are what the buffer held. -/
def rdOver (v : Memref sig .tc .vmem S544x512 .f32) (hv : v.IsWhole) (xs : Vec F S544x512 .f32) (L : List (View.Piece (Elt F) S544x512 .f32))
    (o : Nat) (h : o + 64 ≤ 544) : Vec F S64x512 .f32 :=
  if e : 32 ≤ o then at64 v L o h
  else View.readAt (Elt F) v.view (Rect.unit (s := S544x512) ![o, 0] S64x512.size (inb_at (T := 544) o h)).toLoadRect (v.view.writes (Elt F) (hv.unread xs) L)

/-- The chunks stored one below the other. -/
def list64 {e : EltTy} (P : (n : Nat) → n < 8 → Vec F S64x512 e) : (n : Nat) → n ≤ 8 → List (View.Piece (Elt F) S512x512 e)
  | 0, _ => []
  | n + 1, h => ⟨Rect.unit (s := S512x512) ![64 * n, 0] S64x512.size (inb_chunk (T := 512) n (by omega)), P n h⟩ :: list64 P n (by omega)

variable (c : Dev nD) (i : grid0.Coords)
  (arg1 : Memref sig .tc .vmem S512x512 .f32) (harg1 : arg1.IsWhole) (arg2 : Memref sig .tc .vmem S512x512 .f32) (harg2 : arg2.IsWhole)
  (arg3 : Memref sig .tc .vmem S31x512 .f32) (harg3 : arg3.IsWhole) (arg4 : Memref sig .tc .vmem S1x512 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S512x512 .bf16) (harg7 : arg7.IsWhole) (arg8 : Memref sig .tc .vmem S512x512 .f32) (harg8 : arg8.IsWhole)
  (arg9 : Memref sig .tc .vmem S544x512 .f32) (harg9 : arg9.IsWhole) (arg10 : Memref sig .tc .vmem S7x536x512 .f32) (harg10 : arg10.IsWhole)
  (x0 x1 : Vec F S512x512 .f32) (x2 : Vec F S31x512 .f32) (x3 x4 x5 : Vec F S1x512 .f32)

/-- The gated input's store below the buffer's first 32 rows. -/
def fillL : List (View.Piece (Elt F) S544x512 .f32) :=
  [⟨Rect.unit ![32, 0] S512x512.size inb_S544x512_S512x512_32_0,
      k0_pay4 (View.readAt (Elt F) arg1.view (Rect.unit ![0, 0] S512x512.size inb_S512x512_S512x512_0_0).toLoadRect (harg1.unread x0))
        (View.readAt (Elt F) arg2.view (Rect.unit ![0, 0] S512x512.size inb_S512x512_S512x512_0_0).toLoadRect (harg2.unread x1))⟩]

/-- The same after the first point's store of zeros. -/
def fillL0 : List (View.Piece (Elt F) S544x512 .f32) :=
  fillL arg1 harg1 arg2 harg2 x0 x1 ++ [⟨Rect.unit ![0, 0] S32x512.size inb_S544x512_S32x512_0_0, k0_pay3⟩]

/-- A chunk of the convolution, of what the buffer's and the shifted copies' loads read. -/
def convOf (rd : (o : Nat) → o + 64 ≤ 544 → Vec F S64x512 .f32) (Sh : List (View.Piece (Elt F) S7x536x512 .f32)) (n : Nat) (h : n < 8) : FVec F S64x512 .f32 :=
  uOf (dzAcc (fun k hk => tap rd arg10 Sh (2 + k) (by omega) n h) (fun k hk => wRow arg3 harg3 x2 k hk) 30 (by omega)) (whole1 arg4 harg4 x3)

def uL (rd : (o : Nat) → o + 64 ≤ 544 → Vec F S64x512 .f32) (Sh : List (View.Piece (Elt F) S7x536x512 .f32)) : List (View.Piece (Elt F) S512x512 .f32) :=
  list64 (fun n h => convOf arg3 harg3 arg4 harg4 arg10 x2 x3 rd Sh n h) 8 (by omega)
def yL (rd : (o : Nat) → o + 64 ≤ 544 → Vec F S64x512 .f32) (Sh : List (View.Piece (Elt F) S7x536x512 .f32)) : List (View.Piece (Elt F) S512x512 .bf16) :=
  list64 (fun n h => yOf (convOf arg3 harg3 arg4 harg4 arg10 x2 x3 rd Sh n h) (whole1 arg5 harg5 x4) (whole1 arg6 harg6 x5)) 8 (by omega)
/-- The rows kept for the next point. -/
def keepL (L : List (View.Piece (Elt F) S544x512 .f32)) : List (View.Piece (Elt F) S544x512 .f32) :=
  ⟨Rect.unit ![0, 0] S32x512.size inb_S544x512_S32x512_0_0,
    k0_pay2 (arg9.view.readCov L (Rect.unit (s := S544x512) ![512, 0] S32x512.size inb_S544x512_S32x512_512_0).toLoadRect)⟩ :: L

theorem y_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).1
      = yL arg3 harg3 arg4 harg4 arg5 harg5 arg6 harg6 arg10 x2 x3 x4 x5 (at64 arg9 (fillL0 arg1 harg1 arg2 harg2 x0 x1)) (shL arg9 (fillL0 arg1 harg1 arg2 harg2 x0 x1)) := by sl_kernel_rfl
theorem u_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.1
      = uL arg3 harg3 arg4 harg4 arg10 x2 x3 (at64 arg9 (fillL0 arg1 harg1 arg2 harg2 x0 x1)) (shL arg9 (fillL0 arg1 harg1 arg2 harg2 x0 x1)) := by sl_kernel_rfl
theorem s_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.2.1
      = keepL arg9 (fillL0 arg1 harg1 arg2 harg2 x0 x1) := by sl_kernel_rfl
theorem y_B (hc0 : ¬cond0_0 i) (xs : Vec F S544x512 .f32) :
    (kernelRun0_B c i arg1 harg1 arg2 harg2 arg3 harg3 arg4 harg4 arg5 harg5 arg6 harg6 arg7 harg7 arg8 harg8 arg9 harg9 arg10 harg10 hc0 x0 x1 x2 x3 x4 x5 xs).1
      = yL arg3 harg3 arg4 harg4 arg5 harg5 arg6 harg6 arg10 x2 x3 x4 x5 (rdOver arg9 harg9 xs (fillL arg1 harg1 arg2 harg2 x0 x1)) (shOver arg9 harg9 xs (fillL arg1 harg1 arg2 harg2 x0 x1)) := by sl_kernel_rfl
theorem u_B (hc0 : ¬cond0_0 i) (xs : Vec F S544x512 .f32) :
    (kernelRun0_B c i arg1 harg1 arg2 harg2 arg3 harg3 arg4 harg4 arg5 harg5 arg6 harg6 arg7 harg7 arg8 harg8 arg9 harg9 arg10 harg10 hc0 x0 x1 x2 x3 x4 x5 xs).2.1
      = uL arg3 harg3 arg4 harg4 arg10 x2 x3 (rdOver arg9 harg9 xs (fillL arg1 harg1 arg2 harg2 x0 x1)) (shOver arg9 harg9 xs (fillL arg1 harg1 arg2 harg2 x0 x1)) := by sl_kernel_rfl
theorem s_B (hc0 : ¬cond0_0 i) (xs : Vec F S544x512 .f32) :
    (kernelRun0_B c i arg1 harg1 arg2 harg2 arg3 harg3 arg4 harg4 arg5 harg5 arg6 harg6 arg7 harg7 arg8 harg8 arg9 harg9 arg10 harg10 hc0 x0 x1 x2 x3 x4 x5 xs).2.2.1
      = keepL arg9 (fillL arg1 harg1 arg2 harg2 x0 x1) := by sl_kernel_rfl

end Body

end Cert.ConvFwdIdeal.Mine

end
-- ==== Proof.ConvFwdPoint.lean ====
/- The depthwise convolution going forward: its results, entry by entry. -/
module

public import proofs.«01_k».proof.Proof.ConvFwd
public import proofs.«01_k».proof.Proof.ConvPoint
import Idealize.ShloMosaic.Lib.Pipeline.ValueKit
import Idealize.ShloMosaic.Lib.Pipeline.ReadBack
import Idealize.ShloMosaic.Lib.WritesUnit
import Idealize.ShloMosaic.Lib.Claim
public import Idealize.ShloMosaic.Lib.Pointwise

@[expose] public section

set_option maxRecDepth 16384

noncomputable section

namespace Cert.ConvFwdIdeal.Mine

open Cert.ConvFwdIdeal Cert.ConvFwdIdeal.Gen Idealize.ShloMosaic Idealize.ShloMosaic.TcCoe Idealize.SL.Sem
open Cert.ConvIdeal.Mine (at64 tap shL shOver dzAcc wRow whole1 inb_at inb_chunk Holds Shifted pre gin at64_apply shL_holds shOver_holds tap_apply dzAcc_apply wRow_apply whole1_eq load_whole)

/-! ## One chunk -/

section Chunk
variable (u : Vec Ideal S64x512 .f32) (g b : Vec Ideal S1x512 .f32) (r : Fin 64)

theorem cenOf_apply (e : Fin 512) : cenOf (F := Ideal) u (ix2 r e) = Norm.cen (fun k => u (ix2 r k)) e := by
  unfold Norm.cen
  pointwise [cenOf]
theorem rootOf_apply : rootOf (F := Ideal) (cenOf u) (ix2 r 0) = Ideal.rsqrt (Norm.vrc (fun k => u (ix2 r k))) := by
  unfold Norm.vrc
  simp only [← cenOf_apply]
  generalize cenOf (F := Ideal) u = A
  pointwise [rootOf]
/-- The swish of the layer norm of a row. -/
def act (u g b : Fin 512 → EReal) (e : Fin 512) : EReal := pre u g b e * Ideal.logistic (pre u g b e)
theorem yOf_apply (e : Fin 512) : yOf u g b (ix2 r e) = act (fun k => u (ix2 r k)) (fun k => g (ix2 0 k)) (fun k => b (ix2 0 k)) e := by
  unfold act pre Norm.nrm
  rw [← cenOf_apply, ← rootOf_apply]
  unfold yOf
  generalize rootOf (F := Ideal) (cenOf u) = R
  generalize cenOf (F := Ideal) u = A
  pointwise [k0_pay73]
theorem uOf_apply (e : Fin 512) : uOf u b (ix2 r e) = u (ix2 r e) + b (ix2 0 e) := by
  pointwise [uOf]

theorem list64_read {e : EltTy} (v : View sig .tc .vmem S512x512 e) (f : v.ty.Contents (Elt Ideal)) (P : (n : Nat) → n < 8 → Vec Ideal S64x512 e) (y : S512x512.Idx) :
    ∀ (m : ℕ) (hm : m ≤ 8) (h : (y 0).val < 64 * m), v.read (Elt Ideal) (v.writes (Elt Ideal) f (list64 P m hm)) y
      = P ((y 0).val / 64) (by omega) (ix2 ⟨(y 0).val % 64, by omega⟩ (y 1))
  | 0, _, h => absurd h (by omega)
  | m + 1, hm, h => by
    by_cases h1 : 64 * m ≤ (y 0).val
    · refine (View.read_writes_cons_unit_of_mem _ _ _ _ _ y (ix2 ⟨(y 0).val - 64 * m, by omega⟩ (y 1)) rfl ?_).trans ?_
      · intro a; match a with
        | ⟨0, _⟩ => exact (show (y 0).val = 64 * m + ((y 0).val - 64 * m) by omega)
        | ⟨1, _⟩ => exact (show (y 1).val = 0 + (y 1).val by omega)
      · have e1 : m = (y 0).val / 64 := by omega
        have e2 : (⟨(y 0).val - 64 * m, by omega⟩ : Fin 64) = ⟨(y 0).val % 64, by omega⟩ := Fin.ext (by show (y 0).val - 64 * m = (y 0).val % 64; omega)
        rw [e2]
        congr 1
    · refine (View.read_writes_cons_unit_of_not_mem _ _ _ _ _ y rfl 0 ?_).trans (list64_read v f P y m (by omega) (by omega))
      exact .inl (show (y 0).val < 64 * m by omega)
end Chunk

/-! ## One point -/

/-- The convolution of the rows `G`, at row `σ`. -/
def csum (G : ℕ → Fin 512 → EReal) (w : Vec Ideal S31x512 .f32) (bi : Fin 512 → EReal) (σ : ℕ) (d : Fin 512) : EReal :=
  ∑ j ∈ Finset.range 31, G (2 + j + σ) d * (if h : j < 31 then w (ix2 (⟨j, h⟩ : Fin 31) d) else 0) + bi d

section Body
variable
  {arg1 : Memref sig .tc .vmem S512x512 .f32} (harg1 : arg1.IsWhole) {arg2 : Memref sig .tc .vmem S512x512 .f32} (harg2 : arg2.IsWhole)
  {arg3 : Memref sig .tc .vmem S31x512 .f32} (harg3 : arg3.IsWhole) {arg4 : Memref sig .tc .vmem S1x512 .f32} (harg4 : arg4.IsWhole)
  {arg5 : Memref sig .tc .vmem S1x512 .f32} (harg5 : arg5.IsWhole) {arg6 : Memref sig .tc .vmem S1x512 .f32} (harg6 : arg6.IsWhole)
  {arg9 : Memref sig .tc .vmem S544x512 .f32} (harg9 : arg9.IsWhole) {arg10 : Memref sig .tc .vmem S7x536x512 .f32}
  {x0 x1 : Vec Ideal S512x512 .f32} {x2 : Vec Ideal S31x512 .f32} {x3 x4 x5 : Vec Ideal S1x512 .f32}
  {G : ℕ → Fin 512 → EReal}

section Read
variable {rd : (o : Nat) → o + 64 ≤ 544 → Vec Ideal S64x512 .f32} (hr : ∀ o ho (r : Fin 64) d, rd o ho (ix2 r d) = G (o + r) d)
  {Sh : List (View.Piece (Elt Ideal) S7x536x512 .f32)} (hs : Shifted arg10 Sh G)
include hr hs

theorem convOf_apply (n : ℕ) (hn : n < 8) (r : Fin 64) (d : Fin 512) :
    convOf arg3 harg3 arg4 harg4 arg10 x2 x3 rd Sh n hn (ix2 r d) = csum G x2 (fun k => x3 (ix2 0 k)) (64 * n + r) d := by
  unfold convOf csum
  rw [uOf_apply, whole1_eq]
  refine congrArg (· + x3 (ix2 0 d)) ?_
  exact dzAcc_apply (y := fun k => G (2 + k + (64 * n + r)) d) (W := fun k => if h : k < 31 then x2 (ix2 (⟨k, h⟩ : Fin 31) d) else 0) r d
    (fun k hk => (tap_apply hr hs (2 + k) (by omega) n hn r d).trans (by rw [Nat.add_assoc (2 + k)]))
    (fun k hk => (wRow_apply _ _ _ _ _ _).trans (by rw [dif_pos hk])) 30 (by omega)

theorem uL_read (v : View sig .tc .vmem S512x512 .f32) (f : v.ty.Contents (Elt Ideal)) (ρ d : Fin 512) :
    v.read (Elt Ideal) (v.writes (Elt Ideal) f (uL arg3 harg3 arg4 harg4 arg10 x2 x3 rd Sh)) (ix2 ρ d) = csum G x2 (fun k => x3 (ix2 0 k)) ρ d := by
  refine (list64_read v f _ (ix2 ρ d) 8 (by omega) (show ρ.val < 64 * 8 by omega)).trans ((convOf_apply harg3 harg4 hr hs _ _ _ _).trans ?_)
  have e : 64 * (ρ.val / 64) + ρ.val % 64 = ρ.val := by omega
  exact congrArg (fun s => csum G x2 (fun k => x3 (ix2 0 k)) s d) e

theorem yL_read (v : View sig .tc .vmem S512x512 .bf16) (f : v.ty.Contents (Elt Ideal)) (ρ d : Fin 512) :
    v.read (Elt Ideal) (v.writes (Elt Ideal) f (yL arg3 harg3 arg4 harg4 arg5 harg5 arg6 harg6 arg10 x2 x3 x4 x5 rd Sh)) (ix2 ρ d)
      = act (csum G x2 (fun k => x3 (ix2 0 k)) ρ) (fun k => x4 (ix2 0 k)) (fun k => x5 (ix2 0 k)) d := by
  refine (list64_read v f _ (ix2 ρ d) 8 (by omega) (show ρ.val < 64 * 8 by omega)).trans ((yOf_apply _ _ _ _ _).trans ?_)
  rw [whole1_eq, whole1_eq]
  refine congrArg (fun s => act s (fun k => x4 (ix2 0 k)) (fun k => x5 (ix2 0 k)) d) (funext fun k => (convOf_apply harg3 harg4 hr hs _ _ _ _).trans ?_)
  have e : 64 * (ρ.val / 64) + ρ.val % 64 = ρ.val := by omega
  exact congrArg (fun s => csum G x2 (fun k => x3 (ix2 0 k)) s k) e
end Read

variable (hf : ∀ (ρ d : Fin 512), k0_pay4 x0 x1 (ix2 ρ d) = G (32 + ρ) d)
include hf

theorem fill_low (f : arg9.view.ty.Contents (Elt Ideal)) (L : List (View.Piece (Elt Ideal) S544x512 .f32)) (ρ : Fin 544) (h : 32 ≤ ρ.val) (d : Fin 512) :
    arg9.view.read (Elt Ideal) (arg9.view.writes (Elt Ideal) f (fillL arg1 harg1 arg2 harg2 x0 x1 ++ L)) (ix2 ρ d) = G ρ d := by
  refine (View.read_writes_cons_unit_of_mem (s := S544x512) (size := S512x512.size) _ _ _ _ _ _ (ix2 (⟨ρ - 32, by omega⟩ : Fin 512) d : S512x512.Idx) rfl ?_).trans ?_
  · intro a; match a with
    | ⟨0, _⟩ => exact (show ρ.val = 32 + (ρ - 32) by omega)
    | ⟨1, _⟩ => exact (show d.val = 0 + d.val by omega)
  · have := hf ⟨ρ - 32, by omega⟩ d
    have e : 32 + (ρ.val - 32) = ρ.val := by omega
    dsimp only at this
    rw [e] at this
    exact (congrFun (congrArg₂ k0_pay4 (load_whole arg1 harg1 x0 inb_S512x512_S512x512_0_0) (load_whole arg2 harg2 x1 inb_S512x512_S512x512_0_0)) _).trans this

theorem fillL0_holds (hz : ∀ (j : Fin 32) d, G j d = 0) : Holds arg9 arg9.view.junk (fillL0 arg1 harg1 arg2 harg2 x0 x1) G := fun ρ d => by
  by_cases h : 32 ≤ ρ.val
  · exact fill_low harg1 harg2 hf _ _ ρ h d
  · refine (View.read_writes_cons_unit_of_not_mem _ _ _ _ _ _ rfl 0 ?_).trans ?_
    · exact .inl (show ρ.val < 32 by omega)
    refine (View.read_writes_cons_unit_of_mem (s := S544x512) (size := S32x512.size) _ _ _ _ _ _ (ix2 (⟨ρ, by omega⟩ : Fin 32) d : S32x512.Idx) rfl ?_).trans ?_
    · intro a; match a with
      | ⟨0, _⟩ => exact (show ρ.val = 0 + ρ by omega)
      | ⟨1, _⟩ => exact (show d.val = 0 + d.val by omega)
    · refine Eq.trans ?_ (hz ⟨ρ, by omega⟩ d).symm
      pointwise [k0_pay3]

theorem fillL_holds {xs : Vec Ideal S544x512 .f32} (hz : ∀ (j : Fin 32) d, xs (ix2 (⟨j, by omega⟩ : Fin 544) d) = G j d) :
    Holds arg9 (harg9.unread xs) (fillL arg1 harg1 arg2 harg2 x0 x1) G := fun ρ d => by
  by_cases h : 32 ≤ ρ.val
  · have := fill_low (arg9 := arg9) harg1 harg2 hf (harg9.unread xs) [] ρ h d
    rw [List.append_nil] at this
    exact this
  · refine (View.read_writes_cons_unit_of_not_mem _ _ _ _ _ _ rfl 0 ?_).trans ?_
    · exact .inl (show ρ.val < 32 by omega)
    · show arg9.view.read (Elt Ideal) (harg9.unread xs) (ix2 ρ d) = _
      rw [harg9.read_unread]
      exact hz ⟨ρ, by omega⟩ d

theorem rdOver_apply {xs : Vec Ideal S544x512 .f32} (hz : ∀ (j : Fin 32) d, xs (ix2 (⟨j, by omega⟩ : Fin 544) d) = G j d)
    (o : ℕ) (ho : o + 64 ≤ 544) (r : Fin 64) (d : Fin 512) :
    rdOver arg9 harg9 xs (fillL arg1 harg1 arg2 harg2 x0 x1) o ho (ix2 r d) = G (o + r) d := by
  have e : (Rect.unit (s := S544x512) ![o, 0] S64x512.size (inb_at (T := 544) o ho)).toLoadRect.idx (ix2 r d) = ix2 (⟨o + r, by omega⟩ : Fin 544) d := by
    funext a; match a with
    | ⟨0, _⟩ => exact Fin.ext (by simp [Rect.unit, ix2])
    | ⟨1, _⟩ => exact Fin.ext (by simp [Rect.unit, ix2])
  unfold rdOver
  split
  · have := fill_low (arg9 := arg9) harg1 harg2 hf arg9.view.junk [] ⟨o + r, by omega⟩ (show 32 ≤ o + r.val by omega) d
    rw [List.append_nil, ← e] at this
    exact this
  · have := fillL_holds harg1 harg2 harg9 hf hz ⟨o + r, by omega⟩ d
    rw [← e] at this
    exact this

theorem keepL_read (v : View sig .tc .vmem S544x512 .f32) (f : v.ty.Contents (Elt Ideal)) (L : List (View.Piece (Elt Ideal) S544x512 .f32)) (j : Fin 32) (d : Fin 512) :
    v.read (Elt Ideal) (v.writes (Elt Ideal) f (keepL arg9 (fillL arg1 harg1 arg2 harg2 x0 x1 ++ L))) (ix2 (⟨j, by omega⟩ : Fin 544) d) = G (512 + j) d := by
  refine (View.read_writes_cons_unit_of_mem (s := S544x512) (size := S32x512.size) _ _ _ _ _ _ (ix2 j d : S32x512.Idx) rfl ?_).trans ?_
  · intro a; match a with
    | ⟨0, _⟩ => exact (show j.val = 0 + j.val by omega)
    | ⟨1, _⟩ => exact (show d.val = 0 + d.val by omega)
  · have h1 : ∀ X : Vec Ideal S32x512 .f32, k0_pay2 X (ix2 j d) = X (ix2 j d) := fun X => by pointwise [k0_pay2]
    have e : (Rect.unit (s := S544x512) ![512, 0] S32x512.size inb_S544x512_S32x512_512_0).toLoadRect.idx (ix2 j d) = ix2 (⟨512 + j, by omega⟩ : Fin 544) d := by
      funext a; match a with
      | ⟨0, _⟩ => exact Fin.ext (by simp [Rect.unit, ix2])
      | ⟨1, _⟩ => exact Fin.ext (by simp [Rect.unit, ix2])
    have := fill_low (arg9 := arg9) harg1 harg2 hf arg9.view.junk L ⟨512 + j, by omega⟩ (show 32 ≤ 512 + j.val by omega) d
    rw [← e] at this
    exact (h1 _).trans this
end Body

/-! ## The blocks -/

variable (m : (ℓ : Loc nD τ sig) → Buf (Elt Ideal) ℓ) (c : Dev nD) (t : Fin cfg0.N)

theorem idx : ∀ t : Fin cfg0.N, win0_0.index t = ![t.val, 0] ∧ win0_1.index t = ![t.val, 1] ∧ win0_2.index t = ![0, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

theorem lt_N : t.val < 16 := lt_of_lt_of_eq t.isLt N_0
/-- The array row that row `y` of the block at point `t` is. -/
def row (t : Fin cfg0.N) (y : Fin 512) : Fin 8192 := ⟨t.val * 512 + y, by have := lt_N t; omega⟩

abbrev MZ : FVec Ideal S8192x2048 .f32 := m ((c.tc : Thread nD τ).loc main_arg0)
abbrev MW : FVec Ideal S31x512 .f32 := m ((c.tc : Thread nD τ).loc main_arg1)
abbrev MI : FVec Ideal S512 .f32 := m ((c.tc : Thread nD τ).loc main_arg2)
abbrev MG : FVec Ideal S512 .f32 := m ((c.tc : Thread nD τ).loc main_arg3)
abbrev MB : FVec Ideal S512 .f32 := m ((c.tc : Thread nD τ).loc main_arg4)

theorem x0_block (r d : Fin 512) : (iblk m c 0 t : FVec Ideal S512x512 .f32) (ix2 r d) = MZ m c (ix2 (row t r) (⟨d, by omega⟩ : Fin 2048)) := by
  unfold row
  blk_point [iblk, V, idx t]
theorem x1_block (r d : Fin 512) : (iblk m c 1 t : FVec Ideal S512x512 .f32) (ix2 r d) = MZ m c (ix2 (row t r) (⟨512 + d, by omega⟩ : Fin 2048)) := by
  unfold row
  blk_point [iblk, V, idx t]
theorem x2_block (k : Fin 31) (d : Fin 512) : (iblk m c 2 t : FVec Ideal S31x512 .f32) (ix2 k d) = MW m c (ix2 k d) := by
  blk_point [iblk, V, idx t]
theorem V_0 : V m c main_v0 = shapeCast S1x512 (MI m c) shapeCasts_S512_S1x512 := by
  unfold V; after_results
  rfl
theorem V_1 : V m c main_v1 = shapeCast S1x512 (MG m c) shapeCasts_S512_S1x512 := by
  unfold V; after_results
  rfl
theorem V_2 : V m c main_v2 = shapeCast S1x512 (MB m c) shapeCasts_S512_S1x512 := by
  unfold V; after_results
  rfl
theorem x3_block (d : Fin 512) : (iblk m c 3 t : FVec Ideal S1x512 .f32) (ix2 0 d) = MI m c (ix1 d) := by
  have e : ((cfg0.win 3).blk t).view.emb (ix2 0 d) = (ix2 0 d : S1x512.Idx) := by blk_ext [idx t]
  have h : (iblk m c 3 t : FVec Ideal S1x512 .f32) (ix2 0 d) = (V m c main_v0 : S1x512.Idx → Elt Ideal .f32) (((cfg0.win 3).blk t).view.emb (ix2 0 d)) := rfl
  rw [h, e, V_0]
  pointwise []
theorem x4_block (d : Fin 512) : (iblk m c 4 t : FVec Ideal S1x512 .f32) (ix2 0 d) = MG m c (ix1 d) := by
  have e : ((cfg0.win 4).blk t).view.emb (ix2 0 d) = (ix2 0 d : S1x512.Idx) := by blk_ext [idx t]
  have h : (iblk m c 4 t : FVec Ideal S1x512 .f32) (ix2 0 d) = (V m c main_v1 : S1x512.Idx → Elt Ideal .f32) (((cfg0.win 4).blk t).view.emb (ix2 0 d)) := rfl
  rw [h, e, V_1]
  pointwise []
theorem x5_block (d : Fin 512) : (iblk m c 5 t : FVec Ideal S1x512 .f32) (ix2 0 d) = MB m c (ix1 d) := by
  have e : ((cfg0.win 5).blk t).view.emb (ix2 0 d) = (ix2 0 d : S1x512.Idx) := by blk_ext [idx t]
  have h : (iblk m c 5 t : FVec Ideal S1x512 .f32) (ix2 0 d) = (V m c main_v2 : S1x512.Idx → Elt Ideal .f32) (((cfg0.win 5).blk t).view.emb (ix2 0 d)) := rfl
  rw [h, e, V_2]
  pointwise []

/-- The gated input from 32 rows above the point's block on. -/
def Gt (s : ℕ) (d : Fin 512) : EReal := gin (MZ m c) (t.val * 512 + s) d

theorem hf (ρ d : Fin 512) : k0_pay4 (iblk m c 0 t) (iblk m c 1 t) (ix2 ρ d) = Gt m c t (32 + ρ) d := by
  have := lt_N t
  have h1 : ∀ A B : Vec Ideal S512x512 .f32, k0_pay4 A B (ix2 ρ d) = A (ix2 ρ d) * Ideal.logistic (B (ix2 ρ d)) := fun A B => by pointwise [k0_pay4]
  rw [h1, x0_block, x1_block]
  unfold Gt gin
  rw [dif_pos (by omega)]
  have e : ∀ h2, row t ρ = ⟨t.val * 512 + (32 + ρ) - 32, h2⟩ := fun _ => Fin.ext (by show t.val * 512 + ρ.val = t.val * 512 + (32 + ρ.val) - 32; omega)
  rw [e]

theorem zero_before (h0 : t.val % 16 = 0) (j : Fin 32) (d : Fin 512) : Gt m c t j d = 0 := by
  have := lt_N t
  unfold Gt gin
  rw [dif_neg (by omega)]

/-- The rows the next point needs. -/
theorem kept (j : Fin 32) (d : Fin 512) : (outsAt0 m c t.val t.isLt).2.2 (ix2 (⟨j, by omega⟩ : Fin 544) d) = Gt m c t (512 + j) d := by
  by_cases h0 : t.val % 16 = 0
  · rw [outsAt0_A m c t h0]
    dsimp only
    unfold sout0_A_0
    rw [s_A]
    exact keepL_read (arg9 := scM0_0) (x0 := iblk m c 0 t) (x1 := iblk m c 1 t) (hs0_0 t) (hs0_1 t) (hf m c t) _ _ _ j d
  · rw [outsAt0_B m c t h0]
    dsimp only
    unfold sout0_B_0
    rw [s_B]
    have := keepL_read (arg9 := scM0_0) (x0 := iblk m c 0 t) (x1 := iblk m c 1 t) (hs0_0 t) (hs0_1 t) (hf m c t) VS0_0 VS0_0.junk [] j d
    rw [List.append_nil] at this
    exact this

theorem before (h0 : ¬t.val % 16 = 0) (j : Fin 32) (d : Fin 512) :
    (outsAt0 m c (t.val - 1) (Nat.lt_of_le_of_lt (Nat.sub_le _ _) t.isLt)).2.2 (ix2 (⟨j, by omega⟩ : Fin 544) d) = Gt m c t j d := by
  refine (kept m c ⟨t.val - 1, Nat.lt_of_le_of_lt (Nat.sub_le _ _) t.isLt⟩ j d).trans ?_
  have e : (t.val - 1) * 512 + (512 + j.val) = t.val * 512 + j.val := by omega
  exact congrArg (fun s => gin (MZ m c) s d) e

/-- The convolution at an array's row. -/
def convAt (z : FVec Ideal S8192x2048 .f32) (w : FVec Ideal S31x512 .f32) (bi : FVec Ideal S512 .f32) (i : Fin 8192) (d : Fin 512) : EReal :=
  csum (gin z) w (fun k => bi (ix1 k)) i d
def actAt (z : FVec Ideal S8192x2048 .f32) (w : FVec Ideal S31x512 .f32) (bi g b : FVec Ideal S512 .f32) (i : Fin 8192) (d : Fin 512) : EReal :=
  act (convAt z w bi i) (fun k => g (ix1 k)) (fun k => b (ix1 k)) d

theorem conv_block (ρ d : Fin 512) : csum (Gt m c t) (iblk m c 2 t) (fun k => iblk m c 3 t (ix2 0 k)) ρ d = convAt (MZ m c) (MW m c) (MI m c) (row t ρ) d := by
  unfold convAt csum
  refine congrArg₂ (· + ·) (Finset.sum_congr rfl fun k hk => ?_) (x3_block m c t d)
  rw [dif_pos (Finset.mem_range.1 hk), dif_pos (Finset.mem_range.1 hk), x2_block]
  have e : t.val * 512 + (2 + k + ρ.val) = 2 + k + (row t ρ).val := by show _ = 2 + k + (t.val * 512 + ρ.val); omega
  exact congrArg (fun s => gin (MZ m c) s d * _) e

theorem u_point (ρ d : Fin 512) : (outsAt0 m c t.val t.isLt).2.1 (ix2 ρ d) = convAt (MZ m c) (MW m c) (MI m c) (row t ρ) d := by
  refine Eq.trans ?_ (conv_block m c t ρ d)
  by_cases h0 : t.val % 16 = 0
  · rw [outsAt0_A m c t h0]
    dsimp only
    unfold out0_A_7
    rw [u_A]
    have hh := fillL0_holds (arg9 := scM0_0) (G := Gt m c t) (x0 := iblk m c 0 t) (x1 := iblk m c 1 t) (hs0_0 t) (hs0_1 t) (hf m c t) (zero_before m c t h0)
    exact uL_read (arg10 := scM0_1) (G := Gt m c t) (hs0_2 t) (hs0_3 t) (fun o ho r d => at64_apply hh o ho r d) (shL_holds hh) _ _ ρ d
  · rw [outsAt0_B m c t h0]
    dsimp only
    unfold out0_B_7
    rw [u_B]
    have hh := fillL_holds (arg9 := scM0_0) (G := Gt m c t) (x0 := iblk m c 0 t) (x1 := iblk m c 1 t) (hs0_0 t) (hs0_1 t) (Memref.isWhole_whole _) (hf m c t) (before m c t h0)
    exact uL_read (arg10 := scM0_1) (G := Gt m c t) (hs0_2 t) (hs0_3 t)
      (fun o ho r d => rdOver_apply (arg9 := scM0_0) (G := Gt m c t) (x0 := iblk m c 0 t) (x1 := iblk m c 1 t) (hs0_0 t) (hs0_1 t) (Memref.isWhole_whole _) (hf m c t) (before m c t h0) o ho r d)
      (shOver_holds (Memref.isWhole_whole _) _ hh) _ _ ρ d

theorem y_point (ρ d : Fin 512) : (outsAt0 m c t.val t.isLt).1 (ix2 ρ d) = actAt (MZ m c) (MW m c) (MI m c) (MG m c) (MB m c) (row t ρ) d := by
  have key : act (csum (Gt m c t) (iblk m c 2 t) (fun k => iblk m c 3 t (ix2 0 k)) ρ) (fun k => iblk m c 4 t (ix2 0 k)) (fun k => iblk m c 5 t (ix2 0 k)) d
      = actAt (MZ m c) (MW m c) (MI m c) (MG m c) (MB m c) (row t ρ) d := by
    unfold actAt
    rw [show csum (Gt m c t) (iblk m c 2 t) (fun k => iblk m c 3 t (ix2 0 k)) ρ = convAt (MZ m c) (MW m c) (MI m c) (row t ρ) from funext fun d => conv_block m c t ρ d,
      show (fun k : Fin 512 => (iblk m c 4 t : FVec Ideal S1x512 .f32) (ix2 0 k)) = fun k => MG m c (ix1 k) from funext fun k => x4_block m c t k,
      show (fun k : Fin 512 => (iblk m c 5 t : FVec Ideal S1x512 .f32) (ix2 0 k)) = fun k => MB m c (ix1 k) from funext fun k => x5_block m c t k]
  refine Eq.trans ?_ key
  by_cases h0 : t.val % 16 = 0
  · rw [outsAt0_A m c t h0]
    dsimp only
    unfold out0_A_6
    rw [y_A]
    have hh := fillL0_holds (arg9 := scM0_0) (G := Gt m c t) (x0 := iblk m c 0 t) (x1 := iblk m c 1 t) (hs0_0 t) (hs0_1 t) (hf m c t) (zero_before m c t h0)
    exact yL_read (arg10 := scM0_1) (G := Gt m c t) (hs0_2 t) (hs0_3 t) (hs0_4 t) (hs0_5 t) (fun o ho r d => at64_apply hh o ho r d) (shL_holds hh) _ _ ρ d
  · rw [outsAt0_B m c t h0]
    dsimp only
    unfold out0_B_6
    rw [y_B]
    have hh := fillL_holds (arg9 := scM0_0) (G := Gt m c t) (x0 := iblk m c 0 t) (x1 := iblk m c 1 t) (hs0_0 t) (hs0_1 t) (Memref.isWhole_whole _) (hf m c t) (before m c t h0)
    exact yL_read (arg10 := scM0_1) (G := Gt m c t) (hs0_2 t) (hs0_3 t) (hs0_4 t) (hs0_5 t)
      (fun o ho r d => rdOver_apply (arg9 := scM0_0) (G := Gt m c t) (x0 := iblk m c 0 t) (x1 := iblk m c 1 t) (hs0_0 t) (hs0_1 t) (Memref.isWhole_whole _) (hf m c t) (before m c t h0) o ho r d)
      (shOver_holds (Memref.isWhole_whole _) _ hh) _ _ ρ d

theorem y_final : (dats m 0 c).arrAt 6 (cfgs 0).N = fun j : S8192x512.Idx => actAt (MZ m c) (MW m c) (MI m c) (MG m c) (MB m c) (j 0) (j 1) := by
  refine (dats m 0 c).arrAt_eq_of_covers 6 _ (by decide +kernel) fun t hf y => ?_
  blk_simp
  rw [after0_6]
  idx_vars y
  have e : ((View.whole main_v3_0).slice (win0_6.rect t)).emb (ix2 y0 y1) = ix2 (row t y0) y1 := by
    unfold row; blk_ext [idx t]
  rw [e]
  exact y_point m c t _ _

theorem u_final : (dats m 0 c).arrAt 7 (cfgs 0).N = fun j : S8192x512.Idx => convAt (MZ m c) (MW m c) (MI m c) (j 0) (j 1) := by
  refine (dats m 0 c).arrAt_eq_of_covers 7 _ (by decide +kernel) fun t hf y => ?_
  blk_simp
  rw [after0_7]
  idx_vars y
  have e : ((View.whole main_v3_1).slice (win0_7.rect t)).emb (ix2 y0 y1) = ix2 (row t y0) y1 := by
    unfold row; blk_ext [idx t]
  rw [e]
  exact u_point m c t _ _

end Cert.ConvFwdIdeal.Mine
end
end
-- ==== Proof.ConvFwdClaim.lean ====
/- The depthwise convolution going forward: the reference read at an index, the frame of the reference, and the equality of
   the two programs' results. -/
module

public import proofs.«01_k».proof.Defs
public import proofs.«01_k».proof.Proof.ConvFwdPoint
public import proofs.«01_k».proof.Proof.ConvTaps
public import proofs.«01_k».proof.Proof.Gen.ConvFwdRefIdeal.Run
public import proofs.«01_k».proof.Proof.Gen.ConvFwdRefIdeal.Read
import Idealize.ShloMosaic.Lib.Claim

@[expose] public section

set_option maxRecDepth 16384
set_option maxHeartbeats 1000000

noncomputable section

namespace Cert.ConvFwdClaim

open Cert.ConvFwdRefIdeal Cert.ConvFwdRefIdeal.Gen Idealize.ShloMosaic Idealize.ShloMosaic.TcCoe Idealize.SL.Sem
open Cert.ConvPair (taps)
open Cert.ConvIdeal.Mine (gin pre)
open Cert.ConvFwdIdeal.Mine (csum act convAt actAt)

section read
variable (z : FVec Ideal S8192x2048 .f32) (w : FVec Ideal S31x512 .f32) (bi g b : FVec Ideal S512 .f32)

theorem taps_ref : Read.val_main_v164 (F := Ideal) z w = taps (F := Ideal) (Read.val_main_v10 (F := Ideal) z) w 30 (by omega) := by sl_kernel_rfl

theorem up_ref (σ : Fin 8222) (d : Fin 512) : Read.val_main_v10 (F := Ideal) z (ix2 σ d) = gin z (2 + σ.val) d := by
  unfold gin Ideal.logistic
  have hs := σ.isLt
  pointwise [Read.val_main_v10, Read.val_main_v9, Read.val_main_cst_1, Read.val_main_v8, Read.val_main_v7, Read.val_main_v6, Read.val_main_v5, Read.val_main_v4, Read.val_main_v3, Read.val_main_v2, Read.val_main_v1,
    Read.val_main_v0, Read.val_main_cst, Read.val_main_cst_0]
  by_cases h : σ.val < 30
  · rw [dif_pos h, dif_neg (by omega)]
  · rw [dif_neg h, dif_pos (by omega)]
    have e : 2 + σ.val - 32 = σ.val - 30 := by omega
    simp only [e, Cert.Reals.ofBits_one, EReal.coe_one]

theorem taps_apply (up : FVec Ideal S8222x512 .f32) (i : Fin 8192) (d : Fin 512) : ∀ (k : ℕ) (h : k < 31), taps (F := Ideal) up w k h (ix2 i d)
    = ∑ j ∈ Finset.range (k + 1), (if h : j < 31 then up (ix2 (⟨j + i, by omega⟩ : Fin 8222) d) * w (ix2 (⟨j, h⟩ : Fin 31) d) else 0)
  | 0, h => by
    rw [Finset.sum_range_one, dif_pos h]
    unfold taps Cert.ConvPair.shiftBy Cert.ConvPair.tapRow
    pointwise []
  | k + 1, h => by
    rw [Finset.sum_range_succ, ← taps_apply up i d k (by omega), dif_pos h]
    show addf (taps (F := Ideal) up w k (by omega)) (mulf (Cert.ConvPair.shiftBy up (k + 1) h) (Cert.ConvPair.tapRow w (k + 1) h)) (ix2 i d) = _
    have h1 : ∀ A : FVec Ideal S8192x512 .f32, addf A (mulf (Cert.ConvPair.shiftBy up (k + 1) h) (Cert.ConvPair.tapRow w (k + 1) h)) (ix2 i d)
        = A (ix2 i d) + up (ix2 (⟨k + 1 + i, by omega⟩ : Fin 8222) d) * w (ix2 (⟨k + 1, h⟩ : Fin 31) d) := fun A => by
      unfold Cert.ConvPair.shiftBy Cert.ConvPair.tapRow
      pointwise []
    exact h1 _

theorem u_at (i : Fin 8192) (d : Fin 512) : Read.val_main_v167 (F := Ideal) z w bi (ix2 i d) = convAt z w bi i d := by
  unfold convAt csum
  have h1 : Read.val_main_v167 (F := Ideal) z w bi (ix2 i d) = Read.val_main_v164 (F := Ideal) z w (ix2 i d) + bi (ix1 d) := by
    unfold Read.val_main_v167
    generalize Read.val_main_v164 (F := Ideal) z w = A
    pointwise [Read.val_main_v166, Read.val_main_v165]
  rw [h1, taps_ref, taps_apply]
  refine congrArg (· + bi (ix1 d)) (Finset.sum_congr rfl fun j hj => ?_)
  have hj' : j < 31 := Finset.mem_range.1 hj
  rw [dif_pos hj', dif_pos hj', up_ref]
  exact congrArg (fun s => gin z s d * _) (Nat.add_assoc 2 j i).symm

/-- The row the norm reads. -/
abbrev urow (i : Fin 8192) : Fin 512 → EReal := fun k => Read.val_main_v167 (F := Ideal) z w bi (ix2 i k)

theorem cen_ref (i : Fin 8192) (d : Fin 512) : Read.val_main_v173 (F := Ideal) z w bi (ix2 i d) = Norm.cen (urow z w bi i) d := by
  unfold Norm.cen
  pointwise [Read.val_main_v173, Read.val_main_v172, Read.val_main_v171, Read.val_main_v170, Read.val_main_v169, Read.val_main_v168, Read.val_main_cst_2, Read.val_main_cst_3]
theorem rs_ref (i : Fin 8192) : Read.val_main_v181 (F := Ideal) z w bi (ix2 i 0) = Ideal.rsqrt (Norm.vrc (urow z w bi i)) := by
  unfold Norm.vrc
  simp only [← cen_ref]
  pointwise [Read.val_main_v181, Read.val_main_v180, Read.val_main_v179, Read.val_main_v178, Read.val_main_v177, Read.val_main_v176, Read.val_main_v175, Read.val_main_v174,
    Read.val_main_cst_4, Read.val_main_cst_5, Read.val_main_cst_6]
theorem pre_ref (i : Fin 8192) (d : Fin 512) : Read.val_main_v189 (F := Ideal) z w bi g b (ix2 i d) = pre (urow z w bi i) (fun k => g (ix1 k)) (fun k => b (ix1 k)) d := by
  unfold pre Norm.nrm
  rw [← cen_ref, ← rs_ref]
  pointwise [Read.val_main_v189, Read.val_main_v188, Read.val_main_v187, Read.val_main_v186, Read.val_main_v185, Read.val_main_v184, Read.val_main_v183, Read.val_main_v182]

theorem u_ref : Read.val_main_v167 (F := Ideal) z w bi = fun j : S8192x512.Idx => convAt z w bi (j 0) (j 1) := by
  funext j
  idx_vars j
  exact u_at z w bi j0 j1
theorem y_ref : Read.val_main_v191 (F := Ideal) z w bi g b = fun j : S8192x512.Idx => actAt z w bi g b (j 0) (j 1) := by
  funext j
  idx_vars j
  have e : urow z w bi j0 = convAt z w bi j0 := funext fun k => u_at z w bi j0 k
  show _ = actAt z w bi g b j0 j1
  unfold actAt act Ideal.logistic
  rw [← e, ← pre_ref]
  pointwise [Read.val_main_v191, Read.val_main_v190, Read.val_main_call0_v5, Read.val_main_call0_v4, Read.val_main_call0_v3, Read.val_main_call0_v2,
    Read.val_main_call0_v1, Read.val_main_call0_v0, Read.val_main_call0_cst, Read.val_main_call0_cst_0]
end read

/-- The reference runs, its arguments end unchanged, and it has no semaphore. -/
theorem frame_ref : Cert.quiescent_ConvFwdRefIdeal := by
  intro m g _
  exact (θ_run Cert.ConvFwdRefIdeal.defs _ _).mono (fun r h => ⟨fun c => (h c).2.2, sem_eq_zero_of_no_sems (by decide) r.2⟩)
    (Cert.ConvFwdRefIdeal.Value.run m g)

/-- The call's two results are the reference's. -/
theorem algebraic : Cert.algebraic_ConvFwdIdeal_ConvFwdRefIdeal := by
  pair_intro
  · run_from Cert.ConvFwdIdeal.Value.run_blocks m g
  · run_from Cert.ConvFwdRefIdeal.Value.run m' g'
    · rewrite [Cert.ConvFwdRefIdeal.Read.val_main_v191_eq, y_ref]
      refine Eq.trans ?_ (Cert.ConvFwdIdeal.Mine.y_final m c).symm
      obtain ⟨h0, h1, h2, h3, h4⟩ := hagree c
      dsimp only [Cert.ConvFwdIdeal.Mine.MZ, Cert.ConvFwdIdeal.Mine.MW, Cert.ConvFwdIdeal.Mine.MI, Cert.ConvFwdIdeal.Mine.MG, Cert.ConvFwdIdeal.Mine.MB]
      rewrite [← h0, ← h1, ← h2, ← h3, ← h4]
      rfl
    · rewrite [Cert.ConvFwdRefIdeal.Read.val_main_v167_eq, u_ref]
      refine Eq.trans ?_ (Cert.ConvFwdIdeal.Mine.u_final m c).symm
      obtain ⟨h0, h1, h2, h3, h4⟩ := hagree c
      dsimp only [Cert.ConvFwdIdeal.Mine.MZ, Cert.ConvFwdIdeal.Mine.MW, Cert.ConvFwdIdeal.Mine.MI]
      rewrite [← h0, ← h1, ← h2]
      rfl

end Cert.ConvFwdClaim

end
-- ==== Proof.Wgrad.lean ====
/- The gradients of a feed-forward block's weights, products over all rows: what each run of grid points adds up, the three
   results, and the reference's. -/
module

public import proofs.«01_k».proof.Proof.Gen.WgradIdeal.Value
public import proofs.«01_k».proof.Proof.Gen.WgradRefIdeal.Read
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.WgradIdeal.Mine
open Cert.WgradIdeal Cert.WgradIdeal.Gen Idealize.ShloMosaic Idealize.ShloMosaic.TcCoe Idealize.SL.Sem
open Idealize.ShloMosaic.Pipeline (Dat)

/-- The hidden lane that lane `r` of chip `q` is. -/
def lane (q : Fin 4) (r : Fin 704) : Fin 2816 := ⟨q.val * 704 + r, by omega⟩

/-- The gradient of a weight, by chip: a product over all rows. -/
def grad (l : FVec Ideal S8192x2816 .f32) (r : FVec Ideal S8192x1024 .f32) (j : S4x704x1024.Idx) : EReal :=
  ∑ i : Fin 8192, l (ix2 i (lane (j 0) (j 1))) * r (ix2 i (j 2))

/-- The part of it that the rows of the block at point `n` give. -/
def part (l : FVec Ideal S8192x2816 .f32) (r : FVec Ideal S8192x1024 .f32) (n : ℕ) (j : S1x704x1024.Idx) : EReal :=
  ∑ y : Fin 1024, l (ix2 ⟨n % 8 * 1024 + y, by omega⟩ (lane ⟨n / 8 % 4, by omega⟩ (j 1))) * r (ix2 ⟨n % 8 * 1024 + y, by omega⟩ (j 2))

variable (m : (ℓ : Loc nD τ sig) → Buf (Elt Ideal) ℓ) (c : Dev nD) (t : Fin cfg0.N)

abbrev MH : FVec Ideal S8192x1024 .f32 := m ((c.tc : Thread nD τ).loc main_arg0)
abbrev MA : FVec Ideal S8192x2816 .f32 := m ((c.tc : Thread nD τ).loc main_arg1)
abbrev MB : FVec Ideal S8192x2816 .f32 := m ((c.tc : Thread nD τ).loc main_arg2)
abbrev MP : FVec Ideal S8192x2816 .f32 := m ((c.tc : Thread nD τ).loc main_arg3)
abbrev MY : FVec Ideal S8192x1024 .f32 := m ((c.tc : Thread nD τ).loc main_arg4)

theorem idx : ∀ t : Fin cfg0.N, win0_0.index t = ![t.val % 8, 0] ∧ win0_1.index t = ![t.val % 8, 0]
    ∧ win0_2.index t = ![t.val / 8 % 4, t.val % 8, 0] ∧ win0_3.index t = ![t.val / 8 % 4, t.val % 8, 0] ∧ win0_4.index t = ![t.val / 8 % 4, t.val % 8, 0] :=
  (by decide +kernel : ∀ t : Fin grid0.N, _)

theorem step6_at (acc : Vec Ideal S1x704x1024 .f32) (j : S1x704x1024.Idx) :
    k0_pay7 (F := Ideal) (iblk m c 0 t) acc (iblk m c 2 t) j = acc j + part (MA m c) (MH m c) t.val j := by
  idx_vars j
  obtain rfl : j0 = 0 := Subsingleton.elim _ _
  unfold part lane
  pointwise [k0_pay7, k0_pay5]
  blk_point [iblk, V, idx t]
theorem step7_at (acc : Vec Ideal S1x704x1024 .f32) (j : S1x704x1024.Idx) :
    k0_pay8 (F := Ideal) (iblk m c 0 t) acc (iblk m c 3 t) j = acc j + part (MB m c) (MH m c) t.val j := by
  idx_vars j
  obtain rfl : j0 = 0 := Subsingleton.elim _ _
  unfold part lane
  pointwise [k0_pay8, k0_pay5]
  blk_point [iblk, V, idx t]
theorem step8_at (acc : Vec Ideal S1x704x1024 .f32) (j : S1x704x1024.Idx) :
    k0_pay1 (F := Ideal) (k0_pay6 (iblk m c 1 t)) acc (iblk m c 4 t) j = acc j + part (MP m c) (MY m c) t.val j := by
  idx_vars j
  obtain rfl : j0 = 0 := Subsingleton.elim _ _
  unfold part lane
  pointwise [k0_pay1, k0_pay6]
  blk_point [iblk, V, idx t]

theorem pay2_at (j) : k0_pay2 (F := Ideal) j = 0 := by pointwise [k0_pay2]
theorem pay3_at (j) : k0_pay3 (F := Ideal) j = 0 := by pointwise [k0_pay3]
theorem pay4_at (j) : k0_pay4 (F := Ideal) j = 0 := by pointwise [k0_pay4]

/-- A chip's eight blocks of rows add up to all rows. -/
theorem part_sum (l : FVec Ideal S8192x2816 .f32) (r : FVec Ideal S8192x1024 .f32) (q : Fin 4) (y : Fin 704) (d : Fin 1024) :
    ∑ s ∈ Finset.range (7 + 1), part l r (8 * q.val + s) (ix3 0 y d) = grad l r (ix3 q y d) := by
  rw [Finset.sum_range]
  unfold grad
  rw [← Fin.sum_mul_add_fin (L := 8192) 8 1024]
  refine Finset.sum_congr rfl fun s _ => ?_
  unfold part
  refine Finset.sum_congr rfl fun i _ => ?_
  have e0 : (8 * q.val + s.val) % 8 = s.val := by omega
  have e1 : (8 * q.val + s.val) / 8 % 4 = q.val := by omega
  simp only [e0, e1]
  rfl

theorem final6 : (dats m 0 c).arrAt 6 (cfgs 0).N = grad (MA m c) (MH m c) := by
  refine (Value.final6 m c).trans (funext fun j => ?_)
  idx_vars j
  unfold Value.G6
  have hr : Value.run6Of (ix3 j0 j1 j2) = j0.val := by simp [Value.run6Of]; omega
  have hl : Value.loc6Of (ix3 j0 j1 j2) = ix3 0 j1 j2 := by blk_ext
  have hN : cfg0.N = 32 := N_0
  have hlt : 8 * Value.run6Of (ix3 j0 j1 j2) + 7 < cfg0.N := by rw [hr, hN]; omega
  rw [dif_pos hlt, hl]
  revert hlt
  rw [hr]
  intro hlt
  rw [Pipeline.accAt_add_apply (Value.reset6 m c) (Value.step6 m c) (fun _ => 0) (part (MA m c) (MH m c)) (8 * j0.val) 7
    (fun h i => by rw [Value.reset6, step6_at, pay2_at]) (fun n h acc i _ _ => step6_at m c ⟨n, h⟩ acc i) 7 le_rfl, zero_add]
  exact part_sum _ _ j0 j1 j2

theorem final7 : (dats m 0 c).arrAt 7 (cfgs 0).N = grad (MB m c) (MH m c) := by
  refine (Value.final7 m c).trans (funext fun j => ?_)
  idx_vars j
  unfold Value.G7
  have hr : Value.run7Of (ix3 j0 j1 j2) = j0.val := by simp [Value.run7Of]; omega
  have hl : Value.loc7Of (ix3 j0 j1 j2) = ix3 0 j1 j2 := by blk_ext
  have hN : cfg0.N = 32 := N_0
  have hlt : 8 * Value.run7Of (ix3 j0 j1 j2) + 7 < cfg0.N := by rw [hr, hN]; omega
  rw [dif_pos hlt, hl]
  revert hlt
  rw [hr]
  intro hlt
  rw [Pipeline.accAt_add_apply (Value.reset7 m c) (Value.step7 m c) (fun _ => 0) (part (MB m c) (MH m c)) (8 * j0.val) 7
    (fun h i => by rw [Value.reset7, step7_at, pay3_at]) (fun n h acc i _ _ => step7_at m c ⟨n, h⟩ acc i) 7 le_rfl, zero_add]
  exact part_sum _ _ j0 j1 j2

theorem final8 : (dats m 0 c).arrAt 8 (cfgs 0).N = grad (MP m c) (MY m c) := by
  refine (Value.final8 m c).trans (funext fun j => ?_)
  idx_vars j
  unfold Value.G8
  have hr : Value.run8Of (ix3 j0 j1 j2) = j0.val := by simp [Value.run8Of]; omega
  have hl : Value.loc8Of (ix3 j0 j1 j2) = ix3 0 j1 j2 := by blk_ext
  have hN : cfg0.N = 32 := N_0
  have hlt : 8 * Value.run8Of (ix3 j0 j1 j2) + 7 < cfg0.N := by rw [hr, hN]; omega
  rw [dif_pos hlt, hl]
  revert hlt
  rw [hr]
  intro hlt
  rw [Pipeline.accAt_add_apply (Value.reset8 m c) (Value.step8 m c) (fun _ => 0) (part (MP m c) (MY m c)) (8 * j0.val) 7
    (fun h i => by rw [Value.reset8, step8_at, pay4_at]) (fun n h acc i _ _ => step8_at m c ⟨n, h⟩ acc i) 7 le_rfl, zero_add]
  exact part_sum _ _ j0 j1 j2

open Cert.WgradRefIdeal in
/-- The reference's gradient of the gate weight. -/
theorem ref_a (h : FVec Ideal S8192x1024 .f32) (a : FVec Ideal S8192x2816 .f32) : Read.val_main_v5 (F := Ideal) h a = grad a h := by
  funext j
  idx_vars j
  unfold grad lane
  pointwise [Read.val_main_v5, Read.val_main_v4, Read.val_main_v3, Read.val_main_v2]

open Cert.WgradRefIdeal in
/-- The reference's gradient of the up weight. -/
theorem ref_b (h : FVec Ideal S8192x1024 .f32) (b : FVec Ideal S8192x2816 .f32) : Read.val_main_v11 (F := Ideal) h b = grad b h := by
  funext j
  idx_vars j
  unfold grad lane
  pointwise [Read.val_main_v11, Read.val_main_v10, Read.val_main_v9, Read.val_main_v8]

open Cert.WgradRefIdeal in
/-- The reference's gradient of the down weight. -/
theorem ref_p (p : FVec Ideal S8192x2816 .f32) (y : FVec Ideal S8192x1024 .f32) : Read.val_main_v16 (F := Ideal) p y = grad p y := by
  funext j
  idx_vars j
  unfold grad lane
  pointwise [Read.val_main_v16, Read.val_main_v15, Read.val_main_v14]
  exact Finset.sum_congr rfl fun i _ => mul_comm _ _

end Cert.WgradIdeal.Mine

end
-- ==== Proof.WgradClaim.lean ====
/- The claims about the gradients of a feed-forward block's weights. -/
module

public import proofs.«01_k».proof.Defs
public import proofs.«01_k».proof.Proof.Wgrad
public import proofs.«01_k».proof.Proof.Gen.WgradRefIdeal.Run
import Idealize.ShloMosaic.Lib.Claim

@[expose] public section

set_option maxRecDepth 16384

noncomputable section

namespace Cert.WgradClaim

open Idealize.ShloMosaic Idealize.SL.Sem

/-- The reference runs, its arguments end unchanged, and it has no semaphore. -/
theorem frame_ref : Cert.quiescent_WgradRefIdeal := by
  intro m g _
  exact (θ_run Cert.WgradRefIdeal.defs _ _).mono (fun r h => ⟨fun c => (h c).2.2.2, sem_eq_zero_of_no_sems (by decide) r.2⟩)
    (Cert.WgradRefIdeal.Value.run m g)

/-- The call's three gradients are the reference's. -/
theorem algebraic : Cert.algebraic_WgradIdeal_WgradRefIdeal := by
  pair_intro
  · run_from Cert.WgradIdeal.Value.run_blocks m g
  · run_from Cert.WgradRefIdeal.Value.run m' g'
    · exact (Cert.WgradIdeal.Mine.ref_a _ _).trans (Cert.WgradIdeal.Mine.final6 m c).symm
    · exact (Cert.WgradIdeal.Mine.ref_b _ _).trans (Cert.WgradIdeal.Mine.final7 m c).symm
    · exact (Cert.WgradIdeal.Mine.ref_p _ _).trans (Cert.WgradIdeal.Mine.final8 m c).symm

end Cert.WgradClaim

end
-- ==== Proof.MixOut.lean ====
/- The backward pass through the mixer's output projection: the gradient with respect to the two branches' rows and the
   gradient of the weight, block by block and whole, and the reference's. -/
module

public import proofs.«01_k».proof.Proof.Gen.MixOutIdeal.Value
public import proofs.«01_k».proof.Proof.Gen.MixOutRefIdeal.Read
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.MixOutIdeal.Mine
open Cert.MixOutIdeal Cert.MixOutIdeal.Gen Idealize.ShloMosaic Idealize.ShloMosaic.TcCoe Idealize.SL.Sem
open Idealize.ShloMosaic.Pipeline (Dat)

/-- The two branches' outputs beside each other. -/
def cat (u r : FVec Ideal S8192x512 .f32) (i : Fin 8192) (k : Fin 1024) : EReal :=
  if h : k.val < 512 then u (ix2 i ⟨k, h⟩) else r (ix2 i ⟨k - 512, by omega⟩)
/-- The gradient with respect to the two branches' rows. -/
def dcat (w : FVec Ideal S1024x1024 .f32) (dy : FVec Ideal S8192x1024 .f32) (j : S8192x1024.Idx) : EReal :=
  ∑ n : Fin 1024, dy (ix2 (j 0) n) * w (ix2 (j 1) n)
/-- The gradient of the weight. -/
def dw (u r : FVec Ideal S8192x512 .f32) (dy : FVec Ideal S8192x1024 .f32) (j : S1024x1024.Idx) : EReal :=
  ∑ i : Fin 8192, cat u r i (j 0) * dy (ix2 i (j 1))

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] :=
  (by decide +kernel : ∀ t : Fin grid0.N, _)

theorem lt_N : t.val < 16 := lt_of_lt_of_eq t.isLt N_0
/-- The array row that row `y` of the block at point `t` is. -/
def row (t : Fin cfg0.N) (y : Fin 512) : Fin 8192 := ⟨t.val * 512 + y, by have := lt_N t; omega⟩

abbrev MU : FVec Ideal S8192x512 .f32 := m ((c.tc : Thread nD τ).loc main_arg0)
abbrev MR : FVec Ideal S8192x512 .f32 := m ((c.tc : Thread nD τ).loc main_arg1)
abbrev MW : FVec Ideal S1024x1024 .f32 := m ((c.tc : Thread nD τ).loc main_arg2)
abbrev MD : FVec Ideal S8192x1024 .f32 := m ((c.tc : Thread nD τ).loc main_arg3)

theorem pay3_block (y : Fin 512) (d : Fin 1024) :
    k0_pay3 (F := Ideal) (iblk m c 0 t) (iblk m c 3 t) (ix2 y d) = dcat (MW m c) (MD m c) (ix2 (row t y) d) := by
  unfold dcat row
  pointwise [k0_pay3, k0_pay2]
  blk_point [iblk, V, idx t]

theorem dcat_point (y : Fin 512) (d : Fin 1024) : (outsAt0 m c t.val t.isLt).1 (ix2 y d) = dcat (MW m c) (MD m c) (ix2 (row t y) d) := by
  by_cases h : t.val % 16 = 0
  · rw [outsAt0_A m c t h]; frame_out
    exact pay3_block m c t y d
  · rw [outsAt0_B m c t h]; frame_out
    exact pay3_block m c t y d

/-- The whole gradient with respect to the two branches' rows. -/
theorem dcat_final : (dats m 0 c).arrAt 4 (cfgs 0).N = dcat (MW m c) (MD m c) := by
  refine (dats m 0 c).arrAt_eq_of_covers 4 _ (by decide +kernel) fun t hf y => ?_
  blk_simp
  rw [after0_4]
  idx_vars y
  have e : ((View.whole main_v3_0).slice (win0_4.rect t)).emb (ix2 y0 y1) = ix2 (row t y0) y1 := by
    unfold row; blk_ext [idx t]
  rw [e]
  exact dcat_point m c t _ _

/-- Two stores over a fill of the whole block leave what they store wherever one of them lands. -/
theorem canon_over {s : Shape} {e : EltTy} (G : s.Idx → Elt Ideal e) (z p0 p1 : View.Piece (Elt Ideal) s e) (y : s.Idx)
    (h1 : ∀ x : p1.1.shape.Idx, p1.2 x = G (p1.1.emb x)) (h0 : ∀ x : p0.1.shape.Idx, p0.2 x = G (p0.1.emb x))
    (hc : ∃ p ∈ [p1, p0], y ∈ p.1.set) : View.canon [p1, p0, z] y = G y :=
  View.canon_append_of_piecesOf G [z] [p1, p0] ⟨h1, h0, trivial⟩ y hc

/-- The gradient of the weight that one block of rows gives. -/
def dwPart (t : Fin cfg0.N) (j : S1024x1024.Idx) : EReal :=
  ∑ y : Fin 512, cat (MU m c) (MR m c) (row t y) (j 0) * MD m c (ix2 (row t y) (j 1))

theorem cat_left (u r : FVec Ideal S8192x512 .f32) (i : Fin 8192) (k : Fin 1024) (l : Fin 512) (hl : (k : ℕ) = l) : cat u r i k = u (ix2 i l) := by
  unfold cat
  rw [dif_pos (by omega)]
  exact congrArg (fun a => u (ix2 i a)) (Fin.ext hl)
theorem cat_right (u r : FVec Ideal S8192x512 .f32) (i : Fin 8192) (k : Fin 1024) (l : Fin 512) (hl : (k : ℕ) = 512 + l) : cat u r i k = r (ix2 i l) := by
  unfold cat
  rw [dif_neg (by omega)]
  exact congrArg (fun a => r (ix2 i a)) (Fin.ext (by simp; omega))

theorem step0 (acc : Vec Ideal S1024x1024 .f32) (x : S512x1024.Idx) (j : S1024x1024.Idx) (h0 : (j 0 : ℕ) = x 0) (h1 : (j 1 : ℕ) = x 1) :
    k0_pay4 (F := Ideal) (iblk m c 0 t) (View.ld (Val := Elt Ideal) (e' := .f32) acc (Rect.unit ![0, 0] ![512, 1024] inb_S1024x1024_S512x1024_0_0))
      (iblk m c 1 t) x = acc j + dwPart m c t j := by
  idx_vars x
  have hx : x0.val < 1024 := lt_of_lt_of_le x0.isLt (by decide)
  obtain rfl : j = ix2 ⟨x0, hx⟩ x1 := by blk_ext
  unfold dwPart
  have hk : ∀ y, cat (MU m c) (MR m c) (row t y) ((ix2 (⟨x0, hx⟩ : Fin 1024) x1 : S1024x1024.Idx) 0) = MU m c (ix2 (row t y) x0) :=
    fun y => cat_left _ _ _ _ _ rfl
  simp only [hk]
  pointwise [k0_pay4, k0_pay2]
  unfold row
  blk_point [iblk, V, idx t]
theorem step1 (acc : Vec Ideal S1024x1024 .f32) (x : S512x1024.Idx) (j : S1024x1024.Idx) (h0 : (j 0 : ℕ) = 512 + x 0) (h1 : (j 1 : ℕ) = x 1) :
    k0_pay5 (F := Ideal) (iblk m c 0 t) (View.ld (Val := Elt Ideal) (e' := .f32) acc (Rect.unit ![512, 0] ![512, 1024] inb_S1024x1024_S512x1024_512_0))
      (iblk m c 2 t) x = acc j + dwPart m c t j := by
  idx_vars x
  have hx : 512 + x0.val < 1024 := by
    have h : x0.val < 512 := x0.isLt
    clear h0 h1
    omega
  obtain rfl : j = ix2 ⟨512 + x0, hx⟩ x1 := by blk_ext
  unfold dwPart
  have hk : ∀ y, cat (MU m c) (MR m c) (row t y) ((ix2 (⟨512 + x0, hx⟩ : Fin 1024) x1 : S1024x1024.Idx) 0) = MR m c (ix2 (row t y) x0) :=
    fun y => cat_right _ _ _ _ _ rfl
  simp only [hk]
  pointwise [k0_pay5, k0_pay2]
  unfold row
  blk_point [iblk, V, idx t]

theorem pay1_at (j) : k0_pay1 (F := Ideal) j = 0 := by pointwise [k0_pay1]

/-- The whole gradient of the weight. -/
theorem dw_final : (dats m 0 c).arrAt 5 (cfgs 0).N = dw (MU m c) (MR m c) (MD m c) := by
  refine (dats m 0 c).arrAt_eq_of_after_last 5 t0_15 (by decide +kernel) _ fun j => ?_
  blk_simp
  idx_vars j
  rw [after0_5, Pipeline.eq_sum_fin_of_reset_step_apply_last (fun n h => (outsAt0 m c n h).2) 16 (fun _ => 0)
    (fun p (j : S1024x1024.Idx) => dwPart m c p j)
    (fun t h j => ?_) (fun t h j => ?_) (le_of_eq N_0) t0_15 rfl _, zero_add]
  · exact Fin.sum_mul_add_fin 16 512 fun i : Fin 8192 => cat (MU m c) (MR m c) i j0 * MD m c (ix2 i j1)
  · rw [outsAt0_A m c t h]; frame_open
    simp (disch := decide) only [↓ View.readCov_skip, ↓ View.readCov_cons_toLoadRect, ↓ View.readCov_fill]
    frame_out
    refine (canon_over (fun j : S1024x1024.Idx => k0_pay1 (F := Ideal) j + dwPart m c t j) _ _ _ j (fun x => ?_) (fun x => ?_)
      (by exact View.cover_of_tiledL (s := S1024x1024) _ S512x1024.size (by sl_kernel_rfl) j)).trans ?_
    · refine step1 m c t _ x _ ?_ ?_ <;> simp [Rect.unit, Rect.emb]
    · refine step0 m c t _ x _ ?_ ?_ <;> simp [Rect.unit, Rect.emb]
    · simp only [pay1_at]
  · rw [outsAt0_B m c t h]; frame_out
    canon_tiles x hx
    · exact step1 m c t _ x j (by omega) hx1
    · exact step0 m c t _ x j (by omega) hx1

open Cert.MixOutRefIdeal Cert.MixOutRefIdeal.Gen in
theorem ref_cat (u r : FVec Ideal S8192x512 .f32) (i : Fin 8192) (l : Fin 1024) : Read.val_main_v0 (F := Ideal) u r (ix2 i l) = cat u r i l := by
  unfold Read.val_main_v0
  by_cases hl : l.val < 512
  · rw [cat_left u r i l ⟨l, hl⟩ rfl]
    refine concatenate_pair_apply_left (t := S8192x1024) (s₁ := S8192x512) (s₂ := S8192x512) 1 u r concatenates_S8192x512_S8192x512_S8192x1024_d1
      (ix2 i l) rfl (ix2 i ⟨l, hl⟩) fun b => ?_
    match b with
    | 0 => rfl
    | 1 => rfl
  · have e : l.val = 512 + (l.val - 512) := by omega
    rw [cat_right u r i l ⟨l - 512, by omega⟩ e]
    refine concatenate_pair_apply_right (t := S8192x1024) (s₁ := S8192x512) (s₂ := S8192x512) 1 u r concatenates_S8192x512_S8192x512_S8192x1024_d1
      (ix2 i l) rfl rfl (ix2 i ⟨l - 512, by omega⟩) (fun b hb => ?_) ((Nat.add_comm _ _).trans e.symm)
    match b with
    | 0 => rfl
    | 1 => exact absurd rfl hb

open Cert.MixOutRefIdeal in
/-- The reference's gradient with respect to the two branches' rows. -/
theorem ref_dcat (w : FVec Ideal S1024x1024 .f32) (dy : FVec Ideal S8192x1024 .f32) : Read.val_main_v4 (F := Ideal) w dy = dcat w dy := by
  funext j
  idx_vars j
  unfold dcat
  pointwise [Read.val_main_v4]

open Cert.MixOutRefIdeal in
/-- The reference's gradient of the weight. -/
theorem ref_dw (u r : FVec Ideal S8192x512 .f32) (dy : FVec Ideal S8192x1024 .f32) : Read.val_main_v3 (F := Ideal) u r dy = dw u r dy := by
  funext j
  idx_vars j
  unfold dw
  pointwise [Read.val_main_v3, Read.val_main_v2]
  refine Finset.sum_congr rfl fun i _ => ?_
  rw [mul_comm]
  refine congrArg (fun a : EReal => a * dy (ix2 i j1)) ?_
  exact ref_cat u r i j0

end Cert.MixOutIdeal.Mine

end
-- ==== Proof.MixOutClaim.lean ====
/- The claims about the backward pass through the mixer's output projection. -/
module

public import proofs.«01_k».proof.Defs
public import proofs.«01_k».proof.Proof.MixOut
public import proofs.«01_k».proof.Proof.Gen.MixOutRefIdeal.Run
import Idealize.ShloMosaic.Lib.Claim

@[expose] public section

set_option maxRecDepth 16384

noncomputable section

namespace Cert.MixOutClaim

open Idealize.ShloMosaic Idealize.SL.Sem

/-- The reference runs, its arguments end unchanged, and it has no semaphore. -/
theorem frame_ref : Cert.quiescent_MixOutRefIdeal := by
  intro m g _
  exact (θ_run Cert.MixOutRefIdeal.defs _ _).mono (fun r h => ⟨fun c => (h c).2.2, sem_eq_zero_of_no_sems (by decide) r.2⟩)
    (Cert.MixOutRefIdeal.Value.run m g)

/-- The call's two results are the reference's. -/
theorem algebraic : Cert.algebraic_MixOutIdeal_MixOutRefIdeal := by
  pair_intro
  · run_from Cert.MixOutIdeal.Value.run_blocks m g
  · run_from Cert.MixOutRefIdeal.Value.run m' g'
    · obtain ⟨h0, h1, h2, h3⟩ := hagree c
      refine (Cert.MixOutIdeal.Mine.ref_dcat _ _).trans (Eq.trans ?_ (Cert.MixOutIdeal.Mine.dcat_final m c).symm)
      rfl
    · obtain ⟨h0, h1, h2, h3⟩ := hagree c
      refine (Cert.MixOutIdeal.Mine.ref_dw _ _ _).trans (Eq.trans ?_ (Cert.MixOutIdeal.Mine.dw_final m c).symm)
      rfl

end Cert.MixOutClaim

end
-- ==== Proof.MixOutFwd.lean ====
/- The mixer's output projection, forward: the two branches' rows against their halves of the weight, added to the residual,
   block by block and whole, and the reference's. -/
module

public import proofs.«01_k».proof.Proof.Gen.MixOutFwdIdeal.Value
public import proofs.«01_k».proof.Proof.Gen.MixOutFwdRefIdeal.Read
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.MixOutFwdIdeal.Mine
open Cert.MixOutFwdIdeal Cert.MixOutFwdIdeal.Gen Idealize.ShloMosaic Idealize.ShloMosaic.TcCoe Idealize.SL.Sem
open Idealize.ShloMosaic.Pipeline (Dat)

/-- The residual plus the projection of the two branches' row. -/
def proj (x : FVec Ideal S8192x1024 .f32) (u r : FVec Ideal S8192x512 .f32) (w : FVec Ideal S1024x1024 .f32) (j : S8192x1024.Idx) : EReal :=
  x j + ((∑ k : Fin 512, u (ix2 (j 0) k) * w (ix2 ⟨k, by omega⟩ (j 1))) + ∑ k : Fin 512, r (ix2 (j 0) k) * w (ix2 ⟨512 + k, by omega⟩ (j 1)))

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![t.val, 0] ∧ win0_3.index t = ![0, 0]
    ∧ win0_4.index t = ![t.val, 0] :=
  (by decide +kernel : ∀ t : Fin grid0.N, _)

theorem lt_N : t.val < 8 := lt_of_lt_of_eq t.isLt N_0
/-- The array row that row `y` of the block at point `t` is. -/
def row (t : Fin cfg0.N) (y : Fin 1024) : Fin 8192 := ⟨t.val * 1024 + y, by have := lt_N t; omega⟩

abbrev MX : FVec Ideal S8192x1024 .f32 := m ((c.tc : Thread nD τ).loc main_arg0)
abbrev MU : FVec Ideal S8192x512 .f32 := m ((c.tc : Thread nD τ).loc main_arg1)
abbrev MR : FVec Ideal S8192x512 .f32 := m ((c.tc : Thread nD τ).loc main_arg2)
abbrev MW : FVec Ideal S1024x1024 .f32 := m ((c.tc : Thread nD τ).loc main_arg3)

theorem point (y d : Fin 1024) : out0_4 (F := Ideal) (iblk m c 0 t) (iblk m c 1 t) (iblk m c 2 t) (iblk m c 3 t) (ix2 y d)
    = proj (MX m c) (MU m c) (MR m c) (MW m c) (ix2 (row t y) d) := by
  unfold out0_4
  frame_out
  unfold proj row
  pointwise [k0_pay1]
  rw [add_assoc]
  blk_point [iblk, V, idx t]

/-- The whole result. -/
theorem final : (dats m 0 c).arrAt 4 (cfgs 0).N = proj (MX m c) (MU m c) (MR m c) (MW m c) := by
  refine (dats m 0 c).arrAt_eq_of_covers 4 _ (by decide +kernel) fun t hf y => ?_
  blk_simp
  rw [after0_4]
  idx_vars y
  have e : ((View.whole main_v3).slice (win0_4.rect t)).emb (ix2 y0 y1) = ix2 (row t y0) y1 := by
    unfold row; blk_ext [idx t]
  rw [e]
  exact point m c t _ _

open Cert.MixOutFwdRefIdeal Cert.MixOutFwdRefIdeal.Gen in
theorem cat_left (u r : FVec Ideal S8192x512 .f32) (i : Fin 8192) (k : Fin 512) (l : Fin 1024) (hl : (l : ℕ) = k) :
    Read.val_main_v0 (F := Ideal) u r (ix2 i l) = u (ix2 i k) := by
  unfold Read.val_main_v0
  refine concatenate_pair_apply_left (t := S8192x1024) (s₁ := S8192x512) (s₂ := S8192x512) 1 u r concatenates_S8192x512_S8192x512_S8192x1024_d1 (ix2 i l) rfl (ix2 i k) fun b => ?_
  match b with
  | 0 => rfl
  | 1 => exact hl.symm

open Cert.MixOutFwdRefIdeal Cert.MixOutFwdRefIdeal.Gen in
theorem cat_right (u r : FVec Ideal S8192x512 .f32) (i : Fin 8192) (k : Fin 512) (l : Fin 1024) (hl : (l : ℕ) = 512 + k) :
    Read.val_main_v0 (F := Ideal) u r (ix2 i l) = r (ix2 i k) := by
  unfold Read.val_main_v0
  refine concatenate_pair_apply_right (t := S8192x1024) (s₁ := S8192x512) (s₂ := S8192x512) 1 u r concatenates_S8192x512_S8192x512_S8192x1024_d1 (ix2 i l) rfl rfl (ix2 i k) (fun b hb => ?_) ((Nat.add_comm _ _).trans hl.symm)
  match b with
  | 0 => rfl
  | 1 => exact absurd rfl hb

open Cert.MixOutFwdRefIdeal in
/-- The reference's result. -/
theorem ref (x : FVec Ideal S8192x1024 .f32) (u r : FVec Ideal S8192x512 .f32) (w : FVec Ideal S1024x1024 .f32) :
    Read.val_main_v2 (F := Ideal) x u r w = proj x u r w := by
  funext j
  idx_vars j
  unfold proj
  pointwise [Read.val_main_v2, Read.val_main_v1]
  rw [← Fin.sum_mul_add_fin (L := 1024) 2 512, Fin.sum_univ_two]
  refine congrArg (fun e : EReal => x (ix2 j0 j1) + e) (congrArg₂ (fun a b : EReal => a + b) (Finset.sum_congr rfl fun k _ => ?_) (Finset.sum_congr rfl fun k _ => ?_))
  · rw [cat_left u r j0 k _ (by simp)]
    refine congrArg (fun a => u (ix2 j0 k) * w (ix2 a j1)) (Fin.ext (by simp))
  · rw [cat_right u r j0 k _ (by simp)]
    refine congrArg (fun a => r (ix2 j0 k) * w (ix2 a j1)) (Fin.ext (by simp))

end Cert.MixOutFwdIdeal.Mine

end
-- ==== Proof.MixOutFwdClaim.lean ====
/- The claims about the mixer's output projection, forward. -/
module

public import proofs.«01_k».proof.Defs
public import proofs.«01_k».proof.Proof.MixOutFwd
public import proofs.«01_k».proof.Proof.Gen.MixOutFwdRefIdeal.Run
import Idealize.ShloMosaic.Lib.Claim

@[expose] public section

set_option maxRecDepth 16384

noncomputable section

namespace Cert.MixOutFwdClaim

open Idealize.ShloMosaic Idealize.SL.Sem

/-- The reference runs, its arguments end unchanged, and it has no semaphore. -/
theorem frame_ref : Cert.quiescent_MixOutFwdRefIdeal := by
  intro m g _
  exact (θ_run Cert.MixOutFwdRefIdeal.defs _ _).mono (fun r h => ⟨fun c => (h c).2, sem_eq_zero_of_no_sems (by decide) r.2⟩)
    (Cert.MixOutFwdRefIdeal.Value.run m g)

/-- The call's result is the reference's. -/
theorem algebraic : Cert.algebraic_MixOutFwdIdeal_MixOutFwdRefIdeal := by
  pair_intro
  · run_from Cert.MixOutFwdIdeal.Value.run_blocks m g
  · run_from Cert.MixOutFwdRefIdeal.Value.run m' g'
    obtain ⟨h0, h1, h2, h3⟩ := hagree c
    refine (Cert.MixOutFwdIdeal.Mine.ref _ _ _ _).trans (Eq.trans ?_ (Cert.MixOutFwdIdeal.Mine.final m c).symm)
    rw [h1, h2]

end Cert.MixOutFwdClaim

end
-- ==== Proof.AdamwClaim.lean ====
/- The claims about the optimiser's call on a feed-forward block's weights. -/
module

public import proofs.«01_k».proof.Defs
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pointwise
import Idealize.ShloMosaic.Lib.Claim

@[expose] public section

set_option maxRecDepth 16384

noncomputable section

namespace Cert.AdamwClaim

open Idealize.ShloMosaic Idealize.SL.Sem

/-- The reference runs, its arguments end unchanged, and it has no semaphore. -/
theorem frame_ref : Cert.quiescent_AdamwRefIdeal := by
  intro m g _
  exact (θ_run Cert.AdamwRefIdeal.defs _ _).mono (fun r h => ⟨fun c => (h c).2.2.2, sem_eq_zero_of_no_sems (by decide) r.2⟩)
    (Cert.AdamwRefIdeal.Value.run m g)

open Cert.AdamwRefIdeal in
/-- The reference's step, entry by entry. -/
theorem delta_ref (w g m v : FVec Ideal S704x1024 .f32) :
    Read.val_main_v23 (F := Ideal) w g m v = Cert.AdamwIdeal.Value.G4 (F := Ideal) g m v w := by
  funext j
  idx_vars j
  pointwise [Read.val_main_v23, Read.val_main_v22, Read.val_main_cst_7, Read.val_main_v21, Read.val_main_v20, Read.val_main_v19, Read.val_main_cst_6, Read.val_main_v18, Read.val_main_v17, Read.val_main_v16, Read.val_main_cst_5, Read.val_main_v15, Read.val_main_v14, Read.val_main_v13, Read.val_main_cst_4, Read.val_main_v12, Read.val_main_v11, Read.val_main_cst_3, Read.val_main_v10, Read.val_main_v9, Read.val_main_v8, Read.val_main_cst_2, Read.val_main_v7, Read.val_main_v6, Read.val_main_v5, Read.val_main_cst_1, Read.val_main_v4, Read.val_main_v3, Read.val_main_v2, Read.val_main_cst_0, Read.val_main_v1, Read.val_main_v0, Read.val_main_cst]

open Cert.AdamwRefIdeal in
/-- The reference's first moment. -/
theorem m_ref (g m : FVec Ideal S704x1024 .f32) : Read.val_main_v4 (F := Ideal) g m = Cert.AdamwIdeal.Value.G5 (F := Ideal) g m := by
  funext j
  idx_vars j
  pointwise [Read.val_main_v4, Read.val_main_v3, Read.val_main_v2, Read.val_main_v1, Read.val_main_v0, Read.val_main_cst, Read.val_main_cst_0]

open Cert.AdamwRefIdeal in
/-- The reference's second moment. -/
theorem v_ref (g v : FVec Ideal S704x1024 .f32) : Read.val_main_v10 (F := Ideal) g v = Cert.AdamwIdeal.Value.G6 (F := Ideal) g v := by
  funext j
  idx_vars j
  pointwise [Read.val_main_v10, Read.val_main_v9, Read.val_main_v8, Read.val_main_cst_2, Read.val_main_v7, Read.val_main_v6, Read.val_main_v5, Read.val_main_cst_1]

/-- The call's step and its two moments are the reference's. -/
theorem algebraic : Cert.algebraic_AdamwIdeal_AdamwRefIdeal := by
  pair_intro
  · run_from Cert.AdamwIdeal.Value.run m g
  · run_from Cert.AdamwRefIdeal.Value.run m' g'
    · exact (Cert.AdamwRefIdeal.Read.val_main_v23_eq _ _ _ _).trans (delta_ref _ _ _ _)
    · exact (Cert.AdamwRefIdeal.Read.val_main_v4_eq _ _).trans (m_ref _ _)
    · exact (Cert.AdamwRefIdeal.Read.val_main_v10_eq _ _).trans (v_ref _ _)

end Cert.AdamwClaim

end
-- ==== Proof.SumDev.lean ====
/- The sum of the packed small gradients over the devices, each device's own rows in its own place: whole, and the
   reference's. -/
module

public import proofs.«01_k».proof.Proof.Gen.SumDevIdeal.Frame
public import proofs.«01_k».proof.Proof.Gen.SumDevRefIdeal.Read
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.SumDevIdeal.Mine
open Cert.SumDevIdeal Cert.SumDevIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg)

/-- No window of the call is placed by the table, so the table is under no condition. -/
theorem ok : Ok m := trivial

/-- The run, its result array named and its arguments unchanged. -/
theorem run_blocks : θ_run defs (onTc (τ := τ) (main (F := F))) ⟨m, fun _ => 0, ρ⟩ fun r => ∀ c : Dev nD,
      r.2.mem ((c : Thread nD τ).loc main_v0) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c)⟩)
    (run_main m ρ (ok m))
end

/-- The term device `d` adds: the own rows at the own number, the received ones elsewhere. -/
def term (p : FVec Ideal S752x128 .f32) (s : FVec Ideal S8x752x128 .f32) (e : Elt Ideal .i32) (d : Fin 8) (i : Fin 752) (l : Fin 128) : EReal :=
  if e = BitVec.ofNat 32 d then p (ix2 i l) else s (ix3 d i l)

/-- The sum over the devices. -/
def total (p : FVec Ideal S752x128 .f32) (s : FVec Ideal S8x752x128 .f32) (e : Elt Ideal .i32) (j : S752x128.Idx) : EReal :=
  ∑ d : Fin 8, term p s e d (j 0) (j 1)

variable (m : (ℓ : Loc nD τ sig) → Buf (Elt Ideal) ℓ) (c : Dev nD)

abbrev MP : FVec Ideal S752x128 .f32 := m ((c.tc : Thread nD τ).loc main_arg0)
abbrev MS : FVec Ideal S8x752x128 .f32 := m ((c.tc : Thread nD τ).loc main_arg1)
/-- The device's number, as the body reads it off the table. -/
abbrev ME : Elt Ideal .i32 :=
  View.readAt (Elt Ideal) (View.whole main_arg2) (Rect.unit (s := S1) ![0] ![1] inb_S1_S1_0).toLoadRect (tbl m 0) (Shape.Idx.first (by decide))

theorem idx : ∀ t : Fin grid0.N, cc0_transform_0 (grid0.coords t) = ![0, 0] ∧ cc0_transform_1 (grid0.coords t) = ![0, 0, 0] ∧ cc0_transform_2 (grid0.coords t) = ![0, 0] := by
  decide +kernel

/-- The one block of the own rows is the array. -/
theorem blk0 (t : Fin (cfgM m (ok m)).N) (y : Fin 752) (l : Fin 128) :
    (iblk m (ok m) c 0 t : FVec Ideal S752x128 .f32) (ix2 y l) = MP m c (ix2 y l) := by
  refine congrArg (MP m c) (funext ?_)
  show ∀ a : Fin 2, _
  refine fun a => Fin.ext ?_
  have e := congrFun (idx t).1 a
  match a with
  | 0 => show cc0_transform_0 (grid0.coords t) 0 * 752 + 1 * (y : ℕ) = y; rw [show cc0_transform_0 (grid0.coords t) 0 = 0 from e]; omega
  | 1 => show cc0_transform_0 (grid0.coords t) 1 * 128 + 1 * (l : ℕ) = l; rw [show cc0_transform_0 (grid0.coords t) 1 = 0 from e]; omega

/-- So is that of the received rows. -/
theorem blk1 (t : Fin (cfgM m (ok m)).N) (d : Fin 8) (y : Fin 752) (l : Fin 128) :
    (iblk m (ok m) c 1 t : FVec Ideal S8x752x128 .f32) (ix3 d y l) = MS m c (ix3 d y l) := by
  refine congrArg (MS m c) (funext ?_)
  show ∀ a : Fin 3, _
  refine fun a => Fin.ext ?_
  have e := congrFun (idx t).2.1 a
  match a with
  | 0 => show cc0_transform_1 (grid0.coords t) 0 * 8 + 1 * (d : ℕ) = d; rw [show cc0_transform_1 (grid0.coords t) 0 = 0 from e]; omega
  | 1 => show cc0_transform_1 (grid0.coords t) 1 * 752 + 1 * (y : ℕ) = y; rw [show cc0_transform_1 (grid0.coords t) 1 = 0 from e]; omega
  | 2 => show cc0_transform_1 (grid0.coords t) 2 * 128 + 1 * (l : ℕ) = l; rw [show cc0_transform_1 (grid0.coords t) 2 = 0 from e]; omega

theorem tab (x : (View.whole main_arg2).ty.Contents (Elt Ideal)) (h) :
    View.readAt (Elt Ideal) (View.whole main_arg2) (Rect.unit (s := S1) ![0] ![1] inb_S1_S1_0).toLoadRect x (Shape.Idx.first h) = x (ix1 0) := by
  refine congrArg x (funext ?_)
  show ∀ a : Fin 1, _
  intro a
  match a with
  | 0 => rfl

/-- A choice on an equality of words. -/
theorem pick (e k : BitVec 32) (a b : EReal) : Scalar.select (Scalar.cmpi CmpIPredicate.eq e k) a b = if e = k then a else b := by
  unfold Scalar.select Scalar.cmpi IntOp.cmpi
  by_cases h : e = k
  · simp [h]
  · have : (e == k) = false := by simpa using h
    simp [h, this]

theorem point (t : Fin (cfgM m (ok m)).N) (y : Fin 752) (l : Fin 128) : outsAt0 m (ok m) c t (ix2 y l) = total (MP m c) (MS m c) (ME m) (ix2 y l) := by
  unfold outsAt0 out0_A_2
  frame_out
  unfold total term
  pointwise [k0_pay1, k0_pay2]
  have h0 : View.read (Elt Ideal) (ms0_0 m (ok m) t).view ((hs0_0 m (ok m) t).unread (iblk m (ok m) c 0 t)) (ix2 y l) = MP m c (ix2 y l) :=
    (congrFun ((hs0_0 m (ok m) t).read_unread _) _).trans (blk0 m c t y l)
  have h1 : ∀ d : Fin 8, View.read (Elt Ideal) (ms0_1 m (ok m) t).view ((hs0_1 m (ok m) t).unread (iblk m (ok m) c 1 t)) (ix3 d y l) = MS m c (ix3 d y l) :=
    fun d => (congrFun ((hs0_1 m (ok m) t).read_unread _) _).trans (blk1 m c t d y l)
  simp only [h0, h1, pick]
  rw [Fin.sum_univ_eight]
  rfl

/-- The whole result. -/
theorem final : (dats m (ok m) 0 c).arrAt 2 (cfgM m (ok m)).N = total (MP m c) (MS m c) (ME m) := by
  have all : ∀ j : S752x128.Idx, outsAt0 m (ok m) c t0_0 j = total (MP m c) (MS m c) (ME m) j := by
    intro j
    idx_vars j
    exact point m c t0_0 j0 j1
  refine (dats m (ok m) 0 c).arrAt_eq_of_after_last 2 t0_0 ⟨?_, fun t _ => fin_N0 t, fun a => ⟨?_, rfl⟩⟩ _ ?_
  · rfl
  · revert a
    show ∀ a : Fin 2, cc0_transform_2 (grid0.coords t0_0) a = 0
    intro a
    rw [(idx t0_0).2.2]
    match a with
    | 0 => rfl
    | 1 => rfl
  · intro j
    blk_simp
    rw [after0_2]
    exact all j

/-- The number the body reads is the table's word. -/
theorem ME_eq : ME m = (m ((c.tc : Thread nD τ).loc main_arg2) : (⟨S1, .i32⟩ : BufTy).Contents (Elt Ideal)) (ix1 0) := by
  obtain rfl : c = 0 := Subsingleton.elim _ _
  exact tab (tbl m 0) _

/-- The run, its result as the sum over the devices. -/
theorem run (ρ : Dev nD → PrngReg) : θ_run defs (onTc (τ := τ) (main (F := Ideal))) ⟨m, fun _ => 0, ρ⟩ fun r => ∀ c : Dev nD,
      r.2.mem ((c : Thread nD τ).loc main_v0) = total (MP m c) (MS m c) ((m ((c.tc : Thread nD τ).loc main_arg2) : (⟨S1, .i32⟩ : BufTy).Contents (Elt Ideal)) (ix1 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (congrArg (total (MP m c) (MS m c)) (ME_eq m c))), (h c).2⟩) (run_blocks m ρ)

open Cert.SumDevRefIdeal in
/-- The reference's result. -/
theorem ref (p : FVec Ideal S752x128 .f32) (s : FVec Ideal S8x752x128 .f32) (e : (⟨S1, .i32⟩ : BufTy).Contents (Elt Ideal)) :
    Read.val_main_v6 (F := Ideal) p s e = total p s (e (ix1 0)) := by
  funext j
  idx_vars j
  unfold total term
  pointwise [Read.val_main_v6, Read.val_main_v5, Read.val_main_v4, Read.val_main_v3, Read.val_main_v2, Read.val_main_v1, Read.val_main_v0, Read.val_main_call0_v0, Read.val_main_call0_v1, Read.val_main_cst]
  refine Finset.sum_congr rfl fun d _ => ?_
  refine (pick (BitVec.ofNat 32 d) (e (ix1 0)) _ _).trans ?_
  simp only [eq_comm]

end Cert.SumDevIdeal.Mine

end
-- ==== Proof.SumDevClaim.lean ====
/- The claims about the call that sums the packed small gradients over the devices. -/
module

public import proofs.«01_k».proof.Defs
public import proofs.«01_k».proof.Proof.SumDev
public import proofs.«01_k».proof.Proof.Gen.SumDevRefIdeal.Run
import Idealize.ShloMosaic.Lib.Claim

@[expose] public section

set_option maxRecDepth 16384

noncomputable section

namespace Cert.SumDevClaim

open Idealize.ShloMosaic Idealize.SL.Sem

/-- The reference runs, its arguments end unchanged, and it has no semaphore. -/
theorem frame_ref : Cert.quiescent_SumDevRefIdeal := by
  intro m g _
  exact (θ_run Cert.SumDevRefIdeal.defs _ _).mono (fun r h => ⟨fun c => (h c).2, sem_eq_zero_of_no_sems (by decide) r.2⟩)
    (Cert.SumDevRefIdeal.Value.run m g)

/-- The call's sum is the reference's. -/
theorem algebraic : Cert.algebraic_SumDevIdeal_SumDevRefIdeal := by
  pair_intro
  · run_from Cert.SumDevIdeal.Mine.run m g
  · refine (θ_run Cert.SumDevRefIdeal.defs _ _).mono (fun r h c => ⟨(h c).1.trans ?_, (h c).2⟩) (Cert.SumDevRefIdeal.Value.run m' g')
    obtain ⟨h0, h1, h2⟩ := hagree c
    rw [h0, h1, h2]
    refine (Cert.SumDevRefIdeal.Read.val_main_v6_eq _ _ _).trans ?_
    exact Cert.SumDevIdeal.Mine.ref _ _ _

end Cert.SumDevClaim

end
-- ==== Proof.AddCast.lean ====
/- The reduced half of a gradient, added to its own half and cast: whole, and the reference's. -/
module

public import proofs.«01_k».proof.Proof.Gen.AddCastIdeal.Frame
public import proofs.«01_k».proof.Proof.Gen.AddCastRefIdeal.Read
public import proofs.«01_k».proof.Proof.Gen.Pre_core_of_two
public import Idealize.ShloMosaic.Lib.Pointwise
import Idealize.ShloMosaic.Lib.Pipeline.ValueKit
import Idealize.ShloMosaic.Lib.Pipeline.ReadBack
import Idealize.ShloMosaic.Lib.Claim

@[expose] public section

set_option maxRecDepth 16384

noncomputable section

namespace Cert.AddCastWord
open Idealize.ShloMosaic Idealize.SL.Sem

/-- A word from 0 and below 2 is one of the two. -/
theorem two (e : BitVec 32) (h : IntOp.andi (IntOp.cmpi .sge e 0#32) (IntOp.cmpi .slt e 2#32) = 1#1) : e = 0#32 ∨ e = 1#32 := by
  unfold IntOp.andi IntOp.cmpi at h
  have h2 : (2#32 : BitVec 32).toInt = 2 := by decide
  have h1 : (1#32 : BitVec 32).toInt = 1 := by decide
  have h0 : (0#32 : BitVec 32).toInt = 0 := by decide
  by_cases ha : (0#32 : BitVec 32).sle e = true
  · by_cases hb : e.slt 2#32 = true
    · have a : 0 ≤ e.toInt := by simpa [BitVec.sle, h0] using ha
      have b : e.toInt < 2 := by simpa [BitVec.slt, h2] using hb
      rcases (show e.toInt = 0 ∨ e.toInt = 1 by omega) with k | k
      · exact .inl (BitVec.eq_of_toInt_eq (k.trans h0.symm))
      · exact .inr (BitVec.eq_of_toInt_eq (k.trans h1.symm))
    · simp [hb] at h
  · simp [ha] at h

/-- What the precondition says of the table's word. -/
theorem of_pre {F : FTy → Type} [FloatOps F] (g : FVec F Pre_core_of_two.S4x704x1024 .f32) (o : FVec F Pre_core_of_two.S4x352x1024 .f32) (e : IVec Pre_core_of_two.S1 32)
    (h : Pre_core_of_two.fn (F := F) g o e = fun _ => 1#1) : e (ix1 0) = 0#32 ∨ e (ix1 0) = 1#32 :=
  two _ (congrFun h (ix1 0))

end Cert.AddCastWord

namespace Cert.AddCastIdeal.Mine
open Cert.AddCastIdeal Cert.AddCastIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg)

/-- The table's word. -/
abbrev word : BitVec 32 := (m (((0 : Dev nD).tc : Thread nD τ).loc main_arg2) : (⟨S1, .i32⟩ : BufTy).Contents (Elt F)) (ix1 0)

theorem tab (x : (⟨S1, .i32⟩ : BufTy).Contents (Elt F)) (r : Rect S1) (k : r.shape.Idx) : x (r.emb k) = x (ix1 0) := by
  refine congrArg x (funext ?_)
  show ∀ a : Fin 1, _
  intro a
  match a with
  | 0 => exact @Subsingleton.elim (Fin 1) _ (r.emb k 0) (ix1 (0 : Fin 1) 0)

/-- Where the block of the whole gradient lies: in the half the word names. -/
theorem idx0 (he : word m = 0#32 ∨ word m = 1#32) (i : grid0.Coords) :
    cc0_transform_0 (F := F) inb_S1_S1_0 numel1_S1 (tbl m) i = ![(i 0).val, (word m).toNat, 0] := by
  have e : (tbl m).at 0 (Rect.unit (s := S1) ![0] S1.size inb_S1_S1_0) numel1_S1 = word m := tab (tbl m 0) _ _
  have i1 : (i 1).val = 0 := Nat.lt_one_iff.mp (i 1).isLt
  have i0 : (i 0).val < 4 := (i 0).isLt
  have e0 : (BitVec.ofNat 32 (i 0).val).toNat = (i 0).val := by rw [BitVec.toNat_ofNat]; omega
  unfold cc0_transform_0
  rw [e, i1]
  show ![(BitVec.ofNat 32 (i 0).val).toNat, (Scalar.addi (Scalar.muli (word m) 1#32) (BitVec.ofNat 32 0)).toNat, 0] = _
  rw [e0]
  rcases he with h | h <;> rw [h] <;> rfl

theorem word_lt (he : word m = 0#32 ∨ word m = 1#32) : (word m).toNat < 2 := by
  rcases he with h | h <;> rw [h] <;> decide

/-- The block lies inside the array. -/
theorem ok (he : word m = 0#32 ∨ word m = 1#32) : Ok m := by
  intro i
  refine ⟨?_, .inl rfl⟩
  rw [idx0 m he i]
  have i0 : (i 0).val < 4 := (i 0).isLt
  have w := word_lt m he
  show ∀ a : Fin 3, _
  intro a
  match a with
  | 0 => show ((i 0).val + 1) * 1 ≤ 4; omega
  | 1 => show ((word m).toNat + 1) * 352 ≤ 704; omega
  | 2 => show (0 + 1) * 1024 ≤ 1024; omega
end

section
variable {F : FTy → Type} [FloatOps F]
variable (m : (ℓ : Loc nD τ sig) → Buf (Elt F) ℓ) (ρ : Dev nD → PrngReg)

/-- The run, its result array named and its arguments unchanged. -/
theorem run_blocks (hO : Ok m) : θ_run defs (onTc (τ := τ) (main (F := F))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)
end

/-- The named half of the gradient, the other core's added. -/
def total (g : FVec Ideal S4x704x1024 .f32) (o : FVec Ideal S4x352x1024 .f32) (e : BitVec 32) (j : S4x352x1024.Idx) : EReal :=
  g (ix3 (j 0) ⟨(e.toNat % 2) * 352 + (j 1).val, by have h : (j 1).val < 352 := (j 1).isLt; have := Nat.mod_lt e.toNat (show 2 > 0 by decide); omega⟩ (j 2)) + o j

variable (m : (ℓ : Loc nD τ sig) → Buf (Elt Ideal) ℓ) (c : Dev nD) (he : word m = 0#32 ∨ word m = 1#32)

abbrev MG : FVec Ideal S4x704x1024 .f32 := m ((c.tc : Thread nD τ).loc main_arg0)
abbrev MO : FVec Ideal S4x352x1024 .f32 := m ((c.tc : Thread nD τ).loc main_arg1)

theorem idx : ∀ t : Fin grid0.N, cc0_transform_1 (grid0.coords t) = ![t.val, 0, 0] ∧ cc0_transform_2 (grid0.coords t) = ![t.val, 0, 0] ∧ (grid0.coords t 0).val = t.val := by
  decide +kernel

/-- The block of the gradient is a row block of the named half. -/
theorem blk0 (t : Fin (cfgM m (ok m he)).N) (y : Fin 352) (l : Fin 1024) (hg h) :
    (iblk m (ok m he) c 0 t : FVec Ideal S1x352x1024 .f32) (ix3 0 y l) = MG m c (ix3 (⟨t.val, hg⟩ : Fin 4) (⟨(word m).toNat % 2 * 352 + y.val, h⟩ : Fin 704) l) := by
  refine congrArg (MG m c) (funext ?_)
  show ∀ a : Fin 3, _
  refine fun a => Fin.ext ?_
  have e := congrFun (idx0 m he (grid0.coords t)) a
  have w := word_lt m he
  match a with
  | 0 => show cc0_transform_0 (F := Ideal) inb_S1_S1_0 numel1_S1 (tbl m) (grid0.coords t) 0 * 1 + 1 * 0 = t.val; rw [show cc0_transform_0 (F := Ideal) inb_S1_S1_0 numel1_S1 (tbl m) (grid0.coords t) 0 = (grid0.coords t 0).val from e, (idx t).2.2]; omega
  | 1 => show cc0_transform_0 (F := Ideal) inb_S1_S1_0 numel1_S1 (tbl m) (grid0.coords t) 1 * 352 + 1 * (y : ℕ) = (word m).toNat % 2 * 352 + y; rw [show cc0_transform_0 (F := Ideal) inb_S1_S1_0 numel1_S1 (tbl m) (grid0.coords t) 1 = (word m).toNat from e]; omega
  | 2 => show cc0_transform_0 (F := Ideal) inb_S1_S1_0 numel1_S1 (tbl m) (grid0.coords t) 2 * 1024 + 1 * (l : ℕ) = l; rw [show cc0_transform_0 (F := Ideal) inb_S1_S1_0 numel1_S1 (tbl m) (grid0.coords t) 2 = 0 from e]; omega

/-- That of the other core's half, the same row block. -/
theorem blk1 (t : Fin (cfgM m (ok m he)).N) (y : Fin 352) (l : Fin 1024) (hg) :
    (iblk m (ok m he) c 1 t : FVec Ideal S1x352x1024 .f32) (ix3 0 y l) = MO m c (ix3 (⟨t.val, hg⟩ : Fin 4) y l) := by
  refine congrArg (MO m c) (funext ?_)
  show ∀ a : Fin 3, _
  refine fun a => Fin.ext ?_
  have e := congrFun (idx t).1 a
  match a with
  | 0 => show cc0_transform_1 (grid0.coords t) 0 * 1 + 1 * 0 = t.val; rw [show cc0_transform_1 (grid0.coords t) 0 = t.val from e]; omega
  | 1 => show cc0_transform_1 (grid0.coords t) 1 * 352 + 1 * (y : ℕ) = y; rw [show cc0_transform_1 (grid0.coords t) 1 = 0 from e]; omega
  | 2 => show cc0_transform_1 (grid0.coords t) 2 * 1024 + 1 * (l : ℕ) = l; rw [show cc0_transform_1 (grid0.coords t) 2 = 0 from e]; omega

theorem point (t : Fin (cfgM m (ok m he)).N) (y : Fin 352) (l : Fin 1024) (hg : t.val < 4) :
    outsAt0 m (ok m he) c t (ix3 0 y l) = total (MG m c) (MO m c) (word m) (ix3 (⟨t.val, hg⟩ : Fin 4) y l) := by
  have hb : (word m).toNat % 2 * 352 + y.val < 704 := by have := Nat.mod_lt (word m).toNat (show 2 > 0 by decide); have := y.isLt; omega
  unfold outsAt0 out0_A_2
  frame_out
  pointwise [k0_pay1]
  have h0 : View.read (Elt Ideal) (ms0_0 m (ok m he) t).view ((hs0_0 m (ok m he) t).unread (iblk m (ok m he) c 0 t)) (ix3 0 y l) = MG m c (ix3 (⟨t.val, hg⟩ : Fin 4) (⟨(word m).toNat % 2 * 352 + y.val, hb⟩ : Fin 704) l) :=
    (congrFun ((hs0_0 m (ok m he) t).read_unread _) _).trans (blk0 m c he t y l hg hb)
  have h1 : View.read (Elt Ideal) (ms0_1 m (ok m he) t).view ((hs0_1 m (ok m he) t).unread (iblk m (ok m he) c 1 t)) (ix3 0 y l) = MO m c (ix3 (⟨t.val, hg⟩ : Fin 4) y l) :=
    (congrFun ((hs0_1 m (ok m he) t).read_unread _) _).trans (blk1 m c he t y l hg)
  simp only [h0, h1]
  rfl

theorem t_lt (t : Fin (cfgM m (ok m he)).N) : t.val < 4 := lt_of_lt_of_eq t.isLt N_0

/-- The flushed blocks cover the result: point `t` flushes block `(t, 0, 0)`. -/
theorem cover (β : Fin 3 → ℕ) (b0 : β 0 < 4) (b1 : β 1 < 1) (b2 : β 2 < 1) : ∃ t : Fin grid0.N, ∀ a : Fin 3, cc0_transform_2 (grid0.coords t) a = β a := by
  refine ⟨⟨β 0, lt_of_lt_of_eq b0 N_0.symm⟩, fun a => ?_⟩
  refine (congrFun (idx ⟨β 0, lt_of_lt_of_eq b0 N_0.symm⟩).2.1 a).trans ?_
  match a with
  | 0 => rfl
  | 1 => exact (Nat.lt_one_iff.mp b1).symm
  | 2 => exact (Nat.lt_one_iff.mp b2).symm

/-- The whole result. -/
theorem final : (dats m (ok m he) 0 c).arrAt 2 (cfgM m (ok m he)).N = total (MG m c) (MO m c) (word m) := by
  have all : ∀ (t : Fin (cfgM m (ok m he)).N) (j : S1x352x1024.Idx), outsAt0 m (ok m he) c t j = total (MG m c) (MO m c) (word m) (ix3 (⟨t.val, t_lt m he t⟩ : Fin 4) (j 1) (j 2)) := by
    intro t j
    idx_vars j
    obtain rfl : j0 = 0 := Subsingleton.elim _ _
    exact point m c he t j1 j2 _
  refine (dats m (ok m he) 0 c).arrAt_eq_of_covers 2 _ ⟨?_, ?_⟩ ?_
  · show ∀ a : Fin 3, 0 < S1x352x1024.size a
    decide
  · intro β
    have b0 : (β (0 : Fin 3)).val < 4 := lt_of_lt_of_eq (β (0 : Fin 3)).isLt (by show (4 + 1 - 1) / 1 = 4; decide)
    have b1 : (β (1 : Fin 3)).val < 1 := lt_of_lt_of_eq (β (1 : Fin 3)).isLt (by show (352 + 352 - 1) / 352 = 1; decide)
    have b2 : (β (2 : Fin 3)).val < 1 := lt_of_lt_of_eq (β (2 : Fin 3)).isLt (by show (1024 + 1024 - 1) / 1024 = 1; decide)
    obtain ⟨t, ht⟩ := cover (fun a => (β a).val) b0 b1 b2
    exact ⟨t, flush0_2 _ t, fun a => ⟨ht a, .inl rfl⟩⟩
  · intro t hf y
    blk_simp
    rw [after0_2]
    refine (all t y).trans ?_
    refine congrArg (total (MG m c) (MO m c) (word m)) (funext ?_)
    show ∀ a : Fin 3, _
    refine fun a => Fin.ext ?_
    have e := congrFun (idx t).2.1 a
    have y0 : (y (0 : Fin 3)).val = 0 := Nat.lt_one_iff.mp (y (0 : Fin 3)).isLt
    match a with
    | 0 => show t.val = cc0_transform_2 (grid0.coords t) 0 * 1 + 1 * (y (0 : Fin 3)).val; rw [show cc0_transform_2 (grid0.coords t) 0 = t.val from e, y0]; omega
    | 1 => show (y (1 : Fin 3)).val = cc0_transform_2 (grid0.coords t) 1 * 352 + 1 * (y (1 : Fin 3)).val; rw [show cc0_transform_2 (grid0.coords t) 1 = 0 from e]; omega
    | 2 => show (y (2 : Fin 3)).val = cc0_transform_2 (grid0.coords t) 2 * 1024 + 1 * (y (2 : Fin 3)).val; rw [show cc0_transform_2 (grid0.coords t) 2 = 0 from e]; omega

/-- The word is the same on every device: there is one. -/
theorem word_eq : word m = (m ((c.tc : Thread nD τ).loc main_arg2) : (⟨S1, .i32⟩ : BufTy).Contents (Elt Ideal)) (ix1 0) := by
  obtain rfl : c = 0 := Subsingleton.elim _ _
  rfl

include he in
/-- The run, its result as the named half with the other core's added. -/
theorem run (ρ : Dev nD → PrngReg) : θ_run defs (onTc (τ := τ) (main (F := Ideal))) ⟨m, fun _ => 0, ρ⟩ fun r => ∀ c : Dev nD,
      r.2.mem ((c : Thread nD τ).loc main_v0) = total (MG m c) (MO m c) ((m ((c.tc : Thread nD τ).loc main_arg2) : (⟨S1, .i32⟩ : BufTy).Contents (Elt Ideal)) (ix1 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c he).trans (congrArg (total (MG m c) (MO m c)) (word_eq m c))), (h c).2⟩) (run_blocks m ρ (ok m he))

/-- A choice on an equality of words. -/
theorem pick (e k : BitVec 32) (a b : EReal) : Scalar.select (Scalar.cmpi CmpIPredicate.eq e k) a b = if e = k then a else b := by
  unfold Scalar.select Scalar.cmpi IntOp.cmpi
  by_cases h : e = k
  · simp [h]
  · have : (e == k) = false := by simpa using h
    simp [h, this]

open Cert.AddCastRefIdeal in
/-- The reference's result. -/
theorem ref (g : FVec Ideal S4x704x1024 .f32) (o : FVec Ideal S4x352x1024 .f32) (e : (⟨S1, .i32⟩ : BufTy).Contents (Elt Ideal)) (h : e (ix1 0) = 0#32 ∨ e (ix1 0) = 1#32) :
    Read.val_main_v7 (F := Ideal) g o e = total g o (e (ix1 0)) := by
  funext j
  idx_vars j
  unfold total
  pointwise [Read.val_main_v7, Read.val_main_v6, Read.val_main_v5, Read.val_main_v4, Read.val_main_v3, Read.val_main_v2, Read.val_main_v1, Read.val_main_v0, Read.val_main_call0_v0, Read.val_main_c]
  refine congrArg (· + o (ix3 j0 j1 j2)) ?_
  refine (pick (e (ix1 0)) 1#32 _ _).trans ?_
  rcases h with h | h
  · rw [h, if_neg (by decide)]
    refine congrArg g (congrArg (fun k => ix3 j0 k j2) (Fin.ext ?_))
    show (_ : ℕ) = 0 % 2 * 352 + (j1 : ℕ)
    simp
  · rw [h, if_pos rfl]
    refine congrArg g (congrArg (fun k => ix3 j0 k j2) (Fin.ext ?_))
    show (_ : ℕ) = 1 % 2 * 352 + (j1 : ℕ)
    simp

end Cert.AddCastIdeal.Mine

end
-- ==== Proof.AddCastClaim.lean ====
/- The claims about the call that adds the other core's half of a gradient. -/
module

public import proofs.«01_k».proof.Defs
public import proofs.«01_k».proof.Proof.AddCast
public import proofs.«01_k».proof.Proof.Gen.AddCast.Frame
public import proofs.«01_k».proof.Proof.Gen.AddCastRefIdeal.Run
public import Idealize.ShloMosaic.Lib.Pointwise
import Idealize.ShloMosaic.Lib.Claim

@[expose] public section

set_option maxRecDepth 16384

noncomputable section

namespace Cert.AddCastClaim

open Idealize.ShloMosaic Idealize.SL.Sem

theorem frame : Cert.quiescent_AddCast := fun m ρ h =>
  Cert.AddCast.Gen.frame m ρ (Cert.AddCastIdeal.Mine.ok m (Cert.AddCastWord.of_pre _ _ _ (h 0)))

theorem frame_ideal : Cert.quiescent_AddCastIdeal := fun m ρ h =>
  Cert.AddCastIdeal.Gen.frame m ρ (Cert.AddCastIdeal.Mine.ok m (Cert.AddCastWord.of_pre _ _ _ (h 0)))

/-- The reference runs, its arguments end unchanged, and it has no semaphore. -/
theorem frame_ref : Cert.quiescent_AddCastRefIdeal := by
  intro m g _
  exact (θ_run Cert.AddCastRefIdeal.defs _ _).mono (fun r h => ⟨fun c => (h c).2, sem_eq_zero_of_no_sems (by decide) r.2⟩)
    (Cert.AddCastRefIdeal.Value.run m g)

/-- So it does under the precondition. -/
theorem frame_ref_pre : Cert.quiescent_AddCastRefIdeal_pre_core_of_two := fun m g _ => frame_ref m g trivial

/-- The call's result is the reference's. -/
theorem algebraic : Cert.algebraic_AddCastIdeal_AddCastRefIdeal := by
  pair_intro
  · run_from Cert.AddCastIdeal.Mine.run m (Cert.AddCastWord.of_pre _ _ _ (hpre 0)) g
  · refine (θ_run Cert.AddCastRefIdeal.defs _ _).mono (fun r h c => ⟨(h c).1.trans ?_, (h c).2⟩) (Cert.AddCastRefIdeal.Value.run m' g')
    have hw := Cert.AddCastWord.of_pre _ _ _ (hpre c)
    obtain ⟨h0, h1, h2⟩ := hagree c
    rw [h0, h1, h2]
    refine (Cert.AddCastRefIdeal.Read.val_main_v7_eq _ _ _).trans ?_
    exact Cert.AddCastIdeal.Mine.ref _ _ _ hw

end Cert.AddCastClaim

end
-- ==== Proof.SumSlots.lean ====
/- One gradient's chunk summed over the chips, in the half of the core that sums it: whole, and the reference's. -/
module

public import proofs.«01_k».proof.Proof.Gen.SumSlotsIdeal.Frame
public import proofs.«01_k».proof.Proof.Gen.SumSlotsRefIdeal.Read
public import proofs.«01_k».proof.Proof.Gen.SumSlotsRefIdeal.Run
public import proofs.«01_k».proof.Proof.Gen.Pre_core_and_chip
public import Idealize.ShloMosaic.Lib.Pointwise
public import Idealize.ShloMosaic.Lib.Pipeline.ValueKit.Partial
import Idealize.ShloMosaic.Lib.Pipeline.ValueKit
import Idealize.ShloMosaic.Lib.Pipeline.ReadBack
import Idealize.ShloMosaic.Lib.Claim

@[expose] public section

set_option maxRecDepth 16384

noncomputable section

namespace Cert.SumSlotsWord
open Idealize.ShloMosaic Idealize.SL.Sem

/-- A word from 0 and below a bound. -/
theorem below (e k : BitVec 32) (hk : 0 ≤ k.toInt) (h : IntOp.andi (IntOp.cmpi .sge e 0#32) (IntOp.cmpi .slt e k) = 1#1) : e.toNat < k.toNat := by
  unfold IntOp.andi IntOp.cmpi at h
  have h0 : (0#32 : BitVec 32).toInt = 0 := by decide
  by_cases ha : (0#32 : BitVec 32).sle e = true
  · by_cases hb : e.slt k = true
    · have a : 0 ≤ e.toInt := by simpa [BitVec.sle, h0] using ha
      have b : e.toInt < k.toInt := by simpa [BitVec.slt] using hb
      have := e.isLt
      have := k.isLt
      rw [BitVec.toInt_eq_toNat_cond] at a b
      rw [BitVec.toInt_eq_toNat_cond] at hk b
      split at a <;> split at hk <;> simp_all <;> omega
    · simp [hb] at h
  · simp [ha] at h

/-- What the precondition says of the table's words. -/
theorem core_of_pre {F : FTy → Type} [FloatOps F] (g : FVec F Pre_core_and_chip.S4x352x1024 .bf16) (o : FVec F Pre_core_and_chip.S3x352x1024 .bf16) (e : IVec Pre_core_and_chip.S2 32)
    (h : Pre_core_and_chip.fn (F := F) g o e = fun _ => 1#1) : (e (ix1 0)).toNat < 2 :=
  below _ 2#32 (by decide) (congrFun h (ix1 0))

theorem chip_of_pre {F : FTy → Type} [FloatOps F] (g : FVec F Pre_core_and_chip.S4x352x1024 .bf16) (o : FVec F Pre_core_and_chip.S3x352x1024 .bf16) (e : IVec Pre_core_and_chip.S2 32)
    (h : Pre_core_and_chip.fn (F := F) g o e = fun _ => 1#1) : (e (ix1 1)).toNat < 4 :=
  below _ 4#32 (by decide) (congrFun h (ix1 1))

end Cert.SumSlotsWord

namespace Cert.SumSlotsIdeal.Mine
open Cert.SumSlotsIdeal Cert.SumSlotsIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg)

/-- The table as the call finds it. -/
abbrev tab : (⟨S2, .i32⟩ : BufTy).Contents (Elt F) := m (((0 : Dev nD).tc : Thread nD τ).loc main_arg2)

theorem tbl_eq : (tbl m 0 : (⟨S2, .i32⟩ : BufTy).Contents (Elt F)) = tab m := V_main_arg2 m 0

/-- The core's word and the chip's. -/
abbrev core : BitVec 32 := tab m (ix1 0)
abbrev chip : BitVec 32 := tab m (ix1 1)

theorem at0 : (tbl m).at 0 (Rect.unit (s := S2) ![0] S1.size inb_S2_S1_0) numel1_S1 = core m := by
  refine Eq.trans ?_ (congrFun (tbl_eq m) (ix1 0))
  refine congrArg (tbl m 0) (funext ?_)
  show ∀ a : Fin 1, _
  intro a
  match a with
  | 0 => rfl

theorem at1 : (tbl m).at 0 (Rect.unit (s := S2) ![1] S1.size inb_S2_S1_1) numel1_S1 = chip m := by
  refine Eq.trans ?_ (congrFun (tbl_eq m) (ix1 1))
  refine congrArg (tbl m 0) (funext ?_)
  show ∀ a : Fin 1, _
  intro a
  match a with
  | 0 => rfl

theorem coord (i : grid0.Coords) : (BitVec.ofNat 32 (i 0).val).toNat = (i 0).val := by
  have i0 : (i 0).val < 2 := (i 0).isLt
  rw [BitVec.toNat_ofNat]; omega

/-- Where the block of this chip's own partial lies: in the row of the chip. -/
theorem idx0 (i : grid0.Coords) : cc0_transform_0 (F := F) inb_S2_S1_1 numel1_S1 (tbl m) i = ![(chip m).toNat, (i 0).val, 0] := by
  unfold cc0_transform_0
  rw [at1]
  show ![(chip m).toNat, (BitVec.ofNat 32 (i 0).val).toNat, 0] = _
  rw [coord]

/-- Where the result's block lies: in the half of the core. -/
theorem idx2 (hc : (core m).toNat < 2) (i : grid0.Coords) : cc0_transform_2 (F := F) inb_S2_S1_0 numel1_S1 (tbl m) i = ![(core m).toNat * 2 + (i 0).val, 0] := by
  have i0 : (i 0).val < 2 := (i 0).isLt
  unfold cc0_transform_2
  rw [at0]
  show ![(core m * 2#32 + BitVec.ofNat 32 (i 0).val).toNat, 0] = _
  have e : (core m * 2#32 + BitVec.ofNat 32 (i 0).val).toNat = (core m).toNat * 2 + (i 0).val := by
    rw [BitVec.toNat_add, BitVec.toNat_mul, coord, show (2#32 : BitVec 32).toNat = 2 from rfl]
    omega
  rw [e]

/-- The blocks lie inside their arrays. -/
theorem ok (hc : (core m).toNat < 2) (hk : (chip m).toNat < 4) : Ok m := by
  refine ⟨fun i => ?_, fun i => ?_⟩
  · have i0 : (i 0).val < 2 := (i 0).isLt
    refine ⟨?_, .inr (Affine.block_words_dvd (of_decide_eq_true rfl) (by decide))⟩
    rw [idx0 m i]
    show ∀ a : Fin 3, _
    intro a
    match a with
    | 0 => show ((chip m).toNat + 1) * 1 ≤ 4; omega
    | 1 => show ((i 0).val + 1) * 176 ≤ 352; omega
    | 2 => show (0 + 1) * 1024 ≤ 1024; omega
  · have i0 : (i 0).val < 2 := (i 0).isLt
    refine ⟨?_, .inl rfl⟩
    rw [idx2 m hc i]
    show ∀ a : Fin 2, _
    intro a
    match a with
    | 0 => show ((core m).toNat * 2 + (i 0).val + 1) * 176 ≤ 704; omega
    | 1 => show (0 + 1) * 1024 ≤ 1024; omega
end

/-- A row of the sum: this chip's own partial, then the three received. -/
def total (p : FVec Ideal S4x352x1024 .bf16) (g : FVec Ideal S3x352x1024 .bf16) (k : BitVec 32) (r : Fin 352) (l : Fin 1024) : EReal :=
  p (ix3 (⟨k.toNat % 4, Nat.mod_lt _ (by decide)⟩ : Fin 4) r l) + g (ix3 (0 : Fin 3) r l) + g (ix3 (1 : Fin 3) r l) + g (ix3 (2 : Fin 3) r l)

/-- The same in either half. -/
def wide (p : FVec Ideal S4x352x1024 .bf16) (g : FVec Ideal S3x352x1024 .bf16) (k : BitVec 32) (j : S704x1024.Idx) : EReal :=
  total p g k ⟨(j 0).val % 352, Nat.mod_lt _ (by decide)⟩ (j 1)

/-- A choice on an equality of words. -/
theorem pick (e k : BitVec 32) (a b : EReal) : Scalar.select (Scalar.cmpi CmpIPredicate.eq e k) a b = if e = k then a else b := by
  unfold Scalar.select Scalar.cmpi IntOp.cmpi
  by_cases h : e = k
  · simp [h]
  · have : (e == k) = false := by simpa using h
    simp [h, this]

/-- The choice between the halves, of any array. -/
theorem choose (e : (⟨S2, .i32⟩ : BufTy).Contents (Elt Ideal)) (a : FVec Ideal S704x1024 .f32) (r : Fin 352) (l : Fin 1024) :
    (select (broadcastInDim S352x1024 ![0, 1] bcast_S1x1_S352x1024_0_1 (cmpi .eq (shapeCast S1x1 (extractStridedSlice S1 ![0] e slices_S2_S1_0) shapeCasts_S1_S1x1) (broadcastInDim S1x1 ![] bcast_S_S1x1 (constantI S_ 32 1#32))))
          (extractStridedSlice S352x1024 ![352, 0] a slices_S704x1024_S352x1024_352_0)
          (extractStridedSlice S352x1024 ![0, 0] a slices_S704x1024_S352x1024_0_0) : FVec Ideal S352x1024 .f32) (ix2 r l)
      = if e (ix1 0) = 1#32 then a (ix2 (⟨352 + r.val, by omega⟩ : Fin 704) l) else a (ix2 (⟨r.val, by omega⟩ : Fin 704) l) := by
  pointwise []
  refine (pick _ _ _ _).trans ?_
  congr 1

variable (m : (ℓ : Loc nD τ sig) → Buf (Elt Ideal) ℓ) (c : Dev nD) (hc : (core m).toNat < 2) (hk : (chip m).toNat < 4)

abbrev MP : FVec Ideal S4x352x1024 .bf16 := V m c main_arg0
abbrev MG : FVec Ideal S3x352x1024 .bf16 := V m c main_arg1

theorem idx : ∀ t : Fin grid0.N, cc0_transform_1 (grid0.coords t) = ![0, t.val, 0] ∧ (grid0.coords t 0).val = t.val := by
  decide +kernel

/-- The block of the chip's own partial: a row block of its row. -/
theorem blk0 (t : Fin (cfgM m (ok m hc hk)).N) (y : Fin 176) (l : Fin 1024) (h) :
    (iblk m (ok m hc hk) c 0 t : FVec Ideal S1x176x1024 .bf16) (ix3 0 y l) = MP m c (ix3 (⟨(chip m).toNat % 4, Nat.mod_lt _ (by decide)⟩ : Fin 4) (⟨t.val * 176 + y.val, h⟩ : Fin 352) l) := by
  refine congrArg (MP m c) (funext ?_)
  show ∀ a : Fin 3, _
  refine fun a => Fin.ext ?_
  have e := congrFun (idx0 m (grid0.coords t)) a
  match a with
  | 0 => show cc0_transform_0 (F := Ideal) inb_S2_S1_1 numel1_S1 (tbl m) (grid0.coords t) 0 * 1 + 1 * 0 = (chip m).toNat % 4; rw [show cc0_transform_0 (F := Ideal) inb_S2_S1_1 numel1_S1 (tbl m) (grid0.coords t) 0 = (chip m).toNat from e]; omega
  | 1 => show cc0_transform_0 (F := Ideal) inb_S2_S1_1 numel1_S1 (tbl m) (grid0.coords t) 1 * 176 + 1 * (y : ℕ) = t.val * 176 + y; rw [show cc0_transform_0 (F := Ideal) inb_S2_S1_1 numel1_S1 (tbl m) (grid0.coords t) 1 = (grid0.coords t 0).val from e, (idx t).2]; omega
  | 2 => show cc0_transform_0 (F := Ideal) inb_S2_S1_1 numel1_S1 (tbl m) (grid0.coords t) 2 * 1024 + 1 * (l : ℕ) = l; rw [show cc0_transform_0 (F := Ideal) inb_S2_S1_1 numel1_S1 (tbl m) (grid0.coords t) 2 = 0 from e]; omega

/-- That of the received partials, the same row block. -/
theorem blk1 (t : Fin (cfgM m (ok m hc hk)).N) (s : Fin 3) (y : Fin 176) (l : Fin 1024) (h) :
    (iblk m (ok m hc hk) c 1 t : FVec Ideal S3x176x1024 .bf16) (ix3 s y l) = MG m c (ix3 s (⟨t.val * 176 + y.val, h⟩ : Fin 352) l) := by
  refine congrArg (MG m c) (funext ?_)
  show ∀ a : Fin 3, _
  refine fun a => Fin.ext ?_
  have e := congrFun (idx t).1 a
  match a with
  | 0 => show cc0_transform_1 (grid0.coords t) 0 * 3 + 1 * (s : ℕ) = s; rw [show cc0_transform_1 (grid0.coords t) 0 = 0 from e]; omega
  | 1 => show cc0_transform_1 (grid0.coords t) 1 * 176 + 1 * (y : ℕ) = t.val * 176 + y; rw [show cc0_transform_1 (grid0.coords t) 1 = t.val from e]; omega
  | 2 => show cc0_transform_1 (grid0.coords t) 2 * 1024 + 1 * (l : ℕ) = l; rw [show cc0_transform_1 (grid0.coords t) 2 = 0 from e]; omega

theorem t_lt (t : Fin (cfgM m (ok m hc hk)).N) : t.val < 2 := lt_of_lt_of_eq t.isLt N_0

theorem point (t : Fin (cfgM m (ok m hc hk)).N) (y : Fin 176) (l : Fin 1024) (hb : t.val * 176 + y.val < 352) :
    outsAt0 m (ok m hc hk) c t (ix2 y l) = total (MP m c) (MG m c) (chip m) ⟨t.val * 176 + y.val, hb⟩ l := by
  unfold outsAt0 out0_A_2
  frame_out
  pointwise [k0_pay1]
  have h0 : View.read (Elt Ideal) (ms0_0 m (ok m hc hk) t).view ((hs0_0 m (ok m hc hk) t).unread (iblk m (ok m hc hk) c 0 t)) (ix3 0 y l) = _ :=
    (congrFun ((hs0_0 m (ok m hc hk) t).read_unread _) _).trans (blk0 m c hc hk t y l hb)
  have h1 : ∀ s : Fin 3, View.read (Elt Ideal) (ms0_1 m (ok m hc hk) t).view ((hs0_1 m (ok m hc hk) t).unread (iblk m (ok m hc hk) c 1 t)) (ix3 s y l) = _ := fun s =>
    (congrFun ((hs0_1 m (ok m hc hk) t).read_unread _) _).trans (blk1 m c hc hk t s y l hb)
  simp only [h0, h1]
  rfl

/-- The result's window is written back at both points: its block moves. -/
theorem flush (t : Fin (cfgM m (ok m hc hk)).N) : ((cfgM m (ok m hc hk)).win 2).flush t = true := by
  refine (Pipeline.Window.flush_out _ rfl t).mpr ?_
  have h2 := t_lt m hc hk t
  by_cases h : t.val = 1
  · exact .inl (by rw [h]; exact N_0.symm)
  · refine .inr ⟨lt_of_lt_of_eq (by omega : t.val + 1 < 2) N_0.symm, fun e => ?_⟩
    have e0 : cc0_transform_2 (F := Ideal) inb_S2_S1_0 numel1_S1 (tbl m) (grid0.coords ⟨t.val + 1, lt_of_lt_of_eq (by omega : t.val + 1 < 2) N_0.symm⟩) (0 : Fin 2)
        = cc0_transform_2 (F := Ideal) inb_S2_S1_0 numel1_S1 (tbl m) (grid0.coords t) (0 : Fin 2) := congrFun e (0 : Fin 2)
    rw [idx2 m hc, idx2 m hc] at e0
    have e1 : (core m).toNat * 2 + (grid0.coords ⟨t.val + 1, lt_of_lt_of_eq (by omega : t.val + 1 < 2) N_0.symm⟩ 0).val = (core m).toNat * 2 + (grid0.coords t 0).val := e0
    rw [(idx _).2, (idx t).2] at e1
    simp at e1

/-- The row blocks of the core's half are covered. -/
theorem covers : ((cfgM m (ok m hc hk)).win 2).CoversWhere (fun β => β (0 : Fin 2) / 2 = (core m).toNat) := by
  refine ⟨?_, fun t _ => ⟨?_, fun a => .inl rfl⟩, ?_⟩
  · show ∀ a : Fin 2, 0 < S176x1024.size a
    decide
  · show cc0_transform_2 (F := Ideal) inb_S2_S1_0 numel1_S1 (tbl m) (grid0.coords t) (0 : Fin 2) / 2 = _
    rw [show cc0_transform_2 (F := Ideal) inb_S2_S1_0 numel1_S1 (tbl m) (grid0.coords t) (0 : Fin 2) = (core m).toNat * 2 + (grid0.coords t 0).val from congrFun (idx2 m hc (grid0.coords t)) 0, (idx t).2]
    have := t_lt m hc hk t
    omega
  · intro β hq
    have b1 : (β (1 : Fin 2)).val < 1 := lt_of_lt_of_eq (β (1 : Fin 2)).isLt (by show (1024 + 1024 - 1) / 1024 = 1; decide)
    have hq' : (β (0 : Fin 2)).val / 2 = (core m).toNat := hq
    have hm : (β (0 : Fin 2)).val % 2 < 2 := Nat.mod_lt _ (by decide)
    let t : Fin grid0.N := ⟨(β (0 : Fin 2)).val % 2, lt_of_lt_of_eq hm N_0.symm⟩
    refine ⟨t, ?_, flush m hc hk t⟩
    show ∀ a : Fin 2, _
    intro a
    refine (congrFun (idx2 m hc (grid0.coords t)) a).trans ?_
    match a with
    | 0 => show (core m).toNat * 2 + (grid0.coords t 0).val = (β (0 : Fin 2)).val; rw [(idx t).2]; show _ + (β (0 : Fin 2)).val % 2 = _; omega
    | 1 => show 0 = (β (1 : Fin 2)).val; omega

/-- The written half. -/
theorem half (r : Fin 352) (l : Fin 1024) (h : (core m).toNat * 352 + r.val < 704) :
    ((dats m (ok m hc hk) 0 c).arrAt 2 (cfgM m (ok m hc hk)).N : FVec Ideal S704x1024 .f32) (ix2 (⟨(core m).toNat * 352 + r.val, h⟩ : Fin 704) l) = total (MP m c) (MG m c) (chip m) r l := by
  have all : ∀ (t : Fin (cfgM m (ok m hc hk)).N) (j : S176x1024.Idx) (hb : t.val * 176 + (j 0).val < 352), outsAt0 m (ok m hc hk) c t j = total (MP m c) (MG m c) (chip m) ⟨t.val * 176 + (j 0).val, hb⟩ (j 1) := by
    intro t j hb
    idx_vars j
    exact point m c hc hk t j0 j1 hb
  have key := (dats m (ok m hc hk) 0 c).arrAt_emb_eq_of_coversWhere 2 (wide (MP m c) (MG m c) (chip m)) (fun β => β (0 : Fin 2) / 2 = (core m).toNat) (covers m hc hk) ?_ (ix2 (⟨(core m).toNat * 352 + r.val, h⟩ : Fin 704) l)
  · refine Eq.trans key ((if_pos ?_).trans ?_)
    rotate_left
    · show total _ _ _ _ _ = _
      refine congrArg (fun k => total (MP m c) (MG m c) (chip m) k l) (Fin.ext ?_)
      show ((core m).toNat * 352 + r.val) % 352 = r.val
      have := r.isLt
      omega
    · show ((core m).toNat * 352 + r.val) / 176 / 2 = (core m).toNat
      have := r.isLt
      omega
  · intro t hf y
    blk_simp
    rw [after0_2]
    have ht := t_lt m hc hk t
    have y0 : (y (0 : Fin 2)).val < 176 := (y (0 : Fin 2)).isLt
    refine (all t y (by show t.val * 176 + (y (0 : Fin 2)).val < 352; omega)).trans ?_
    have e := congrFun (idx2 m hc (grid0.coords t))
    unfold wide
    refine congr (congrArg (total (MP m c) (MG m c) (chip m)) (Fin.ext ?_)) (Fin.ext ?_)
    · show t.val * 176 + (y (0 : Fin 2)).val = (cc0_transform_2 (F := Ideal) inb_S2_S1_0 numel1_S1 (tbl m) (grid0.coords t) 0 * 176 + 1 * (y (0 : Fin 2)).val) % 352
      rw [show cc0_transform_2 (F := Ideal) inb_S2_S1_0 numel1_S1 (tbl m) (grid0.coords t) 0 = (core m).toNat * 2 + (grid0.coords t 0).val from e 0, (idx t).2]
      omega
    · show (y (1 : Fin 2)).val = cc0_transform_2 (F := Ideal) inb_S2_S1_0 numel1_S1 (tbl m) (grid0.coords t) 1 * 1024 + 1 * (y (1 : Fin 2)).val
      rw [show cc0_transform_2 (F := Ideal) inb_S2_S1_0 numel1_S1 (tbl m) (grid0.coords t) 1 = 0 from e 1]
      omega

/-- What the lines after the call leave in the result: one half or the other. -/
theorem suffix (W : Valuation τ sig (Elt Ideal)) :
    (StableHlo.after (List.flatten [hostOps1, hostOps1_1]) W (Proc.devRef .tc main_v7) : FVec Ideal S352x1024 .f32)
      = select (broadcastInDim S352x1024 ![0, 1] bcast_S1x1_S352x1024_0_1 (W (Proc.devRef .tc main_v3) : (⟨S1x1, .i1⟩ : BufTy).Contents (Elt Ideal)))
          (extractStridedSlice S352x1024 ![352, 0] (W (Proc.devRef .tc main_v4) : FVec Ideal S704x1024 .f32) slices_S704x1024_S352x1024_352_0)
          (extractStridedSlice S352x1024 ![0, 0] (W (Proc.devRef .tc main_v4) : FVec Ideal S704x1024 .f32) slices_S704x1024_S352x1024_0_0) := by
  simp only [hostOps1, hostOps1_1, List.flatten_cons, List.flatten_nil, List.append_nil, List.cons_append, List.nil_append, StableHlo.TRef.unary, StableHlo.TRef.ternary]
  after_results <;> rfl

theorem suffix_of (W : Valuation τ sig (Elt Ideal)) (x3 : (⟨S1x1, .i1⟩ : BufTy).Contents (Elt Ideal)) (x4 : FVec Ideal S704x1024 .f32)
    (h3 : (W (Proc.devRef .tc main_v3) : (⟨S1x1, .i1⟩ : BufTy).Contents (Elt Ideal)) = x3) (h4 : (W (Proc.devRef .tc main_v4) : FVec Ideal S704x1024 .f32) = x4) :
    (StableHlo.after (List.flatten [hostOps1, hostOps1_1]) W (Proc.devRef .tc main_v7) : FVec Ideal S352x1024 .f32)
      = select (broadcastInDim S352x1024 ![0, 1] bcast_S1x1_S352x1024_0_1 x3)
          (extractStridedSlice S352x1024 ![352, 0] x4 slices_S704x1024_S352x1024_352_0)
          (extractStridedSlice S352x1024 ![0, 0] x4 slices_S704x1024_S352x1024_0_0) := by
  subst h3 h4
  exact suffix W

/-- The mask the lines before the call make. -/
theorem mask : (V m c main_v3 : (⟨S1x1, .i1⟩ : BufTy).Contents (Elt Ideal))
    = cmpi .eq (shapeCast S1x1 (extractStridedSlice S1 ![0] (m ((c : Thread nD τ).loc main_arg2) : (⟨S2, .i32⟩ : BufTy).Contents (Elt Ideal)) slices_S2_S1_0) shapeCasts_S1_S1x1) (broadcastInDim S1x1 ![] bcast_S_S1x1 (constantI S_ 32 1#32)) := by
  unfold V V0
  simp only [hostOps0, List.flatten_cons, List.flatten_nil, List.append_nil]
  after_results <;> rfl

/-- The chosen half is the sum. -/
theorem final (r : Fin 352) (l : Fin 1024) :
    (Pipeline.afterTail pcfgs (fun _ => adm m (ok m hc hk)) (dats m (ok m hc hk)) 0 (V0 m) [hostOps1, hostOps1_1] c main_v7 : FVec Ideal S352x1024 .f32) (ix2 r l)
      = total (MP m c) (MG m c) (chip m) r l := by
  unfold Pipeline.afterTail
  have e3 := (Pipeline.withArrays_of_ne (Pipeline.pin pcfgs (fun _ => adm m (ok m hc hk)) 0).spec c (V0 m c) (fun w => (dats m (ok m hc hk) 0 c).arrAt w (Pipeline.pin pcfgs (fun _ => adm m (ok m hc hk)) 0).N) main_v3 (by exact (by decide : ∀ w, Pipeline.arrRef spec0 w ≠ main_v3))).trans (mask m c)
  have e4 := Pipeline.withArrays_arr (Pipeline.pin pcfgs (fun _ => adm m (ok m hc hk)) 0).spec (by exact (by decide : Function.Injective (Pipeline.arrRef spec0))) c (V0 m c) (fun w => (dats m (ok m hc hk) 0 c).arrAt w (Pipeline.pin pcfgs (fun _ => adm m (ok m hc hk)) 0).N) 2
  refine (congrFun (suffix_of _ _ _ e3 e4) (ix2 r l)).trans ?_
  refine (choose _ _ r l).trans ?_
  obtain rfl : c = 0 := Subsingleton.elim _ _
  have hr := r.isLt
  by_cases h : core m = 1#32
  · refine (if_pos h).trans ?_
    have hv : (core m).toNat = 1 := by rw [h]; rfl
    refine Eq.trans ?_ (half m 0 hc hk r l (by omega))
    refine congrArg (fun k => ((dats m (ok m hc hk) 0 0).arrAt 2 (cfgM m (ok m hc hk)).N : FVec Ideal S704x1024 .f32) (ix2 k l)) (Fin.ext ?_)
    show 352 + r.val = (core m).toNat * 352 + r.val
    omega
  · refine (if_neg h).trans ?_
    have hv : (core m).toNat = 0 := by
      have hne : (core m).toNat ≠ 1 := fun e => h (BitVec.eq_of_toNat_eq e)
      omega
    refine Eq.trans ?_ (half m 0 hc hk r l (by omega))
    refine congrArg (fun k => ((dats m (ok m hc hk) 0 0).arrAt 2 (cfgM m (ok m hc hk)).N : FVec Ideal S704x1024 .f32) (ix2 k l)) (Fin.ext ?_)
    show r.val = (core m).toNat * 352 + r.val
    omega

include hc hk in
/-- The run, its result as the sum. -/
theorem run (ρ : Dev nD → PrngReg) : θ_run defs (onTc (τ := τ) (main (F := Ideal))) ⟨m, fun _ => 0, ρ⟩ fun r => ∀ c : Dev nD,
      r.2.mem ((c : Thread nD τ).loc main_v7) = (fun j : S352x1024.Idx => total (m ((c : Thread nD τ).loc main_arg0)) (m ((c : Thread nD τ).loc main_arg1)) ((m ((c.tc : Thread nD τ).loc main_arg2) : (⟨S2, .i32⟩ : BufTy).Contents (Elt Ideal)) (ix1 1)) (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_,
      ((h c).1 0).trans (((dats m (ok m hc hk) 0 c).arrAt_in 0 rfl _).trans ((A_eq m (ok m hc hk) c 0).trans (V_main_arg0 m c))),
      ((h c).1 1).trans (((dats m (ok m hc hk) 0 c).arrAt_in 1 rfl _).trans ((A_eq m (ok m hc hk) c 1).trans (V_main_arg1 m c))),
      ((h c).2 main_arg2 (by decide : main_arg2 ∈ Pipeline.restRefs sig spec0)).trans (W_main_arg2 m (ok m hc hk) (dats m (ok m hc hk)) c)⟩)
    (run_main m ρ (ok m hc hk))
  refine ((h c).2 main_v7 (by decide : main_v7 ∈ Pipeline.restRefs sig spec0)).trans (funext fun j => ?_)
  idx_vars j
  refine (final m c hc hk j0 j1).trans ?_
  unfold MP MG
  rw [V_main_arg0, V_main_arg1]
  obtain rfl : c = 0 := Subsingleton.elim _ _
  rfl

open Cert.SumSlotsRefIdeal in
/-- The reference's result. -/
theorem ref (p : FVec Ideal S4x352x1024 .bf16) (g : FVec Ideal S3x352x1024 .bf16) (e : (⟨S2, .i32⟩ : BufTy).Contents (Elt Ideal)) (h : (e (ix1 1)).toNat < 4) (r : Fin 352) (l : Fin 1024) :
    Read.val_main_v11 (F := Ideal) p g e (ix2 r l) = total p g (e (ix1 1)) r l := by
  have own : ∀ k : Fin 4, Read.val_main_v7 (F := Ideal) p e (ix3 k r l) = if BitVec.ofNat 32 k.val = e (ix1 1) then p (ix3 k r l) else 0 := by
    intro k
    pointwise [Read.val_main_v7, Read.val_main_v6, Read.val_main_v5, Read.val_main_v4, Read.val_main_v3, Read.val_main_v2, Read.val_main_v1, Read.val_main_v0, Read.val_main_call0_v0, Read.val_main_call0_v1, Read.val_main_call0_v2, Read.val_main_cst]
    refine (pick _ _ _ _).trans ?_
    congr 1
    show (constant Cert.SumSlotsRefIdeal.S_ FTy.f32 0#32 : FVec Ideal Cert.SumSlotsRefIdeal.S_ .f32) Idealize.ShloMosaic.ix0 = (0 : EReal)
    pointwise []
  have v8 := Read.val_main_v8_apply p e (ix2 r l)
  have v10 := Read.val_main_v10_apply g (ix2 r l)
  have z0 : (Read.val_main_cst_0 (F := Ideal)) (Shape.Idx.first Cert.SumSlotsRefIdeal.Facts₀.h_S_) = (0 : EReal) := by
    unfold Read.val_main_cst_0
    pointwise []
  have i8 : ∀ k : Fin 4, Read.idx_main_v8 (ix2 r l) k = ix3 k r l := fun k => funext fun a => Fin.ext (by match a with | ⟨0, _⟩ => rfl | ⟨1, _⟩ => rfl | ⟨2, _⟩ => rfl)
  have i10 : ∀ k : Fin 3, Read.idx_main_v10 (ix2 r l) k = ix3 k r l := fun k => funext fun a => Fin.ext (by match a with | ⟨0, _⟩ => rfl | ⟨1, _⟩ => rfl | ⟨2, _⟩ => rfl)
  have got : ∀ k : Fin 3, Read.val_main_v9 (F := Ideal) g (ix3 k r l) = g (ix3 k r l) := fun k => rfl
  have sum8 : ∑ k : Fin 4, Read.val_main_v7 (F := Ideal) p e (Read.idx_main_v8 (ix2 r l) k) = p (ix3 (⟨(e (ix1 1)).toNat % 4, Nat.mod_lt _ (by decide)⟩ : Fin 4) r l) := by
    rw [Finset.sum_eq_single (⟨(e (ix1 1)).toNat % 4, Nat.mod_lt _ (by decide)⟩ : Fin 4)]
    · rw [i8, own, if_pos]
      refine BitVec.eq_of_toNat_eq ?_
      rw [BitVec.toNat_ofNat]
      show (e (ix1 1)).toNat % 4 % 2 ^ 32 = _
      omega
    · intro k _ hne
      rw [i8, own, if_neg]
      intro he
      refine hne (Fin.ext ?_)
      have := congrArg BitVec.toNat he
      rw [BitVec.toNat_ofNat] at this
      have hk := k.isLt
      show k.val = (e (ix1 1)).toNat % 4
      omega
    · intro hn
      exact absurd (Finset.mem_univ _) hn
  have sum10 : ∑ k : Fin 3, Read.val_main_v9 (F := Ideal) g (Read.idx_main_v10 (ix2 r l) k) = g (ix3 (0 : Fin 3) r l) + g (ix3 (1 : Fin 3) r l) + g (ix3 (2 : Fin 3) r l) := by
    rw [Fin.sum_univ_three, i10, i10, i10, got, got, got]
  pointwise [Read.val_main_v11]
  refine (congrArg₂ (fun a b : EReal => a + b) (v8.trans (congrArg₂ (fun a b : EReal => a + b) z0 sum8)) (v10.trans (congrArg₂ (fun a b : EReal => a + b) z0 sum10))).trans ?_
  unfold total
  show (0 + _ : EReal) + (0 + _) = _
  rw [zero_add, zero_add, ← add_assoc, ← add_assoc]

end Cert.SumSlotsIdeal.Mine

end
-- ==== Proof.SumSlotsClaim.lean ====
/- The claims about the call that sums a gradient's chunk over the chips. -/
module

public import proofs.«01_k».proof.Defs
public import proofs.«01_k».proof.Proof.SumSlots
public import proofs.«01_k».proof.Proof.Gen.SumSlots.Frame
public import proofs.«01_k».proof.Proof.Gen.SumSlotsRefIdeal.Run
public import Idealize.ShloMosaic.Lib.Pointwise
import Idealize.ShloMosaic.Lib.Claim

@[expose] public section

set_option maxRecDepth 16384

noncomputable section

namespace Cert.SumSlotsClaim

open Idealize.ShloMosaic Idealize.SL.Sem

theorem frame : Cert.quiescent_SumSlots := fun m ρ h =>
  Cert.SumSlots.Gen.frame m ρ (Cert.SumSlotsIdeal.Mine.ok m (Cert.SumSlotsWord.core_of_pre _ _ _ (h 0)) (Cert.SumSlotsWord.chip_of_pre _ _ _ (h 0)))

theorem frame_ideal : Cert.quiescent_SumSlotsIdeal := fun m ρ h =>
  Cert.SumSlotsIdeal.Gen.frame m ρ (Cert.SumSlotsIdeal.Mine.ok m (Cert.SumSlotsWord.core_of_pre _ _ _ (h 0)) (Cert.SumSlotsWord.chip_of_pre _ _ _ (h 0)))

/-- The reference runs, its arguments end unchanged, and it has no semaphore. -/
theorem frame_ref : Cert.quiescent_SumSlotsRefIdeal := by
  intro m g _
  exact (θ_run Cert.SumSlotsRefIdeal.defs _ _).mono (fun r h => ⟨fun c => (h c).2, sem_eq_zero_of_no_sems (by decide) r.2⟩)
    (Cert.SumSlotsRefIdeal.Value.run m g)

/-- So it does under the precondition. -/
theorem frame_ref_pre : Cert.quiescent_SumSlotsRefIdeal_pre_core_and_chip := fun m g _ => frame_ref m g trivial

/-- The call's result is the reference's. -/
theorem algebraic : Cert.algebraic_SumSlotsIdeal_SumSlotsRefIdeal := by
  pair_intro
  · run_from Cert.SumSlotsIdeal.Mine.run m (Cert.SumSlotsWord.core_of_pre _ _ _ (hpre 0)) (Cert.SumSlotsWord.chip_of_pre _ _ _ (hpre 0)) g
  · refine (θ_run Cert.SumSlotsRefIdeal.defs _ _).mono (fun r h c => ⟨(h c).1.trans ?_, (h c).2⟩) (Cert.SumSlotsRefIdeal.Value.run m' g')
    have hw := Cert.SumSlotsWord.chip_of_pre _ _ _ (hpre c)
    obtain ⟨h0, h1, h2⟩ := hagree c
    rw [h0, h1, h2]
    refine (Cert.SumSlotsRefIdeal.Read.val_main_v11_eq _ _ _).trans ?_
    funext j
    idx_vars j
    exact Cert.SumSlotsIdeal.Mine.ref _ _ _ hw j0 j1

end Cert.SumSlotsClaim

end
-- ==== Proof.PlaceCast.lean ====
/- The weights of a feed-forward block, rounded into the row of their chip: that row, and the reference's. -/
module

public import proofs.«01_k».proof.Proof.SumSlots
public import proofs.«01_k».proof.Proof.Gen.PlaceCastIdeal.Frame
public import proofs.«01_k».proof.Proof.Gen.PlaceCastRefIdeal.Read
public import proofs.«01_k».proof.Proof.Gen.PlaceCastRefIdeal.Run
public import proofs.«01_k».proof.Proof.Gen.Pre_chip_of_four
public import Idealize.ShloMosaic.Lib.Pointwise
public import Idealize.ShloMosaic.Lib.Pipeline.ValueKit.Partial
import Idealize.ShloMosaic.Lib.Pipeline.ValueKit
import Idealize.ShloMosaic.Lib.Pipeline.ReadBack
import Idealize.ShloMosaic.Lib.Claim

@[expose] public section

set_option maxRecDepth 16384

noncomputable section

namespace Cert.PlaceCastWord
open Idealize.ShloMosaic Idealize.SL.Sem

/-- What the precondition says of the table's second word. -/
theorem chip_of_pre {F : FTy → Type} [FloatOps F] (g u d : FVec F Pre_chip_of_four.S704x1024 .f32) (e : IVec Pre_chip_of_four.S2 32)
    (h : Pre_chip_of_four.fn (F := F) g u d e = fun _ => 1#1) : (e (ix1 1)).toNat < 4 := by
  have key := congrFun h (ix1 0)
  pointwise [Pre_chip_of_four.fn] at key
  exact Cert.SumSlotsWord.below _ 4#32 (by decide) key

end Cert.PlaceCastWord

namespace Cert.PlaceCastIdeal.Mine
open Cert.PlaceCastIdeal Cert.PlaceCastIdeal.Gen Idealize.ShloMosaic Idealize.ShloMosaic.TcCoe Idealize.SL.Sem
open Idealize.ShloMosaic.Pipeline (Dat)
open Cert.SumSlotsIdeal.Mine (pick)

section
variable {F : FTy → Type} [FloatOps F]
variable (m : (ℓ : Loc nD τ sig) → Buf (Elt F) ℓ) (ρ : Dev nD → PrngReg)

/-- The table as the call finds it. -/
abbrev tab : (⟨S2, .i32⟩ : BufTy).Contents (Elt F) := m (((0 : Dev nD).tc : Thread nD τ).loc main_arg3)

theorem tbl_eq : (tbl m 0 : (⟨S2, .i32⟩ : BufTy).Contents (Elt F)) = tab m := V_main_arg3 m 0

/-- The chip's word. -/
abbrev chip : BitVec 32 := tab m (ix1 1)

theorem at1 : (tbl m).at 0 (Rect.unit (s := S2) ![1] S1.size inb_S2_S1_1) numel1_S1 = chip m := by
  refine Eq.trans ?_ (congrFun (tbl_eq m) (ix1 1))
  refine congrArg (tbl m 0) (funext ?_)
  show ∀ a : Fin 1, _
  intro a
  match a with
  | 0 => rfl

theorem coord (i : grid0.Coords) : (BitVec.ofNat 32 (i 0).val).toNat = (i 0).val := by
  have i0 : (i 0).val < 4 := (i 0).isLt
  rw [BitVec.toNat_ofNat]; omega

/-- Where the result's block lies: in the row of the chip. -/
theorem idx3 (i : grid0.Coords) : cc0_transform_3 (F := F) inb_S2_S1_1 numel1_S1 (tbl m) i = ![0, (chip m).toNat, (i 0).val, 0] := by
  unfold cc0_transform_3
  rw [at1]
  show ![0, (chip m).toNat, (BitVec.ofNat 32 (i 0).val).toNat, 0] = _
  rw [coord]

/-- The blocks lie inside their arrays. -/
theorem ok (hk : (chip m).toNat < 4) : Ok m := by
  refine fun i => ?_
  have i0 : (i 0).val < 4 := (i 0).isLt
  refine ⟨?_, .inr (Affine.block_words_dvd (of_decide_eq_true rfl) (by decide))⟩
  rw [idx3 m i]
  show ∀ a : Fin 4, _
  intro a
  match a with
  | 0 => show (0 + 1) * 3 ≤ 3; omega
  | 1 => show ((chip m).toNat + 1) * 1 ≤ 4; omega
  | 2 => show ((i 0).val + 1) * 176 ≤ 704; omega
  | 3 => show (0 + 1) * 1024 ≤ 1024; omega
end

/-- One of the three weights. -/
def one (g u d : FVec Ideal S704x1024 .f32) (s : Fin 3) (r : Fin 704) (l : Fin 1024) : EReal :=
  if s.val = 0 then g (ix2 r l) else if s.val = 1 then u (ix2 r l) else d (ix2 r l)

/-- The same in every row. -/
def wide (g u d : FVec Ideal S704x1024 .f32) (j : S3x4x704x1024.Idx) : EReal := one g u d (j 0) (j 2) (j 3)

/-- The mask of a chip. -/
abbrev msk (e : (⟨S2, .i32⟩ : BufTy).Contents (Elt Ideal)) (k : BitVec 32) : (⟨S1x1x1, .i1⟩ : BufTy).Contents (Elt Ideal) :=
  cmpi .eq (shapeCast S1x1x1 (extractStridedSlice S1 ![1] e slices_S2_S1_1) shapeCasts_S1_S1x1x1) (broadcastInDim S1x1x1 ![] bcast_S_S1x1x1 (constantI S_ 32 k))

/-- The choice of the row, of any array. -/
abbrev chosen (q0 q1 q2 : (⟨S1x1x1, .i1⟩ : BufTy).Contents (Elt Ideal)) (a : FVec Ideal S3x4x704x1024 .bf16) : FVec Ideal S3x704x1024 .bf16 :=
  select (broadcastInDim S3x704x1024 ![0, 1, 2] bcast_S1x1x1_S3x704x1024_0_1_2 q0)
    (shapeCast S3x704x1024 (extractStridedSlice S3x1x704x1024 ![0, 0, 0, 0] a slices_S3x4x704x1024_S3x1x704x1024_0_0_0_0) shapeCasts_S3x1x704x1024_S3x704x1024)
    (select (broadcastInDim S3x704x1024 ![0, 1, 2] bcast_S1x1x1_S3x704x1024_0_1_2 q1)
      (shapeCast S3x704x1024 (extractStridedSlice S3x1x704x1024 ![0, 1, 0, 0] a slices_S3x4x704x1024_S3x1x704x1024_0_1_0_0) shapeCasts_S3x1x704x1024_S3x704x1024)
      (select (broadcastInDim S3x704x1024 ![0, 1, 2] bcast_S1x1x1_S3x704x1024_0_1_2 q2)
        (shapeCast S3x704x1024 (extractStridedSlice S3x1x704x1024 ![0, 2, 0, 0] a slices_S3x4x704x1024_S3x1x704x1024_0_2_0_0) shapeCasts_S3x1x704x1024_S3x704x1024)
        (shapeCast S3x704x1024 (extractStridedSlice S3x1x704x1024 ![0, 3, 0, 0] a slices_S3x4x704x1024_S3x1x704x1024_0_3_0_0) shapeCasts_S3x1x704x1024_S3x704x1024)))

theorem choose (e : (⟨S2, .i32⟩ : BufTy).Contents (Elt Ideal)) (a : FVec Ideal S3x4x704x1024 .bf16) (s : Fin 3) (r : Fin 704) (l : Fin 1024) :
    chosen (msk e 0#32) (msk e 1#32) (msk e 2#32) a (ix3 s r l)
      = if e (ix1 1) = 0#32 then a (ix4 s (0 : Fin 4) r l) else if e (ix1 1) = 1#32 then a (ix4 s (1 : Fin 4) r l) else if e (ix1 1) = 2#32 then a (ix4 s (2 : Fin 4) r l) else a (ix4 s (3 : Fin 4) r l) := by
  pointwise [chosen, msk]
  refine (pick _ _ _ _).trans ?_
  refine ite_congr rfl (fun _ => rfl) fun _ => ?_
  refine (pick _ _ _ _).trans ?_
  refine ite_congr rfl (fun _ => rfl) fun _ => ?_
  refine (pick _ _ _ _).trans ?_
  exact ite_congr rfl (fun _ => rfl) fun _ => rfl

/-- The stored tiles: the rounded blocks. -/
theorem pay1 (v : FVec Ideal S176x1024 .f32) (x : S1x1x176x1024.Idx) : k0_pay1 (F := Ideal) v x = v (ix2 (x 2) (x 3)) := by
  idx_vars x
  pointwise [k0_pay1]
theorem pay2 (v : FVec Ideal S176x1024 .f32) (x : S1x1x176x1024.Idx) : k0_pay2 (F := Ideal) v x = v (ix2 (x 2) (x 3)) := by
  idx_vars x
  pointwise [k0_pay2]
theorem pay3 (v : FVec Ideal S176x1024 .f32) (x : S1x1x176x1024.Idx) : k0_pay3 (F := Ideal) v x = v (ix2 (x 2) (x 3)) := by
  idx_vars x
  pointwise [k0_pay3]

variable (m : (ℓ : Loc nD τ sig) → Buf (Elt Ideal) ℓ) (c : Dev nD) (hk : (chip m).toNat < 4)

abbrev MG : FVec Ideal S704x1024 .f32 := V m c main_arg0
abbrev MU : FVec Ideal S704x1024 .f32 := V m c main_arg1
abbrev MD : FVec Ideal S704x1024 .f32 := V m c main_arg2

theorem idx : ∀ t : Fin grid0.N, cc0_transform_0 (grid0.coords t) = ![t.val, 0] ∧ cc0_transform_1 (grid0.coords t) = ![t.val, 0] ∧ cc0_transform_2 (grid0.coords t) = ![t.val, 0] ∧ (grid0.coords t 0).val = t.val := by
  decide +kernel

/-- The blocks of the three weights: the same row block of each. -/
theorem blk0 (t : Fin (cfgM m (ok m hk)).N) (y : Fin 176) (l : Fin 1024) (h) :
    (iblk m (ok m hk) c 0 t : FVec Ideal S176x1024 .f32) (ix2 y l) = MG m c (ix2 (⟨t.val * 176 + y.val, h⟩ : Fin 704) l) := by
  refine congrArg (MG m c) (funext ?_)
  show ∀ a : Fin 2, _
  refine fun a => Fin.ext ?_
  have e := congrFun (idx t).1 a
  match a with
  | 0 => show cc0_transform_0 (grid0.coords t) 0 * 176 + 1 * (y : ℕ) = t.val * 176 + y; rw [show cc0_transform_0 (grid0.coords t) 0 = t.val from e]; omega
  | 1 => show cc0_transform_0 (grid0.coords t) 1 * 1024 + 1 * (l : ℕ) = l; rw [show cc0_transform_0 (grid0.coords t) 1 = 0 from e]; omega

theorem blk1 (t : Fin (cfgM m (ok m hk)).N) (y : Fin 176) (l : Fin 1024) (h) :
    (iblk m (ok m hk) c 1 t : FVec Ideal S176x1024 .f32) (ix2 y l) = MU m c (ix2 (⟨t.val * 176 + y.val, h⟩ : Fin 704) l) := by
  refine congrArg (MU m c) (funext ?_)
  show ∀ a : Fin 2, _
  refine fun a => Fin.ext ?_
  have e := congrFun (idx t).2.1 a
  match a with
  | 0 => show cc0_transform_1 (grid0.coords t) 0 * 176 + 1 * (y : ℕ) = t.val * 176 + y; rw [show cc0_transform_1 (grid0.coords t) 0 = t.val from e]; omega
  | 1 => show cc0_transform_1 (grid0.coords t) 1 * 1024 + 1 * (l : ℕ) = l; rw [show cc0_transform_1 (grid0.coords t) 1 = 0 from e]; omega

theorem blk2 (t : Fin (cfgM m (ok m hk)).N) (y : Fin 176) (l : Fin 1024) (h) :
    (iblk m (ok m hk) c 2 t : FVec Ideal S176x1024 .f32) (ix2 y l) = MD m c (ix2 (⟨t.val * 176 + y.val, h⟩ : Fin 704) l) := by
  refine congrArg (MD m c) (funext ?_)
  show ∀ a : Fin 2, _
  refine fun a => Fin.ext ?_
  have e := congrFun (idx t).2.2.1 a
  match a with
  | 0 => show cc0_transform_2 (grid0.coords t) 0 * 176 + 1 * (y : ℕ) = t.val * 176 + y; rw [show cc0_transform_2 (grid0.coords t) 0 = t.val from e]; omega
  | 1 => show cc0_transform_2 (grid0.coords t) 1 * 1024 + 1 * (l : ℕ) = l; rw [show cc0_transform_2 (grid0.coords t) 1 = 0 from e]; omega

theorem t_lt (t : Fin (cfgM m (ok m hk)).N) : t.val < 4 := lt_of_lt_of_eq t.isLt N_0

theorem point (t : Fin (cfgM m (ok m hk)).N) (s : Fin 3) (y : Fin 176) (l : Fin 1024) (hb : t.val * 176 + y.val < 704) :
    outsAt0 m (ok m hk) c t (ix4 s 0 y l) = one (MG m c) (MU m c) (MD m c) s ⟨t.val * 176 + y.val, hb⟩ l := by
  unfold outsAt0 out0_A_3
  frame_out
  have h0 := (congrFun ((hs0_0 m (ok m hk) t).read_unread (iblk m (ok m hk) c 0 t)) _).trans (blk0 m c hk t y l hb)
  have h1 := (congrFun ((hs0_1 m (ok m hk) t).read_unread (iblk m (ok m hk) c 1 t)) _).trans (blk1 m c hk t y l hb)
  have h2 := (congrFun ((hs0_2 m (ok m hk) t).read_unread (iblk m (ok m hk) c 2 t)) _).trans (blk2 m c hk t y l hb)
  unfold one
  canon_tiles x hx
  · have hs : s.val = 2 + (x 0).val := hx0
    refine (pay3 _ x).trans ((congrArg _ (congrArg₂ ix2 (Fin.ext hx2.symm) (Fin.ext hx3.symm))).trans (h2.trans ?_))
    rw [if_neg (show ¬ s.val = 0 by omega), if_neg (show ¬ s.val = 1 by omega)]
  · have hs : s.val = 1 + (x 0).val := hx0
    refine (pay2 _ x).trans ((congrArg _ (congrArg₂ ix2 (Fin.ext hx2.symm) (Fin.ext hx3.symm))).trans (h1.trans ?_))
    rw [if_neg (show ¬ s.val = 0 by omega), if_pos (show s.val = 1 by omega)]
  · have hs : s.val = (x 0).val := hx0
    refine (pay1 _ x).trans ((congrArg _ (congrArg₂ ix2 (Fin.ext hx2.symm) (Fin.ext hx3.symm))).trans (h0.trans ?_))
    rw [if_pos (show s.val = 0 by omega)]

/-- The result's window is written back at every point: its block moves. -/
theorem flush (t : Fin (cfgM m (ok m hk)).N) : ((cfgM m (ok m hk)).win 3).flush t = true := by
  refine (Pipeline.Window.flush_out _ rfl t).mpr ?_
  have h2 := t_lt m hk t
  by_cases h : t.val = 3
  · exact .inl (by rw [h]; exact N_0.symm)
  · refine .inr ⟨lt_of_lt_of_eq (by omega : t.val + 1 < 4) N_0.symm, fun e => ?_⟩
    have e0 : cc0_transform_3 (F := Ideal) inb_S2_S1_1 numel1_S1 (tbl m) (grid0.coords ⟨t.val + 1, lt_of_lt_of_eq (by omega : t.val + 1 < 4) N_0.symm⟩) (2 : Fin 4)
        = cc0_transform_3 (F := Ideal) inb_S2_S1_1 numel1_S1 (tbl m) (grid0.coords t) (2 : Fin 4) := congrFun e (2 : Fin 4)
    rw [idx3 m, idx3 m] at e0
    have e1 : (grid0.coords ⟨t.val + 1, lt_of_lt_of_eq (by omega : t.val + 1 < 4) N_0.symm⟩ 0).val = (grid0.coords t 0).val := e0
    rw [(idx _).2.2.2, (idx t).2.2.2] at e1
    simp at e1

/-- The row blocks of the chip's row are covered. -/
theorem covers : ((cfgM m (ok m hk)).win 3).CoversWhere (fun β => β (1 : Fin 4) = (chip m).toNat) := by
  refine ⟨?_, fun t _ => ⟨?_, fun a => .inl rfl⟩, ?_⟩
  · show ∀ a : Fin 4, 0 < S3x1x176x1024.size a
    decide
  · exact congrFun (idx3 m (grid0.coords t)) (1 : Fin 4)
  · intro β hq
    have b0 : (β (0 : Fin 4)).val < 1 := lt_of_lt_of_eq (β (0 : Fin 4)).isLt (by show (3 + 3 - 1) / 3 = 1; decide)
    have b2 : (β (2 : Fin 4)).val < 4 := lt_of_lt_of_eq (β (2 : Fin 4)).isLt (by show (704 + 176 - 1) / 176 = 4; decide)
    have b3 : (β (3 : Fin 4)).val < 1 := lt_of_lt_of_eq (β (3 : Fin 4)).isLt (by show (1024 + 1024 - 1) / 1024 = 1; decide)
    have hq' : (β (1 : Fin 4)).val = (chip m).toNat := hq
    let t : Fin grid0.N := ⟨(β (2 : Fin 4)).val, lt_of_lt_of_eq b2 N_0.symm⟩
    refine ⟨t, ?_, flush m hk t⟩
    show ∀ a : Fin 4, _
    intro a
    refine (congrFun (idx3 m (grid0.coords t)) a).trans ?_
    match a with
    | 0 => show 0 = (β (0 : Fin 4)).val; omega
    | 1 => exact hq'.symm
    | 2 => exact (idx t).2.2.2
    | 3 => show 0 = (β (3 : Fin 4)).val; omega

/-- The written row. -/
theorem row (s : Fin 3) (k : Fin 4) (e : (chip m).toNat = k.val) (r : Fin 704) (l : Fin 1024) :
    ((dats m (ok m hk) 0 c).arrAt 3 (cfgM m (ok m hk)).N : FVec Ideal S3x4x704x1024 .bf16) (ix4 s k r l) = one (MG m c) (MU m c) (MD m c) s r l := by
  have all : ∀ (t : Fin (cfgM m (ok m hk)).N) (j : S3x1x176x1024.Idx) (hb : t.val * 176 + (j 2).val < 704), outsAt0 m (ok m hk) c t j = one (MG m c) (MU m c) (MD m c) (j 0) ⟨t.val * 176 + (j 2).val, hb⟩ (j 3) := by
    intro t j hb
    idx_vars j
    obtain rfl : j1 = 0 := Subsingleton.elim _ _
    exact point m c hk t j0 j2 j3 hb
  have key := (dats m (ok m hk) 0 c).arrAt_emb_eq_of_coversWhere 3 (wide (MG m c) (MU m c) (MD m c)) (fun β => β (1 : Fin 4) = (chip m).toNat) (covers m hk) ?_ (ix4 s k r l)
  · refine Eq.trans key ((if_pos ?_).trans ?_)
    rotate_left
    · rfl
    · show k.val / 1 = (chip m).toNat
      omega
  · intro t hf y
    blk_simp
    rw [after0_3]
    have ht := t_lt m hk t
    have y0 : (y (2 : Fin 4)).val < 176 := (y (2 : Fin 4)).isLt
    refine (all t y (by show t.val * 176 + (y (2 : Fin 4)).val < 704; omega)).trans ?_
    have e := congrFun (idx3 m (grid0.coords t))
    unfold wide
    refine congr (congr (congrArg (one (MG m c) (MU m c) (MD m c)) (Fin.ext ?_)) (Fin.ext ?_)) (Fin.ext ?_)
    · show (y (0 : Fin 4)).val = cc0_transform_3 (F := Ideal) inb_S2_S1_1 numel1_S1 (tbl m) (grid0.coords t) 0 * 3 + 1 * (y (0 : Fin 4)).val
      rw [show cc0_transform_3 (F := Ideal) inb_S2_S1_1 numel1_S1 (tbl m) (grid0.coords t) 0 = 0 from e 0]
      omega
    · show t.val * 176 + (y (2 : Fin 4)).val = cc0_transform_3 (F := Ideal) inb_S2_S1_1 numel1_S1 (tbl m) (grid0.coords t) 2 * 176 + 1 * (y (2 : Fin 4)).val
      rw [show cc0_transform_3 (F := Ideal) inb_S2_S1_1 numel1_S1 (tbl m) (grid0.coords t) 2 = (grid0.coords t 0).val from e 2, (idx t).2.2.2]
      omega
    · show (y (3 : Fin 4)).val = cc0_transform_3 (F := Ideal) inb_S2_S1_1 numel1_S1 (tbl m) (grid0.coords t) 3 * 1024 + 1 * (y (3 : Fin 4)).val
      rw [show cc0_transform_3 (F := Ideal) inb_S2_S1_1 numel1_S1 (tbl m) (grid0.coords t) 3 = 0 from e 3]
      omega

/-- What the lines after the call leave in the result. -/
theorem suffix (W : Valuation τ sig (Elt Ideal)) :
    (StableHlo.after (List.flatten [hostOps1, hostOps1_1, hostOps1_2, hostOps1_3]) W (Proc.devRef .tc main_v23) : FVec Ideal S3x704x1024 .bf16)
      = chosen (W (Proc.devRef .tc main_v3) : (⟨S1x1x1, .i1⟩ : BufTy).Contents (Elt Ideal)) (W (Proc.devRef .tc main_v7) : (⟨S1x1x1, .i1⟩ : BufTy).Contents (Elt Ideal))
          (W (Proc.devRef .tc main_v11) : (⟨S1x1x1, .i1⟩ : BufTy).Contents (Elt Ideal)) (W (Proc.devRef .tc main_v12) : FVec Ideal S3x4x704x1024 .bf16) := by
  simp only [hostOps1, hostOps1_1, hostOps1_2, hostOps1_3, List.flatten_cons, List.flatten_nil, List.append_nil, List.cons_append, List.nil_append, StableHlo.TRef.unary, StableHlo.TRef.ternary]
  after_results <;> rfl

theorem suffix_of (W : Valuation τ sig (Elt Ideal)) (q0 q1 q2 : (⟨S1x1x1, .i1⟩ : BufTy).Contents (Elt Ideal)) (a : FVec Ideal S3x4x704x1024 .bf16)
    (h0 : (W (Proc.devRef .tc main_v3) : (⟨S1x1x1, .i1⟩ : BufTy).Contents (Elt Ideal)) = q0) (h1 : (W (Proc.devRef .tc main_v7) : (⟨S1x1x1, .i1⟩ : BufTy).Contents (Elt Ideal)) = q1)
    (h2 : (W (Proc.devRef .tc main_v11) : (⟨S1x1x1, .i1⟩ : BufTy).Contents (Elt Ideal)) = q2) (ha : (W (Proc.devRef .tc main_v12) : FVec Ideal S3x4x704x1024 .bf16) = a) :
    (StableHlo.after (List.flatten [hostOps1, hostOps1_1, hostOps1_2, hostOps1_3]) W (Proc.devRef .tc main_v23) : FVec Ideal S3x704x1024 .bf16) = chosen q0 q1 q2 a := by
  subst h0 h1 h2 ha
  exact suffix W

/-- The masks the lines before the call make. -/
theorem masks : (V m c main_v3 : (⟨S1x1x1, .i1⟩ : BufTy).Contents (Elt Ideal)) = msk (m ((c : Thread nD τ).loc main_arg3)) 0#32
    ∧ (V m c main_v7 : (⟨S1x1x1, .i1⟩ : BufTy).Contents (Elt Ideal)) = msk (m ((c : Thread nD τ).loc main_arg3)) 1#32
    ∧ (V m c main_v11 : (⟨S1x1x1, .i1⟩ : BufTy).Contents (Elt Ideal)) = msk (m ((c : Thread nD τ).loc main_arg3)) 2#32 := by
  unfold V V0
  simp only [hostOps0, List.flatten_cons, List.flatten_nil, List.append_nil]
  refine ⟨?_, ?_, ?_⟩ <;> after_results <;> rfl

/-- The chosen row is the three weights. -/
theorem final (s : Fin 3) (r : Fin 704) (l : Fin 1024) :
    (Pipeline.afterTail pcfgs (fun _ => adm m (ok m hk)) (dats m (ok m hk)) 0 (V0 m) [hostOps1, hostOps1_1, hostOps1_2, hostOps1_3] c main_v23 : FVec Ideal S3x704x1024 .bf16) (ix3 s r l)
      = one (MG m c) (MU m c) (MD m c) s r l := by
  unfold Pipeline.afterTail
  have ne := fun (b : Ref sig .tc) h => Pipeline.withArrays_of_ne (Pipeline.pin pcfgs (fun _ => adm m (ok m hk)) 0).spec c (V0 m c) (fun w => (dats m (ok m hk) 0 c).arrAt w (Pipeline.pin pcfgs (fun _ => adm m (ok m hk)) 0).N) b h
  have e0 := (ne main_v3 (by exact (by decide : ∀ w, Pipeline.arrRef spec0 w ≠ main_v3))).trans (masks m c).1
  have e1 := (ne main_v7 (by exact (by decide : ∀ w, Pipeline.arrRef spec0 w ≠ main_v7))).trans (masks m c).2.1
  have e2 := (ne main_v11 (by exact (by decide : ∀ w, Pipeline.arrRef spec0 w ≠ main_v11))).trans (masks m c).2.2
  have e3 := Pipeline.withArrays_arr (Pipeline.pin pcfgs (fun _ => adm m (ok m hk)) 0).spec (by exact (by decide : Function.Injective (Pipeline.arrRef spec0))) c (V0 m c) (fun w => (dats m (ok m hk) 0 c).arrAt w (Pipeline.pin pcfgs (fun _ => adm m (ok m hk)) 0).N) 3
  refine (congrFun (suffix_of _ _ _ _ _ e0 e1 e2 e3) (ix3 s r l)).trans ?_
  refine (choose _ _ s r l).trans ?_
  obtain rfl : c = 0 := Subsingleton.elim _ _
  have w : ∀ k : Nat, k < 4 → (chip m).toNat ≠ k → chip m ≠ BitVec.ofNat 32 k := fun k hk' hn h => hn (by rw [h, BitVec.toNat_ofNat]; omega)
  by_cases h0 : chip m = 0#32
  · exact (if_pos h0).trans (row m 0 hk s 0 (by rw [h0]; rfl) r l)
  refine (if_neg h0).trans ?_
  by_cases h1 : chip m = 1#32
  · exact (if_pos h1).trans (row m 0 hk s 1 (by rw [h1]; rfl) r l)
  refine (if_neg h1).trans ?_
  by_cases h2 : chip m = 2#32
  · exact (if_pos h2).trans (row m 0 hk s 2 (by rw [h2]; rfl) r l)
  refine (if_neg h2).trans (row m 0 hk s 3 ?_ r l)
  have n0 : (chip m).toNat ≠ 0 := fun e => h0 (BitVec.eq_of_toNat_eq e)
  have n1 : (chip m).toNat ≠ 1 := fun e => h1 (BitVec.eq_of_toNat_eq e)
  have n2 : (chip m).toNat ≠ 2 := fun e => h2 (BitVec.eq_of_toNat_eq e)
  show (chip m).toNat = 3
  omega

include hk in
/-- The run, its result as the three weights. -/
theorem run (ρ : Dev nD → PrngReg) : θ_run defs (onTc (τ := τ) (main (F := Ideal))) ⟨m, fun _ => 0, ρ⟩ fun r => ∀ c : Dev nD,
      r.2.mem ((c : Thread nD τ).loc main_v23) = (fun j : S3x704x1024.Idx => one (m ((c : Thread nD τ).loc main_arg0)) (m ((c : Thread nD τ).loc main_arg1)) (m ((c : Thread nD τ).loc main_arg2)) (j 0) (j 1) (j 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_,
      ((h c).1 0).trans (((dats m (ok m hk) 0 c).arrAt_in 0 rfl _).trans ((A_eq m (ok m hk) c 0).trans (V_main_arg0 m c))),
      ((h c).1 1).trans (((dats m (ok m hk) 0 c).arrAt_in 1 rfl _).trans ((A_eq m (ok m hk) c 1).trans (V_main_arg1 m c))),
      ((h c).1 2).trans (((dats m (ok m hk) 0 c).arrAt_in 2 rfl _).trans ((A_eq m (ok m hk) c 2).trans (V_main_arg2 m c))),
      ((h c).2 main_arg3 (by decide : main_arg3 ∈ Pipeline.restRefs sig spec0)).trans (W_main_arg3 m (ok m hk) (dats m (ok m hk)) c)⟩)
    (run_main m ρ (ok m hk))
  refine ((h c).2 main_v23 (by decide : main_v23 ∈ Pipeline.restRefs sig spec0)).trans (funext fun j => ?_)
  idx_vars j
  refine (final m c hk j0 j1 j2).trans ?_
  unfold MG MU MD
  rw [V_main_arg0, V_main_arg1, V_main_arg2]

open Cert.PlaceCastRefIdeal in
/-- The reference's result. -/
theorem ref (g u d : FVec Ideal S704x1024 .f32) (s : Fin 3) (r : Fin 704) (l : Fin 1024) :
    Read.val_main_v4 (F := Ideal) g u d (ix3 s r l) = one g u d s r l := by
  match s with
  | 0 => pointwise [Read.val_main_v4, Read.val_main_v3, Read.val_main_v0, Read.val_main_v1, Read.val_main_v2, one]
  | 1 => pointwise [Read.val_main_v4, Read.val_main_v3, Read.val_main_v0, Read.val_main_v1, Read.val_main_v2, one]
  | 2 => pointwise [Read.val_main_v4, Read.val_main_v3, Read.val_main_v0, Read.val_main_v1, Read.val_main_v2, one]

end Cert.PlaceCastIdeal.Mine

end
-- ==== Proof.PlaceCastClaim.lean ====
/- The claims about the call that rounds the weights into the row of their chip. -/
module

public import proofs.«01_k».proof.Defs
public import proofs.«01_k».proof.Proof.PlaceCast
public import proofs.«01_k».proof.Proof.Gen.PlaceCast.Frame
public import proofs.«01_k».proof.Proof.Gen.PlaceCastRefIdeal.Run
public import Idealize.ShloMosaic.Lib.Pointwise
import Idealize.ShloMosaic.Lib.Claim

@[expose] public section

set_option maxRecDepth 16384

noncomputable section

namespace Cert.PlaceCastClaim

open Idealize.ShloMosaic Idealize.SL.Sem

theorem frame : Cert.quiescent_PlaceCast := fun m ρ h =>
  Cert.PlaceCast.Gen.frame m ρ (Cert.PlaceCastIdeal.Mine.ok m (Cert.PlaceCastWord.chip_of_pre _ _ _ _ (h 0)))

theorem frame_ideal : Cert.quiescent_PlaceCastIdeal := fun m ρ h =>
  Cert.PlaceCastIdeal.Gen.frame m ρ (Cert.PlaceCastIdeal.Mine.ok m (Cert.PlaceCastWord.chip_of_pre _ _ _ _ (h 0)))

/-- The reference runs, its arguments end unchanged, and it has no semaphore. -/
theorem frame_ref : Cert.quiescent_PlaceCastRefIdeal := by
  intro m g _
  exact (θ_run Cert.PlaceCastRefIdeal.defs _ _).mono (fun r h => ⟨fun c => (h c).2, sem_eq_zero_of_no_sems (by decide) r.2⟩)
    (Cert.PlaceCastRefIdeal.Value.run m g)

/-- So it does under the precondition. -/
theorem frame_ref_pre : Cert.quiescent_PlaceCastRefIdeal_pre_chip_of_four := fun m g _ => frame_ref m g trivial

/-- The call's result is the reference's. -/
theorem algebraic : Cert.algebraic_PlaceCastIdeal_PlaceCastRefIdeal := by
  pair_intro
  · run_from Cert.PlaceCastIdeal.Mine.run m (Cert.PlaceCastWord.chip_of_pre _ _ _ _ (hpre 0)) g
  · refine (θ_run Cert.PlaceCastRefIdeal.defs _ _).mono (fun r h c => ⟨(h c).1.trans ?_, (h c).2⟩) (Cert.PlaceCastRefIdeal.Value.run m' g')
    obtain ⟨h0, h1, h2, h3⟩ := hagree c
    rw [h0, h1, h2]
    refine (Cert.PlaceCastRefIdeal.Read.val_main_v4_eq _ _ _).trans ?_
    funext j
    idx_vars j
    exact Cert.PlaceCastIdeal.Mine.ref _ _ _ j0 j1 j2

end Cert.PlaceCastClaim

end
-- ==== Proof.lean ====
module

public import proofs.«01_k».proof.Defs
public import proofs.«01_k».proof.Proof.Gen.MixIn.Frame
public import proofs.«01_k».proof.Proof.Gen.Ffn2.Frame
public import proofs.«01_k».proof.Proof.MixInClaim
public import proofs.«01_k».proof.Proof.Ffn2Claim
public import proofs.«01_k».proof.Proof.Gen.Conv.Frame
public import proofs.«01_k».proof.Proof.ConvClaim
public import proofs.«01_k».proof.Proof.FfnBwdClaim
public import proofs.«01_k».proof.Proof.Gen.Ffn1.Frame
public import proofs.«01_k».proof.Proof.Ffn1Claim
public import proofs.«01_k».proof.Proof.Gen.MixFwd.Frame
public import proofs.«01_k».proof.Proof.MixFwdClaim
public import proofs.«01_k».proof.Proof.Gen.ConvFwd.Frame
public import proofs.«01_k».proof.Proof.ConvFwdClaim
public import proofs.«01_k».proof.Proof.Gen.Wgrad.Frame
public import proofs.«01_k».proof.Proof.WgradClaim
public import proofs.«01_k».proof.Proof.Gen.MixOut.Frame
public import proofs.«01_k».proof.Proof.MixOutClaim
public import proofs.«01_k».proof.Proof.Gen.MixOutFwd.Frame
public import proofs.«01_k».proof.Proof.MixOutFwdClaim
public import proofs.«01_k».proof.Proof.Gen.Adamw.Frame
public import proofs.«01_k».proof.Proof.AdamwClaim
public import proofs.«01_k».proof.Proof.Gen.SumDev.Frame
public import proofs.«01_k».proof.Proof.SumDevClaim
public import proofs.«01_k».proof.Proof.Gen.AddCast.Frame
public import proofs.«01_k».proof.Proof.AddCastClaim
public import proofs.«01_k».proof.Proof.Gen.SumSlots.Frame
public import proofs.«01_k».proof.Proof.SumSlotsClaim
public import proofs.«01_k».proof.Proof.Gen.PlaceCast.Frame
public import proofs.«01_k».proof.Proof.PlaceCastClaim
public import Idealize.ShloMosaic.Adequacy
public import Idealize.ShloMosaic.Init

@[expose] public section

noncomputable section

namespace Cert.Proof

open Idealize.ShloMosaic Idealize.SL.Sem Cert.MixIn

theorem claim : Cert.Claim :=
  ⟨Cert.MixIn.Gen.facts, Cert.MixInIdeal.Gen.facts, Cert.MixInRefIdeal.Gen.facts,
  Cert.Ffn2.Gen.facts, Cert.Ffn2Ideal.Gen.facts, Cert.Ffn2RefIdeal.Gen.facts,
  Cert.Conv.Gen.facts, Cert.ConvIdeal.Gen.facts, Cert.ConvRefIdeal.Gen.facts,
  Cert.FfnBwdIdeal.Gen.facts, Cert.FfnBwdRefIdeal.Gen.facts,
  Cert.Ffn1.Gen.facts, Cert.Ffn1Ideal.Gen.facts, Cert.Ffn1RefIdeal.Gen.facts,
  Cert.MixFwd.Gen.facts, Cert.MixFwdIdeal.Gen.facts, Cert.MixFwdRefIdeal.Gen.facts,
  Cert.ConvFwd.Gen.facts, Cert.ConvFwdIdeal.Gen.facts, Cert.ConvFwdRefIdeal.Gen.facts,
  Cert.Wgrad.Gen.facts, Cert.WgradIdeal.Gen.facts, Cert.WgradRefIdeal.Gen.facts,
  Cert.MixOut.Gen.facts, Cert.MixOutIdeal.Gen.facts, Cert.MixOutRefIdeal.Gen.facts,
  Cert.MixOutFwd.Gen.facts, Cert.MixOutFwdIdeal.Gen.facts, Cert.MixOutFwdRefIdeal.Gen.facts,
  Cert.Adamw.Gen.facts, Cert.AdamwIdeal.Gen.facts, Cert.AdamwRefIdeal.Gen.facts,
  Cert.SumDev.Gen.facts, Cert.SumDevIdeal.Gen.facts, Cert.SumDevRefIdeal.Gen.facts,
  Cert.AddCast.Gen.facts, Cert.AddCastIdeal.Gen.facts, Cert.AddCastRefIdeal.Gen.facts,
  Cert.SumSlots.Gen.facts, Cert.SumSlotsIdeal.Gen.facts, Cert.SumSlotsRefIdeal.Gen.facts,
  Cert.PlaceCast.Gen.facts, Cert.PlaceCastIdeal.Gen.facts, Cert.PlaceCastRefIdeal.Gen.facts,
  Cert.Pre_finite_mix_in.Gen.facts, Cert.Pre_finite_ffn2.Gen.facts, Cert.Pre_finite_conv.Gen.facts, Cert.Pre_finite_ffn_bwd.Gen.facts, Cert.Pre_core_of_two.Gen.facts, Cert.Pre_core_and_chip.Gen.facts, Cert.Pre_chip_of_four.Gen.facts,
  fun m ρ _ => Cert.MixIn.Gen.frame m ρ, fun m ρ _ => Cert.MixInIdeal.Gen.frame m ρ, fun m ρ _ => Cert.MixInIdeal.Gen.frame m ρ,
  Cert.MixInClaim.frame_ref, Cert.MixInClaim.frame_ref_pre,
  fun m ρ _ => Cert.Ffn2.Gen.frame m ρ, fun m ρ _ => Cert.Ffn2Ideal.Gen.frame m ρ, fun m ρ _ => Cert.Ffn2Ideal.Gen.frame m ρ,
  Cert.Ffn2Claim.frame_ref, Cert.Ffn2Claim.frame_ref_pre,
  fun m ρ _ => Cert.Conv.Gen.frame m ρ, fun m ρ _ => Cert.ConvIdeal.Gen.frame m ρ, fun m ρ _ => Cert.ConvIdeal.Gen.frame m ρ,
  Cert.ConvClaim.frame_ref, Cert.ConvClaim.frame_ref_pre,
  Cert.FfnBwdClaim.frame_ideal, Cert.FfnBwdClaim.frame_ideal_pre,
  Cert.FfnBwdClaim.frame_ref, Cert.FfnBwdClaim.frame_ref_pre,
  fun m ρ _ => Cert.Ffn1.Gen.frame m ρ, fun m ρ _ => Cert.Ffn1Ideal.Gen.frame m ρ, Cert.Ffn1Claim.frame_ref,
  fun m ρ _ => Cert.MixFwd.Gen.frame m ρ, fun m ρ _ => Cert.MixFwdIdeal.Gen.frame m ρ, Cert.MixFwdClaim.frame_ref,
  fun m ρ _ => Cert.ConvFwd.Gen.frame m ρ, fun m ρ _ => Cert.ConvFwdIdeal.Gen.frame m ρ, Cert.ConvFwdClaim.frame_ref,
  fun m ρ _ => Cert.Wgrad.Gen.frame m ρ, fun m ρ _ => Cert.WgradIdeal.Gen.frame m ρ, Cert.WgradClaim.frame_ref,
  fun m ρ _ => Cert.MixOut.Gen.frame m ρ, fun m ρ _ => Cert.MixOutIdeal.Gen.frame m ρ, Cert.MixOutClaim.frame_ref,
  fun m ρ _ => Cert.MixOutFwd.Gen.frame m ρ, fun m ρ _ => Cert.MixOutFwdIdeal.Gen.frame m ρ, Cert.MixOutFwdClaim.frame_ref,
  fun m ρ _ => Cert.Adamw.Gen.frame m ρ, fun m ρ _ => Cert.AdamwIdeal.Gen.frame m ρ, Cert.AdamwClaim.frame_ref,
  fun m ρ _ => Cert.SumDev.Gen.frame m ρ trivial, fun m ρ _ => Cert.SumDevIdeal.Gen.frame m ρ trivial, Cert.SumDevClaim.frame_ref,
  Cert.AddCastClaim.frame, Cert.AddCastClaim.frame_ideal, Cert.AddCastClaim.frame_ref, Cert.AddCastClaim.frame_ref_pre,
  Cert.SumSlotsClaim.frame, Cert.SumSlotsClaim.frame_ideal, Cert.SumSlotsClaim.frame_ref, Cert.SumSlotsClaim.frame_ref_pre,
  Cert.PlaceCastClaim.frame, Cert.PlaceCastClaim.frame_ideal, Cert.PlaceCastClaim.frame_ref, Cert.PlaceCastClaim.frame_ref_pre,
  trivial, Cert.MixInClaim.algebraic, trivial, Cert.Ffn2Claim.algebraic, trivial, Cert.ConvClaim.algebraic, Cert.FfnBwdClaim.algebraic,
  trivial, Cert.Ffn1Claim.algebraic,
  trivial, Cert.MixFwdClaim.algebraic,
  trivial, Cert.ConvFwdClaim.algebraic,
  trivial, Cert.WgradClaim.algebraic,
  trivial, Cert.MixOutClaim.algebraic,
  trivial, Cert.MixOutFwdClaim.algebraic,
  trivial, Cert.AdamwClaim.algebraic,
  trivial, Cert.SumDevClaim.algebraic,
  trivial, Cert.AddCastClaim.algebraic,
  trivial, Cert.SumSlotsClaim.algebraic,
  trivial, Cert.PlaceCastClaim.algebraic⟩

end Cert.Proof

end
